-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scalable [hPre_scalable : Cert.Pre_scalable.Facts] (m : (ℓ : Loc Cert.KernelIdeal.nD Cert.KernelIdeal.τ Cert.KernelIdeal.sig) → Buf (Elt Ideal) ℓ) : Prop :=
  ∀ c : Dev Cert.KernelIdeal.nD,
    (Cert.Pre_scalable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scalable [hPre_scalable : Cert.Pre_scalable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scalable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scalable [hKernelIdeal : Cert.KernelIdeal.Facts] [hPre_scalable : Cert.Pre_scalable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scalable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scalable [hReferenceIdeal : Cert.ReferenceIdeal.Facts] [hPre_scalable : Cert.Pre_scalable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scalable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.bf16_pair.BufferStatement Cert.KernelIdeal.S256x2x1024 Cert.KernelIdeal.S256x1x1024
  ∧ IdealRules.bf16_pair.BufferStatement Cert.KernelIdeal.S4096x2x128 Cert.KernelIdeal.S4096x1x128
  ∧ IdealRules.bf16_pair.BufferStatement Cert.KernelIdeal.S2048x2x128 Cert.KernelIdeal.S2048x1x128
  ∧ IdealRules.bf16_pair.BufferStatement Cert.KernelIdeal.S512x2x1024 Cert.KernelIdeal.S512x1x1024
  ∧ IdealRules.bf16_pair.Statement Cert.KernelIdeal.S128x1024 Cert.KernelIdeal.S64x1024
  ∧ IdealRules.bf16_pair.Statement Cert.KernelIdeal.S64x2x1024 Cert.KernelIdeal.S64x1x1024
  ∧ IdealRules.bf16_pair.Statement Cert.KernelIdeal.S8192x128 Cert.KernelIdeal.S4096x128
  ∧ IdealRules.bf16_pair.Statement Cert.KernelIdeal.S4096x2x128 Cert.KernelIdeal.S4096x1x128
  ∧ IdealRules.bf16_pair.Statement Cert.KernelIdeal.S1024x1024 Cert.KernelIdeal.S512x1024
  ∧ IdealRules.bf16_pair.Statement Cert.KernelIdeal.S512x2x1024 Cert.KernelIdeal.S512x1x1024
  ∧ IdealRules.bf16_pair.Statement Cert.KernelIdeal.S4096x128 Cert.KernelIdeal.S2048x128
  ∧ IdealRules.bf16_pair.Statement Cert.KernelIdeal.S2048x2x128 Cert.KernelIdeal.S2048x1x128
  ∧ IdealRules.bf16_pair.Statement Cert.KernelIdeal.S512x1024 Cert.KernelIdeal.S256x1024
  ∧ IdealRules.bf16_pair.Statement Cert.KernelIdeal.S256x2x1024 Cert.KernelIdeal.S256x1x1024
  ∧ IdealRules.bf16_pair.Statement Cert.KernelIdeal.S32x128 Cert.KernelIdeal.S16x128
  ∧ IdealRules.bf16_pair.Statement Cert.KernelIdeal.S16x2x128 Cert.KernelIdeal.S16x1x128
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.Statement Cert.KernelIdeal.S512x2x512 Cert.KernelIdeal.S512x1x512
  ∧ IdealRules.bf16_pair.Statement Cert.KernelIdeal.S1024x512 Cert.KernelIdeal.S512x512

def algebraic_KernelIdeal_ReferenceIdeal_pre_scalable [hKernelIdeal : Cert.KernelIdeal.Facts] [hReferenceIdeal : Cert.ReferenceIdeal.Facts] [hPre_scalable : Cert.Pre_scalable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scalable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)) (v7 : (c : Dev Cert.KernelIdeal.nD) → Buf (Elt Ideal) ((c.tc : Thread Cert.KernelIdeal.nD Cert.KernelIdeal.τ).loc Cert.KernelIdeal.main_v9_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_v9_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_v10_2) = v2 c
          ∧ r.2.mem ((c.tc : Thread Cert.ReferenceIdeal.nD Cert.ReferenceIdeal.τ).loc Cert.ReferenceIdeal.main_v10_3) = v3 c
          ∧ r.2.mem ((c.tc : Thread Cert.ReferenceIdeal.nD Cert.ReferenceIdeal.τ).loc Cert.ReferenceIdeal.main_v10_4) = v4 c
          ∧ r.2.mem ((c.tc : Thread Cert.ReferenceIdeal.nD Cert.ReferenceIdeal.τ).loc Cert.ReferenceIdeal.main_v10_5) = v5 c
          ∧ r.2.mem ((c.tc : Thread Cert.ReferenceIdeal.nD Cert.ReferenceIdeal.τ).loc Cert.ReferenceIdeal.main_v10_6) = v6 c
          ∧ r.2.mem ((c.tc : Thread Cert.ReferenceIdeal.nD Cert.ReferenceIdeal.τ).loc Cert.ReferenceIdeal.main_v10_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scalable : Cert.Pre_scalable.Facts),
    quiescent_Kernel (hKernel := hKernel)
    ∧ quiescent_KernelIdeal (hKernelIdeal := hKernelIdeal)
    ∧ quiescent_KernelIdeal_pre_scalable (hKernelIdeal := hKernelIdeal) (hPre_scalable := hPre_scalable)
    ∧ quiescent_ReferenceIdeal (hReferenceIdeal := hReferenceIdeal)
    ∧ quiescent_ReferenceIdeal_pre_scalable (hReferenceIdeal := hReferenceIdeal) (hPre_scalable := hPre_scalable)
    ∧ preserves_Kernel_KernelIdeal
    ∧ algebraic_KernelIdeal_ReferenceIdeal_pre_scalable (hKernelIdeal := hKernelIdeal) (hReferenceIdeal := hReferenceIdeal) (hPre_scalable := hPre_scalable)
-- ==== Pre_scalable.lean ====
abbrev S1x1024x120x128 : Shape := ⟨4, ![1, 1024, 120, 128]⟩
abbrev S1x1024x512 : Shape := ⟨3, ![1, 1024, 512]⟩
abbrev S1x1024x4 : Shape := ⟨3, ![1, 1024, 4]⟩
abbrev S512x120x128 : Shape := ⟨3, ![512, 120, 128]⟩
abbrev S4x120 : Shape := ⟨2, ![4, 120]⟩
abbrev S512 : Shape := ⟨1, ![512]⟩
abbrev S_ : Shape := ⟨0, ![]⟩
abbrev S1x1024x120 : Shape := ⟨3, ![1, 1024, 120]⟩

class Facts : Prop where
  reducesTo_S1x1024x120x128_S1x1024x120_d3 : S1x1024x120x128.ReducesTo [3] S1x1024x120
  h_S_ : 0 < S_.numel
  bcast_S_S1x1024x120 : S_.BroadcastsInDim S1x1024x120 (![] : Fin 0 → Fin S1x1024x120.rank)

variable [Facts]

def fn_part1 {F : FTy → Type} [FloatOps F] (main_v9 : IVec S1x1024x120 1) (main_v11 : FVec F S1x1024x120 .bf16) (main_v13 : IVec S1x1024x120 1) (main_v15 : IVec S1x1024x120 1) (main_cst_6 : FVec F S_ .bf16) : IVec S1x1024x120 1 :=
  let main_v16 : FVec F S1x1024x120 .bf16 := broadcastInDim S1x1024x120 ![] bcast_S_S1x1024x120 main_cst_6
  let main_v17 : IVec S1x1024x120 1 := cmpf .ole main_v11 main_v16
  let main_v18 : IVec S1x1024x120 1 := andi main_v15 main_v17
  let main_v19 : IVec S1x1024x120 1 := ori main_v13 main_v18
  let main_v20 : IVec S1x1024x120 1 := andi main_v9 main_v19
  main_v20

def fn {F : FTy → Type} [FloatOps F] (main_arg0 : FVec F S1x1024x120x128 .bf16) (main_arg1 : FVec F S1x1024x120x128 .bf16) (main_arg2 : FVec F S1x1024x512 .fp8e4m3) (main_arg3 : FVec F S1x1024x4 .f32) (main_arg4 : FVec F S512x120x128 .fp8e4m3) (main_arg5 : FVec F S4x120 .f32) (main_arg6 : FVec F S512x120x128 .fp8e4m3) (main_arg7 : FVec F S4x120 .f32) (main_arg8 : FVec F S1x1024x512 .bf16) (main_arg9 : FVec F S512 .f32) : IVec S1x1024x120 1 :=
  let main_v0 : FVec F S1x1024x120x128 .bf16 := Host.absf main_arg0
  let main_cst : FVec F S_ .bf16 := constant S_ .bf16 0xFF80#16
  let main_v1 : FVec F S1x1024x120 .bf16 := (fun x v => Host.reduce FloatOps.maximumf x v reducesTo_S1x1024x120x128_S1x1024x120_d3 h_S_) main_v0 main_cst
  let main_cst_0 : FVec F S_ .bf16 := constant S_ .bf16 0x0000#16
  let main_v2 : FVec F S1x1024x120 .bf16 := broadcastInDim S1x1024x120 ![] bcast_S_S1x1024x120 main_cst_0
  let main_v3 : IVec S1x1024x120 1 := cmpf .oeq main_v1 main_v2
  let main_cst_1 : FVec F S_ .bf16 := constant S_ .bf16 0x0880#16
  let main_v4 : FVec F S1x1024x120 .bf16 := broadcastInDim S1x1024x120 ![] bcast_S_S1x1024x120 main_cst_1
  let main_v5 : IVec S1x1024x120 1 := cmpf .oge main_v1 main_v4
  let main_cst_2 : FVec F S_ .bf16 := constant S_ .bf16 0x7F7F#16
  let main_v6 : FVec F S1x1024x120 .bf16 := broadcastInDim S1x1024x120 ![] bcast_S_S1x1024x120 main_cst_2
  let main_v7 : IVec S1x1024x120 1 := cmpf .ole main_v1 main_v6
  let main_v8 : IVec S1x1024x120 1 := andi main_v5 main_v7
  let main_v9 : IVec S1x1024x120 1 := ori main_v3 main_v8
  let main_v10 : FVec F S1x1024x120x128 .bf16 := Host.absf main_arg1
  let main_cst_3 : FVec F S_ .bf16 := constant S_ .bf16 0xFF80#16
  let main_v11 : FVec F S1x1024x120 .bf16 := (fun x v => Host.reduce FloatOps.maximumf x v reducesTo_S1x1024x120x128_S1x1024x120_d3 h_S_) main_v10 main_cst_3
  let main_cst_4 : FVec F S_ .bf16 := constant S_ .bf16 0x0000#16
  let main_v12 : FVec F S1x1024x120 .bf16 := broadcastInDim S1x1024x120 ![] bcast_S_S1x1024x120 main_cst_4
  let main_v13 : IVec S1x1024x120 1 := cmpf .oeq main_v11 main_v12
  let main_cst_5 : FVec F S_ .bf16 := constant S_ .bf16 0x0880#16
  let main_v14 : FVec F S1x1024x120 .bf16 := broadcastInDim S1x1024x120 ![] bcast_S_S1x1024x120 main_cst_5
  let main_v15 : IVec S1x1024x120 1 := cmpf .oge main_v11 main_v14
  let main_cst_6 : FVec F S_ .bf16 := constant S_ .bf16 0x7F7F#16
  fn_part1 (F := F) main_v9 main_v11 main_v13 main_v15 main_cst_6
-- ==== Kernel.lean ====
abbrev S1x1024x120x128 : Shape := ⟨4, ![1, 1024, 120, 128]⟩
abbrev S1x1024x512 : Shape := ⟨3, ![1, 1024, 512]⟩
abbrev S1x1024x4 : Shape := ⟨3, ![1, 1024, 4]⟩
abbrev S512x120x128 : Shape := ⟨3, ![512, 120, 128]⟩
abbrev S4x120 : Shape := ⟨2, ![4, 120]⟩
abbrev S512 : Shape := ⟨1, ![512]⟩
abbrev S1024x15x8x128 : Shape := ⟨4, ![1024, 15, 8, 128]⟩
abbrev S1024x512 : Shape := ⟨2, ![1024, 512]⟩
abbrev S1024x4 : Shape := ⟨2, ![1024, 4]⟩
abbrev S4x1024 : Shape := ⟨2, ![4, 1024]⟩
abbrev S512x15x8x128 : Shape := ⟨4, ![512, 15, 8, 128]⟩
abbrev S1x512 : Shape := ⟨2, ![1, 512]⟩
abbrev S120x1024 : Shape := ⟨2, ![120, 1024]⟩
abbrev S1024x1x8x128 : Shape := ⟨4, ![1024, 1, 8, 128]⟩
abbrev S512x1x8x128 : Shape := ⟨4, ![512, 1, 8, 128]⟩
abbrev S8x1024 : Shape := ⟨2, ![8, 1024]⟩
abbrev S256x1024 : Shape := ⟨2, ![256, 1024]⟩
abbrev S2x120x8 : Shape := ⟨3, ![2, 120, 8]⟩
abbrev S4096x128 : Shape := ⟨2, ![4096, 128]⟩
abbrev S2048x128 : Shape := ⟨2, ![2048, 128]⟩
abbrev S512x1024 : Shape := ⟨2, ![512, 1024]⟩
abbrev S1024x128 : Shape := ⟨2, ![1024, 128]⟩
abbrev S1x1024 : Shape := ⟨2, ![1, 1024]⟩
abbrev S128x1024 : Shape := ⟨2, ![128, 1024]⟩
abbrev S64x1024 : Shape := ⟨2, ![64, 1024]⟩
abbrev S8x120 : Shape := ⟨2, ![8, 120]⟩
abbrev S120x8 : Shape := ⟨2, ![120, 8]⟩
abbrev S1x120x8 : Shape := ⟨3, ![1, 120, 8]⟩
abbrev S8192x128 : Shape := ⟨2, ![8192, 128]⟩
abbrev S1024x1024 : Shape := ⟨2, ![1024, 1024]⟩
abbrev S2x1x8x128 : Shape := ⟨4, ![2, 1, 8, 128]⟩
abbrev S16x128 : Shape := ⟨2, ![16, 128]⟩
abbrev S16 : Shape := ⟨1, ![16]⟩
abbrev S16x1 : Shape := ⟨2, ![16, 1]⟩
abbrev S8x128 : Shape := ⟨2, ![8, 128]⟩
abbrev S32x128 : Shape := ⟨2, ![32, 128]⟩
abbrev S4x1x8x128 : Shape := ⟨4, ![4, 1, 8, 128]⟩
abbrev S1x8x1 : Shape := ⟨3, ![1, 8, 1]⟩
abbrev S8x1 : Shape := ⟨2, ![8, 1]⟩
abbrev S512x512 : Shape := ⟨2, ![512, 512]⟩
abbrev S512x128 : Shape := ⟨2, ![512, 128]⟩
abbrev S512x1x1x128 : Shape := ⟨4, ![512, 1, 1, 128]⟩
abbrev S8x512 : Shape := ⟨2, ![8, 512]⟩
abbrev S16x512 : Shape := ⟨2, ![16, 512]⟩

abbrev nBuf : Space → Nat
  | .hbm => 27
  | .vmem => 37
  | .smem => 0
  | _ => 0

abbrev bufTy : (tb : Table) → Fin (tcTables nBuf tb) → BufTy
  | .hbm, ⟨0, _⟩ => ⟨S1x1024x120x128, .bf16⟩
  | .hbm, ⟨1, _⟩ => ⟨S1x1024x120x128, .bf16⟩
  | .hbm, ⟨2, _⟩ => ⟨S1x1024x512, .fp8e4m3⟩
  | .hbm, ⟨3, _⟩ => ⟨S1x1024x4, .f32⟩
  | .hbm, ⟨4, _⟩ => ⟨S512x120x128, .fp8e4m3⟩
  | .hbm, ⟨5, _⟩ => ⟨S4x120, .f32⟩
  | .hbm, ⟨6, _⟩ => ⟨S512x120x128, .fp8e4m3⟩
  | .hbm, ⟨7, _⟩ => ⟨S4x120, .f32⟩
  | .hbm, ⟨8, _⟩ => ⟨S1x1024x512, .bf16⟩
  | .hbm, ⟨9, _⟩ => ⟨S512, .f32⟩
  | .hbm, ⟨10, _⟩ => ⟨S1024x15x8x128, .bf16⟩
  | .hbm, ⟨11, _⟩ => ⟨S1024x15x8x128, .bf16⟩
  | .hbm, ⟨12, _⟩ => ⟨S1024x512, .fp8e4m3⟩
  | .hbm, ⟨13, _⟩ => ⟨S1024x4, .f32⟩
  | .hbm, ⟨14, _⟩ => ⟨S4x1024, .f32⟩
  | .hbm, ⟨15, _⟩ => ⟨S512x15x8x128, .fp8e4m3⟩
  | .hbm, ⟨16, _⟩ => ⟨S512x15x8x128, .fp8e4m3⟩
  | .hbm, ⟨17, _⟩ => ⟨S1024x512, .bf16⟩
  | .hbm, ⟨18, _⟩ => ⟨S1x512, .f32⟩
  | .hbm, ⟨19, _⟩ => ⟨S1024x512, .bf16⟩
  | .hbm, ⟨20, _⟩ => ⟨S1x512, .f32⟩
  | .hbm, ⟨21, _⟩ => ⟨S512x15x8x128, .f32⟩
  | .hbm, ⟨22, _⟩ => ⟨S512x15x8x128, .f32⟩
  | .hbm, ⟨23, _⟩ => ⟨S1024x15x8x128, .fp8e5m2⟩
  | .hbm, ⟨24, _⟩ => ⟨S120x1024, .f32⟩
  | .hbm, ⟨25, _⟩ => ⟨S1024x15x8x128, .fp8e5m2⟩
  | .hbm, ⟨26, _⟩ => ⟨S120x1024, .f32⟩
  | .local _ .vmem, ⟨0, _⟩ => ⟨S1024x1x8x128, .bf16⟩
  | .local _ .vmem, ⟨1, _⟩ => ⟨S1024x1x8x128, .bf16⟩
  | .local _ .vmem, ⟨2, _⟩ => ⟨S1024x1x8x128, .bf16⟩
  | .local _ .vmem, ⟨3, _⟩ => ⟨S1024x1x8x128, .bf16⟩
  | .local _ .vmem, ⟨4, _⟩ => ⟨S1024x512, .fp8e4m3⟩
  | .local _ .vmem, ⟨5, _⟩ => ⟨S4x1024, .f32⟩
  | .local _ .vmem, ⟨6, _⟩ => ⟨S512x1x8x128, .fp8e4m3⟩
  | .local _ .vmem, ⟨7, _⟩ => ⟨S512x1x8x128, .fp8e4m3⟩
  | .local _ .vmem, ⟨8, _⟩ => ⟨S4x120, .f32⟩
  | .local _ .vmem, ⟨9, _⟩ => ⟨S512x1x8x128, .fp8e4m3⟩
  | .local _ .vmem, ⟨10, _⟩ => ⟨S512x1x8x128, .fp8e4m3⟩
  | .local _ .vmem, ⟨11, _⟩ => ⟨S4x120, .f32⟩
  | .local _ .vmem, ⟨12, _⟩ => ⟨S1024x512, .bf16⟩
  | .local _ .vmem, ⟨13, _⟩ => ⟨S1x512, .f32⟩
  | .local _ .vmem, ⟨14, _⟩ => ⟨S1024x512, .bf16⟩
  | .local _ .vmem, ⟨15, _⟩ => ⟨S1x512, .f32⟩
  | .local _ .vmem, ⟨16, _⟩ => ⟨S512x1x8x128, .f32⟩
  | .local _ .vmem, ⟨17, _⟩ => ⟨S512x1x8x128, .f32⟩
  | .local _ .vmem, ⟨18, _⟩ => ⟨S512x1x8x128, .f32⟩
  | .local _ .vmem, ⟨19, _⟩ => ⟨S512x1x8x128, .f32⟩
  | .local _ .vmem, ⟨20, _⟩ => ⟨S1024x1x8x128, .fp8e5m2⟩
  | .local _ .vmem, ⟨21, _⟩ => ⟨S1024x1x8x128, .fp8e5m2⟩
  | .local _ .vmem, ⟨22, _⟩ => ⟨S8x1024, .f32⟩
  | .local _ .vmem, ⟨23, _⟩ => ⟨S8x1024, .f32⟩
  | .local _ .vmem, ⟨24, _⟩ => ⟨S1024x1x8x128, .fp8e5m2⟩
  | .local _ .vmem, ⟨25, _⟩ => ⟨S1024x1x8x128, .fp8e5m2⟩
  | .local _ .vmem, ⟨26, _⟩ => ⟨S8x1024, .f32⟩
  | .local _ .vmem, ⟨27, _⟩ => ⟨S8x1024, .f32⟩
  | .local _ .vmem, ⟨28, _⟩ => ⟨S1024x512, .f32⟩
  | .local _ .vmem, ⟨29, _⟩ => ⟨S256x1024, .i32⟩
  | .local _ .vmem, ⟨30, _⟩ => ⟨S2x120x8, .f32⟩
  | .local _ .vmem, ⟨31, _⟩ => ⟨S4096x128, .i32⟩
  | .local _ .vmem, ⟨32, _⟩ => ⟨S2048x128, .i32⟩
  | .local _ .vmem, ⟨33, _⟩ => ⟨S512x1024, .i32⟩
  | .local _ .vmem, ⟨34, _⟩ => ⟨S512x1024, .i32⟩
  | .local _ .vmem, ⟨35, _⟩ => ⟨S256x1024, .i32⟩
  | .local _ .vmem, ⟨36, _⟩ => ⟨S256x1024, .i32⟩
  | _, _ => ⟨S1x1024x120x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_v9_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [BitOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_51 : BitVec 32 := 0#32
  let c256_i32 : BitVec 32 := 256#32
  let v128 : BitVec 32 := Scalar.addi c0_i32_51 c256_i32
  let c1_i32_52 : BitVec 32 := 1#32
  ⟨c0_i32_51, v128, c1_i32_52⟩
def k0_mult1 (k0_t1 : Fin k0_t1_loop.trips) : BitVec 32 :=
  let c0_i32_51 : BitVec 32 := 0#32
  let c1_i32_52 : BitVec 32 := 1#32
  let arg28 : BitVec 32 := Scf.iv c0_i32_51 c1_i32_52 k0_t1
  let c4_i32_180 : BitVec 32 := 4#32
  let v266 : BitVec 32 := Scalar.muli arg28 c4_i32_180
  let c4_i32_181 : BitVec 32 := 4#32
  let v267 : BitVec 32 := Scalar.muli v266 c4_i32_181
  v267
def k0_off1 (k0_t1 : Fin k0_t1_loop.trips) (c0_i32_182 : BitVec 32) : Fin 4 → Nat :=
  let c0_i32_51 : BitVec 32 := 0#32
  let c1_i32_52 : BitVec 32 := 1#32
  let arg28 : BitVec 32 := Scf.iv c0_i32_51 c1_i32_52 k0_t1
  let c4_i32_180 : BitVec 32 := 4#32
  let v266 : BitVec 32 := Scalar.muli arg28 c4_i32_180
  let v269 : BitVec 32 := Scalar.addi v266 c0_i32_182
  let v270 : Index := Scalar.indexCast v269
  let c0_183 : Index := 0#32
  let c0_184 : Index := 0#32
  let c0_185 : Index := 0#32
  ![v270.toNat, 0, 0, 0]
def k0_off2 (k0_t1 : Fin k0_t1_loop.trips) : Fin 4 → Nat :=
  let c0_i32_51 : BitVec 32 := 0#32
  let c1_i32_52 : BitVec 32 := 1#32
  let arg28 : BitVec 32 := Scf.iv c0_i32_51 c1_i32_52 k0_t1
  let c4_i32_180 : BitVec 32 := 4#32
  let v266 : BitVec 32 := Scalar.muli arg28 c4_i32_180
  let v558 : Index := Scalar.indexCast v266
  let c0_258 : Index := 0#32
  let c0_259 : Index := 0#32
  let c0_260 : Index := 0#32
  ![v558.toNat, 0, 0, 0]
def k0_off3 (k0_t1 : Fin k0_t1_loop.trips) : Fin 2 → Nat :=
  let c0_i32_51 : BitVec 32 := 0#32
  let c1_i32_52 : BitVec 32 := 1#32
  let arg28 : BitVec 32 := Scf.iv c0_i32_51 c1_i32_52 k0_t1
  let c4_i32_180 : BitVec 32 := 4#32
  let v266 : BitVec 32 := Scalar.muli arg28 c4_i32_180
  let c4_i32_181 : BitVec 32 := 4#32
  let v267 : BitVec 32 := Scalar.muli v266 c4_i32_181
  let v268 : BitVec 32 := v267
  let v564 : Index := Scalar.indexCast v268
  let c0_261 : Index := 0#32
  ![v564.toNat, 0]
@[reducible] def k0_t2_loop : Scf.Loop 32 :=
  let c0_i32_56 : BitVec 32 := 0#32
  let c64_i32 : BitVec 32 := 64#32
  let v136 : BitVec 32 := Scalar.addi c0_i32_56 c64_i32
  let c1_i32_57 : BitVec 32 := 1#32
  ⟨c0_i32_56, v136, c1_i32_57⟩
def k0_off4 (k0_t2 : Fin k0_t2_loop.trips) (c0_i32_181 : BitVec 32) : Fin 2 → Nat :=
  let c0_i32_56 : BitVec 32 := 0#32
  let c1_i32_57 : BitVec 32 := 1#32
  let arg28 : BitVec 32 := Scf.iv c0_i32_56 c1_i32_57 k0_t2
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let v269 : Index := Scalar.indexCast v268
  let c0_182 : Index := 0#32
  ![v269.toNat, 0]
def k0_off5 (k0_t2 : Fin k0_t2_loop.trips) (c0_i32_181 : BitVec 32) : Fin 2 → Nat :=
  let c0_i32_56 : BitVec 32 := 0#32
  let c1_i32_57 : BitVec 32 := 1#32
  let arg28 : BitVec 32 := Scf.iv c0_i32_56 c1_i32_57 k0_t2
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let c4_i32_183 : BitVec 32 := 4#32
  let v271 : BitVec 32 := Scalar.addi v268 c4_i32_183
  let v272 : Index := Scalar.indexCast v271
  let c0_184 : Index := 0#32
  ![v272.toNat, 0]
def k0_mult2 (k0_t2 : Fin k0_t2_loop.trips) : BitVec 32 :=
  let c0_i32_56 : BitVec 32 := 0#32
  let c1_i32_57 : BitVec 32 := 1#32
  let arg28 : BitVec 32 := Scf.iv c0_i32_56 c1_i32_57 k0_t2
  let c8_i32_187 : BitVec 32 := 8#32
  let v284 : BitVec 32 := Scalar.muli arg28 c8_i32_187
  v284
def k0_off6 (k0_t2 : Fin k0_t2_loop.trips) : Fin 2 → Nat :=
  let c0_i32_56 : BitVec 32 := 0#32
  let c1_i32_57 : BitVec 32 := 1#32
  let arg28 : BitVec 32 := Scf.iv c0_i32_56 c1_i32_57 k0_t2
  let c8_i32_187 : BitVec 32 := 8#32
  let v284 : BitVec 32 := Scalar.muli arg28 c8_i32_187
  let v285 : BitVec 32 := v284
  let v288 : Index := Scalar.indexCast v285
  let c0_188 : Index := 0#32
  ![v288.toNat, 0]
def k0_off7 (k0_t2 : Fin k0_t2_loop.trips) : Fin 2 → Nat :=
  let c0_i32_56 : BitVec 32 := 0#32
  let c1_i32_57 : BitVec 32 := 1#32
  let arg28 : BitVec 32 := Scf.iv c0_i32_56 c1_i32_57 k0_t2
  let c8_i32_187 : BitVec 32 := 8#32
  let v284 : BitVec 32 := Scalar.muli arg28 c8_i32_187
  let v285 : BitVec 32 := v284
  let v294 : Index := Scalar.indexCast v285
  let c128_189 : Index := 128#32
  ![v294.toNat, 128]
def k0_mult3 (k0_t2 : Fin k0_t2_loop.trips) : BitVec 32 :=
  let c0_i32_56 : BitVec 32 := 0#32
  let c1_i32_57 : BitVec 32 := 1#32
  let arg28 : BitVec 32 := Scf.iv c0_i32_56 c1_i32_57 k0_t2
  let c8_i32_199 : BitVec 32 := 8#32
  let v315 : BitVec 32 := Scalar.muli arg28 c8_i32_199
  v315
def k0_off8 (k0_t2 : Fin k0_t2_loop.trips) : Fin 2 → Nat :=
  let c0_i32_56 : BitVec 32 := 0#32
  let c1_i32_57 : BitVec 32 := 1#32
  let arg28 : BitVec 32 := Scf.iv c0_i32_56 c1_i32_57 k0_t2
  let c8_i32_199 : BitVec 32 := 8#32
  let v315 : BitVec 32 := Scalar.muli arg28 c8_i32_199
  let v316 : BitVec 32 := v315
  let v319 : Index := Scalar.indexCast v316
  let c256_200 : Index := 256#32
  ![v319.toNat, 256]
def k0_off9 (k0_t2 : Fin k0_t2_loop.trips) : Fin 2 → Nat :=
  let c0_i32_56 : BitVec 32 := 0#32
  let c1_i32_57 : BitVec 32 := 1#32
  let arg28 : BitVec 32 := Scf.iv c0_i32_56 c1_i32_57 k0_t2
  let c8_i32_199 : BitVec 32 := 8#32
  let v315 : BitVec 32 := Scalar.muli arg28 c8_i32_199
  let v316 : BitVec 32 := v315
  let v325 : Index := Scalar.indexCast v316
  let c384_201 : Index := 384#32
  ![v325.toNat, 384]
def k0_mult4 (k0_t2 : Fin k0_t2_loop.trips) : BitVec 32 :=
  let c0_i32_56 : BitVec 32 := 0#32
  let c1_i32_57 : BitVec 32 := 1#32
  let arg28 : BitVec 32 := Scf.iv c0_i32_56 c1_i32_57 k0_t2
  let c8_i32_210 : BitVec 32 := 8#32
  let v346 : BitVec 32 := Scalar.muli arg28 c8_i32_210
  v346
def k0_off10 (k0_t2 : Fin k0_t2_loop.trips) : Fin 2 → Nat :=
  let c0_i32_56 : BitVec 32 := 0#32
  let c1_i32_57 : BitVec 32 := 1#32
  let arg28 : BitVec 32 := Scf.iv c0_i32_56 c1_i32_57 k0_t2
  let c8_i32_210 : BitVec 32 := 8#32
  let v346 : BitVec 32 := Scalar.muli arg28 c8_i32_210
  let v347 : BitVec 32 := v346
  let v350 : Index := Scalar.indexCast v347
  let c512_211 : Index := 512#32
  ![v350.toNat, 512]
def k0_off11 (k0_t2 : Fin k0_t2_loop.trips) : Fin 2 → Nat :=
  let c0_i32_56 : BitVec 32 := 0#32
  let c1_i32_57 : BitVec 32 := 1#32
  let arg28 : BitVec 32 := Scf.iv c0_i32_56 c1_i32_57 k0_t2
  let c8_i32_210 : BitVec 32 := 8#32
  let v346 : BitVec 32 := Scalar.muli arg28 c8_i32_210
  let v347 : BitVec 32 := v346
  let v356 : Index := Scalar.indexCast v347
  let c640 : Index := 640#32
  ![v356.toNat, 640]
def k0_mult5 (k0_t2 : Fin k0_t2_loop.trips) : BitVec 32 :=
  let c0_i32_56 : BitVec 32 := 0#32
  let c1_i32_57 : BitVec 32 := 1#32
  let arg28 : BitVec 32 := Scf.iv c0_i32_56 c1_i32_57 k0_t2
  let c8_i32_220 : BitVec 32 := 8#32
  let v377 : BitVec 32 := Scalar.muli arg28 c8_i32_220
  v377
def k0_off12 (k0_t2 : Fin k0_t2_loop.trips) : Fin 2 → Nat :=
  let c0_i32_56 : BitVec 32 := 0#32
  let c1_i32_57 : BitVec 32 := 1#32
  let arg28 : BitVec 32 := Scf.iv c0_i32_56 c1_i32_57 k0_t2
  let c8_i32_220 : BitVec 32 := 8#32
  let v377 : BitVec 32 := Scalar.muli arg28 c8_i32_220
  let v378 : BitVec 32 := v377
  let v381 : Index := Scalar.indexCast v378
  let c768 : Index := 768#32
  ![v381.toNat, 768]
def k0_off13 (k0_t2 : Fin k0_t2_loop.trips) : Fin 2 → Nat :=
  let c0_i32_56 : BitVec 32 := 0#32
  let c1_i32_57 : BitVec 32 := 1#32
  let arg28 : BitVec 32 := Scf.iv c0_i32_56 c1_i32_57 k0_t2
  let c8_i32_220 : BitVec 32 := 8#32
  let v377 : BitVec 32 := Scalar.muli arg28 c8_i32_220
  let v378 : BitVec 32 := v377
  let v387 : Index := Scalar.indexCast v378
  let c896 : Index := 896#32
  ![v387.toNat, 896]
def k0_mult6 (i : grid0.Coords) : BitVec 32 :=
  let arg0 : BitVec 32 := BitVec.ofNat 32 (i 0).val
  let c8_i32 : BitVec 32 := 8#32
  let v137 : BitVec 32 := Scalar.muli arg0 c8_i32
  v137
@[reducible] def k0_t3_loop : Scf.Loop 32 :=
  let c0_i32_59 : BitVec 32 := 0#32
  let c32_i32 : BitVec 32 := 32#32
  let v139 : BitVec 32 := Scalar.addi c0_i32_59 c32_i32
  let c1_i32_60 : BitVec 32 := 1#32
  ⟨c0_i32_59, v139, c1_i32_60⟩
def k0_off14 (i : grid0.Coords) : Fin 3 → Nat :=
  let c0_180 : Index := 0#32
  let arg0 : BitVec 32 := BitVec.ofNat 32 (i 0).val
  let c8_i32 : BitVec 32 := 8#32
  let v137 : BitVec 32 := Scalar.muli arg0 c8_i32
  let v138 : BitVec 32 := v137
  let v266 : Index := Scalar.indexCast v138
  let c0_181 : Index := 0#32
  ![0, v266.toNat, 0]
def k0_off15 (k0_t3 : Fin k0_t3_loop.trips) : Fin 4 → Nat :=
  let c0_i32_183 : BitVec 32 := 0#32
  let c0_i32_59 : BitVec 32 := 0#32
  let c1_i32_60 : BitVec 32 := 1#32
  let arg28 : BitVec 32 := Scf.iv c0_i32_59 c1_i32_60 k0_t3
  let c4_i32_182 : BitVec 32 := 4#32
  let v273 : BitVec 32 := Scalar.muli arg28 c4_i32_182
  let v274 : BitVec 32 := Scalar.addi c0_i32_183 v273
  let v275 : Index := Scalar.indexCast v274
  let c0_184 : Index := 0#32
  let c0_185 : Index := 0#32
  let c0_186 : Index := 0#32
  ![v275.toNat, 0, 0, 0]
def k0_mult7 (k0_t3 : Fin k0_t3_loop.trips) : BitVec 32 :=
  let c0_i32_183 : BitVec 32 := 0#32
  let c0_i32_59 : BitVec 32 := 0#32
  let c1_i32_60 : BitVec 32 := 1#32
  let arg28 : BitVec 32 := Scf.iv c0_i32_59 c1_i32_60 k0_t3
  let c4_i32_182 : BitVec 32 := 4#32
  let v273 : BitVec 32 := Scalar.muli arg28 c4_i32_182
  let v274 : BitVec 32 := Scalar.addi c0_i32_183 v273
  let c4_i32_187 : BitVec 32 := 4#32
  let v281 : BitVec 32 := Scalar.muli v274 c4_i32_187
  v281
def k0_off16 (k0_t3 : Fin k0_t3_loop.trips) : Fin 2 → Nat :=
  let c0_i32_183 : BitVec 32 := 0#32
  let c0_i32_59 : BitVec 32 := 0#32
  let c1_i32_60 : BitVec 32 := 1#32
  let arg28 : BitVec 32 := Scf.iv c0_i32_59 c1_i32_60 k0_t3
  let c4_i32_182 : BitVec 32 := 4#32
  let v273 : BitVec 32 := Scalar.muli arg28 c4_i32_182
  let v274 : BitVec 32 := Scalar.addi c0_i32_183 v273
  let c4_i32_187 : BitVec 32 := 4#32
  let v281 : BitVec 32 := Scalar.muli v274 c4_i32_187
  let v282 : BitVec 32 := v281
  let v284 : Index := Scalar.indexCast v282
  let c0_188 : Index := 0#32
  ![v284.toNat, 0]
@[reducible] def k0_t4_loop : Scf.Loop 32 :=
  let c0_i32_62 : BitVec 32 := 0#32
  let c32_i32_63 : BitVec 32 := 32#32
  let v140 : BitVec 32 := Scalar.addi c0_i32_62 c32_i32_63
  let c1_i32_64 : BitVec 32 := 1#32
  ⟨c0_i32_62, v140, c1_i32_64⟩
def k0_off17 (i : grid0.Coords) : Fin 3 → Nat :=
  let c0_180 : Index := 0#32
  let arg0 : BitVec 32 := BitVec.ofNat 32 (i 0).val
  let c8_i32 : BitVec 32 := 8#32
  let v137 : BitVec 32 := Scalar.muli arg0 c8_i32
  let v138 : BitVec 32 := v137
  let v266 : Index := Scalar.indexCast v138
  let c1_181 : Index := 1#32
  ![0, v266.toNat, 1]
def k0_off18 (k0_t4 : Fin k0_t4_loop.trips) : Fin 4 → Nat :=
  let c128_i32 : BitVec 32 := 128#32
  let c0_i32_62 : BitVec 32 := 0#32
  let c1_i32_64 : BitVec 32 := 1#32
  let arg28 : BitVec 32 := Scf.iv c0_i32_62 c1_i32_64 k0_t4
  let c4_i32_182 : BitVec 32 := 4#32
  let v273 : BitVec 32 := Scalar.muli arg28 c4_i32_182
  let v274 : BitVec 32 := Scalar.addi c128_i32 v273
  let v275 : Index := Scalar.indexCast v274
  let c0_183 : Index := 0#32
  let c0_184 : Index := 0#32
  let c0_185 : Index := 0#32
  ![v275.toNat, 0, 0, 0]
def k0_mult8 (k0_t4 : Fin k0_t4_loop.trips) : BitVec 32 :=
  let c128_i32 : BitVec 32 := 128#32
  let c0_i32_62 : BitVec 32 := 0#32
  let c1_i32_64 : BitVec 32 := 1#32
  let arg28 : BitVec 32 := Scf.iv c0_i32_62 c1_i32_64 k0_t4
  let c4_i32_182 : BitVec 32 := 4#32
  let v273 : BitVec 32 := Scalar.muli arg28 c4_i32_182
  let v274 : BitVec 32 := Scalar.addi c128_i32 v273
  let c4_i32_186 : BitVec 32 := 4#32
  let v281 : BitVec 32 := Scalar.muli v274 c4_i32_186
  v281
def k0_off19 (k0_t4 : Fin k0_t4_loop.trips) : Fin 2 → Nat :=
  let c128_i32 : BitVec 32 := 128#32
  let c0_i32_62 : BitVec 32 := 0#32
  let c1_i32_64 : BitVec 32 := 1#32
  let arg28 : BitVec 32 := Scf.iv c0_i32_62 c1_i32_64 k0_t4
  let c4_i32_182 : BitVec 32 := 4#32
  let v273 : BitVec 32 := Scalar.muli arg28 c4_i32_182
  let v274 : BitVec 32 := Scalar.addi c128_i32 v273
  let c4_i32_186 : BitVec 32 := 4#32
  let v281 : BitVec 32 := Scalar.muli v274 c4_i32_186
  let v282 : BitVec 32 := v281
  let v284 : Index := Scalar.indexCast v282
  let c0_187 : Index := 0#32
  ![v284.toNat, 0]
@[reducible] def k0_t5_loop : Scf.Loop 32 :=
  let c0_i32_66 : BitVec 32 := 0#32
  let c32_i32_67 : BitVec 32 := 32#32
  let v141 : BitVec 32 := Scalar.addi c0_i32_66 c32_i32_67
  let c1_i32_68 : BitVec 32 := 1#32
  ⟨c0_i32_66, v141, c1_i32_68⟩
def k0_off20 (i : grid0.Coords) : Fin 3 → Nat :=
  let c0_180 : Index := 0#32
  let arg0 : BitVec 32 := BitVec.ofNat 32 (i 0).val
  let c8_i32 : BitVec 32 := 8#32
  let v137 : BitVec 32 := Scalar.muli arg0 c8_i32
  let v138 : BitVec 32 := v137
  let v266 : Index := Scalar.indexCast v138
  let c2_181 : Index := 2#32
  ![0, v266.toNat, 2]
def k0_off21 (k0_t5 : Fin k0_t5_loop.trips) : Fin 4 → Nat :=
  let c256_i32_183 : BitVec 32 := 256#32
  let c0_i32_66 : BitVec 32 := 0#32
  let c1_i32_68 : BitVec 32 := 1#32
  let arg28 : BitVec 32 := Scf.iv c0_i32_66 c1_i32_68 k0_t5
  let c4_i32_182 : BitVec 32 := 4#32
  let v273 : BitVec 32 := Scalar.muli arg28 c4_i32_182
  let v274 : BitVec 32 := Scalar.addi c256_i32_183 v273
  let v275 : Index := Scalar.indexCast v274
  let c0_184 : Index := 0#32
  let c0_185 : Index := 0#32
  let c0_186 : Index := 0#32
  ![v275.toNat, 0, 0, 0]
def k0_mult9 (k0_t5 : Fin k0_t5_loop.trips) : BitVec 32 :=
  let c256_i32_183 : BitVec 32 := 256#32
  let c0_i32_66 : BitVec 32 := 0#32
  let c1_i32_68 : BitVec 32 := 1#32
  let arg28 : BitVec 32 := Scf.iv c0_i32_66 c1_i32_68 k0_t5
  let c4_i32_182 : BitVec 32 := 4#32
  let v273 : BitVec 32 := Scalar.muli arg28 c4_i32_182
  let v274 : BitVec 32 := Scalar.addi c256_i32_183 v273
  let c4_i32_187 : BitVec 32 := 4#32
  let v281 : BitVec 32 := Scalar.muli v274 c4_i32_187
  v281
def k0_off22 (k0_t5 : Fin k0_t5_loop.trips) : Fin 2 → Nat :=
  let c256_i32_183 : BitVec 32 := 256#32
  let c0_i32_66 : BitVec 32 := 0#32
  let c1_i32_68 : BitVec 32 := 1#32
  let arg28 : BitVec 32 := Scf.iv c0_i32_66 c1_i32_68 k0_t5
  let c4_i32_182 : BitVec 32 := 4#32
  let v273 : BitVec 32 := Scalar.muli arg28 c4_i32_182
  let v274 : BitVec 32 := Scalar.addi c256_i32_183 v273
  let c4_i32_187 : BitVec 32 := 4#32
  let v281 : BitVec 32 := Scalar.muli v274 c4_i32_187
  let v282 : BitVec 32 := v281
  let v284 : Index := Scalar.indexCast v282
  let c0_188 : Index := 0#32
  ![v284.toNat, 0]
@[reducible] def k0_t6_loop : Scf.Loop 32 :=
  let c0_i32_70 : BitVec 32 := 0#32
  let c32_i32_71 : BitVec 32 := 32#32
  let v142 : BitVec 32 := Scalar.addi c0_i32_70 c32_i32_71
  let c1_i32_72 : BitVec 32 := 1#32
  ⟨c0_i32_70, v142, c1_i32_72⟩
def k0_off23 (i : grid0.Coords) : Fin 3 → Nat :=
  let c0_180 : Index := 0#32
  let arg0 : BitVec 32 := BitVec.ofNat 32 (i 0).val
  let c8_i32 : BitVec 32 := 8#32
  let v137 : BitVec 32 := Scalar.muli arg0 c8_i32
  let v138 : BitVec 32 := v137
  let v266 : Index := Scalar.indexCast v138
  let c3_181 : Index := 3#32
  ![0, v266.toNat, 3]
def k0_off24 (k0_t6 : Fin k0_t6_loop.trips) : Fin 4 → Nat :=
  let c384_i32 : BitVec 32 := 384#32
  let c0_i32_70 : BitVec 32 := 0#32
  let c1_i32_72 : BitVec 32 := 1#32
  let arg28 : BitVec 32 := Scf.iv c0_i32_70 c1_i32_72 k0_t6
  let c4_i32_182 : BitVec 32 := 4#32
  let v273 : BitVec 32 := Scalar.muli arg28 c4_i32_182
  let v274 : BitVec 32 := Scalar.addi c384_i32 v273
  let v275 : Index := Scalar.indexCast v274
  let c0_183 : Index := 0#32
  let c0_184 : Index := 0#32
  let c0_185 : Index := 0#32
  ![v275.toNat, 0, 0, 0]
def k0_mult10 (k0_t6 : Fin k0_t6_loop.trips) : BitVec 32 :=
  let c384_i32 : BitVec 32 := 384#32
  let c0_i32_70 : BitVec 32 := 0#32
  let c1_i32_72 : BitVec 32 := 1#32
  let arg28 : BitVec 32 := Scf.iv c0_i32_70 c1_i32_72 k0_t6
  let c4_i32_182 : BitVec 32 := 4#32
  let v273 : BitVec 32 := Scalar.muli arg28 c4_i32_182
  let v274 : BitVec 32 := Scalar.addi c384_i32 v273
  let c4_i32_186 : BitVec 32 := 4#32
  let v281 : BitVec 32 := Scalar.muli v274 c4_i32_186
  v281
def k0_off25 (k0_t6 : Fin k0_t6_loop.trips) : Fin 2 → Nat :=
  let c384_i32 : BitVec 32 := 384#32
  let c0_i32_70 : BitVec 32 := 0#32
  let c1_i32_72 : BitVec 32 := 1#32
  let arg28 : BitVec 32 := Scf.iv c0_i32_70 c1_i32_72 k0_t6
  let c4_i32_182 : BitVec 32 := 4#32
  let v273 : BitVec 32 := Scalar.muli arg28 c4_i32_182
  let v274 : BitVec 32 := Scalar.addi c384_i32 v273
  let c4_i32_186 : BitVec 32 := 4#32
  let v281 : BitVec 32 := Scalar.muli v274 c4_i32_186
  let v282 : BitVec 32 := v281
  let v284 : Index := Scalar.indexCast v282
  let c0_187 : Index := 0#32
  ![v284.toNat, 0]
@[reducible] def k0_t7_loop : Scf.Loop 32 :=
  let c0_i32_74 : BitVec 32 := 0#32
  let c32_i32_75 : BitVec 32 := 32#32
  let v143 : BitVec 32 := Scalar.addi c0_i32_74 c32_i32_75
  let c1_i32_76 : BitVec 32 := 1#32
  ⟨c0_i32_74, v143, c1_i32_76⟩
def k0_off26 (k0_t7 : Fin k0_t7_loop.trips) (c0_i32_181 : BitVec 32) : Fin 2 → Nat :=
  let c0_i32_74 : BitVec 32 := 0#32
  let c1_i32_76 : BitVec 32 := 1#32
  let arg28 : BitVec 32 := Scf.iv c0_i32_74 c1_i32_76 k0_t7
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let v269 : Index := Scalar.indexCast v268
  let c0_182 : Index := 0#32
  ![v269.toNat, 0]
def k0_off27 (k0_t7 : Fin k0_t7_loop.trips) (c0_i32_181 : BitVec 32) : Fin 2 → Nat :=
  let c0_i32_74 : BitVec 32 := 0#32
  let c1_i32_76 : BitVec 32 := 1#32
  let arg28 : BitVec 32 := Scf.iv c0_i32_74 c1_i32_76 k0_t7
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let c4_i32_183 : BitVec 32 := 4#32
  let v271 : BitVec 32 := Scalar.addi v268 c4_i32_183
  let v272 : Index := Scalar.indexCast v271
  let c0_184 : Index := 0#32
  ![v272.toNat, 0]
def k0_mult11 (k0_t7 : Fin k0_t7_loop.trips) : BitVec 32 :=
  let c0_i32_74 : BitVec 32 := 0#32
  let c1_i32_76 : BitVec 32 := 1#32
  let arg28 : BitVec 32 := Scf.iv c0_i32_74 c1_i32_76 k0_t7
  let c8_i32_187 : BitVec 32 := 8#32
  let v284 : BitVec 32 := Scalar.muli arg28 c8_i32_187
  v284
def k0_off28 (k0_t7 : Fin k0_t7_loop.trips) : Fin 2 → Nat :=
  let c0_i32_74 : BitVec 32 := 0#32
  let c1_i32_76 : BitVec 32 := 1#32
  let arg28 : BitVec 32 := Scf.iv c0_i32_74 c1_i32_76 k0_t7
  let c8_i32_187 : BitVec 32 := 8#32
  let v284 : BitVec 32 := Scalar.muli arg28 c8_i32_187
  let v285 : BitVec 32 := v284
  let v288 : Index := Scalar.indexCast v285
  let c0_188 : Index := 0#32
  ![v288.toNat, 0]
def k0_off29 (k0_t7 : Fin k0_t7_loop.trips) : Fin 2 → Nat :=
  let c0_i32_74 : BitVec 32 := 0#32
  let c1_i32_76 : BitVec 32 := 1#32
  let arg28 : BitVec 32 := Scf.iv c0_i32_74 c1_i32_76 k0_t7
  let c8_i32_187 : BitVec 32 := 8#32
  let v284 : BitVec 32 := Scalar.muli arg28 c8_i32_187
  let v285 : BitVec 32 := v284
  let v294 : Index := Scalar.indexCast v285
  let c128_189 : Index := 128#32
  ![v294.toNat, 128]
def k0_mult12 (k0_t7 : Fin k0_t7_loop.trips) : BitVec 32 :=
  let c0_i32_74 : BitVec 32 := 0#32
  let c1_i32_76 : BitVec 32 := 1#32
  let arg28 : BitVec 32 := Scf.iv c0_i32_74 c1_i32_76 k0_t7
  let c8_i32_199 : BitVec 32 := 8#32
  let v315 : BitVec 32 := Scalar.muli arg28 c8_i32_199
  v315
def k0_off30 (k0_t7 : Fin k0_t7_loop.trips) : Fin 2 → Nat :=
  let c0_i32_74 : BitVec 32 := 0#32
  let c1_i32_76 : BitVec 32 := 1#32
  let arg28 : BitVec 32 := Scf.iv c0_i32_74 c1_i32_76 k0_t7
  let c8_i32_199 : BitVec 32 := 8#32
  let v315 : BitVec 32 := Scalar.muli arg28 c8_i32_199
  let v316 : BitVec 32 := v315
  let v319 : Index := Scalar.indexCast v316
  let c256_200 : Index := 256#32
  ![v319.toNat, 256]
def k0_off31 (k0_t7 : Fin k0_t7_loop.trips) : Fin 2 → Nat :=
  let c0_i32_74 : BitVec 32 := 0#32
  let c1_i32_76 : BitVec 32 := 1#32
  let arg28 : BitVec 32 := Scf.iv c0_i32_74 c1_i32_76 k0_t7
  let c8_i32_199 : BitVec 32 := 8#32
  let v315 : BitVec 32 := Scalar.muli arg28 c8_i32_199
  let v316 : BitVec 32 := v315
  let v325 : Index := Scalar.indexCast v316
  let c384_201 : Index := 384#32
  ![v325.toNat, 384]
def k0_mult13 (k0_t7 : Fin k0_t7_loop.trips) : BitVec 32 :=
  let c0_i32_74 : BitVec 32 := 0#32
  let c1_i32_76 : BitVec 32 := 1#32
  let arg28 : BitVec 32 := Scf.iv c0_i32_74 c1_i32_76 k0_t7
  let c8_i32_210 : BitVec 32 := 8#32
  let v346 : BitVec 32 := Scalar.muli arg28 c8_i32_210
  v346
def k0_off32 (k0_t7 : Fin k0_t7_loop.trips) : Fin 2 → Nat :=
  let c0_i32_74 : BitVec 32 := 0#32
  let c1_i32_76 : BitVec 32 := 1#32
  let arg28 : BitVec 32 := Scf.iv c0_i32_74 c1_i32_76 k0_t7
  let c8_i32_210 : BitVec 32 := 8#32
  let v346 : BitVec 32 := Scalar.muli arg28 c8_i32_210
  let v347 : BitVec 32 := v346
  let v350 : Index := Scalar.indexCast v347
  let c512_211 : Index := 512#32
  ![v350.toNat, 512]
def k0_off33 (k0_t7 : Fin k0_t7_loop.trips) : Fin 2 → Nat :=
  let c0_i32_74 : BitVec 32 := 0#32
  let c1_i32_76 : BitVec 32 := 1#32
  let arg28 : BitVec 32 := Scf.iv c0_i32_74 c1_i32_76 k0_t7
  let c8_i32_210 : BitVec 32 := 8#32
  let v346 : BitVec 32 := Scalar.muli arg28 c8_i32_210
  let v347 : BitVec 32 := v346
  let v356 : Index := Scalar.indexCast v347
  let c640 : Index := 640#32
  ![v356.toNat, 640]
def k0_mult14 (k0_t7 : Fin k0_t7_loop.trips) : BitVec 32 :=
  let c0_i32_74 : BitVec 32 := 0#32
  let c1_i32_76 : BitVec 32 := 1#32
  let arg28 : BitVec 32 := Scf.iv c0_i32_74 c1_i32_76 k0_t7
  let c8_i32_220 : BitVec 32 := 8#32
  let v377 : BitVec 32 := Scalar.muli arg28 c8_i32_220
  v377
def k0_off34 (k0_t7 : Fin k0_t7_loop.trips) : Fin 2 → Nat :=
  let c0_i32_74 : BitVec 32 := 0#32
  let c1_i32_76 : BitVec 32 := 1#32
  let arg28 : BitVec 32 := Scf.iv c0_i32_74 c1_i32_76 k0_t7
  let c8_i32_220 : BitVec 32 := 8#32
  let v377 : BitVec 32 := Scalar.muli arg28 c8_i32_220
  let v378 : BitVec 32 := v377
  let v381 : Index := Scalar.indexCast v378
  let c768 : Index := 768#32
  ![v381.toNat, 768]
def k0_off35 (k0_t7 : Fin k0_t7_loop.trips) : Fin 2 → Nat :=
  let c0_i32_74 : BitVec 32 := 0#32
  let c1_i32_76 : BitVec 32 := 1#32
  let arg28 : BitVec 32 := Scf.iv c0_i32_74 c1_i32_76 k0_t7
  let c8_i32_220 : BitVec 32 := 8#32
  let v377 : BitVec 32 := Scalar.muli arg28 c8_i32_220
  let v378 : BitVec 32 := v377
  let v387 : Index := Scalar.indexCast v378
  let c896 : Index := 896#32
  ![v387.toNat, 896]
@[reducible] def k0_t8_loop : Scf.Loop 32 :=
  let c0_i32_98 : BitVec 32 := 0#32
  let c256_i32_99 : BitVec 32 := 256#32
  let v192 : BitVec 32 := Scalar.addi c0_i32_98 c256_i32_99
  let c1_i32_100 : BitVec 32 := 1#32
  ⟨c0_i32_98, v192, c1_i32_100⟩
def k0_mult15 (k0_t8 : Fin k0_t8_loop.trips) : BitVec 32 :=
  let c0_i32_98 : BitVec 32 := 0#32
  let c1_i32_100 : BitVec 32 := 1#32
  let arg28 : BitVec 32 := Scf.iv c0_i32_98 c1_i32_100 k0_t8
  let c4_i32_180 : BitVec 32 := 4#32
  let v266 : BitVec 32 := Scalar.muli arg28 c4_i32_180
  let c4_i32_181 : BitVec 32 := 4#32
  let v267 : BitVec 32 := Scalar.muli v266 c4_i32_181
  v267
def k0_off36 (k0_t8 : Fin k0_t8_loop.trips) (c0_i32_182 : BitVec 32) : Fin 4 → Nat :=
  let c0_i32_98 : BitVec 32 := 0#32
  let c1_i32_100 : BitVec 32 := 1#32
  let arg28 : BitVec 32 := Scf.iv c0_i32_98 c1_i32_100 k0_t8
  let c4_i32_180 : BitVec 32 := 4#32
  let v266 : BitVec 32 := Scalar.muli arg28 c4_i32_180
  let v269 : BitVec 32 := Scalar.addi v266 c0_i32_182
  let v270 : Index := Scalar.indexCast v269
  let c0_183 : Index := 0#32
  let c0_184 : Index := 0#32
  let c0_185 : Index := 0#32
  ![v270.toNat, 0, 0, 0]
def k0_off37 (k0_t8 : Fin k0_t8_loop.trips) : Fin 4 → Nat :=
  let c0_i32_98 : BitVec 32 := 0#32
  let c1_i32_100 : BitVec 32 := 1#32
  let arg28 : BitVec 32 := Scf.iv c0_i32_98 c1_i32_100 k0_t8
  let c4_i32_180 : BitVec 32 := 4#32
  let v266 : BitVec 32 := Scalar.muli arg28 c4_i32_180
  let v558 : Index := Scalar.indexCast v266
  let c0_258 : Index := 0#32
  let c0_259 : Index := 0#32
  let c0_260 : Index := 0#32
  ![v558.toNat, 0, 0, 0]
def k0_off38 (k0_t8 : Fin k0_t8_loop.trips) : Fin 2 → Nat :=
  let c0_i32_98 : BitVec 32 := 0#32
  let c1_i32_100 : BitVec 32 := 1#32
  let arg28 : BitVec 32 := Scf.iv c0_i32_98 c1_i32_100 k0_t8
  let c4_i32_180 : BitVec 32 := 4#32
  let v266 : BitVec 32 := Scalar.muli arg28 c4_i32_180
  let c4_i32_181 : BitVec 32 := 4#32
  let v267 : BitVec 32 := Scalar.muli v266 c4_i32_181
  let v268 : BitVec 32 := v267
  let v564 : Index := Scalar.indexCast v268
  let c0_261 : Index := 0#32
  ![v564.toNat, 0]
@[reducible] def k0_t9_loop : Scf.Loop 32 :=
  let c0_i32_104 : BitVec 32 := 0#32
  let c64_i32_105 : BitVec 32 := 64#32
  let v200 : BitVec 32 := Scalar.addi c0_i32_104 c64_i32_105
  let c1_i32_106 : BitVec 32 := 1#32
  ⟨c0_i32_104, v200, c1_i32_106⟩
def k0_off39 (k0_t9 : Fin k0_t9_loop.trips) (c0_i32_181 : BitVec 32) : Fin 2 → Nat :=
  let c0_i32_104 : BitVec 32 := 0#32
  let c1_i32_106 : BitVec 32 := 1#32
  let arg28 : BitVec 32 := Scf.iv c0_i32_104 c1_i32_106 k0_t9
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let v269 : Index := Scalar.indexCast v268
  let c0_182 : Index := 0#32
  ![v269.toNat, 0]
def k0_off40 (k0_t9 : Fin k0_t9_loop.trips) (c0_i32_181 : BitVec 32) : Fin 2 → Nat :=
  let c0_i32_104 : BitVec 32 := 0#32
  let c1_i32_106 : BitVec 32 := 1#32
  let arg28 : BitVec 32 := Scf.iv c0_i32_104 c1_i32_106 k0_t9
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let c4_i32_183 : BitVec 32 := 4#32
  let v271 : BitVec 32 := Scalar.addi v268 c4_i32_183
  let v272 : Index := Scalar.indexCast v271
  let c0_184 : Index := 0#32
  ![v272.toNat, 0]
def k0_mult16 (k0_t9 : Fin k0_t9_loop.trips) : BitVec 32 :=
  let c0_i32_104 : BitVec 32 := 0#32
  let c1_i32_106 : BitVec 32 := 1#32
  let arg28 : BitVec 32 := Scf.iv c0_i32_104 c1_i32_106 k0_t9
  let c8_i32_187 : BitVec 32 := 8#32
  let v284 : BitVec 32 := Scalar.muli arg28 c8_i32_187
  v284
def k0_off41 (k0_t9 : Fin k0_t9_loop.trips) : Fin 2 → Nat :=
  let c0_i32_104 : BitVec 32 := 0#32
  let c1_i32_106 : BitVec 32 := 1#32
  let arg28 : BitVec 32 := Scf.iv c0_i32_104 c1_i32_106 k0_t9
  let c8_i32_187 : BitVec 32 := 8#32
  let v284 : BitVec 32 := Scalar.muli arg28 c8_i32_187
  let v285 : BitVec 32 := v284
  let v288 : Index := Scalar.indexCast v285
  let c0_188 : Index := 0#32
  ![v288.toNat, 0]
def k0_off42 (k0_t9 : Fin k0_t9_loop.trips) : Fin 2 → Nat :=
  let c0_i32_104 : BitVec 32 := 0#32
  let c1_i32_106 : BitVec 32 := 1#32
  let arg28 : BitVec 32 := Scf.iv c0_i32_104 c1_i32_106 k0_t9
  let c8_i32_187 : BitVec 32 := 8#32
  let v284 : BitVec 32 := Scalar.muli arg28 c8_i32_187
  let v285 : BitVec 32 := v284
  let v294 : Index := Scalar.indexCast v285
  let c128_189 : Index := 128#32
  ![v294.toNat, 128]
def k0_mult17 (k0_t9 : Fin k0_t9_loop.trips) : BitVec 32 :=
  let c0_i32_104 : BitVec 32 := 0#32
  let c1_i32_106 : BitVec 32 := 1#32
  let arg28 : BitVec 32 := Scf.iv c0_i32_104 c1_i32_106 k0_t9
  let c8_i32_199 : BitVec 32 := 8#32
  let v315 : BitVec 32 := Scalar.muli arg28 c8_i32_199
  v315
def k0_off43 (k0_t9 : Fin k0_t9_loop.trips) : Fin 2 → Nat :=
  let c0_i32_104 : BitVec 32 := 0#32
  let c1_i32_106 : BitVec 32 := 1#32
  let arg28 : BitVec 32 := Scf.iv c0_i32_104 c1_i32_106 k0_t9
  let c8_i32_199 : BitVec 32 := 8#32
  let v315 : BitVec 32 := Scalar.muli arg28 c8_i32_199
  let v316 : BitVec 32 := v315
  let v319 : Index := Scalar.indexCast v316
  let c256_200 : Index := 256#32
  ![v319.toNat, 256]
def k0_off44 (k0_t9 : Fin k0_t9_loop.trips) : Fin 2 → Nat :=
  let c0_i32_104 : BitVec 32 := 0#32
  let c1_i32_106 : BitVec 32 := 1#32
  let arg28 : BitVec 32 := Scf.iv c0_i32_104 c1_i32_106 k0_t9
  let c8_i32_199 : BitVec 32 := 8#32
  let v315 : BitVec 32 := Scalar.muli arg28 c8_i32_199
  let v316 : BitVec 32 := v315
  let v325 : Index := Scalar.indexCast v316
  let c384_201 : Index := 384#32
  ![v325.toNat, 384]
def k0_mult18 (k0_t9 : Fin k0_t9_loop.trips) : BitVec 32 :=
  let c0_i32_104 : BitVec 32 := 0#32
  let c1_i32_106 : BitVec 32 := 1#32
  let arg28 : BitVec 32 := Scf.iv c0_i32_104 c1_i32_106 k0_t9
  let c8_i32_210 : BitVec 32 := 8#32
  let v346 : BitVec 32 := Scalar.muli arg28 c8_i32_210
  v346
def k0_off45 (k0_t9 : Fin k0_t9_loop.trips) : Fin 2 → Nat :=
  let c0_i32_104 : BitVec 32 := 0#32
  let c1_i32_106 : BitVec 32 := 1#32
  let arg28 : BitVec 32 := Scf.iv c0_i32_104 c1_i32_106 k0_t9
  let c8_i32_210 : BitVec 32 := 8#32
  let v346 : BitVec 32 := Scalar.muli arg28 c8_i32_210
  let v347 : BitVec 32 := v346
  let v350 : Index := Scalar.indexCast v347
  let c512_211 : Index := 512#32
  ![v350.toNat, 512]
def k0_off46 (k0_t9 : Fin k0_t9_loop.trips) : Fin 2 → Nat :=
  let c0_i32_104 : BitVec 32 := 0#32
  let c1_i32_106 : BitVec 32 := 1#32
  let arg28 : BitVec 32 := Scf.iv c0_i32_104 c1_i32_106 k0_t9
  let c8_i32_210 : BitVec 32 := 8#32
  let v346 : BitVec 32 := Scalar.muli arg28 c8_i32_210
  let v347 : BitVec 32 := v346
  let v356 : Index := Scalar.indexCast v347
  let c640 : Index := 640#32
  ![v356.toNat, 640]
def k0_mult19 (k0_t9 : Fin k0_t9_loop.trips) : BitVec 32 :=
  let c0_i32_104 : BitVec 32 := 0#32
  let c1_i32_106 : BitVec 32 := 1#32
  let arg28 : BitVec 32 := Scf.iv c0_i32_104 c1_i32_106 k0_t9
  let c8_i32_220 : BitVec 32 := 8#32
  let v377 : BitVec 32 := Scalar.muli arg28 c8_i32_220
  v377
def k0_off47 (k0_t9 : Fin k0_t9_loop.trips) : Fin 2 → Nat :=
  let c0_i32_104 : BitVec 32 := 0#32
  let c1_i32_106 : BitVec 32 := 1#32
  let arg28 : BitVec 32 := Scf.iv c0_i32_104 c1_i32_106 k0_t9
  let c8_i32_220 : BitVec 32 := 8#32
  let v377 : BitVec 32 := Scalar.muli arg28 c8_i32_220
  let v378 : BitVec 32 := v377
  let v381 : Index := Scalar.indexCast v378
  let c768 : Index := 768#32
  ![v381.toNat, 768]
def k0_off48 (k0_t9 : Fin k0_t9_loop.trips) : Fin 2 → Nat :=
  let c0_i32_104 : BitVec 32 := 0#32
  let c1_i32_106 : BitVec 32 := 1#32
  let arg28 : BitVec 32 := Scf.iv c0_i32_104 c1_i32_106 k0_t9
  let c8_i32_220 : BitVec 32 := 8#32
  let v377 : BitVec 32 := Scalar.muli arg28 c8_i32_220
  let v378 : BitVec 32 := v377
  let v387 : Index := Scalar.indexCast v378
  let c896 : Index := 896#32
  ![v387.toNat, 896]
def k0_mult20 (i : grid0.Coords) : BitVec 32 :=
  let arg0 : BitVec 32 := BitVec.ofNat 32 (i 0).val
  let c8_i32_108 : BitVec 32 := 8#32
  let v201 : BitVec 32 := Scalar.muli arg0 c8_i32_108
  v201
@[reducible] def k0_t10_loop : Scf.Loop 32 :=
  let c0_i32_109 : BitVec 32 := 0#32
  let c32_i32_110 : BitVec 32 := 32#32
  let v203 : BitVec 32 := Scalar.addi c0_i32_109 c32_i32_110
  let c1_i32_111 : BitVec 32 := 1#32
  ⟨c0_i32_109, v203, c1_i32_111⟩
def k0_off49 (i : grid0.Coords) : Fin 3 → Nat :=
  let c1_180 : Index := 1#32
  let arg0 : BitVec 32 := BitVec.ofNat 32 (i 0).val
  let c8_i32_108 : BitVec 32 := 8#32
  let v201 : BitVec 32 := Scalar.muli arg0 c8_i32_108
  let v202 : BitVec 32 := v201
  let v266 : Index := Scalar.indexCast v202
  let c0_181 : Index := 0#32
  ![1, v266.toNat, 0]
def k0_off50 (k0_t10 : Fin k0_t10_loop.trips) : Fin 4 → Nat :=
  let c0_i32_183 : BitVec 32 := 0#32
  let c0_i32_109 : BitVec 32 := 0#32
  let c1_i32_111 : BitVec 32 := 1#32
  let arg28 : BitVec 32 := Scf.iv c0_i32_109 c1_i32_111 k0_t10
  let c4_i32_182 : BitVec 32 := 4#32
  let v273 : BitVec 32 := Scalar.muli arg28 c4_i32_182
  let v274 : BitVec 32 := Scalar.addi c0_i32_183 v273
  let v275 : Index := Scalar.indexCast v274
  let c0_184 : Index := 0#32
  let c0_185 : Index := 0#32
  let c0_186 : Index := 0#32
  ![v275.toNat, 0, 0, 0]
def k0_mult21 (k0_t10 : Fin k0_t10_loop.trips) : BitVec 32 :=
  let c0_i32_183 : BitVec 32 := 0#32
  let c0_i32_109 : BitVec 32 := 0#32
  let c1_i32_111 : BitVec 32 := 1#32
  let arg28 : BitVec 32 := Scf.iv c0_i32_109 c1_i32_111 k0_t10
  let c4_i32_182 : BitVec 32 := 4#32
  let v273 : BitVec 32 := Scalar.muli arg28 c4_i32_182
  let v274 : BitVec 32 := Scalar.addi c0_i32_183 v273
  let c4_i32_187 : BitVec 32 := 4#32
  let v281 : BitVec 32 := Scalar.muli v274 c4_i32_187
  v281
def k0_off51 (k0_t10 : Fin k0_t10_loop.trips) : Fin 2 → Nat :=
  let c0_i32_183 : BitVec 32 := 0#32
  let c0_i32_109 : BitVec 32 := 0#32
  let c1_i32_111 : BitVec 32 := 1#32
  let arg28 : BitVec 32 := Scf.iv c0_i32_109 c1_i32_111 k0_t10
  let c4_i32_182 : BitVec 32 := 4#32
  let v273 : BitVec 32 := Scalar.muli arg28 c4_i32_182
  let v274 : BitVec 32 := Scalar.addi c0_i32_183 v273
  let c4_i32_187 : BitVec 32 := 4#32
  let v281 : BitVec 32 := Scalar.muli v274 c4_i32_187
  let v282 : BitVec 32 := v281
  let v284 : Index := Scalar.indexCast v282
  let c0_188 : Index := 0#32
  ![v284.toNat, 0]
@[reducible] def k0_t11_loop : Scf.Loop 32 :=
  let c0_i32_113 : BitVec 32 := 0#32
  let c32_i32_114 : BitVec 32 := 32#32
  let v204 : BitVec 32 := Scalar.addi c0_i32_113 c32_i32_114
  let c1_i32_115 : BitVec 32 := 1#32
  ⟨c0_i32_113, v204, c1_i32_115⟩
def k0_off52 (i : grid0.Coords) : Fin 3 → Nat :=
  let c1_180 : Index := 1#32
  let arg0 : BitVec 32 := BitVec.ofNat 32 (i 0).val
  let c8_i32_108 : BitVec 32 := 8#32
  let v201 : BitVec 32 := Scalar.muli arg0 c8_i32_108
  let v202 : BitVec 32 := v201
  let v266 : Index := Scalar.indexCast v202
  let c1_181 : Index := 1#32
  ![1, v266.toNat, 1]
def k0_off53 (k0_t11 : Fin k0_t11_loop.trips) : Fin 4 → Nat :=
  let c128_i32 : BitVec 32 := 128#32
  let c0_i32_113 : BitVec 32 := 0#32
  let c1_i32_115 : BitVec 32 := 1#32
  let arg28 : BitVec 32 := Scf.iv c0_i32_113 c1_i32_115 k0_t11
  let c4_i32_182 : BitVec 32 := 4#32
  let v273 : BitVec 32 := Scalar.muli arg28 c4_i32_182
  let v274 : BitVec 32 := Scalar.addi c128_i32 v273
  let v275 : Index := Scalar.indexCast v274
  let c0_183 : Index := 0#32
  let c0_184 : Index := 0#32
  let c0_185 : Index := 0#32
  ![v275.toNat, 0, 0, 0]
def k0_mult22 (k0_t11 : Fin k0_t11_loop.trips) : BitVec 32 :=
  let c128_i32 : BitVec 32 := 128#32
  let c0_i32_113 : BitVec 32 := 0#32
  let c1_i32_115 : BitVec 32 := 1#32
  let arg28 : BitVec 32 := Scf.iv c0_i32_113 c1_i32_115 k0_t11
  let c4_i32_182 : BitVec 32 := 4#32
  let v273 : BitVec 32 := Scalar.muli arg28 c4_i32_182
  let v274 : BitVec 32 := Scalar.addi c128_i32 v273
  let c4_i32_186 : BitVec 32 := 4#32
  let v281 : BitVec 32 := Scalar.muli v274 c4_i32_186
  v281
def k0_off54 (k0_t11 : Fin k0_t11_loop.trips) : Fin 2 → Nat :=
  let c128_i32 : BitVec 32 := 128#32
  let c0_i32_113 : BitVec 32 := 0#32
  let c1_i32_115 : BitVec 32 := 1#32
  let arg28 : BitVec 32 := Scf.iv c0_i32_113 c1_i32_115 k0_t11
  let c4_i32_182 : BitVec 32 := 4#32
  let v273 : BitVec 32 := Scalar.muli arg28 c4_i32_182
  let v274 : BitVec 32 := Scalar.addi c128_i32 v273
  let c4_i32_186 : BitVec 32 := 4#32
  let v281 : BitVec 32 := Scalar.muli v274 c4_i32_186
  let v282 : BitVec 32 := v281
  let v284 : Index := Scalar.indexCast v282
  let c0_187 : Index := 0#32
  ![v284.toNat, 0]
@[reducible] def k0_t12_loop : Scf.Loop 32 :=
  let c0_i32_117 : BitVec 32 := 0#32
  let c32_i32_118 : BitVec 32 := 32#32
  let v205 : BitVec 32 := Scalar.addi c0_i32_117 c32_i32_118
  let c1_i32_119 : BitVec 32 := 1#32
  ⟨c0_i32_117, v205, c1_i32_119⟩
def k0_off55 (i : grid0.Coords) : Fin 3 → Nat :=
  let c1_180 : Index := 1#32
  let arg0 : BitVec 32 := BitVec.ofNat 32 (i 0).val
  let c8_i32_108 : BitVec 32 := 8#32
  let v201 : BitVec 32 := Scalar.muli arg0 c8_i32_108
  let v202 : BitVec 32 := v201
  let v266 : Index := Scalar.indexCast v202
  let c2_181 : Index := 2#32
  ![1, v266.toNat, 2]
def k0_off56 (k0_t12 : Fin k0_t12_loop.trips) : Fin 4 → Nat :=
  let c256_i32_183 : BitVec 32 := 256#32
  let c0_i32_117 : BitVec 32 := 0#32
  let c1_i32_119 : BitVec 32 := 1#32
  let arg28 : BitVec 32 := Scf.iv c0_i32_117 c1_i32_119 k0_t12
  let c4_i32_182 : BitVec 32 := 4#32
  let v273 : BitVec 32 := Scalar.muli arg28 c4_i32_182
  let v274 : BitVec 32 := Scalar.addi c256_i32_183 v273
  let v275 : Index := Scalar.indexCast v274
  let c0_184 : Index := 0#32
  let c0_185 : Index := 0#32
  let c0_186 : Index := 0#32
  ![v275.toNat, 0, 0, 0]
def k0_mult23 (k0_t12 : Fin k0_t12_loop.trips) : BitVec 32 :=
  let c256_i32_183 : BitVec 32 := 256#32
  let c0_i32_117 : BitVec 32 := 0#32
  let c1_i32_119 : BitVec 32 := 1#32
  let arg28 : BitVec 32 := Scf.iv c0_i32_117 c1_i32_119 k0_t12
  let c4_i32_182 : BitVec 32 := 4#32
  let v273 : BitVec 32 := Scalar.muli arg28 c4_i32_182
  let v274 : BitVec 32 := Scalar.addi c256_i32_183 v273
  let c4_i32_187 : BitVec 32 := 4#32
  let v281 : BitVec 32 := Scalar.muli v274 c4_i32_187
  v281
def k0_off57 (k0_t12 : Fin k0_t12_loop.trips) : Fin 2 → Nat :=
  let c256_i32_183 : BitVec 32 := 256#32
  let c0_i32_117 : BitVec 32 := 0#32
  let c1_i32_119 : BitVec 32 := 1#32
  let arg28 : BitVec 32 := Scf.iv c0_i32_117 c1_i32_119 k0_t12
  let c4_i32_182 : BitVec 32 := 4#32
  let v273 : BitVec 32 := Scalar.muli arg28 c4_i32_182
  let v274 : BitVec 32 := Scalar.addi c256_i32_183 v273
  let c4_i32_187 : BitVec 32 := 4#32
  let v281 : BitVec 32 := Scalar.muli v274 c4_i32_187
  let v282 : BitVec 32 := v281
  let v284 : Index := Scalar.indexCast v282
  let c0_188 : Index := 0#32
  ![v284.toNat, 0]
@[reducible] def k0_t13_loop : Scf.Loop 32 :=
  let c0_i32_121 : BitVec 32 := 0#32
  let c32_i32_122 : BitVec 32 := 32#32
  let v206 : BitVec 32 := Scalar.addi c0_i32_121 c32_i32_122
  let c1_i32_123 : BitVec 32 := 1#32
  ⟨c0_i32_121, v206, c1_i32_123⟩
def k0_off58 (i : grid0.Coords) : Fin 3 → Nat :=
  let c1_180 : Index := 1#32
  let arg0 : BitVec 32 := BitVec.ofNat 32 (i 0).val
  let c8_i32_108 : BitVec 32 := 8#32
  let v201 : BitVec 32 := Scalar.muli arg0 c8_i32_108
  let v202 : BitVec 32 := v201
  let v266 : Index := Scalar.indexCast v202
  let c3_181 : Index := 3#32
  ![1, v266.toNat, 3]
def k0_off59 (k0_t13 : Fin k0_t13_loop.trips) : Fin 4 → Nat :=
  let c384_i32 : BitVec 32 := 384#32
  let c0_i32_121 : BitVec 32 := 0#32
  let c1_i32_123 : BitVec 32 := 1#32
  let arg28 : BitVec 32 := Scf.iv c0_i32_121 c1_i32_123 k0_t13
  let c4_i32_182 : BitVec 32 := 4#32
  let v273 : BitVec 32 := Scalar.muli arg28 c4_i32_182
  let v274 : BitVec 32 := Scalar.addi c384_i32 v273
  let v275 : Index := Scalar.indexCast v274
  let c0_183 : Index := 0#32
  let c0_184 : Index := 0#32
  let c0_185 : Index := 0#32
  ![v275.toNat, 0, 0, 0]
def k0_mult24 (k0_t13 : Fin k0_t13_loop.trips) : BitVec 32 :=
  let c384_i32 : BitVec 32 := 384#32
  let c0_i32_121 : BitVec 32 := 0#32
  let c1_i32_123 : BitVec 32 := 1#32
  let arg28 : BitVec 32 := Scf.iv c0_i32_121 c1_i32_123 k0_t13
  let c4_i32_182 : BitVec 32 := 4#32
  let v273 : BitVec 32 := Scalar.muli arg28 c4_i32_182
  let v274 : BitVec 32 := Scalar.addi c384_i32 v273
  let c4_i32_186 : BitVec 32 := 4#32
  let v281 : BitVec 32 := Scalar.muli v274 c4_i32_186
  v281
def k0_off60 (k0_t13 : Fin k0_t13_loop.trips) : Fin 2 → Nat :=
  let c384_i32 : BitVec 32 := 384#32
  let c0_i32_121 : BitVec 32 := 0#32
  let c1_i32_123 : BitVec 32 := 1#32
  let arg28 : BitVec 32 := Scf.iv c0_i32_121 c1_i32_123 k0_t13
  let c4_i32_182 : BitVec 32 := 4#32
  let v273 : BitVec 32 := Scalar.muli arg28 c4_i32_182
  let v274 : BitVec 32 := Scalar.addi c384_i32 v273
  let c4_i32_186 : BitVec 32 := 4#32
  let v281 : BitVec 32 := Scalar.muli v274 c4_i32_186
  let v282 : BitVec 32 := v281
  let v284 : Index := Scalar.indexCast v282
  let c0_187 : Index := 0#32
  ![v284.toNat, 0]
@[reducible] def k0_t14_loop : Scf.Loop 32 :=
  let c0_i32_125 : BitVec 32 := 0#32
  let c32_i32_126 : BitVec 32 := 32#32
  let v207 : BitVec 32 := Scalar.addi c0_i32_125 c32_i32_126
  let c1_i32_127 : BitVec 32 := 1#32
  ⟨c0_i32_125, v207, c1_i32_127⟩
def k0_off61 (k0_t14 : Fin k0_t14_loop.trips) (c0_i32_181 : BitVec 32) : Fin 2 → Nat :=
  let c0_i32_125 : BitVec 32 := 0#32
  let c1_i32_127 : BitVec 32 := 1#32
  let arg28 : BitVec 32 := Scf.iv c0_i32_125 c1_i32_127 k0_t14
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let v269 : Index := Scalar.indexCast v268
  let c0_182 : Index := 0#32
  ![v269.toNat, 0]
def k0_off62 (k0_t14 : Fin k0_t14_loop.trips) (c0_i32_181 : BitVec 32) : Fin 2 → Nat :=
  let c0_i32_125 : BitVec 32 := 0#32
  let c1_i32_127 : BitVec 32 := 1#32
  let arg28 : BitVec 32 := Scf.iv c0_i32_125 c1_i32_127 k0_t14
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let c4_i32_183 : BitVec 32 := 4#32
  let v271 : BitVec 32 := Scalar.addi v268 c4_i32_183
  let v272 : Index := Scalar.indexCast v271
  let c0_184 : Index := 0#32
  ![v272.toNat, 0]
def k0_mult25 (k0_t14 : Fin k0_t14_loop.trips) : BitVec 32 :=
  let c0_i32_125 : BitVec 32 := 0#32
  let c1_i32_127 : BitVec 32 := 1#32
  let arg28 : BitVec 32 := Scf.iv c0_i32_125 c1_i32_127 k0_t14
  let c8_i32_187 : BitVec 32 := 8#32
  let v284 : BitVec 32 := Scalar.muli arg28 c8_i32_187
  v284
def k0_off63 (k0_t14 : Fin k0_t14_loop.trips) : Fin 2 → Nat :=
  let c0_i32_125 : BitVec 32 := 0#32
  let c1_i32_127 : BitVec 32 := 1#32
  let arg28 : BitVec 32 := Scf.iv c0_i32_125 c1_i32_127 k0_t14
  let c8_i32_187 : BitVec 32 := 8#32
  let v284 : BitVec 32 := Scalar.muli arg28 c8_i32_187
  let v285 : BitVec 32 := v284
  let v288 : Index := Scalar.indexCast v285
  let c0_188 : Index := 0#32
  ![v288.toNat, 0]
def k0_off64 (k0_t14 : Fin k0_t14_loop.trips) : Fin 2 → Nat :=
  let c0_i32_125 : BitVec 32 := 0#32
  let c1_i32_127 : BitVec 32 := 1#32
  let arg28 : BitVec 32 := Scf.iv c0_i32_125 c1_i32_127 k0_t14
  let c8_i32_187 : BitVec 32 := 8#32
  let v284 : BitVec 32 := Scalar.muli arg28 c8_i32_187
  let v285 : BitVec 32 := v284
  let v294 : Index := Scalar.indexCast v285
  let c128_189 : Index := 128#32
  ![v294.toNat, 128]
def k0_mult26 (k0_t14 : Fin k0_t14_loop.trips) : BitVec 32 :=
  let c0_i32_125 : BitVec 32 := 0#32
  let c1_i32_127 : BitVec 32 := 1#32
  let arg28 : BitVec 32 := Scf.iv c0_i32_125 c1_i32_127 k0_t14
  let c8_i32_199 : BitVec 32 := 8#32
  let v315 : BitVec 32 := Scalar.muli arg28 c8_i32_199
  v315
def k0_off65 (k0_t14 : Fin k0_t14_loop.trips) : Fin 2 → Nat :=
  let c0_i32_125 : BitVec 32 := 0#32
  let c1_i32_127 : BitVec 32 := 1#32
  let arg28 : BitVec 32 := Scf.iv c0_i32_125 c1_i32_127 k0_t14
  let c8_i32_199 : BitVec 32 := 8#32
  let v315 : BitVec 32 := Scalar.muli arg28 c8_i32_199
  let v316 : BitVec 32 := v315
  let v319 : Index := Scalar.indexCast v316
  let c256_200 : Index := 256#32
  ![v319.toNat, 256]
def k0_off66 (k0_t14 : Fin k0_t14_loop.trips) : Fin 2 → Nat :=
  let c0_i32_125 : BitVec 32 := 0#32
  let c1_i32_127 : BitVec 32 := 1#32
  let arg28 : BitVec 32 := Scf.iv c0_i32_125 c1_i32_127 k0_t14
  let c8_i32_199 : BitVec 32 := 8#32
  let v315 : BitVec 32 := Scalar.muli arg28 c8_i32_199
  let v316 : BitVec 32 := v315
  let v325 : Index := Scalar.indexCast v316
  let c384_201 : Index := 384#32
  ![v325.toNat, 384]
def k0_mult27 (k0_t14 : Fin k0_t14_loop.trips) : BitVec 32 :=
  let c0_i32_125 : BitVec 32 := 0#32
  let c1_i32_127 : BitVec 32 := 1#32
  let arg28 : BitVec 32 := Scf.iv c0_i32_125 c1_i32_127 k0_t14
  let c8_i32_210 : BitVec 32 := 8#32
  let v346 : BitVec 32 := Scalar.muli arg28 c8_i32_210
  v346
def k0_off67 (k0_t14 : Fin k0_t14_loop.trips) : Fin 2 → Nat :=
  let c0_i32_125 : BitVec 32 := 0#32
  let c1_i32_127 : BitVec 32 := 1#32
  let arg28 : BitVec 32 := Scf.iv c0_i32_125 c1_i32_127 k0_t14
  let c8_i32_210 : BitVec 32 := 8#32
  let v346 : BitVec 32 := Scalar.muli arg28 c8_i32_210
  let v347 : BitVec 32 := v346
  let v350 : Index := Scalar.indexCast v347
  let c512_211 : Index := 512#32
  ![v350.toNat, 512]
def k0_off68 (k0_t14 : Fin k0_t14_loop.trips) : Fin 2 → Nat :=
  let c0_i32_125 : BitVec 32 := 0#32
  let c1_i32_127 : BitVec 32 := 1#32
  let arg28 : BitVec 32 := Scf.iv c0_i32_125 c1_i32_127 k0_t14
  let c8_i32_210 : BitVec 32 := 8#32
  let v346 : BitVec 32 := Scalar.muli arg28 c8_i32_210
  let v347 : BitVec 32 := v346
  let v356 : Index := Scalar.indexCast v347
  let c640 : Index := 640#32
  ![v356.toNat, 640]
def k0_mult28 (k0_t14 : Fin k0_t14_loop.trips) : BitVec 32 :=
  let c0_i32_125 : BitVec 32 := 0#32
  let c1_i32_127 : BitVec 32 := 1#32
  let arg28 : BitVec 32 := Scf.iv c0_i32_125 c1_i32_127 k0_t14
  let c8_i32_220 : BitVec 32 := 8#32
  let v377 : BitVec 32 := Scalar.muli arg28 c8_i32_220
  v377
def k0_off69 (k0_t14 : Fin k0_t14_loop.trips) : Fin 2 → Nat :=
  let c0_i32_125 : BitVec 32 := 0#32
  let c1_i32_127 : BitVec 32 := 1#32
  let arg28 : BitVec 32 := Scf.iv c0_i32_125 c1_i32_127 k0_t14
  let c8_i32_220 : BitVec 32 := 8#32
  let v377 : BitVec 32 := Scalar.muli arg28 c8_i32_220
  let v378 : BitVec 32 := v377
  let v381 : Index := Scalar.indexCast v378
  let c768 : Index := 768#32
  ![v381.toNat, 768]
def k0_off70 (k0_t14 : Fin k0_t14_loop.trips) : Fin 2 → Nat :=
  let c0_i32_125 : BitVec 32 := 0#32
  let c1_i32_127 : BitVec 32 := 1#32
  let arg28 : BitVec 32 := Scf.iv c0_i32_125 c1_i32_127 k0_t14
  let c8_i32_220 : BitVec 32 := 8#32
  let v377 : BitVec 32 := Scalar.muli arg28 c8_i32_220
  let v378 : BitVec 32 := v377
  let v387 : Index := Scalar.indexCast v378
  let c896 : Index := 896#32
  ![v387.toNat, 896]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c15_i32 : BitVec 32 := 15#32
  let v4 : BitVec 1 := Scalar.cmpi .slt arg0 c15_i32
  let v5 : BitVec 1 := Scalar.andi v3 v4
  let v6 : BitVec 32 := Scalar.extui v5
  let c0_i32_2 : BitVec 32 := 0#32
  let v7 : BitVec 1 := Scalar.cmpi .ne v6 c0_i32_2
  v7

@[reducible] def k0_t15_loop : Scf.Loop 32 :=
  let c0_i32_21 : BitVec 32 := 0#32
  let c256_i32 : BitVec 32 := 256#32
  let v59 : BitVec 32 := Scalar.addi c0_i32_21 c256_i32
  let c1_i32_22 : BitVec 32 := 1#32
  ⟨c0_i32_21, v59, c1_i32_22⟩
def k0_mult29 (k0_t15 : Fin k0_t15_loop.trips) : BitVec 32 :=
  let c0_i32_21 : BitVec 32 := 0#32
  let c1_i32_22 : BitVec 32 := 1#32
  let arg28 : BitVec 32 := Scf.iv c0_i32_21 c1_i32_22 k0_t15
  let c4_i32_202 : BitVec 32 := 4#32
  let v255 : BitVec 32 := Scalar.muli arg28 c4_i32_202
  let c4_i32_203 : BitVec 32 := 4#32
  let v256 : BitVec 32 := Scalar.muli v255 c4_i32_203
  v256
def k0_off71 (k0_t15 : Fin k0_t15_loop.trips) (c0_i32_204 : BitVec 32) : Fin 4 → Nat :=
  let c0_i32_21 : BitVec 32 := 0#32
  let c1_i32_22 : BitVec 32 := 1#32
  let arg28 : BitVec 32 := Scf.iv c0_i32_21 c1_i32_22 k0_t15
  let c4_i32_202 : BitVec 32 := 4#32
  let v255 : BitVec 32 := Scalar.muli arg28 c4_i32_202
  let v258 : BitVec 32 := Scalar.addi v255 c0_i32_204
  let v259 : Index := Scalar.indexCast v258
  let c0_205 : Index := 0#32
  let c0_206 : Index := 0#32
  let c0_207 : Index := 0#32
  ![v259.toNat, 0, 0, 0]
def k0_off72 (k0_t15 : Fin k0_t15_loop.trips) : Fin 4 → Nat :=
  let c0_i32_21 : BitVec 32 := 0#32
  let c1_i32_22 : BitVec 32 := 1#32
  let arg28 : BitVec 32 := Scf.iv c0_i32_21 c1_i32_22 k0_t15
  let c4_i32_202 : BitVec 32 := 4#32
  let v255 : BitVec 32 := Scalar.muli arg28 c4_i32_202
  let v547 : Index := Scalar.indexCast v255
  let c0_280 : Index := 0#32
  let c0_281 : Index := 0#32
  let c0_282 : Index := 0#32
  ![v547.toNat, 0, 0, 0]
def k0_off73 (k0_t15 : Fin k0_t15_loop.trips) : Fin 2 → Nat :=
  let c0_i32_21 : BitVec 32 := 0#32
  let c1_i32_22 : BitVec 32 := 1#32
  let arg28 : BitVec 32 := Scf.iv c0_i32_21 c1_i32_22 k0_t15
  let c4_i32_202 : BitVec 32 := 4#32
  let v255 : BitVec 32 := Scalar.muli arg28 c4_i32_202
  let c4_i32_203 : BitVec 32 := 4#32
  let v256 : BitVec 32 := Scalar.muli v255 c4_i32_203
  let v257 : BitVec 32 := v256
  let v553 : Index := Scalar.indexCast v257
  let c0_283 : Index := 0#32
  ![v553.toNat, 0]
@[reducible] def k0_t16_loop : Scf.Loop 32 :=
  let c0_i32_26 : BitVec 32 := 0#32
  let c64_i32 : BitVec 32 := 64#32
  let v67 : BitVec 32 := Scalar.addi c0_i32_26 c64_i32
  let c1_i32_27 : BitVec 32 := 1#32
  ⟨c0_i32_26, v67, c1_i32_27⟩
def k0_off74 (k0_t16 : Fin k0_t16_loop.trips) (c0_i32_203 : BitVec 32) : Fin 2 → Nat :=
  let c0_i32_26 : BitVec 32 := 0#32
  let c1_i32_27 : BitVec 32 := 1#32
  let arg28 : BitVec 32 := Scf.iv c0_i32_26 c1_i32_27 k0_t16
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let v258 : Index := Scalar.indexCast v257
  let c0_204 : Index := 0#32
  ![v258.toNat, 0]
def k0_off75 (k0_t16 : Fin k0_t16_loop.trips) (c0_i32_203 : BitVec 32) : Fin 2 → Nat :=
  let c0_i32_26 : BitVec 32 := 0#32
  let c1_i32_27 : BitVec 32 := 1#32
  let arg28 : BitVec 32 := Scf.iv c0_i32_26 c1_i32_27 k0_t16
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let c4_i32_205 : BitVec 32 := 4#32
  let v260 : BitVec 32 := Scalar.addi v257 c4_i32_205
  let v261 : Index := Scalar.indexCast v260
  let c0_206 : Index := 0#32
  ![v261.toNat, 0]
def k0_mult30 (k0_t16 : Fin k0_t16_loop.trips) : BitVec 32 :=
  let c0_i32_26 : BitVec 32 := 0#32
  let c1_i32_27 : BitVec 32 := 1#32
  let arg28 : BitVec 32 := Scf.iv c0_i32_26 c1_i32_27 k0_t16
  let c8_i32_209 : BitVec 32 := 8#32
  let v273 : BitVec 32 := Scalar.muli arg28 c8_i32_209
  v273
def k0_off76 (k0_t16 : Fin k0_t16_loop.trips) : Fin 2 → Nat :=
  let c0_i32_26 : BitVec 32 := 0#32
  let c1_i32_27 : BitVec 32 := 1#32
  let arg28 : BitVec 32 := Scf.iv c0_i32_26 c1_i32_27 k0_t16
  let c8_i32_209 : BitVec 32 := 8#32
  let v273 : BitVec 32 := Scalar.muli arg28 c8_i32_209
  let v274 : BitVec 32 := v273
  let v277 : Index := Scalar.indexCast v274
  let c0_210 : Index := 0#32
  ![v277.toNat, 0]
def k0_off77 (k0_t16 : Fin k0_t16_loop.trips) : Fin 2 → Nat :=
  let c0_i32_26 : BitVec 32 := 0#32
  let c1_i32_27 : BitVec 32 := 1#32
  let arg28 : BitVec 32 := Scf.iv c0_i32_26 c1_i32_27 k0_t16
  let c8_i32_209 : BitVec 32 := 8#32
  let v273 : BitVec 32 := Scalar.muli arg28 c8_i32_209
  let v274 : BitVec 32 := v273
  let v283 : Index := Scalar.indexCast v274
  let c128 : Index := 128#32
  ![v283.toNat, 128]
def k0_mult31 (k0_t16 : Fin k0_t16_loop.trips) : BitVec 32 :=
  let c0_i32_26 : BitVec 32 := 0#32
  let c1_i32_27 : BitVec 32 := 1#32
  let arg28 : BitVec 32 := Scf.iv c0_i32_26 c1_i32_27 k0_t16
  let c8_i32_220 : BitVec 32 := 8#32
  let v304 : BitVec 32 := Scalar.muli arg28 c8_i32_220
  v304
def k0_off78 (k0_t16 : Fin k0_t16_loop.trips) : Fin 2 → Nat :=
  let c0_i32_26 : BitVec 32 := 0#32
  let c1_i32_27 : BitVec 32 := 1#32
  let arg28 : BitVec 32 := Scf.iv c0_i32_26 c1_i32_27 k0_t16
  let c8_i32_220 : BitVec 32 := 8#32
  let v304 : BitVec 32 := Scalar.muli arg28 c8_i32_220
  let v305 : BitVec 32 := v304
  let v308 : Index := Scalar.indexCast v305
  let c256_221 : Index := 256#32
  ![v308.toNat, 256]
def k0_off79 (k0_t16 : Fin k0_t16_loop.trips) : Fin 2 → Nat :=
  let c0_i32_26 : BitVec 32 := 0#32
  let c1_i32_27 : BitVec 32 := 1#32
  let arg28 : BitVec 32 := Scf.iv c0_i32_26 c1_i32_27 k0_t16
  let c8_i32_220 : BitVec 32 := 8#32
  let v304 : BitVec 32 := Scalar.muli arg28 c8_i32_220
  let v305 : BitVec 32 := v304
  let v314 : Index := Scalar.indexCast v305
  let c384 : Index := 384#32
  ![v314.toNat, 384]
def k0_mult32 (k0_t16 : Fin k0_t16_loop.trips) : BitVec 32 :=
  let c0_i32_26 : BitVec 32 := 0#32
  let c1_i32_27 : BitVec 32 := 1#32
  let arg28 : BitVec 32 := Scf.iv c0_i32_26 c1_i32_27 k0_t16
  let c8_i32_230 : BitVec 32 := 8#32
  let v335 : BitVec 32 := Scalar.muli arg28 c8_i32_230
  v335
def k0_off80 (k0_t16 : Fin k0_t16_loop.trips) : Fin 2 → Nat :=
  let c0_i32_26 : BitVec 32 := 0#32
  let c1_i32_27 : BitVec 32 := 1#32
  let arg28 : BitVec 32 := Scf.iv c0_i32_26 c1_i32_27 k0_t16
  let c8_i32_230 : BitVec 32 := 8#32
  let v335 : BitVec 32 := Scalar.muli arg28 c8_i32_230
  let v336 : BitVec 32 := v335
  let v339 : Index := Scalar.indexCast v336
  let c512_231 : Index := 512#32
  ![v339.toNat, 512]
def k0_off81 (k0_t16 : Fin k0_t16_loop.trips) : Fin 2 → Nat :=
  let c0_i32_26 : BitVec 32 := 0#32
  let c1_i32_27 : BitVec 32 := 1#32
  let arg28 : BitVec 32 := Scf.iv c0_i32_26 c1_i32_27 k0_t16
  let c8_i32_230 : BitVec 32 := 8#32
  let v335 : BitVec 32 := Scalar.muli arg28 c8_i32_230
  let v336 : BitVec 32 := v335
  let v345 : Index := Scalar.indexCast v336
  let c640 : Index := 640#32
  ![v345.toNat, 640]
def k0_mult33 (k0_t16 : Fin k0_t16_loop.trips) : BitVec 32 :=
  let c0_i32_26 : BitVec 32 := 0#32
  let c1_i32_27 : BitVec 32 := 1#32
  let arg28 : BitVec 32 := Scf.iv c0_i32_26 c1_i32_27 k0_t16
  let c8_i32_240 : BitVec 32 := 8#32
  let v366 : BitVec 32 := Scalar.muli arg28 c8_i32_240
  v366
def k0_off82 (k0_t16 : Fin k0_t16_loop.trips) : Fin 2 → Nat :=
  let c0_i32_26 : BitVec 32 := 0#32
  let c1_i32_27 : BitVec 32 := 1#32
  let arg28 : BitVec 32 := Scf.iv c0_i32_26 c1_i32_27 k0_t16
  let c8_i32_240 : BitVec 32 := 8#32
  let v366 : BitVec 32 := Scalar.muli arg28 c8_i32_240
  let v367 : BitVec 32 := v366
  let v370 : Index := Scalar.indexCast v367
  let c768 : Index := 768#32
  ![v370.toNat, 768]
def k0_off83 (k0_t16 : Fin k0_t16_loop.trips) : Fin 2 → Nat :=
  let c0_i32_26 : BitVec 32 := 0#32
  let c1_i32_27 : BitVec 32 := 1#32
  let arg28 : BitVec 32 := Scf.iv c0_i32_26 c1_i32_27 k0_t16
  let c8_i32_240 : BitVec 32 := 8#32
  let v366 : BitVec 32 := Scalar.muli arg28 c8_i32_240
  let v367 : BitVec 32 := v366
  let v376 : Index := Scalar.indexCast v367
  let c896 : Index := 896#32
  ![v376.toNat, 896]
def k0_mult34 (i : grid0.Coords) : BitVec 32 :=
  let arg0 : BitVec 32 := BitVec.ofNat 32 (i 0).val
  let c8_i32 : BitVec 32 := 8#32
  let v68 : BitVec 32 := Scalar.muli arg0 c8_i32
  v68
@[reducible] def k0_t17_loop : Scf.Loop 32 :=
  let c0_i32_29 : BitVec 32 := 0#32
  let c32_i32 : BitVec 32 := 32#32
  let v70 : BitVec 32 := Scalar.addi c0_i32_29 c32_i32
  let c1_i32_30 : BitVec 32 := 1#32
  ⟨c0_i32_29, v70, c1_i32_30⟩
def k0_off84 (i : grid0.Coords) : Fin 3 → Nat :=
  let c0_202 : Index := 0#32
  let arg0 : BitVec 32 := BitVec.ofNat 32 (i 0).val
  let c8_i32 : BitVec 32 := 8#32
  let v68 : BitVec 32 := Scalar.muli arg0 c8_i32
  let v69 : BitVec 32 := v68
  let v255 : Index := Scalar.indexCast v69
  let c0_203 : Index := 0#32
  ![0, v255.toNat, 0]
def k0_off85 (k0_t17 : Fin k0_t17_loop.trips) : Fin 4 → Nat :=
  let c0_i32_205 : BitVec 32 := 0#32
  let c0_i32_29 : BitVec 32 := 0#32
  let c1_i32_30 : BitVec 32 := 1#32
  let arg28 : BitVec 32 := Scf.iv c0_i32_29 c1_i32_30 k0_t17
  let c4_i32_204 : BitVec 32 := 4#32
  let v262 : BitVec 32 := Scalar.muli arg28 c4_i32_204
  let v263 : BitVec 32 := Scalar.addi c0_i32_205 v262
  let v264 : Index := Scalar.indexCast v263
  let c0_206 : Index := 0#32
  let c0_207 : Index := 0#32
  let c0_208 : Index := 0#32
  ![v264.toNat, 0, 0, 0]
def k0_mult35 (k0_t17 : Fin k0_t17_loop.trips) : BitVec 32 :=
  let c0_i32_205 : BitVec 32 := 0#32
  let c0_i32_29 : BitVec 32 := 0#32
  let c1_i32_30 : BitVec 32 := 1#32
  let arg28 : BitVec 32 := Scf.iv c0_i32_29 c1_i32_30 k0_t17
  let c4_i32_204 : BitVec 32 := 4#32
  let v262 : BitVec 32 := Scalar.muli arg28 c4_i32_204
  let v263 : BitVec 32 := Scalar.addi c0_i32_205 v262
  let c4_i32_209 : BitVec 32 := 4#32
  let v270 : BitVec 32 := Scalar.muli v263 c4_i32_209
  v270
def k0_off86 (k0_t17 : Fin k0_t17_loop.trips) : Fin 2 → Nat :=
  let c0_i32_205 : BitVec 32 := 0#32
  let c0_i32_29 : BitVec 32 := 0#32
  let c1_i32_30 : BitVec 32 := 1#32
  let arg28 : BitVec 32 := Scf.iv c0_i32_29 c1_i32_30 k0_t17
  let c4_i32_204 : BitVec 32 := 4#32
  let v262 : BitVec 32 := Scalar.muli arg28 c4_i32_204
  let v263 : BitVec 32 := Scalar.addi c0_i32_205 v262
  let c4_i32_209 : BitVec 32 := 4#32
  let v270 : BitVec 32 := Scalar.muli v263 c4_i32_209
  let v271 : BitVec 32 := v270
  let v273 : Index := Scalar.indexCast v271
  let c0_210 : Index := 0#32
  ![v273.toNat, 0]
@[reducible] def k0_t18_loop : Scf.Loop 32 :=
  let c0_i32_32 : BitVec 32 := 0#32
  let c32_i32_33 : BitVec 32 := 32#32
  let v71 : BitVec 32 := Scalar.addi c0_i32_32 c32_i32_33
  let c1_i32_34 : BitVec 32 := 1#32
  ⟨c0_i32_32, v71, c1_i32_34⟩
def k0_off87 (i : grid0.Coords) : Fin 3 → Nat :=
  let c0_202 : Index := 0#32
  let arg0 : BitVec 32 := BitVec.ofNat 32 (i 0).val
  let c8_i32 : BitVec 32 := 8#32
  let v68 : BitVec 32 := Scalar.muli arg0 c8_i32
  let v69 : BitVec 32 := v68
  let v255 : Index := Scalar.indexCast v69
  let c1_203 : Index := 1#32
  ![0, v255.toNat, 1]
def k0_off88 (k0_t18 : Fin k0_t18_loop.trips) : Fin 4 → Nat :=
  let c128_i32 : BitVec 32 := 128#32
  let c0_i32_32 : BitVec 32 := 0#32
  let c1_i32_34 : BitVec 32 := 1#32
  let arg28 : BitVec 32 := Scf.iv c0_i32_32 c1_i32_34 k0_t18
  let c4_i32_204 : BitVec 32 := 4#32
  let v262 : BitVec 32 := Scalar.muli arg28 c4_i32_204
  let v263 : BitVec 32 := Scalar.addi c128_i32 v262
  let v264 : Index := Scalar.indexCast v263
  let c0_205 : Index := 0#32
  let c0_206 : Index := 0#32
  let c0_207 : Index := 0#32
  ![v264.toNat, 0, 0, 0]
def k0_mult36 (k0_t18 : Fin k0_t18_loop.trips) : BitVec 32 :=
  let c128_i32 : BitVec 32 := 128#32
  let c0_i32_32 : BitVec 32 := 0#32
  let c1_i32_34 : BitVec 32 := 1#32
  let arg28 : BitVec 32 := Scf.iv c0_i32_32 c1_i32_34 k0_t18
  let c4_i32_204 : BitVec 32 := 4#32
  let v262 : BitVec 32 := Scalar.muli arg28 c4_i32_204
  let v263 : BitVec 32 := Scalar.addi c128_i32 v262
  let c4_i32_208 : BitVec 32 := 4#32
  let v270 : BitVec 32 := Scalar.muli v263 c4_i32_208
  v270
def k0_off89 (k0_t18 : Fin k0_t18_loop.trips) : Fin 2 → Nat :=
  let c128_i32 : BitVec 32 := 128#32
  let c0_i32_32 : BitVec 32 := 0#32
  let c1_i32_34 : BitVec 32 := 1#32
  let arg28 : BitVec 32 := Scf.iv c0_i32_32 c1_i32_34 k0_t18
  let c4_i32_204 : BitVec 32 := 4#32
  let v262 : BitVec 32 := Scalar.muli arg28 c4_i32_204
  let v263 : BitVec 32 := Scalar.addi c128_i32 v262
  let c4_i32_208 : BitVec 32 := 4#32
  let v270 : BitVec 32 := Scalar.muli v263 c4_i32_208
  let v271 : BitVec 32 := v270
  let v273 : Index := Scalar.indexCast v271
  let c0_209 : Index := 0#32
  ![v273.toNat, 0]
@[reducible] def k0_t19_loop : Scf.Loop 32 :=
  let c0_i32_36 : BitVec 32 := 0#32
  let c32_i32_37 : BitVec 32 := 32#32
  let v72 : BitVec 32 := Scalar.addi c0_i32_36 c32_i32_37
  let c1_i32_38 : BitVec 32 := 1#32
  ⟨c0_i32_36, v72, c1_i32_38⟩
def k0_off90 (i : grid0.Coords) : Fin 3 → Nat :=
  let c0_202 : Index := 0#32
  let arg0 : BitVec 32 := BitVec.ofNat 32 (i 0).val
  let c8_i32 : BitVec 32 := 8#32
  let v68 : BitVec 32 := Scalar.muli arg0 c8_i32
  let v69 : BitVec 32 := v68
  let v255 : Index := Scalar.indexCast v69
  let c2_203 : Index := 2#32
  ![0, v255.toNat, 2]
def k0_off91 (k0_t19 : Fin k0_t19_loop.trips) : Fin 4 → Nat :=
  let c256_i32_205 : BitVec 32 := 256#32
  let c0_i32_36 : BitVec 32 := 0#32
  let c1_i32_38 : BitVec 32 := 1#32
  let arg28 : BitVec 32 := Scf.iv c0_i32_36 c1_i32_38 k0_t19
  let c4_i32_204 : BitVec 32 := 4#32
  let v262 : BitVec 32 := Scalar.muli arg28 c4_i32_204
  let v263 : BitVec 32 := Scalar.addi c256_i32_205 v262
  let v264 : Index := Scalar.indexCast v263
  let c0_206 : Index := 0#32
  let c0_207 : Index := 0#32
  let c0_208 : Index := 0#32
  ![v264.toNat, 0, 0, 0]
def k0_mult37 (k0_t19 : Fin k0_t19_loop.trips) : BitVec 32 :=
  let c256_i32_205 : BitVec 32 := 256#32
  let c0_i32_36 : BitVec 32 := 0#32
  let c1_i32_38 : BitVec 32 := 1#32
  let arg28 : BitVec 32 := Scf.iv c0_i32_36 c1_i32_38 k0_t19
  let c4_i32_204 : BitVec 32 := 4#32
  let v262 : BitVec 32 := Scalar.muli arg28 c4_i32_204
  let v263 : BitVec 32 := Scalar.addi c256_i32_205 v262
  let c4_i32_209 : BitVec 32 := 4#32
  let v270 : BitVec 32 := Scalar.muli v263 c4_i32_209
  v270
def k0_off92 (k0_t19 : Fin k0_t19_loop.trips) : Fin 2 → Nat :=
  let c256_i32_205 : BitVec 32 := 256#32
  let c0_i32_36 : BitVec 32 := 0#32
  let c1_i32_38 : BitVec 32 := 1#32
  let arg28 : BitVec 32 := Scf.iv c0_i32_36 c1_i32_38 k0_t19
  let c4_i32_204 : BitVec 32 := 4#32
  let v262 : BitVec 32 := Scalar.muli arg28 c4_i32_204
  let v263 : BitVec 32 := Scalar.addi c256_i32_205 v262
  let c4_i32_209 : BitVec 32 := 4#32
  let v270 : BitVec 32 := Scalar.muli v263 c4_i32_209
  let v271 : BitVec 32 := v270
  let v273 : Index := Scalar.indexCast v271
  let c0_210 : Index := 0#32
  ![v273.toNat, 0]
@[reducible] def k0_t20_loop : Scf.Loop 32 :=
  let c0_i32_40 : BitVec 32 := 0#32
  let c32_i32_41 : BitVec 32 := 32#32
  let v73 : BitVec 32 := Scalar.addi c0_i32_40 c32_i32_41
  let c1_i32_42 : BitVec 32 := 1#32
  ⟨c0_i32_40, v73, c1_i32_42⟩
def k0_off93 (i : grid0.Coords) : Fin 3 → Nat :=
  let c0_202 : Index := 0#32
  let arg0 : BitVec 32 := BitVec.ofNat 32 (i 0).val
  let c8_i32 : BitVec 32 := 8#32
  let v68 : BitVec 32 := Scalar.muli arg0 c8_i32
  let v69 : BitVec 32 := v68
  let v255 : Index := Scalar.indexCast v69
  let c3_203 : Index := 3#32
  ![0, v255.toNat, 3]
def k0_off94 (k0_t20 : Fin k0_t20_loop.trips) : Fin 4 → Nat :=
  let c384_i32 : BitVec 32 := 384#32
  let c0_i32_40 : BitVec 32 := 0#32
  let c1_i32_42 : BitVec 32 := 1#32
  let arg28 : BitVec 32 := Scf.iv c0_i32_40 c1_i32_42 k0_t20
  let c4_i32_204 : BitVec 32 := 4#32
  let v262 : BitVec 32 := Scalar.muli arg28 c4_i32_204
  let v263 : BitVec 32 := Scalar.addi c384_i32 v262
  let v264 : Index := Scalar.indexCast v263
  let c0_205 : Index := 0#32
  let c0_206 : Index := 0#32
  let c0_207 : Index := 0#32
  ![v264.toNat, 0, 0, 0]
def k0_mult38 (k0_t20 : Fin k0_t20_loop.trips) : BitVec 32 :=
  let c384_i32 : BitVec 32 := 384#32
  let c0_i32_40 : BitVec 32 := 0#32
  let c1_i32_42 : BitVec 32 := 1#32
  let arg28 : BitVec 32 := Scf.iv c0_i32_40 c1_i32_42 k0_t20
  let c4_i32_204 : BitVec 32 := 4#32
  let v262 : BitVec 32 := Scalar.muli arg28 c4_i32_204
  let v263 : BitVec 32 := Scalar.addi c384_i32 v262
  let c4_i32_208 : BitVec 32 := 4#32
  let v270 : BitVec 32 := Scalar.muli v263 c4_i32_208
  v270
def k0_off95 (k0_t20 : Fin k0_t20_loop.trips) : Fin 2 → Nat :=
  let c384_i32 : BitVec 32 := 384#32
  let c0_i32_40 : BitVec 32 := 0#32
  let c1_i32_42 : BitVec 32 := 1#32
  let arg28 : BitVec 32 := Scf.iv c0_i32_40 c1_i32_42 k0_t20
  let c4_i32_204 : BitVec 32 := 4#32
  let v262 : BitVec 32 := Scalar.muli arg28 c4_i32_204
  let v263 : BitVec 32 := Scalar.addi c384_i32 v262
  let c4_i32_208 : BitVec 32 := 4#32
  let v270 : BitVec 32 := Scalar.muli v263 c4_i32_208
  let v271 : BitVec 32 := v270
  let v273 : Index := Scalar.indexCast v271
  let c0_209 : Index := 0#32
  ![v273.toNat, 0]
@[reducible] def k0_t21_loop : Scf.Loop 32 :=
  let c0_i32_44 : BitVec 32 := 0#32
  let c32_i32_45 : BitVec 32 := 32#32
  let v74 : BitVec 32 := Scalar.addi c0_i32_44 c32_i32_45
  let c1_i32_46 : BitVec 32 := 1#32
  ⟨c0_i32_44, v74, c1_i32_46⟩
def k0_off96 (k0_t21 : Fin k0_t21_loop.trips) (c0_i32_203 : BitVec 32) : Fin 2 → Nat :=
  let c0_i32_44 : BitVec 32 := 0#32
  let c1_i32_46 : BitVec 32 := 1#32
  let arg28 : BitVec 32 := Scf.iv c0_i32_44 c1_i32_46 k0_t21
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let v258 : Index := Scalar.indexCast v257
  let c0_204 : Index := 0#32
  ![v258.toNat, 0]
def k0_off97 (k0_t21 : Fin k0_t21_loop.trips) (c0_i32_203 : BitVec 32) : Fin 2 → Nat :=
  let c0_i32_44 : BitVec 32 := 0#32
  let c1_i32_46 : BitVec 32 := 1#32
  let arg28 : BitVec 32 := Scf.iv c0_i32_44 c1_i32_46 k0_t21
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let c4_i32_205 : BitVec 32 := 4#32
  let v260 : BitVec 32 := Scalar.addi v257 c4_i32_205
  let v261 : Index := Scalar.indexCast v260
  let c0_206 : Index := 0#32
  ![v261.toNat, 0]
def k0_mult39 (k0_t21 : Fin k0_t21_loop.trips) : BitVec 32 :=
  let c0_i32_44 : BitVec 32 := 0#32
  let c1_i32_46 : BitVec 32 := 1#32
  let arg28 : BitVec 32 := Scf.iv c0_i32_44 c1_i32_46 k0_t21
  let c8_i32_209 : BitVec 32 := 8#32
  let v273 : BitVec 32 := Scalar.muli arg28 c8_i32_209
  v273
def k0_off98 (k0_t21 : Fin k0_t21_loop.trips) : Fin 2 → Nat :=
  let c0_i32_44 : BitVec 32 := 0#32
  let c1_i32_46 : BitVec 32 := 1#32
  let arg28 : BitVec 32 := Scf.iv c0_i32_44 c1_i32_46 k0_t21
  let c8_i32_209 : BitVec 32 := 8#32
  let v273 : BitVec 32 := Scalar.muli arg28 c8_i32_209
  let v274 : BitVec 32 := v273
  let v277 : Index := Scalar.indexCast v274
  let c0_210 : Index := 0#32
  ![v277.toNat, 0]
def k0_off99 (k0_t21 : Fin k0_t21_loop.trips) : Fin 2 → Nat :=
  let c0_i32_44 : BitVec 32 := 0#32
  let c1_i32_46 : BitVec 32 := 1#32
  let arg28 : BitVec 32 := Scf.iv c0_i32_44 c1_i32_46 k0_t21
  let c8_i32_209 : BitVec 32 := 8#32
  let v273 : BitVec 32 := Scalar.muli arg28 c8_i32_209
  let v274 : BitVec 32 := v273
  let v283 : Index := Scalar.indexCast v274
  let c128 : Index := 128#32
  ![v283.toNat, 128]
def k0_mult40 (k0_t21 : Fin k0_t21_loop.trips) : BitVec 32 :=
  let c0_i32_44 : BitVec 32 := 0#32
  let c1_i32_46 : BitVec 32 := 1#32
  let arg28 : BitVec 32 := Scf.iv c0_i32_44 c1_i32_46 k0_t21
  let c8_i32_220 : BitVec 32 := 8#32
  let v304 : BitVec 32 := Scalar.muli arg28 c8_i32_220
  v304
def k0_off100 (k0_t21 : Fin k0_t21_loop.trips) : Fin 2 → Nat :=
  let c0_i32_44 : BitVec 32 := 0#32
  let c1_i32_46 : BitVec 32 := 1#32
  let arg28 : BitVec 32 := Scf.iv c0_i32_44 c1_i32_46 k0_t21
  let c8_i32_220 : BitVec 32 := 8#32
  let v304 : BitVec 32 := Scalar.muli arg28 c8_i32_220
  let v305 : BitVec 32 := v304
  let v308 : Index := Scalar.indexCast v305
  let c256_221 : Index := 256#32
  ![v308.toNat, 256]
def k0_off101 (k0_t21 : Fin k0_t21_loop.trips) : Fin 2 → Nat :=
  let c0_i32_44 : BitVec 32 := 0#32
  let c1_i32_46 : BitVec 32 := 1#32
  let arg28 : BitVec 32 := Scf.iv c0_i32_44 c1_i32_46 k0_t21
  let c8_i32_220 : BitVec 32 := 8#32
  let v304 : BitVec 32 := Scalar.muli arg28 c8_i32_220
  let v305 : BitVec 32 := v304
  let v314 : Index := Scalar.indexCast v305
  let c384 : Index := 384#32
  ![v314.toNat, 384]
def k0_mult41 (k0_t21 : Fin k0_t21_loop.trips) : BitVec 32 :=
  let c0_i32_44 : BitVec 32 := 0#32
  let c1_i32_46 : BitVec 32 := 1#32
  let arg28 : BitVec 32 := Scf.iv c0_i32_44 c1_i32_46 k0_t21
  let c8_i32_230 : BitVec 32 := 8#32
  let v335 : BitVec 32 := Scalar.muli arg28 c8_i32_230
  v335
def k0_off102 (k0_t21 : Fin k0_t21_loop.trips) : Fin 2 → Nat :=
  let c0_i32_44 : BitVec 32 := 0#32
  let c1_i32_46 : BitVec 32 := 1#32
  let arg28 : BitVec 32 := Scf.iv c0_i32_44 c1_i32_46 k0_t21
  let c8_i32_230 : BitVec 32 := 8#32
  let v335 : BitVec 32 := Scalar.muli arg28 c8_i32_230
  let v336 : BitVec 32 := v335
  let v339 : Index := Scalar.indexCast v336
  let c512_231 : Index := 512#32
  ![v339.toNat, 512]
def k0_off103 (k0_t21 : Fin k0_t21_loop.trips) : Fin 2 → Nat :=
  let c0_i32_44 : BitVec 32 := 0#32
  let c1_i32_46 : BitVec 32 := 1#32
  let arg28 : BitVec 32 := Scf.iv c0_i32_44 c1_i32_46 k0_t21
  let c8_i32_230 : BitVec 32 := 8#32
  let v335 : BitVec 32 := Scalar.muli arg28 c8_i32_230
  let v336 : BitVec 32 := v335
  let v345 : Index := Scalar.indexCast v336
  let c640 : Index := 640#32
  ![v345.toNat, 640]
def k0_mult42 (k0_t21 : Fin k0_t21_loop.trips) : BitVec 32 :=
  let c0_i32_44 : BitVec 32 := 0#32
  let c1_i32_46 : BitVec 32 := 1#32
  let arg28 : BitVec 32 := Scf.iv c0_i32_44 c1_i32_46 k0_t21
  let c8_i32_240 : BitVec 32 := 8#32
  let v366 : BitVec 32 := Scalar.muli arg28 c8_i32_240
  v366
def k0_off104 (k0_t21 : Fin k0_t21_loop.trips) : Fin 2 → Nat :=
  let c0_i32_44 : BitVec 32 := 0#32
  let c1_i32_46 : BitVec 32 := 1#32
  let arg28 : BitVec 32 := Scf.iv c0_i32_44 c1_i32_46 k0_t21
  let c8_i32_240 : BitVec 32 := 8#32
  let v366 : BitVec 32 := Scalar.muli arg28 c8_i32_240
  let v367 : BitVec 32 := v366
  let v370 : Index := Scalar.indexCast v367
  let c768 : Index := 768#32
  ![v370.toNat, 768]
def k0_off105 (k0_t21 : Fin k0_t21_loop.trips) : Fin 2 → Nat :=
  let c0_i32_44 : BitVec 32 := 0#32
  let c1_i32_46 : BitVec 32 := 1#32
  let arg28 : BitVec 32 := Scf.iv c0_i32_44 c1_i32_46 k0_t21
  let c8_i32_240 : BitVec 32 := 8#32
  let v366 : BitVec 32 := Scalar.muli arg28 c8_i32_240
  let v367 : BitVec 32 := v366
  let v376 : Index := Scalar.indexCast v367
  let c896 : Index := 896#32
  ![v376.toNat, 896]
@[reducible] def k0_t22_loop : Scf.Loop 32 :=
  let c0_i32_115 : BitVec 32 := 0#32
  let c256_i32_116 : BitVec 32 := 256#32
  let v181 : BitVec 32 := Scalar.addi c0_i32_115 c256_i32_116
  let c1_i32_117 : BitVec 32 := 1#32
  ⟨c0_i32_115, v181, c1_i32_117⟩
def k0_mult43 (k0_t22 : Fin k0_t22_loop.trips) : BitVec 32 :=
  let c0_i32_115 : BitVec 32 := 0#32
  let c1_i32_117 : BitVec 32 := 1#32
  let arg28 : BitVec 32 := Scf.iv c0_i32_115 c1_i32_117 k0_t22
  let c4_i32_202 : BitVec 32 := 4#32
  let v255 : BitVec 32 := Scalar.muli arg28 c4_i32_202
  let c4_i32_203 : BitVec 32 := 4#32
  let v256 : BitVec 32 := Scalar.muli v255 c4_i32_203
  v256
def k0_off106 (k0_t22 : Fin k0_t22_loop.trips) (c0_i32_204 : BitVec 32) : Fin 4 → Nat :=
  let c0_i32_115 : BitVec 32 := 0#32
  let c1_i32_117 : BitVec 32 := 1#32
  let arg28 : BitVec 32 := Scf.iv c0_i32_115 c1_i32_117 k0_t22
  let c4_i32_202 : BitVec 32 := 4#32
  let v255 : BitVec 32 := Scalar.muli arg28 c4_i32_202
  let v258 : BitVec 32 := Scalar.addi v255 c0_i32_204
  let v259 : Index := Scalar.indexCast v258
  let c0_205 : Index := 0#32
  let c0_206 : Index := 0#32
  let c0_207 : Index := 0#32
  ![v259.toNat, 0, 0, 0]
def k0_off107 (k0_t22 : Fin k0_t22_loop.trips) : Fin 4 → Nat :=
  let c0_i32_115 : BitVec 32 := 0#32
  let c1_i32_117 : BitVec 32 := 1#32
  let arg28 : BitVec 32 := Scf.iv c0_i32_115 c1_i32_117 k0_t22
  let c4_i32_202 : BitVec 32 := 4#32
  let v255 : BitVec 32 := Scalar.muli arg28 c4_i32_202
  let v547 : Index := Scalar.indexCast v255
  let c0_280 : Index := 0#32
  let c0_281 : Index := 0#32
  let c0_282 : Index := 0#32
  ![v547.toNat, 0, 0, 0]
def k0_off108 (k0_t22 : Fin k0_t22_loop.trips) : Fin 2 → Nat :=
  let c0_i32_115 : BitVec 32 := 0#32
  let c1_i32_117 : BitVec 32 := 1#32
  let arg28 : BitVec 32 := Scf.iv c0_i32_115 c1_i32_117 k0_t22
  let c4_i32_202 : BitVec 32 := 4#32
  let v255 : BitVec 32 := Scalar.muli arg28 c4_i32_202
  let c4_i32_203 : BitVec 32 := 4#32
  let v256 : BitVec 32 := Scalar.muli v255 c4_i32_203
  let v257 : BitVec 32 := v256
  let v553 : Index := Scalar.indexCast v257
  let c0_283 : Index := 0#32
  ![v553.toNat, 0]
@[reducible] def k0_t23_loop : Scf.Loop 32 :=
  let c0_i32_121 : BitVec 32 := 0#32
  let c64_i32_122 : BitVec 32 := 64#32
  let v189 : BitVec 32 := Scalar.addi c0_i32_121 c64_i32_122
  let c1_i32_123 : BitVec 32 := 1#32
  ⟨c0_i32_121, v189, c1_i32_123⟩
def k0_off109 (k0_t23 : Fin k0_t23_loop.trips) (c0_i32_203 : BitVec 32) : Fin 2 → Nat :=
  let c0_i32_121 : BitVec 32 := 0#32
  let c1_i32_123 : BitVec 32 := 1#32
  let arg28 : BitVec 32 := Scf.iv c0_i32_121 c1_i32_123 k0_t23
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let v258 : Index := Scalar.indexCast v257
  let c0_204 : Index := 0#32
  ![v258.toNat, 0]
def k0_off110 (k0_t23 : Fin k0_t23_loop.trips) (c0_i32_203 : BitVec 32) : Fin 2 → Nat :=
  let c0_i32_121 : BitVec 32 := 0#32
  let c1_i32_123 : BitVec 32 := 1#32
  let arg28 : BitVec 32 := Scf.iv c0_i32_121 c1_i32_123 k0_t23
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let c4_i32_205 : BitVec 32 := 4#32
  let v260 : BitVec 32 := Scalar.addi v257 c4_i32_205
  let v261 : Index := Scalar.indexCast v260
  let c0_206 : Index := 0#32
  ![v261.toNat, 0]
def k0_mult44 (k0_t23 : Fin k0_t23_loop.trips) : BitVec 32 :=
  let c0_i32_121 : BitVec 32 := 0#32
  let c1_i32_123 : BitVec 32 := 1#32
  let arg28 : BitVec 32 := Scf.iv c0_i32_121 c1_i32_123 k0_t23
  let c8_i32_209 : BitVec 32 := 8#32
  let v273 : BitVec 32 := Scalar.muli arg28 c8_i32_209
  v273
def k0_off111 (k0_t23 : Fin k0_t23_loop.trips) : Fin 2 → Nat :=
  let c0_i32_121 : BitVec 32 := 0#32
  let c1_i32_123 : BitVec 32 := 1#32
  let arg28 : BitVec 32 := Scf.iv c0_i32_121 c1_i32_123 k0_t23
  let c8_i32_209 : BitVec 32 := 8#32
  let v273 : BitVec 32 := Scalar.muli arg28 c8_i32_209
  let v274 : BitVec 32 := v273
  let v277 : Index := Scalar.indexCast v274
  let c0_210 : Index := 0#32
  ![v277.toNat, 0]
def k0_off112 (k0_t23 : Fin k0_t23_loop.trips) : Fin 2 → Nat :=
  let c0_i32_121 : BitVec 32 := 0#32
  let c1_i32_123 : BitVec 32 := 1#32
  let arg28 : BitVec 32 := Scf.iv c0_i32_121 c1_i32_123 k0_t23
  let c8_i32_209 : BitVec 32 := 8#32
  let v273 : BitVec 32 := Scalar.muli arg28 c8_i32_209
  let v274 : BitVec 32 := v273
  let v283 : Index := Scalar.indexCast v274
  let c128 : Index := 128#32
  ![v283.toNat, 128]
def k0_mult45 (k0_t23 : Fin k0_t23_loop.trips) : BitVec 32 :=
  let c0_i32_121 : BitVec 32 := 0#32
  let c1_i32_123 : BitVec 32 := 1#32
  let arg28 : BitVec 32 := Scf.iv c0_i32_121 c1_i32_123 k0_t23
  let c8_i32_220 : BitVec 32 := 8#32
  let v304 : BitVec 32 := Scalar.muli arg28 c8_i32_220
  v304
def k0_off113 (k0_t23 : Fin k0_t23_loop.trips) : Fin 2 → Nat :=
  let c0_i32_121 : BitVec 32 := 0#32
  let c1_i32_123 : BitVec 32 := 1#32
  let arg28 : BitVec 32 := Scf.iv c0_i32_121 c1_i32_123 k0_t23
  let c8_i32_220 : BitVec 32 := 8#32
  let v304 : BitVec 32 := Scalar.muli arg28 c8_i32_220
  let v305 : BitVec 32 := v304
  let v308 : Index := Scalar.indexCast v305
  let c256_221 : Index := 256#32
  ![v308.toNat, 256]
def k0_off114 (k0_t23 : Fin k0_t23_loop.trips) : Fin 2 → Nat :=
  let c0_i32_121 : BitVec 32 := 0#32
  let c1_i32_123 : BitVec 32 := 1#32
  let arg28 : BitVec 32 := Scf.iv c0_i32_121 c1_i32_123 k0_t23
  let c8_i32_220 : BitVec 32 := 8#32
  let v304 : BitVec 32 := Scalar.muli arg28 c8_i32_220
  let v305 : BitVec 32 := v304
  let v314 : Index := Scalar.indexCast v305
  let c384 : Index := 384#32
  ![v314.toNat, 384]
def k0_mult46 (k0_t23 : Fin k0_t23_loop.trips) : BitVec 32 :=
  let c0_i32_121 : BitVec 32 := 0#32
  let c1_i32_123 : BitVec 32 := 1#32
  let arg28 : BitVec 32 := Scf.iv c0_i32_121 c1_i32_123 k0_t23
  let c8_i32_230 : BitVec 32 := 8#32
  let v335 : BitVec 32 := Scalar.muli arg28 c8_i32_230
  v335
def k0_off115 (k0_t23 : Fin k0_t23_loop.trips) : Fin 2 → Nat :=
  let c0_i32_121 : BitVec 32 := 0#32
  let c1_i32_123 : BitVec 32 := 1#32
  let arg28 : BitVec 32 := Scf.iv c0_i32_121 c1_i32_123 k0_t23
  let c8_i32_230 : BitVec 32 := 8#32
  let v335 : BitVec 32 := Scalar.muli arg28 c8_i32_230
  let v336 : BitVec 32 := v335
  let v339 : Index := Scalar.indexCast v336
  let c512_231 : Index := 512#32
  ![v339.toNat, 512]
def k0_off116 (k0_t23 : Fin k0_t23_loop.trips) : Fin 2 → Nat :=
  let c0_i32_121 : BitVec 32 := 0#32
  let c1_i32_123 : BitVec 32 := 1#32
  let arg28 : BitVec 32 := Scf.iv c0_i32_121 c1_i32_123 k0_t23
  let c8_i32_230 : BitVec 32 := 8#32
  let v335 : BitVec 32 := Scalar.muli arg28 c8_i32_230
  let v336 : BitVec 32 := v335
  let v345 : Index := Scalar.indexCast v336
  let c640 : Index := 640#32
  ![v345.toNat, 640]
def k0_mult47 (k0_t23 : Fin k0_t23_loop.trips) : BitVec 32 :=
  let c0_i32_121 : BitVec 32 := 0#32
  let c1_i32_123 : BitVec 32 := 1#32
  let arg28 : BitVec 32 := Scf.iv c0_i32_121 c1_i32_123 k0_t23
  let c8_i32_240 : BitVec 32 := 8#32
  let v366 : BitVec 32 := Scalar.muli arg28 c8_i32_240
  v366
def k0_off117 (k0_t23 : Fin k0_t23_loop.trips) : Fin 2 → Nat :=
  let c0_i32_121 : BitVec 32 := 0#32
  let c1_i32_123 : BitVec 32 := 1#32
  let arg28 : BitVec 32 := Scf.iv c0_i32_121 c1_i32_123 k0_t23
  let c8_i32_240 : BitVec 32 := 8#32
  let v366 : BitVec 32 := Scalar.muli arg28 c8_i32_240
  let v367 : BitVec 32 := v366
  let v370 : Index := Scalar.indexCast v367
  let c768 : Index := 768#32
  ![v370.toNat, 768]
def k0_off118 (k0_t23 : Fin k0_t23_loop.trips) : Fin 2 → Nat :=
  let c0_i32_121 : BitVec 32 := 0#32
  let c1_i32_123 : BitVec 32 := 1#32
  let arg28 : BitVec 32 := Scf.iv c0_i32_121 c1_i32_123 k0_t23
  let c8_i32_240 : BitVec 32 := 8#32
  let v366 : BitVec 32 := Scalar.muli arg28 c8_i32_240
  let v367 : BitVec 32 := v366
  let v376 : Index := Scalar.indexCast v367
  let c896 : Index := 896#32
  ![v376.toNat, 896]
def k0_mult48 (i : grid0.Coords) : BitVec 32 :=
  let arg0 : BitVec 32 := BitVec.ofNat 32 (i 0).val
  let c8_i32_125 : BitVec 32 := 8#32
  let v190 : BitVec 32 := Scalar.muli arg0 c8_i32_125
  v190
@[reducible] def k0_t24_loop : Scf.Loop 32 :=
  let c0_i32_126 : BitVec 32 := 0#32
  let c32_i32_127 : BitVec 32 := 32#32
  let v192 : BitVec 32 := Scalar.addi c0_i32_126 c32_i32_127
  let c1_i32_128 : BitVec 32 := 1#32
  ⟨c0_i32_126, v192, c1_i32_128⟩
def k0_off119 (i : grid0.Coords) : Fin 3 → Nat :=
  let c1_202 : Index := 1#32
  let arg0 : BitVec 32 := BitVec.ofNat 32 (i 0).val
  let c8_i32_125 : BitVec 32 := 8#32
  let v190 : BitVec 32 := Scalar.muli arg0 c8_i32_125
  let v191 : BitVec 32 := v190
  let v255 : Index := Scalar.indexCast v191
  let c0_203 : Index := 0#32
  ![1, v255.toNat, 0]
def k0_off120 (k0_t24 : Fin k0_t24_loop.trips) : Fin 4 → Nat :=
  let c0_i32_205 : BitVec 32 := 0#32
  let c0_i32_126 : BitVec 32 := 0#32
  let c1_i32_128 : BitVec 32 := 1#32
  let arg28 : BitVec 32 := Scf.iv c0_i32_126 c1_i32_128 k0_t24
  let c4_i32_204 : BitVec 32 := 4#32
  let v262 : BitVec 32 := Scalar.muli arg28 c4_i32_204
  let v263 : BitVec 32 := Scalar.addi c0_i32_205 v262
  let v264 : Index := Scalar.indexCast v263
  let c0_206 : Index := 0#32
  let c0_207 : Index := 0#32
  let c0_208 : Index := 0#32
  ![v264.toNat, 0, 0, 0]
def k0_mult49 (k0_t24 : Fin k0_t24_loop.trips) : BitVec 32 :=
  let c0_i32_205 : BitVec 32 := 0#32
  let c0_i32_126 : BitVec 32 := 0#32
  let c1_i32_128 : BitVec 32 := 1#32
  let arg28 : BitVec 32 := Scf.iv c0_i32_126 c1_i32_128 k0_t24
  let c4_i32_204 : BitVec 32 := 4#32
  let v262 : BitVec 32 := Scalar.muli arg28 c4_i32_204
  let v263 : BitVec 32 := Scalar.addi c0_i32_205 v262
  let c4_i32_209 : BitVec 32 := 4#32
  let v270 : BitVec 32 := Scalar.muli v263 c4_i32_209
  v270
def k0_off121 (k0_t24 : Fin k0_t24_loop.trips) : Fin 2 → Nat :=
  let c0_i32_205 : BitVec 32 := 0#32
  let c0_i32_126 : BitVec 32 := 0#32
  let c1_i32_128 : BitVec 32 := 1#32
  let arg28 : BitVec 32 := Scf.iv c0_i32_126 c1_i32_128 k0_t24
  let c4_i32_204 : BitVec 32 := 4#32
  let v262 : BitVec 32 := Scalar.muli arg28 c4_i32_204
  let v263 : BitVec 32 := Scalar.addi c0_i32_205 v262
  let c4_i32_209 : BitVec 32 := 4#32
  let v270 : BitVec 32 := Scalar.muli v263 c4_i32_209
  let v271 : BitVec 32 := v270
  let v273 : Index := Scalar.indexCast v271
  let c0_210 : Index := 0#32
  ![v273.toNat, 0]
@[reducible] def k0_t25_loop : Scf.Loop 32 :=
  let c0_i32_130 : BitVec 32 := 0#32
  let c32_i32_131 : BitVec 32 := 32#32
  let v193 : BitVec 32 := Scalar.addi c0_i32_130 c32_i32_131
  let c1_i32_132 : BitVec 32 := 1#32
  ⟨c0_i32_130, v193, c1_i32_132⟩
def k0_off122 (i : grid0.Coords) : Fin 3 → Nat :=
  let c1_202 : Index := 1#32
  let arg0 : BitVec 32 := BitVec.ofNat 32 (i 0).val
  let c8_i32_125 : BitVec 32 := 8#32
  let v190 : BitVec 32 := Scalar.muli arg0 c8_i32_125
  let v191 : BitVec 32 := v190
  let v255 : Index := Scalar.indexCast v191
  let c1_203 : Index := 1#32
  ![1, v255.toNat, 1]
def k0_off123 (k0_t25 : Fin k0_t25_loop.trips) : Fin 4 → Nat :=
  let c128_i32 : BitVec 32 := 128#32
  let c0_i32_130 : BitVec 32 := 0#32
  let c1_i32_132 : BitVec 32 := 1#32
  let arg28 : BitVec 32 := Scf.iv c0_i32_130 c1_i32_132 k0_t25
  let c4_i32_204 : BitVec 32 := 4#32
  let v262 : BitVec 32 := Scalar.muli arg28 c4_i32_204
  let v263 : BitVec 32 := Scalar.addi c128_i32 v262
  let v264 : Index := Scalar.indexCast v263
  let c0_205 : Index := 0#32
  let c0_206 : Index := 0#32
  let c0_207 : Index := 0#32
  ![v264.toNat, 0, 0, 0]
def k0_mult50 (k0_t25 : Fin k0_t25_loop.trips) : BitVec 32 :=
  let c128_i32 : BitVec 32 := 128#32
  let c0_i32_130 : BitVec 32 := 0#32
  let c1_i32_132 : BitVec 32 := 1#32
  let arg28 : BitVec 32 := Scf.iv c0_i32_130 c1_i32_132 k0_t25
  let c4_i32_204 : BitVec 32 := 4#32
  let v262 : BitVec 32 := Scalar.muli arg28 c4_i32_204
  let v263 : BitVec 32 := Scalar.addi c128_i32 v262
  let c4_i32_208 : BitVec 32 := 4#32
  let v270 : BitVec 32 := Scalar.muli v263 c4_i32_208
  v270
def k0_off124 (k0_t25 : Fin k0_t25_loop.trips) : Fin 2 → Nat :=
  let c128_i32 : BitVec 32 := 128#32
  let c0_i32_130 : BitVec 32 := 0#32
  let c1_i32_132 : BitVec 32 := 1#32
  let arg28 : BitVec 32 := Scf.iv c0_i32_130 c1_i32_132 k0_t25
  let c4_i32_204 : BitVec 32 := 4#32
  let v262 : BitVec 32 := Scalar.muli arg28 c4_i32_204
  let v263 : BitVec 32 := Scalar.addi c128_i32 v262
  let c4_i32_208 : BitVec 32 := 4#32
  let v270 : BitVec 32 := Scalar.muli v263 c4_i32_208
  let v271 : BitVec 32 := v270
  let v273 : Index := Scalar.indexCast v271
  let c0_209 : Index := 0#32
  ![v273.toNat, 0]
@[reducible] def k0_t26_loop : Scf.Loop 32 :=
  let c0_i32_134 : BitVec 32 := 0#32
  let c32_i32_135 : BitVec 32 := 32#32
  let v194 : BitVec 32 := Scalar.addi c0_i32_134 c32_i32_135
  let c1_i32_136 : BitVec 32 := 1#32
  ⟨c0_i32_134, v194, c1_i32_136⟩
def k0_off125 (i : grid0.Coords) : Fin 3 → Nat :=
  let c1_202 : Index := 1#32
  let arg0 : BitVec 32 := BitVec.ofNat 32 (i 0).val
  let c8_i32_125 : BitVec 32 := 8#32
  let v190 : BitVec 32 := Scalar.muli arg0 c8_i32_125
  let v191 : BitVec 32 := v190
  let v255 : Index := Scalar.indexCast v191
  let c2_203 : Index := 2#32
  ![1, v255.toNat, 2]
def k0_off126 (k0_t26 : Fin k0_t26_loop.trips) : Fin 4 → Nat :=
  let c256_i32_205 : BitVec 32 := 256#32
  let c0_i32_134 : BitVec 32 := 0#32
  let c1_i32_136 : BitVec 32 := 1#32
  let arg28 : BitVec 32 := Scf.iv c0_i32_134 c1_i32_136 k0_t26
  let c4_i32_204 : BitVec 32 := 4#32
  let v262 : BitVec 32 := Scalar.muli arg28 c4_i32_204
  let v263 : BitVec 32 := Scalar.addi c256_i32_205 v262
  let v264 : Index := Scalar.indexCast v263
  let c0_206 : Index := 0#32
  let c0_207 : Index := 0#32
  let c0_208 : Index := 0#32
  ![v264.toNat, 0, 0, 0]
def k0_mult51 (k0_t26 : Fin k0_t26_loop.trips) : BitVec 32 :=
  let c256_i32_205 : BitVec 32 := 256#32
  let c0_i32_134 : BitVec 32 := 0#32
  let c1_i32_136 : BitVec 32 := 1#32
  let arg28 : BitVec 32 := Scf.iv c0_i32_134 c1_i32_136 k0_t26
  let c4_i32_204 : BitVec 32 := 4#32
  let v262 : BitVec 32 := Scalar.muli arg28 c4_i32_204
  let v263 : BitVec 32 := Scalar.addi c256_i32_205 v262
  let c4_i32_209 : BitVec 32 := 4#32
  let v270 : BitVec 32 := Scalar.muli v263 c4_i32_209
  v270
def k0_off127 (k0_t26 : Fin k0_t26_loop.trips) : Fin 2 → Nat :=
  let c256_i32_205 : BitVec 32 := 256#32
  let c0_i32_134 : BitVec 32 := 0#32
  let c1_i32_136 : BitVec 32 := 1#32
  let arg28 : BitVec 32 := Scf.iv c0_i32_134 c1_i32_136 k0_t26
  let c4_i32_204 : BitVec 32 := 4#32
  let v262 : BitVec 32 := Scalar.muli arg28 c4_i32_204
  let v263 : BitVec 32 := Scalar.addi c256_i32_205 v262
  let c4_i32_209 : BitVec 32 := 4#32
  let v270 : BitVec 32 := Scalar.muli v263 c4_i32_209
  let v271 : BitVec 32 := v270
  let v273 : Index := Scalar.indexCast v271
  let c0_210 : Index := 0#32
  ![v273.toNat, 0]
@[reducible] def k0_t27_loop : Scf.Loop 32 :=
  let c0_i32_138 : BitVec 32 := 0#32
  let c32_i32_139 : BitVec 32 := 32#32
  let v195 : BitVec 32 := Scalar.addi c0_i32_138 c32_i32_139
  let c1_i32_140 : BitVec 32 := 1#32
  ⟨c0_i32_138, v195, c1_i32_140⟩
def k0_off128 (i : grid0.Coords) : Fin 3 → Nat :=
  let c1_202 : Index := 1#32
  let arg0 : BitVec 32 := BitVec.ofNat 32 (i 0).val
  let c8_i32_125 : BitVec 32 := 8#32
  let v190 : BitVec 32 := Scalar.muli arg0 c8_i32_125
  let v191 : BitVec 32 := v190
  let v255 : Index := Scalar.indexCast v191
  let c3_203 : Index := 3#32
  ![1, v255.toNat, 3]
def k0_off129 (k0_t27 : Fin k0_t27_loop.trips) : Fin 4 → Nat :=
  let c384_i32 : BitVec 32 := 384#32
  let c0_i32_138 : BitVec 32 := 0#32
  let c1_i32_140 : BitVec 32 := 1#32
  let arg28 : BitVec 32 := Scf.iv c0_i32_138 c1_i32_140 k0_t27
  let c4_i32_204 : BitVec 32 := 4#32
  let v262 : BitVec 32 := Scalar.muli arg28 c4_i32_204
  let v263 : BitVec 32 := Scalar.addi c384_i32 v262
  let v264 : Index := Scalar.indexCast v263
  let c0_205 : Index := 0#32
  let c0_206 : Index := 0#32
  let c0_207 : Index := 0#32
  ![v264.toNat, 0, 0, 0]
def k0_mult52 (k0_t27 : Fin k0_t27_loop.trips) : BitVec 32 :=
  let c384_i32 : BitVec 32 := 384#32
  let c0_i32_138 : BitVec 32 := 0#32
  let c1_i32_140 : BitVec 32 := 1#32
  let arg28 : BitVec 32 := Scf.iv c0_i32_138 c1_i32_140 k0_t27
  let c4_i32_204 : BitVec 32 := 4#32
  let v262 : BitVec 32 := Scalar.muli arg28 c4_i32_204
  let v263 : BitVec 32 := Scalar.addi c384_i32 v262
  let c4_i32_208 : BitVec 32 := 4#32
  let v270 : BitVec 32 := Scalar.muli v263 c4_i32_208
  v270
def k0_off130 (k0_t27 : Fin k0_t27_loop.trips) : Fin 2 → Nat :=
  let c384_i32 : BitVec 32 := 384#32
  let c0_i32_138 : BitVec 32 := 0#32
  let c1_i32_140 : BitVec 32 := 1#32
  let arg28 : BitVec 32 := Scf.iv c0_i32_138 c1_i32_140 k0_t27
  let c4_i32_204 : BitVec 32 := 4#32
  let v262 : BitVec 32 := Scalar.muli arg28 c4_i32_204
  let v263 : BitVec 32 := Scalar.addi c384_i32 v262
  let c4_i32_208 : BitVec 32 := 4#32
  let v270 : BitVec 32 := Scalar.muli v263 c4_i32_208
  let v271 : BitVec 32 := v270
  let v273 : Index := Scalar.indexCast v271
  let c0_209 : Index := 0#32
  ![v273.toNat, 0]
@[reducible] def k0_t28_loop : Scf.Loop 32 :=
  let c0_i32_142 : BitVec 32 := 0#32
  let c32_i32_143 : BitVec 32 := 32#32
  let v196 : BitVec 32 := Scalar.addi c0_i32_142 c32_i32_143
  let c1_i32_144 : BitVec 32 := 1#32
  ⟨c0_i32_142, v196, c1_i32_144⟩
def k0_off131 (k0_t28 : Fin k0_t28_loop.trips) (c0_i32_203 : BitVec 32) : Fin 2 → Nat :=
  let c0_i32_142 : BitVec 32 := 0#32
  let c1_i32_144 : BitVec 32 := 1#32
  let arg28 : BitVec 32 := Scf.iv c0_i32_142 c1_i32_144 k0_t28
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let v258 : Index := Scalar.indexCast v257
  let c0_204 : Index := 0#32
  ![v258.toNat, 0]
def k0_off132 (k0_t28 : Fin k0_t28_loop.trips) (c0_i32_203 : BitVec 32) : Fin 2 → Nat :=
  let c0_i32_142 : BitVec 32 := 0#32
  let c1_i32_144 : BitVec 32 := 1#32
  let arg28 : BitVec 32 := Scf.iv c0_i32_142 c1_i32_144 k0_t28
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let c4_i32_205 : BitVec 32 := 4#32
  let v260 : BitVec 32 := Scalar.addi v257 c4_i32_205
  let v261 : Index := Scalar.indexCast v260
  let c0_206 : Index := 0#32
  ![v261.toNat, 0]
def k0_mult53 (k0_t28 : Fin k0_t28_loop.trips) : BitVec 32 :=
  let c0_i32_142 : BitVec 32 := 0#32
  let c1_i32_144 : BitVec 32 := 1#32
  let arg28 : BitVec 32 := Scf.iv c0_i32_142 c1_i32_144 k0_t28
  let c8_i32_209 : BitVec 32 := 8#32
  let v273 : BitVec 32 := Scalar.muli arg28 c8_i32_209
  v273
def k0_off133 (k0_t28 : Fin k0_t28_loop.trips) : Fin 2 → Nat :=
  let c0_i32_142 : BitVec 32 := 0#32
  let c1_i32_144 : BitVec 32 := 1#32
  let arg28 : BitVec 32 := Scf.iv c0_i32_142 c1_i32_144 k0_t28
  let c8_i32_209 : BitVec 32 := 8#32
  let v273 : BitVec 32 := Scalar.muli arg28 c8_i32_209
  let v274 : BitVec 32 := v273
  let v277 : Index := Scalar.indexCast v274
  let c0_210 : Index := 0#32
  ![v277.toNat, 0]
def k0_off134 (k0_t28 : Fin k0_t28_loop.trips) : Fin 2 → Nat :=
  let c0_i32_142 : BitVec 32 := 0#32
  let c1_i32_144 : BitVec 32 := 1#32
  let arg28 : BitVec 32 := Scf.iv c0_i32_142 c1_i32_144 k0_t28
  let c8_i32_209 : BitVec 32 := 8#32
  let v273 : BitVec 32 := Scalar.muli arg28 c8_i32_209
  let v274 : BitVec 32 := v273
  let v283 : Index := Scalar.indexCast v274
  let c128 : Index := 128#32
  ![v283.toNat, 128]
def k0_mult54 (k0_t28 : Fin k0_t28_loop.trips) : BitVec 32 :=
  let c0_i32_142 : BitVec 32 := 0#32
  let c1_i32_144 : BitVec 32 := 1#32
  let arg28 : BitVec 32 := Scf.iv c0_i32_142 c1_i32_144 k0_t28
  let c8_i32_220 : BitVec 32 := 8#32
  let v304 : BitVec 32 := Scalar.muli arg28 c8_i32_220
  v304
def k0_off135 (k0_t28 : Fin k0_t28_loop.trips) : Fin 2 → Nat :=
  let c0_i32_142 : BitVec 32 := 0#32
  let c1_i32_144 : BitVec 32 := 1#32
  let arg28 : BitVec 32 := Scf.iv c0_i32_142 c1_i32_144 k0_t28
  let c8_i32_220 : BitVec 32 := 8#32
  let v304 : BitVec 32 := Scalar.muli arg28 c8_i32_220
  let v305 : BitVec 32 := v304
  let v308 : Index := Scalar.indexCast v305
  let c256_221 : Index := 256#32
  ![v308.toNat, 256]
def k0_off136 (k0_t28 : Fin k0_t28_loop.trips) : Fin 2 → Nat :=
  let c0_i32_142 : BitVec 32 := 0#32
  let c1_i32_144 : BitVec 32 := 1#32
  let arg28 : BitVec 32 := Scf.iv c0_i32_142 c1_i32_144 k0_t28
  let c8_i32_220 : BitVec 32 := 8#32
  let v304 : BitVec 32 := Scalar.muli arg28 c8_i32_220
  let v305 : BitVec 32 := v304
  let v314 : Index := Scalar.indexCast v305
  let c384 : Index := 384#32
  ![v314.toNat, 384]
def k0_mult55 (k0_t28 : Fin k0_t28_loop.trips) : BitVec 32 :=
  let c0_i32_142 : BitVec 32 := 0#32
  let c1_i32_144 : BitVec 32 := 1#32
  let arg28 : BitVec 32 := Scf.iv c0_i32_142 c1_i32_144 k0_t28
  let c8_i32_230 : BitVec 32 := 8#32
  let v335 : BitVec 32 := Scalar.muli arg28 c8_i32_230
  v335
def k0_off137 (k0_t28 : Fin k0_t28_loop.trips) : Fin 2 → Nat :=
  let c0_i32_142 : BitVec 32 := 0#32
  let c1_i32_144 : BitVec 32 := 1#32
  let arg28 : BitVec 32 := Scf.iv c0_i32_142 c1_i32_144 k0_t28
  let c8_i32_230 : BitVec 32 := 8#32
  let v335 : BitVec 32 := Scalar.muli arg28 c8_i32_230
  let v336 : BitVec 32 := v335
  let v339 : Index := Scalar.indexCast v336
  let c512_231 : Index := 512#32
  ![v339.toNat, 512]
def k0_off138 (k0_t28 : Fin k0_t28_loop.trips) : Fin 2 → Nat :=
  let c0_i32_142 : BitVec 32 := 0#32
  let c1_i32_144 : BitVec 32 := 1#32
  let arg28 : BitVec 32 := Scf.iv c0_i32_142 c1_i32_144 k0_t28
  let c8_i32_230 : BitVec 32 := 8#32
  let v335 : BitVec 32 := Scalar.muli arg28 c8_i32_230
  let v336 : BitVec 32 := v335
  let v345 : Index := Scalar.indexCast v336
  let c640 : Index := 640#32
  ![v345.toNat, 640]
def k0_mult56 (k0_t28 : Fin k0_t28_loop.trips) : BitVec 32 :=
  let c0_i32_142 : BitVec 32 := 0#32
  let c1_i32_144 : BitVec 32 := 1#32
  let arg28 : BitVec 32 := Scf.iv c0_i32_142 c1_i32_144 k0_t28
  let c8_i32_240 : BitVec 32 := 8#32
  let v366 : BitVec 32 := Scalar.muli arg28 c8_i32_240
  v366
def k0_off139 (k0_t28 : Fin k0_t28_loop.trips) : Fin 2 → Nat :=
  let c0_i32_142 : BitVec 32 := 0#32
  let c1_i32_144 : BitVec 32 := 1#32
  let arg28 : BitVec 32 := Scf.iv c0_i32_142 c1_i32_144 k0_t28
  let c8_i32_240 : BitVec 32 := 8#32
  let v366 : BitVec 32 := Scalar.muli arg28 c8_i32_240
  let v367 : BitVec 32 := v366
  let v370 : Index := Scalar.indexCast v367
  let c768 : Index := 768#32
  ![v370.toNat, 768]
def k0_off140 (k0_t28 : Fin k0_t28_loop.trips) : Fin 2 → Nat :=
  let c0_i32_142 : BitVec 32 := 0#32
  let c1_i32_144 : BitVec 32 := 1#32
  let arg28 : BitVec 32 := Scf.iv c0_i32_142 c1_i32_144 k0_t28
  let c8_i32_240 : BitVec 32 := 8#32
  let v366 : BitVec 32 := Scalar.muli arg28 c8_i32_240
  let v367 : BitVec 32 := v366
  let v376 : Index := Scalar.indexCast v367
  let c896 : Index := 896#32
  ![v376.toNat, 896]
def k0_cond3 (i : grid0.Coords) : BitVec 1 :=
  let arg0 : BitVec 32 := BitVec.ofNat 32 (i 0).val
  let c15_i32_3 : BitVec 32 := 15#32
  let v8 : BitVec 1 := Scalar.cmpi .eq arg0 c15_i32_3
  let v9 : BitVec 32 := Scalar.extui v8
  let c0_i32_4 : BitVec 32 := 0#32
  let v10 : BitVec 1 := Scalar.cmpi .ne v9 c0_i32_4
  v10

@[reducible] def k0_t29_loop : Scf.Loop 32 :=
  let c0_i32_53 : BitVec 32 := 0#32
  let c64_i32 : BitVec 32 := 64#32
  let v72 : BitVec 32 := Scalar.addi c0_i32_53 c64_i32
  let c1_i32 : BitVec 32 := 1#32
  ⟨c0_i32_53, v72, c1_i32⟩
def k0_mult57 (k0_t29 : Fin k0_t29_loop.trips) : BitVec 32 :=
  let c0_i32_53 : BitVec 32 := 0#32
  let c1_i32 : BitVec 32 := 1#32
  let arg28 : BitVec 32 := Scf.iv c0_i32_53 c1_i32 k0_t29
  let c16_i32 : BitVec 32 := 16#32
  let v77 : BitVec 32 := Scalar.muli arg28 c16_i32
  v77
def k0_off141 (k0_t29 : Fin k0_t29_loop.trips) : Fin 2 → Nat :=
  let c0_i32_53 : BitVec 32 := 0#32
  let c1_i32 : BitVec 32 := 1#32
  let arg28 : BitVec 32 := Scf.iv c0_i32_53 c1_i32 k0_t29
  let c16_i32 : BitVec 32 := 16#32
  let v77 : BitVec 32 := Scalar.muli arg28 c16_i32
  let v78 : BitVec 32 := v77
  let v79 : Index := Scalar.indexCast v78
  let c0_58 : Index := 0#32
  ![v79.toNat, 0]
def cc0_transform_0 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_1 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_13 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_14 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_15 (i : grid0.Coords) : Fin 2 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  ![v0.toNat, c0_i32.toNat]

def cc0_transform_16 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_17 (i : grid0.Coords) : Fin 2 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  ![v0.toNat, c0_i32.toNat]

abbrev stage0_0 : Fin 2 → Memref sig .tc .vmem S1024x1x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1x8x128 .fp8e5m2 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1x8x128 .fp8e5m2 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
abbrev S1x1024x120x128 : Shape := ⟨4, ![1, 1024, 120, 128]⟩
abbrev S1x1024x512 : Shape := ⟨3, ![1, 1024, 512]⟩
abbrev S1x1024x4 : Shape := ⟨3, ![1, 1024, 4]⟩
abbrev S512x120x128 : Shape := ⟨3, ![512, 120, 128]⟩
abbrev S4x120 : Shape := ⟨2, ![4, 120]⟩
abbrev S512 : Shape := ⟨1, ![512]⟩
abbrev S1024x15x8x128 : Shape := ⟨4, ![1024, 15, 8, 128]⟩
abbrev S1024x512 : Shape := ⟨2, ![1024, 512]⟩
abbrev S1024x4 : Shape := ⟨2, ![1024, 4]⟩
abbrev S4x1024 : Shape := ⟨2, ![4, 1024]⟩
abbrev S512x15x8x128 : Shape := ⟨4, ![512, 15, 8, 128]⟩
abbrev S1x512 : Shape := ⟨2, ![1, 512]⟩
abbrev S120x1024 : Shape := ⟨2, ![120, 1024]⟩
abbrev S1024x1x8x128 : Shape := ⟨4, ![1024, 1, 8, 128]⟩
abbrev S512x1x8x128 : Shape := ⟨4, ![512, 1, 8, 128]⟩
abbrev S8x1024 : Shape := ⟨2, ![8, 1024]⟩
abbrev S256x1024 : Shape := ⟨2, ![256, 1024]⟩
abbrev S256x2x1024 : Shape := ⟨3, ![256, 2, 1024]⟩
abbrev S256x1x1024 : Shape := ⟨3, ![256, 1, 1024]⟩
abbrev S2x120x8 : Shape := ⟨3, ![2, 120, 8]⟩
abbrev S4096x128 : Shape := ⟨2, ![4096, 128]⟩
abbrev S4096x2x128 : Shape := ⟨3, ![4096, 2, 128]⟩
abbrev S4096x1x128 : Shape := ⟨3, ![4096, 1, 128]⟩
abbrev S2048x128 : Shape := ⟨2, ![2048, 128]⟩
abbrev S2048x2x128 : Shape := ⟨3, ![2048, 2, 128]⟩
abbrev S2048x1x128 : Shape := ⟨3, ![2048, 1, 128]⟩
abbrev S512x1024 : Shape := ⟨2, ![512, 1024]⟩
abbrev S512x2x1024 : Shape := ⟨3, ![512, 2, 1024]⟩
abbrev S512x1x1024 : Shape := ⟨3, ![512, 1, 1024]⟩
abbrev S1024x128 : Shape := ⟨2, ![1024, 128]⟩
abbrev S1x1024 : Shape := ⟨2, ![1, 1024]⟩
abbrev S128x1024 : Shape := ⟨2, ![128, 1024]⟩
abbrev S64x1024 : Shape := ⟨2, ![64, 1024]⟩
abbrev S64x2x1024 : Shape := ⟨3, ![64, 2, 1024]⟩
abbrev S64x1x1024 : Shape := ⟨3, ![64, 1, 1024]⟩
abbrev S8x120 : Shape := ⟨2, ![8, 120]⟩
abbrev S120x8 : Shape := ⟨2, ![120, 8]⟩
abbrev S1x120x8 : Shape := ⟨3, ![1, 120, 8]⟩
abbrev S8192x128 : Shape := ⟨2, ![8192, 128]⟩
abbrev S1024x1024 : Shape := ⟨2, ![1024, 1024]⟩
abbrev S2x1x8x128 : Shape := ⟨4, ![2, 1, 8, 128]⟩
abbrev S16x128 : Shape := ⟨2, ![16, 128]⟩
abbrev S16 : Shape := ⟨1, ![16]⟩
abbrev S16x1 : Shape := ⟨2, ![16, 1]⟩
abbrev S8x128 : Shape := ⟨2, ![8, 128]⟩
abbrev S32x128 : Shape := ⟨2, ![32, 128]⟩
abbrev S4x1x8x128 : Shape := ⟨4, ![4, 1, 8, 128]⟩
abbrev S16x2x128 : Shape := ⟨3, ![16, 2, 128]⟩
abbrev S16x1x128 : Shape := ⟨3, ![16, 1, 128]⟩
abbrev S8x2x128 : Shape := ⟨3, ![8, 2, 128]⟩
abbrev S8x1x128 : Shape := ⟨3, ![8, 1, 128]⟩
abbrev S1x8x1 : Shape := ⟨3, ![1, 8, 1]⟩
abbrev S8x1 : Shape := ⟨2, ![8, 1]⟩
abbrev S512x512 : Shape := ⟨2, ![512, 512]⟩
abbrev S512x2x512 : Shape := ⟨3, ![512, 2, 512]⟩
abbrev S512x1x512 : Shape := ⟨3, ![512, 1, 512]⟩
abbrev S512x128 : Shape := ⟨2, ![512, 128]⟩
abbrev S512x1x1x128 : Shape := ⟨4, ![512, 1, 1, 128]⟩
abbrev S8x512 : Shape := ⟨2, ![8, 512]⟩
abbrev S16x512 : Shape := ⟨2, ![16, 512]⟩

abbrev nBuf : Space → Nat
  | .hbm => 27
  | .vmem => 37
  | .smem => 0
  | _ => 0

abbrev bufTy : (tb : Table) → Fin (tcTables nBuf tb) → BufTy
  | .hbm, ⟨0, _⟩ => ⟨S1x1024x120x128, .bf16⟩
  | .hbm, ⟨1, _⟩ => ⟨S1x1024x120x128, .bf16⟩
  | .hbm, ⟨2, _⟩ => ⟨S1x1024x512, .fp8e4m3⟩
  | .hbm, ⟨3, _⟩ => ⟨S1x1024x4, .f32⟩
  | .hbm, ⟨4, _⟩ => ⟨S512x120x128, .fp8e4m3⟩
  | .hbm, ⟨5, _⟩ => ⟨S4x120, .f32⟩
  | .hbm, ⟨6, _⟩ => ⟨S512x120x128, .fp8e4m3⟩
  | .hbm, ⟨7, _⟩ => ⟨S4x120, .f32⟩
  | .hbm, ⟨8, _⟩ => ⟨S1x1024x512, .bf16⟩
  | .hbm, ⟨9, _⟩ => ⟨S512, .f32⟩
  | .hbm, ⟨10, _⟩ => ⟨S1024x15x8x128, .bf16⟩
  | .hbm, ⟨11, _⟩ => ⟨S1024x15x8x128, .bf16⟩
  | .hbm, ⟨12, _⟩ => ⟨S1024x512, .fp8e4m3⟩
  | .hbm, ⟨13, _⟩ => ⟨S1024x4, .f32⟩
  | .hbm, ⟨14, _⟩ => ⟨S4x1024, .f32⟩
  | .hbm, ⟨15, _⟩ => ⟨S512x15x8x128, .fp8e4m3⟩
  | .hbm, ⟨16, _⟩ => ⟨S512x15x8x128, .fp8e4m3⟩
  | .hbm, ⟨17, _⟩ => ⟨S1024x512, .bf16⟩
  | .hbm, ⟨18, _⟩ => ⟨S1x512, .f32⟩
  | .hbm, ⟨19, _⟩ => ⟨S1024x512, .bf16⟩
  | .hbm, ⟨20, _⟩ => ⟨S1x512, .f32⟩
  | .hbm, ⟨21, _⟩ => ⟨S512x15x8x128, .f32⟩
  | .hbm, ⟨22, _⟩ => ⟨S512x15x8x128, .f32⟩
  | .hbm, ⟨23, _⟩ => ⟨S1024x15x8x128, .fp8e5m2⟩
  | .hbm, ⟨24, _⟩ => ⟨S120x1024, .f32⟩
  | .hbm, ⟨25, _⟩ => ⟨S1024x15x8x128, .fp8e5m2⟩
  | .hbm, ⟨26, _⟩ => ⟨S120x1024, .f32⟩
  | .local _ .vmem, ⟨0, _⟩ => ⟨S1024x1x8x128, .bf16⟩
  | .local _ .vmem, ⟨1, _⟩ => ⟨S1024x1x8x128, .bf16⟩
  | .local _ .vmem, ⟨2, _⟩ => ⟨S1024x1x8x128, .bf16⟩
  | .local _ .vmem, ⟨3, _⟩ => ⟨S1024x1x8x128, .bf16⟩
  | .local _ .vmem, ⟨4, _⟩ => ⟨S1024x512, .fp8e4m3⟩
  | .local _ .vmem, ⟨5, _⟩ => ⟨S4x1024, .f32⟩
  | .local _ .vmem, ⟨6, _⟩ => ⟨S512x1x8x128, .fp8e4m3⟩
  | .local _ .vmem, ⟨7, _⟩ => ⟨S512x1x8x128, .fp8e4m3⟩
  | .local _ .vmem, ⟨8, _⟩ => ⟨S4x120, .f32⟩
  | .local _ .vmem, ⟨9, _⟩ => ⟨S512x1x8x128, .fp8e4m3⟩
  | .local _ .vmem, ⟨10, _⟩ => ⟨S512x1x8x128, .fp8e4m3⟩
  | .local _ .vmem, ⟨11, _⟩ => ⟨S4x120, .f32⟩
  | .local _ .vmem, ⟨12, _⟩ => ⟨S1024x512, .bf16⟩
  | .local _ .vmem, ⟨13, _⟩ => ⟨S1x512, .f32⟩
  | .local _ .vmem, ⟨14, _⟩ => ⟨S1024x512, .bf16⟩
  | .local _ .vmem, ⟨15, _⟩ => ⟨S1x512, .f32⟩
  | .local _ .vmem, ⟨16, _⟩ => ⟨S512x1x8x128, .f32⟩
  | .local _ .vmem, ⟨17, _⟩ => ⟨S512x1x8x128, .f32⟩
  | .local _ .vmem, ⟨18, _⟩ => ⟨S512x1x8x128, .f32⟩
  | .local _ .vmem, ⟨19, _⟩ => ⟨S512x1x8x128, .f32⟩
  | .local _ .vmem, ⟨20, _⟩ => ⟨S1024x1x8x128, .fp8e5m2⟩
  | .local _ .vmem, ⟨21, _⟩ => ⟨S1024x1x8x128, .fp8e5m2⟩
  | .local _ .vmem, ⟨22, _⟩ => ⟨S8x1024, .f32⟩
  | .local _ .vmem, ⟨23, _⟩ => ⟨S8x1024, .f32⟩
  | .local _ .vmem, ⟨24, _⟩ => ⟨S1024x1x8x128, .fp8e5m2⟩
  | .local _ .vmem, ⟨25, _⟩ => ⟨S1024x1x8x128, .fp8e5m2⟩
  | .local _ .vmem, ⟨26, _⟩ => ⟨S8x1024, .f32⟩
  | .local _ .vmem, ⟨27, _⟩ => ⟨S8x1024, .f32⟩
  | .local _ .vmem, ⟨28, _⟩ => ⟨S1024x512, .f32⟩
  | .local _ .vmem, ⟨29, _⟩ => ⟨S256x2x1024, .bf16⟩
  | .local _ .vmem, ⟨30, _⟩ => ⟨S2x120x8, .f32⟩
  | .local _ .vmem, ⟨31, _⟩ => ⟨S4096x2x128, .bf16⟩
  | .local _ .vmem, ⟨32, _⟩ => ⟨S2048x2x128, .bf16⟩
  | .local _ .vmem, ⟨33, _⟩ => ⟨S512x2x1024, .bf16⟩
  | .local _ .vmem, ⟨34, _⟩ => ⟨S512x2x1024, .bf16⟩
  | .local _ .vmem, ⟨35, _⟩ => ⟨S256x2x1024, .bf16⟩
  | .local _ .vmem, ⟨36, _⟩ => ⟨S256x2x1024, .bf16⟩
  | _, _ => ⟨S1x1024x120x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_v9_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_51 : BitVec 32 := 0#32
  let c256_i32 : BitVec 32 := 256#32
  let v128 : BitVec 32 := Scalar.addi c0_i32_51 c256_i32
  let c1_i32_52 : BitVec 32 := 1#32
  ⟨c0_i32_51, v128, c1_i32_52⟩
def k0_mult1 (k0_t1 : Fin k0_t1_loop.trips) : BitVec 32 :=
  let c0_i32_51 : BitVec 32 := 0#32
  let c1_i32_52 : BitVec 32 := 1#32
  let arg28 : BitVec 32 := Scf.iv c0_i32_51 c1_i32_52 k0_t1
  let c4_i32_180 : BitVec 32 := 4#32
  let v266 : BitVec 32 := Scalar.muli arg28 c4_i32_180
  let c4_i32_181 : BitVec 32 := 4#32
  let v267 : BitVec 32 := Scalar.muli v266 c4_i32_181
  v267
def k0_off1 (k0_t1 : Fin k0_t1_loop.trips) (c0_i32_182 : BitVec 32) : Fin 4 → Nat :=
  let c0_i32_51 : BitVec 32 := 0#32
  let c1_i32_52 : BitVec 32 := 1#32
  let arg28 : BitVec 32 := Scf.iv c0_i32_51 c1_i32_52 k0_t1
  let c4_i32_180 : BitVec 32 := 4#32
  let v266 : BitVec 32 := Scalar.muli arg28 c4_i32_180
  let v269 : BitVec 32 := Scalar.addi v266 c0_i32_182
  let v270 : Index := Scalar.indexCast v269
  let c0_183 : Index := 0#32
  let c0_184 : Index := 0#32
  let c0_185 : Index := 0#32
  ![v270.toNat, 0, 0, 0]
def k0_off2 (k0_t1 : Fin k0_t1_loop.trips) : Fin 4 → Nat :=
  let c0_i32_51 : BitVec 32 := 0#32
  let c1_i32_52 : BitVec 32 := 1#32
  let arg28 : BitVec 32 := Scf.iv c0_i32_51 c1_i32_52 k0_t1
  let c4_i32_180 : BitVec 32 := 4#32
  let v266 : BitVec 32 := Scalar.muli arg28 c4_i32_180
  let v558 : Index := Scalar.indexCast v266
  let c0_258 : Index := 0#32
  let c0_259 : Index := 0#32
  let c0_260 : Index := 0#32
  ![v558.toNat, 0, 0, 0]
def k0_off3 (k0_t1 : Fin k0_t1_loop.trips) : Fin 3 → Nat :=
  let c0_i32_51 : BitVec 32 := 0#32
  let c1_i32_52 : BitVec 32 := 1#32
  let arg28 : BitVec 32 := Scf.iv c0_i32_51 c1_i32_52 k0_t1
  let c4_i32_180 : BitVec 32 := 4#32
  let v266 : BitVec 32 := Scalar.muli arg28 c4_i32_180
  let c4_i32_181 : BitVec 32 := 4#32
  let v267 : BitVec 32 := Scalar.muli v266 c4_i32_181
  let v268 : BitVec 32 := v267
  let v564 : Index := Scalar.indexCast v268
  let c0_261 : Index := 0#32
  ![v564.toNat, 0, 0]
@[reducible] def k0_t2_loop : Scf.Loop 32 :=
  let c0_i32_56 : BitVec 32 := 0#32
  let c64_i32 : BitVec 32 := 64#32
  let v136 : BitVec 32 := Scalar.addi c0_i32_56 c64_i32
  let c1_i32_57 : BitVec 32 := 1#32
  ⟨c0_i32_56, v136, c1_i32_57⟩
def k0_off4 (k0_t2 : Fin k0_t2_loop.trips) (c0_i32_181 : BitVec 32) : Fin 3 → Nat :=
  let c0_i32_56 : BitVec 32 := 0#32
  let c1_i32_57 : BitVec 32 := 1#32
  let arg28 : BitVec 32 := Scf.iv c0_i32_56 c1_i32_57 k0_t2
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let v269 : Index := Scalar.indexCast v268
  let c0_182 : Index := 0#32
  ![v269.toNat, 0, 0]
def k0_off5 (k0_t2 : Fin k0_t2_loop.trips) (c0_i32_181 : BitVec 32) : Fin 3 → Nat :=
  let c0_i32_56 : BitVec 32 := 0#32
  let c1_i32_57 : BitVec 32 := 1#32
  let arg28 : BitVec 32 := Scf.iv c0_i32_56 c1_i32_57 k0_t2
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let c4_i32_183 : BitVec 32 := 4#32
  let v271 : BitVec 32 := Scalar.addi v268 c4_i32_183
  let v272 : Index := Scalar.indexCast v271
  let c0_184 : Index := 0#32
  ![v272.toNat, 0, 0]
def k0_mult2 (k0_t2 : Fin k0_t2_loop.trips) : BitVec 32 :=
  let c0_i32_56 : BitVec 32 := 0#32
  let c1_i32_57 : BitVec 32 := 1#32
  let arg28 : BitVec 32 := Scf.iv c0_i32_56 c1_i32_57 k0_t2
  let c8_i32_187 : BitVec 32 := 8#32
  let v284 : BitVec 32 := Scalar.muli arg28 c8_i32_187
  v284
def k0_off6 (k0_t2 : Fin k0_t2_loop.trips) : Fin 3 → Nat :=
  let c0_i32_56 : BitVec 32 := 0#32
  let c1_i32_57 : BitVec 32 := 1#32
  let arg28 : BitVec 32 := Scf.iv c0_i32_56 c1_i32_57 k0_t2
  let c8_i32_187 : BitVec 32 := 8#32
  let v284 : BitVec 32 := Scalar.muli arg28 c8_i32_187
  let v285 : BitVec 32 := v284
  let v288 : Index := Scalar.indexCast v285
  let c0_188 : Index := 0#32
  ![v288.toNat, 0, 0]
def k0_off7 (k0_t2 : Fin k0_t2_loop.trips) : Fin 3 → Nat :=
  let c0_i32_56 : BitVec 32 := 0#32
  let c1_i32_57 : BitVec 32 := 1#32
  let arg28 : BitVec 32 := Scf.iv c0_i32_56 c1_i32_57 k0_t2
  let c8_i32_187 : BitVec 32 := 8#32
  let v284 : BitVec 32 := Scalar.muli arg28 c8_i32_187
  let v285 : BitVec 32 := v284
  let v294 : Index := Scalar.indexCast v285
  let c128_189 : Index := 128#32
  ![v294.toNat, 0, 128]
def k0_mult3 (k0_t2 : Fin k0_t2_loop.trips) : BitVec 32 :=
  let c0_i32_56 : BitVec 32 := 0#32
  let c1_i32_57 : BitVec 32 := 1#32
  let arg28 : BitVec 32 := Scf.iv c0_i32_56 c1_i32_57 k0_t2
  let c8_i32_199 : BitVec 32 := 8#32
  let v315 : BitVec 32 := Scalar.muli arg28 c8_i32_199
  v315
def k0_off8 (k0_t2 : Fin k0_t2_loop.trips) : Fin 3 → Nat :=
  let c0_i32_56 : BitVec 32 := 0#32
  let c1_i32_57 : BitVec 32 := 1#32
  let arg28 : BitVec 32 := Scf.iv c0_i32_56 c1_i32_57 k0_t2
  let c8_i32_199 : BitVec 32 := 8#32
  let v315 : BitVec 32 := Scalar.muli arg28 c8_i32_199
  let v316 : BitVec 32 := v315
  let v319 : Index := Scalar.indexCast v316
  let c256_200 : Index := 256#32
  ![v319.toNat, 0, 256]
def k0_off9 (k0_t2 : Fin k0_t2_loop.trips) : Fin 3 → Nat :=
  let c0_i32_56 : BitVec 32 := 0#32
  let c1_i32_57 : BitVec 32 := 1#32
  let arg28 : BitVec 32 := Scf.iv c0_i32_56 c1_i32_57 k0_t2
  let c8_i32_199 : BitVec 32 := 8#32
  let v315 : BitVec 32 := Scalar.muli arg28 c8_i32_199
  let v316 : BitVec 32 := v315
  let v325 : Index := Scalar.indexCast v316
  let c384_201 : Index := 384#32
  ![v325.toNat, 0, 384]
def k0_mult4 (k0_t2 : Fin k0_t2_loop.trips) : BitVec 32 :=
  let c0_i32_56 : BitVec 32 := 0#32
  let c1_i32_57 : BitVec 32 := 1#32
  let arg28 : BitVec 32 := Scf.iv c0_i32_56 c1_i32_57 k0_t2
  let c8_i32_210 : BitVec 32 := 8#32
  let v346 : BitVec 32 := Scalar.muli arg28 c8_i32_210
  v346
def k0_off10 (k0_t2 : Fin k0_t2_loop.trips) : Fin 3 → Nat :=
  let c0_i32_56 : BitVec 32 := 0#32
  let c1_i32_57 : BitVec 32 := 1#32
  let arg28 : BitVec 32 := Scf.iv c0_i32_56 c1_i32_57 k0_t2
  let c8_i32_210 : BitVec 32 := 8#32
  let v346 : BitVec 32 := Scalar.muli arg28 c8_i32_210
  let v347 : BitVec 32 := v346
  let v350 : Index := Scalar.indexCast v347
  let c512_211 : Index := 512#32
  ![v350.toNat, 0, 512]
def k0_off11 (k0_t2 : Fin k0_t2_loop.trips) : Fin 3 → Nat :=
  let c0_i32_56 : BitVec 32 := 0#32
  let c1_i32_57 : BitVec 32 := 1#32
  let arg28 : BitVec 32 := Scf.iv c0_i32_56 c1_i32_57 k0_t2
  let c8_i32_210 : BitVec 32 := 8#32
  let v346 : BitVec 32 := Scalar.muli arg28 c8_i32_210
  let v347 : BitVec 32 := v346
  let v356 : Index := Scalar.indexCast v347
  let c640 : Index := 640#32
  ![v356.toNat, 0, 640]
def k0_mult5 (k0_t2 : Fin k0_t2_loop.trips) : BitVec 32 :=
  let c0_i32_56 : BitVec 32 := 0#32
  let c1_i32_57 : BitVec 32 := 1#32
  let arg28 : BitVec 32 := Scf.iv c0_i32_56 c1_i32_57 k0_t2
  let c8_i32_220 : BitVec 32 := 8#32
  let v377 : BitVec 32 := Scalar.muli arg28 c8_i32_220
  v377
def k0_off12 (k0_t2 : Fin k0_t2_loop.trips) : Fin 3 → Nat :=
  let c0_i32_56 : BitVec 32 := 0#32
  let c1_i32_57 : BitVec 32 := 1#32
  let arg28 : BitVec 32 := Scf.iv c0_i32_56 c1_i32_57 k0_t2
  let c8_i32_220 : BitVec 32 := 8#32
  let v377 : BitVec 32 := Scalar.muli arg28 c8_i32_220
  let v378 : BitVec 32 := v377
  let v381 : Index := Scalar.indexCast v378
  let c768 : Index := 768#32
  ![v381.toNat, 0, 768]
def k0_off13 (k0_t2 : Fin k0_t2_loop.trips) : Fin 3 → Nat :=
  let c0_i32_56 : BitVec 32 := 0#32
  let c1_i32_57 : BitVec 32 := 1#32
  let arg28 : BitVec 32 := Scf.iv c0_i32_56 c1_i32_57 k0_t2
  let c8_i32_220 : BitVec 32 := 8#32
  let v377 : BitVec 32 := Scalar.muli arg28 c8_i32_220
  let v378 : BitVec 32 := v377
  let v387 : Index := Scalar.indexCast v378
  let c896 : Index := 896#32
  ![v387.toNat, 0, 896]
def k0_mult6 (i : grid0.Coords) : BitVec 32 :=
  let arg0 : BitVec 32 := BitVec.ofNat 32 (i 0).val
  let c8_i32 : BitVec 32 := 8#32
  let v137 : BitVec 32 := Scalar.muli arg0 c8_i32
  v137
@[reducible] def k0_t3_loop : Scf.Loop 32 :=
  let c0_i32_59 : BitVec 32 := 0#32
  let c32_i32 : BitVec 32 := 32#32
  let v139 : BitVec 32 := Scalar.addi c0_i32_59 c32_i32
  let c1_i32_60 : BitVec 32 := 1#32
  ⟨c0_i32_59, v139, c1_i32_60⟩
def k0_off14 (i : grid0.Coords) : Fin 3 → Nat :=
  let c0_180 : Index := 0#32
  let arg0 : BitVec 32 := BitVec.ofNat 32 (i 0).val
  let c8_i32 : BitVec 32 := 8#32
  let v137 : BitVec 32 := Scalar.muli arg0 c8_i32
  let v138 : BitVec 32 := v137
  let v266 : Index := Scalar.indexCast v138
  let c0_181 : Index := 0#32
  ![0, v266.toNat, 0]
def k0_off15 (k0_t3 : Fin k0_t3_loop.trips) : Fin 4 → Nat :=
  let c0_i32_183 : BitVec 32 := 0#32
  let c0_i32_59 : BitVec 32 := 0#32
  let c1_i32_60 : BitVec 32 := 1#32
  let arg28 : BitVec 32 := Scf.iv c0_i32_59 c1_i32_60 k0_t3
  let c4_i32_182 : BitVec 32 := 4#32
  let v273 : BitVec 32 := Scalar.muli arg28 c4_i32_182
  let v274 : BitVec 32 := Scalar.addi c0_i32_183 v273
  let v275 : Index := Scalar.indexCast v274
  let c0_184 : Index := 0#32
  let c0_185 : Index := 0#32
  let c0_186 : Index := 0#32
  ![v275.toNat, 0, 0, 0]
def k0_mult7 (k0_t3 : Fin k0_t3_loop.trips) : BitVec 32 :=
  let c0_i32_183 : BitVec 32 := 0#32
  let c0_i32_59 : BitVec 32 := 0#32
  let c1_i32_60 : BitVec 32 := 1#32
  let arg28 : BitVec 32 := Scf.iv c0_i32_59 c1_i32_60 k0_t3
  let c4_i32_182 : BitVec 32 := 4#32
  let v273 : BitVec 32 := Scalar.muli arg28 c4_i32_182
  let v274 : BitVec 32 := Scalar.addi c0_i32_183 v273
  let c4_i32_187 : BitVec 32 := 4#32
  let v281 : BitVec 32 := Scalar.muli v274 c4_i32_187
  v281
def k0_off16 (k0_t3 : Fin k0_t3_loop.trips) : Fin 3 → Nat :=
  let c0_i32_183 : BitVec 32 := 0#32
  let c0_i32_59 : BitVec 32 := 0#32
  let c1_i32_60 : BitVec 32 := 1#32
  let arg28 : BitVec 32 := Scf.iv c0_i32_59 c1_i32_60 k0_t3
  let c4_i32_182 : BitVec 32 := 4#32
  let v273 : BitVec 32 := Scalar.muli arg28 c4_i32_182
  let v274 : BitVec 32 := Scalar.addi c0_i32_183 v273
  let c4_i32_187 : BitVec 32 := 4#32
  let v281 : BitVec 32 := Scalar.muli v274 c4_i32_187
  let v282 : BitVec 32 := v281
  let v284 : Index := Scalar.indexCast v282
  let c0_188 : Index := 0#32
  ![v284.toNat, 0, 0]
@[reducible] def k0_t4_loop : Scf.Loop 32 :=
  let c0_i32_62 : BitVec 32 := 0#32
  let c32_i32_63 : BitVec 32 := 32#32
  let v140 : BitVec 32 := Scalar.addi c0_i32_62 c32_i32_63
  let c1_i32_64 : BitVec 32 := 1#32
  ⟨c0_i32_62, v140, c1_i32_64⟩
def k0_off17 (i : grid0.Coords) : Fin 3 → Nat :=
  let c0_180 : Index := 0#32
  let arg0 : BitVec 32 := BitVec.ofNat 32 (i 0).val
  let c8_i32 : BitVec 32 := 8#32
  let v137 : BitVec 32 := Scalar.muli arg0 c8_i32
  let v138 : BitVec 32 := v137
  let v266 : Index := Scalar.indexCast v138
  let c1_181 : Index := 1#32
  ![0, v266.toNat, 1]
def k0_off18 (k0_t4 : Fin k0_t4_loop.trips) : Fin 4 → Nat :=
  let c128_i32 : BitVec 32 := 128#32
  let c0_i32_62 : BitVec 32 := 0#32
  let c1_i32_64 : BitVec 32 := 1#32
  let arg28 : BitVec 32 := Scf.iv c0_i32_62 c1_i32_64 k0_t4
  let c4_i32_182 : BitVec 32 := 4#32
  let v273 : BitVec 32 := Scalar.muli arg28 c4_i32_182
  let v274 : BitVec 32 := Scalar.addi c128_i32 v273
  let v275 : Index := Scalar.indexCast v274
  let c0_183 : Index := 0#32
  let c0_184 : Index := 0#32
  let c0_185 : Index := 0#32
  ![v275.toNat, 0, 0, 0]
def k0_mult8 (k0_t4 : Fin k0_t4_loop.trips) : BitVec 32 :=
  let c128_i32 : BitVec 32 := 128#32
  let c0_i32_62 : BitVec 32 := 0#32
  let c1_i32_64 : BitVec 32 := 1#32
  let arg28 : BitVec 32 := Scf.iv c0_i32_62 c1_i32_64 k0_t4
  let c4_i32_182 : BitVec 32 := 4#32
  let v273 : BitVec 32 := Scalar.muli arg28 c4_i32_182
  let v274 : BitVec 32 := Scalar.addi c128_i32 v273
  let c4_i32_186 : BitVec 32 := 4#32
  let v281 : BitVec 32 := Scalar.muli v274 c4_i32_186
  v281
def k0_off19 (k0_t4 : Fin k0_t4_loop.trips) : Fin 3 → Nat :=
  let c128_i32 : BitVec 32 := 128#32
  let c0_i32_62 : BitVec 32 := 0#32
  let c1_i32_64 : BitVec 32 := 1#32
  let arg28 : BitVec 32 := Scf.iv c0_i32_62 c1_i32_64 k0_t4
  let c4_i32_182 : BitVec 32 := 4#32
  let v273 : BitVec 32 := Scalar.muli arg28 c4_i32_182
  let v274 : BitVec 32 := Scalar.addi c128_i32 v273
  let c4_i32_186 : BitVec 32 := 4#32
  let v281 : BitVec 32 := Scalar.muli v274 c4_i32_186
  let v282 : BitVec 32 := v281
  let v284 : Index := Scalar.indexCast v282
  let c0_187 : Index := 0#32
  ![v284.toNat, 0, 0]
@[reducible] def k0_t5_loop : Scf.Loop 32 :=
  let c0_i32_66 : BitVec 32 := 0#32
  let c32_i32_67 : BitVec 32 := 32#32
  let v141 : BitVec 32 := Scalar.addi c0_i32_66 c32_i32_67
  let c1_i32_68 : BitVec 32 := 1#32
  ⟨c0_i32_66, v141, c1_i32_68⟩
def k0_off20 (i : grid0.Coords) : Fin 3 → Nat :=
  let c0_180 : Index := 0#32
  let arg0 : BitVec 32 := BitVec.ofNat 32 (i 0).val
  let c8_i32 : BitVec 32 := 8#32
  let v137 : BitVec 32 := Scalar.muli arg0 c8_i32
  let v138 : BitVec 32 := v137
  let v266 : Index := Scalar.indexCast v138
  let c2_181 : Index := 2#32
  ![0, v266.toNat, 2]
def k0_off21 (k0_t5 : Fin k0_t5_loop.trips) : Fin 4 → Nat :=
  let c256_i32_183 : BitVec 32 := 256#32
  let c0_i32_66 : BitVec 32 := 0#32
  let c1_i32_68 : BitVec 32 := 1#32
  let arg28 : BitVec 32 := Scf.iv c0_i32_66 c1_i32_68 k0_t5
  let c4_i32_182 : BitVec 32 := 4#32
  let v273 : BitVec 32 := Scalar.muli arg28 c4_i32_182
  let v274 : BitVec 32 := Scalar.addi c256_i32_183 v273
  let v275 : Index := Scalar.indexCast v274
  let c0_184 : Index := 0#32
  let c0_185 : Index := 0#32
  let c0_186 : Index := 0#32
  ![v275.toNat, 0, 0, 0]
def k0_mult9 (k0_t5 : Fin k0_t5_loop.trips) : BitVec 32 :=
  let c256_i32_183 : BitVec 32 := 256#32
  let c0_i32_66 : BitVec 32 := 0#32
  let c1_i32_68 : BitVec 32 := 1#32
  let arg28 : BitVec 32 := Scf.iv c0_i32_66 c1_i32_68 k0_t5
  let c4_i32_182 : BitVec 32 := 4#32
  let v273 : BitVec 32 := Scalar.muli arg28 c4_i32_182
  let v274 : BitVec 32 := Scalar.addi c256_i32_183 v273
  let c4_i32_187 : BitVec 32 := 4#32
  let v281 : BitVec 32 := Scalar.muli v274 c4_i32_187
  v281
def k0_off22 (k0_t5 : Fin k0_t5_loop.trips) : Fin 3 → Nat :=
  let c256_i32_183 : BitVec 32 := 256#32
  let c0_i32_66 : BitVec 32 := 0#32
  let c1_i32_68 : BitVec 32 := 1#32
  let arg28 : BitVec 32 := Scf.iv c0_i32_66 c1_i32_68 k0_t5
  let c4_i32_182 : BitVec 32 := 4#32
  let v273 : BitVec 32 := Scalar.muli arg28 c4_i32_182
  let v274 : BitVec 32 := Scalar.addi c256_i32_183 v273
  let c4_i32_187 : BitVec 32 := 4#32
  let v281 : BitVec 32 := Scalar.muli v274 c4_i32_187
  let v282 : BitVec 32 := v281
  let v284 : Index := Scalar.indexCast v282
  let c0_188 : Index := 0#32
  ![v284.toNat, 0, 0]
@[reducible] def k0_t6_loop : Scf.Loop 32 :=
  let c0_i32_70 : BitVec 32 := 0#32
  let c32_i32_71 : BitVec 32 := 32#32
  let v142 : BitVec 32 := Scalar.addi c0_i32_70 c32_i32_71
  let c1_i32_72 : BitVec 32 := 1#32
  ⟨c0_i32_70, v142, c1_i32_72⟩
def k0_off23 (i : grid0.Coords) : Fin 3 → Nat :=
  let c0_180 : Index := 0#32
  let arg0 : BitVec 32 := BitVec.ofNat 32 (i 0).val
  let c8_i32 : BitVec 32 := 8#32
  let v137 : BitVec 32 := Scalar.muli arg0 c8_i32
  let v138 : BitVec 32 := v137
  let v266 : Index := Scalar.indexCast v138
  let c3_181 : Index := 3#32
  ![0, v266.toNat, 3]
def k0_off24 (k0_t6 : Fin k0_t6_loop.trips) : Fin 4 → Nat :=
  let c384_i32 : BitVec 32 := 384#32
  let c0_i32_70 : BitVec 32 := 0#32
  let c1_i32_72 : BitVec 32 := 1#32
  let arg28 : BitVec 32 := Scf.iv c0_i32_70 c1_i32_72 k0_t6
  let c4_i32_182 : BitVec 32 := 4#32
  let v273 : BitVec 32 := Scalar.muli arg28 c4_i32_182
  let v274 : BitVec 32 := Scalar.addi c384_i32 v273
  let v275 : Index := Scalar.indexCast v274
  let c0_183 : Index := 0#32
  let c0_184 : Index := 0#32
  let c0_185 : Index := 0#32
  ![v275.toNat, 0, 0, 0]
def k0_mult10 (k0_t6 : Fin k0_t6_loop.trips) : BitVec 32 :=
  let c384_i32 : BitVec 32 := 384#32
  let c0_i32_70 : BitVec 32 := 0#32
  let c1_i32_72 : BitVec 32 := 1#32
  let arg28 : BitVec 32 := Scf.iv c0_i32_70 c1_i32_72 k0_t6
  let c4_i32_182 : BitVec 32 := 4#32
  let v273 : BitVec 32 := Scalar.muli arg28 c4_i32_182
  let v274 : BitVec 32 := Scalar.addi c384_i32 v273
  let c4_i32_186 : BitVec 32 := 4#32
  let v281 : BitVec 32 := Scalar.muli v274 c4_i32_186
  v281
def k0_off25 (k0_t6 : Fin k0_t6_loop.trips) : Fin 3 → Nat :=
  let c384_i32 : BitVec 32 := 384#32
  let c0_i32_70 : BitVec 32 := 0#32
  let c1_i32_72 : BitVec 32 := 1#32
  let arg28 : BitVec 32 := Scf.iv c0_i32_70 c1_i32_72 k0_t6
  let c4_i32_182 : BitVec 32 := 4#32
  let v273 : BitVec 32 := Scalar.muli arg28 c4_i32_182
  let v274 : BitVec 32 := Scalar.addi c384_i32 v273
  let c4_i32_186 : BitVec 32 := 4#32
  let v281 : BitVec 32 := Scalar.muli v274 c4_i32_186
  let v282 : BitVec 32 := v281
  let v284 : Index := Scalar.indexCast v282
  let c0_187 : Index := 0#32
  ![v284.toNat, 0, 0]
@[reducible] def k0_t7_loop : Scf.Loop 32 :=
  let c0_i32_74 : BitVec 32 := 0#32
  let c32_i32_75 : BitVec 32 := 32#32
  let v143 : BitVec 32 := Scalar.addi c0_i32_74 c32_i32_75
  let c1_i32_76 : BitVec 32 := 1#32
  ⟨c0_i32_74, v143, c1_i32_76⟩
def k0_off26 (k0_t7 : Fin k0_t7_loop.trips) (c0_i32_181 : BitVec 32) : Fin 3 → Nat :=
  let c0_i32_74 : BitVec 32 := 0#32
  let c1_i32_76 : BitVec 32 := 1#32
  let arg28 : BitVec 32 := Scf.iv c0_i32_74 c1_i32_76 k0_t7
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let v269 : Index := Scalar.indexCast v268
  let c0_182 : Index := 0#32
  ![v269.toNat, 0, 0]
def k0_off27 (k0_t7 : Fin k0_t7_loop.trips) (c0_i32_181 : BitVec 32) : Fin 3 → Nat :=
  let c0_i32_74 : BitVec 32 := 0#32
  let c1_i32_76 : BitVec 32 := 1#32
  let arg28 : BitVec 32 := Scf.iv c0_i32_74 c1_i32_76 k0_t7
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let c4_i32_183 : BitVec 32 := 4#32
  let v271 : BitVec 32 := Scalar.addi v268 c4_i32_183
  let v272 : Index := Scalar.indexCast v271
  let c0_184 : Index := 0#32
  ![v272.toNat, 0, 0]
def k0_mult11 (k0_t7 : Fin k0_t7_loop.trips) : BitVec 32 :=
  let c0_i32_74 : BitVec 32 := 0#32
  let c1_i32_76 : BitVec 32 := 1#32
  let arg28 : BitVec 32 := Scf.iv c0_i32_74 c1_i32_76 k0_t7
  let c8_i32_187 : BitVec 32 := 8#32
  let v284 : BitVec 32 := Scalar.muli arg28 c8_i32_187
  v284
def k0_off28 (k0_t7 : Fin k0_t7_loop.trips) : Fin 3 → Nat :=
  let c0_i32_74 : BitVec 32 := 0#32
  let c1_i32_76 : BitVec 32 := 1#32
  let arg28 : BitVec 32 := Scf.iv c0_i32_74 c1_i32_76 k0_t7
  let c8_i32_187 : BitVec 32 := 8#32
  let v284 : BitVec 32 := Scalar.muli arg28 c8_i32_187
  let v285 : BitVec 32 := v284
  let v288 : Index := Scalar.indexCast v285
  let c0_188 : Index := 0#32
  ![v288.toNat, 0, 0]
def k0_off29 (k0_t7 : Fin k0_t7_loop.trips) : Fin 3 → Nat :=
  let c0_i32_74 : BitVec 32 := 0#32
  let c1_i32_76 : BitVec 32 := 1#32
  let arg28 : BitVec 32 := Scf.iv c0_i32_74 c1_i32_76 k0_t7
  let c8_i32_187 : BitVec 32 := 8#32
  let v284 : BitVec 32 := Scalar.muli arg28 c8_i32_187
  let v285 : BitVec 32 := v284
  let v294 : Index := Scalar.indexCast v285
  let c128_189 : Index := 128#32
  ![v294.toNat, 0, 128]
def k0_mult12 (k0_t7 : Fin k0_t7_loop.trips) : BitVec 32 :=
  let c0_i32_74 : BitVec 32 := 0#32
  let c1_i32_76 : BitVec 32 := 1#32
  let arg28 : BitVec 32 := Scf.iv c0_i32_74 c1_i32_76 k0_t7
  let c8_i32_199 : BitVec 32 := 8#32
  let v315 : BitVec 32 := Scalar.muli arg28 c8_i32_199
  v315
def k0_off30 (k0_t7 : Fin k0_t7_loop.trips) : Fin 3 → Nat :=
  let c0_i32_74 : BitVec 32 := 0#32
  let c1_i32_76 : BitVec 32 := 1#32
  let arg28 : BitVec 32 := Scf.iv c0_i32_74 c1_i32_76 k0_t7
  let c8_i32_199 : BitVec 32 := 8#32
  let v315 : BitVec 32 := Scalar.muli arg28 c8_i32_199
  let v316 : BitVec 32 := v315
  let v319 : Index := Scalar.indexCast v316
  let c256_200 : Index := 256#32
  ![v319.toNat, 0, 256]
def k0_off31 (k0_t7 : Fin k0_t7_loop.trips) : Fin 3 → Nat :=
  let c0_i32_74 : BitVec 32 := 0#32
  let c1_i32_76 : BitVec 32 := 1#32
  let arg28 : BitVec 32 := Scf.iv c0_i32_74 c1_i32_76 k0_t7
  let c8_i32_199 : BitVec 32 := 8#32
  let v315 : BitVec 32 := Scalar.muli arg28 c8_i32_199
  let v316 : BitVec 32 := v315
  let v325 : Index := Scalar.indexCast v316
  let c384_201 : Index := 384#32
  ![v325.toNat, 0, 384]
def k0_mult13 (k0_t7 : Fin k0_t7_loop.trips) : BitVec 32 :=
  let c0_i32_74 : BitVec 32 := 0#32
  let c1_i32_76 : BitVec 32 := 1#32
  let arg28 : BitVec 32 := Scf.iv c0_i32_74 c1_i32_76 k0_t7
  let c8_i32_210 : BitVec 32 := 8#32
  let v346 : BitVec 32 := Scalar.muli arg28 c8_i32_210
  v346
def k0_off32 (k0_t7 : Fin k0_t7_loop.trips) : Fin 3 → Nat :=
  let c0_i32_74 : BitVec 32 := 0#32
  let c1_i32_76 : BitVec 32 := 1#32
  let arg28 : BitVec 32 := Scf.iv c0_i32_74 c1_i32_76 k0_t7
  let c8_i32_210 : BitVec 32 := 8#32
  let v346 : BitVec 32 := Scalar.muli arg28 c8_i32_210
  let v347 : BitVec 32 := v346
  let v350 : Index := Scalar.indexCast v347
  let c512_211 : Index := 512#32
  ![v350.toNat, 0, 512]
def k0_off33 (k0_t7 : Fin k0_t7_loop.trips) : Fin 3 → Nat :=
  let c0_i32_74 : BitVec 32 := 0#32
  let c1_i32_76 : BitVec 32 := 1#32
  let arg28 : BitVec 32 := Scf.iv c0_i32_74 c1_i32_76 k0_t7
  let c8_i32_210 : BitVec 32 := 8#32
  let v346 : BitVec 32 := Scalar.muli arg28 c8_i32_210
  let v347 : BitVec 32 := v346
  let v356 : Index := Scalar.indexCast v347
  let c640 : Index := 640#32
  ![v356.toNat, 0, 640]
def k0_mult14 (k0_t7 : Fin k0_t7_loop.trips) : BitVec 32 :=
  let c0_i32_74 : BitVec 32 := 0#32
  let c1_i32_76 : BitVec 32 := 1#32
  let arg28 : BitVec 32 := Scf.iv c0_i32_74 c1_i32_76 k0_t7
  let c8_i32_220 : BitVec 32 := 8#32
  let v377 : BitVec 32 := Scalar.muli arg28 c8_i32_220
  v377
def k0_off34 (k0_t7 : Fin k0_t7_loop.trips) : Fin 3 → Nat :=
  let c0_i32_74 : BitVec 32 := 0#32
  let c1_i32_76 : BitVec 32 := 1#32
  let arg28 : BitVec 32 := Scf.iv c0_i32_74 c1_i32_76 k0_t7
  let c8_i32_220 : BitVec 32 := 8#32
  let v377 : BitVec 32 := Scalar.muli arg28 c8_i32_220
  let v378 : BitVec 32 := v377
  let v381 : Index := Scalar.indexCast v378
  let c768 : Index := 768#32
  ![v381.toNat, 0, 768]
def k0_off35 (k0_t7 : Fin k0_t7_loop.trips) : Fin 3 → Nat :=
  let c0_i32_74 : BitVec 32 := 0#32
  let c1_i32_76 : BitVec 32 := 1#32
  let arg28 : BitVec 32 := Scf.iv c0_i32_74 c1_i32_76 k0_t7
  let c8_i32_220 : BitVec 32 := 8#32
  let v377 : BitVec 32 := Scalar.muli arg28 c8_i32_220
  let v378 : BitVec 32 := v377
  let v387 : Index := Scalar.indexCast v378
  let c896 : Index := 896#32
  ![v387.toNat, 0, 896]
@[reducible] def k0_t8_loop : Scf.Loop 32 :=
  let c0_i32_98 : BitVec 32 := 0#32
  let c256_i32_99 : BitVec 32 := 256#32
  let v192 : BitVec 32 := Scalar.addi c0_i32_98 c256_i32_99
  let c1_i32_100 : BitVec 32 := 1#32
  ⟨c0_i32_98, v192, c1_i32_100⟩
def k0_mult15 (k0_t8 : Fin k0_t8_loop.trips) : BitVec 32 :=
  let c0_i32_98 : BitVec 32 := 0#32
  let c1_i32_100 : BitVec 32 := 1#32
  let arg28 : BitVec 32 := Scf.iv c0_i32_98 c1_i32_100 k0_t8
  let c4_i32_180 : BitVec 32 := 4#32
  let v266 : BitVec 32 := Scalar.muli arg28 c4_i32_180
  let c4_i32_181 : BitVec 32 := 4#32
  let v267 : BitVec 32 := Scalar.muli v266 c4_i32_181
  v267
def k0_off36 (k0_t8 : Fin k0_t8_loop.trips) (c0_i32_182 : BitVec 32) : Fin 4 → Nat :=
  let c0_i32_98 : BitVec 32 := 0#32
  let c1_i32_100 : BitVec 32 := 1#32
  let arg28 : BitVec 32 := Scf.iv c0_i32_98 c1_i32_100 k0_t8
  let c4_i32_180 : BitVec 32 := 4#32
  let v266 : BitVec 32 := Scalar.muli arg28 c4_i32_180
  let v269 : BitVec 32 := Scalar.addi v266 c0_i32_182
  let v270 : Index := Scalar.indexCast v269
  let c0_183 : Index := 0#32
  let c0_184 : Index := 0#32
  let c0_185 : Index := 0#32
  ![v270.toNat, 0, 0, 0]
def k0_off37 (k0_t8 : Fin k0_t8_loop.trips) : Fin 4 → Nat :=
  let c0_i32_98 : BitVec 32 := 0#32
  let c1_i32_100 : BitVec 32 := 1#32
  let arg28 : BitVec 32 := Scf.iv c0_i32_98 c1_i32_100 k0_t8
  let c4_i32_180 : BitVec 32 := 4#32
  let v266 : BitVec 32 := Scalar.muli arg28 c4_i32_180
  let v558 : Index := Scalar.indexCast v266
  let c0_258 : Index := 0#32
  let c0_259 : Index := 0#32
  let c0_260 : Index := 0#32
  ![v558.toNat, 0, 0, 0]
def k0_off38 (k0_t8 : Fin k0_t8_loop.trips) : Fin 3 → Nat :=
  let c0_i32_98 : BitVec 32 := 0#32
  let c1_i32_100 : BitVec 32 := 1#32
  let arg28 : BitVec 32 := Scf.iv c0_i32_98 c1_i32_100 k0_t8
  let c4_i32_180 : BitVec 32 := 4#32
  let v266 : BitVec 32 := Scalar.muli arg28 c4_i32_180
  let c4_i32_181 : BitVec 32 := 4#32
  let v267 : BitVec 32 := Scalar.muli v266 c4_i32_181
  let v268 : BitVec 32 := v267
  let v564 : Index := Scalar.indexCast v268
  let c0_261 : Index := 0#32
  ![v564.toNat, 0, 0]
@[reducible] def k0_t9_loop : Scf.Loop 32 :=
  let c0_i32_104 : BitVec 32 := 0#32
  let c64_i32_105 : BitVec 32 := 64#32
  let v200 : BitVec 32 := Scalar.addi c0_i32_104 c64_i32_105
  let c1_i32_106 : BitVec 32 := 1#32
  ⟨c0_i32_104, v200, c1_i32_106⟩
def k0_off39 (k0_t9 : Fin k0_t9_loop.trips) (c0_i32_181 : BitVec 32) : Fin 3 → Nat :=
  let c0_i32_104 : BitVec 32 := 0#32
  let c1_i32_106 : BitVec 32 := 1#32
  let arg28 : BitVec 32 := Scf.iv c0_i32_104 c1_i32_106 k0_t9
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let v269 : Index := Scalar.indexCast v268
  let c0_182 : Index := 0#32
  ![v269.toNat, 0, 0]
def k0_off40 (k0_t9 : Fin k0_t9_loop.trips) (c0_i32_181 : BitVec 32) : Fin 3 → Nat :=
  let c0_i32_104 : BitVec 32 := 0#32
  let c1_i32_106 : BitVec 32 := 1#32
  let arg28 : BitVec 32 := Scf.iv c0_i32_104 c1_i32_106 k0_t9
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let c4_i32_183 : BitVec 32 := 4#32
  let v271 : BitVec 32 := Scalar.addi v268 c4_i32_183
  let v272 : Index := Scalar.indexCast v271
  let c0_184 : Index := 0#32
  ![v272.toNat, 0, 0]
def k0_mult16 (k0_t9 : Fin k0_t9_loop.trips) : BitVec 32 :=
  let c0_i32_104 : BitVec 32 := 0#32
  let c1_i32_106 : BitVec 32 := 1#32
  let arg28 : BitVec 32 := Scf.iv c0_i32_104 c1_i32_106 k0_t9
  let c8_i32_187 : BitVec 32 := 8#32
  let v284 : BitVec 32 := Scalar.muli arg28 c8_i32_187
  v284
def k0_off41 (k0_t9 : Fin k0_t9_loop.trips) : Fin 3 → Nat :=
  let c0_i32_104 : BitVec 32 := 0#32
  let c1_i32_106 : BitVec 32 := 1#32
  let arg28 : BitVec 32 := Scf.iv c0_i32_104 c1_i32_106 k0_t9
  let c8_i32_187 : BitVec 32 := 8#32
  let v284 : BitVec 32 := Scalar.muli arg28 c8_i32_187
  let v285 : BitVec 32 := v284
  let v288 : Index := Scalar.indexCast v285
  let c0_188 : Index := 0#32
  ![v288.toNat, 0, 0]
def k0_off42 (k0_t9 : Fin k0_t9_loop.trips) : Fin 3 → Nat :=
  let c0_i32_104 : BitVec 32 := 0#32
  let c1_i32_106 : BitVec 32 := 1#32
  let arg28 : BitVec 32 := Scf.iv c0_i32_104 c1_i32_106 k0_t9
  let c8_i32_187 : BitVec 32 := 8#32
  let v284 : BitVec 32 := Scalar.muli arg28 c8_i32_187
  let v285 : BitVec 32 := v284
  let v294 : Index := Scalar.indexCast v285
  let c128_189 : Index := 128#32
  ![v294.toNat, 0, 128]
def k0_mult17 (k0_t9 : Fin k0_t9_loop.trips) : BitVec 32 :=
  let c0_i32_104 : BitVec 32 := 0#32
  let c1_i32_106 : BitVec 32 := 1#32
  let arg28 : BitVec 32 := Scf.iv c0_i32_104 c1_i32_106 k0_t9
  let c8_i32_199 : BitVec 32 := 8#32
  let v315 : BitVec 32 := Scalar.muli arg28 c8_i32_199
  v315
def k0_off43 (k0_t9 : Fin k0_t9_loop.trips) : Fin 3 → Nat :=
  let c0_i32_104 : BitVec 32 := 0#32
  let c1_i32_106 : BitVec 32 := 1#32
  let arg28 : BitVec 32 := Scf.iv c0_i32_104 c1_i32_106 k0_t9
  let c8_i32_199 : BitVec 32 := 8#32
  let v315 : BitVec 32 := Scalar.muli arg28 c8_i32_199
  let v316 : BitVec 32 := v315
  let v319 : Index := Scalar.indexCast v316
  let c256_200 : Index := 256#32
  ![v319.toNat, 0, 256]
def k0_off44 (k0_t9 : Fin k0_t9_loop.trips) : Fin 3 → Nat :=
  let c0_i32_104 : BitVec 32 := 0#32
  let c1_i32_106 : BitVec 32 := 1#32
  let arg28 : BitVec 32 := Scf.iv c0_i32_104 c1_i32_106 k0_t9
  let c8_i32_199 : BitVec 32 := 8#32
  let v315 : BitVec 32 := Scalar.muli arg28 c8_i32_199
  let v316 : BitVec 32 := v315
  let v325 : Index := Scalar.indexCast v316
  let c384_201 : Index := 384#32
  ![v325.toNat, 0, 384]
def k0_mult18 (k0_t9 : Fin k0_t9_loop.trips) : BitVec 32 :=
  let c0_i32_104 : BitVec 32 := 0#32
  let c1_i32_106 : BitVec 32 := 1#32
  let arg28 : BitVec 32 := Scf.iv c0_i32_104 c1_i32_106 k0_t9
  let c8_i32_210 : BitVec 32 := 8#32
  let v346 : BitVec 32 := Scalar.muli arg28 c8_i32_210
  v346
def k0_off45 (k0_t9 : Fin k0_t9_loop.trips) : Fin 3 → Nat :=
  let c0_i32_104 : BitVec 32 := 0#32
  let c1_i32_106 : BitVec 32 := 1#32
  let arg28 : BitVec 32 := Scf.iv c0_i32_104 c1_i32_106 k0_t9
  let c8_i32_210 : BitVec 32 := 8#32
  let v346 : BitVec 32 := Scalar.muli arg28 c8_i32_210
  let v347 : BitVec 32 := v346
  let v350 : Index := Scalar.indexCast v347
  let c512_211 : Index := 512#32
  ![v350.toNat, 0, 512]
def k0_off46 (k0_t9 : Fin k0_t9_loop.trips) : Fin 3 → Nat :=
  let c0_i32_104 : BitVec 32 := 0#32
  let c1_i32_106 : BitVec 32 := 1#32
  let arg28 : BitVec 32 := Scf.iv c0_i32_104 c1_i32_106 k0_t9
  let c8_i32_210 : BitVec 32 := 8#32
  let v346 : BitVec 32 := Scalar.muli arg28 c8_i32_210
  let v347 : BitVec 32 := v346
  let v356 : Index := Scalar.indexCast v347
  let c640 : Index := 640#32
  ![v356.toNat, 0, 640]
def k0_mult19 (k0_t9 : Fin k0_t9_loop.trips) : BitVec 32 :=
  let c0_i32_104 : BitVec 32 := 0#32
  let c1_i32_106 : BitVec 32 := 1#32
  let arg28 : BitVec 32 := Scf.iv c0_i32_104 c1_i32_106 k0_t9
  let c8_i32_220 : BitVec 32 := 8#32
  let v377 : BitVec 32 := Scalar.muli arg28 c8_i32_220
  v377
def k0_off47 (k0_t9 : Fin k0_t9_loop.trips) : Fin 3 → Nat :=
  let c0_i32_104 : BitVec 32 := 0#32
  let c1_i32_106 : BitVec 32 := 1#32
  let arg28 : BitVec 32 := Scf.iv c0_i32_104 c1_i32_106 k0_t9
  let c8_i32_220 : BitVec 32 := 8#32
  let v377 : BitVec 32 := Scalar.muli arg28 c8_i32_220
  let v378 : BitVec 32 := v377
  let v381 : Index := Scalar.indexCast v378
  let c768 : Index := 768#32
  ![v381.toNat, 0, 768]
def k0_off48 (k0_t9 : Fin k0_t9_loop.trips) : Fin 3 → Nat :=
  let c0_i32_104 : BitVec 32 := 0#32
  let c1_i32_106 : BitVec 32 := 1#32
  let arg28 : BitVec 32 := Scf.iv c0_i32_104 c1_i32_106 k0_t9
  let c8_i32_220 : BitVec 32 := 8#32
  let v377 : BitVec 32 := Scalar.muli arg28 c8_i32_220
  let v378 : BitVec 32 := v377
  let v387 : Index := Scalar.indexCast v378
  let c896 : Index := 896#32
  ![v387.toNat, 0, 896]
def k0_mult20 (i : grid0.Coords) : BitVec 32 :=
  let arg0 : BitVec 32 := BitVec.ofNat 32 (i 0).val
  let c8_i32_108 : BitVec 32 := 8#32
  let v201 : BitVec 32 := Scalar.muli arg0 c8_i32_108
  v201
@[reducible] def k0_t10_loop : Scf.Loop 32 :=
  let c0_i32_109 : BitVec 32 := 0#32
  let c32_i32_110 : BitVec 32 := 32#32
  let v203 : BitVec 32 := Scalar.addi c0_i32_109 c32_i32_110
  let c1_i32_111 : BitVec 32 := 1#32
  ⟨c0_i32_109, v203, c1_i32_111⟩
def k0_off49 (i : grid0.Coords) : Fin 3 → Nat :=
  let c1_180 : Index := 1#32
  let arg0 : BitVec 32 := BitVec.ofNat 32 (i 0).val
  let c8_i32_108 : BitVec 32 := 8#32
  let v201 : BitVec 32 := Scalar.muli arg0 c8_i32_108
  let v202 : BitVec 32 := v201
  let v266 : Index := Scalar.indexCast v202
  let c0_181 : Index := 0#32
  ![1, v266.toNat, 0]
def k0_off50 (k0_t10 : Fin k0_t10_loop.trips) : Fin 4 → Nat :=
  let c0_i32_183 : BitVec 32 := 0#32
  let c0_i32_109 : BitVec 32 := 0#32
  let c1_i32_111 : BitVec 32 := 1#32
  let arg28 : BitVec 32 := Scf.iv c0_i32_109 c1_i32_111 k0_t10
  let c4_i32_182 : BitVec 32 := 4#32
  let v273 : BitVec 32 := Scalar.muli arg28 c4_i32_182
  let v274 : BitVec 32 := Scalar.addi c0_i32_183 v273
  let v275 : Index := Scalar.indexCast v274
  let c0_184 : Index := 0#32
  let c0_185 : Index := 0#32
  let c0_186 : Index := 0#32
  ![v275.toNat, 0, 0, 0]
def k0_mult21 (k0_t10 : Fin k0_t10_loop.trips) : BitVec 32 :=
  let c0_i32_183 : BitVec 32 := 0#32
  let c0_i32_109 : BitVec 32 := 0#32
  let c1_i32_111 : BitVec 32 := 1#32
  let arg28 : BitVec 32 := Scf.iv c0_i32_109 c1_i32_111 k0_t10
  let c4_i32_182 : BitVec 32 := 4#32
  let v273 : BitVec 32 := Scalar.muli arg28 c4_i32_182
  let v274 : BitVec 32 := Scalar.addi c0_i32_183 v273
  let c4_i32_187 : BitVec 32 := 4#32
  let v281 : BitVec 32 := Scalar.muli v274 c4_i32_187
  v281
def k0_off51 (k0_t10 : Fin k0_t10_loop.trips) : Fin 3 → Nat :=
  let c0_i32_183 : BitVec 32 := 0#32
  let c0_i32_109 : BitVec 32 := 0#32
  let c1_i32_111 : BitVec 32 := 1#32
  let arg28 : BitVec 32 := Scf.iv c0_i32_109 c1_i32_111 k0_t10
  let c4_i32_182 : BitVec 32 := 4#32
  let v273 : BitVec 32 := Scalar.muli arg28 c4_i32_182
  let v274 : BitVec 32 := Scalar.addi c0_i32_183 v273
  let c4_i32_187 : BitVec 32 := 4#32
  let v281 : BitVec 32 := Scalar.muli v274 c4_i32_187
  let v282 : BitVec 32 := v281
  let v284 : Index := Scalar.indexCast v282
  let c0_188 : Index := 0#32
  ![v284.toNat, 0, 0]
@[reducible] def k0_t11_loop : Scf.Loop 32 :=
  let c0_i32_113 : BitVec 32 := 0#32
  let c32_i32_114 : BitVec 32 := 32#32
  let v204 : BitVec 32 := Scalar.addi c0_i32_113 c32_i32_114
  let c1_i32_115 : BitVec 32 := 1#32
  ⟨c0_i32_113, v204, c1_i32_115⟩
def k0_off52 (i : grid0.Coords) : Fin 3 → Nat :=
  let c1_180 : Index := 1#32
  let arg0 : BitVec 32 := BitVec.ofNat 32 (i 0).val
  let c8_i32_108 : BitVec 32 := 8#32
  let v201 : BitVec 32 := Scalar.muli arg0 c8_i32_108
  let v202 : BitVec 32 := v201
  let v266 : Index := Scalar.indexCast v202
  let c1_181 : Index := 1#32
  ![1, v266.toNat, 1]
def k0_off53 (k0_t11 : Fin k0_t11_loop.trips) : Fin 4 → Nat :=
  let c128_i32 : BitVec 32 := 128#32
  let c0_i32_113 : BitVec 32 := 0#32
  let c1_i32_115 : BitVec 32 := 1#32
  let arg28 : BitVec 32 := Scf.iv c0_i32_113 c1_i32_115 k0_t11
  let c4_i32_182 : BitVec 32 := 4#32
  let v273 : BitVec 32 := Scalar.muli arg28 c4_i32_182
  let v274 : BitVec 32 := Scalar.addi c128_i32 v273
  let v275 : Index := Scalar.indexCast v274
  let c0_183 : Index := 0#32
  let c0_184 : Index := 0#32
  let c0_185 : Index := 0#32
  ![v275.toNat, 0, 0, 0]
def k0_mult22 (k0_t11 : Fin k0_t11_loop.trips) : BitVec 32 :=
  let c128_i32 : BitVec 32 := 128#32
  let c0_i32_113 : BitVec 32 := 0#32
  let c1_i32_115 : BitVec 32 := 1#32
  let arg28 : BitVec 32 := Scf.iv c0_i32_113 c1_i32_115 k0_t11
  let c4_i32_182 : BitVec 32 := 4#32
  let v273 : BitVec 32 := Scalar.muli arg28 c4_i32_182
  let v274 : BitVec 32 := Scalar.addi c128_i32 v273
  let c4_i32_186 : BitVec 32 := 4#32
  let v281 : BitVec 32 := Scalar.muli v274 c4_i32_186
  v281
def k0_off54 (k0_t11 : Fin k0_t11_loop.trips) : Fin 3 → Nat :=
  let c128_i32 : BitVec 32 := 128#32
  let c0_i32_113 : BitVec 32 := 0#32
  let c1_i32_115 : BitVec 32 := 1#32
  let arg28 : BitVec 32 := Scf.iv c0_i32_113 c1_i32_115 k0_t11
  let c4_i32_182 : BitVec 32 := 4#32
  let v273 : BitVec 32 := Scalar.muli arg28 c4_i32_182
  let v274 : BitVec 32 := Scalar.addi c128_i32 v273
  let c4_i32_186 : BitVec 32 := 4#32
  let v281 : BitVec 32 := Scalar.muli v274 c4_i32_186
  let v282 : BitVec 32 := v281
  let v284 : Index := Scalar.indexCast v282
  let c0_187 : Index := 0#32
  ![v284.toNat, 0, 0]
@[reducible] def k0_t12_loop : Scf.Loop 32 :=
  let c0_i32_117 : BitVec 32 := 0#32
  let c32_i32_118 : BitVec 32 := 32#32
  let v205 : BitVec 32 := Scalar.addi c0_i32_117 c32_i32_118
  let c1_i32_119 : BitVec 32 := 1#32
  ⟨c0_i32_117, v205, c1_i32_119⟩
def k0_off55 (i : grid0.Coords) : Fin 3 → Nat :=
  let c1_180 : Index := 1#32
  let arg0 : BitVec 32 := BitVec.ofNat 32 (i 0).val
  let c8_i32_108 : BitVec 32 := 8#32
  let v201 : BitVec 32 := Scalar.muli arg0 c8_i32_108
  let v202 : BitVec 32 := v201
  let v266 : Index := Scalar.indexCast v202
  let c2_181 : Index := 2#32
  ![1, v266.toNat, 2]
def k0_off56 (k0_t12 : Fin k0_t12_loop.trips) : Fin 4 → Nat :=
  let c256_i32_183 : BitVec 32 := 256#32
  let c0_i32_117 : BitVec 32 := 0#32
  let c1_i32_119 : BitVec 32 := 1#32
  let arg28 : BitVec 32 := Scf.iv c0_i32_117 c1_i32_119 k0_t12
  let c4_i32_182 : BitVec 32 := 4#32
  let v273 : BitVec 32 := Scalar.muli arg28 c4_i32_182
  let v274 : BitVec 32 := Scalar.addi c256_i32_183 v273
  let v275 : Index := Scalar.indexCast v274
  let c0_184 : Index := 0#32
  let c0_185 : Index := 0#32
  let c0_186 : Index := 0#32
  ![v275.toNat, 0, 0, 0]
def k0_mult23 (k0_t12 : Fin k0_t12_loop.trips) : BitVec 32 :=
  let c256_i32_183 : BitVec 32 := 256#32
  let c0_i32_117 : BitVec 32 := 0#32
  let c1_i32_119 : BitVec 32 := 1#32
  let arg28 : BitVec 32 := Scf.iv c0_i32_117 c1_i32_119 k0_t12
  let c4_i32_182 : BitVec 32 := 4#32
  let v273 : BitVec 32 := Scalar.muli arg28 c4_i32_182
  let v274 : BitVec 32 := Scalar.addi c256_i32_183 v273
  let c4_i32_187 : BitVec 32 := 4#32
  let v281 : BitVec 32 := Scalar.muli v274 c4_i32_187
  v281
def k0_off57 (k0_t12 : Fin k0_t12_loop.trips) : Fin 3 → Nat :=
  let c256_i32_183 : BitVec 32 := 256#32
  let c0_i32_117 : BitVec 32 := 0#32
  let c1_i32_119 : BitVec 32 := 1#32
  let arg28 : BitVec 32 := Scf.iv c0_i32_117 c1_i32_119 k0_t12
  let c4_i32_182 : BitVec 32 := 4#32
  let v273 : BitVec 32 := Scalar.muli arg28 c4_i32_182
  let v274 : BitVec 32 := Scalar.addi c256_i32_183 v273
  let c4_i32_187 : BitVec 32 := 4#32
  let v281 : BitVec 32 := Scalar.muli v274 c4_i32_187
  let v282 : BitVec 32 := v281
  let v284 : Index := Scalar.indexCast v282
  let c0_188 : Index := 0#32
  ![v284.toNat, 0, 0]
@[reducible] def k0_t13_loop : Scf.Loop 32 :=
  let c0_i32_121 : BitVec 32 := 0#32
  let c32_i32_122 : BitVec 32 := 32#32
  let v206 : BitVec 32 := Scalar.addi c0_i32_121 c32_i32_122
  let c1_i32_123 : BitVec 32 := 1#32
  ⟨c0_i32_121, v206, c1_i32_123⟩
def k0_off58 (i : grid0.Coords) : Fin 3 → Nat :=
  let c1_180 : Index := 1#32
  let arg0 : BitVec 32 := BitVec.ofNat 32 (i 0).val
  let c8_i32_108 : BitVec 32 := 8#32
  let v201 : BitVec 32 := Scalar.muli arg0 c8_i32_108
  let v202 : BitVec 32 := v201
  let v266 : Index := Scalar.indexCast v202
  let c3_181 : Index := 3#32
  ![1, v266.toNat, 3]
def k0_off59 (k0_t13 : Fin k0_t13_loop.trips) : Fin 4 → Nat :=
  let c384_i32 : BitVec 32 := 384#32
  let c0_i32_121 : BitVec 32 := 0#32
  let c1_i32_123 : BitVec 32 := 1#32
  let arg28 : BitVec 32 := Scf.iv c0_i32_121 c1_i32_123 k0_t13
  let c4_i32_182 : BitVec 32 := 4#32
  let v273 : BitVec 32 := Scalar.muli arg28 c4_i32_182
  let v274 : BitVec 32 := Scalar.addi c384_i32 v273
  let v275 : Index := Scalar.indexCast v274
  let c0_183 : Index := 0#32
  let c0_184 : Index := 0#32
  let c0_185 : Index := 0#32
  ![v275.toNat, 0, 0, 0]
def k0_mult24 (k0_t13 : Fin k0_t13_loop.trips) : BitVec 32 :=
  let c384_i32 : BitVec 32 := 384#32
  let c0_i32_121 : BitVec 32 := 0#32
  let c1_i32_123 : BitVec 32 := 1#32
  let arg28 : BitVec 32 := Scf.iv c0_i32_121 c1_i32_123 k0_t13
  let c4_i32_182 : BitVec 32 := 4#32
  let v273 : BitVec 32 := Scalar.muli arg28 c4_i32_182
  let v274 : BitVec 32 := Scalar.addi c384_i32 v273
  let c4_i32_186 : BitVec 32 := 4#32
  let v281 : BitVec 32 := Scalar.muli v274 c4_i32_186
  v281
def k0_off60 (k0_t13 : Fin k0_t13_loop.trips) : Fin 3 → Nat :=
  let c384_i32 : BitVec 32 := 384#32
  let c0_i32_121 : BitVec 32 := 0#32
  let c1_i32_123 : BitVec 32 := 1#32
  let arg28 : BitVec 32 := Scf.iv c0_i32_121 c1_i32_123 k0_t13
  let c4_i32_182 : BitVec 32 := 4#32
  let v273 : BitVec 32 := Scalar.muli arg28 c4_i32_182
  let v274 : BitVec 32 := Scalar.addi c384_i32 v273
  let c4_i32_186 : BitVec 32 := 4#32
  let v281 : BitVec 32 := Scalar.muli v274 c4_i32_186
  let v282 : BitVec 32 := v281
  let v284 : Index := Scalar.indexCast v282
  let c0_187 : Index := 0#32
  ![v284.toNat, 0, 0]
@[reducible] def k0_t14_loop : Scf.Loop 32 :=
  let c0_i32_125 : BitVec 32 := 0#32
  let c32_i32_126 : BitVec 32 := 32#32
  let v207 : BitVec 32 := Scalar.addi c0_i32_125 c32_i32_126
  let c1_i32_127 : BitVec 32 := 1#32
  ⟨c0_i32_125, v207, c1_i32_127⟩
def k0_off61 (k0_t14 : Fin k0_t14_loop.trips) (c0_i32_181 : BitVec 32) : Fin 3 → Nat :=
  let c0_i32_125 : BitVec 32 := 0#32
  let c1_i32_127 : BitVec 32 := 1#32
  let arg28 : BitVec 32 := Scf.iv c0_i32_125 c1_i32_127 k0_t14
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let v269 : Index := Scalar.indexCast v268
  let c0_182 : Index := 0#32
  ![v269.toNat, 0, 0]
def k0_off62 (k0_t14 : Fin k0_t14_loop.trips) (c0_i32_181 : BitVec 32) : Fin 3 → Nat :=
  let c0_i32_125 : BitVec 32 := 0#32
  let c1_i32_127 : BitVec 32 := 1#32
  let arg28 : BitVec 32 := Scf.iv c0_i32_125 c1_i32_127 k0_t14
  let c16_i32 : BitVec 32 := 16#32
  let v266 : BitVec 32 := Scalar.muli arg28 c16_i32
  let c4_i32_180 : BitVec 32 := 4#32
  let v267 : BitVec 32 := Scalar.muli v266 c4_i32_180
  let v268 : BitVec 32 := Scalar.addi v267 c0_i32_181
  let c4_i32_183 : BitVec 32 := 4#32
  let v271 : BitVec 32 := Scalar.addi v268 c4_i32_183
  let v272 : Index := Scalar.indexCast v271
  let c0_184 : Index := 0#32
  ![v272.toNat, 0, 0]
def k0_mult25 (k0_t14 : Fin k0_t14_loop.trips) : BitVec 32 :=
  let c0_i32_125 : BitVec 32 := 0#32
  let c1_i32_127 : BitVec 32 := 1#32
  let arg28 : BitVec 32 := Scf.iv c0_i32_125 c1_i32_127 k0_t14
  let c8_i32_187 : BitVec 32 := 8#32
  let v284 : BitVec 32 := Scalar.muli arg28 c8_i32_187
  v284
def k0_off63 (k0_t14 : Fin k0_t14_loop.trips) : Fin 3 → Nat :=
  let c0_i32_125 : BitVec 32 := 0#32
  let c1_i32_127 : BitVec 32 := 1#32
  let arg28 : BitVec 32 := Scf.iv c0_i32_125 c1_i32_127 k0_t14
  let c8_i32_187 : BitVec 32 := 8#32
  let v284 : BitVec 32 := Scalar.muli arg28 c8_i32_187
  let v285 : BitVec 32 := v284
  let v288 : Index := Scalar.indexCast v285
  let c0_188 : Index := 0#32
  ![v288.toNat, 0, 0]
def k0_off64 (k0_t14 : Fin k0_t14_loop.trips) : Fin 3 → Nat :=
  let c0_i32_125 : BitVec 32 := 0#32
  let c1_i32_127 : BitVec 32 := 1#32
  let arg28 : BitVec 32 := Scf.iv c0_i32_125 c1_i32_127 k0_t14
  let c8_i32_187 : BitVec 32 := 8#32
  let v284 : BitVec 32 := Scalar.muli arg28 c8_i32_187
  let v285 : BitVec 32 := v284
  let v294 : Index := Scalar.indexCast v285
  let c128_189 : Index := 128#32
  ![v294.toNat, 0, 128]
def k0_mult26 (k0_t14 : Fin k0_t14_loop.trips) : BitVec 32 :=
  let c0_i32_125 : BitVec 32 := 0#32
  let c1_i32_127 : BitVec 32 := 1#32
  let arg28 : BitVec 32 := Scf.iv c0_i32_125 c1_i32_127 k0_t14
  let c8_i32_199 : BitVec 32 := 8#32
  let v315 : BitVec 32 := Scalar.muli arg28 c8_i32_199
  v315
def k0_off65 (k0_t14 : Fin k0_t14_loop.trips) : Fin 3 → Nat :=
  let c0_i32_125 : BitVec 32 := 0#32
  let c1_i32_127 : BitVec 32 := 1#32
  let arg28 : BitVec 32 := Scf.iv c0_i32_125 c1_i32_127 k0_t14
  let c8_i32_199 : BitVec 32 := 8#32
  let v315 : BitVec 32 := Scalar.muli arg28 c8_i32_199
  let v316 : BitVec 32 := v315
  let v319 : Index := Scalar.indexCast v316
  let c256_200 : Index := 256#32
  ![v319.toNat, 0, 256]
def k0_off66 (k0_t14 : Fin k0_t14_loop.trips) : Fin 3 → Nat :=
  let c0_i32_125 : BitVec 32 := 0#32
  let c1_i32_127 : BitVec 32 := 1#32
  let arg28 : BitVec 32 := Scf.iv c0_i32_125 c1_i32_127 k0_t14
  let c8_i32_199 : BitVec 32 := 8#32
  let v315 : BitVec 32 := Scalar.muli arg28 c8_i32_199
  let v316 : BitVec 32 := v315
  let v325 : Index := Scalar.indexCast v316
  let c384_201 : Index := 384#32
  ![v325.toNat, 0, 384]
def k0_mult27 (k0_t14 : Fin k0_t14_loop.trips) : BitVec 32 :=
  let c0_i32_125 : BitVec 32 := 0#32
  let c1_i32_127 : BitVec 32 := 1#32
  let arg28 : BitVec 32 := Scf.iv c0_i32_125 c1_i32_127 k0_t14
  let c8_i32_210 : BitVec 32 := 8#32
  let v346 : BitVec 32 := Scalar.muli arg28 c8_i32_210
  v346
def k0_off67 (k0_t14 : Fin k0_t14_loop.trips) : Fin 3 → Nat :=
  let c0_i32_125 : BitVec 32 := 0#32
  let c1_i32_127 : BitVec 32 := 1#32
  let arg28 : BitVec 32 := Scf.iv c0_i32_125 c1_i32_127 k0_t14
  let c8_i32_210 : BitVec 32 := 8#32
  let v346 : BitVec 32 := Scalar.muli arg28 c8_i32_210
  let v347 : BitVec 32 := v346
  let v350 : Index := Scalar.indexCast v347
  let c512_211 : Index := 512#32
  ![v350.toNat, 0, 512]
def k0_off68 (k0_t14 : Fin k0_t14_loop.trips) : Fin 3 → Nat :=
  let c0_i32_125 : BitVec 32 := 0#32
  let c1_i32_127 : BitVec 32 := 1#32
  let arg28 : BitVec 32 := Scf.iv c0_i32_125 c1_i32_127 k0_t14
  let c8_i32_210 : BitVec 32 := 8#32
  let v346 : BitVec 32 := Scalar.muli arg28 c8_i32_210
  let v347 : BitVec 32 := v346
  let v356 : Index := Scalar.indexCast v347
  let c640 : Index := 640#32
  ![v356.toNat, 0, 640]
def k0_mult28 (k0_t14 : Fin k0_t14_loop.trips) : BitVec 32 :=
  let c0_i32_125 : BitVec 32 := 0#32
  let c1_i32_127 : BitVec 32 := 1#32
  let arg28 : BitVec 32 := Scf.iv c0_i32_125 c1_i32_127 k0_t14
  let c8_i32_220 : BitVec 32 := 8#32
  let v377 : BitVec 32 := Scalar.muli arg28 c8_i32_220
  v377
def k0_off69 (k0_t14 : Fin k0_t14_loop.trips) : Fin 3 → Nat :=
  let c0_i32_125 : BitVec 32 := 0#32
  let c1_i32_127 : BitVec 32 := 1#32
  let arg28 : BitVec 32 := Scf.iv c0_i32_125 c1_i32_127 k0_t14
  let c8_i32_220 : BitVec 32 := 8#32
  let v377 : BitVec 32 := Scalar.muli arg28 c8_i32_220
  let v378 : BitVec 32 := v377
  let v381 : Index := Scalar.indexCast v378
  let c768 : Index := 768#32
  ![v381.toNat, 0, 768]
def k0_off70 (k0_t14 : Fin k0_t14_loop.trips) : Fin 3 → Nat :=
  let c0_i32_125 : BitVec 32 := 0#32
  let c1_i32_127 : BitVec 32 := 1#32
  let arg28 : BitVec 32 := Scf.iv c0_i32_125 c1_i32_127 k0_t14
  let c8_i32_220 : BitVec 32 := 8#32
  let v377 : BitVec 32 := Scalar.muli arg28 c8_i32_220
  let v378 : BitVec 32 := v377
  let v387 : Index := Scalar.indexCast v378
  let c896 : Index := 896#32
  ![v387.toNat, 0, 896]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c15_i32 : BitVec 32 := 15#32
  let v4 : BitVec 1 := Scalar.cmpi .slt arg0 c15_i32
  let v5 : BitVec 1 := Scalar.andi v3 v4
  let v6 : BitVec 32 := Scalar.extui v5
  let c0_i32_2 : BitVec 32 := 0#32
  let v7 : BitVec 1 := Scalar.cmpi .ne v6 c0_i32_2
  v7

@[reducible] def k0_t15_loop : Scf.Loop 32 :=
  let c0_i32_21 : BitVec 32 := 0#32
  let c256_i32 : BitVec 32 := 256#32
  let v59 : BitVec 32 := Scalar.addi c0_i32_21 c256_i32
  let c1_i32_22 : BitVec 32 := 1#32
  ⟨c0_i32_21, v59, c1_i32_22⟩
def k0_mult29 (k0_t15 : Fin k0_t15_loop.trips) : BitVec 32 :=
  let c0_i32_21 : BitVec 32 := 0#32
  let c1_i32_22 : BitVec 32 := 1#32
  let arg28 : BitVec 32 := Scf.iv c0_i32_21 c1_i32_22 k0_t15
  let c4_i32_202 : BitVec 32 := 4#32
  let v255 : BitVec 32 := Scalar.muli arg28 c4_i32_202
  let c4_i32_203 : BitVec 32 := 4#32
  let v256 : BitVec 32 := Scalar.muli v255 c4_i32_203
  v256
def k0_off71 (k0_t15 : Fin k0_t15_loop.trips) (c0_i32_204 : BitVec 32) : Fin 4 → Nat :=
  let c0_i32_21 : BitVec 32 := 0#32
  let c1_i32_22 : BitVec 32 := 1#32
  let arg28 : BitVec 32 := Scf.iv c0_i32_21 c1_i32_22 k0_t15
  let c4_i32_202 : BitVec 32 := 4#32
  let v255 : BitVec 32 := Scalar.muli arg28 c4_i32_202
  let v258 : BitVec 32 := Scalar.addi v255 c0_i32_204
  let v259 : Index := Scalar.indexCast v258
  let c0_205 : Index := 0#32
  let c0_206 : Index := 0#32
  let c0_207 : Index := 0#32
  ![v259.toNat, 0, 0, 0]
def k0_off72 (k0_t15 : Fin k0_t15_loop.trips) : Fin 4 → Nat :=
  let c0_i32_21 : BitVec 32 := 0#32
  let c1_i32_22 : BitVec 32 := 1#32
  let arg28 : BitVec 32 := Scf.iv c0_i32_21 c1_i32_22 k0_t15
  let c4_i32_202 : BitVec 32 := 4#32
  let v255 : BitVec 32 := Scalar.muli arg28 c4_i32_202
  let v547 : Index := Scalar.indexCast v255
  let c0_280 : Index := 0#32
  let c0_281 : Index := 0#32
  let c0_282 : Index := 0#32
  ![v547.toNat, 0, 0, 0]
def k0_off73 (k0_t15 : Fin k0_t15_loop.trips) : Fin 3 → Nat :=
  let c0_i32_21 : BitVec 32 := 0#32
  let c1_i32_22 : BitVec 32 := 1#32
  let arg28 : BitVec 32 := Scf.iv c0_i32_21 c1_i32_22 k0_t15
  let c4_i32_202 : BitVec 32 := 4#32
  let v255 : BitVec 32 := Scalar.muli arg28 c4_i32_202
  let c4_i32_203 : BitVec 32 := 4#32
  let v256 : BitVec 32 := Scalar.muli v255 c4_i32_203
  let v257 : BitVec 32 := v256
  let v553 : Index := Scalar.indexCast v257
  let c0_283 : Index := 0#32
  ![v553.toNat, 0, 0]
@[reducible] def k0_t16_loop : Scf.Loop 32 :=
  let c0_i32_26 : BitVec 32 := 0#32
  let c64_i32 : BitVec 32 := 64#32
  let v67 : BitVec 32 := Scalar.addi c0_i32_26 c64_i32
  let c1_i32_27 : BitVec 32 := 1#32
  ⟨c0_i32_26, v67, c1_i32_27⟩
def k0_off74 (k0_t16 : Fin k0_t16_loop.trips) (c0_i32_203 : BitVec 32) : Fin 3 → Nat :=
  let c0_i32_26 : BitVec 32 := 0#32
  let c1_i32_27 : BitVec 32 := 1#32
  let arg28 : BitVec 32 := Scf.iv c0_i32_26 c1_i32_27 k0_t16
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let v258 : Index := Scalar.indexCast v257
  let c0_204 : Index := 0#32
  ![v258.toNat, 0, 0]
def k0_off75 (k0_t16 : Fin k0_t16_loop.trips) (c0_i32_203 : BitVec 32) : Fin 3 → Nat :=
  let c0_i32_26 : BitVec 32 := 0#32
  let c1_i32_27 : BitVec 32 := 1#32
  let arg28 : BitVec 32 := Scf.iv c0_i32_26 c1_i32_27 k0_t16
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let c4_i32_205 : BitVec 32 := 4#32
  let v260 : BitVec 32 := Scalar.addi v257 c4_i32_205
  let v261 : Index := Scalar.indexCast v260
  let c0_206 : Index := 0#32
  ![v261.toNat, 0, 0]
def k0_mult30 (k0_t16 : Fin k0_t16_loop.trips) : BitVec 32 :=
  let c0_i32_26 : BitVec 32 := 0#32
  let c1_i32_27 : BitVec 32 := 1#32
  let arg28 : BitVec 32 := Scf.iv c0_i32_26 c1_i32_27 k0_t16
  let c8_i32_209 : BitVec 32 := 8#32
  let v273 : BitVec 32 := Scalar.muli arg28 c8_i32_209
  v273
def k0_off76 (k0_t16 : Fin k0_t16_loop.trips) : Fin 3 → Nat :=
  let c0_i32_26 : BitVec 32 := 0#32
  let c1_i32_27 : BitVec 32 := 1#32
  let arg28 : BitVec 32 := Scf.iv c0_i32_26 c1_i32_27 k0_t16
  let c8_i32_209 : BitVec 32 := 8#32
  let v273 : BitVec 32 := Scalar.muli arg28 c8_i32_209
  let v274 : BitVec 32 := v273
  let v277 : Index := Scalar.indexCast v274
  let c0_210 : Index := 0#32
  ![v277.toNat, 0, 0]
def k0_off77 (k0_t16 : Fin k0_t16_loop.trips) : Fin 3 → Nat :=
  let c0_i32_26 : BitVec 32 := 0#32
  let c1_i32_27 : BitVec 32 := 1#32
  let arg28 : BitVec 32 := Scf.iv c0_i32_26 c1_i32_27 k0_t16
  let c8_i32_209 : BitVec 32 := 8#32
  let v273 : BitVec 32 := Scalar.muli arg28 c8_i32_209
  let v274 : BitVec 32 := v273
  let v283 : Index := Scalar.indexCast v274
  let c128 : Index := 128#32
  ![v283.toNat, 0, 128]
def k0_mult31 (k0_t16 : Fin k0_t16_loop.trips) : BitVec 32 :=
  let c0_i32_26 : BitVec 32 := 0#32
  let c1_i32_27 : BitVec 32 := 1#32
  let arg28 : BitVec 32 := Scf.iv c0_i32_26 c1_i32_27 k0_t16
  let c8_i32_220 : BitVec 32 := 8#32
  let v304 : BitVec 32 := Scalar.muli arg28 c8_i32_220
  v304
def k0_off78 (k0_t16 : Fin k0_t16_loop.trips) : Fin 3 → Nat :=
  let c0_i32_26 : BitVec 32 := 0#32
  let c1_i32_27 : BitVec 32 := 1#32
  let arg28 : BitVec 32 := Scf.iv c0_i32_26 c1_i32_27 k0_t16
  let c8_i32_220 : BitVec 32 := 8#32
  let v304 : BitVec 32 := Scalar.muli arg28 c8_i32_220
  let v305 : BitVec 32 := v304
  let v308 : Index := Scalar.indexCast v305
  let c256_221 : Index := 256#32
  ![v308.toNat, 0, 256]
def k0_off79 (k0_t16 : Fin k0_t16_loop.trips) : Fin 3 → Nat :=
  let c0_i32_26 : BitVec 32 := 0#32
  let c1_i32_27 : BitVec 32 := 1#32
  let arg28 : BitVec 32 := Scf.iv c0_i32_26 c1_i32_27 k0_t16
  let c8_i32_220 : BitVec 32 := 8#32
  let v304 : BitVec 32 := Scalar.muli arg28 c8_i32_220
  let v305 : BitVec 32 := v304
  let v314 : Index := Scalar.indexCast v305
  let c384 : Index := 384#32
  ![v314.toNat, 0, 384]
def k0_mult32 (k0_t16 : Fin k0_t16_loop.trips) : BitVec 32 :=
  let c0_i32_26 : BitVec 32 := 0#32
  let c1_i32_27 : BitVec 32 := 1#32
  let arg28 : BitVec 32 := Scf.iv c0_i32_26 c1_i32_27 k0_t16
  let c8_i32_230 : BitVec 32 := 8#32
  let v335 : BitVec 32 := Scalar.muli arg28 c8_i32_230
  v335
def k0_off80 (k0_t16 : Fin k0_t16_loop.trips) : Fin 3 → Nat :=
  let c0_i32_26 : BitVec 32 := 0#32
  let c1_i32_27 : BitVec 32 := 1#32
  let arg28 : BitVec 32 := Scf.iv c0_i32_26 c1_i32_27 k0_t16
  let c8_i32_230 : BitVec 32 := 8#32
  let v335 : BitVec 32 := Scalar.muli arg28 c8_i32_230
  let v336 : BitVec 32 := v335
  let v339 : Index := Scalar.indexCast v336
  let c512_231 : Index := 512#32
  ![v339.toNat, 0, 512]
def k0_off81 (k0_t16 : Fin k0_t16_loop.trips) : Fin 3 → Nat :=
  let c0_i32_26 : BitVec 32 := 0#32
  let c1_i32_27 : BitVec 32 := 1#32
  let arg28 : BitVec 32 := Scf.iv c0_i32_26 c1_i32_27 k0_t16
  let c8_i32_230 : BitVec 32 := 8#32
  let v335 : BitVec 32 := Scalar.muli arg28 c8_i32_230
  let v336 : BitVec 32 := v335
  let v345 : Index := Scalar.indexCast v336
  let c640 : Index := 640#32
  ![v345.toNat, 0, 640]
def k0_mult33 (k0_t16 : Fin k0_t16_loop.trips) : BitVec 32 :=
  let c0_i32_26 : BitVec 32 := 0#32
  let c1_i32_27 : BitVec 32 := 1#32
  let arg28 : BitVec 32 := Scf.iv c0_i32_26 c1_i32_27 k0_t16
  let c8_i32_240 : BitVec 32 := 8#32
  let v366 : BitVec 32 := Scalar.muli arg28 c8_i32_240
  v366
def k0_off82 (k0_t16 : Fin k0_t16_loop.trips) : Fin 3 → Nat :=
  let c0_i32_26 : BitVec 32 := 0#32
  let c1_i32_27 : BitVec 32 := 1#32
  let arg28 : BitVec 32 := Scf.iv c0_i32_26 c1_i32_27 k0_t16
  let c8_i32_240 : BitVec 32 := 8#32
  let v366 : BitVec 32 := Scalar.muli arg28 c8_i32_240
  let v367 : BitVec 32 := v366
  let v370 : Index := Scalar.indexCast v367
  let c768 : Index := 768#32
  ![v370.toNat, 0, 768]
def k0_off83 (k0_t16 : Fin k0_t16_loop.trips) : Fin 3 → Nat :=
  let c0_i32_26 : BitVec 32 := 0#32
  let c1_i32_27 : BitVec 32 := 1#32
  let arg28 : BitVec 32 := Scf.iv c0_i32_26 c1_i32_27 k0_t16
  let c8_i32_240 : BitVec 32 := 8#32
  let v366 : BitVec 32 := Scalar.muli arg28 c8_i32_240
  let v367 : BitVec 32 := v366
  let v376 : Index := Scalar.indexCast v367
  let c896 : Index := 896#32
  ![v376.toNat, 0, 896]
def k0_mult34 (i : grid0.Coords) : BitVec 32 :=
  let arg0 : BitVec 32 := BitVec.ofNat 32 (i 0).val
  let c8_i32 : BitVec 32 := 8#32
  let v68 : BitVec 32 := Scalar.muli arg0 c8_i32
  v68
@[reducible] def k0_t17_loop : Scf.Loop 32 :=
  let c0_i32_29 : BitVec 32 := 0#32
  let c32_i32 : BitVec 32 := 32#32
  let v70 : BitVec 32 := Scalar.addi c0_i32_29 c32_i32
  let c1_i32_30 : BitVec 32 := 1#32
  ⟨c0_i32_29, v70, c1_i32_30⟩
def k0_off84 (i : grid0.Coords) : Fin 3 → Nat :=
  let c0_202 : Index := 0#32
  let arg0 : BitVec 32 := BitVec.ofNat 32 (i 0).val
  let c8_i32 : BitVec 32 := 8#32
  let v68 : BitVec 32 := Scalar.muli arg0 c8_i32
  let v69 : BitVec 32 := v68
  let v255 : Index := Scalar.indexCast v69
  let c0_203 : Index := 0#32
  ![0, v255.toNat, 0]
def k0_off85 (k0_t17 : Fin k0_t17_loop.trips) : Fin 4 → Nat :=
  let c0_i32_205 : BitVec 32 := 0#32
  let c0_i32_29 : BitVec 32 := 0#32
  let c1_i32_30 : BitVec 32 := 1#32
  let arg28 : BitVec 32 := Scf.iv c0_i32_29 c1_i32_30 k0_t17
  let c4_i32_204 : BitVec 32 := 4#32
  let v262 : BitVec 32 := Scalar.muli arg28 c4_i32_204
  let v263 : BitVec 32 := Scalar.addi c0_i32_205 v262
  let v264 : Index := Scalar.indexCast v263
  let c0_206 : Index := 0#32
  let c0_207 : Index := 0#32
  let c0_208 : Index := 0#32
  ![v264.toNat, 0, 0, 0]
def k0_mult35 (k0_t17 : Fin k0_t17_loop.trips) : BitVec 32 :=
  let c0_i32_205 : BitVec 32 := 0#32
  let c0_i32_29 : BitVec 32 := 0#32
  let c1_i32_30 : BitVec 32 := 1#32
  let arg28 : BitVec 32 := Scf.iv c0_i32_29 c1_i32_30 k0_t17
  let c4_i32_204 : BitVec 32 := 4#32
  let v262 : BitVec 32 := Scalar.muli arg28 c4_i32_204
  let v263 : BitVec 32 := Scalar.addi c0_i32_205 v262
  let c4_i32_209 : BitVec 32 := 4#32
  let v270 : BitVec 32 := Scalar.muli v263 c4_i32_209
  v270
def k0_off86 (k0_t17 : Fin k0_t17_loop.trips) : Fin 3 → Nat :=
  let c0_i32_205 : BitVec 32 := 0#32
  let c0_i32_29 : BitVec 32 := 0#32
  let c1_i32_30 : BitVec 32 := 1#32
  let arg28 : BitVec 32 := Scf.iv c0_i32_29 c1_i32_30 k0_t17
  let c4_i32_204 : BitVec 32 := 4#32
  let v262 : BitVec 32 := Scalar.muli arg28 c4_i32_204
  let v263 : BitVec 32 := Scalar.addi c0_i32_205 v262
  let c4_i32_209 : BitVec 32 := 4#32
  let v270 : BitVec 32 := Scalar.muli v263 c4_i32_209
  let v271 : BitVec 32 := v270
  let v273 : Index := Scalar.indexCast v271
  let c0_210 : Index := 0#32
  ![v273.toNat, 0, 0]
@[reducible] def k0_t18_loop : Scf.Loop 32 :=
  let c0_i32_32 : BitVec 32 := 0#32
  let c32_i32_33 : BitVec 32 := 32#32
  let v71 : BitVec 32 := Scalar.addi c0_i32_32 c32_i32_33
  let c1_i32_34 : BitVec 32 := 1#32
  ⟨c0_i32_32, v71, c1_i32_34⟩
def k0_off87 (i : grid0.Coords) : Fin 3 → Nat :=
  let c0_202 : Index := 0#32
  let arg0 : BitVec 32 := BitVec.ofNat 32 (i 0).val
  let c8_i32 : BitVec 32 := 8#32
  let v68 : BitVec 32 := Scalar.muli arg0 c8_i32
  let v69 : BitVec 32 := v68
  let v255 : Index := Scalar.indexCast v69
  let c1_203 : Index := 1#32
  ![0, v255.toNat, 1]
def k0_off88 (k0_t18 : Fin k0_t18_loop.trips) : Fin 4 → Nat :=
  let c128_i32 : BitVec 32 := 128#32
  let c0_i32_32 : BitVec 32 := 0#32
  let c1_i32_34 : BitVec 32 := 1#32
  let arg28 : BitVec 32 := Scf.iv c0_i32_32 c1_i32_34 k0_t18
  let c4_i32_204 : BitVec 32 := 4#32
  let v262 : BitVec 32 := Scalar.muli arg28 c4_i32_204
  let v263 : BitVec 32 := Scalar.addi c128_i32 v262
  let v264 : Index := Scalar.indexCast v263
  let c0_205 : Index := 0#32
  let c0_206 : Index := 0#32
  let c0_207 : Index := 0#32
  ![v264.toNat, 0, 0, 0]
def k0_mult36 (k0_t18 : Fin k0_t18_loop.trips) : BitVec 32 :=
  let c128_i32 : BitVec 32 := 128#32
  let c0_i32_32 : BitVec 32 := 0#32
  let c1_i32_34 : BitVec 32 := 1#32
  let arg28 : BitVec 32 := Scf.iv c0_i32_32 c1_i32_34 k0_t18
  let c4_i32_204 : BitVec 32 := 4#32
  let v262 : BitVec 32 := Scalar.muli arg28 c4_i32_204
  let v263 : BitVec 32 := Scalar.addi c128_i32 v262
  let c4_i32_208 : BitVec 32 := 4#32
  let v270 : BitVec 32 := Scalar.muli v263 c4_i32_208
  v270
def k0_off89 (k0_t18 : Fin k0_t18_loop.trips) : Fin 3 → Nat :=
  let c128_i32 : BitVec 32 := 128#32
  let c0_i32_32 : BitVec 32 := 0#32
  let c1_i32_34 : BitVec 32 := 1#32
  let arg28 : BitVec 32 := Scf.iv c0_i32_32 c1_i32_34 k0_t18
  let c4_i32_204 : BitVec 32 := 4#32
  let v262 : BitVec 32 := Scalar.muli arg28 c4_i32_204
  let v263 : BitVec 32 := Scalar.addi c128_i32 v262
  let c4_i32_208 : BitVec 32 := 4#32
  let v270 : BitVec 32 := Scalar.muli v263 c4_i32_208
  let v271 : BitVec 32 := v270
  let v273 : Index := Scalar.indexCast v271
  let c0_209 : Index := 0#32
  ![v273.toNat, 0, 0]
@[reducible] def k0_t19_loop : Scf.Loop 32 :=
  let c0_i32_36 : BitVec 32 := 0#32
  let c32_i32_37 : BitVec 32 := 32#32
  let v72 : BitVec 32 := Scalar.addi c0_i32_36 c32_i32_37
  let c1_i32_38 : BitVec 32 := 1#32
  ⟨c0_i32_36, v72, c1_i32_38⟩
def k0_off90 (i : grid0.Coords) : Fin 3 → Nat :=
  let c0_202 : Index := 0#32
  let arg0 : BitVec 32 := BitVec.ofNat 32 (i 0).val
  let c8_i32 : BitVec 32 := 8#32
  let v68 : BitVec 32 := Scalar.muli arg0 c8_i32
  let v69 : BitVec 32 := v68
  let v255 : Index := Scalar.indexCast v69
  let c2_203 : Index := 2#32
  ![0, v255.toNat, 2]
def k0_off91 (k0_t19 : Fin k0_t19_loop.trips) : Fin 4 → Nat :=
  let c256_i32_205 : BitVec 32 := 256#32
  let c0_i32_36 : BitVec 32 := 0#32
  let c1_i32_38 : BitVec 32 := 1#32
  let arg28 : BitVec 32 := Scf.iv c0_i32_36 c1_i32_38 k0_t19
  let c4_i32_204 : BitVec 32 := 4#32
  let v262 : BitVec 32 := Scalar.muli arg28 c4_i32_204
  let v263 : BitVec 32 := Scalar.addi c256_i32_205 v262
  let v264 : Index := Scalar.indexCast v263
  let c0_206 : Index := 0#32
  let c0_207 : Index := 0#32
  let c0_208 : Index := 0#32
  ![v264.toNat, 0, 0, 0]
def k0_mult37 (k0_t19 : Fin k0_t19_loop.trips) : BitVec 32 :=
  let c256_i32_205 : BitVec 32 := 256#32
  let c0_i32_36 : BitVec 32 := 0#32
  let c1_i32_38 : BitVec 32 := 1#32
  let arg28 : BitVec 32 := Scf.iv c0_i32_36 c1_i32_38 k0_t19
  let c4_i32_204 : BitVec 32 := 4#32
  let v262 : BitVec 32 := Scalar.muli arg28 c4_i32_204
  let v263 : BitVec 32 := Scalar.addi c256_i32_205 v262
  let c4_i32_209 : BitVec 32 := 4#32
  let v270 : BitVec 32 := Scalar.muli v263 c4_i32_209
  v270
def k0_off92 (k0_t19 : Fin k0_t19_loop.trips) : Fin 3 → Nat :=
  let c256_i32_205 : BitVec 32 := 256#32
  let c0_i32_36 : BitVec 32 := 0#32
  let c1_i32_38 : BitVec 32 := 1#32
  let arg28 : BitVec 32 := Scf.iv c0_i32_36 c1_i32_38 k0_t19
  let c4_i32_204 : BitVec 32 := 4#32
  let v262 : BitVec 32 := Scalar.muli arg28 c4_i32_204
  let v263 : BitVec 32 := Scalar.addi c256_i32_205 v262
  let c4_i32_209 : BitVec 32 := 4#32
  let v270 : BitVec 32 := Scalar.muli v263 c4_i32_209
  let v271 : BitVec 32 := v270
  let v273 : Index := Scalar.indexCast v271
  let c0_210 : Index := 0#32
  ![v273.toNat, 0, 0]
@[reducible] def k0_t20_loop : Scf.Loop 32 :=
  let c0_i32_40 : BitVec 32 := 0#32
  let c32_i32_41 : BitVec 32 := 32#32
  let v73 : BitVec 32 := Scalar.addi c0_i32_40 c32_i32_41
  let c1_i32_42 : BitVec 32 := 1#32
  ⟨c0_i32_40, v73, c1_i32_42⟩
def k0_off93 (i : grid0.Coords) : Fin 3 → Nat :=
  let c0_202 : Index := 0#32
  let arg0 : BitVec 32 := BitVec.ofNat 32 (i 0).val
  let c8_i32 : BitVec 32 := 8#32
  let v68 : BitVec 32 := Scalar.muli arg0 c8_i32
  let v69 : BitVec 32 := v68
  let v255 : Index := Scalar.indexCast v69
  let c3_203 : Index := 3#32
  ![0, v255.toNat, 3]
def k0_off94 (k0_t20 : Fin k0_t20_loop.trips) : Fin 4 → Nat :=
  let c384_i32 : BitVec 32 := 384#32
  let c0_i32_40 : BitVec 32 := 0#32
  let c1_i32_42 : BitVec 32 := 1#32
  let arg28 : BitVec 32 := Scf.iv c0_i32_40 c1_i32_42 k0_t20
  let c4_i32_204 : BitVec 32 := 4#32
  let v262 : BitVec 32 := Scalar.muli arg28 c4_i32_204
  let v263 : BitVec 32 := Scalar.addi c384_i32 v262
  let v264 : Index := Scalar.indexCast v263
  let c0_205 : Index := 0#32
  let c0_206 : Index := 0#32
  let c0_207 : Index := 0#32
  ![v264.toNat, 0, 0, 0]
def k0_mult38 (k0_t20 : Fin k0_t20_loop.trips) : BitVec 32 :=
  let c384_i32 : BitVec 32 := 384#32
  let c0_i32_40 : BitVec 32 := 0#32
  let c1_i32_42 : BitVec 32 := 1#32
  let arg28 : BitVec 32 := Scf.iv c0_i32_40 c1_i32_42 k0_t20
  let c4_i32_204 : BitVec 32 := 4#32
  let v262 : BitVec 32 := Scalar.muli arg28 c4_i32_204
  let v263 : BitVec 32 := Scalar.addi c384_i32 v262
  let c4_i32_208 : BitVec 32 := 4#32
  let v270 : BitVec 32 := Scalar.muli v263 c4_i32_208
  v270
def k0_off95 (k0_t20 : Fin k0_t20_loop.trips) : Fin 3 → Nat :=
  let c384_i32 : BitVec 32 := 384#32
  let c0_i32_40 : BitVec 32 := 0#32
  let c1_i32_42 : BitVec 32 := 1#32
  let arg28 : BitVec 32 := Scf.iv c0_i32_40 c1_i32_42 k0_t20
  let c4_i32_204 : BitVec 32 := 4#32
  let v262 : BitVec 32 := Scalar.muli arg28 c4_i32_204
  let v263 : BitVec 32 := Scalar.addi c384_i32 v262
  let c4_i32_208 : BitVec 32 := 4#32
  let v270 : BitVec 32 := Scalar.muli v263 c4_i32_208
  let v271 : BitVec 32 := v270
  let v273 : Index := Scalar.indexCast v271
  let c0_209 : Index := 0#32
  ![v273.toNat, 0, 0]
@[reducible] def k0_t21_loop : Scf.Loop 32 :=
  let c0_i32_44 : BitVec 32 := 0#32
  let c32_i32_45 : BitVec 32 := 32#32
  let v74 : BitVec 32 := Scalar.addi c0_i32_44 c32_i32_45
  let c1_i32_46 : BitVec 32 := 1#32
  ⟨c0_i32_44, v74, c1_i32_46⟩
def k0_off96 (k0_t21 : Fin k0_t21_loop.trips) (c0_i32_203 : BitVec 32) : Fin 3 → Nat :=
  let c0_i32_44 : BitVec 32 := 0#32
  let c1_i32_46 : BitVec 32 := 1#32
  let arg28 : BitVec 32 := Scf.iv c0_i32_44 c1_i32_46 k0_t21
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let v258 : Index := Scalar.indexCast v257
  let c0_204 : Index := 0#32
  ![v258.toNat, 0, 0]
def k0_off97 (k0_t21 : Fin k0_t21_loop.trips) (c0_i32_203 : BitVec 32) : Fin 3 → Nat :=
  let c0_i32_44 : BitVec 32 := 0#32
  let c1_i32_46 : BitVec 32 := 1#32
  let arg28 : BitVec 32 := Scf.iv c0_i32_44 c1_i32_46 k0_t21
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let c4_i32_205 : BitVec 32 := 4#32
  let v260 : BitVec 32 := Scalar.addi v257 c4_i32_205
  let v261 : Index := Scalar.indexCast v260
  let c0_206 : Index := 0#32
  ![v261.toNat, 0, 0]
def k0_mult39 (k0_t21 : Fin k0_t21_loop.trips) : BitVec 32 :=
  let c0_i32_44 : BitVec 32 := 0#32
  let c1_i32_46 : BitVec 32 := 1#32
  let arg28 : BitVec 32 := Scf.iv c0_i32_44 c1_i32_46 k0_t21
  let c8_i32_209 : BitVec 32 := 8#32
  let v273 : BitVec 32 := Scalar.muli arg28 c8_i32_209
  v273
def k0_off98 (k0_t21 : Fin k0_t21_loop.trips) : Fin 3 → Nat :=
  let c0_i32_44 : BitVec 32 := 0#32
  let c1_i32_46 : BitVec 32 := 1#32
  let arg28 : BitVec 32 := Scf.iv c0_i32_44 c1_i32_46 k0_t21
  let c8_i32_209 : BitVec 32 := 8#32
  let v273 : BitVec 32 := Scalar.muli arg28 c8_i32_209
  let v274 : BitVec 32 := v273
  let v277 : Index := Scalar.indexCast v274
  let c0_210 : Index := 0#32
  ![v277.toNat, 0, 0]
def k0_off99 (k0_t21 : Fin k0_t21_loop.trips) : Fin 3 → Nat :=
  let c0_i32_44 : BitVec 32 := 0#32
  let c1_i32_46 : BitVec 32 := 1#32
  let arg28 : BitVec 32 := Scf.iv c0_i32_44 c1_i32_46 k0_t21
  let c8_i32_209 : BitVec 32 := 8#32
  let v273 : BitVec 32 := Scalar.muli arg28 c8_i32_209
  let v274 : BitVec 32 := v273
  let v283 : Index := Scalar.indexCast v274
  let c128 : Index := 128#32
  ![v283.toNat, 0, 128]
def k0_mult40 (k0_t21 : Fin k0_t21_loop.trips) : BitVec 32 :=
  let c0_i32_44 : BitVec 32 := 0#32
  let c1_i32_46 : BitVec 32 := 1#32
  let arg28 : BitVec 32 := Scf.iv c0_i32_44 c1_i32_46 k0_t21
  let c8_i32_220 : BitVec 32 := 8#32
  let v304 : BitVec 32 := Scalar.muli arg28 c8_i32_220
  v304
def k0_off100 (k0_t21 : Fin k0_t21_loop.trips) : Fin 3 → Nat :=
  let c0_i32_44 : BitVec 32 := 0#32
  let c1_i32_46 : BitVec 32 := 1#32
  let arg28 : BitVec 32 := Scf.iv c0_i32_44 c1_i32_46 k0_t21
  let c8_i32_220 : BitVec 32 := 8#32
  let v304 : BitVec 32 := Scalar.muli arg28 c8_i32_220
  let v305 : BitVec 32 := v304
  let v308 : Index := Scalar.indexCast v305
  let c256_221 : Index := 256#32
  ![v308.toNat, 0, 256]
def k0_off101 (k0_t21 : Fin k0_t21_loop.trips) : Fin 3 → Nat :=
  let c0_i32_44 : BitVec 32 := 0#32
  let c1_i32_46 : BitVec 32 := 1#32
  let arg28 : BitVec 32 := Scf.iv c0_i32_44 c1_i32_46 k0_t21
  let c8_i32_220 : BitVec 32 := 8#32
  let v304 : BitVec 32 := Scalar.muli arg28 c8_i32_220
  let v305 : BitVec 32 := v304
  let v314 : Index := Scalar.indexCast v305
  let c384 : Index := 384#32
  ![v314.toNat, 0, 384]
def k0_mult41 (k0_t21 : Fin k0_t21_loop.trips) : BitVec 32 :=
  let c0_i32_44 : BitVec 32 := 0#32
  let c1_i32_46 : BitVec 32 := 1#32
  let arg28 : BitVec 32 := Scf.iv c0_i32_44 c1_i32_46 k0_t21
  let c8_i32_230 : BitVec 32 := 8#32
  let v335 : BitVec 32 := Scalar.muli arg28 c8_i32_230
  v335
def k0_off102 (k0_t21 : Fin k0_t21_loop.trips) : Fin 3 → Nat :=
  let c0_i32_44 : BitVec 32 := 0#32
  let c1_i32_46 : BitVec 32 := 1#32
  let arg28 : BitVec 32 := Scf.iv c0_i32_44 c1_i32_46 k0_t21
  let c8_i32_230 : BitVec 32 := 8#32
  let v335 : BitVec 32 := Scalar.muli arg28 c8_i32_230
  let v336 : BitVec 32 := v335
  let v339 : Index := Scalar.indexCast v336
  let c512_231 : Index := 512#32
  ![v339.toNat, 0, 512]
def k0_off103 (k0_t21 : Fin k0_t21_loop.trips) : Fin 3 → Nat :=
  let c0_i32_44 : BitVec 32 := 0#32
  let c1_i32_46 : BitVec 32 := 1#32
  let arg28 : BitVec 32 := Scf.iv c0_i32_44 c1_i32_46 k0_t21
  let c8_i32_230 : BitVec 32 := 8#32
  let v335 : BitVec 32 := Scalar.muli arg28 c8_i32_230
  let v336 : BitVec 32 := v335
  let v345 : Index := Scalar.indexCast v336
  let c640 : Index := 640#32
  ![v345.toNat, 0, 640]
def k0_mult42 (k0_t21 : Fin k0_t21_loop.trips) : BitVec 32 :=
  let c0_i32_44 : BitVec 32 := 0#32
  let c1_i32_46 : BitVec 32 := 1#32
  let arg28 : BitVec 32 := Scf.iv c0_i32_44 c1_i32_46 k0_t21
  let c8_i32_240 : BitVec 32 := 8#32
  let v366 : BitVec 32 := Scalar.muli arg28 c8_i32_240
  v366
def k0_off104 (k0_t21 : Fin k0_t21_loop.trips) : Fin 3 → Nat :=
  let c0_i32_44 : BitVec 32 := 0#32
  let c1_i32_46 : BitVec 32 := 1#32
  let arg28 : BitVec 32 := Scf.iv c0_i32_44 c1_i32_46 k0_t21
  let c8_i32_240 : BitVec 32 := 8#32
  let v366 : BitVec 32 := Scalar.muli arg28 c8_i32_240
  let v367 : BitVec 32 := v366
  let v370 : Index := Scalar.indexCast v367
  let c768 : Index := 768#32
  ![v370.toNat, 0, 768]
def k0_off105 (k0_t21 : Fin k0_t21_loop.trips) : Fin 3 → Nat :=
  let c0_i32_44 : BitVec 32 := 0#32
  let c1_i32_46 : BitVec 32 := 1#32
  let arg28 : BitVec 32 := Scf.iv c0_i32_44 c1_i32_46 k0_t21
  let c8_i32_240 : BitVec 32 := 8#32
  let v366 : BitVec 32 := Scalar.muli arg28 c8_i32_240
  let v367 : BitVec 32 := v366
  let v376 : Index := Scalar.indexCast v367
  let c896 : Index := 896#32
  ![v376.toNat, 0, 896]
@[reducible] def k0_t22_loop : Scf.Loop 32 :=
  let c0_i32_115 : BitVec 32 := 0#32
  let c256_i32_116 : BitVec 32 := 256#32
  let v181 : BitVec 32 := Scalar.addi c0_i32_115 c256_i32_116
  let c1_i32_117 : BitVec 32 := 1#32
  ⟨c0_i32_115, v181, c1_i32_117⟩
def k0_mult43 (k0_t22 : Fin k0_t22_loop.trips) : BitVec 32 :=
  let c0_i32_115 : BitVec 32 := 0#32
  let c1_i32_117 : BitVec 32 := 1#32
  let arg28 : BitVec 32 := Scf.iv c0_i32_115 c1_i32_117 k0_t22
  let c4_i32_202 : BitVec 32 := 4#32
  let v255 : BitVec 32 := Scalar.muli arg28 c4_i32_202
  let c4_i32_203 : BitVec 32 := 4#32
  let v256 : BitVec 32 := Scalar.muli v255 c4_i32_203
  v256
def k0_off106 (k0_t22 : Fin k0_t22_loop.trips) (c0_i32_204 : BitVec 32) : Fin 4 → Nat :=
  let c0_i32_115 : BitVec 32 := 0#32
  let c1_i32_117 : BitVec 32 := 1#32
  let arg28 : BitVec 32 := Scf.iv c0_i32_115 c1_i32_117 k0_t22
  let c4_i32_202 : BitVec 32 := 4#32
  let v255 : BitVec 32 := Scalar.muli arg28 c4_i32_202
  let v258 : BitVec 32 := Scalar.addi v255 c0_i32_204
  let v259 : Index := Scalar.indexCast v258
  let c0_205 : Index := 0#32
  let c0_206 : Index := 0#32
  let c0_207 : Index := 0#32
  ![v259.toNat, 0, 0, 0]
def k0_off107 (k0_t22 : Fin k0_t22_loop.trips) : Fin 4 → Nat :=
  let c0_i32_115 : BitVec 32 := 0#32
  let c1_i32_117 : BitVec 32 := 1#32
  let arg28 : BitVec 32 := Scf.iv c0_i32_115 c1_i32_117 k0_t22
  let c4_i32_202 : BitVec 32 := 4#32
  let v255 : BitVec 32 := Scalar.muli arg28 c4_i32_202
  let v547 : Index := Scalar.indexCast v255
  let c0_280 : Index := 0#32
  let c0_281 : Index := 0#32
  let c0_282 : Index := 0#32
  ![v547.toNat, 0, 0, 0]
def k0_off108 (k0_t22 : Fin k0_t22_loop.trips) : Fin 3 → Nat :=
  let c0_i32_115 : BitVec 32 := 0#32
  let c1_i32_117 : BitVec 32 := 1#32
  let arg28 : BitVec 32 := Scf.iv c0_i32_115 c1_i32_117 k0_t22
  let c4_i32_202 : BitVec 32 := 4#32
  let v255 : BitVec 32 := Scalar.muli arg28 c4_i32_202
  let c4_i32_203 : BitVec 32 := 4#32
  let v256 : BitVec 32 := Scalar.muli v255 c4_i32_203
  let v257 : BitVec 32 := v256
  let v553 : Index := Scalar.indexCast v257
  let c0_283 : Index := 0#32
  ![v553.toNat, 0, 0]
@[reducible] def k0_t23_loop : Scf.Loop 32 :=
  let c0_i32_121 : BitVec 32 := 0#32
  let c64_i32_122 : BitVec 32 := 64#32
  let v189 : BitVec 32 := Scalar.addi c0_i32_121 c64_i32_122
  let c1_i32_123 : BitVec 32 := 1#32
  ⟨c0_i32_121, v189, c1_i32_123⟩
def k0_off109 (k0_t23 : Fin k0_t23_loop.trips) (c0_i32_203 : BitVec 32) : Fin 3 → Nat :=
  let c0_i32_121 : BitVec 32 := 0#32
  let c1_i32_123 : BitVec 32 := 1#32
  let arg28 : BitVec 32 := Scf.iv c0_i32_121 c1_i32_123 k0_t23
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let v258 : Index := Scalar.indexCast v257
  let c0_204 : Index := 0#32
  ![v258.toNat, 0, 0]
def k0_off110 (k0_t23 : Fin k0_t23_loop.trips) (c0_i32_203 : BitVec 32) : Fin 3 → Nat :=
  let c0_i32_121 : BitVec 32 := 0#32
  let c1_i32_123 : BitVec 32 := 1#32
  let arg28 : BitVec 32 := Scf.iv c0_i32_121 c1_i32_123 k0_t23
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let c4_i32_205 : BitVec 32 := 4#32
  let v260 : BitVec 32 := Scalar.addi v257 c4_i32_205
  let v261 : Index := Scalar.indexCast v260
  let c0_206 : Index := 0#32
  ![v261.toNat, 0, 0]
def k0_mult44 (k0_t23 : Fin k0_t23_loop.trips) : BitVec 32 :=
  let c0_i32_121 : BitVec 32 := 0#32
  let c1_i32_123 : BitVec 32 := 1#32
  let arg28 : BitVec 32 := Scf.iv c0_i32_121 c1_i32_123 k0_t23
  let c8_i32_209 : BitVec 32 := 8#32
  let v273 : BitVec 32 := Scalar.muli arg28 c8_i32_209
  v273
def k0_off111 (k0_t23 : Fin k0_t23_loop.trips) : Fin 3 → Nat :=
  let c0_i32_121 : BitVec 32 := 0#32
  let c1_i32_123 : BitVec 32 := 1#32
  let arg28 : BitVec 32 := Scf.iv c0_i32_121 c1_i32_123 k0_t23
  let c8_i32_209 : BitVec 32 := 8#32
  let v273 : BitVec 32 := Scalar.muli arg28 c8_i32_209
  let v274 : BitVec 32 := v273
  let v277 : Index := Scalar.indexCast v274
  let c0_210 : Index := 0#32
  ![v277.toNat, 0, 0]
def k0_off112 (k0_t23 : Fin k0_t23_loop.trips) : Fin 3 → Nat :=
  let c0_i32_121 : BitVec 32 := 0#32
  let c1_i32_123 : BitVec 32 := 1#32
  let arg28 : BitVec 32 := Scf.iv c0_i32_121 c1_i32_123 k0_t23
  let c8_i32_209 : BitVec 32 := 8#32
  let v273 : BitVec 32 := Scalar.muli arg28 c8_i32_209
  let v274 : BitVec 32 := v273
  let v283 : Index := Scalar.indexCast v274
  let c128 : Index := 128#32
  ![v283.toNat, 0, 128]
def k0_mult45 (k0_t23 : Fin k0_t23_loop.trips) : BitVec 32 :=
  let c0_i32_121 : BitVec 32 := 0#32
  let c1_i32_123 : BitVec 32 := 1#32
  let arg28 : BitVec 32 := Scf.iv c0_i32_121 c1_i32_123 k0_t23
  let c8_i32_220 : BitVec 32 := 8#32
  let v304 : BitVec 32 := Scalar.muli arg28 c8_i32_220
  v304
def k0_off113 (k0_t23 : Fin k0_t23_loop.trips) : Fin 3 → Nat :=
  let c0_i32_121 : BitVec 32 := 0#32
  let c1_i32_123 : BitVec 32 := 1#32
  let arg28 : BitVec 32 := Scf.iv c0_i32_121 c1_i32_123 k0_t23
  let c8_i32_220 : BitVec 32 := 8#32
  let v304 : BitVec 32 := Scalar.muli arg28 c8_i32_220
  let v305 : BitVec 32 := v304
  let v308 : Index := Scalar.indexCast v305
  let c256_221 : Index := 256#32
  ![v308.toNat, 0, 256]
def k0_off114 (k0_t23 : Fin k0_t23_loop.trips) : Fin 3 → Nat :=
  let c0_i32_121 : BitVec 32 := 0#32
  let c1_i32_123 : BitVec 32 := 1#32
  let arg28 : BitVec 32 := Scf.iv c0_i32_121 c1_i32_123 k0_t23
  let c8_i32_220 : BitVec 32 := 8#32
  let v304 : BitVec 32 := Scalar.muli arg28 c8_i32_220
  let v305 : BitVec 32 := v304
  let v314 : Index := Scalar.indexCast v305
  let c384 : Index := 384#32
  ![v314.toNat, 0, 384]
def k0_mult46 (k0_t23 : Fin k0_t23_loop.trips) : BitVec 32 :=
  let c0_i32_121 : BitVec 32 := 0#32
  let c1_i32_123 : BitVec 32 := 1#32
  let arg28 : BitVec 32 := Scf.iv c0_i32_121 c1_i32_123 k0_t23
  let c8_i32_230 : BitVec 32 := 8#32
  let v335 : BitVec 32 := Scalar.muli arg28 c8_i32_230
  v335
def k0_off115 (k0_t23 : Fin k0_t23_loop.trips) : Fin 3 → Nat :=
  let c0_i32_121 : BitVec 32 := 0#32
  let c1_i32_123 : BitVec 32 := 1#32
  let arg28 : BitVec 32 := Scf.iv c0_i32_121 c1_i32_123 k0_t23
  let c8_i32_230 : BitVec 32 := 8#32
  let v335 : BitVec 32 := Scalar.muli arg28 c8_i32_230
  let v336 : BitVec 32 := v335
  let v339 : Index := Scalar.indexCast v336
  let c512_231 : Index := 512#32
  ![v339.toNat, 0, 512]
def k0_off116 (k0_t23 : Fin k0_t23_loop.trips) : Fin 3 → Nat :=
  let c0_i32_121 : BitVec 32 := 0#32
  let c1_i32_123 : BitVec 32 := 1#32
  let arg28 : BitVec 32 := Scf.iv c0_i32_121 c1_i32_123 k0_t23
  let c8_i32_230 : BitVec 32 := 8#32
  let v335 : BitVec 32 := Scalar.muli arg28 c8_i32_230
  let v336 : BitVec 32 := v335
  let v345 : Index := Scalar.indexCast v336
  let c640 : Index := 640#32
  ![v345.toNat, 0, 640]
def k0_mult47 (k0_t23 : Fin k0_t23_loop.trips) : BitVec 32 :=
  let c0_i32_121 : BitVec 32 := 0#32
  let c1_i32_123 : BitVec 32 := 1#32
  let arg28 : BitVec 32 := Scf.iv c0_i32_121 c1_i32_123 k0_t23
  let c8_i32_240 : BitVec 32 := 8#32
  let v366 : BitVec 32 := Scalar.muli arg28 c8_i32_240
  v366
def k0_off117 (k0_t23 : Fin k0_t23_loop.trips) : Fin 3 → Nat :=
  let c0_i32_121 : BitVec 32 := 0#32
  let c1_i32_123 : BitVec 32 := 1#32
  let arg28 : BitVec 32 := Scf.iv c0_i32_121 c1_i32_123 k0_t23
  let c8_i32_240 : BitVec 32 := 8#32
  let v366 : BitVec 32 := Scalar.muli arg28 c8_i32_240
  let v367 : BitVec 32 := v366
  let v370 : Index := Scalar.indexCast v367
  let c768 : Index := 768#32
  ![v370.toNat, 0, 768]
def k0_off118 (k0_t23 : Fin k0_t23_loop.trips) : Fin 3 → Nat :=
  let c0_i32_121 : BitVec 32 := 0#32
  let c1_i32_123 : BitVec 32 := 1#32
  let arg28 : BitVec 32 := Scf.iv c0_i32_121 c1_i32_123 k0_t23
  let c8_i32_240 : BitVec 32 := 8#32
  let v366 : BitVec 32 := Scalar.muli arg28 c8_i32_240
  let v367 : BitVec 32 := v366
  let v376 : Index := Scalar.indexCast v367
  let c896 : Index := 896#32
  ![v376.toNat, 0, 896]
def k0_mult48 (i : grid0.Coords) : BitVec 32 :=
  let arg0 : BitVec 32 := BitVec.ofNat 32 (i 0).val
  let c8_i32_125 : BitVec 32 := 8#32
  let v190 : BitVec 32 := Scalar.muli arg0 c8_i32_125
  v190
@[reducible] def k0_t24_loop : Scf.Loop 32 :=
  let c0_i32_126 : BitVec 32 := 0#32
  let c32_i32_127 : BitVec 32 := 32#32
  let v192 : BitVec 32 := Scalar.addi c0_i32_126 c32_i32_127
  let c1_i32_128 : BitVec 32 := 1#32
  ⟨c0_i32_126, v192, c1_i32_128⟩
def k0_off119 (i : grid0.Coords) : Fin 3 → Nat :=
  let c1_202 : Index := 1#32
  let arg0 : BitVec 32 := BitVec.ofNat 32 (i 0).val
  let c8_i32_125 : BitVec 32 := 8#32
  let v190 : BitVec 32 := Scalar.muli arg0 c8_i32_125
  let v191 : BitVec 32 := v190
  let v255 : Index := Scalar.indexCast v191
  let c0_203 : Index := 0#32
  ![1, v255.toNat, 0]
def k0_off120 (k0_t24 : Fin k0_t24_loop.trips) : Fin 4 → Nat :=
  let c0_i32_205 : BitVec 32 := 0#32
  let c0_i32_126 : BitVec 32 := 0#32
  let c1_i32_128 : BitVec 32 := 1#32
  let arg28 : BitVec 32 := Scf.iv c0_i32_126 c1_i32_128 k0_t24
  let c4_i32_204 : BitVec 32 := 4#32
  let v262 : BitVec 32 := Scalar.muli arg28 c4_i32_204
  let v263 : BitVec 32 := Scalar.addi c0_i32_205 v262
  let v264 : Index := Scalar.indexCast v263
  let c0_206 : Index := 0#32
  let c0_207 : Index := 0#32
  let c0_208 : Index := 0#32
  ![v264.toNat, 0, 0, 0]
def k0_mult49 (k0_t24 : Fin k0_t24_loop.trips) : BitVec 32 :=
  let c0_i32_205 : BitVec 32 := 0#32
  let c0_i32_126 : BitVec 32 := 0#32
  let c1_i32_128 : BitVec 32 := 1#32
  let arg28 : BitVec 32 := Scf.iv c0_i32_126 c1_i32_128 k0_t24
  let c4_i32_204 : BitVec 32 := 4#32
  let v262 : BitVec 32 := Scalar.muli arg28 c4_i32_204
  let v263 : BitVec 32 := Scalar.addi c0_i32_205 v262
  let c4_i32_209 : BitVec 32 := 4#32
  let v270 : BitVec 32 := Scalar.muli v263 c4_i32_209
  v270
def k0_off121 (k0_t24 : Fin k0_t24_loop.trips) : Fin 3 → Nat :=
  let c0_i32_205 : BitVec 32 := 0#32
  let c0_i32_126 : BitVec 32 := 0#32
  let c1_i32_128 : BitVec 32 := 1#32
  let arg28 : BitVec 32 := Scf.iv c0_i32_126 c1_i32_128 k0_t24
  let c4_i32_204 : BitVec 32 := 4#32
  let v262 : BitVec 32 := Scalar.muli arg28 c4_i32_204
  let v263 : BitVec 32 := Scalar.addi c0_i32_205 v262
  let c4_i32_209 : BitVec 32 := 4#32
  let v270 : BitVec 32 := Scalar.muli v263 c4_i32_209
  let v271 : BitVec 32 := v270
  let v273 : Index := Scalar.indexCast v271
  let c0_210 : Index := 0#32
  ![v273.toNat, 0, 0]
@[reducible] def k0_t25_loop : Scf.Loop 32 :=
  let c0_i32_130 : BitVec 32 := 0#32
  let c32_i32_131 : BitVec 32 := 32#32
  let v193 : BitVec 32 := Scalar.addi c0_i32_130 c32_i32_131
  let c1_i32_132 : BitVec 32 := 1#32
  ⟨c0_i32_130, v193, c1_i32_132⟩
def k0_off122 (i : grid0.Coords) : Fin 3 → Nat :=
  let c1_202 : Index := 1#32
  let arg0 : BitVec 32 := BitVec.ofNat 32 (i 0).val
  let c8_i32_125 : BitVec 32 := 8#32
  let v190 : BitVec 32 := Scalar.muli arg0 c8_i32_125
  let v191 : BitVec 32 := v190
  let v255 : Index := Scalar.indexCast v191
  let c1_203 : Index := 1#32
  ![1, v255.toNat, 1]
def k0_off123 (k0_t25 : Fin k0_t25_loop.trips) : Fin 4 → Nat :=
  let c128_i32 : BitVec 32 := 128#32
  let c0_i32_130 : BitVec 32 := 0#32
  let c1_i32_132 : BitVec 32 := 1#32
  let arg28 : BitVec 32 := Scf.iv c0_i32_130 c1_i32_132 k0_t25
  let c4_i32_204 : BitVec 32 := 4#32
  let v262 : BitVec 32 := Scalar.muli arg28 c4_i32_204
  let v263 : BitVec 32 := Scalar.addi c128_i32 v262
  let v264 : Index := Scalar.indexCast v263
  let c0_205 : Index := 0#32
  let c0_206 : Index := 0#32
  let c0_207 : Index := 0#32
  ![v264.toNat, 0, 0, 0]
def k0_mult50 (k0_t25 : Fin k0_t25_loop.trips) : BitVec 32 :=
  let c128_i32 : BitVec 32 := 128#32
  let c0_i32_130 : BitVec 32 := 0#32
  let c1_i32_132 : BitVec 32 := 1#32
  let arg28 : BitVec 32 := Scf.iv c0_i32_130 c1_i32_132 k0_t25
  let c4_i32_204 : BitVec 32 := 4#32
  let v262 : BitVec 32 := Scalar.muli arg28 c4_i32_204
  let v263 : BitVec 32 := Scalar.addi c128_i32 v262
  let c4_i32_208 : BitVec 32 := 4#32
  let v270 : BitVec 32 := Scalar.muli v263 c4_i32_208
  v270
def k0_off124 (k0_t25 : Fin k0_t25_loop.trips) : Fin 3 → Nat :=
  let c128_i32 : BitVec 32 := 128#32
  let c0_i32_130 : BitVec 32 := 0#32
  let c1_i32_132 : BitVec 32 := 1#32
  let arg28 : BitVec 32 := Scf.iv c0_i32_130 c1_i32_132 k0_t25
  let c4_i32_204 : BitVec 32 := 4#32
  let v262 : BitVec 32 := Scalar.muli arg28 c4_i32_204
  let v263 : BitVec 32 := Scalar.addi c128_i32 v262
  let c4_i32_208 : BitVec 32 := 4#32
  let v270 : BitVec 32 := Scalar.muli v263 c4_i32_208
  let v271 : BitVec 32 := v270
  let v273 : Index := Scalar.indexCast v271
  let c0_209 : Index := 0#32
  ![v273.toNat, 0, 0]
@[reducible] def k0_t26_loop : Scf.Loop 32 :=
  let c0_i32_134 : BitVec 32 := 0#32
  let c32_i32_135 : BitVec 32 := 32#32
  let v194 : BitVec 32 := Scalar.addi c0_i32_134 c32_i32_135
  let c1_i32_136 : BitVec 32 := 1#32
  ⟨c0_i32_134, v194, c1_i32_136⟩
def k0_off125 (i : grid0.Coords) : Fin 3 → Nat :=
  let c1_202 : Index := 1#32
  let arg0 : BitVec 32 := BitVec.ofNat 32 (i 0).val
  let c8_i32_125 : BitVec 32 := 8#32
  let v190 : BitVec 32 := Scalar.muli arg0 c8_i32_125
  let v191 : BitVec 32 := v190
  let v255 : Index := Scalar.indexCast v191
  let c2_203 : Index := 2#32
  ![1, v255.toNat, 2]
def k0_off126 (k0_t26 : Fin k0_t26_loop.trips) : Fin 4 → Nat :=
  let c256_i32_205 : BitVec 32 := 256#32
  let c0_i32_134 : BitVec 32 := 0#32
  let c1_i32_136 : BitVec 32 := 1#32
  let arg28 : BitVec 32 := Scf.iv c0_i32_134 c1_i32_136 k0_t26
  let c4_i32_204 : BitVec 32 := 4#32
  let v262 : BitVec 32 := Scalar.muli arg28 c4_i32_204
  let v263 : BitVec 32 := Scalar.addi c256_i32_205 v262
  let v264 : Index := Scalar.indexCast v263
  let c0_206 : Index := 0#32
  let c0_207 : Index := 0#32
  let c0_208 : Index := 0#32
  ![v264.toNat, 0, 0, 0]
def k0_mult51 (k0_t26 : Fin k0_t26_loop.trips) : BitVec 32 :=
  let c256_i32_205 : BitVec 32 := 256#32
  let c0_i32_134 : BitVec 32 := 0#32
  let c1_i32_136 : BitVec 32 := 1#32
  let arg28 : BitVec 32 := Scf.iv c0_i32_134 c1_i32_136 k0_t26
  let c4_i32_204 : BitVec 32 := 4#32
  let v262 : BitVec 32 := Scalar.muli arg28 c4_i32_204
  let v263 : BitVec 32 := Scalar.addi c256_i32_205 v262
  let c4_i32_209 : BitVec 32 := 4#32
  let v270 : BitVec 32 := Scalar.muli v263 c4_i32_209
  v270
def k0_off127 (k0_t26 : Fin k0_t26_loop.trips) : Fin 3 → Nat :=
  let c256_i32_205 : BitVec 32 := 256#32
  let c0_i32_134 : BitVec 32 := 0#32
  let c1_i32_136 : BitVec 32 := 1#32
  let arg28 : BitVec 32 := Scf.iv c0_i32_134 c1_i32_136 k0_t26
  let c4_i32_204 : BitVec 32 := 4#32
  let v262 : BitVec 32 := Scalar.muli arg28 c4_i32_204
  let v263 : BitVec 32 := Scalar.addi c256_i32_205 v262
  let c4_i32_209 : BitVec 32 := 4#32
  let v270 : BitVec 32 := Scalar.muli v263 c4_i32_209
  let v271 : BitVec 32 := v270
  let v273 : Index := Scalar.indexCast v271
  let c0_210 : Index := 0#32
  ![v273.toNat, 0, 0]
@[reducible] def k0_t27_loop : Scf.Loop 32 :=
  let c0_i32_138 : BitVec 32 := 0#32
  let c32_i32_139 : BitVec 32 := 32#32
  let v195 : BitVec 32 := Scalar.addi c0_i32_138 c32_i32_139
  let c1_i32_140 : BitVec 32 := 1#32
  ⟨c0_i32_138, v195, c1_i32_140⟩
def k0_off128 (i : grid0.Coords) : Fin 3 → Nat :=
  let c1_202 : Index := 1#32
  let arg0 : BitVec 32 := BitVec.ofNat 32 (i 0).val
  let c8_i32_125 : BitVec 32 := 8#32
  let v190 : BitVec 32 := Scalar.muli arg0 c8_i32_125
  let v191 : BitVec 32 := v190
  let v255 : Index := Scalar.indexCast v191
  let c3_203 : Index := 3#32
  ![1, v255.toNat, 3]
def k0_off129 (k0_t27 : Fin k0_t27_loop.trips) : Fin 4 → Nat :=
  let c384_i32 : BitVec 32 := 384#32
  let c0_i32_138 : BitVec 32 := 0#32
  let c1_i32_140 : BitVec 32 := 1#32
  let arg28 : BitVec 32 := Scf.iv c0_i32_138 c1_i32_140 k0_t27
  let c4_i32_204 : BitVec 32 := 4#32
  let v262 : BitVec 32 := Scalar.muli arg28 c4_i32_204
  let v263 : BitVec 32 := Scalar.addi c384_i32 v262
  let v264 : Index := Scalar.indexCast v263
  let c0_205 : Index := 0#32
  let c0_206 : Index := 0#32
  let c0_207 : Index := 0#32
  ![v264.toNat, 0, 0, 0]
def k0_mult52 (k0_t27 : Fin k0_t27_loop.trips) : BitVec 32 :=
  let c384_i32 : BitVec 32 := 384#32
  let c0_i32_138 : BitVec 32 := 0#32
  let c1_i32_140 : BitVec 32 := 1#32
  let arg28 : BitVec 32 := Scf.iv c0_i32_138 c1_i32_140 k0_t27
  let c4_i32_204 : BitVec 32 := 4#32
  let v262 : BitVec 32 := Scalar.muli arg28 c4_i32_204
  let v263 : BitVec 32 := Scalar.addi c384_i32 v262
  let c4_i32_208 : BitVec 32 := 4#32
  let v270 : BitVec 32 := Scalar.muli v263 c4_i32_208
  v270
def k0_off130 (k0_t27 : Fin k0_t27_loop.trips) : Fin 3 → Nat :=
  let c384_i32 : BitVec 32 := 384#32
  let c0_i32_138 : BitVec 32 := 0#32
  let c1_i32_140 : BitVec 32 := 1#32
  let arg28 : BitVec 32 := Scf.iv c0_i32_138 c1_i32_140 k0_t27
  let c4_i32_204 : BitVec 32 := 4#32
  let v262 : BitVec 32 := Scalar.muli arg28 c4_i32_204
  let v263 : BitVec 32 := Scalar.addi c384_i32 v262
  let c4_i32_208 : BitVec 32 := 4#32
  let v270 : BitVec 32 := Scalar.muli v263 c4_i32_208
  let v271 : BitVec 32 := v270
  let v273 : Index := Scalar.indexCast v271
  let c0_209 : Index := 0#32
  ![v273.toNat, 0, 0]
@[reducible] def k0_t28_loop : Scf.Loop 32 :=
  let c0_i32_142 : BitVec 32 := 0#32
  let c32_i32_143 : BitVec 32 := 32#32
  let v196 : BitVec 32 := Scalar.addi c0_i32_142 c32_i32_143
  let c1_i32_144 : BitVec 32 := 1#32
  ⟨c0_i32_142, v196, c1_i32_144⟩
def k0_off131 (k0_t28 : Fin k0_t28_loop.trips) (c0_i32_203 : BitVec 32) : Fin 3 → Nat :=
  let c0_i32_142 : BitVec 32 := 0#32
  let c1_i32_144 : BitVec 32 := 1#32
  let arg28 : BitVec 32 := Scf.iv c0_i32_142 c1_i32_144 k0_t28
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let v258 : Index := Scalar.indexCast v257
  let c0_204 : Index := 0#32
  ![v258.toNat, 0, 0]
def k0_off132 (k0_t28 : Fin k0_t28_loop.trips) (c0_i32_203 : BitVec 32) : Fin 3 → Nat :=
  let c0_i32_142 : BitVec 32 := 0#32
  let c1_i32_144 : BitVec 32 := 1#32
  let arg28 : BitVec 32 := Scf.iv c0_i32_142 c1_i32_144 k0_t28
  let c16_i32 : BitVec 32 := 16#32
  let v255 : BitVec 32 := Scalar.muli arg28 c16_i32
  let c4_i32_202 : BitVec 32 := 4#32
  let v256 : BitVec 32 := Scalar.muli v255 c4_i32_202
  let v257 : BitVec 32 := Scalar.addi v256 c0_i32_203
  let c4_i32_205 : BitVec 32 := 4#32
  let v260 : BitVec 32 := Scalar.addi v257 c4_i32_205
  let v261 : Index := Scalar.indexCast v260
  let c0_206 : Index := 0#32
  ![v261.toNat, 0, 0]
def k0_mult53 (k0_t28 : Fin k0_t28_loop.trips) : BitVec 32 :=
  let c0_i32_142 : BitVec 32 := 0#32
  let c1_i32_144 : BitVec 32 := 1#32
  let arg28 : BitVec 32 := Scf.iv c0_i32_142 c1_i32_144 k0_t28
  let c8_i32_209 : BitVec 32 := 8#32
  let v273 : BitVec 32 := Scalar.muli arg28 c8_i32_209
  v273
def k0_off133 (k0_t28 : Fin k0_t28_loop.trips) : Fin 3 → Nat :=
  let c0_i32_142 : BitVec 32 := 0#32
  let c1_i32_144 : BitVec 32 := 1#32
  let arg28 : BitVec 32 := Scf.iv c0_i32_142 c1_i32_144 k0_t28
  let c8_i32_209 : BitVec 32 := 8#32
  let v273 : BitVec 32 := Scalar.muli arg28 c8_i32_209
  let v274 : BitVec 32 := v273
  let v277 : Index := Scalar.indexCast v274
  let c0_210 : Index := 0#32
  ![v277.toNat, 0, 0]
def k0_off134 (k0_t28 : Fin k0_t28_loop.trips) : Fin 3 → Nat :=
  let c0_i32_142 : BitVec 32 := 0#32
  let c1_i32_144 : BitVec 32 := 1#32
  let arg28 : BitVec 32 := Scf.iv c0_i32_142 c1_i32_144 k0_t28
  let c8_i32_209 : BitVec 32 := 8#32
  let v273 : BitVec 32 := Scalar.muli arg28 c8_i32_209
  let v274 : BitVec 32 := v273
  let v283 : Index := Scalar.indexCast v274
  let c128 : Index := 128#32
  ![v283.toNat, 0, 128]
def k0_mult54 (k0_t28 : Fin k0_t28_loop.trips) : BitVec 32 :=
  let c0_i32_142 : BitVec 32 := 0#32
  let c1_i32_144 : BitVec 32 := 1#32
  let arg28 : BitVec 32 := Scf.iv c0_i32_142 c1_i32_144 k0_t28
  let c8_i32_220 : BitVec 32 := 8#32
  let v304 : BitVec 32 := Scalar.muli arg28 c8_i32_220
  v304
def k0_off135 (k0_t28 : Fin k0_t28_loop.trips) : Fin 3 → Nat :=
  let c0_i32_142 : BitVec 32 := 0#32
  let c1_i32_144 : BitVec 32 := 1#32
  let arg28 : BitVec 32 := Scf.iv c0_i32_142 c1_i32_144 k0_t28
  let c8_i32_220 : BitVec 32 := 8#32
  let v304 : BitVec 32 := Scalar.muli arg28 c8_i32_220
  let v305 : BitVec 32 := v304
  let v308 : Index := Scalar.indexCast v305
  let c256_221 : Index := 256#32
  ![v308.toNat, 0, 256]
def k0_off136 (k0_t28 : Fin k0_t28_loop.trips) : Fin 3 → Nat :=
  let c0_i32_142 : BitVec 32 := 0#32
  let c1_i32_144 : BitVec 32 := 1#32
  let arg28 : BitVec 32 := Scf.iv c0_i32_142 c1_i32_144 k0_t28
  let c8_i32_220 : BitVec 32 := 8#32
  let v304 : BitVec 32 := Scalar.muli arg28 c8_i32_220
  let v305 : BitVec 32 := v304
  let v314 : Index := Scalar.indexCast v305
  let c384 : Index := 384#32
  ![v314.toNat, 0, 384]
def k0_mult55 (k0_t28 : Fin k0_t28_loop.trips) : BitVec 32 :=
  let c0_i32_142 : BitVec 32 := 0#32
  let c1_i32_144 : BitVec 32 := 1#32
  let arg28 : BitVec 32 := Scf.iv c0_i32_142 c1_i32_144 k0_t28
  let c8_i32_230 : BitVec 32 := 8#32
  let v335 : BitVec 32 := Scalar.muli arg28 c8_i32_230
  v335
def k0_off137 (k0_t28 : Fin k0_t28_loop.trips) : Fin 3 → Nat :=
  let c0_i32_142 : BitVec 32 := 0#32
  let c1_i32_144 : BitVec 32 := 1#32
  let arg28 : BitVec 32 := Scf.iv c0_i32_142 c1_i32_144 k0_t28
  let c8_i32_230 : BitVec 32 := 8#32
  let v335 : BitVec 32 := Scalar.muli arg28 c8_i32_230
  let v336 : BitVec 32 := v335
  let v339 : Index := Scalar.indexCast v336
  let c512_231 : Index := 512#32
  ![v339.toNat, 0, 512]
def k0_off138 (k0_t28 : Fin k0_t28_loop.trips) : Fin 3 → Nat :=
  let c0_i32_142 : BitVec 32 := 0#32
  let c1_i32_144 : BitVec 32 := 1#32
  let arg28 : BitVec 32 := Scf.iv c0_i32_142 c1_i32_144 k0_t28
  let c8_i32_230 : BitVec 32 := 8#32
  let v335 : BitVec 32 := Scalar.muli arg28 c8_i32_230
  let v336 : BitVec 32 := v335
  let v345 : Index := Scalar.indexCast v336
  let c640 : Index := 640#32
  ![v345.toNat, 0, 640]
def k0_mult56 (k0_t28 : Fin k0_t28_loop.trips) : BitVec 32 :=
  let c0_i32_142 : BitVec 32 := 0#32
  let c1_i32_144 : BitVec 32 := 1#32
  let arg28 : BitVec 32 := Scf.iv c0_i32_142 c1_i32_144 k0_t28
  let c8_i32_240 : BitVec 32 := 8#32
  let v366 : BitVec 32 := Scalar.muli arg28 c8_i32_240
  v366
def k0_off139 (k0_t28 : Fin k0_t28_loop.trips) : Fin 3 → Nat :=
  let c0_i32_142 : BitVec 32 := 0#32
  let c1_i32_144 : BitVec 32 := 1#32
  let arg28 : BitVec 32 := Scf.iv c0_i32_142 c1_i32_144 k0_t28
  let c8_i32_240 : BitVec 32 := 8#32
  let v366 : BitVec 32 := Scalar.muli arg28 c8_i32_240
  let v367 : BitVec 32 := v366
  let v370 : Index := Scalar.indexCast v367
  let c768 : Index := 768#32
  ![v370.toNat, 0, 768]
def k0_off140 (k0_t28 : Fin k0_t28_loop.trips) : Fin 3 → Nat :=
  let c0_i32_142 : BitVec 32 := 0#32
  let c1_i32_144 : BitVec 32 := 1#32
  let arg28 : BitVec 32 := Scf.iv c0_i32_142 c1_i32_144 k0_t28
  let c8_i32_240 : BitVec 32 := 8#32
  let v366 : BitVec 32 := Scalar.muli arg28 c8_i32_240
  let v367 : BitVec 32 := v366
  let v376 : Index := Scalar.indexCast v367
  let c896 : Index := 896#32
  ![v376.toNat, 0, 896]
def k0_cond3 (i : grid0.Coords) : BitVec 1 :=
  let arg0 : BitVec 32 := BitVec.ofNat 32 (i 0).val
  let c15_i32_3 : BitVec 32 := 15#32
  let v8 : BitVec 1 := Scalar.cmpi .eq arg0 c15_i32_3
  let v9 : BitVec 32 := Scalar.extui v8
  let c0_i32_4 : BitVec 32 := 0#32
  let v10 : BitVec 1 := Scalar.cmpi .ne v9 c0_i32_4
  v10

@[reducible] def k0_t29_loop : Scf.Loop 32 :=
  let c0_i32_53 : BitVec 32 := 0#32
  let c64_i32 : BitVec 32 := 64#32
  let v72 : BitVec 32 := Scalar.addi c0_i32_53 c64_i32
  let c1_i32 : BitVec 32 := 1#32
  ⟨c0_i32_53, v72, c1_i32⟩
def k0_mult57 (k0_t29 : Fin k0_t29_loop.trips) : BitVec 32 :=
  let c0_i32_53 : BitVec 32 := 0#32
  let c1_i32 : BitVec 32 := 1#32
  let arg28 : BitVec 32 := Scf.iv c0_i32_53 c1_i32 k0_t29
  let c16_i32 : BitVec 32 := 16#32
  let v77 : BitVec 32 := Scalar.muli arg28 c16_i32
  v77
def k0_off141 (k0_t29 : Fin k0_t29_loop.trips) : Fin 2 → Nat :=
  let c0_i32_53 : BitVec 32 := 0#32
  let c1_i32 : BitVec 32 := 1#32
  let arg28 : BitVec 32 := Scf.iv c0_i32_53 c1_i32 k0_t29
  let c16_i32 : BitVec 32 := 16#32
  let v77 : BitVec 32 := Scalar.muli arg28 c16_i32
  let v78 : BitVec 32 := v77
  let v79 : Index := Scalar.indexCast v78
  let c0_58 : Index := 0#32
  ![v79.toNat, 0]
def cc0_transform_0 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_1 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_13 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_14 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_15 (i : grid0.Coords) : Fin 2 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  ![v0.toNat, c0_i32.toNat]

def cc0_transform_16 (i : grid0.Coords) : Fin 4 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_17 (i : grid0.Coords) : Fin 2 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  ![v0.toNat, c0_i32.toNat]

abbrev stage0_0 : Fin 2 → Memref sig .tc .vmem S1024x1x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1x8x128 .fp8e5m2 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1x8x128 .fp8e5m2 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S1x1024x120x128 : Shape := ⟨4, ![1, 1024, 120, 128]⟩
abbrev S1x1024x512 : Shape := ⟨3, ![1, 1024, 512]⟩
abbrev S1x1024x4 : Shape := ⟨3, ![1, 1024, 4]⟩
abbrev S512x120x128 : Shape := ⟨3, ![512, 120, 128]⟩
abbrev S4x120 : Shape := ⟨2, ![4, 120]⟩
abbrev S512 : Shape := ⟨1, ![512]⟩
abbrev S1024x120x128 : Shape := ⟨3, ![1024, 120, 128]⟩
abbrev S1024x4x128 : Shape := ⟨3, ![1024, 4, 128]⟩
abbrev S1024x4x1 : Shape := ⟨3, ![1024, 4, 1]⟩
abbrev S4x128x120x128 : Shape := ⟨4, ![4, 128, 120, 128]⟩
abbrev S4x1x120x1 : Shape := ⟨4, ![4, 1, 120, 1]⟩
abbrev S1024x512 : Shape := ⟨2, ![1024, 512]⟩
abbrev S1x512 : Shape := ⟨2, ![1, 512]⟩
abbrev S512x15x8x128 : Shape := ⟨4, ![512, 15, 8, 128]⟩
abbrev S1024x15x8x128 : Shape := ⟨4, ![1024, 15, 8, 128]⟩
abbrev S120x1024 : Shape := ⟨2, ![120, 1024]⟩
abbrev S1024x120 : Shape := ⟨2, ![1024, 120]⟩
abbrev S1024x120x1 : Shape := ⟨3, ![1024, 120, 1]⟩
abbrev S1024x15360 : Shape := ⟨2, ![1024, 15360]⟩
abbrev S512x15360 : Shape := ⟨2, ![512, 15360]⟩
abbrev S1024 : Shape := ⟨1, ![1024]⟩
abbrev S1024x1 : Shape := ⟨2, ![1024, 1]⟩

abbrev nBuf : Space → Nat
  | .hbm => 28
  | .vmem => 18
  | .smem => 0
  | _ => 0

abbrev bufTy : (tb : Table) → Fin (tcTables nBuf tb) → BufTy
  | .hbm, ⟨0, _⟩ => ⟨S1x1024x120x128, .bf16⟩
  | .hbm, ⟨1, _⟩ => ⟨S1x1024x120x128, .bf16⟩
  | .hbm, ⟨2, _⟩ => ⟨S1x1024x512, .fp8e4m3⟩
  | .hbm, ⟨3, _⟩ => ⟨S1x1024x4, .f32⟩
  | .hbm, ⟨4, _⟩ => ⟨S512x120x128, .fp8e4m3⟩
  | .hbm, ⟨5, _⟩ => ⟨S4x120, .f32⟩
  | .hbm, ⟨6, _⟩ => ⟨S512x120x128, .fp8e4m3⟩
  | .hbm, ⟨7, _⟩ => ⟨S4x120, .f32⟩
  | .hbm, ⟨8, _⟩ => ⟨S1x1024x512, .bf16⟩
  | .hbm, ⟨9, _⟩ => ⟨S512, .f32⟩
  | .hbm, ⟨10, _⟩ => ⟨S1024x120x128, .bf16⟩
  | .hbm, ⟨11, _⟩ => ⟨S1024x120x128, .bf16⟩
  | .hbm, ⟨12, _⟩ => ⟨S1024x4x128, .fp8e4m3⟩
  | .hbm, ⟨13, _⟩ => ⟨S1024x4x1, .f32⟩
  | .hbm, ⟨14, _⟩ => ⟨S4x128x120x128, .fp8e4m3⟩
  | .hbm, ⟨15, _⟩ => ⟨S4x1x120x1, .f32⟩
  | .hbm, ⟨16, _⟩ => ⟨S4x128x120x128, .fp8e4m3⟩
  | .hbm, ⟨17, _⟩ => ⟨S4x1x120x1, .f32⟩
  | .hbm, ⟨18, _⟩ => ⟨S1024x512, .bf16⟩
  | .hbm, ⟨19, _⟩ => ⟨S1x512, .f32⟩
  | .hbm, ⟨20, _⟩ => ⟨S1024x512, .bf16⟩
  | .hbm, ⟨21, _⟩ => ⟨S1x512, .f32⟩
  | .hbm, ⟨22, _⟩ => ⟨S512x15x8x128, .f32⟩
  | .hbm, ⟨23, _⟩ => ⟨S512x15x8x128, .f32⟩
  | .hbm, ⟨24, _⟩ => ⟨S1024x15x8x128, .fp8e5m2⟩
  | .hbm, ⟨25, _⟩ => ⟨S120x1024, .f32⟩
  | .hbm, ⟨26, _⟩ => ⟨S1024x15x8x128, .fp8e5m2⟩
  | .hbm, ⟨27, _⟩ => ⟨S120x1024, .f32⟩
  | .local _ .vmem, ⟨0, _⟩ => ⟨S1024x120x128, .bf16⟩
  | .local _ .vmem, ⟨1, _⟩ => ⟨S1024x120x128, .bf16⟩
  | .local _ .vmem, ⟨2, _⟩ => ⟨S1024x4x128, .fp8e4m3⟩
  | .local _ .vmem, ⟨3, _⟩ => ⟨S1024x4x1, .f32⟩
  | .local _ .vmem, ⟨4, _⟩ => ⟨S4x128x120x128, .fp8e4m3⟩
  | .local _ .vmem, ⟨5, _⟩ => ⟨S4x1x120x1, .f32⟩
  | .local _ .vmem, ⟨6, _⟩ => ⟨S4x128x120x128, .fp8e4m3⟩
  | .local _ .vmem, ⟨7, _⟩ => ⟨S4x1x120x1, .f32⟩
  | .local _ .vmem, ⟨8, _⟩ => ⟨S1024x512, .bf16⟩
  | .local _ .vmem, ⟨9, _⟩ => ⟨S1x512, .f32⟩
  | .local _ .vmem, ⟨10, _⟩ => ⟨S1024x512, .bf16⟩
  | .local _ .vmem, ⟨11, _⟩ => ⟨S1x512, .f32⟩
  | .local _ .vmem, ⟨12, _⟩ => ⟨S512x15x8x128, .f32⟩
  | .local _ .vmem, ⟨13, _⟩ => ⟨S512x15x8x128, .f32⟩
  | .local _ .vmem, ⟨14, _⟩ => ⟨S1024x15x8x128, .fp8e5m2⟩
  | .local _ .vmem, ⟨15, _⟩ => ⟨S120x1024, .f32⟩
  | .local _ .vmem, ⟨16, _⟩ => ⟨S1024x15x8x128, .fp8e5m2⟩
  | .local _ .vmem, ⟨17, _⟩ => ⟨S120x1024, .f32⟩
  | _, _ => ⟨S1x1024x120x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1024x120x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x120x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x4x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128x120x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1x120x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x128x120x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1x120x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x15x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x15x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x15x8x128 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S120x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x15x8x128 .fp8e5m2 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S120x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.Bits.Runs.lean ====
/- What the three runs of the kernel body share: the conditions of its conditionals, the windows that are live or idle at each point, and the contents the body starts from. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's branch conditions -/

abbrev cond0_0 (i : grid0.Coords) : Prop := k0_cond1 i = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ (1 ≤ t.val % 16 ∧ t.val % 16 ≤ 14) :=
  (by decide +kernel : ∀ t : Fin grid0.N, cond0_1 (grid0.coords t) ↔ (1 ≤ t.val % 16 ∧ t.val % 16 ≤ 14))

abbrev cond0_2 (i : grid0.Coords) : Prop := k0_cond3 i = 1#1
theorem hcond0_2 : ∀ t : Fin cfg0.N, cond0_2 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_2, k0_cond3, e0]
    word_cmp
   : ∀ t : Fin grid0.N, cond0_2 (grid0.coords t) ↔ t.val % 16 = 15)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
/-! ## The kernel body on any staging memrefs: a subtype the run finds -/

abbrev ms0_0 (t : Fin cfg0.N) : Memref sig .tc .vmem S1024x1x8x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1x8x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1x8x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1x8x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x120 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1x8x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1x8x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x1x8x128 .fp8e5m2 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x1x8x128 .fp8e5m2 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x1024 .f32 := win0_17.stage (cfg0.slots t 17)
abbrev hs0_17 (t : Fin cfg0.N) : (ms0_17 t).IsWhole := hstage0_17 ((cfg0.slots t 17).cast nbuf0_17)
abbrev scM0_0 : Memref sig .tc .vmem S1024x512 .f32 := Memref.whole cc0_scratch0
abbrev scM0_1 : Memref sig .tc .vmem S256x1024 .i32 := Memref.whole cc0_scratch1
abbrev scM0_2 : Memref sig .tc .vmem S2x120x8 .f32 := Memref.whole cc0_scratch2
abbrev scM0_3 : Memref sig .tc .vmem S4096x128 .i32 := Memref.whole cc0_scratch3
abbrev scM0_4 : Memref sig .tc .vmem S2048x128 .i32 := Memref.whole cc0_scratch4
abbrev scM0_5 : Memref sig .tc .vmem S512x1024 .i32 := Memref.whole cc0_scratch5
abbrev scM0_6 : Memref sig .tc .vmem S512x1024 .i32 := Memref.whole cc0_scratch6
abbrev scM0_7 : Memref sig .tc .vmem S256x1024 .i32 := Memref.whole cc0_scratch7
abbrev scM0_8 : Memref sig .tc .vmem S256x1024 .i32 := Memref.whole cc0_scratch8
abbrev VS0_0 : View sig .tc .vmem S1024x512 .f32 := scM0_0.view
abbrev VS0_2 : View sig .tc .vmem S2x120x8 .f32 := scM0_2.view
abbrev VS0_6 : View sig .tc .vmem S512x1024 .i32 := scM0_6.view
abbrev VS0_8 : View sig .tc .vmem S256x1024 .i32 := scM0_8.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.Kernel.Gen

end
-- ==== Proof.Bits.RunA.lean ====
/- The body at the first grid point: the weight copies are prepared, both sides are quantised, the k side is multiplied. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1604000 in
noncomputable def kernelRun0_A (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x1024 .i32) (q20 : p20.IsWhole) (p21 : Memref sig .tc .vmem S2x120x8 .f32) (q21 : p21.IsWhole) (p22 : Memref sig .tc .vmem S4096x128 .i32) (q22 : p22.IsWhole) (p23 : Memref sig .tc .vmem S2048x128 .i32) (q23 : p23.IsWhole) (p24 : Memref sig .tc .vmem S512x1024 .i32) (q24 : p24.IsWhole) (p25 : Memref sig .tc .vmem S512x1024 .i32) (q25 : p25.IsWhole) (p26 : Memref sig .tc .vmem S256x1024 .i32) (q26 : p26.IsWhole) (p27 : Memref sig .tc .vmem S256x1024 .i32) (q27 : p27.IsWhole) (hc0 : cond0_0 i) (hc1 : ¬cond0_1 i) (hc2 : ¬cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32) :
    Σ' (LS0 : List (View.Piece (Elt F) S1024x512 .f32)), Σ' (LS2 : List (View.Piece (Elt F) S2x120x8 .f32)), Σ' (LS6 : List (View.Piece (Elt F) S512x1024 .i32)), { LS8 : List (View.Piece (Elt F) S256x1024 .i32) //
      ∀ (E : Set ℕ) (K : PUnit → sProp 𝕄),
        iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ (∃ d, owns (c : Thread nD τ) p11 fullShare d) ∗ (∃ d, owns (c : Thread nD τ) p12 fullShare d) ∗ (∃ d, owns (c : Thread nD τ) p13 fullShare d) ∗ (∃ d, owns (c : Thread nD τ) p14 fullShare d) ∗ (∃ d, owns (c : Thread nD τ) p15 fullShare d) ∗ (∃ d, owns (c : Thread nD τ) p16 fullShare d) ∗ (∃ d, owns (c : Thread nD τ) p17 fullShare d) ∗ (∃ d, owns (c : Thread nD τ) p18 fullShare d) ∗ (∃ d, owns (c : Thread nD τ) p19 fullShare d) ∗ (∃ d, owns (c : Thread nD τ) p20 fullShare d) ∗ (∃ d, owns (c : Thread nD τ) p21 fullShare d) ∗ (∃ d, owns (c : Thread nD τ) p22 fullShare d) ∗ (∃ d, owns (c : Thread nD τ) p23 fullShare d) ∗ (∃ d, owns (c : Thread nD τ) p24 fullShare d) ∗ (∃ d, owns (c : Thread nD τ) p25 fullShare d) ∗ (∃ d, owns (c : Thread nD τ) p26 fullShare d) ∗ (∃ d, owns (c : Thread nD τ) p27 fullShare d)
            ∗ (iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ (∃ d, owns (c : Thread nD τ) p11 fullShare d) ∗ (∃ d, owns (c : Thread nD τ) p12 fullShare d) ∗ (∃ d, owns (c : Thread nD τ) p13 fullShare d) ∗ (∃ d, owns (c : Thread nD τ) p14 fullShare d) ∗ (∃ d, owns (c : Thread nD τ) p15 fullShare d) ∗ (∃ d, owns (c : Thread nD τ) p16 fullShare d) ∗ (∃ d, owns (c : Thread nD τ) p17 fullShare d) ∗ (∃ d, owns (c : Thread nD τ) p18 fullShare d) ∗ (∃ f, p19.view.loc (c : Thread nD τ) ↦[p19.view.set]{fullShare} p19.view.writes (Elt F) f LS0) ∗ (∃ d, owns (c : Thread nD τ) p20 fullShare d) ∗ (∃ f, p21.view.loc (c : Thread nD τ) ↦[p21.view.set]{fullShare} p21.view.writes (Elt F) f LS2) ∗ (∃ d, owns (c : Thread nD τ) p22 fullShare d) ∗ (∃ d, owns (c : Thread nD τ) p23 fullShare d) ∗ (∃ d, owns (c : Thread nD τ) p24 fullShare d) ∗ (∃ f, p25.view.loc (c : Thread nD τ) ↦[p25.view.set]{fullShare} p25.view.writes (Elt F) f LS6) ∗ (∃ d, owns (c : Thread nD τ) p26 fullShare d) ∗ (∃ f, p27.view.loc (c : Thread nD τ) ↦[p27.view.set]{fullShare} p27.view.writes (Elt F) f LS8)) -∗ K ⟨⟩))
          ⊢ wp frame (wpE (defs₀ (F := F)) Variants.none c none) E (cc0_mla_kv_up_proj_bwd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27) K } := by
  refine ⟨?_, ?_, ?_, ?_, fun E K => ?run⟩
  case run =>
    simp only [cc0_mla_kv_up_proj_bwd_eq_skeleton]; unfold cc0_mla_kv_up_proj_bwd_skel
    simp only [k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := q1.eq_unread hf0; obtain rfl := q2.eq_unread hf1; obtain rfl := q3.eq_unread hf2; obtain rfl := q4.eq_unread hf3; obtain rfl := q5.eq_unread hf4; obtain rfl := q6.eq_unread hf5; obtain rfl := q7.eq_unread hf6; obtain rfl := q8.eq_unread hf7; obtain rfl := q9.eq_unread hf8; obtain rfl := q10.eq_unread hf9
    sl_exec (disch := first | sl_exact hc0 | sl_exact hc1 | sl_exact hc2)
    sl_step
    iapply Hk
    isplitl [H0]
    · iexists _; isplitr; · ipureintro; exact q1.read_unread _
      iexact H0
    isplitl [H1]
    · iexists _; isplitr; · ipureintro; exact q2.read_unread _
      iexact H1
    isplitl [H2]
    · iexists _; isplitr; · ipureintro; exact q3.read_unread _
      iexact H2
    isplitl [H3]
    · iexists _; isplitr; · ipureintro; exact q4.read_unread _
      iexact H3
    isplitl [H4]
    · iexists _; isplitr; · ipureintro; exact q5.read_unread _
      iexact H4
    isplitl [H5]
    · iexists _; isplitr; · ipureintro; exact q6.read_unread _
      iexact H5
    isplitl [H6]
    · iexists _; isplitr; · ipureintro; exact q7.read_unread _
      iexact H6
    isplitl [H7]
    · iexists _; isplitr; · ipureintro; exact q8.read_unread _
      iexact H7
    isplitl [H8]
    · iexists _; isplitr; · ipureintro; exact q9.read_unread _
      iexact H8
    isplitl [H9]
    · iexists _; isplitr; · ipureintro; exact q10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]; · iexists _; iexact HS0
    isplitl [HS1]
    · iexists _, _; isplitr; swap; · iexact HS1
      ipureintro; rfl
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [HS7]
    · iexists _, _; isplitr; swap; · iexact HS7
      ipureintro; rfl
    iexists _; iexact HS8

end Cert.Kernel.Gen

end
-- ==== Proof.Bits.RunB.lean ====
/- The body at the points between the first and the last. -/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1636000 in
noncomputable def kernelRun0_B (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x1024 .i32) (q20 : p20.IsWhole) (p21 : Memref sig .tc .vmem S2x120x8 .f32) (q21 : p21.IsWhole) (p22 : Memref sig .tc .vmem S4096x128 .i32) (q22 : p22.IsWhole) (p23 : Memref sig .tc .vmem S2048x128 .i32) (q23 : p23.IsWhole) (p24 : Memref sig .tc .vmem S512x1024 .i32) (q24 : p24.IsWhole) (p25 : Memref sig .tc .vmem S512x1024 .i32) (q25 : p25.IsWhole) (p26 : Memref sig .tc .vmem S256x1024 .i32) (q26 : p26.IsWhole) (p27 : Memref sig .tc .vmem S256x1024 .i32) (q27 : p27.IsWhole) (hc0 : ¬cond0_0 i) (hc1 : cond0_1 i) (hc2 : ¬cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32) (xs0 : Vec F S1024x512 .f32) (xs2 : Vec F S2x120x8 .f32) (xs6 : Vec F S512x1024 .i32) (xs8 : Vec F S256x1024 .i32) :
    Σ' (LS0 : List (View.Piece (Elt F) S1024x512 .f32)), Σ' (LS2 : List (View.Piece (Elt F) S2x120x8 .f32)), Σ' (LS6 : List (View.Piece (Elt F) S512x1024 .i32)), { LS8 : List (View.Piece (Elt F) S256x1024 .i32) //
      ∀ (E : Set ℕ) (K : PUnit → sProp 𝕄),
        iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ (∃ d, owns (c : Thread nD τ) p11 fullShare d) ∗ (∃ d, owns (c : Thread nD τ) p12 fullShare d) ∗ (∃ d, owns (c : Thread nD τ) p13 fullShare d) ∗ (∃ d, owns (c : Thread nD τ) p14 fullShare d) ∗ (∃ d, owns (c : Thread nD τ) p15 fullShare d) ∗ (∃ d, owns (c : Thread nD τ) p16 fullShare d) ∗ (∃ d, owns (c : Thread nD τ) p17 fullShare d) ∗ (∃ d, owns (c : Thread nD τ) p18 fullShare d) ∗ owns (c : Thread nD τ) p19 fullShare xs0 ∗ (∃ d, owns (c : Thread nD τ) p20 fullShare d) ∗ owns (c : Thread nD τ) p21 fullShare xs2 ∗ (∃ d, owns (c : Thread nD τ) p22 fullShare d) ∗ (∃ d, owns (c : Thread nD τ) p23 fullShare d) ∗ (∃ d, owns (c : Thread nD τ) p24 fullShare d) ∗ owns (c : Thread nD τ) p25 fullShare xs6 ∗ (∃ d, owns (c : Thread nD τ) p26 fullShare d) ∗ owns (c : Thread nD τ) p27 fullShare xs8
            ∗ (iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ (∃ d, owns (c : Thread nD τ) p11 fullShare d) ∗ (∃ d, owns (c : Thread nD τ) p12 fullShare d) ∗ (∃ d, owns (c : Thread nD τ) p13 fullShare d) ∗ (∃ d, owns (c : Thread nD τ) p14 fullShare d) ∗ (∃ d, owns (c : Thread nD τ) p15 fullShare d) ∗ (∃ d, owns (c : Thread nD τ) p16 fullShare d) ∗ (∃ d, owns (c : Thread nD τ) p17 fullShare d) ∗ (∃ d, owns (c : Thread nD τ) p18 fullShare d) ∗ (∃ f, p19.view.loc (c : Thread nD τ) ↦[p19.view.set]{fullShare} p19.view.writes (Elt F) f LS0) ∗ (∃ d, owns (c : Thread nD τ) p20 fullShare d) ∗ owns (c : Thread nD τ) p21 fullShare xs2 ∗ (∃ d, owns (c : Thread nD τ) p22 fullShare d) ∗ (∃ d, owns (c : Thread nD τ) p23 fullShare d) ∗ (∃ d, owns (c : Thread nD τ) p24 fullShare d) ∗ (∃ f, p25.view.loc (c : Thread nD τ) ↦[p25.view.set]{fullShare} p25.view.writes (Elt F) f LS6) ∗ (∃ d, owns (c : Thread nD τ) p26 fullShare d) ∗ (∃ f, p27.view.loc (c : Thread nD τ) ↦[p27.view.set]{fullShare} p27.view.writes (Elt F) f LS8)) -∗ K ⟨⟩))
          ⊢ wp frame (wpE (defs₀ (F := F)) Variants.none c none) E (cc0_mla_kv_up_proj_bwd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27) K } := by
  refine ⟨?_, [], ?_, ?_, fun E K => ?run⟩
  case run =>
    simp only [cc0_mla_kv_up_proj_bwd_eq_skeleton]; unfold cc0_mla_kv_up_proj_bwd_skel
    simp only [k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%fs0, %hfs0, HS0⟩, ⟨%ds1, %fs1, -, HS1⟩, ⟨%fs2, %hfs2, HS2⟩, ⟨%ds3, %fs3, -, HS3⟩, ⟨%ds4, %fs4, -, HS4⟩, ⟨%ds5, %fs5, -, HS5⟩, ⟨%fs6, %hfs6, HS6⟩, ⟨%ds7, %fs7, -, HS7⟩, ⟨%fs8, %hfs8, HS8⟩, Hk⟩
    obtain rfl := q1.eq_unread hf0; obtain rfl := q2.eq_unread hf1; obtain rfl := q3.eq_unread hf2; obtain rfl := q4.eq_unread hf3; obtain rfl := q5.eq_unread hf4; obtain rfl := q6.eq_unread hf5; obtain rfl := q7.eq_unread hf6; obtain rfl := q8.eq_unread hf7; obtain rfl := q9.eq_unread hf8; obtain rfl := q10.eq_unread hf9; obtain rfl := q19.eq_unread hfs0; obtain rfl := q21.eq_unread hfs2; obtain rfl := q25.eq_unread hfs6; obtain rfl := q27.eq_unread hfs8
    sl_exec (disch := first | sl_exact hc0 | sl_exact hc1 | sl_exact hc2)
    sl_step
    iapply Hk
    isplitl [H0]
    · iexists _; isplitr; · ipureintro; exact q1.read_unread _
      iexact H0
    isplitl [H1]
    · iexists _; isplitr; · ipureintro; exact q2.read_unread _
      iexact H1
    isplitl [H2]
    · iexists _; isplitr; · ipureintro; exact q3.read_unread _
      iexact H2
    isplitl [H3]
    · iexists _; isplitr; · ipureintro; exact q4.read_unread _
      iexact H3
    isplitl [H4]
    · iexists _; isplitr; · ipureintro; exact q5.read_unread _
      iexact H4
    isplitl [H5]
    · iexists _; isplitr; · ipureintro; exact q6.read_unread _
      iexact H5
    isplitl [H6]
    · iexists _; isplitr; · ipureintro; exact q7.read_unread _
      iexact H6
    isplitl [H7]
    · iexists _; isplitr; · ipureintro; exact q8.read_unread _
      iexact H7
    isplitl [H8]
    · iexists _; isplitr; · ipureintro; exact q9.read_unread _
      iexact H8
    isplitl [H9]
    · iexists _; isplitr; · ipureintro; exact q10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]; · iexists _; iexact HS0
    isplitl [HS1]
    · iexists _, _; isplitr; swap; · iexact HS1
      ipureintro; rfl
    isplitl [HS2]
    · iexists _; isplitr; · ipureintro; exact q21.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [HS7]
    · iexists _, _; isplitr; swap; · iexact HS7
      ipureintro; rfl
    iexists _; iexact HS8

end Cert.Kernel.Gen

end
-- ==== Proof.Bits.RunC.lean ====
/- The body at the last grid point: the v side is multiplied and the norm is differentiated. -/
module

public import proofs.«01_k».proof.Proof.Bits.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
noncomputable def kernelRun0_C (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x1024 .i32) (q20 : p20.IsWhole) (p21 : Memref sig .tc .vmem S2x120x8 .f32) (q21 : p21.IsWhole) (p22 : Memref sig .tc .vmem S4096x128 .i32) (q22 : p22.IsWhole) (p23 : Memref sig .tc .vmem S2048x128 .i32) (q23 : p23.IsWhole) (p24 : Memref sig .tc .vmem S512x1024 .i32) (q24 : p24.IsWhole) (p25 : Memref sig .tc .vmem S512x1024 .i32) (q25 : p25.IsWhole) (p26 : Memref sig .tc .vmem S256x1024 .i32) (q26 : p26.IsWhole) (p27 : Memref sig .tc .vmem S256x1024 .i32) (q27 : p27.IsWhole) (hc0 : ¬cond0_0 i) (hc1 : ¬cond0_1 i) (hc2 : cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32) (xs0 : Vec F S1024x512 .f32) (xs2 : Vec F S2x120x8 .f32) (xs6 : Vec F S512x1024 .i32) (xs8 : Vec F S256x1024 .i32) :
    Σ' (LS0 : List (View.Piece (Elt F) S1024x512 .f32)), Σ' (LS2 : List (View.Piece (Elt F) S2x120x8 .f32)), Σ' (LS6 : List (View.Piece (Elt F) S512x1024 .i32)), { LS8 : List (View.Piece (Elt F) S256x1024 .i32) //
      ∀ (E : Set ℕ) (K : PUnit → sProp 𝕄),
        iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ (∃ d, owns (c : Thread nD τ) p11 fullShare d) ∗ (∃ d, owns (c : Thread nD τ) p12 fullShare d) ∗ (∃ d, owns (c : Thread nD τ) p13 fullShare d) ∗ (∃ d, owns (c : Thread nD τ) p14 fullShare d) ∗ (∃ d, owns (c : Thread nD τ) p15 fullShare d) ∗ (∃ d, owns (c : Thread nD τ) p16 fullShare d) ∗ (∃ d, owns (c : Thread nD τ) p17 fullShare d) ∗ (∃ d, owns (c : Thread nD τ) p18 fullShare d) ∗ owns (c : Thread nD τ) p19 fullShare xs0 ∗ (∃ d, owns (c : Thread nD τ) p20 fullShare d) ∗ owns (c : Thread nD τ) p21 fullShare xs2 ∗ (∃ d, owns (c : Thread nD τ) p22 fullShare d) ∗ (∃ d, owns (c : Thread nD τ) p23 fullShare d) ∗ (∃ d, owns (c : Thread nD τ) p24 fullShare d) ∗ owns (c : Thread nD τ) p25 fullShare xs6 ∗ (∃ d, owns (c : Thread nD τ) p26 fullShare d) ∗ owns (c : Thread nD τ) p27 fullShare xs8
            ∗ (iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ (∃ d, owns (c : Thread nD τ) p11 fullShare d) ∗ (∃ d, owns (c : Thread nD τ) p12 fullShare d) ∗ (∃ d, owns (c : Thread nD τ) p13 fullShare d) ∗ (∃ d, owns (c : Thread nD τ) p14 fullShare d) ∗ (∃ d, owns (c : Thread nD τ) p15 fullShare d) ∗ (∃ d, owns (c : Thread nD τ) p16 fullShare d) ∗ (∃ d, owns (c : Thread nD τ) p17 fullShare d) ∗ (∃ d, owns (c : Thread nD τ) p18 fullShare d) ∗ (∃ f, p19.view.loc (c : Thread nD τ) ↦[p19.view.set]{fullShare} p19.view.writes (Elt F) f LS0) ∗ (∃ d, owns (c : Thread nD τ) p20 fullShare d) ∗ owns (c : Thread nD τ) p21 fullShare xs2 ∗ (∃ d, owns (c : Thread nD τ) p22 fullShare d) ∗ (∃ d, owns (c : Thread nD τ) p23 fullShare d) ∗ (∃ d, owns (c : Thread nD τ) p24 fullShare d) ∗ owns (c : Thread nD τ) p25 fullShare xs6 ∗ (∃ d, owns (c : Thread nD τ) p26 fullShare d) ∗ owns (c : Thread nD τ) p27 fullShare xs8) -∗ K ⟨⟩))
          ⊢ wp frame (wpE (defs₀ (F := F)) Variants.none c none) E (cc0_mla_kv_up_proj_bwd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27) K } := by
  refine ⟨?_, [], [], [], fun E K => ?run⟩
  case run =>
    simp only [cc0_mla_kv_up_proj_bwd_eq_skeleton]; unfold cc0_mla_kv_up_proj_bwd_skel
    simp only [k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%fs0, %hfs0, HS0⟩, ⟨%ds1, %fs1, -, HS1⟩, ⟨%fs2, %hfs2, HS2⟩, ⟨%ds3, %fs3, -, HS3⟩, ⟨%ds4, %fs4, -, HS4⟩, ⟨%ds5, %fs5, -, HS5⟩, ⟨%fs6, %hfs6, HS6⟩, ⟨%ds7, %fs7, -, HS7⟩, ⟨%fs8, %hfs8, HS8⟩, Hk⟩
    obtain rfl := q1.eq_unread hf0; obtain rfl := q2.eq_unread hf1; obtain rfl := q3.eq_unread hf2; obtain rfl := q4.eq_unread hf3; obtain rfl := q5.eq_unread hf4; obtain rfl := q6.eq_unread hf5; obtain rfl := q7.eq_unread hf6; obtain rfl := q8.eq_unread hf7; obtain rfl := q9.eq_unread hf8; obtain rfl := q10.eq_unread hf9; obtain rfl := q19.eq_unread hfs0; obtain rfl := q21.eq_unread hfs2; obtain rfl := q25.eq_unread hfs6; obtain rfl := q27.eq_unread hfs8
    sl_exec (disch := first | sl_exact hc0 | sl_exact hc1 | sl_exact hc2)
    sl_step
    iapply Hk
    isplitl [H0]
    · iexists _; isplitr; · ipureintro; exact q1.read_unread _
      iexact H0
    isplitl [H1]
    · iexists _; isplitr; · ipureintro; exact q2.read_unread _
      iexact H1
    isplitl [H2]
    · iexists _; isplitr; · ipureintro; exact q3.read_unread _
      iexact H2
    isplitl [H3]
    · iexists _; isplitr; · ipureintro; exact q4.read_unread _
      iexact H3
    isplitl [H4]
    · iexists _; isplitr; · ipureintro; exact q5.read_unread _
      iexact H4
    isplitl [H5]
    · iexists _; isplitr; · ipureintro; exact q6.read_unread _
      iexact H5
    isplitl [H6]
    · iexists _; isplitr; · ipureintro; exact q7.read_unread _
      iexact H6
    isplitl [H7]
    · iexists _; isplitr; · ipureintro; exact q8.read_unread _
      iexact H7
    isplitl [H8]
    · iexists _; isplitr; · ipureintro; exact q9.read_unread _
      iexact H8
    isplitl [H9]
    · iexists _; isplitr; · ipureintro; exact q10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]; · iexists _; iexact HS0
    isplitl [HS1]
    · iexists _, _; isplitr; swap; · iexact HS1
      ipureintro; rfl
    isplitl [HS2]
    · iexists _; isplitr; · ipureintro; exact q21.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _; isplitr; · ipureintro; exact q25.read_unread _
      iexact HS6
    isplitl [HS7]
    · iexists _, _; isplitr; swap; · iexact HS7
      ipureintro; rfl
    iexists _; isplitr; · ipureintro; exact q27.read_unread _
    iexact HS8

end Cert.Kernel.Gen

end
-- ==== Proof.Bits.Frame.lean ====
/- The frame of the kernel as written: it ends, writes only its results, and leaves its arguments as they were. What its outputs hold is not named here. -/
module

public import proofs.«01_k».proof.Proof.Bits.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
section CaseA
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x1024 .i32) (q20 : p20.IsWhole) (p21 : Memref sig .tc .vmem S2x120x8 .f32) (q21 : p21.IsWhole) (p22 : Memref sig .tc .vmem S4096x128 .i32) (q22 : p22.IsWhole) (p23 : Memref sig .tc .vmem S2048x128 .i32) (q23 : p23.IsWhole) (p24 : Memref sig .tc .vmem S512x1024 .i32) (q24 : p24.IsWhole) (p25 : Memref sig .tc .vmem S512x1024 .i32) (q25 : p25.IsWhole) (p26 : Memref sig .tc .vmem S256x1024 .i32) (q26 : p26.IsWhole) (p27 : Memref sig .tc .vmem S256x1024 .i32) (q27 : p27.IsWhole) (hc0 : cond0_0 i) (hc1 : ¬cond0_1 i) (hc2 : ¬cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32)

theorem scover0_A_0 (y : S1024x512.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).1, y ∈ pc.1.set :=
  View.cover_of_wholeMem _ (by sl_whole_mem) y

def sout0_A_0 : Vec F S1024x512 .f32 :=
  VS0_0.read (Elt F) (VS0_0.writes (Elt F) VS0_0.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).1)

theorem scover0_A_2 (y : S2x120x8.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.1, y ∈ pc.1.set :=
  View.cover_of_tiledL (s := S2x120x8) _ S1x120x8.size (by sl_kernel_rfl) y

def sout0_A_2 : Vec F S2x120x8 .f32 :=
  VS0_2.read (Elt F) (VS0_2.writes (Elt F) VS0_2.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.1)

theorem scover0_A_6 (y : S512x1024.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.1, y ∈ pc.1.set :=
  View.cover_of_wholeMem _ (by sl_whole_mem) y

def sout0_A_6 : Vec F S512x1024 .i32 :=
  VS0_6.read (Elt F) (VS0_6.writes (Elt F) VS0_6.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.1)

theorem scover0_A_8 (y : S256x1024.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.1, y ∈ pc.1.set :=
  View.cover_of_wholeMem _ (by sl_whole_mem) y

def sout0_A_8 : Vec F S256x1024 .i32 :=
  VS0_8.read (Elt F) (VS0_8.writes (Elt F) VS0_8.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.1)

/-- What the point leaves in the carried scratch. -/
abbrev outs0_A : Vec F S1024x512 .f32 × Vec F S2x120x8 .f32 × Vec F S512x1024 .i32 × Vec F S256x1024 .i32 :=
  (sout0_A_0 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9, sout0_A_2 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9, sout0_A_6 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9, sout0_A_8 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9)

end CaseA

section CaseB
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x1024 .i32) (q20 : p20.IsWhole) (p21 : Memref sig .tc .vmem S2x120x8 .f32) (q21 : p21.IsWhole) (p22 : Memref sig .tc .vmem S4096x128 .i32) (q22 : p22.IsWhole) (p23 : Memref sig .tc .vmem S2048x128 .i32) (q23 : p23.IsWhole) (p24 : Memref sig .tc .vmem S512x1024 .i32) (q24 : p24.IsWhole) (p25 : Memref sig .tc .vmem S512x1024 .i32) (q25 : p25.IsWhole) (p26 : Memref sig .tc .vmem S256x1024 .i32) (q26 : p26.IsWhole) (p27 : Memref sig .tc .vmem S256x1024 .i32) (q27 : p27.IsWhole) (hc0 : ¬cond0_0 i) (hc1 : cond0_1 i) (hc2 : ¬cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32) (xs0 : Vec F S1024x512 .f32) (xs2 : Vec F S2x120x8 .f32) (xs6 : Vec F S512x1024 .i32) (xs8 : Vec F S256x1024 .i32)

theorem scover0_B_0 (y : S1024x512.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8).1, y ∈ pc.1.set :=
  View.cover_of_tiledL (s := S1024x512) _ S512x512.size (by sl_kernel_rfl) y

def sout0_B_0 : Vec F S1024x512 .f32 :=
  VS0_0.read (Elt F) (VS0_0.writes (Elt F) VS0_0.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8).1)

theorem scover0_B_6 (y : S512x1024.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8).2.2.1, y ∈ pc.1.set :=
  View.cover_of_wholeMem _ (by sl_whole_mem) y

def sout0_B_6 : Vec F S512x1024 .i32 :=
  VS0_6.read (Elt F) (VS0_6.writes (Elt F) VS0_6.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8).2.2.1)

theorem scover0_B_8 (y : S256x1024.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8).2.2.2.1, y ∈ pc.1.set :=
  View.cover_of_wholeMem _ (by sl_whole_mem) y

def sout0_B_8 : Vec F S256x1024 .i32 :=
  VS0_8.read (Elt F) (VS0_8.writes (Elt F) VS0_8.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8).2.2.2.1)

/-- What the point leaves in the carried scratch. -/
abbrev outs0_B : Vec F S1024x512 .f32 × Vec F S2x120x8 .f32 × Vec F S512x1024 .i32 × Vec F S256x1024 .i32 :=
  (sout0_B_0 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8, xs2, sout0_B_6 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8, sout0_B_8 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8)

end CaseB

section CaseC
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x1024 .i32) (q20 : p20.IsWhole) (p21 : Memref sig .tc .vmem S2x120x8 .f32) (q21 : p21.IsWhole) (p22 : Memref sig .tc .vmem S4096x128 .i32) (q22 : p22.IsWhole) (p23 : Memref sig .tc .vmem S2048x128 .i32) (q23 : p23.IsWhole) (p24 : Memref sig .tc .vmem S512x1024 .i32) (q24 : p24.IsWhole) (p25 : Memref sig .tc .vmem S512x1024 .i32) (q25 : p25.IsWhole) (p26 : Memref sig .tc .vmem S256x1024 .i32) (q26 : p26.IsWhole) (p27 : Memref sig .tc .vmem S256x1024 .i32) (q27 : p27.IsWhole) (hc0 : ¬cond0_0 i) (hc1 : ¬cond0_1 i) (hc2 : cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32) (xs0 : Vec F S1024x512 .f32) (xs2 : Vec F S2x120x8 .f32) (xs6 : Vec F S512x1024 .i32) (xs8 : Vec F S256x1024 .i32)

theorem scover0_C_0 (y : S1024x512.Idx) :
    ∃ pc ∈ (kernelRun0_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8).1, y ∈ pc.1.set :=
  View.cover_of_tiledL (s := S1024x512) _ S512x512.size (by sl_kernel_rfl) y

def sout0_C_0 : Vec F S1024x512 .f32 :=
  VS0_0.read (Elt F) (VS0_0.writes (Elt F) VS0_0.junk (kernelRun0_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8).1)

/-- What the point leaves in the carried scratch. -/
abbrev outs0_C : Vec F S1024x512 .f32 × Vec F S2x120x8 .f32 × Vec F S512x1024 .i32 × Vec F S256x1024 .i32 :=
  (sout0_C_0 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs2 xs6 xs8, xs2, xs6, xs8)

end CaseC

/-! ## What the outputs hold after each point -/

def outsAt0 (c : Dev nD) : (n : ℕ) → n < cfg0.N → Vec F S1024x512 .f32 × Vec F S2x120x8 .f32 × Vec F S512x1024 .i32 × Vec F S256x1024 .i32
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : (n + 1) % 16 = 0 then
      if h1 : (1 ≤ (n + 1) % 16 ∧ (n + 1) % 16 ≤ 14) then
        False.elim (by have hN : n + 1 < 16 := lt_of_lt_of_eq hn (show cfg0.N = 16 from N_0); omega)
      else
        if h2 : (n + 1) % 16 = 15 then
          False.elim (by have hN : n + 1 < 16 := lt_of_lt_of_eq hn (show cfg0.N = 16 from N_0); omega)
        else
          outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
    else
      if h1 : (1 ≤ (n + 1) % 16 ∧ (n + 1) % 16 ≤ 14) then
        if h2 : (n + 1) % 16 = 15 then
          False.elim (by have hN : n + 1 < 16 := lt_of_lt_of_eq hn (show cfg0.N = 16 from N_0); omega)
        else
          outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2
      else
        if h2 : (n + 1) % 16 = 15 then
          outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2
        else
          False.elim (by have hN : n + 1 < 16 := lt_of_lt_of_eq hn (show cfg0.N = 16 from N_0); omega)

theorem outsAt0_A (c : Dev nD) (t : Fin cfg0.N) (h0 : t.val % 16 = 0) (h1 : ¬(1 ≤ t.val % 16 ∧ t.val % 16 ≤ 14)) (h2 : ¬t.val % 16 = 15) :
    outsAt0 m c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 16 = 0) (h1 : (1 ≤ t.val % 16 ∧ t.val % 16 ≤ 14)) (h2 : ¬t.val % 16 = 15) :
    outsAt0 m c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 16 = 0) (h1 : ¬(1 ≤ t.val % 16 ∧ t.val % 16 ≤ 14)) (h2 : t.val % 16 = 15) :
    outsAt0 m c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans ((dif_pos h2).trans rfl))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ (∃ d, owns (c : Thread nD τ) scM0_1 fullShare d) ∗ owns (c : Thread nD τ) scM0_2 fullShare ((outsAt0 m c n hn).2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.1) ∗ (∃ d, owns (c : Thread nD τ) scM0_7 fullShare d) ∗ owns (c : Thread nD τ) scM0_8 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ owns (c : Thread nD τ) scM0_2 fullShare ((outsAt0 m c n hn).2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.1) ∗ (∃ d, owns (c : Thread nD τ) scM0_7 fullShare d) ∗ owns (c : Thread nD τ) scM0_8 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ owns (c : Thread nD τ) scM0_2 fullShare ((outsAt0 m c (n - 1) (by omega)).2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2.1) ∗ (∃ d, owns (c : Thread nD τ) scM0_7 fullShare d) ∗ owns (c : Thread nD τ) scM0_8 fullShare ((outsAt0 m c (n - 1) (by omega)).2.2.2)) ∗ (∃ r, prngReg c r)) := by
  cases n with
  | zero => exact absurd rfl hz
  | succ n => rfl

/-! ## The pipeline's proof data -/

def forgets0 : Fin 18 → Bool := fun w => w.val == 10 || w.val == 11 || w.val == 12 || w.val == 13 || w.val == 14 || w.val == 15 || w.val == 16 || w.val == 17

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d))

set_option maxHeartbeats 28800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : (1 ≤ t.val % 16 ∧ t.val % 16 ≤ 14)
    · exfalso; omega
    · by_cases h2 : t.val % 16 = 15
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        by_cases hz : t.val = 0
        · rw [PhiS_castSucc m c t, PhiS_zero m c _ _ hz, PhiA0_eq]
          rw [outsAt0_A m c t h0 h1 h2]
          unfold outs0_A sout0_A_0 sout0_A_2 sout0_A_6 sout0_A_8; (try dsimp only)
          iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iintro ⟨H0, H1, H2, H3, H4, H5, H6, H7, H8, H9, H10, H11, H12, H13, H14, H15, H16, H17, ⟨%es0, HS0⟩, HS1, ⟨%es2, HS2⟩, HS3, HS4, HS5, ⟨%es6, HS6⟩, HS7, ⟨%es8, HS8⟩⟩
          isplitl [HS0 HS1 HS2 HS3 HS4 HS5 HS6 HS7 HS8 Hg]
          · isplitl [HS0 HS1 HS2 HS3 HS4 HS5 HS6 HS7 HS8]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexact HS1
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · iexact HS3
              isplitl [HS4]
              · iexact HS4
              isplitl [HS5]
              · iexact HS5
              isplitl [HS6]
              · unfold owns; iexists _; isplitr
                swap; · iexact HS6
                ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS7]
              · iexact HS7
              unfold owns; iexists _; isplitr
              swap; · iexact HS8
              ipureintro; exact View.read_writes_of_cover _ _ _ _ _ (scover0_A_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          iexact H17
        · exfalso; have hN : t.val < 16 := lt_of_lt_of_eq t.isLt (show cfg0.N = 16 from N_0); omega
  · by_cases h1 : (1 ≤ t.val % 16 ∧ t.val % 16 ≤ 14)
    · by_cases h2 : t.val % 16 = 15
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        by_cases hz : t.val = 0
        · exfalso; have hN : t.val < 16 := lt_of_lt_of_eq t.isLt (show cfg0.N = 16 from N_0); omega
        · rw [PhiS_castSucc m c t, PhiS_pos m c _ _ hz]
          rw [outsAt0_B m c t h0 h1 h2]
          unfold outs0_B sout0_B_0 sout0_B_6 sout0_B_8; (try dsimp only)
          iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iintro ⟨H0, H1, H2, H3, H4, H5, H6, H7, H8, H9, H10, H11, H12, H13, H14, H15, H16, H17, ⟨%es0, HS0⟩, HS1, HS2, HS3, HS4, HS5, ⟨%es6, HS6⟩, HS7, ⟨%es8, HS8⟩⟩
          isplitl [HS0 HS1 HS2 HS3 HS4 HS5 HS6 HS7 HS8 Hg]
          · isplitl [HS0 HS1 HS2 HS3 HS4 HS5 HS6 HS7 HS8]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexact HS1
              isplitl [HS2]
              · iexact HS2
              isplitl [HS3]
              · iexact HS3
              isplitl [HS4]
              · iexact HS4
              isplitl [HS5]
              · iexact HS5
              isplitl [HS6]
              · unfold owns; iexists _; isplitr
                swap; · iexact HS6
                ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS7]
              · iexact HS7
              unfold owns; iexists _; isplitr
              swap; · iexact HS8
              ipureintro; exact View.read_writes_of_cover _ _ _ _ _ (scover0_B_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          iexact H17
    · by_cases h2 : t.val % 16 = 15
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        by_cases hz : t.val = 0
        · exfalso; have hN : t.val < 16 := lt_of_lt_of_eq t.isLt (show cfg0.N = 16 from N_0); omega
        · rw [PhiS_castSucc m c t, PhiS_pos m c _ _ hz]
          rw [outsAt0_C m c t h0 h1 h2]
          unfold outs0_C sout0_C_0; (try dsimp only)
          iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _ _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iintro ⟨H0, H1, H2, H3, H4, H5, H6, H7, H8, H9, H10, H11, H12, H13, H14, H15, H16, H17, ⟨%es0, HS0⟩, HS1, HS2, HS3, HS4, HS5, HS6, HS7, HS8⟩
          isplitl [HS0 HS1 HS2 HS3 HS4 HS5 HS6 HS7 HS8 Hg]
          · isplitl [HS0 HS1 HS2 HS3 HS4 HS5 HS6 HS7 HS8]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexact HS1
              isplitl [HS2]
              · iexact HS2
              isplitl [HS3]
              · iexact HS3
              isplitl [HS4]
              · iexact HS4
              isplitl [HS5]
              · iexact HS5
              isplitl [HS6]
              · iexact HS6
              isplitl [HS7]
              · iexact HS7
              iexact HS8
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          iexact H17
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexists _; iexact HS0
    isplitl [HS1]
    · iexact HS1
    isplitl [HS2]
    · iexists _; iexact HS2
    isplitl [HS3]
    · iexact HS3
    isplitl [HS4]
    · iexact HS4
    isplitl [HS5]
    · iexact HS5
    isplitl [HS6]
    · iexists _; iexact HS6
    isplitl [HS7]
    · iexact HS7
    iexists _; iexact HS8
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_forget`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.Preserves.lean ====
/- The packed words are pairs of bf16: the statements that the idealized kernel rests on. -/
module

public import proofs.«01_k».proof.Defs
public import proofs.«01_k».proof.Proof.Gen.KernelIdeal
public import Idealize.ShloMosaic.Lib.Bf16PairInverse

@[expose] public section

noncomputable section

open Idealize.ShloMosaic Idealize.SL.Sem

namespace Cert.Proof

/-- Each re-typed scratch once, then each shape at which words are read as rows or rows as words. -/
theorem preserves : Cert.preserves_Kernel_KernelIdeal :=
  open Cert.KernelIdeal IdealRules.bf16_pair in
  ⟨bufferStatement S256x2x1024 S256x1x1024, bufferStatement S4096x2x128 S4096x1x128,
    bufferStatement S2048x2x128 S2048x1x128, bufferStatement S512x2x1024 S512x1x1024,
    statement S128x1024 S64x1024, statement S64x2x1024 S64x1x1024, statement S8192x128 S4096x128,
    statement S4096x2x128 S4096x1x128, statement S1024x1024 S512x1024, statement S512x2x1024 S512x1x1024,
    statement S4096x128 S2048x128, statement S2048x2x128 S2048x1x128, statement S512x1024 S256x1024,
    statement S256x2x1024 S256x1x1024, statement S32x128 S16x128, statement S16x2x128 S16x1x128,
    statement S8x2x128 S8x1x128, statement S16x128 S8x128, statement S512x2x512 S512x1x512,
    statement S1024x512 S512x512⟩

end Cert.Proof

end
-- ==== Proof.Ideal.Runs.lean ====
/- What the three runs of the idealized kernel body share: the conditions, the windows that are live or idle at each point, the contents the body starts from. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).1 7).trans (((dats 0 c).arrAt_in 7 rfl _).trans ((hA c 7).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's branch conditions -/

abbrev cond0_0 (i : grid0.Coords) : Prop := k0_cond1 i = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ (1 ≤ t.val % 16 ∧ t.val % 16 ≤ 14) :=
  (by decide +kernel : ∀ t : Fin grid0.N, cond0_1 (grid0.coords t) ↔ (1 ≤ t.val % 16 ∧ t.val % 16 ≤ 14))

abbrev cond0_2 (i : grid0.Coords) : Prop := k0_cond3 i = 1#1
theorem hcond0_2 : ∀ t : Fin cfg0.N, cond0_2 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_2, k0_cond3, e0]
    word_cmp
   : ∀ t : Fin grid0.N, cond0_2 (grid0.coords t) ↔ t.val % 16 = 15)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem idleAt0_10_A : ∀ t : Fin cfg0.N, cond0_0 (grid0.coords t) → ¬cond0_1 (grid0.coords t) → ¬cond0_2 (grid0.coords t) → cfg0.idle 10 (grid0.coords t) = true := by decide +kernel
theorem noFlush0_10_A : ∀ t : Fin cfg0.N, cond0_0 (grid0.coords t) → ¬cond0_1 (grid0.coords t) → ¬cond0_2 (grid0.coords t) → (cfg0.win 10).flush t = false := by decide +kernel
theorem idleAt0_10_B : ∀ t : Fin cfg0.N, ¬cond0_0 (grid0.coords t) → cond0_1 (grid0.coords t) → ¬cond0_2 (grid0.coords t) → cfg0.idle 10 (grid0.coords t) = true := by decide +kernel
theorem noFlush0_10_B : ∀ t : Fin cfg0.N, ¬cond0_0 (grid0.coords t) → cond0_1 (grid0.coords t) → ¬cond0_2 (grid0.coords t) → (cfg0.win 10).flush t = false := by decide +kernel
theorem liveAt0_10_C : ∀ t : Fin cfg0.N, ¬cond0_0 (grid0.coords t) → ¬cond0_1 (grid0.coords t) → cond0_2 (grid0.coords t) → cfg0.idle 10 (grid0.coords t) = false := by decide +kernel
theorem idleAt0_11_A : ∀ t : Fin cfg0.N, cond0_0 (grid0.coords t) → ¬cond0_1 (grid0.coords t) → ¬cond0_2 (grid0.coords t) → cfg0.idle 11 (grid0.coords t) = true := by decide +kernel
theorem noFlush0_11_A : ∀ t : Fin cfg0.N, cond0_0 (grid0.coords t) → ¬cond0_1 (grid0.coords t) → ¬cond0_2 (grid0.coords t) → (cfg0.win 11).flush t = false := by decide +kernel
theorem idleAt0_11_B : ∀ t : Fin cfg0.N, ¬cond0_0 (grid0.coords t) → cond0_1 (grid0.coords t) → ¬cond0_2 (grid0.coords t) → cfg0.idle 11 (grid0.coords t) = true := by decide +kernel
theorem noFlush0_11_B : ∀ t : Fin cfg0.N, ¬cond0_0 (grid0.coords t) → cond0_1 (grid0.coords t) → ¬cond0_2 (grid0.coords t) → (cfg0.win 11).flush t = false := by decide +kernel
theorem liveAt0_11_C : ∀ t : Fin cfg0.N, ¬cond0_0 (grid0.coords t) → ¬cond0_1 (grid0.coords t) → cond0_2 (grid0.coords t) → cfg0.idle 11 (grid0.coords t) = false := by decide +kernel
def freshTab0_12 : ℕ → Bool
  | 0 => true
  | n + 1 => (0xbfff : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
theorem liveAt0_12_A : ∀ t : Fin cfg0.N, cond0_0 (grid0.coords t) → ¬cond0_1 (grid0.coords t) → ¬cond0_2 (grid0.coords t) → cfg0.idle 12 (grid0.coords t) = false := by decide +kernel
theorem liveAt0_12_B : ∀ t : Fin cfg0.N, ¬cond0_0 (grid0.coords t) → cond0_1 (grid0.coords t) → ¬cond0_2 (grid0.coords t) → cfg0.idle 12 (grid0.coords t) = false := by decide +kernel
theorem idleAt0_12_C : ∀ t : Fin cfg0.N, ¬cond0_0 (grid0.coords t) → ¬cond0_1 (grid0.coords t) → cond0_2 (grid0.coords t) → cfg0.idle 12 (grid0.coords t) = true := by decide +kernel
theorem flushAt0_12_C : ∀ t : Fin cfg0.N, ¬cond0_0 (grid0.coords t) → ¬cond0_1 (grid0.coords t) → cond0_2 (grid0.coords t) → (cfg0.win 12).flush t = true := by decide +kernel
theorem notFresh0_12_C : ∀ t : Fin cfg0.N, ¬cond0_0 (grid0.coords t) → ¬cond0_1 (grid0.coords t) → cond0_2 (grid0.coords t) → cfg0.fresh 12 t.val = false := by
  intro t; rw [fresh0_12_eq t]; revert t; decide +kernel
theorem idleAt0_13_A : ∀ t : Fin cfg0.N, cond0_0 (grid0.coords t) → ¬cond0_1 (grid0.coords t) → ¬cond0_2 (grid0.coords t) → cfg0.idle 13 (grid0.coords t) = true := by decide +kernel
theorem noFlush0_13_A : ∀ t : Fin cfg0.N, cond0_0 (grid0.coords t) → ¬cond0_1 (grid0.coords t) → ¬cond0_2 (grid0.coords t) → (cfg0.win 13).flush t = false := by decide +kernel
theorem liveAt0_13_B : ∀ t : Fin cfg0.N, ¬cond0_0 (grid0.coords t) → cond0_1 (grid0.coords t) → ¬cond0_2 (grid0.coords t) → cfg0.idle 13 (grid0.coords t) = false := by decide +kernel
theorem liveAt0_13_C : ∀ t : Fin cfg0.N, ¬cond0_0 (grid0.coords t) → ¬cond0_1 (grid0.coords t) → cond0_2 (grid0.coords t) → cfg0.idle 13 (grid0.coords t) = false := by decide +kernel
def freshTab0_14 : ℕ → Bool
  | 0 => true
  | n + 1 => (0xbfff : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
theorem liveAt0_14_A : ∀ t : Fin cfg0.N, cond0_0 (grid0.coords t) → ¬cond0_1 (grid0.coords t) → ¬cond0_2 (grid0.coords t) → cfg0.idle 14 (grid0.coords t) = false := by decide +kernel
theorem liveAt0_14_B : ∀ t : Fin cfg0.N, ¬cond0_0 (grid0.coords t) → cond0_1 (grid0.coords t) → ¬cond0_2 (grid0.coords t) → cfg0.idle 14 (grid0.coords t) = false := by decide +kernel
theorem idleAt0_14_C : ∀ t : Fin cfg0.N, ¬cond0_0 (grid0.coords t) → ¬cond0_1 (grid0.coords t) → cond0_2 (grid0.coords t) → cfg0.idle 14 (grid0.coords t) = true := by decide +kernel
theorem flushAt0_14_C : ∀ t : Fin cfg0.N, ¬cond0_0 (grid0.coords t) → ¬cond0_1 (grid0.coords t) → cond0_2 (grid0.coords t) → (cfg0.win 14).flush t = true := by decide +kernel
theorem notFresh0_14_C : ∀ t : Fin cfg0.N, ¬cond0_0 (grid0.coords t) → ¬cond0_1 (grid0.coords t) → cond0_2 (grid0.coords t) → cfg0.fresh 14 t.val = false := by
  intro t; rw [fresh0_14_eq t]; revert t; decide +kernel
def freshTab0_15 : ℕ → Bool
  | 0 => true
  | n + 1 => (0xbfff : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
theorem liveAt0_15_A : ∀ t : Fin cfg0.N, cond0_0 (grid0.coords t) → ¬cond0_1 (grid0.coords t) → ¬cond0_2 (grid0.coords t) → cfg0.idle 15 (grid0.coords t) = false := by decide +kernel
theorem liveAt0_15_B : ∀ t : Fin cfg0.N, ¬cond0_0 (grid0.coords t) → cond0_1 (grid0.coords t) → ¬cond0_2 (grid0.coords t) → cfg0.idle 15 (grid0.coords t) = false := by decide +kernel
theorem idleAt0_15_C : ∀ t : Fin cfg0.N, ¬cond0_0 (grid0.coords t) → ¬cond0_1 (grid0.coords t) → cond0_2 (grid0.coords t) → cfg0.idle 15 (grid0.coords t) = true := by decide +kernel
theorem flushAt0_15_C : ∀ t : Fin cfg0.N, ¬cond0_0 (grid0.coords t) → ¬cond0_1 (grid0.coords t) → cond0_2 (grid0.coords t) → (cfg0.win 15).flush t = true := by decide +kernel
theorem notFresh0_15_C : ∀ t : Fin cfg0.N, ¬cond0_0 (grid0.coords t) → ¬cond0_1 (grid0.coords t) → cond0_2 (grid0.coords t) → cfg0.fresh 15 t.val = false := by
  intro t; rw [fresh0_15_eq t]; revert t; decide +kernel
def freshTab0_16 : ℕ → Bool
  | 0 => true
  | n + 1 => (0xbfff : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
theorem liveAt0_16_A : ∀ t : Fin cfg0.N, cond0_0 (grid0.coords t) → ¬cond0_1 (grid0.coords t) → ¬cond0_2 (grid0.coords t) → cfg0.idle 16 (grid0.coords t) = false := by decide +kernel
theorem liveAt0_16_B : ∀ t : Fin cfg0.N, ¬cond0_0 (grid0.coords t) → cond0_1 (grid0.coords t) → ¬cond0_2 (grid0.coords t) → cfg0.idle 16 (grid0.coords t) = false := by decide +kernel
theorem idleAt0_16_C : ∀ t : Fin cfg0.N, ¬cond0_0 (grid0.coords t) → ¬cond0_1 (grid0.coords t) → cond0_2 (grid0.coords t) → cfg0.idle 16 (grid0.coords t) = true := by decide +kernel
theorem flushAt0_16_C : ∀ t : Fin cfg0.N, ¬cond0_0 (grid0.coords t) → ¬cond0_1 (grid0.coords t) → cond0_2 (grid0.coords t) → (cfg0.win 16).flush t = true := by decide +kernel
theorem notFresh0_16_C : ∀ t : Fin cfg0.N, ¬cond0_0 (grid0.coords t) → ¬cond0_1 (grid0.coords t) → cond0_2 (grid0.coords t) → cfg0.fresh 16 t.val = false := by
  intro t; rw [fresh0_16_eq t]; revert t; decide +kernel
def freshTab0_17 : ℕ → Bool
  | 0 => true
  | n + 1 => (0xbfff : ℕ).testBit n
theorem freshTab0_17_step : ∀ t : Fin cfg0.N,
    freshTab0_17 (t.val + 1) = ((cfg0.win 17).flush t || (cfg0.idle 17 (cfg0.grid.coords t) && freshTab0_17 t.val)) := by decide +kernel
theorem fresh0_17_eq (t : Fin cfg0.N) : cfg0.fresh 17 t.val = freshTab0_17 t.val :=
  Pipeline.Cfg.fresh_tab cfg0 17 freshTab0_17 rfl freshTab0_17_step t.val (Nat.le_of_lt t.isLt)
theorem liveAt0_17_A : ∀ t : Fin cfg0.N, cond0_0 (grid0.coords t) → ¬cond0_1 (grid0.coords t) → ¬cond0_2 (grid0.coords t) → cfg0.idle 17 (grid0.coords t) = false := by decide +kernel
theorem liveAt0_17_B : ∀ t : Fin cfg0.N, ¬cond0_0 (grid0.coords t) → cond0_1 (grid0.coords t) → ¬cond0_2 (grid0.coords t) → cfg0.idle 17 (grid0.coords t) = false := by decide +kernel
theorem idleAt0_17_C : ∀ t : Fin cfg0.N, ¬cond0_0 (grid0.coords t) → ¬cond0_1 (grid0.coords t) → cond0_2 (grid0.coords t) → cfg0.idle 17 (grid0.coords t) = true := by decide +kernel
theorem flushAt0_17_C : ∀ t : Fin cfg0.N, ¬cond0_0 (grid0.coords t) → ¬cond0_1 (grid0.coords t) → cond0_2 (grid0.coords t) → (cfg0.win 17).flush t = true := by decide +kernel
theorem notFresh0_17_C : ∀ t : Fin cfg0.N, ¬cond0_0 (grid0.coords t) → ¬cond0_1 (grid0.coords t) → cond0_2 (grid0.coords t) → cfg0.fresh 17 t.val = false := by
  intro t; rw [fresh0_17_eq t]; revert t; decide +kernel

/-! ## The kernel body on any staging memrefs: a subtype the run finds -/

abbrev VO0_10 : View sig .tc .vmem S1024x512 .bf16 := (Memref.whole cc0_stg10_0 : Memref sig .tc .vmem S1024x512 .bf16).view
abbrev VO0_11 : View sig .tc .vmem S1x512 .f32 := (Memref.whole cc0_stg11_0 : Memref sig .tc .vmem S1x512 .f32).view
abbrev VO0_12 : View sig .tc .vmem S512x1x8x128 .f32 := (Memref.whole cc0_stg12_0 : Memref sig .tc .vmem S512x1x8x128 .f32).view
abbrev VO0_13 : View sig .tc .vmem S512x1x8x128 .f32 := (Memref.whole cc0_stg13_0 : Memref sig .tc .vmem S512x1x8x128 .f32).view
abbrev VO0_14 : View sig .tc .vmem S1024x1x8x128 .fp8e5m2 := (Memref.whole cc0_stg14_0 : Memref sig .tc .vmem S1024x1x8x128 .fp8e5m2).view
abbrev VO0_15 : View sig .tc .vmem S8x1024 .f32 := (Memref.whole cc0_stg15_0 : Memref sig .tc .vmem S8x1024 .f32).view
abbrev VO0_16 : View sig .tc .vmem S1024x1x8x128 .fp8e5m2 := (Memref.whole cc0_stg16_0 : Memref sig .tc .vmem S1024x1x8x128 .fp8e5m2).view
abbrev VO0_17 : View sig .tc .vmem S8x1024 .f32 := (Memref.whole cc0_stg17_0 : Memref sig .tc .vmem S8x1024 .f32).view
abbrev ms0_0 (t : Fin cfg0.N) : Memref sig .tc .vmem S1024x1x8x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1x8x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1x8x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1x8x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x120 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1x8x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1x8x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x1x8x128 .fp8e5m2 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x1x8x128 .fp8e5m2 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x1024 .f32 := win0_17.stage (cfg0.slots t 17)
abbrev hs0_17 (t : Fin cfg0.N) : (ms0_17 t).IsWhole := hstage0_17 ((cfg0.slots t 17).cast nbuf0_17)
abbrev scM0_0 : Memref sig .tc .vmem S1024x512 .f32 := Memref.whole cc0_scratch0
abbrev scM0_1 : Memref sig .tc .vmem S256x2x1024 .bf16 := Memref.whole cc0_scratch1
abbrev scM0_2 : Memref sig .tc .vmem S2x120x8 .f32 := Memref.whole cc0_scratch2
abbrev scM0_3 : Memref sig .tc .vmem S4096x2x128 .bf16 := Memref.whole cc0_scratch3
abbrev scM0_4 : Memref sig .tc .vmem S2048x2x128 .bf16 := Memref.whole cc0_scratch4
abbrev scM0_5 : Memref sig .tc .vmem S512x2x1024 .bf16 := Memref.whole cc0_scratch5
abbrev scM0_6 : Memref sig .tc .vmem S512x2x1024 .bf16 := Memref.whole cc0_scratch6
abbrev scM0_7 : Memref sig .tc .vmem S256x2x1024 .bf16 := Memref.whole cc0_scratch7
abbrev scM0_8 : Memref sig .tc .vmem S256x2x1024 .bf16 := Memref.whole cc0_scratch8
abbrev VS0_0 : View sig .tc .vmem S1024x512 .f32 := scM0_0.view
abbrev VS0_1 : View sig .tc .vmem S256x2x1024 .bf16 := scM0_1.view
abbrev VS0_2 : View sig .tc .vmem S2x120x8 .f32 := scM0_2.view
abbrev VS0_6 : View sig .tc .vmem S512x2x1024 .bf16 := scM0_6.view
abbrev VS0_8 : View sig .tc .vmem S256x2x1024 .bf16 := scM0_8.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Gen

end
-- ==== Proof.Ideal.RunA.lean ====
/- The body at the first grid point: the weight copies are prepared, both sides are quantised, the k side is multiplied. -/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2276000 in
noncomputable def kernelRun0_A (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : cond0_0 i) (hc1 : ¬cond0_1 i) (hc2 : ¬cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32) :
    Σ' (L10 : List (View.Piece (Elt F) S1024x512 .bf16)), Σ' (L11 : List (View.Piece (Elt F) S1x512 .f32)), Σ' (L12 : List (View.Piece (Elt F) S512x1x8x128 .f32)), Σ' (L13 : List (View.Piece (Elt F) S512x1x8x128 .f32)), Σ' (L14 : List (View.Piece (Elt F) S1024x1x8x128 .fp8e5m2)), Σ' (L15 : List (View.Piece (Elt F) S8x1024 .f32)), Σ' (L16 : List (View.Piece (Elt F) S1024x1x8x128 .fp8e5m2)), Σ' (L17 : List (View.Piece (Elt F) S8x1024 .f32)), Σ' (LS0 : List (View.Piece (Elt F) S1024x512 .f32)), Σ' (LS1 : List (View.Piece (Elt F) S256x2x1024 .bf16)), Σ' (LS2 : List (View.Piece (Elt F) S2x120x8 .f32)), Σ' (LS6 : List (View.Piece (Elt F) S512x2x1024 .bf16)), { LS8 : List (View.Piece (Elt F) S256x2x1024 .bf16) //
      ∀ (xi10 : Vec F S1024x512 .bf16) (xi11 : Vec F S1x512 .f32) (xi13 : Vec F S512x1x8x128 .f32) (E : Set ℕ) (K : PUnit → sProp 𝕄),
        iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ owns (c : Thread nD τ) p11 fullShare xi10 ∗ owns (c : Thread nD τ) p12 fullShare xi11 ∗ (∃ d, owns (c : Thread nD τ) p13 fullShare d) ∗ owns (c : Thread nD τ) p14 fullShare xi13 ∗ (∃ d, owns (c : Thread nD τ) p15 fullShare d) ∗ (∃ d, owns (c : Thread nD τ) p16 fullShare d) ∗ (∃ d, owns (c : Thread nD τ) p17 fullShare d) ∗ (∃ d, owns (c : Thread nD τ) p18 fullShare d) ∗ (∃ d, owns (c : Thread nD τ) p19 fullShare d) ∗ (∃ d, owns (c : Thread nD τ) p20 fullShare d) ∗ (∃ d, owns (c : Thread nD τ) p21 fullShare d) ∗ (∃ d, owns (c : Thread nD τ) p22 fullShare d) ∗ (∃ d, owns (c : Thread nD τ) p23 fullShare d) ∗ (∃ d, owns (c : Thread nD τ) p24 fullShare d) ∗ (∃ d, owns (c : Thread nD τ) p25 fullShare d) ∗ (∃ d, owns (c : Thread nD τ) p26 fullShare d) ∗ (∃ d, owns (c : Thread nD τ) p27 fullShare d)
            ∗ (iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ owns (c : Thread nD τ) p11 fullShare xi10 ∗ owns (c : Thread nD τ) p12 fullShare xi11 ∗ (∃ f, p13.view.loc (c : Thread nD τ) ↦[p13.view.set]{fullShare} p13.view.writes (Elt F) f L12) ∗ owns (c : Thread nD τ) p14 fullShare xi13 ∗ (∃ f, p15.view.loc (c : Thread nD τ) ↦[p15.view.set]{fullShare} p15.view.writes (Elt F) f L14) ∗ (∃ f, p16.view.loc (c : Thread nD τ) ↦[p16.view.set]{fullShare} p16.view.writes (Elt F) f L15) ∗ (∃ f, p17.view.loc (c : Thread nD τ) ↦[p17.view.set]{fullShare} p17.view.writes (Elt F) f L16) ∗ (∃ f, p18.view.loc (c : Thread nD τ) ↦[p18.view.set]{fullShare} p18.view.writes (Elt F) f L17) ∗ (∃ f, p19.view.loc (c : Thread nD τ) ↦[p19.view.set]{fullShare} p19.view.writes (Elt F) f LS0) ∗ (∃ f, p20.view.loc (c : Thread nD τ) ↦[p20.view.set]{fullShare} p20.view.writes (Elt F) f LS1) ∗ (∃ f, p21.view.loc (c : Thread nD τ) ↦[p21.view.set]{fullShare} p21.view.writes (Elt F) f LS2) ∗ (∃ d, owns (c : Thread nD τ) p22 fullShare d) ∗ (∃ d, owns (c : Thread nD τ) p23 fullShare d) ∗ (∃ d, owns (c : Thread nD τ) p24 fullShare d) ∗ (∃ f, p25.view.loc (c : Thread nD τ) ↦[p25.view.set]{fullShare} p25.view.writes (Elt F) f LS6) ∗ (∃ d, owns (c : Thread nD τ) p26 fullShare d) ∗ (∃ f, p27.view.loc (c : Thread nD τ) ↦[p27.view.set]{fullShare} p27.view.writes (Elt F) f LS8)) -∗ K ⟨⟩))
          ⊢ wp frame (wpE (defs₀ (F := F)) Variants.none c none) E (cc0_mla_kv_up_proj_bwd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27) K } := by
  refine ⟨[], [], ?_, [], ?_, ?_, ?_, ?_, ?_, ?_, ?_, ?_, ?_, fun xi10 xi11 xi13 E K => ?run⟩
  case run =>
    simp only [cc0_mla_kv_up_proj_bwd_eq_skeleton]; unfold cc0_mla_kv_up_proj_bwd_skel
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := q1.eq_unread hf0; obtain rfl := q2.eq_unread hf1; obtain rfl := q3.eq_unread hf2; obtain rfl := q4.eq_unread hf3; obtain rfl := q5.eq_unread hf4; obtain rfl := q6.eq_unread hf5; obtain rfl := q7.eq_unread hf6; obtain rfl := q8.eq_unread hf7; obtain rfl := q9.eq_unread hf8; obtain rfl := q10.eq_unread hf9; obtain rfl := q11.eq_unread hf10; obtain rfl := q12.eq_unread hf11; obtain rfl := q14.eq_unread hf13
    sl_exec (disch := first | sl_exact hc0 | sl_exact hc1 | sl_exact hc2)
    sl_step
    iapply Hk
    isplitl [H0]
    · iexists _; isplitr; · ipureintro; exact q1.read_unread _
      iexact H0
    isplitl [H1]
    · iexists _; isplitr; · ipureintro; exact q2.read_unread _
      iexact H1
    isplitl [H2]
    · iexists _; isplitr; · ipureintro; exact q3.read_unread _
      iexact H2
    isplitl [H3]
    · iexists _; isplitr; · ipureintro; exact q4.read_unread _
      iexact H3
    isplitl [H4]
    · iexists _; isplitr; · ipureintro; exact q5.read_unread _
      iexact H4
    isplitl [H5]
    · iexists _; isplitr; · ipureintro; exact q6.read_unread _
      iexact H5
    isplitl [H6]
    · iexists _; isplitr; · ipureintro; exact q7.read_unread _
      iexact H6
    isplitl [H7]
    · iexists _; isplitr; · ipureintro; exact q8.read_unread _
      iexact H7
    isplitl [H8]
    · iexists _; isplitr; · ipureintro; exact q9.read_unread _
      iexact H8
    isplitl [H9]
    · iexists _; isplitr; · ipureintro; exact q10.read_unread _
      iexact H9
    isplitl [H10]
    · iexists _; isplitr; · ipureintro; exact q11.read_unread _
      iexact H10
    isplitl [H11]
    · iexists _; isplitr; · ipureintro; exact q12.read_unread _
      iexact H11
    isplitl [H12]; · iexists _; iexact H12
    isplitl [H13]
    · iexists _; isplitr; · ipureintro; exact q14.read_unread _
      iexact H13
    isplitl [H14]; · iexists _; iexact H14
    isplitl [H15]; · iexists _; iexact H15
    isplitl [H16]; · iexists _; iexact H16
    isplitl [H17]; · iexists _; iexact H17
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [HS7]
    · iexists _, _; isplitr; swap; · iexact HS7
      ipureintro; rfl
    iexists _; iexact HS8

end Cert.KernelIdeal.Gen

end
-- ==== Proof.Ideal.RunB.lean ====
/- The body at the points between the first and the last. -/
module

public import proofs.«01_k».proof.Proof.Ideal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2252000 in
noncomputable def kernelRun0_B (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : ¬cond0_0 i) (hc1 : cond0_1 i) (hc2 : ¬cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32) (xs0 : Vec F S1024x512 .f32) (xs1 : Vec F S256x2x1024 .bf16) (xs2 : Vec F S2x120x8 .f32) (xs6 : Vec F S512x2x1024 .bf16) (xs8 : Vec F S256x2x1024 .bf16) :
    Σ' (L10 : List (View.Piece (Elt F) S1024x512 .bf16)), Σ' (L11 : List (View.Piece (Elt F) S1x512 .f32)), Σ' (L12 : List (View.Piece (Elt F) S512x1x8x128 .f32)), Σ' (L13 : List (View.Piece (Elt F) S512x1x8x128 .f32)), Σ' (L14 : List (View.Piece (Elt F) S1024x1x8x128 .fp8e5m2)), Σ' (L15 : List (View.Piece (Elt F) S8x1024 .f32)), Σ' (L16 : List (View.Piece (Elt F) S1024x1x8x128 .fp8e5m2)), Σ' (L17 : List (View.Piece (Elt F) S8x1024 .f32)), Σ' (LS0 : List (View.Piece (Elt F) S1024x512 .f32)), Σ' (LS1 : List (View.Piece (Elt F) S256x2x1024 .bf16)), Σ' (LS2 : List (View.Piece (Elt F) S2x120x8 .f32)), Σ' (LS6 : List (View.Piece (Elt F) S512x2x1024 .bf16)), { LS8 : List (View.Piece (Elt F) S256x2x1024 .bf16) //
      ∀ (xi10 : Vec F S1024x512 .bf16) (xi11 : Vec F S1x512 .f32) (E : Set ℕ) (K : PUnit → sProp 𝕄),
        iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ owns (c : Thread nD τ) p11 fullShare xi10 ∗ owns (c : Thread nD τ) p12 fullShare xi11 ∗ (∃ d, owns (c : Thread nD τ) p13 fullShare d) ∗ (∃ d, owns (c : Thread nD τ) p14 fullShare d) ∗ (∃ d, owns (c : Thread nD τ) p15 fullShare d) ∗ (∃ d, owns (c : Thread nD τ) p16 fullShare d) ∗ (∃ d, owns (c : Thread nD τ) p17 fullShare d) ∗ (∃ d, owns (c : Thread nD τ) p18 fullShare d) ∗ owns (c : Thread nD τ) p19 fullShare xs0 ∗ owns (c : Thread nD τ) p20 fullShare xs1 ∗ owns (c : Thread nD τ) p21 fullShare xs2 ∗ (∃ d, owns (c : Thread nD τ) p22 fullShare d) ∗ (∃ d, owns (c : Thread nD τ) p23 fullShare d) ∗ (∃ d, owns (c : Thread nD τ) p24 fullShare d) ∗ owns (c : Thread nD τ) p25 fullShare xs6 ∗ (∃ d, owns (c : Thread nD τ) p26 fullShare d) ∗ owns (c : Thread nD τ) p27 fullShare xs8
            ∗ (iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ owns (c : Thread nD τ) p11 fullShare xi10 ∗ owns (c : Thread nD τ) p12 fullShare xi11 ∗ (∃ f, p13.view.loc (c : Thread nD τ) ↦[p13.view.set]{fullShare} p13.view.writes (Elt F) f L12) ∗ (∃ f, p14.view.loc (c : Thread nD τ) ↦[p14.view.set]{fullShare} p14.view.writes (Elt F) f L13) ∗ (∃ f, p15.view.loc (c : Thread nD τ) ↦[p15.view.set]{fullShare} p15.view.writes (Elt F) f L14) ∗ (∃ f, p16.view.loc (c : Thread nD τ) ↦[p16.view.set]{fullShare} p16.view.writes (Elt F) f L15) ∗ (∃ f, p17.view.loc (c : Thread nD τ) ↦[p17.view.set]{fullShare} p17.view.writes (Elt F) f L16) ∗ (∃ f, p18.view.loc (c : Thread nD τ) ↦[p18.view.set]{fullShare} p18.view.writes (Elt F) f L17) ∗ (∃ f, p19.view.loc (c : Thread nD τ) ↦[p19.view.set]{fullShare} p19.view.writes (Elt F) f LS0) ∗ owns (c : Thread nD τ) p20 fullShare xs1 ∗ owns (c : Thread nD τ) p21 fullShare xs2 ∗ (∃ d, owns (c : Thread nD τ) p22 fullShare d) ∗ (∃ d, owns (c : Thread nD τ) p23 fullShare d) ∗ (∃ d, owns (c : Thread nD τ) p24 fullShare d) ∗ (∃ f, p25.view.loc (c : Thread nD τ) ↦[p25.view.set]{fullShare} p25.view.writes (Elt F) f LS6) ∗ (∃ d, owns (c : Thread nD τ) p26 fullShare d) ∗ (∃ f, p27.view.loc (c : Thread nD τ) ↦[p27.view.set]{fullShare} p27.view.writes (Elt F) f LS8)) -∗ K ⟨⟩))
          ⊢ wp frame (wpE (defs₀ (F := F)) Variants.none c none) E (cc0_mla_kv_up_proj_bwd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27) K } := by
  refine ⟨[], [], ?_, ?_, ?_, ?_, ?_, ?_, ?_, [], [], ?_, ?_, fun xi10 xi11 E K => ?run⟩
  case run =>
    simp only [cc0_mla_kv_up_proj_bwd_eq_skeleton]; unfold cc0_mla_kv_up_proj_bwd_skel
    simp only [k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%fs6, %hfs6, HS6⟩, ⟨%ds7, %fs7, -, HS7⟩, ⟨%fs8, %hfs8, HS8⟩, Hk⟩
    obtain rfl := q1.eq_unread hf0; obtain rfl := q2.eq_unread hf1; obtain rfl := q3.eq_unread hf2; obtain rfl := q4.eq_unread hf3; obtain rfl := q5.eq_unread hf4; obtain rfl := q6.eq_unread hf5; obtain rfl := q7.eq_unread hf6; obtain rfl := q8.eq_unread hf7; obtain rfl := q9.eq_unread hf8; obtain rfl := q10.eq_unread hf9; obtain rfl := q11.eq_unread hf10; obtain rfl := q12.eq_unread hf11; obtain rfl := q19.eq_unread hfs0; obtain rfl := q20.eq_unread hfs1; obtain rfl := q21.eq_unread hfs2; obtain rfl := q25.eq_unread hfs6; obtain rfl := q27.eq_unread hfs8
    sl_exec (disch := first | sl_exact hc0 | sl_exact hc1 | sl_exact hc2)
    sl_step
    iapply Hk
    isplitl [H0]
    · iexists _; isplitr; · ipureintro; exact q1.read_unread _
      iexact H0
    isplitl [H1]
    · iexists _; isplitr; · ipureintro; exact q2.read_unread _
      iexact H1
    isplitl [H2]
    · iexists _; isplitr; · ipureintro; exact q3.read_unread _
      iexact H2
    isplitl [H3]
    · iexists _; isplitr; · ipureintro; exact q4.read_unread _
      iexact H3
    isplitl [H4]
    · iexists _; isplitr; · ipureintro; exact q5.read_unread _
      iexact H4
    isplitl [H5]
    · iexists _; isplitr; · ipureintro; exact q6.read_unread _
      iexact H5
    isplitl [H6]
    · iexists _; isplitr; · ipureintro; exact q7.read_unread _
      iexact H6
    isplitl [H7]
    · iexists _; isplitr; · ipureintro; exact q8.read_unread _
      iexact H7
    isplitl [H8]
    · iexists _; isplitr; · ipureintro; exact q9.read_unread _
      iexact H8
    isplitl [H9]
    · iexists _; isplitr; · ipureintro; exact q10.read_unread _
      iexact H9
    isplitl [H10]
    · iexists _; isplitr; · ipureintro; exact q11.read_unread _
      iexact H10
    isplitl [H11]
    · iexists _; isplitr; · ipureintro; exact q12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexists _; iexact HS0
    isplitl [HS1]
    · iexists _; isplitr; · ipureintro; exact q20.read_unread _
      iexact HS1
    isplitl [HS2]
    · iexists _; isplitr; · ipureintro; exact q21.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [HS7]
    · iexists _, _; isplitr; swap; · iexact HS7
      ipureintro; rfl
    iexists _; iexact HS8

end Cert.KernelIdeal.Gen

end
-- ==== Proof.Ideal.RunC.lean ====
/- The body at the last grid point: the v side is multiplied and the norm is differentiated. -/
module

public import proofs.«01_k».proof.Proof.Ideal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
noncomputable def kernelRun0_C (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : ¬cond0_0 i) (hc1 : ¬cond0_1 i) (hc2 : cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32) (xo12 : Vec F S512x1x8x128 .f32) (xo14 : Vec F S1024x1x8x128 .fp8e5m2) (xo15 : Vec F S8x1024 .f32) (xo16 : Vec F S1024x1x8x128 .fp8e5m2) (xo17 : Vec F S8x1024 .f32) (xs0 : Vec F S1024x512 .f32) (xs1 : Vec F S256x2x1024 .bf16) (xs2 : Vec F S2x120x8 .f32) (xs6 : Vec F S512x2x1024 .bf16) (xs8 : Vec F S256x2x1024 .bf16) :
    Σ' (L10 : List (View.Piece (Elt F) S1024x512 .bf16)), Σ' (L11 : List (View.Piece (Elt F) S1x512 .f32)), Σ' (L12 : List (View.Piece (Elt F) S512x1x8x128 .f32)), Σ' (L13 : List (View.Piece (Elt F) S512x1x8x128 .f32)), Σ' (L14 : List (View.Piece (Elt F) S1024x1x8x128 .fp8e5m2)), Σ' (L15 : List (View.Piece (Elt F) S8x1024 .f32)), Σ' (L16 : List (View.Piece (Elt F) S1024x1x8x128 .fp8e5m2)), Σ' (L17 : List (View.Piece (Elt F) S8x1024 .f32)), Σ' (LS0 : List (View.Piece (Elt F) S1024x512 .f32)), Σ' (LS1 : List (View.Piece (Elt F) S256x2x1024 .bf16)), Σ' (LS2 : List (View.Piece (Elt F) S2x120x8 .f32)), Σ' (LS6 : List (View.Piece (Elt F) S512x2x1024 .bf16)), { LS8 : List (View.Piece (Elt F) S256x2x1024 .bf16) //
      ∀ (E : Set ℕ) (K : PUnit → sProp 𝕄),
        iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ (∃ d, owns (c : Thread nD τ) p11 fullShare d) ∗ (∃ d, owns (c : Thread nD τ) p12 fullShare d) ∗ owns (c : Thread nD τ) p13 fullShare xo12 ∗ (∃ d, owns (c : Thread nD τ) p14 fullShare d) ∗ owns (c : Thread nD τ) p15 fullShare xo14 ∗ owns (c : Thread nD τ) p16 fullShare xo15 ∗ owns (c : Thread nD τ) p17 fullShare xo16 ∗ owns (c : Thread nD τ) p18 fullShare xo17 ∗ owns (c : Thread nD τ) p19 fullShare xs0 ∗ owns (c : Thread nD τ) p20 fullShare xs1 ∗ owns (c : Thread nD τ) p21 fullShare xs2 ∗ (∃ d, owns (c : Thread nD τ) p22 fullShare d) ∗ (∃ d, owns (c : Thread nD τ) p23 fullShare d) ∗ (∃ d, owns (c : Thread nD τ) p24 fullShare d) ∗ owns (c : Thread nD τ) p25 fullShare xs6 ∗ (∃ d, owns (c : Thread nD τ) p26 fullShare d) ∗ owns (c : Thread nD τ) p27 fullShare xs8
            ∗ (iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ (∃ f, p11.view.loc (c : Thread nD τ) ↦[p11.view.set]{fullShare} p11.view.writes (Elt F) f L10) ∗ (∃ f, p12.view.loc (c : Thread nD τ) ↦[p12.view.set]{fullShare} p12.view.writes (Elt F) f L11) ∗ owns (c : Thread nD τ) p13 fullShare xo12 ∗ (∃ f, p14.view.loc (c : Thread nD τ) ↦[p14.view.set]{fullShare} p14.view.writes (Elt F) f L13) ∗ owns (c : Thread nD τ) p15 fullShare xo14 ∗ owns (c : Thread nD τ) p16 fullShare xo15 ∗ owns (c : Thread nD τ) p17 fullShare xo16 ∗ owns (c : Thread nD τ) p18 fullShare xo17 ∗ (∃ f, p19.view.loc (c : Thread nD τ) ↦[p19.view.set]{fullShare} p19.view.writes (Elt F) f LS0) ∗ owns (c : Thread nD τ) p20 fullShare xs1 ∗ owns (c : Thread nD τ) p21 fullShare xs2 ∗ (∃ d, owns (c : Thread nD τ) p22 fullShare d) ∗ (∃ d, owns (c : Thread nD τ) p23 fullShare d) ∗ (∃ d, owns (c : Thread nD τ) p24 fullShare d) ∗ owns (c : Thread nD τ) p25 fullShare xs6 ∗ (∃ d, owns (c : Thread nD τ) p26 fullShare d) ∗ owns (c : Thread nD τ) p27 fullShare xs8) -∗ K ⟨⟩))
          ⊢ wp frame (wpE (defs₀ (F := F)) Variants.none c none) E (cc0_mla_kv_up_proj_bwd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27) K } := by
  refine ⟨?_, ?_, [], ?_, [], [], [], [], ?_, [], [], [], [], fun E K => ?run⟩
  case run =>
    simp only [cc0_mla_kv_up_proj_bwd_eq_skeleton]; unfold cc0_mla_kv_up_proj_bwd_skel
    simp only [k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%d13, %f13, -, H13⟩, ⟨%f14, %hf14, H14⟩, ⟨%f15, %hf15, H15⟩, ⟨%f16, %hf16, H16⟩, ⟨%f17, %hf17, H17⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%fs6, %hfs6, HS6⟩, ⟨%ds7, %fs7, -, HS7⟩, ⟨%fs8, %hfs8, HS8⟩, Hk⟩
    obtain rfl := q1.eq_unread hf0; obtain rfl := q2.eq_unread hf1; obtain rfl := q3.eq_unread hf2; obtain rfl := q4.eq_unread hf3; obtain rfl := q5.eq_unread hf4; obtain rfl := q6.eq_unread hf5; obtain rfl := q7.eq_unread hf6; obtain rfl := q8.eq_unread hf7; obtain rfl := q9.eq_unread hf8; obtain rfl := q10.eq_unread hf9; obtain rfl := q13.eq_unread hf12; obtain rfl := q15.eq_unread hf14; obtain rfl := q16.eq_unread hf15; obtain rfl := q17.eq_unread hf16; obtain rfl := q18.eq_unread hf17; obtain rfl := q19.eq_unread hfs0; obtain rfl := q20.eq_unread hfs1; obtain rfl := q21.eq_unread hfs2; obtain rfl := q25.eq_unread hfs6; obtain rfl := q27.eq_unread hfs8
    sl_exec (disch := first | sl_exact hc0 | sl_exact hc1 | sl_exact hc2)
    sl_step
    iapply Hk
    isplitl [H0]
    · iexists _; isplitr; · ipureintro; exact q1.read_unread _
      iexact H0
    isplitl [H1]
    · iexists _; isplitr; · ipureintro; exact q2.read_unread _
      iexact H1
    isplitl [H2]
    · iexists _; isplitr; · ipureintro; exact q3.read_unread _
      iexact H2
    isplitl [H3]
    · iexists _; isplitr; · ipureintro; exact q4.read_unread _
      iexact H3
    isplitl [H4]
    · iexists _; isplitr; · ipureintro; exact q5.read_unread _
      iexact H4
    isplitl [H5]
    · iexists _; isplitr; · ipureintro; exact q6.read_unread _
      iexact H5
    isplitl [H6]
    · iexists _; isplitr; · ipureintro; exact q7.read_unread _
      iexact H6
    isplitl [H7]
    · iexists _; isplitr; · ipureintro; exact q8.read_unread _
      iexact H7
    isplitl [H8]
    · iexists _; isplitr; · ipureintro; exact q9.read_unread _
      iexact H8
    isplitl [H9]
    · iexists _; isplitr; · ipureintro; exact q10.read_unread _
      iexact H9
    isplitl [H10]; · iexists _; iexact H10
    isplitl [H11]; · iexists _; iexact H11
    isplitl [H12]
    · iexists _; isplitr; · ipureintro; exact q13.read_unread _
      iexact H12
    isplitl [H13]; · iexists _; iexact H13
    isplitl [H14]
    · iexists _; isplitr; · ipureintro; exact q15.read_unread _
      iexact H14
    isplitl [H15]
    · iexists _; isplitr; · ipureintro; exact q16.read_unread _
      iexact H15
    isplitl [H16]
    · iexists _; isplitr; · ipureintro; exact q17.read_unread _
      iexact H16
    isplitl [H17]
    · iexists _; isplitr; · ipureintro; exact q18.read_unread _
      iexact H17
    isplitl [HS0]; · iexists _; iexact HS0
    isplitl [HS1]
    · iexists _; isplitr; · ipureintro; exact q20.read_unread _
      iexact HS1
    isplitl [HS2]
    · iexists _; isplitr; · ipureintro; exact q21.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _; isplitr; · ipureintro; exact q25.read_unread _
      iexact HS6
    isplitl [HS7]
    · iexists _, _; isplitr; swap; · iexact HS7
      ipureintro; rfl
    iexists _; isplitr; · ipureintro; exact q27.read_unread _
    iexact HS8

end Cert.KernelIdeal.Gen

end
-- ==== Proof.Ideal.Outs.lean ====
/- What each of the three runs leaves in every output block and in every carried scratch, as named values. -/
module

public import proofs.«01_k».proof.Proof.Ideal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : cond0_0 i) (hc1 : ¬cond0_1 i) (hc2 : ¬cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9

/-- Case A stores nothing into output 10, and nothing reads this. -/
def out0_A_10 : Vec F S1024x512 .bf16 :=
  VO0_10.read (Elt F) (VO0_10.writes (Elt F) VO0_10.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).1)

/-- Case A stores nothing into output 11, and nothing reads this. -/
def out0_A_11 : Vec F S1x512 .f32 :=
  VO0_11.read (Elt F) (VO0_11.writes (Elt F) VO0_11.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.1)

/-- Case A's pieces for output 12 tile its block, so they cover it. -/
theorem cover0_A_12 (y : S512x1x8x128.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.1, y ∈ pc.1.set :=
  View.cover_of_tiledL (s := S512x1x8x128) _ S512x1x1x128.size (by sl_kernel_rfl) y

/-- What case A leaves in output 12's staging buffer. -/
def out0_A_12 : Vec F S512x1x8x128 .f32 :=
  VO0_12.read (Elt F) (VO0_12.writes (Elt F) VO0_12.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.1)

/-- Case A stores nothing into output 13, and nothing reads this. -/
def out0_A_13 : Vec F S512x1x8x128 .f32 :=
  VO0_13.read (Elt F) (VO0_13.writes (Elt F) VO0_13.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.1)

/-- Case A's pieces for output 14 tile its block, so they cover it. -/
theorem cover0_A_14 (y : S1024x1x8x128.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.1, y ∈ pc.1.set :=
  View.cover_of_tiledL (s := S1024x1x8x128) _ S4x1x8x128.size (by sl_kernel_rfl) y

/-- What case A leaves in output 14's staging buffer. -/
def out0_A_14 : Vec F S1024x1x8x128 .fp8e5m2 :=
  VO0_14.read (Elt F) (VO0_14.writes (Elt F) VO0_14.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.1)

/-- Case A's pieces for output 15 tile its block, so they cover it. -/
theorem cover0_A_15 (y : S8x1024.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.1, y ∈ pc.1.set :=
  View.cover_of_tiledL (s := S8x1024) _ S8x1024.size (by sl_kernel_rfl) y

/-- What case A leaves in output 15's staging buffer. -/
def out0_A_15 : Vec F S8x1024 .f32 :=
  VO0_15.read (Elt F) (VO0_15.writes (Elt F) VO0_15.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.1)

/-- Case A's pieces for output 16 tile its block, so they cover it. -/
theorem cover0_A_16 (y : S1024x1x8x128.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.1, y ∈ pc.1.set :=
  View.cover_of_tiledL (s := S1024x1x8x128) _ S4x1x8x128.size (by sl_kernel_rfl) y

/-- What case A leaves in output 16's staging buffer. -/
def out0_A_16 : Vec F S1024x1x8x128 .fp8e5m2 :=
  VO0_16.read (Elt F) (VO0_16.writes (Elt F) VO0_16.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.1)

/-- Case A's pieces for output 17 tile its block, so they cover it. -/
theorem cover0_A_17 (y : S8x1024.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.1, y ∈ pc.1.set :=
  View.cover_of_tiledL (s := S8x1024) _ S8x1024.size (by sl_kernel_rfl) y

/-- What case A leaves in output 17's staging buffer. -/
def out0_A_17 : Vec F S8x1024 .f32 :=
  VO0_17.read (Elt F) (VO0_17.writes (Elt F) VO0_17.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.1)

/-- Case A's pieces for a carried scratch cover it. -/
theorem scover0_A_0 (y : S1024x512.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.2.1, y ∈ pc.1.set :=
  View.cover_of_wholeMem _ (by sl_whole_mem) y

/-- What case A leaves in scratch `p19`. -/
def sout0_A_0 : Vec F S1024x512 .f32 :=
  VS0_0.read (Elt F) (VS0_0.writes (Elt F) VS0_0.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.2.1)

/-- Case A's pieces for a carried scratch cover it. -/
theorem scover0_A_1 (y : S256x2x1024.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.2.2.1, y ∈ pc.1.set :=
  View.cover_of_tiledL (s := S256x2x1024) _ S64x2x1024.size (by sl_kernel_rfl) y

/-- What case A leaves in scratch `p20`. -/
def sout0_A_1 : Vec F S256x2x1024 .bf16 :=
  VS0_1.read (Elt F) (VS0_1.writes (Elt F) VS0_1.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.2.2.1)

/-- Case A's pieces for a carried scratch cover it. -/
theorem scover0_A_2 (y : S2x120x8.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.2.2.2.1, y ∈ pc.1.set :=
  View.cover_of_tiledL (s := S2x120x8) _ S1x120x8.size (by sl_kernel_rfl) y

/-- What case A leaves in scratch `p21`. -/
def sout0_A_2 : Vec F S2x120x8 .f32 :=
  VS0_2.read (Elt F) (VS0_2.writes (Elt F) VS0_2.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.2.2.2.1)

/-- Case A's pieces for a carried scratch cover it. -/
theorem scover0_A_6 (y : S512x2x1024.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.2.2.2.2.1, y ∈ pc.1.set :=
  View.cover_of_wholeMem _ (by sl_whole_mem) y

/-- What case A leaves in scratch `p25`. -/
def sout0_A_6 : Vec F S512x2x1024 .bf16 :=
  VS0_6.read (Elt F) (VS0_6.writes (Elt F) VS0_6.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.2.2.2.2.1)

/-- Case A's pieces for a carried scratch cover it. -/
theorem scover0_A_8 (y : S256x2x1024.Idx) :
    ∃ pc ∈ (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.2.2.2.2.2.1, y ∈ pc.1.set :=
  View.cover_of_wholeMem _ (by sl_whole_mem) y

/-- What case A leaves in scratch `p27`. -/
def sout0_A_8 : Vec F S256x2x1024 .bf16 :=
  VS0_8.read (Elt F) (VS0_8.writes (Elt F) VS0_8.junk (kernelRun0_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).2.2.2.2.2.2.2.2.2.2.2.2.1)

/-- Everything that a point of case A leaves: the outputs' buffers, then the carried scratch. -/
abbrev outs0_A : Vec F S1024x512 .bf16 × Vec F S1x512 .f32 × Vec F S512x1x8x128 .f32 × Vec F S512x1x8x128 .f32 × Vec F S1024x1x8x128 .fp8e5m2 × Vec F S8x1024 .f32 × Vec F S1024x1x8x128 .fp8e5m2 × Vec F S8x1024 .f32 × Vec F S1024x512 .f32 × Vec F S256x2x1024 .bf16 × Vec F S2x120x8 .f32 × Vec F S512x2x1024 .bf16 × Vec F S256x2x1024 .bf16 :=
  (out0_A_10 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    out0_A_11 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    out0_A_12 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    out0_A_13 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    out0_A_14 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    out0_A_15 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    out0_A_16 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    out0_A_17 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    sout0_A_0 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    sout0_A_1 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    sout0_A_2 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    sout0_A_6 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9,
    sout0_A_8 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9)

end

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : ¬cond0_0 i) (hc1 : cond0_1 i) (hc2 : ¬cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32) (xs0 : Vec F S1024x512 .f32) (xs1 : Vec F S256x2x1024 .bf16) (xs2 : Vec F S2x120x8 .f32) (xs6 : Vec F S512x2x1024 .bf16) (xs8 : Vec F S256x2x1024 .bf16)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8

/-- Case B stores nothing into output 10, and nothing reads this. -/
def out0_B_10 : Vec F S1024x512 .bf16 :=
  VO0_10.read (Elt F) (VO0_10.writes (Elt F) VO0_10.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).1)

/-- Case B stores nothing into output 11, and nothing reads this. -/
def out0_B_11 : Vec F S1x512 .f32 :=
  VO0_11.read (Elt F) (VO0_11.writes (Elt F) VO0_11.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.1)

/-- Case B's pieces for output 12 tile its block, so they cover it. -/
theorem cover0_B_12 (y : S512x1x8x128.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.1, y ∈ pc.1.set :=
  View.cover_of_tiledL (s := S512x1x8x128) _ S512x1x1x128.size (by sl_kernel_rfl) y

/-- What case B leaves in output 12's staging buffer. -/
def out0_B_12 : Vec F S512x1x8x128 .f32 :=
  VO0_12.read (Elt F) (VO0_12.writes (Elt F) VO0_12.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.1)

/-- Case B's pieces for output 13 tile its block, so they cover it. -/
theorem cover0_B_13 (y : S512x1x8x128.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.1, y ∈ pc.1.set :=
  View.cover_of_tiledL (s := S512x1x8x128) _ S512x1x1x128.size (by sl_kernel_rfl) y

/-- What case B leaves in output 13's staging buffer. -/
def out0_B_13 : Vec F S512x1x8x128 .f32 :=
  VO0_13.read (Elt F) (VO0_13.writes (Elt F) VO0_13.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.1)

/-- Case B's pieces for output 14 tile its block, so they cover it. -/
theorem cover0_B_14 (y : S1024x1x8x128.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.1, y ∈ pc.1.set :=
  View.cover_of_tiledL (s := S1024x1x8x128) _ S4x1x8x128.size (by sl_kernel_rfl) y

/-- What case B leaves in output 14's staging buffer. -/
def out0_B_14 : Vec F S1024x1x8x128 .fp8e5m2 :=
  VO0_14.read (Elt F) (VO0_14.writes (Elt F) VO0_14.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.1)

/-- Case B's pieces for output 15 tile its block, so they cover it. -/
theorem cover0_B_15 (y : S8x1024.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.1, y ∈ pc.1.set :=
  View.cover_of_tiledL (s := S8x1024) _ S8x1024.size (by sl_kernel_rfl) y

/-- What case B leaves in output 15's staging buffer. -/
def out0_B_15 : Vec F S8x1024 .f32 :=
  VO0_15.read (Elt F) (VO0_15.writes (Elt F) VO0_15.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.1)

/-- Case B's pieces for output 16 tile its block, so they cover it. -/
theorem cover0_B_16 (y : S1024x1x8x128.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.2.1, y ∈ pc.1.set :=
  View.cover_of_tiledL (s := S1024x1x8x128) _ S4x1x8x128.size (by sl_kernel_rfl) y

/-- What case B leaves in output 16's staging buffer. -/
def out0_B_16 : Vec F S1024x1x8x128 .fp8e5m2 :=
  VO0_16.read (Elt F) (VO0_16.writes (Elt F) VO0_16.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.2.1)

/-- Case B's pieces for output 17 tile its block, so they cover it. -/
theorem cover0_B_17 (y : S8x1024.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.2.2.1, y ∈ pc.1.set :=
  View.cover_of_tiledL (s := S8x1024) _ S8x1024.size (by sl_kernel_rfl) y

/-- What case B leaves in output 17's staging buffer. -/
def out0_B_17 : Vec F S8x1024 .f32 :=
  VO0_17.read (Elt F) (VO0_17.writes (Elt F) VO0_17.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.2.2.1)

/-- Case B's pieces for a carried scratch cover it. -/
theorem scover0_B_0 (y : S1024x512.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.2.2.2.1, y ∈ pc.1.set :=
  View.cover_of_tiledL (s := S1024x512) _ S512x512.size (by sl_kernel_rfl) y

/-- What case B leaves in scratch `p19`. -/
def sout0_B_0 : Vec F S1024x512 .f32 :=
  VS0_0.read (Elt F) (VS0_0.writes (Elt F) VS0_0.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.2.2.2.1)

/-- Case B stores nothing into scratch `p20`: it holds what the point before left. -/
def sout0_B_1 : Vec F S256x2x1024 .bf16 := xs1

/-- Case B stores nothing into scratch `p21`: it holds what the point before left. -/
def sout0_B_2 : Vec F S2x120x8 .f32 := xs2

/-- Case B's pieces for a carried scratch cover it. -/
theorem scover0_B_6 (y : S512x2x1024.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.2.2.2.2.2.2.1, y ∈ pc.1.set :=
  View.cover_of_wholeMem _ (by sl_whole_mem) y

/-- What case B leaves in scratch `p25`. -/
def sout0_B_6 : Vec F S512x2x1024 .bf16 :=
  VS0_6.read (Elt F) (VS0_6.writes (Elt F) VS0_6.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.2.2.2.2.2.2.1)

/-- Case B's pieces for a carried scratch cover it. -/
theorem scover0_B_8 (y : S256x2x1024.Idx) :
    ∃ pc ∈ (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.2.2.2.2.2.2.2.1, y ∈ pc.1.set :=
  View.cover_of_wholeMem _ (by sl_whole_mem) y

/-- What case B leaves in scratch `p27`. -/
def sout0_B_8 : Vec F S256x2x1024 .bf16 :=
  VS0_8.read (Elt F) (VS0_8.writes (Elt F) VS0_8.junk (kernelRun0_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).2.2.2.2.2.2.2.2.2.2.2.2.1)

/-- Everything that a point of case B leaves: the outputs' buffers, then the carried scratch. -/
abbrev outs0_B : Vec F S1024x512 .bf16 × Vec F S1x512 .f32 × Vec F S512x1x8x128 .f32 × Vec F S512x1x8x128 .f32 × Vec F S1024x1x8x128 .fp8e5m2 × Vec F S8x1024 .f32 × Vec F S1024x1x8x128 .fp8e5m2 × Vec F S8x1024 .f32 × Vec F S1024x512 .f32 × Vec F S256x2x1024 .bf16 × Vec F S2x120x8 .f32 × Vec F S512x2x1024 .bf16 × Vec F S256x2x1024 .bf16 :=
  (out0_B_10 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8,
    out0_B_11 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8,
    out0_B_12 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8,
    out0_B_13 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8,
    out0_B_14 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8,
    out0_B_15 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8,
    out0_B_16 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8,
    out0_B_17 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8,
    sout0_B_0 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8,
    sout0_B_1 xs1,
    sout0_B_2 xs2,
    sout0_B_6 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8,
    sout0_B_8 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8)

end

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : ¬cond0_0 i) (hc1 : ¬cond0_1 i) (hc2 : cond0_2 i)
    (x0 : Vec F S1024x1x8x128 .bf16) (x1 : Vec F S1024x1x8x128 .bf16) (x2 : Vec F S1024x512 .fp8e4m3) (x3 : Vec F S4x1024 .f32) (x4 : Vec F S512x1x8x128 .fp8e4m3) (x5 : Vec F S4x120 .f32) (x6 : Vec F S512x1x8x128 .fp8e4m3) (x7 : Vec F S4x120 .f32) (x8 : Vec F S1024x512 .bf16) (x9 : Vec F S1x512 .f32) (xo12 : Vec F S512x1x8x128 .f32) (xo14 : Vec F S1024x1x8x128 .fp8e5m2) (xo15 : Vec F S8x1024 .f32) (xo16 : Vec F S1024x1x8x128 .fp8e5m2) (xo17 : Vec F S8x1024 .f32) (xs0 : Vec F S1024x512 .f32) (xs1 : Vec F S256x2x1024 .bf16) (xs2 : Vec F S2x120x8 .f32) (xs6 : Vec F S512x2x1024 .bf16) (xs8 : Vec F S256x2x1024 .bf16)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8

/-- Case C's pieces for output 10 tile its block, so they cover it. -/
theorem cover0_C_10 (y : S1024x512.Idx) :
    ∃ pc ∈ (kernelRun0_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8).1, y ∈ pc.1.set :=
  View.cover_of_tiledL (s := S1024x512) _ S16x512.size (by sl_kernel_rfl) y

/-- What case C leaves in output 10's staging buffer. -/
def out0_C_10 : Vec F S1024x512 .bf16 :=
  VO0_10.read (Elt F) (VO0_10.writes (Elt F) VO0_10.junk (kernelRun0_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8).1)

/-- Case C's pieces for output 11 tile its block, so they cover it. -/
theorem cover0_C_11 (y : S1x512.Idx) :
    ∃ pc ∈ (kernelRun0_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8).2.1, y ∈ pc.1.set :=
  View.cover_of_tiledL (s := S1x512) _ S1x512.size (by sl_kernel_rfl) y

/-- What case C leaves in output 11's staging buffer. -/
def out0_C_11 : Vec F S1x512 .f32 :=
  VO0_11.read (Elt F) (VO0_11.writes (Elt F) VO0_11.junk (kernelRun0_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8).2.1)

/-- Case C stores nothing into output 12, a live window: its staging buffer holds what the point before left. -/
def out0_C_12 : Vec F S512x1x8x128 .f32 := xo12

/-- Case C's pieces for output 13 tile its block, so they cover it. -/
theorem cover0_C_13 (y : S512x1x8x128.Idx) :
    ∃ pc ∈ (kernelRun0_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8).2.2.2.1, y ∈ pc.1.set :=
  View.cover_of_tiledL (s := S512x1x8x128) _ S512x1x1x128.size (by sl_kernel_rfl) y

/-- What case C leaves in output 13's staging buffer. -/
def out0_C_13 : Vec F S512x1x8x128 .f32 :=
  VO0_13.read (Elt F) (VO0_13.writes (Elt F) VO0_13.junk (kernelRun0_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8).2.2.2.1)

/-- Case C stores nothing into output 14, a live window: its staging buffer holds what the point before left. -/
def out0_C_14 : Vec F S1024x1x8x128 .fp8e5m2 := xo14

/-- Case C stores nothing into output 15, a live window: its staging buffer holds what the point before left. -/
def out0_C_15 : Vec F S8x1024 .f32 := xo15

/-- Case C stores nothing into output 16, a live window: its staging buffer holds what the point before left. -/
def out0_C_16 : Vec F S1024x1x8x128 .fp8e5m2 := xo16

/-- Case C stores nothing into output 17, a live window: its staging buffer holds what the point before left. -/
def out0_C_17 : Vec F S8x1024 .f32 := xo17

/-- Case C's pieces for a carried scratch cover it. -/
theorem scover0_C_0 (y : S1024x512.Idx) :
    ∃ pc ∈ (kernelRun0_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8).2.2.2.2.2.2.2.2.1, y ∈ pc.1.set :=
  View.cover_of_tiledL (s := S1024x512) _ S512x512.size (by sl_kernel_rfl) y

/-- What case C leaves in scratch `p19`. -/
def sout0_C_0 : Vec F S1024x512 .f32 :=
  VS0_0.read (Elt F) (VS0_0.writes (Elt F) VS0_0.junk (kernelRun0_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8).2.2.2.2.2.2.2.2.1)

/-- Case C stores nothing into scratch `p20`: it holds what the point before left. -/
def sout0_C_1 : Vec F S256x2x1024 .bf16 := xs1

/-- Case C stores nothing into scratch `p21`: it holds what the point before left. -/
def sout0_C_2 : Vec F S2x120x8 .f32 := xs2

/-- Case C stores nothing into scratch `p25`: it holds what the point before left. -/
def sout0_C_6 : Vec F S512x2x1024 .bf16 := xs6

/-- Case C stores nothing into scratch `p27`: it holds what the point before left. -/
def sout0_C_8 : Vec F S256x2x1024 .bf16 := xs8

/-- Everything that a point of case C leaves: the outputs' buffers, then the carried scratch. -/
abbrev outs0_C : Vec F S1024x512 .bf16 × Vec F S1x512 .f32 × Vec F S512x1x8x128 .f32 × Vec F S512x1x8x128 .f32 × Vec F S1024x1x8x128 .fp8e5m2 × Vec F S8x1024 .f32 × Vec F S1024x1x8x128 .fp8e5m2 × Vec F S8x1024 .f32 × Vec F S1024x512 .f32 × Vec F S256x2x1024 .bf16 × Vec F S2x120x8 .f32 × Vec F S512x2x1024 .bf16 × Vec F S256x2x1024 .bf16 :=
  (out0_C_10 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8,
    out0_C_11 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8,
    out0_C_12 xo12,
    out0_C_13 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8,
    out0_C_14 xo14,
    out0_C_15 xo15,
    out0_C_16 xo16,
    out0_C_17 xo17,
    sout0_C_0 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8,
    sout0_C_1 xs1,
    sout0_C_2 xs2,
    sout0_C_6 xs6,
    sout0_C_8 xs8)

end

end Cert.KernelIdeal.Gen

end
-- ==== Proof.Ideal.Frame.lean ====
/- The idealized kernel ends, leaves its arguments as they were, and holds in its results what the points of the grid computed. -/
module

public import proofs.«01_k».proof.Proof.Ideal.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

def outsAt0 (c : Dev nD) : (n : ℕ) → n < cfg0.N → Vec F S1024x512 .bf16 × Vec F S1x512 .f32 × Vec F S512x1x8x128 .f32 × Vec F S512x1x8x128 .f32 × Vec F S1024x1x8x128 .fp8e5m2 × Vec F S8x1024 .f32 × Vec F S1024x1x8x128 .fp8e5m2 × Vec F S8x1024 .f32 × Vec F S1024x512 .f32 × Vec F S256x2x1024 .bf16 × Vec F S2x120x8 .f32 × Vec F S512x2x1024 .bf16 × Vec F S256x2x1024 .bf16
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : (n + 1) % 16 = 0 then
      if h1 : (1 ≤ (n + 1) % 16 ∧ (n + 1) % 16 ≤ 14) then
        False.elim (by have hN : n + 1 < 16 := lt_of_lt_of_eq hn (show cfg0.N = 16 from N_0); omega)
      else
        if h2 : (n + 1) % 16 = 15 then
          False.elim (by have hN : n + 1 < 16 := lt_of_lt_of_eq hn (show cfg0.N = 16 from N_0); omega)
        else
          outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
    else
      if h1 : (1 ≤ (n + 1) % 16 ∧ (n + 1) % 16 ≤ 14) then
        if h2 : (n + 1) % 16 = 15 then
          False.elim (by have hN : n + 1 < 16 := lt_of_lt_of_eq hn (show cfg0.N = 16 from N_0); omega)
        else
          outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2
      else
        if h2 : (n + 1) % 16 = 15 then
          outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2
        else
          False.elim (by have hN : n + 1 < 16 := lt_of_lt_of_eq hn (show cfg0.N = 16 from N_0); omega)

theorem outsAt0_A (c : Dev nD) (t : Fin cfg0.N) (h0 : t.val % 16 = 0) (h1 : ¬(1 ≤ t.val % 16 ∧ t.val % 16 ≤ 14)) (h2 : ¬t.val % 16 = 15) :
    outsAt0 m c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 16 = 0) (h1 : (1 ≤ t.val % 16 ∧ t.val % 16 ≤ 14)) (h2 : ¬t.val % 16 = 15) :
    outsAt0 m c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 16 = 0) (h1 : ¬(1 ≤ t.val % 16 ∧ t.val % 16 ≤ 14)) (h2 : t.val % 16 = 15) :
    outsAt0 m c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2 := by
  obtain ⟨n, hn⟩ := t
  cases n with
  | zero => exact (by exfalso; (try dsimp only at h0); exact absurd (Nat.zero_mod _) h0)
  | succ n => exact (dif_neg h0).trans ((dif_neg h1).trans ((dif_pos h2).trans rfl))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2.1) ∗ owns (c : Thread nD τ) scM0_2 fullShare ((outsAt0 m c n hn).2.2.2.2.2.2.2.2.2.2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2.2.2.2.2.2.2.2.2.1) ∗ (∃ d, owns (c : Thread nD τ) scM0_7 fullShare d) ∗ owns (c : Thread nD τ) scM0_8 fullShare ((outsAt0 m c n hn).2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2.1) ∗ owns (c : Thread nD τ) scM0_2 fullShare ((outsAt0 m c n hn).2.2.2.2.2.2.2.2.2.2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2.2.2.2.2.2.2.2.2.1) ∗ (∃ d, owns (c : Thread nD τ) scM0_7 fullShare d) ∗ owns (c : Thread nD τ) scM0_8 fullShare ((outsAt0 m c n hn).2.2.2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2.1) ∗ owns (c : Thread nD τ) scM0_2 fullShare ((outsAt0 m c (n - 1) (by omega)).2.2.2.2.2.2.2.2.2.2.1) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2.2.2.2.2.2.2.2.2.2.1) ∗ (∃ d, owns (c : Thread nD τ) scM0_7 fullShare d) ∗ owns (c : Thread nD τ) scM0_8 fullShare ((outsAt0 m c (n - 1) (by omega)).2.2.2.2.2.2.2.2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨16, _⟩ => (outsAt0 m c t.val t.isLt).2.2.2.2.2.2.1
    | ⟨17, _⟩ => (outsAt0 m c t.val t.isLt).2.2.2.2.2.2.2.1
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]
theorem after0_16 (c : Dev nD) (t : Fin cfg0.N) : (dats m 0 c).after 16 t = (outsAt0 m c t.val t.isLt).2.2.2.2.2.2.1 := by dsimp only [dats]
theorem after0_17 (c : Dev nD) (t : Fin cfg0.N) : (dats m 0 c).after 17 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 16 := lt_of_lt_of_eq t.isLt (show cfg0.N = 16 from N_0)
  rw [after0_12, after0_12]
  by_cases h0 : t.val % 16 = 0
  · by_cases h1 : (1 ≤ t.val % 16 ∧ t.val % 16 ≤ 14)
    · exfalso; omega
    · by_cases h2 : t.val % 16 = 15
      · exfalso; omega
      · rw [liveAt0_12_A t ((hcond0_0 t).mpr h0) (fun h => h1 ((hcond0_1 t).mp h)) (fun h => h2 ((hcond0_2 t).mp h))] at hi
        exact absurd hi Bool.false_ne_true
  · by_cases h1 : (1 ≤ t.val % 16 ∧ t.val % 16 ≤ 14)
    · by_cases h2 : t.val % 16 = 15
      · exfalso; omega
      · rw [liveAt0_12_B t (fun h => h0 ((hcond0_0 t).mp h)) ((hcond0_1 t).mpr h1) (fun h => h2 ((hcond0_2 t).mp h))] at hi
        exact absurd hi Bool.false_ne_true
    · by_cases h2 : t.val % 16 = 15
      · rw [outsAt0_C m c t h0 h1 h2]; rfl
      · exfalso; omega

theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 16 := lt_of_lt_of_eq t.isLt (show cfg0.N = 16 from N_0)
  rw [after0_14, after0_14]
  by_cases h0 : t.val % 16 = 0
  · by_cases h1 : (1 ≤ t.val % 16 ∧ t.val % 16 ≤ 14)
    · exfalso; omega
    · by_cases h2 : t.val % 16 = 15
      · exfalso; omega
      · rw [liveAt0_14_A t ((hcond0_0 t).mpr h0) (fun h => h1 ((hcond0_1 t).mp h)) (fun h => h2 ((hcond0_2 t).mp h))] at hi
        exact absurd hi Bool.false_ne_true
  · by_cases h1 : (1 ≤ t.val % 16 ∧ t.val % 16 ≤ 14)
    · by_cases h2 : t.val % 16 = 15
      · exfalso; omega
      · rw [liveAt0_14_B t (fun h => h0 ((hcond0_0 t).mp h)) ((hcond0_1 t).mpr h1) (fun h => h2 ((hcond0_2 t).mp h))] at hi
        exact absurd hi Bool.false_ne_true
    · by_cases h2 : t.val % 16 = 15
      · rw [outsAt0_C m c t h0 h1 h2]; rfl
      · exfalso; omega

theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 16 := lt_of_lt_of_eq t.isLt (show cfg0.N = 16 from N_0)
  rw [after0_15, after0_15]
  by_cases h0 : t.val % 16 = 0
  · by_cases h1 : (1 ≤ t.val % 16 ∧ t.val % 16 ≤ 14)
    · exfalso; omega
    · by_cases h2 : t.val % 16 = 15
      · exfalso; omega
      · rw [liveAt0_15_A t ((hcond0_0 t).mpr h0) (fun h => h1 ((hcond0_1 t).mp h)) (fun h => h2 ((hcond0_2 t).mp h))] at hi
        exact absurd hi Bool.false_ne_true
  · by_cases h1 : (1 ≤ t.val % 16 ∧ t.val % 16 ≤ 14)
    · by_cases h2 : t.val % 16 = 15
      · exfalso; omega
      · rw [liveAt0_15_B t (fun h => h0 ((hcond0_0 t).mp h)) ((hcond0_1 t).mpr h1) (fun h => h2 ((hcond0_2 t).mp h))] at hi
        exact absurd hi Bool.false_ne_true
    · by_cases h2 : t.val % 16 = 15
      · rw [outsAt0_C m c t h0 h1 h2]; rfl
      · exfalso; omega

theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 16 := lt_of_lt_of_eq t.isLt (show cfg0.N = 16 from N_0)
  rw [after0_16, after0_16]
  by_cases h0 : t.val % 16 = 0
  · by_cases h1 : (1 ≤ t.val % 16 ∧ t.val % 16 ≤ 14)
    · exfalso; omega
    · by_cases h2 : t.val % 16 = 15
      · exfalso; omega
      · rw [liveAt0_16_A t ((hcond0_0 t).mpr h0) (fun h => h1 ((hcond0_1 t).mp h)) (fun h => h2 ((hcond0_2 t).mp h))] at hi
        exact absurd hi Bool.false_ne_true
  · by_cases h1 : (1 ≤ t.val % 16 ∧ t.val % 16 ≤ 14)
    · by_cases h2 : t.val % 16 = 15
      · exfalso; omega
      · rw [liveAt0_16_B t (fun h => h0 ((hcond0_0 t).mp h)) ((hcond0_1 t).mpr h1) (fun h => h2 ((hcond0_2 t).mp h))] at hi
        exact absurd hi Bool.false_ne_true
    · by_cases h2 : t.val % 16 = 15
      · rw [outsAt0_C m c t h0 h1 h2]; rfl
      · exfalso; omega

theorem hcarry0_17 (c : Dev nD) : ∀ (t : Fin cfg0.N) (_ : t.val ≠ 0), cfg0.idle 17 (grid0.coords t) = true → cfg0.fresh 17 t.val = false →
    (dats m 0 c).after 17 t = (dats m 0 c).after 17 ⟨t.val - 1, by omega⟩ := by
  intro t _ hi _
  have hN : t.val < 16 := lt_of_lt_of_eq t.isLt (show cfg0.N = 16 from N_0)
  rw [after0_17, after0_17]
  by_cases h0 : t.val % 16 = 0
  · by_cases h1 : (1 ≤ t.val % 16 ∧ t.val % 16 ≤ 14)
    · exfalso; omega
    · by_cases h2 : t.val % 16 = 15
      · exfalso; omega
      · rw [liveAt0_17_A t ((hcond0_0 t).mpr h0) (fun h => h1 ((hcond0_1 t).mp h)) (fun h => h2 ((hcond0_2 t).mp h))] at hi
        exact absurd hi Bool.false_ne_true
  · by_cases h1 : (1 ≤ t.val % 16 ∧ t.val % 16 ≤ 14)
    · by_cases h2 : t.val % 16 = 15
      · exfalso; omega
      · rw [liveAt0_17_B t (fun h => h0 ((hcond0_0 t).mp h)) ((hcond0_1 t).mpr h1) (fun h => h2 ((hcond0_2 t).mp h))] at hi
        exact absurd hi Bool.false_ne_true
    · by_cases h2 : t.val % 16 = 15
      · rw [outsAt0_C m c t h0 h1 h2]; rfl
      · exfalso; omega
theorem before0_12_C (c : Dev nD) (t : Fin cfg0.N) (h0 : ¬t.val % 16 = 0) (h1 : ¬(1 ≤ t.val % 16 ∧ t.val % 16 ≤ 14)) (h2 : t.val % 16 = 15) (d) :
    (dats m 0 c).before 12 t d = (outsAt0 m c (t.val - 1) (Nat.lt_of_le_of_lt (Nat.sub_le _ _) t.isLt)).2.2.1 := by
  rw [Dat.before_out_traj _ 12 rfl (fun _ _ => rfl) (hcarry0_12 m c) t.val t rfl d,
    if_neg (by rw [notFresh0_12_C t (fun h => h0 ((hcond0_0 t).mp h)) (fun h => h1 ((hcond0_1 t).mp h)) ((hcond0_2 t).mpr h2)]; exact Bool.false_ne_true)]
  dsimp only [dats]
theorem before0_14_C (c : Dev nD) (t : Fin cfg0.N) (h0 : ¬t.val % 16 = 0) (h1 : ¬(1 ≤ t.val % 16 ∧ t.val % 16 ≤ 14)) (h2 : t.val % 16 = 15) (d) :
    (dats m 0 c).before 14 t d = (outsAt0 m c (t.val - 1) (Nat.lt_of_le_of_lt (Nat.sub_le _ _) t.isLt)).2.2.2.2.1 := by
  rw [Dat.before_out_traj _ 14 rfl (fun _ _ => rfl) (hcarry0_14 m c) t.val t rfl d,
    if_neg (by rw [notFresh0_14_C t (fun h => h0 ((hcond0_0 t).mp h)) (fun h => h1 ((hcond0_1 t).mp h)) ((hcond0_2 t).mpr h2)]; exact Bool.false_ne_true)]
  dsimp only [dats]
theorem before0_15_C (c : Dev nD) (t : Fin cfg0.N) (h0 : ¬t.val % 16 = 0) (h1 : ¬(1 ≤ t.val % 16 ∧ t.val % 16 ≤ 14)) (h2 : t.val % 16 = 15) (d) :
    (dats m 0 c).before 15 t d = (outsAt0 m c (t.val - 1) (Nat.lt_of_le_of_lt (Nat.sub_le _ _) t.isLt)).2.2.2.2.2.1 := by
  rw [Dat.before_out_traj _ 15 rfl (fun _ _ => rfl) (hcarry0_15 m c) t.val t rfl d,
    if_neg (by rw [notFresh0_15_C t (fun h => h0 ((hcond0_0 t).mp h)) (fun h => h1 ((hcond0_1 t).mp h)) ((hcond0_2 t).mpr h2)]; exact Bool.false_ne_true)]
  dsimp only [dats]
theorem before0_16_C (c : Dev nD) (t : Fin cfg0.N) (h0 : ¬t.val % 16 = 0) (h1 : ¬(1 ≤ t.val % 16 ∧ t.val % 16 ≤ 14)) (h2 : t.val % 16 = 15) (d) :
    (dats m 0 c).before 16 t d = (outsAt0 m c (t.val - 1) (Nat.lt_of_le_of_lt (Nat.sub_le _ _) t.isLt)).2.2.2.2.2.2.1 := by
  rw [Dat.before_out_traj _ 16 rfl (fun _ _ => rfl) (hcarry0_16 m c) t.val t rfl d,
    if_neg (by rw [notFresh0_16_C t (fun h => h0 ((hcond0_0 t).mp h)) (fun h => h1 ((hcond0_1 t).mp h)) ((hcond0_2 t).mpr h2)]; exact Bool.false_ne_true)]
  dsimp only [dats]
theorem before0_17_C (c : Dev nD) (t : Fin cfg0.N) (h0 : ¬t.val % 16 = 0) (h1 : ¬(1 ≤ t.val % 16 ∧ t.val % 16 ≤ 14)) (h2 : t.val % 16 = 15) (d) :
    (dats m 0 c).before 17 t d = (outsAt0 m c (t.val - 1) (Nat.lt_of_le_of_lt (Nat.sub_le _ _) t.isLt)).2.2.2.2.2.2.2.1 := by
  rw [Dat.before_out_traj _ 17 rfl (fun _ _ => rfl) (hcarry0_17 m c) t.val t rfl d,
    if_neg (by rw [notFresh0_17_C t (fun h => h0 ((hcond0_0 t).mp h)) (fun h => h1 ((hcond0_1 t).mp h)) ((hcond0_2 t).mpr h2)]; exact Bool.false_ne_true)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 28800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : (1 ≤ t.val % 16 ∧ t.val % 16 ≤ 14)
    · exfalso; omega
    · by_cases h2 : t.val % 16 = 15
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [Dat.leavesExact_idle (dats m 0 c) 10 t (idleAt0_10_A t ((hcond0_0 t).mpr h0) (fun h => h1 ((hcond0_1 t).mp h)) (fun h => h2 ((hcond0_2 t).mp h))) (noFlush0_10_A t ((hcond0_0 t).mpr h0) (fun h => h1 ((hcond0_1 t).mp h)) (fun h => h2 ((hcond0_2 t).mp h)))]
        rw [Dat.leavesExact_idle (dats m 0 c) 11 t (idleAt0_11_A t ((hcond0_0 t).mpr h0) (fun h => h1 ((hcond0_1 t).mp h)) (fun h => h2 ((hcond0_2 t).mp h))) (noFlush0_11_A t ((hcond0_0 t).mpr h0) (fun h => h1 ((hcond0_1 t).mp h)) (fun h => h2 ((hcond0_2 t).mp h)))]
        rw [show (dats m 0 c).leavesExact 12 t = owns (c : Thread nD τ) (ms0_12 t) fullShare ((dats m 0 c).after 12 t) from by
      unfold Dat.leavesExact; rw [liveAt0_12_A t ((hcond0_0 t).mpr h0) (fun h => h1 ((hcond0_1 t).mp h)) (fun h => h2 ((hcond0_2 t).mp h))], after0_12]
        rw [Dat.leavesExact_idle (dats m 0 c) 13 t (idleAt0_13_A t ((hcond0_0 t).mpr h0) (fun h => h1 ((hcond0_1 t).mp h)) (fun h => h2 ((hcond0_2 t).mp h))) (noFlush0_13_A t ((hcond0_0 t).mpr h0) (fun h => h1 ((hcond0_1 t).mp h)) (fun h => h2 ((hcond0_2 t).mp h)))]
        rw [show (dats m 0 c).leavesExact 14 t = owns (c : Thread nD τ) (ms0_14 t) fullShare ((dats m 0 c).after 14 t) from by
      unfold Dat.leavesExact; rw [liveAt0_14_A t ((hcond0_0 t).mpr h0) (fun h => h1 ((hcond0_1 t).mp h)) (fun h => h2 ((hcond0_2 t).mp h))], after0_14]
        rw [show (dats m 0 c).leavesExact 15 t = owns (c : Thread nD τ) (ms0_15 t) fullShare ((dats m 0 c).after 15 t) from by
      unfold Dat.leavesExact; rw [liveAt0_15_A t ((hcond0_0 t).mpr h0) (fun h => h1 ((hcond0_1 t).mp h)) (fun h => h2 ((hcond0_2 t).mp h))], after0_15]
        rw [show (dats m 0 c).leavesExact 16 t = owns (c : Thread nD τ) (ms0_16 t) fullShare ((dats m 0 c).after 16 t) from by
      unfold Dat.leavesExact; rw [liveAt0_16_A t ((hcond0_0 t).mpr h0) (fun h => h1 ((hcond0_1 t).mp h)) (fun h => h2 ((hcond0_2 t).mp h))], after0_16]
        rw [show (dats m 0 c).leavesExact 17 t = owns (c : Thread nD τ) (ms0_17 t) fullShare ((dats m 0 c).after 17 t) from by
      unfold Dat.leavesExact; rw [liveAt0_17_A t ((hcond0_0 t).mpr h0) (fun h => h1 ((hcond0_1 t).mp h)) (fun h => h2 ((hcond0_2 t).mp h))], after0_17]
        by_cases hz : t.val = 0
        · rw [PhiS_castSucc m c t, PhiS_zero m c _ _ hz, PhiA0_eq]
          rw [outsAt0_A m c t h0 h1 h2]; unfold outs0_A; dsimp only
          unfold out0_A_12 out0_A_14 out0_A_15 out0_A_16 out0_A_17 sout0_A_0 sout0_A_1 sout0_A_2 sout0_A_6 sout0_A_8; (try dsimp only)
          iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2.2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexact H13
          isplitl [H14]; · iexists _; iexact H14
          isplitl [H15]; · iexists _; iexact H15
          isplitl [H16]; · iexists _; iexact H16
          isplitl [H17]; · iexists _; iexact H17
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iintro ⟨H0, H1, H2, H3, H4, H5, H6, H7, H8, H9, H10, H11, ⟨%e12, H12⟩, H13, ⟨%e14, H14⟩, ⟨%e15, H15⟩, ⟨%e16, H16⟩, ⟨%e17, H17⟩, ⟨%es0, HS0⟩, ⟨%es1, HS1⟩, ⟨%es2, HS2⟩, HS3, HS4, HS5, ⟨%es6, HS6⟩, HS7, ⟨%es8, HS8⟩⟩
          isplitl [HS0 HS1 HS2 HS3 HS4 HS5 HS6 HS7 HS8 Hg]
          · isplitl [HS0 HS1 HS2 HS3 HS4 HS5 HS6 HS7 HS8]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · iexact HS3
              isplitl [HS4]
              · iexact HS4
              isplitl [HS5]
              · iexact HS5
              isplitl [HS6]
              · unfold owns; iexists _; isplitr
                swap; · iexact HS6
                ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS7]
              · iexact HS7
              unfold owns; iexists _; isplitr
              swap; · iexact HS8
              ipureintro; exact View.read_writes_of_cover _ _ _ _ _ (scover0_A_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H13]; · iexists _; iexact H13
          isplitl [H14]
          · unfold owns; iexists _; isplitr
            swap; · iexact H14
            ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H16]
          · unfold owns; iexists _; isplitr
            swap; · iexact H16
            ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H17
          ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        · exfalso; have hN : t.val < 16 := lt_of_lt_of_eq t.isLt (show cfg0.N = 16 from N_0); omega
  · by_cases h1 : (1 ≤ t.val % 16 ∧ t.val % 16 ≤ 14)
    · by_cases h2 : t.val % 16 = 15
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [Dat.leavesExact_idle (dats m 0 c) 10 t (idleAt0_10_B t (fun h => h0 ((hcond0_0 t).mp h)) ((hcond0_1 t).mpr h1) (fun h => h2 ((hcond0_2 t).mp h))) (noFlush0_10_B t (fun h => h0 ((hcond0_0 t).mp h)) ((hcond0_1 t).mpr h1) (fun h => h2 ((hcond0_2 t).mp h)))]
        rw [Dat.leavesExact_idle (dats m 0 c) 11 t (idleAt0_11_B t (fun h => h0 ((hcond0_0 t).mp h)) ((hcond0_1 t).mpr h1) (fun h => h2 ((hcond0_2 t).mp h))) (noFlush0_11_B t (fun h => h0 ((hcond0_0 t).mp h)) ((hcond0_1 t).mpr h1) (fun h => h2 ((hcond0_2 t).mp h)))]
        rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1) (fun h => h2 ((hcond0_2 t).mp h))], after0_14]
        rw [show (dats m 0 c).leavesExact 15 t = owns (c : Thread nD τ) (ms0_15 t) fullShare ((dats m 0 c).after 15 t) from by
      unfold Dat.leavesExact; rw [liveAt0_15_B t (fun h => h0 ((hcond0_0 t).mp h)) ((hcond0_1 t).mpr h1) (fun h => h2 ((hcond0_2 t).mp h))], after0_15]
        rw [show (dats m 0 c).leavesExact 16 t = owns (c : Thread nD τ) (ms0_16 t) fullShare ((dats m 0 c).after 16 t) from by
      unfold Dat.leavesExact; rw [liveAt0_16_B t (fun h => h0 ((hcond0_0 t).mp h)) ((hcond0_1 t).mpr h1) (fun h => h2 ((hcond0_2 t).mp h))], after0_16]
        rw [show (dats m 0 c).leavesExact 17 t = owns (c : Thread nD τ) (ms0_17 t) fullShare ((dats m 0 c).after 17 t) from by
      unfold Dat.leavesExact; rw [liveAt0_17_B t (fun h => h0 ((hcond0_0 t).mp h)) ((hcond0_1 t).mpr h1) (fun h => h2 ((hcond0_2 t).mp h))], after0_17]
        by_cases hz : t.val = 0
        · exfalso; have hN : t.val < 16 := lt_of_lt_of_eq t.isLt (show cfg0.N = 16 from N_0); omega
        · rw [PhiS_castSucc m c t, PhiS_pos m c _ _ hz]
          rw [outsAt0_B m c t h0 h1 h2]; unfold outs0_B; dsimp only
          unfold out0_B_12 out0_B_13 out0_B_14 out0_B_15 out0_B_16 out0_B_17 sout0_B_0 sout0_B_1 sout0_B_2 sout0_B_6 sout0_B_8; (try dsimp only)
          iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _ _ _ _).2.2.2.2.2.2.2.2.2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%es0, HS0⟩, HS1, HS2, HS3, HS4, HS5, ⟨%es6, HS6⟩, HS7, ⟨%es8, HS8⟩⟩
          isplitl [HS0 HS1 HS2 HS3 HS4 HS5 HS6 HS7 HS8 Hg]
          · isplitl [HS0 HS1 HS2 HS3 HS4 HS5 HS6 HS7 HS8]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexact HS1
              isplitl [HS2]
              · iexact HS2
              isplitl [HS3]
              · iexact HS3
              isplitl [HS4]
              · iexact HS4
              isplitl [HS5]
              · iexact HS5
              isplitl [HS6]
              · unfold owns; iexists _; isplitr
                swap; · iexact HS6
                ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS7]
              · iexact HS7
              unfold owns; iexists _; isplitr
              swap; · iexact HS8
              ipureintro; exact View.read_writes_of_cover _ _ _ _ _ (scover0_B_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H16]
          · unfold owns; iexists _; isplitr
            swap; · iexact H16
            ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H17
          ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 16 = 15
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) ((hcond0_2 t).mpr h2)], after0_11]
        rw [show (dats m 0 c).leavesExact 12 t = owns (c : Thread nD τ) (ms0_12 t) fullShare ((dats m 0 c).after 12 t) from by
      unfold Dat.leavesExact; rw [idleAt0_12_C t (fun h => h0 ((hcond0_0 t).mp h)) (fun h => h1 ((hcond0_1 t).mp h)) ((hcond0_2 t).mpr h2), flushAt0_12_C t (fun h => h0 ((hcond0_0 t).mp h)) (fun h => h1 ((hcond0_1 t).mp h)) ((hcond0_2 t).mpr h2)], after0_12]
        rw [show (dats m 0 c).leavesExact 13 t = owns (c : Thread nD τ) (ms0_13 t) fullShare ((dats m 0 c).after 13 t) from by
      unfold Dat.leavesExact; rw [liveAt0_13_C t (fun h => h0 ((hcond0_0 t).mp h)) (fun h => h1 ((hcond0_1 t).mp h)) ((hcond0_2 t).mpr h2)], after0_13]
        rw [show (dats m 0 c).leavesExact 14 t = owns (c : Thread nD τ) (ms0_14 t) fullShare ((dats m 0 c).after 14 t) from by
      unfold Dat.leavesExact; rw [idleAt0_14_C t (fun h => h0 ((hcond0_0 t).mp h)) (fun h => h1 ((hcond0_1 t).mp h)) ((hcond0_2 t).mpr h2), flushAt0_14_C t (fun h => h0 ((hcond0_0 t).mp h)) (fun h => h1 ((hcond0_1 t).mp h)) ((hcond0_2 t).mpr h2)], after0_14]
        rw [show (dats m 0 c).leavesExact 15 t = owns (c : Thread nD τ) (ms0_15 t) fullShare ((dats m 0 c).after 15 t) from by
      unfold Dat.leavesExact; rw [idleAt0_15_C t (fun h => h0 ((hcond0_0 t).mp h)) (fun h => h1 ((hcond0_1 t).mp h)) ((hcond0_2 t).mpr h2), flushAt0_15_C t (fun h => h0 ((hcond0_0 t).mp h)) (fun h => h1 ((hcond0_1 t).mp h)) ((hcond0_2 t).mpr h2)], after0_15]
        rw [show (dats m 0 c).leavesExact 16 t = owns (c : Thread nD τ) (ms0_16 t) fullShare ((dats m 0 c).after 16 t) from by
      unfold Dat.leavesExact; rw [idleAt0_16_C t (fun h => h0 ((hcond0_0 t).mp h)) (fun h => h1 ((hcond0_1 t).mp h)) ((hcond0_2 t).mpr h2), flushAt0_16_C t (fun h => h0 ((hcond0_0 t).mp h)) (fun h => h1 ((hcond0_1 t).mp h)) ((hcond0_2 t).mpr h2)], after0_16]
        rw [show (dats m 0 c).leavesExact 17 t = owns (c : Thread nD τ) (ms0_17 t) fullShare ((dats m 0 c).after 17 t) from by
      unfold Dat.leavesExact; rw [idleAt0_17_C t (fun h => h0 ((hcond0_0 t).mp h)) (fun h => h1 ((hcond0_1 t).mp h)) ((hcond0_2 t).mpr h2), flushAt0_17_C t (fun h => h0 ((hcond0_0 t).mp h)) (fun h => h1 ((hcond0_1 t).mp h)) ((hcond0_2 t).mpr h2)], after0_17]
        by_cases hz : t.val = 0
        · exfalso; have hN : t.val < 16 := lt_of_lt_of_eq t.isLt (show cfg0.N = 16 from N_0); omega
        · rw [PhiS_castSucc m c t, PhiS_pos m c _ _ hz]
          rw [outsAt0_C m c t h0 h1 h2]; unfold outs0_C; dsimp only
          simp only [before0_12_C m c t h0 h1 h2, before0_14_C m c t h0 h1 h2, before0_15_C m c t h0 h1 h2, before0_16_C m c t h0 h1 h2, before0_17_C m c t h0 h1 h2]
          unfold out0_C_10 out0_C_11 out0_C_12 out0_C_13 out0_C_14 out0_C_15 out0_C_16 out0_C_17 sout0_C_0 sout0_C_1 sout0_C_2 sout0_C_6 sout0_C_8; (try dsimp only)
          iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _ _ _ _ _ _ _ _ _ _).2.2.2.2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexact H12
          isplitl [H13]; · iexists _; iexact H13
          isplitl [H14]; · iexact H14
          isplitl [H15]; · iexact H15
          isplitl [H16]; · iexact H16
          isplitl [H17]; · iexact H17
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iintro ⟨H0, H1, H2, H3, H4, H5, H6, H7, H8, H9, ⟨%e10, H10⟩, ⟨%e11, H11⟩, H12, ⟨%e13, H13⟩, H14, H15, H16, H17, ⟨%es0, HS0⟩, HS1, HS2, HS3, HS4, HS5, HS6, HS7, HS8⟩
          isplitl [HS0 HS1 HS2 HS3 HS4 HS5 HS6 HS7 HS8 Hg]
          · isplitl [HS0 HS1 HS2 HS3 HS4 HS5 HS6 HS7 HS8]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexact HS1
              isplitl [HS2]
              · iexact HS2
              isplitl [HS3]
              · iexact HS3
              isplitl [HS4]
              · iexact HS4
              isplitl [HS5]
              · iexact HS5
              isplitl [HS6]
              · iexact HS6
              isplitl [HS7]
              · iexact HS7
              iexact HS8
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H12]; · iexact H12
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H14]; · iexact H14
          isplitl [H15]; · iexact H15
          isplitl [H16]; · iexact H16
          iexact H17
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexists _; iexact HS6
    isplitl [HS7]
    · iexact HS7
    iexists _; iexact HS8
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.Fills.lean ====
/- What a list of writes fills, and with which values. -/
module

public import Idealize.ShloMosaic.Lib.Pipeline.Value

@[expose] public section

noncomputable section

namespace Cert.MlaFill

open Idealize.ShloMosaic

variable {sig : RefSig} {κ : Kind} {sp : Space} {s : Shape} {e : EltTy} {Val : EltTy → Type}

/-- Every write of the list writes values of `G`, and the writes reach every place where `P` holds. -/
def Fills (L : List (View.Piece Val s e)) (P : s.Idx → Prop) (G : s.Idx → Val e) : Prop :=
  (∀ p ∈ L, ∀ x : p.1.shape.Idx, p.2 x = G (p.1.emb x)) ∧ ∀ y, P y → ∃ p ∈ L, y ∈ p.1.set

theorem Fills.nil {P : s.Idx → Prop} (G : s.Idx → Val e) (h : ∀ y, ¬ P y) : Fills [] P G :=
  ⟨fun p hp => absurd hp List.not_mem_nil, fun y hy => absurd hy (h y)⟩

theorem Fills.mono {L : List (View.Piece Val s e)} {P Q : s.Idx → Prop} {G : s.Idx → Val e} (h : Fills L P G)
    (hq : ∀ y, Q y → P y) : Fills L Q G := ⟨h.1, fun y hy => h.2 y (hq y hy)⟩

theorem Fills.append {L L' : List (View.Piece Val s e)} {P P' Q : s.Idx → Prop} {G : s.Idx → Val e} (h : Fills L P G)
    (h' : Fills L' P' G) (hq : ∀ y, Q y → P y ∨ P' y) : Fills (L ++ L') Q G := by
  refine ⟨fun p hp => ?_, fun y hy => ?_⟩
  · rcases List.mem_append.mp hp with hp | hp
    · exact h.1 p hp
    · exact h'.1 p hp
  · rcases hq y hy with hy | hy
    · obtain ⟨p, hp, hm⟩ := h.2 y hy; exact ⟨p, List.mem_append_left _ hp, hm⟩
    · obtain ⟨p, hp, hm⟩ := h'.2 y hy; exact ⟨p, List.mem_append_right _ hp, hm⟩

/-- One block of values of `G`. -/
theorem Fills.unit {off size : Fin s.rank → ℕ} (inb : ∀ a, off a + size a ≤ s.size a) (w : (⟨s.rank, size⟩ : Shape).Idx → Val e)
    {P : s.Idx → Prop} {G : s.Idx → Val e}
    (hw : ∀ (x : (⟨s.rank, size⟩ : Shape).Idx) (y : s.Idx), (∀ a, (y a).val = off a + (x a).val) → w x = G y)
    (hP : ∀ y, P y → ∀ a, off a ≤ (y a).val ∧ (y a).val < off a + size a) :
    Fills [⟨Rect.unit off size inb, w⟩] P G := by
  refine ⟨fun p hp x => ?_, fun y hy => ?_⟩
  · obtain rfl := List.mem_singleton.mp hp
    refine hw x _ fun a => ?_
    show off a + 1 * (x a).val = _
    rw [one_mul]
  · have hm : y ∈ (Rect.unit off size inb).set := Rect.mem_set_unit.mpr (hP y hy)
    exact ⟨_, List.mem_singleton_self _, hm⟩

/-- The same as the newest write. -/
theorem Fills.cons {off size : Fin s.rank → ℕ} (inb : ∀ a, off a + size a ≤ s.size a) (w : (⟨s.rank, size⟩ : Shape).Idx → Val e)
    {L : List (View.Piece Val s e)} {P P' Q : s.Idx → Prop} {G : s.Idx → Val e}
    (hw : ∀ (x : (⟨s.rank, size⟩ : Shape).Idx) (y : s.Idx), (∀ a, (y a).val = off a + (x a).val) → w x = G y)
    (hP : ∀ y, P y → ∀ a, off a ≤ (y a).val ∧ (y a).val < off a + size a) (h : Fills L P' G) (hq : ∀ y, Q y → P y ∨ P' y) :
    Fills (⟨Rect.unit off size inb, w⟩ :: L) Q G :=
  Fills.append (L := [_]) (Fills.unit inb w hw hP) h hq

theorem Fills.read {L : List (View.Piece Val s e)} {P : s.Idx → Prop} {G : s.Idx → Val e} (h : Fills L P G)
    (v : View sig κ sp s e) (f : v.ty.Contents Val) (L' : List (View.Piece Val s e)) (y : s.Idx) (hy : P y) :
    v.read Val (v.writes Val f (L ++ L')) y = G y := by
  rw [View.writes_append]
  exact View.read_writes_apply_of_pieces v _ G L h.1 y (h.2 y hy)

/-- A whole read of a filled buffer. -/
theorem Fills.readAll {L : List (View.Piece Val s e)} {G : s.Idx → Val e} (h : Fills L (fun _ => True) G)
    (v : View sig κ sp s e) (f : v.ty.Contents Val) (L' : List (View.Piece Val s e)) :
    v.read Val (v.writes Val f (L ++ L')) = G := funext fun y => h.read v f L' y trivial

theorem Fills.canonApply [∀ e, Nonempty (Val e)] {L : List (View.Piece Val s e)} {P : s.Idx → Prop} {G : s.Idx → Val e} (h : Fills L P G)
    (L' : List (View.Piece Val s e)) (y : s.Idx) (hy : P y) : View.canon (L ++ L') y = G y := by
  obtain ⟨hG, hc⟩ := h
  replace hc := hc y hy
  clear hy
  induction L with
  | nil => obtain ⟨_, hm, _⟩ := hc; exact absurd hm List.not_mem_nil
  | cons p L ih =>
    rw [List.cons_append]
    by_cases hy : y ∈ p.1.set
    · obtain ⟨x, rfl⟩ : ∃ x, p.1.emb x = y := p.1.exists_idx_of_mem hy
      obtain ⟨r, w⟩ := p
      rw [View.canon_cons_emb]; exact hG ⟨r, w⟩ List.mem_cons_self x
    · rw [View.canon_cons_of_not_mem p _ hy]
      refine ih (fun p' hp' => hG p' (List.mem_cons_of_mem _ hp')) ?_
      obtain ⟨p', hm, hy'⟩ := hc
      rcases List.mem_cons.mp hm with rfl | hm
      · exact absurd hy' hy
      · exact ⟨p', hm, hy'⟩

theorem Fills.canonAll [∀ e, Nonempty (Val e)] {L : List (View.Piece Val s e)} {G : s.Idx → Val e} (h : Fills L (fun _ => True) G)
    (L' : List (View.Piece Val s e)) : View.canon (L ++ L') = G := funext fun y => h.canonApply L' y trivial

/-- Filling trip by trip. -/
theorem Fills.loop {T : ℕ} (pb : ℕ → List (View.Piece Val s e)) (tr : Fin T → List (View.Piece Val s e)) {G : s.Idx → Val e}
    (P : ℕ → s.Idx → Prop) (h0 : pb 0 = []) (hs : ∀ k : Fin T, pb (k.val + 1) = tr k ++ pb k.val)
    (ht : ∀ k : Fin T, Fills (tr k) (P k.val) G) : ∀ n, n ≤ T → Fills (pb n) (fun y => ∃ k < n, P k y) G := by
  intro n
  induction n with
  | zero => intro _; rw [h0]; exact Fills.nil G fun y ⟨k, hk, _⟩ => absurd hk (Nat.not_lt_zero k)
  | succ n ih =>
    intro hn
    rw [hs ⟨n, hn⟩]
    refine (ht ⟨n, hn⟩).append (ih (Nat.le_of_succ_le hn)) fun y ⟨k, hk, hy⟩ => ?_
    rcases Nat.lt_succ_iff_lt_or_eq.mp hk with hk | rfl
    · exact .inr ⟨k, hk, hy⟩
    · exact .inl hy

end Cert.MlaFill

end
-- ==== Proof.Scale.lean ====
/- The scale mathematics: the largest bfloat16 pattern not above a value, found by a search over its bits, and the
   power of two that the pattern gives, which is the one that the logarithm gives. -/
module

public import Idealize.ShloMosaic.PureOps.Ideal

@[expose] public section

noncomputable section

namespace Cert.MlaScale

open Idealize.ShloMosaic

/-- The real that the nonnegative finite bfloat16 pattern `n` denotes. -/
def V (n : ℕ) : ℝ :=
  if n / 128 = 0 then ((n % 128 : ℕ) : ℝ) * (2 : ℝ) ^ (-133 : ℤ)
  else ((128 + n % 128 : ℕ) : ℝ) * (2 : ℝ) ^ (((n / 128 : ℕ) : ℤ) - 134)

/-- The same at the pattern of infinity too. -/
def Vx (n : ℕ) : EReal := if n = 0x7F80 then ⊤ else ((V n : ℝ) : EReal)

theorem bf16_val (n : ℕ) (h : n < 0x7F80) : Ideal.ofBits .bf16 (BitVec.ofNat 16 n) = ((V n : ℝ) : EReal) := by
  have h1 : (BitVec.ofNat 16 n).toNat = n := by rw [BitVec.toNat_ofNat]; omega
  have hn : ((BitVec.ofNat 16 n).extractLsb' (8 + 7) 1 == 1#1) = false := by
    rw [beq_eq_false_iff_ne]; intro hh
    have := congrArg BitVec.toNat hh
    rw [BitVec.extractLsb'_toNat, h1, Nat.shiftRight_eq_div_pow] at this
    norm_num at this; omega
  have he : ((BitVec.ofNat 16 n).extractLsb' 7 8).toNat = n / 128 := by
    rw [BitVec.extractLsb'_toNat, h1, Nat.shiftRight_eq_div_pow]; omega
  have hf : ((BitVec.ofNat 16 n).extractLsb' 0 7).toNat = n % 128 := by
    rw [BitVec.extractLsb'_toNat, h1, Nat.shiftRight_eq_div_pow]; omega
  show Ideal.ieee 8 7 (BitVec.ofNat 16 n) = _
  unfold Ideal.ieee V
  rw [hn, he, hf]
  have h2 : ¬ n / 128 = 2 ^ 8 - 1 := by omega
  simp only [h2, if_false, Bool.false_eq_true]
  split
  · norm_num
  · congr 1; rw [one_mul]; norm_num [sub_sub]

theorem f32_val (n : ℕ) (h : n ≤ 0x7F80) : Ideal.ofBits .f32 (BitVec.ofNat 32 n <<< 16) = Vx n := by
  have h1 : (BitVec.ofNat 32 n <<< 16).toNat = n * 65536 := by
    rw [BitVec.toNat_shiftLeft, BitVec.toNat_ofNat, Nat.shiftLeft_eq]; omega
  have hn : ((BitVec.ofNat 32 n <<< 16).extractLsb' (8 + 23) 1 == 1#1) = false := by
    rw [beq_eq_false_iff_ne]; intro hh
    have := congrArg BitVec.toNat hh
    rw [BitVec.extractLsb'_toNat, h1, Nat.shiftRight_eq_div_pow] at this
    norm_num at this; omega
  have he : ((BitVec.ofNat 32 n <<< 16).extractLsb' 23 8).toNat = n / 128 := by
    rw [BitVec.extractLsb'_toNat, h1, Nat.shiftRight_eq_div_pow]; omega
  have hf : ((BitVec.ofNat 32 n <<< 16).extractLsb' 0 23).toNat = n % 128 * 65536 := by
    rw [BitVec.extractLsb'_toNat, h1, Nat.shiftRight_eq_div_pow]; omega
  show Ideal.ieee 8 23 (BitVec.ofNat 32 n <<< 16) = _
  unfold Ideal.ieee Vx V
  rw [hn, he, hf]
  rcases Nat.lt_or_eq_of_le h with h' | h'
  · have h2 : ¬ n / 128 = 2 ^ 8 - 1 := by omega
    have h3 : ¬ n = 0x7F80 := by omega
    simp only [h2, h3, if_false, Bool.false_eq_true]
    have e16 : (2 : ℝ) ^ (-16 : ℤ) = 1 / 65536 := by norm_num
    split
    · have e : (2 : ℝ) ^ (-149 : ℤ) = (2 : ℝ) ^ (-133 : ℤ) * (1 / 65536) := by
        rw [← e16, ← zpow_add₀ (by norm_num)]; norm_num
      refine congrArg Real.toEReal ?_
      rw [show ((1 : ℤ) - (2 ^ (8 - 1) - 1) - ((23 : ℕ) : ℤ)) = -149 by norm_num, e]
      push_cast; ring
    · generalize n / 128 = q
      have e : (2 : ℝ) ^ ((q : ℤ) - 150) = (2 : ℝ) ^ ((q : ℤ) - 134) * (1 / 65536) := by
        rw [← e16, ← zpow_add₀ (by norm_num), show ((q : ℤ) - 134 + -16) = q - 150 by ring]
      refine congrArg Real.toEReal ?_
      rw [show ((q : ℤ) - (2 ^ (8 - 1) - 1) - ((23 : ℕ) : ℤ)) = (q : ℤ) - 150 by norm_num; ring, e]
      generalize (2 : ℝ) ^ ((q : ℤ) - 134) = z
      generalize n % 128 = w
      push_cast; ring
  · have h2 : n / 128 = 2 ^ 8 - 1 := by omega
    have h3 : n % 128 * 65536 = 0 := by omega
    rw [if_pos h2, if_pos h3, if_pos h']; rfl

theorem V_succ (n : ℕ) : V n < V (n + 1) := by
  have p2 : ∀ z : ℤ, (0 : ℝ) < (2 : ℝ) ^ z := fun z => zpow_pos (by norm_num) z
  unfold V
  by_cases h : n % 128 = 127
  · have e1 : (n + 1) / 128 = n / 128 + 1 := by omega
    have e2 : (n + 1) % 128 = 0 := by omega
    rw [e1, e2, h, if_neg (Nat.succ_ne_zero _)]
    split
    · rename_i h0; rw [h0]; norm_num
    · push_cast
      rw [show ((n : ℤ) / 128 + 1 - 134 : ℤ) = ((n : ℤ) / 128 - 134) + 1 by ring, zpow_add₀ (by norm_num)]
      have := p2 ((n : ℤ) / 128 - 134)
      rw [zpow_one]; nlinarith
  · have e1 : (n + 1) / 128 = n / 128 := by omega
    have e2 : (n + 1) % 128 = n % 128 + 1 := by omega
    rw [e1, e2]
    split
    · push_cast; have := p2 (-133); nlinarith
    · push_cast; have := p2 ((n : ℤ) / 128 - 134); nlinarith

theorem V_mono : StrictMono V := strictMono_nat_of_lt_succ V_succ

theorem Vx_lt {a : EReal} {m n : ℕ} (hm : a < Vx m) (h : m ≤ n) (hn : n ≤ 0x7F80) : a < Vx n := by
  refine lt_of_lt_of_le hm ?_
  unfold Vx
  by_cases h1 : n = 0x7F80
  · rw [if_pos h1]; exact le_top
  · rw [if_neg h1, if_neg (by omega : ¬ m = 0x7F80)]
    exact EReal.coe_le_coe_iff.mpr (V_mono.monotone h)

/-- One step of the search: the bit `b` is set where the value is not below the pattern with it. -/
def step (a : EReal) (b bits : BitVec 32) : BitVec 32 :=
  Scalar.select (Ideal.cmp .oge a (Ideal.ofBits .f32 ((bits + b) <<< 16))) (bits + b) bits

/-- What the search knows before the bit `2^k`. -/
def Inv (a : EReal) (k : ℕ) (n : ℕ) : Prop :=
  2 ^ (k + 1) ∣ n ∧ n < 0x7F80 ∧ ((V n : ℝ) : EReal) ≤ a ∧ (n + 2 ^ (k + 1) ≤ 0x7F80 → a < Vx (n + 2 ^ (k + 1)))

/-- What it knows after the bit `2^k`. -/
def Post (a : EReal) (k : ℕ) (n : ℕ) : Prop :=
  2 ^ k ∣ n ∧ n < 0x7F80 ∧ ((V n : ℝ) : EReal) ≤ a ∧ (n + 2 ^ k ≤ 0x7F80 → a < Vx (n + 2 ^ k))

theorem step_post {a : EReal} (ha : a < ⊤) {k n : ℕ} (hk : k < 15) (h : Inv a k n) :
    ∃ n' : ℕ, step a (BitVec.ofNat 32 (2 ^ k)) (BitVec.ofNat 32 n) = BitVec.ofNat 32 n' ∧ Post a k n' := by
  obtain ⟨hd, hn, hv, hu⟩ := h
  have hc : n + 2 ^ k ≤ 0x7F80 := by
    interval_cases k <;> simp only [Nat.reduceAdd, Nat.reducePow] at hd ⊢ <;> omega
  have hb : BitVec.ofNat 32 n + BitVec.ofNat 32 (2 ^ k) = BitVec.ofNat 32 (n + 2 ^ k) := by
    rw [← BitVec.ofNat_add]
  unfold step
  rw [hb, f32_val _ hc]
  unfold Ideal.cmp
  dsimp only
  by_cases hge : Vx (n + 2 ^ k) ≤ a
  · refine ⟨n + 2 ^ k, by simp [hge, Scalar.select], ?_, ?_, ?_, ?_⟩
    · exact Nat.dvd_add (Nat.dvd_trans (pow_dvd_pow 2 (Nat.le_succ k)) hd) (Nat.dvd_refl _)
    · refine lt_of_le_of_ne hc fun he => ?_
      rw [he] at hge; unfold Vx at hge; rw [if_pos rfl] at hge
      exact absurd ha (not_lt.mpr hge)
    · have : n + 2 ^ k ≠ 0x7F80 := fun he => by
        rw [he] at hge; unfold Vx at hge; rw [if_pos rfl] at hge
        exact absurd ha (not_lt.mpr hge)
      unfold Vx at hge; rwa [if_neg this] at hge
    · intro hle
      have e : n + 2 ^ k + 2 ^ k = n + 2 ^ (k + 1) := by rw [pow_succ]; ring
      rw [e] at hle ⊢; exact hu hle
  · refine ⟨n, by simp [hge, Scalar.select], Nat.dvd_trans (pow_dvd_pow 2 (Nat.le_succ k)) hd, hn, hv, fun _ => not_le.mp hge⟩

/-- The whole search, from the highest bit down. -/
def search (a : EReal) : BitVec 32 :=
  step a 1#32 <| step a 2#32 <| step a 4#32 <| step a 8#32 <| step a 16#32 <| step a 32#32 <| step a 64#32 <|
  step a 128#32 <| step a 256#32 <| step a 512#32 <| step a 1024#32 <| step a 2048#32 <| step a 4096#32 <|
  step a 8192#32 <| step a 16384#32 0#32

theorem search_spec {a : EReal} (h0 : 0 ≤ a) (ha : a < ⊤) :
    ∃ n : ℕ, search a = BitVec.ofNat 32 n ∧ n < 0x7F80 ∧ ((V n : ℝ) : EReal) ≤ a ∧ a < Vx (n + 1) := by
  have i0 : Inv a 14 0 := ⟨Nat.dvd_zero _, by norm_num, by unfold V; simpa using h0, by norm_num⟩
  unfold search
  obtain ⟨n14, e14, p14⟩ := step_post ha (by norm_num) i0
  obtain ⟨n13, e13, p13⟩ := step_post ha (k := 13) (by norm_num) p14
  obtain ⟨n12, e12, p12⟩ := step_post ha (k := 12) (by norm_num) p13
  obtain ⟨n11, e11, p11⟩ := step_post ha (k := 11) (by norm_num) p12
  obtain ⟨n10, e10, p10⟩ := step_post ha (k := 10) (by norm_num) p11
  obtain ⟨n9, e9, p9⟩ := step_post ha (k := 9) (by norm_num) p10
  obtain ⟨n8, e8, p8⟩ := step_post ha (k := 8) (by norm_num) p9
  obtain ⟨n7, e7, p7⟩ := step_post ha (k := 7) (by norm_num) p8
  obtain ⟨n6, e6, p6⟩ := step_post ha (k := 6) (by norm_num) p7
  obtain ⟨n5, e5, p5⟩ := step_post ha (k := 5) (by norm_num) p6
  obtain ⟨n4, e4, p4⟩ := step_post ha (k := 4) (by norm_num) p5
  obtain ⟨n3, e3, p3⟩ := step_post ha (k := 3) (by norm_num) p4
  obtain ⟨n2, e2, p2⟩ := step_post ha (k := 2) (by norm_num) p3
  obtain ⟨n1, e1, p1⟩ := step_post ha (k := 1) (by norm_num) p2
  obtain ⟨n0, e0, p0⟩ := step_post ha (k := 0) (by norm_num) p1
  simp only [Nat.reducePow] at e14 e13 e12 e11 e10 e9 e8 e7 e6 e5 e4 e3 e2 e1 e0
  refine ⟨n0, ?_, p0.2.1, p0.2.2.1, ?_⟩
  · rw [e14, e13, e12, e11, e10, e9, e8, e7, e6, e5, e4, e3, e2, e1, e0]
  · exact p0.2.2.2 (by have := p0.2.1; norm_num; omega)

/-- The pattern of the scale, from the pattern of the row's maximum. -/
def scalePat (n : ℕ) : ℕ := ((n + 32) / 128 - 15) * 128

/-- Both scales of a row from the pattern that the search found. -/
def kScale (a : EReal) : EReal := Ideal.ofBits .bf16 (BitVec.ofNat 16 (scalePat (search a).toNat))
def kInv (a : EReal) : EReal := Ideal.ofBits .bf16 (BitVec.ofNat 16 (0x7F00 - scalePat (search a).toNat))

theorem V_mul (e : ℕ) (h : e ≠ 0) : V (e * 128) = (2 : ℝ) ^ ((e : ℤ) - 127) := by
  unfold V
  rw [show e * 128 / 128 = e by omega, show e * 128 % 128 = 0 by omega, if_neg h]
  rw [show ((e : ℤ) - 127) = (e - 134) + 7 by ring, zpow_add₀ (by norm_num)]; norm_num; ring

theorem V_edge (e : ℕ) (h : 1 < e) : V (e * 128 - 32) = 57344 * (2 : ℝ) ^ ((e : ℤ) - 143) := by
  unfold V
  rw [show (e * 128 - 32) / 128 = e - 1 by omega, show (e * 128 - 32) % 128 = 96 by omega, if_neg (by omega)]
  rw [show (((e - 1 : ℕ) : ℤ) - 134) = (e - 143) + 8 by omega, zpow_add₀ (by norm_num)]; norm_num; ring

/-- For a value in range, the search's exponent is the logarithm's. -/
theorem search_log {a : ℝ} (h : (2 : ℝ) ^ (-110 : ℤ) ≤ a) (ha : a ≤ 2 ^ 128 - 2 ^ 120) :
    ∃ n : ℕ, search (a : EReal) = BitVec.ofNat 32 n ∧ 0x0880 ≤ n ∧ n < 0x7F80 ∧
      ⌊Real.log (a / 57344) / Real.log 2⌋ + 1 = (((n + 32) / 128 : ℕ) : ℤ) - 142 := by
  have p2 : ∀ z : ℤ, (0 : ℝ) < (2 : ℝ) ^ z := fun z => zpow_pos (by norm_num) z
  have hpos : 0 < a := lt_of_lt_of_le (p2 _) h
  obtain ⟨n, e, hn, hv, hu⟩ := search_spec (a := (a : EReal)) (by exact_mod_cast hpos.le) (EReal.coe_lt_top a)
  have hlo : 0x0880 ≤ n := by
    by_contra hc
    have h1 : a < Vx 0x0880 := Vx_lt hu (by omega) (by norm_num)
    unfold Vx at h1
    rw [if_neg (by norm_num), EReal.coe_lt_coe_iff, show (0x0880 : ℕ) = 17 * 128 by norm_num, V_mul _ (by norm_num)] at h1
    norm_num at h1 h; linarith
  rw [EReal.coe_le_coe_iff] at hv
  refine ⟨n, e, hlo, hn, ?_⟩
  set E := (n + 32) / 128 with hE
  have b1 : 57344 * (2 : ℝ) ^ ((E : ℤ) - 143) ≤ a := by
    rw [← V_edge E (by omega)]
    exact le_trans (V_mono.monotone (by omega)) hv
  have b2 : a < 57344 * (2 : ℝ) ^ ((E : ℤ) - 142) := by
    by_cases hh : (E + 1) * 128 - 32 ≤ 0x7F7F
    · have h1 := Vx_lt hu (show n + 1 ≤ (E + 1) * 128 - 32 by omega) (by omega)
      unfold Vx at h1
      rw [if_neg (by omega), EReal.coe_lt_coe_iff, V_edge _ (by omega)] at h1
      rwa [show (((E + 1 : ℕ) : ℤ) - 143) = (E : ℤ) - 142 by omega] at h1
    · have : E = 255 := by omega
      rw [this]; norm_num at ha ⊢; linarith
  have l2 : 0 < Real.log 2 := Real.log_pos (by norm_num)
  have hq : 0 < a / 57344 := by positivity
  have key : ⌊Real.log (a / 57344) / Real.log 2⌋ = (E : ℤ) - 143 := by
    rw [Int.floor_eq_iff]
    constructor
    · rw [le_div_iff₀ l2]
      have : ((((E : ℤ) - 143 : ℤ) : ℝ)) * Real.log 2 = Real.log ((2 : ℝ) ^ ((E : ℤ) - 143)) := by rw [Real.log_zpow]
      rw [this]; exact Real.log_le_log (p2 _) (by rw [le_div_iff₀ (by norm_num)]; linarith)
    · rw [div_lt_iff₀ l2]
      have : ((((E : ℤ) - 143 : ℤ) : ℝ) + 1) * Real.log 2 = Real.log ((2 : ℝ) ^ ((E : ℤ) - 142)) := by
        rw [Real.log_zpow]; push_cast; ring
      rw [this]; exact Real.log_lt_log hq (by rw [div_lt_iff₀ (by norm_num)]; linarith)
  rw [key]; ring

theorem scales_at {a : EReal} {n : ℕ} (h : search a = BitVec.ofNat 32 n) (h1 : 0x0880 ≤ n) (h2 : n < 0x7F80) :
    kScale a = (((2 : ℝ) ^ ((((n + 32) / 128 : ℕ) : ℤ) - 142) : ℝ) : EReal) ∧
    kInv a = (((2 : ℝ) ^ (-((((n + 32) / 128 : ℕ) : ℤ) - 142)) : ℝ) : EReal) := by
  have hN : (search a).toNat = n := by rw [h, BitVec.toNat_ofNat]; omega
  unfold kScale kInv
  rw [hN]
  constructor
  · rw [bf16_val _ (by unfold scalePat; omega)]; unfold scalePat
    rw [V_mul _ (by omega)]; congr 2; omega
  · rw [show 0x7F00 - scalePat n = (254 - ((n + 32) / 128 - 15)) * 128 by unfold scalePat; omega]
    rw [bf16_val _ (by omega), V_mul _ (by omega)]; congr 2; omega

end Cert.MlaScale

end
-- ==== Proof.Quant.lean ====
/- One group of token rows quantised: what the packed words and the codes are. -/
module

public import proofs.«01_k».proof.Proof.Gen.KernelIdeal.Skeleton
public import proofs.«01_k».proof.Proof.Scale
public import Idealize.ShloMosaic.Lib.Pointwise
public import Idealize.ShloMosaic.Lib.BitcastPair

@[expose] public section
set_option maxRecDepth 16384
noncomputable section

namespace Cert.MlaQuant
open Idealize.ShloMosaic Idealize.ShloMosaic.TcCoe Idealize.ShloMosaic.Tactic Cert.MlaScale

/-- The largest absolute value of a row. -/
def am (f : Fin 128 → EReal) : EReal :=
  Finset.univ.fold max (Ideal.ofBits .bf16 0xFF80#16) fun d => max (f d) (-(f d))

/-- The value whose scale a row takes. -/
def adj (a : EReal) : EReal := if a < Ideal.ofBits .bf16 0x0880#16 then Ideal.ofBits .bf16 0x4700#16 else a

/-- The pattern found for a row. -/
def pat (f : Fin 128 → EReal) : ℕ := (search (adj (am f))).toNat

/-- A row whose scale and inverse scale are normal numbers. -/
def Good (f : Fin 128 → EReal) : Prop := 0x0880 ≤ pat f ∧ pat f < 0x7F80

def lo : Ideal .bf16 := Scalar.truncf (F := Ideal) .bf16 (by decide) (Scalar.ofBits .f32 0xC7600000#32)
def hi : Ideal .bf16 := Scalar.truncf (F := Ideal) .bf16 (by decide) (Scalar.ofBits .f32 0x47600000#32)

def sc (f : Fin 128 → EReal) : EReal := kScale (adj (am f))
/-- The codes of a row. -/
def cd (f : Fin 128 → EReal) (d : Fin 128) : EReal := min hi (max lo (f d * kInv (adj (am f))))

/-- One packed word of scales. -/
def word (f g : Fin 128 → EReal) : BitVec 32 := BitVec.ofNat 16 (scalePat (pat g)) ++ BitVec.ofNat 16 (scalePat (pat f))

theorem mask16 (a b : ℕ) (ha : a < 256) (hb : b < 256) : (a * 256 + b) &&& 0x7F80 = (a * 256 + b) / 128 % 256 * 128 := by
  have h : ∀ a : Fin 256, ∀ b : Fin 256, (a.val * 256 + b.val) &&& 0x7F80 = (a.val * 256 + b.val) / 128 % 256 * 128 := by decide +kernel
  exact h ⟨a, ha⟩ ⟨b, hb⟩

theorem app_nat (a b : ℕ) (ha : a < 65536) (hb : b < 65536) : BitVec.ofNat 16 a ++ BitVec.ofNat 16 b = BitVec.ofNat 32 (a * 65536 + b) := by
  apply BitVec.eq_of_toNat_eq
  rw [BitVec.toNat_append, BitVec.toNat_ofNat, BitVec.toNat_ofNat, BitVec.toNat_ofNat, ← Nat.shiftLeft_add_eq_or_of_lt (by omega), Nat.shiftLeft_eq]
  omega

theorem pack (p q : BitVec 32) (hp : 0x0880 ≤ p.toNat) (hp' : p.toNat < 0x7F80) (hq : 0x0880 ≤ q.toNat) (hq' : q.toNat < 0x7F80) :
    IntOp.andi (IntOp.addi (q.setWidth 16 ++ p.setWidth 16) 4171233440#32) 2139127680#32 =
      BitVec.ofNat 16 (scalePat q.toNat) ++ BitVec.ofNat 16 (scalePat p.toNat) := by
  obtain ⟨m, hm⟩ : ∃ m, p.toNat = m := ⟨_, rfl⟩
  obtain ⟨n, hn⟩ : ∃ n, q.toNat = n := ⟨_, rfl⟩
  have e1 : p.setWidth 16 = BitVec.ofNat 16 m := by
    apply BitVec.eq_of_toNat_eq; rw [BitVec.toNat_setWidth, BitVec.toNat_ofNat, hm]
  have e2 : q.setWidth 16 = BitVec.ofNat 16 n := by
    apply BitVec.eq_of_toNat_eq; rw [BitVec.toNat_setWidth, BitVec.toNat_ofNat, hn]
  rw [e1, e2, hm, hn]
  rw [hm] at hp hp'; rw [hn] at hq hq'
  have e3 : IntOp.addi (BitVec.ofNat 16 n ++ BitVec.ofNat 16 m) 4171233440#32 = BitVec.ofNat 16 (n - 1888) ++ BitVec.ofNat 16 (m - 1888) := by
    rw [app_nat n m (by omega) (by omega), app_nat _ _ (by omega) (by omega)]
    show BitVec.ofNat 32 (n * 65536 + m) + BitVec.ofNat 32 4171233440 = _
    rw [← BitVec.ofNat_add]
    apply BitVec.eq_of_toNat_eq
    rw [BitVec.toNat_ofNat, BitVec.toNat_ofNat]; omega
  have e4 : (2139127680#32 : BitVec 32) = BitVec.ofNat 16 0x7F80 ++ BitVec.ofNat 16 0x7F80 := by decide
  rw [e3, e4]
  show (_ ++ _) &&& (_ ++ _) = _
  rw [BitVec.and_append]
  have key : ∀ x : ℕ, 0x0880 ≤ x → x < 0x7F80 → BitVec.ofNat 16 (x - 1888) &&& BitVec.ofNat 16 0x7F80 = BitVec.ofNat 16 (scalePat x) := by
    intro x h1 h2
    apply BitVec.eq_of_toNat_eq
    rw [BitVec.toNat_and, BitVec.toNat_ofNat, BitVec.toNat_ofNat, BitVec.toNat_ofNat]
    have := mask16 ((x - 1888) / 256) ((x - 1888) % 256) (by omega) (by omega)
    rw [show (x - 1888) / 256 * 256 + (x - 1888) % 256 = x - 1888 by omega] at this
    rw [Nat.mod_eq_of_lt (show x - 1888 < 2 ^ 16 by omega), Nat.mod_eq_of_lt (show 0x7F80 < 2 ^ 16 by norm_num), this]
    unfold scalePat; omega
  rw [key n hq hq', key m hp hp']

theorem inv_word (a b : ℕ) (ha : a ≤ 0x7F00) (hb : b ≤ 0x7F00) :
    IntOp.subi 2130738944#32 (BitVec.ofNat 16 a ++ BitVec.ofNat 16 b) = BitVec.ofNat 16 (0x7F00 - a) ++ BitVec.ofNat 16 (0x7F00 - b) := by
  rw [app_nat _ _ (by omega) (by omega), app_nat _ _ (by omega) (by omega)]
  apply BitVec.eq_of_toNat_eq
  show (2130738944#32 - _ : BitVec 32).toNat = _
  rw [BitVec.toNat_sub, BitVec.toNat_ofNat, BitVec.toNat_ofNat, BitVec.toNat_ofNat]; omega

theorem half0 (a b : BitVec 16) : (a ++ b).extractLsb' 0 16 = b := BitVec.extractLsb'_append_eq_right
theorem half1 (a b : BitVec 16) : (a ++ b).extractLsb' 16 16 = a := BitVec.extractLsb'_append_eq_left

theorem scalePat_le {n : ℕ} (h : n < 0x7F80) : scalePat n ≤ 0x7F00 := by unfold scalePat; omega

end Cert.MlaQuant

namespace Cert.KernelIdeal.Gen
open Idealize.ShloMosaic Idealize.ShloMosaic.TcCoe Idealize.ShloMosaic.Tactic Cert.MlaScale Cert.MlaQuant

def stepV (a : FVec Ideal S16x128 .f32) (b : BitVec 32) (bits : IVec S16x128 32) : IVec S16x128 32 := fun y => step (a y) b (bits y)

def searchV (a : FVec Ideal S16x128 .f32) : IVec S16x128 32 := fun y => search (a y)

def packV (p : IVec S16x128 32) : IVec S8x128 32 := andi (addi (bitcast S8x128 32 (trunci 16 p natLt_16_32) bitcasts_S16x128_w16_S8x128_w32) (broadcast S8x128 4171233440#32)) (broadcast S8x128 2139127680#32)

/-- The packed words of two tokens' rows. -/
def qw (X : Vec Ideal S2x1x8x128 .bf16) : IVec S8x128 32 := packV (searchV (k0_pay19 X))

/-- Several steps, the highest bit first. -/
def stepsV (a : FVec Ideal S16x128 .f32) : List (BitVec 32) → IVec S16x128 32 → IVec S16x128 32
  | [], v => v
  | b :: l, v => stepsV a l (stepV a b v)

theorem pay20_eq (X : Vec Ideal S2x1x8x128 .bf16) : k0_pay20 X = stepsV (k0_pay19 X) [16384#32, 8192#32, 4096#32] fun _ => 0#32 := rfl
theorem pay22_eq (a : FVec Ideal S16x128 .f32) (v : IVec S16x128 32) :
    k0_pay22 a v (addi v (broadcast S16x128 2048#32)) = stepsV a [2048#32, 1024#32, 512#32, 256#32, 128#32, 64#32, 32#32] v := rfl
theorem pay23_eq (a : FVec Ideal S16x128 .f32) (v : IVec S16x128 32) :
    k0_pay23 a v = packV (stepsV a [16#32, 8#32, 4#32, 2#32, 1#32] v) := rfl
theorem steps_search (a : FVec Ideal S16x128 .f32) : stepsV a [16#32, 8#32, 4#32, 2#32, 1#32] (stepsV a [2048#32, 1024#32, 512#32, 256#32, 128#32, 64#32, 32#32]
    (stepsV a [16384#32, 8192#32, 4096#32] fun _ => 0#32)) = searchV a := rfl

theorem steps_search' (a : FVec Ideal S16x128 .f32) : stepsV a [32#32, 16#32, 8#32, 4#32, 2#32, 1#32] (stepsV a [4096#32, 2048#32, 1024#32, 512#32, 256#32, 128#32, 64#32]
    (stepsV a [16384#32, 8192#32] fun _ => 0#32)) = searchV a := rfl

theorem word_a (X : Vec Ideal S2x1x8x128 .bf16) : k0_pay23 (k0_pay19 X) (k0_pay22 (k0_pay19 X) (k0_pay20 X) (k0_pay21 X)) = qw X := by
  have e : k0_pay21 X = addi (k0_pay20 X) (broadcast S16x128 2048#32) := rfl
  rw [e, pay22_eq, pay20_eq, pay23_eq, steps_search]; rfl

theorem pay29_eq (X : Vec Ideal S2x1x8x128 .bf16) : k0_pay29 X = stepsV (k0_pay28 X) [16384#32, 8192#32] fun _ => 0#32 := rfl
theorem pay32_eq (X : Vec Ideal S2x1x8x128 .bf16) : k0_pay32 (k0_pay28 X) (k0_pay29 X) (k0_pay30 X) k0_pay31 = stepsV (k0_pay28 X) [4096#32, 2048#32, 1024#32, 512#32, 256#32, 128#32, 64#32] (k0_pay29 X) := rfl
theorem pay34_eq (a : FVec Ideal S16x128 .f32) (v : IVec S16x128 32) :
    k0_pay34 a v k0_pay33 = packV (stepsV a [32#32, 16#32, 8#32, 4#32, 2#32, 1#32] v) := rfl

theorem word_b (X : Vec Ideal S2x1x8x128 .bf16) : k0_pay34 (k0_pay28 X) (k0_pay32 (k0_pay28 X) (k0_pay29 X) (k0_pay30 X) k0_pay31) k0_pay33 = qw X := by
  have e : k0_pay28 X = k0_pay19 X := rfl
  rw [pay32_eq, pay29_eq, pay34_eq, e, steps_search']; rfl

/-- Row `r` of two tokens' rows. -/
def rw2 (X : Vec Ideal S2x1x8x128 .bf16) (r : Fin 16) : Fin 128 → EReal := fun d =>
  X (ix4 ⟨r.val / 8, by omega⟩ 0 ⟨r.val % 8, by omega⟩ d)

theorem pay19_apply (X : Vec Ideal S2x1x8x128 .bf16) (r : Fin 16) (d : Fin 128) : k0_pay19 X (ix2 r d) = adj (am (rw2 X r)) := by
  pointwise [k0_pay19, k0_pay18]
  rfl

theorem qw_apply (X : Vec Ideal S2x1x8x128 .bf16) (hX : ∀ r, Good (rw2 X r)) (s : Fin 8) (d : Fin 128) :
    qw X (ix2 s d) = word (rw2 X ⟨2 * s.val, by omega⟩) (rw2 X ⟨2 * s.val + 1, by omega⟩) := by
  unfold qw packV
  show IntOp.andi (IntOp.addi (bitcast S8x128 32 _ _ (ix2 s d)) _) _ = _
  rw [bitcast_16_32]
  have e : ∀ (k : ℕ) (hk : k < 16) hp, Shape.Bitcasts.srcIdx bitcasts_S16x128_w16_S8x128_w32 (ix2 s d) k hp = ix2 ⟨k, hk⟩ d := by
    intro k hk hp
    funext a
    apply Fin.ext
    match a with
    | 0 => exact Shape.Bitcasts.srcIdx_row _ _ _ _ 0 rfl
    | 1 => exact Shape.Bitcasts.srcIdx_other _ _ _ _ 1 (by decide)
  have er : Shape.row S8x128 (ix2 s d) = s.val := rfl
  rw [e _ (by rw [er]; omega), e _ (by rw [er]; omega)]
  show IntOp.andi (IntOp.addi (BitVec.setWidth 16 (search (k0_pay19 X (ix2 ⟨_, _⟩ d))) ++ BitVec.setWidth 16 (search (k0_pay19 X (ix2 ⟨_, _⟩ d)))) _) _ = _
  rw [pay19_apply, pay19_apply]
  simp only [er]
  exact pack _ _ (hX _).1 (hX _).2 (hX _).1 (hX _).2

theorem halves (W : IVec S8x128 32) (r : Fin 16) (d : Fin 128) (a b : ℕ)
    (h : W (ix2 ⟨r.val / 2, by omega⟩ d) = BitVec.ofNat 16 b ++ BitVec.ofNat 16 a) :
    bitcast S16x128 16 W bitcasts_S8x128_w32_S16x128_w16 (ix2 r d) = BitVec.ofNat 16 (if r.val % 2 = 0 then a else b) := by
  rw [bitcast_32_16]
  have er : Shape.row S16x128 (ix2 r d) = r.val := rfl
  have e : ∀ (k : ℕ) (hk : k < 8) hp, Shape.Bitcasts.srcIdx bitcasts_S8x128_w32_S16x128_w16 (ix2 r d) k hp = ix2 ⟨k, hk⟩ d := by
    intro k hk hp
    funext a
    apply Fin.ext
    match a with
    | 0 => exact Shape.Bitcasts.srcIdx_row _ _ _ _ 0 rfl
    | 1 => exact Shape.Bitcasts.srcIdx_other _ _ _ _ 1 (by decide)
  rw [e _ (by rw [er]; omega)]
  simp only [er]
  rw [h]
  rcases Nat.mod_two_eq_zero_or_one r.val with h2 | h2
  · rw [h2, if_pos rfl]; exact half0 _ _
  · rw [h2, if_neg (by decide)]; exact half1 _ _

theorem scale_half (X : Vec Ideal S2x1x8x128 .bf16) (hX : ∀ r, Good (rw2 X r)) (r : Fin 16) (d : Fin 128) :
    bitcastToFloat (F := Ideal) .bf16 (bitcast S16x128 16 (qw X) bitcasts_S8x128_w32_S16x128_w16) (ix2 r d) = sc (rw2 X r) := by
  show Ideal.ofBits .bf16 (bitcast S16x128 16 (qw X) bitcasts_S8x128_w32_S16x128_w16 (ix2 r d)) = _
  rw [halves _ r d _ _ (qw_apply X hX _ d)]
  unfold sc kScale
  refine congrArg (fun n => Ideal.ofBits .bf16 (BitVec.ofNat 16 n)) ?_
  have hr := r.isLt
  rcases Nat.mod_two_eq_zero_or_one r.val with h2 | h2
  · rw [if_pos h2]; unfold pat; congr 5; exact congrArg _ (Fin.ext (by show 2 * (r.val / 2) = r.val; omega))
  · rw [if_neg (by omega)]; unfold pat; congr 5; exact congrArg _ (Fin.ext (by show 2 * (r.val / 2) + 1 = r.val; omega))

theorem inv_half (X : Vec Ideal S2x1x8x128 .bf16) (hX : ∀ r, Good (rw2 X r)) (r : Fin 16) (d : Fin 128) :
    bitcastToFloat (F := Ideal) .bf16 (bitcast S16x128 16 (subi (broadcast S8x128 2130738944#32) (qw X)) bitcasts_S8x128_w32_S16x128_w16) (ix2 r d) = kInv (adj (am (rw2 X r))) := by
  show Ideal.ofBits .bf16 (bitcast S16x128 16 _ bitcasts_S8x128_w32_S16x128_w16 (ix2 r d)) = _
  rw [halves (subi (broadcast S8x128 2130738944#32) (qw X)) r d (0x7F00 - scalePat (pat (rw2 X ⟨2 * (r.val / 2), by omega⟩)))
    (0x7F00 - scalePat (pat (rw2 X ⟨2 * (r.val / 2) + 1, by omega⟩)))
    (by show IntOp.subi 2130738944#32 (qw X _) = _
        rw [qw_apply X hX]; exact inv_word _ _ (scalePat_le (hX _).2) (scalePat_le (hX _).2))]
  unfold kInv
  refine congrArg (fun n => Ideal.ofBits .bf16 (BitVec.ofNat 16 n)) ?_
  have hr := r.isLt
  rcases Nat.mod_two_eq_zero_or_one r.val with h2 | h2
  · rw [if_pos h2]; unfold pat; congr 6; exact congrArg _ (Fin.ext (by show 2 * (r.val / 2) = r.val; omega))
  · rw [if_neg (by omega)]; unfold pat; congr 6; exact congrArg _ (Fin.ext (by show 2 * (r.val / 2) + 1 = r.val; omega))

/-- The clipped products of 16 rows. -/
def clipV (v : FVec Ideal S16x128 .bf16) (w : IVec S8x128 32) : FVec Ideal S16x128 .bf16 :=
  minimumf (broadcast S16x128 hi) (maximumf (broadcast S16x128 lo) (mulf v (bitcastToFloat .bf16 (bitcast S16x128 16 (subi (broadcast S8x128 2130738944#32) w) bitcasts_S8x128_w32_S16x128_w16))))

theorem pay18_apply (X : Vec Ideal S2x1x8x128 .bf16) (r : Fin 16) (d : Fin 128) : k0_pay18 X (ix2 r d) = rw2 X r d := by
  pointwise [k0_pay18]
  rfl

theorem clipV_apply (X : Vec Ideal S2x1x8x128 .bf16) (hX : ∀ r, Good (rw2 X r)) (r : Fin 16) (d : Fin 128) :
    clipV (k0_pay18 X) (qw X) (ix2 r d) = cd (rw2 X r) d := by
  show min hi (max lo (k0_pay18 X (ix2 r d) * bitcastToFloat (F := Ideal) .bf16 (bitcast S16x128 16 _ bitcasts_S8x128_w32_S16x128_w16) (ix2 r d))) = _
  rw [inv_half X hX, pay18_apply]
  rfl

theorem pay26_eq (v : FVec Ideal S16x128 .bf16) (w : IVec S8x128 32) : k0_pay26 v w = clipV v w := rfl

/-- The codes of four tokens, row by row. -/
def codes4 (X0 X2 : Vec Ideal S2x1x8x128 .bf16) : FVec Ideal S32x128 .bf16 :=
  concatenate S32x128 0 [⟨S16x128, clipV (k0_pay18 X0) (qw X0)⟩, ⟨S16x128, clipV (k0_pay18 X2) (qw X2)⟩] concatenates_S16x128_S16x128_S32x128_d0

theorem pay103_eq (X0 X2 : Vec Ideal S2x1x8x128 .bf16) :
    k0_pay103 (clipV (k0_pay18 X0) (qw X0)) (k0_pay27 X2) (qw X2) = truncf .fp8e5m2 (codes4 X0 X2) bitsLt_fp8e5m2_bf16 := rfl

/-- Row `r` of four tokens' rows. -/
def rw4 (X0 X2 : Vec Ideal S2x1x8x128 .bf16) (r : Fin 32) : Fin 128 → EReal :=
  if h : r.val < 16 then rw2 X0 ⟨r.val, h⟩ else rw2 X2 ⟨r.val - 16, by omega⟩

theorem codes4_apply (X0 X2 : Vec Ideal S2x1x8x128 .bf16) (h0 : ∀ r, Good (rw2 X0 r)) (h2 : ∀ r, Good (rw2 X2 r)) (r : Fin 32) (d : Fin 128) :
    codes4 X0 X2 (ix2 r d) = cd (rw4 X0 X2 r) d := by
  unfold codes4 rw4
  pointwise
  split
  · exact clipV_apply X0 h0 _ d
  · exact clipV_apply X2 h2 _ d

def scales4 (X0 X2 : Vec Ideal S2x1x8x128 .bf16) : FVec Ideal S32x128 .bf16 :=
  concatenate S32x128 0 [⟨S16x128, bitcastToFloat .bf16 (bitcast S16x128 16 (qw X0) bitcasts_S8x128_w32_S16x128_w16)⟩, ⟨S16x128, bitcastToFloat .bf16 (bitcast S16x128 16 (qw X2) bitcasts_S8x128_w32_S16x128_w16)⟩] concatenates_S16x128_S16x128_S32x128_d0

theorem cat4 (A B : FVec Ideal S16x128 .bf16) (r : Fin 32) (d : Fin 128) :
    concatenate S32x128 0 [⟨S16x128, A⟩, ⟨S16x128, B⟩] concatenates_S16x128_S16x128_S32x128_d0 (ix2 r d) =
      if h : r.val < 16 then A (ix2 ⟨r.val, h⟩ d) else B (ix2 ⟨r.val - 16, by omega⟩ d) := by
  pointwise

theorem scales4_apply (X0 X2 : Vec Ideal S2x1x8x128 .bf16) (h0 : ∀ r, Good (rw2 X0 r)) (h2 : ∀ r, Good (rw2 X2 r)) (r : Fin 32) (d : Fin 128) :
    scales4 X0 X2 (ix2 r d) = sc (rw4 X0 X2 r) := by
  unfold scales4 rw4
  rw [cat4]
  split
  · exact scale_half X0 h0 _ d
  · exact scale_half X2 h2 _ d

theorem codes_apply (X0 X2 : Vec Ideal S2x1x8x128 .bf16) (h0 : ∀ r, Good (rw2 X0 r)) (h2 : ∀ r, Good (rw2 X2 r))
    (x : S4x1x8x128.Idx) :
    k0_pay104 (k0_pay26 (k0_pay18 X0) (k0_pay23 (k0_pay19 X0) (k0_pay22 (k0_pay19 X0) (k0_pay20 X0) (k0_pay21 X0)))) (k0_pay27 X2)
      (k0_pay34 (k0_pay28 X2) (k0_pay32 (k0_pay28 X2) (k0_pay29 X2) (k0_pay30 X2) k0_pay31) k0_pay33) x =
      cd (rw4 X0 X2 ⟨8 * (x 0).val + (x 2).val, by have h0 : (x 0).val < 4 := (x 0).isLt; have h2 : (x 2).val < 8 := (x 2).isLt; omega⟩) (x 3) := by
  rw [word_a, word_b, pay26_eq]
  unfold k0_pay104
  rw [pay103_eq]
  idx_vars x
  pointwise
  rw [codes4_apply X0 X2 h0 h2]
  congr 2
  exact Fin.ext (by simp; omega)

theorem nat_apply (X0 X2 : Vec Ideal S2x1x8x128 .bf16) (h0 : ∀ r, Good (rw2 X0 r)) (h2 : ∀ r, Good (rw2 X2 r))
    (x : S16x2x128.Idx) :
    k0_pay105 (k0_pay25 (k0_pay19 X0) (k0_pay22 (k0_pay19 X0) (k0_pay20 X0) (k0_pay21 X0)))
      (k0_pay26 (k0_pay18 X0) (k0_pay23 (k0_pay19 X0) (k0_pay22 (k0_pay19 X0) (k0_pay20 X0) (k0_pay21 X0)))) (k0_pay27 X2)
      (k0_pay34 (k0_pay28 X2) (k0_pay32 (k0_pay28 X2) (k0_pay29 X2) (k0_pay30 X2) k0_pay31) k0_pay33) x =
      (let r := rw4 X0 X2 ⟨2 * (x 0).val + (x 1).val, by have h0 : (x 0).val < 16 := (x 0).isLt; have h2 : (x 1).val < 2 := (x 1).isLt; omega⟩
       cd r (x 2) * sc r) := by
  unfold k0_pay25
  rw [word_a, word_b, pay26_eq]
  have e : k0_pay105 (bitcastToFloat .bf16 (bitcast S16x128 16 (qw X0) bitcasts_S8x128_w32_S16x128_w16)) (clipV (k0_pay18 X0) (qw X0)) (k0_pay27 X2) (qw X2) =
      interleaveRows S16x2x128 (shapeCast S16x1x128 (rowsOfParity 0 S16x128 (mulf (extf .bf16 (truncf .fp8e5m2 (codes4 X0 X2) bitsLt_fp8e5m2_bf16) bitsLt_fp8e5m2_bf16) (scales4 X0 X2)) bitcasts_S32x128_w16_S16x128_w32) shapeCasts_S16x128_S16x1x128)
        (shapeCast S16x1x128 (rowsOfParity 1 S16x128 (mulf (extf .bf16 (truncf .fp8e5m2 (codes4 X0 X2) bitsLt_fp8e5m2_bf16) bitsLt_fp8e5m2_bf16) (scales4 X0 X2)) bitcasts_S32x128_w16_S16x128_w32) shapeCasts_S16x128_S16x1x128) bitcasts_S16x2x128_w16_S16x1x128_w32 := rfl
  rw [e]
  generalize hc : codes4 X0 X2 = C
  generalize hs : scales4 X0 X2 = S
  obtain ⟨x0, x1, x2, rfl⟩ : ∃ (a : Fin 16) (b : Fin 2) (c : Fin 128), x = ix3 a b c := ⟨x 0, x 1, x 2, eq_ix3 x⟩
  pointwise
  subst hc hs
  simp only [codes4_apply X0 X2 h0 h2, scales4_apply X0 X2 h0 h2]
  have h1 : x1.val < 2 := x1.isLt
  obtain h1 | h1 : x1.val = 0 ∨ x1.val = 1 := by omega
  · simp only [h1, Nat.zero_mod, ↓reduceIte, Nat.add_zero]
  · simp only [h1, Nat.one_mod, Nat.one_ne_zero, ↓reduceIte]

theorem pay100_apply (s : Fin 8) (l : Fin 1024) : k0_pay100 (ix2 s l) = BitVec.ofNat 32 l.val - BitVec.ofNat 32 (s.val / 4) := by
  have h : ∀ s : Fin 8, k0_pay100 (ix2 s (0 : Fin 1024)) = 0#32 - BitVec.ofNat 32 (s.val / 4) := by decide +kernel
  have h' : ∀ l : Fin 1024, k0_pay100 (ix2 s l) = BitVec.ofNat 32 l.val - (0#32 - k0_pay100 (ix2 s (0 : Fin 1024))) := by
    intro l
    pointwise [k0_pay100]
    show (_ - _ : BitVec 32) = _ - (0#32 - (0#32 - _))
    simp only [BitVec.zero_sub, BitVec.neg_neg]
  rw [h', h]; simp

theorem lane_iff (s : Fin 8) (l : Fin 1024) (k : ℕ) (hk : k < 1024) :
    (BitVec.ofNat 32 l.val - BitVec.ofNat 32 (s.val / 4) = BitVec.ofNat 32 k) ↔ l.val = k + s.val / 4 := by
  have hl := l.isLt; have hs := s.isLt
  constructor
  · intro h
    have := congrArg BitVec.toNat h
    rw [BitVec.toNat_sub, BitVec.toNat_ofNat, BitVec.toNat_ofNat, BitVec.toNat_ofNat] at this
    omega
  · intro h
    apply BitVec.eq_of_toNat_eq
    rw [BitVec.toNat_sub, BitVec.toNat_ofNat, BitVec.toNat_ofNat, BitVec.toNat_ofNat]; omega

theorem cat8 (w : IVec S8x128 32) (u : Fin 8 → BitVec 32) (hw : ∀ s d, w (ix2 s d) = u s) (s : Fin 8) (l : Fin 1024) :
    concatenate S8x1024 1 [⟨S8x128, w⟩, ⟨S8x128, w⟩, ⟨S8x128, w⟩, ⟨S8x128, w⟩, ⟨S8x128, w⟩, ⟨S8x128, w⟩, ⟨S8x128, w⟩, ⟨S8x128, w⟩] concatenates_S8x128_S8x128_S8x128_S8x128_S8x128_S8x128_S8x128_S8x128_S8x1024_d1 (ix2 s l) = u s := by
  pointwise
  simp only [hw, dite_eq_ite, ite_self]

/-- Both words of one trip written at their lanes. -/
theorem carry_apply (k : ℕ) (hk : k < 256) (acc : IVec S8x1024 32) (X0 X2 : Vec Ideal S2x1x8x128 .bf16) (u0 u2 : Fin 8 → BitVec 32)
    (h0 : ∀ s d, qw X0 (ix2 s d) = u0 s) (h2 : ∀ s d, qw X2 (ix2 s d) = u2 s) (v : BitVec 32) (hv : v = BitVec.ofNat 32 (4 * k)) (s : Fin 8) (l : Fin 1024) :
    k0_pay102 v (k0_pay24 k0_pay100 acc v (k0_pay19 X0) (k0_pay22 (k0_pay19 X0) (k0_pay20 X0) (k0_pay21 X0)))
      (k0_pay34 (k0_pay28 X2) (k0_pay32 (k0_pay28 X2) (k0_pay29 X2) (k0_pay30 X2) k0_pay31) k0_pay33) (ix2 s l) =
      if l.val = 4 * k + 2 + s.val / 4 then u2 s else if l.val = 4 * k + s.val / 4 then u0 s else acc (ix2 s l) := by
  unfold k0_pay102 k0_pay24
  rw [word_a, word_b]
  show Scalar.select (IntOp.cmpi .eq (k0_pay100 (ix2 s l)) (v + 2#32)) _ (Scalar.select (IntOp.cmpi .eq (k0_pay100 (ix2 s l)) (v + 0#32)) _ _) = _
  rw [cat8 _ u2 h2, cat8 _ u0 h0, pay100_apply, hv]
  have e2 : BitVec.ofNat 32 (4 * k) + 2#32 = BitVec.ofNat 32 (4 * k + 2) := by rw [BitVec.ofNat_add]
  have e0 : BitVec.ofNat 32 (4 * k) + 0#32 = BitVec.ofNat 32 (4 * k) := by simp
  rw [e2, e0]
  have c : ∀ (n : ℕ) (hn : n < 1024) (a b : BitVec 32), Scalar.select (IntOp.cmpi .eq (BitVec.ofNat 32 l.val - BitVec.ofNat 32 (s.val / 4)) (BitVec.ofNat 32 n)) a b =
      if l.val = n + s.val / 4 then a else b := by
    intro n hn a b
    by_cases h : l.val = n + s.val / 4
    · rw [if_pos h, (lane_iff s l n hn).mpr h]; simp [IntOp.cmpi, Scalar.select]
    · rw [if_neg h]
      have : ¬ (BitVec.ofNat 32 l.val - BitVec.ofNat 32 (s.val / 4) = BitVec.ofNat 32 n) := fun h' => h ((lane_iff s l n hn).mp h')
      simp [IntOp.cmpi, Scalar.select, beq_eq_false_iff_ne.mpr this]
  rw [c _ (by omega), c _ (by omega)]

theorem rows_apply (acc : IVec S8x1024 32) (h : Fin 8) (t : Fin 1024) (a b : ℕ)
    (ha : acc (ix2 ⟨h.val / 2, by omega⟩ t) ||| acc (ix2 ⟨4 + h.val / 2, by omega⟩ t) = BitVec.ofNat 16 b ++ BitVec.ofNat 16 a) :
    k0_pay106 (F := Ideal) acc (ix2 h t) = Ideal.ofBits .bf16 (BitVec.ofNat 16 (if h.val % 2 = 0 then a else b)) := by
  pointwise [k0_pay106]
  refine congrArg (Ideal.ofBits .bf16) ?_
  rw [bitcast_32_16]
  have er : Shape.row S8x1024 (ix2 h t) = h.val := rfl
  have e : ∀ (k : ℕ) (hk : k < 4) hp, Shape.Bitcasts.srcIdx bitcasts_S4x1024_w32_S8x1024_w16 (ix2 h t) k hp = ix2 ⟨k, hk⟩ t := by
    intro k hk hp
    funext a
    apply Fin.ext
    match a with
    | 0 => exact Shape.Bitcasts.srcIdx_row _ _ _ _ 0 rfl
    | 1 => exact Shape.Bitcasts.srcIdx_other _ _ _ _ 1 (by decide)
  rw [e _ (by rw [er]; omega)]
  simp only [er]
  have e2 : ori (extractStridedSlice S4x1024 ![0, 0] acc slices_S8x1024_o0_0_S4x1024) (extractStridedSlice S4x1024 ![4, 0] acc slices_S8x1024_o4_0_S4x1024) (ix2 ⟨h.val / 2, by omega⟩ t)
      = acc (ix2 ⟨h.val / 2, by omega⟩ t) ||| acc (ix2 ⟨4 + h.val / 2, by omega⟩ t) := by
    pointwise
    rfl
  rw [e2, ha]
  rcases Nat.mod_two_eq_zero_or_one h.val with h2 | h2
  · rw [h2, if_pos rfl]; exact half0 _ _
  · rw [h2, if_neg (by decide)]; exact half1 _ _

/-- What one trip stores as codes, as widened rows, and the scale words that it carries on. -/
def codesP (X0 X2 : Vec Ideal S2x1x8x128 .bf16) : FVec Ideal S4x1x8x128 .fp8e5m2 :=
  k0_pay104 (k0_pay26 (k0_pay18 X0) (k0_pay23 (k0_pay19 X0) (k0_pay22 (k0_pay19 X0) (k0_pay20 X0) (k0_pay21 X0)))) (k0_pay27 X2)
      (k0_pay34 (k0_pay28 X2) (k0_pay32 (k0_pay28 X2) (k0_pay29 X2) (k0_pay30 X2) k0_pay31) k0_pay33)
def natP (X0 X2 : Vec Ideal S2x1x8x128 .bf16) : Vec Ideal S16x2x128 .bf16 :=
  k0_pay105 (k0_pay25 (k0_pay19 X0) (k0_pay22 (k0_pay19 X0) (k0_pay20 X0) (k0_pay21 X0)))
      (k0_pay26 (k0_pay18 X0) (k0_pay23 (k0_pay19 X0) (k0_pay22 (k0_pay19 X0) (k0_pay20 X0) (k0_pay21 X0)))) (k0_pay27 X2)
      (k0_pay34 (k0_pay28 X2) (k0_pay32 (k0_pay28 X2) (k0_pay29 X2) (k0_pay30 X2) k0_pay31) k0_pay33)
def carryP (v : BitVec 32) (acc : IVec S8x1024 32) (X0 X2 : Vec Ideal S2x1x8x128 .bf16) : IVec S8x1024 32 :=
  k0_pay102 v (k0_pay24 k0_pay100 acc v (k0_pay19 X0) (k0_pay22 (k0_pay19 X0) (k0_pay20 X0) (k0_pay21 X0)))
      (k0_pay34 (k0_pay28 X2) (k0_pay32 (k0_pay28 X2) (k0_pay29 X2) (k0_pay30 X2) k0_pay31) k0_pay33)

/-- The row of one token and head. -/
def tokRow (X : S1024x1x8x128.Idx → EReal) (t h : ℕ) : Fin 128 → EReal := fun d =>
  X (ix4 ⟨t % 1024, Nat.mod_lt _ (by norm_num)⟩ 0 ⟨h % 8, Nat.mod_lt _ (by norm_num)⟩ d)

/-- All codes, and all widened rows, of a block. -/
def codesG (X : S1024x1x8x128.Idx → EReal) : S1024x1x8x128.Idx → EReal := fun y => cd (tokRow X (y 0).val (y 2).val) (y 3)
def natG (X : S1024x1x8x128.Idx → EReal) : S4096x2x128.Idx → EReal := fun y =>
  cd (tokRow X ((y 0).val / 4) (2 * ((y 0).val % 4) + (y 1).val)) (y 2) * sc (tokRow X ((y 0).val / 4) (2 * ((y 0).val % 4) + (y 1).val))

variable {X : S1024x1x8x128.Idx → EReal} {X0 X2 : Vec Ideal S2x1x8x128 .bf16} {k : ℕ} (hk : k < 256) (hG : ∀ t h, Good (tokRow X t h))
  (h0 : ∀ x : S2x1x8x128.Idx, X0 x = tokRow X (4 * k + (x 0).val) (x 2).val (x 3))
  (h2 : ∀ x : S2x1x8x128.Idx, X2 x = tokRow X (4 * k + 2 + (x 0).val) (x 2).val (x 3))

include h0 in
theorem rows0 (r : Fin 16) : rw2 X0 r = tokRow X (4 * k + r.val / 8) (r.val % 8) := funext fun d => h0 _
include h2 in
theorem rows2 (r : Fin 16) : rw2 X2 r = tokRow X (4 * k + 2 + r.val / 8) (r.val % 8) := funext fun d => h2 _
include h0 h2 in
theorem rows4 (r : Fin 32) : rw4 X0 X2 r = tokRow X (4 * k + r.val / 8) (r.val % 8) := by
  have hr := r.isLt
  unfold rw4
  split
  · exact rows0 h0 _
  · rw [rows2 h2]
    show tokRow X (4 * k + 2 + (r.val - 16) / 8) ((r.val - 16) % 8) = _
    rw [show 4 * k + 2 + (r.val - 16) / 8 = 4 * k + r.val / 8 by omega, show (r.val - 16) % 8 = r.val % 8 by omega]

include hG h0 h2 in
theorem codes_trip (x : S4x1x8x128.Idx) (y : S1024x1x8x128.Idx) (y0 : (y 0).val = 4 * k + (x 0).val) (y2 : (y 2).val = (x 2).val)
    (y3 : (y 3).val = (x 3).val) : codesP X0 X2 x = codesG X y := by
  unfold codesP
  rw [codes_apply X0 X2 (fun r => by rw [rows0 h0]; exact hG _ _) (fun r => by rw [rows2 h2]; exact hG _ _), rows4 h0 h2]
  have x2 : (x 2).val < 8 := (x 2).isLt
  unfold codesG
  rw [y0, y2]
  show cd (tokRow X (4 * k + (8 * (x 0).val + (x 2).val) / 8) ((8 * (x 0).val + (x 2).val) % 8)) (x 3) = _
  rw [show (8 * (x 0).val + (x 2).val) / 8 = (x 0).val by omega, show (8 * (x 0).val + (x 2).val) % 8 = (x 2).val by omega]
  exact congrArg _ (Fin.ext y3.symm)

include hG h0 h2 in
theorem nat_trip (x : S16x2x128.Idx) (y : S4096x2x128.Idx) (y0 : (y 0).val = 16 * k + (x 0).val) (y1 : (y 1).val = (x 1).val)
    (y2 : (y 2).val = (x 2).val) : natP X0 X2 x = natG X y := by
  unfold natP
  rw [nat_apply X0 X2 (fun r => by rw [rows0 h0]; exact hG _ _) (fun r => by rw [rows2 h2]; exact hG _ _)]
  dsimp only
  rw [rows4 h0 h2]
  have x1 : (x 1).val < 2 := (x 1).isLt
  unfold natG
  rw [y0, y1]
  dsimp only
  rw [show 4 * k + (2 * (x 0).val + (x 1).val) / 8 = (16 * k + (x 0).val) / 4 by omega,
    show (2 * (x 0).val + (x 1).val) % 8 = 2 * ((16 * k + (x 0).val) % 4) + (x 1).val by omega,
    show x 2 = y 2 from Fin.ext y2.symm]

/-- The scale words carried before trip `n`. -/
def Carried (X : S1024x1x8x128.Idx → EReal) (n : ℕ) (acc : IVec S8x1024 32) : Prop :=
  ∀ (s : Fin 8) (l : Fin 1024), acc (ix2 s l) =
    if s.val / 4 ≤ l.val ∧ (l.val - s.val / 4) % 2 = 0 ∧ l.val - s.val / 4 < 4 * n then
      word (tokRow X l.val (2 * (s.val % 4))) (tokRow X l.val (2 * (s.val % 4) + 1)) else 0#32

include hk hG h0 h2 in
theorem carry_trip (acc : IVec S8x1024 32) (ha : Carried X k acc) (v : BitVec 32) (hv : v = BitVec.ofNat 32 (4 * k)) :
    Carried X (k + 1) (carryP v acc X0 X2) := by
  intro s l
  have hs := s.isLt
  unfold carryP
  rw [carry_apply k hk acc X0 X2 _ _ (qw_apply X0 (fun r => by rw [rows0 h0]; exact hG _ _)) (qw_apply X2 (fun r => by rw [rows2 h2]; exact hG _ _)) v hv,
    rows0 h0, rows0 h0, rows2 h2, rows2 h2, ha s l]
  dsimp only
  rw [show 2 * s.val / 8 = s.val / 4 by omega, show (2 * s.val + 1) / 8 = s.val / 4 by omega, show 2 * s.val % 8 = 2 * (s.val % 4) by omega,
    show (2 * s.val + 1) % 8 = 2 * (s.val % 4) + 1 by omega]
  by_cases c2 : l.val = 4 * k + 2 + s.val / 4
  · rw [if_pos c2, if_pos (by omega), c2]
  · rw [if_neg c2]
    by_cases c0 : l.val = 4 * k + s.val / 4
    · rw [if_pos c0, if_pos (by omega), c0]
    · rw [if_neg c0]
      exact if_congr (by omega) rfl rfl

include hG in
theorem carried_all (acc : IVec S8x1024 32) (ha : Carried X 256 acc) (h : Fin 8) (t : Fin 1024) :
    k0_pay106 (F := Ideal) acc (ix2 h t) = sc (tokRow X t.val h.val) := by
  have hh := h.isLt
  have ht := t.isLt
  rw [rows_apply acc h t (scalePat (pat (tokRow X t.val (2 * (h.val / 2))))) (scalePat (pat (tokRow X t.val (2 * (h.val / 2) + 1))))]
  · unfold sc kScale
    refine congrArg (fun n => Ideal.ofBits .bf16 (BitVec.ofNat 16 n)) ?_
    rcases Nat.mod_two_eq_zero_or_one h.val with h2 | h2
    · rw [if_pos h2, show 2 * (h.val / 2) = h.val by omega]; rfl
    · rw [if_neg (by omega), show 2 * (h.val / 2) + 1 = h.val by omega]; rfl
  · rw [ha, ha]
    dsimp only
    rw [show h.val / 2 / 4 = 0 by omega, show (4 + h.val / 2) / 4 = 1 by omega, show h.val / 2 % 4 = h.val / 2 by omega, show (4 + h.val / 2) % 4 = h.val / 2 by omega]
    rcases Nat.mod_two_eq_zero_or_one t.val with h2 | h2
    · rw [if_pos (by omega), if_neg (by omega), BitVec.or_zero]; rfl
    · rw [if_neg (by omega), if_pos (by omega), BitVec.zero_or]; rfl

end Cert.KernelIdeal.Gen
end
-- ==== Proof.Ideal.Quantise.lean ====
/- The quantising loops: codes, widened rows and scale words, trip by trip and whole. -/
module

public import proofs.«01_k».proof.Proof.Gen.KernelIdeal.Loops
public import proofs.«01_k».proof.Proof.Fills
public import proofs.«01_k».proof.Proof.Quant
public import Idealize.ShloMosaic.Lib.Pointwise

@[expose] public section

set_option maxRecDepth 8192

noncomputable section

namespace Cert.KernelIdeal.Gen

open Idealize.ShloMosaic Idealize.ShloMosaic.TcCoe Idealize.ShloMosaic.Tactic Cert.MlaFill Cert.MlaQuant

/-- What one trip does to the carried words and to both lists of writes. -/
def TripQ (X : S1024x1x8x128.Idx → EReal) (k : ℕ) (a b : IVec S8x1024 32 × List (View.Piece (Elt Ideal) S1024x1x8x128 .fp8e5m2) × List (View.Piece (Elt Ideal) S4096x2x128 .bf16)) : Prop :=
  ∃ (v : BitVec 32) (o : Fin 4 → ℕ) (o' : Fin 3 → ℕ) (i : _) (i' : _) (X0 X2 : Vec Ideal S2x1x8x128 .bf16), v = BitVec.ofNat 32 (4 * k) ∧
    o = ![4 * k, 0, 0, 0] ∧ o' = ![16 * k, 0, 0] ∧
    (∀ x : S2x1x8x128.Idx, X0 x = tokRow X (4 * k + (x 0).val) (x 2).val (x 3)) ∧
    (∀ x : S2x1x8x128.Idx, X2 x = tokRow X (4 * k + 2 + (x 0).val) (x 2).val (x 3)) ∧
    b = (carryP v a.1 X0 X2, ⟨Rect.unit (s := S1024x1x8x128) o ![4, 1, 8, 128] i, codesP X0 X2⟩ :: a.2.1,
      ⟨Rect.unit (s := S4096x2x128) o' ![16, 2, 128] i', natP X0 X2⟩ :: a.2.2)

theorem quant_fold (X : S1024x1x8x128.Idx → EReal) (hG : ∀ t h, Good (tokRow X t h))
    (st : ℕ → IVec S8x1024 32 × List (View.Piece (Elt Ideal) S1024x1x8x128 .fp8e5m2) × List (View.Piece (Elt Ideal) S4096x2x128 .bf16))
    (h0 : st 0 = (fun _ => 0#32, [], [])) (hs : ∀ k, k < 256 → TripQ X k (st k) (st (k + 1))) :
    ∀ n, n ≤ 256 → Carried X n (st n).1 ∧ Fills (st n).2.1 (fun y => (y 0).val < 4 * n) (codesG X) ∧
      Fills (st n).2.2 (fun y => (y 0).val < 16 * n) (natG X) := by
  intro n
  induction n with
  | zero =>
    intro _
    rw [h0]
    refine ⟨fun s l => ?_, Fills.nil _ fun y h => by omega, Fills.nil _ fun y h => by omega⟩
    rw [if_neg (by omega)]
  | succ n ih =>
    intro hn
    obtain ⟨hc, hl, hr⟩ := ih (by omega)
    obtain ⟨v, o, o', i, i', X0, X2, hv, ho, ho', e0, e2, e⟩ := hs n (by omega)
    subst ho ho'
    rw [e]
    refine ⟨carry_trip (by omega) hG e0 e2 _ hc v hv, ?_, ?_⟩
    · refine Fills.cons (P := fun y => 4 * n ≤ (y 0).val ∧ (y 0).val < 4 * n + 4) i _ (fun x y h => ?_) (fun y hy a => ?_) hl fun y hy => ?_
      · refine codes_trip hG e0 e2 x y (h 0) ?_ ?_
        · have := h 2; simpa using this
        · have := h 3; simpa using this
      · have y1 : (y 1).val < 1 := (y 1).isLt
        have y2 : (y 2).val < 8 := (y 2).isLt
        have y3 : (y 3).val < 128 := (y 3).isLt
        match a with
        | 0 => exact hy
        | 1 => show 0 ≤ (y 1).val ∧ (y 1).val < 0 + 1; omega
        | 2 => show 0 ≤ (y 2).val ∧ (y 2).val < 0 + 8; omega
        | 3 => show 0 ≤ (y 3).val ∧ (y 3).val < 0 + 128; omega
      · dsimp only at hy ⊢; omega
    · refine Fills.cons (P := fun y => 16 * n ≤ (y 0).val ∧ (y 0).val < 16 * n + 16) i' _ (fun x y h => ?_) (fun y hy a => ?_) hr fun y hy => ?_
      · refine nat_trip hG e0 e2 x y (h 0) ?_ ?_
        · have := h 1; simpa using this
        · have := h 2; simpa using this
      · have y1 : (y 1).val < 2 := (y 1).isLt
        have y2 : (y 2).val < 128 := (y 2).isLt
        match a with
        | 0 => exact hy
        | 1 => show 0 ≤ (y 1).val ∧ (y 1).val < 0 + 2; omega
        | 2 => show 0 ≤ (y 2).val ∧ (y 2).val < 0 + 128; omega
      · dsimp only at hy ⊢; omega

/-- What a whole quantising loop leaves. -/
def Quantised (X : S1024x1x8x128.Idx → EReal) (r : IVec S8x1024 32 × List (View.Piece (Elt Ideal) S1024x1x8x128 .fp8e5m2) × List (View.Piece (Elt Ideal) S4096x2x128 .bf16)) : Prop :=
  (∀ h t, k0_pay106 (F := Ideal) r.1 (ix2 h t) = sc (tokRow X t.val h.val)) ∧ Fills r.2.1 (fun _ => True) (codesG X) ∧ Fills r.2.2 (fun _ => True) (natG X)

theorem quantised (X : S1024x1x8x128.Idx → EReal) (hG : ∀ t h, Good (tokRow X t h))
    (st : ℕ → IVec S8x1024 32 × List (View.Piece (Elt Ideal) S1024x1x8x128 .fp8e5m2) × List (View.Piece (Elt Ideal) S4096x2x128 .bf16))
    (h0 : st 0 = (fun _ => 0#32, [], [])) (hs : ∀ k, k < 256 → TripQ X k (st k) (st (k + 1))) : Quantised X (st 256) := by
  obtain ⟨hc, hl, hr⟩ := quant_fold X hG st h0 hs 256 le_rfl
  refine ⟨carried_all hG _ hc, hl.mono fun y _ => ?_, hr.mono fun y _ => ?_⟩
  · have : (y 0).val < 1024 := (y 0).isLt; omega
  · have : (y 0).val < 4096 := (y 0).isLt; omega

theorem block_row (Y : S1024x1x8x128.Idx → EReal) (k c : ℕ) (hk : 4 * k + c + 1 < 1024) (o : Fin 4 → ℕ) (ho : o = ![4 * k + c, 0, 0, 0]) (i : _)
    (x : S2x1x8x128.Idx) : Y ((Rect.unit (s := S1024x1x8x128) o ![2, 1, 8, 128] i).toLoadRect.idx x) = tokRow Y (4 * k + c + (x 0).val) (x 2).val (x 3) := by
  subst ho
  have x0 : (x 0).val < 2 := (x 0).isLt
  have x1 : (x 1).val < 1 := (x 1).isLt
  have x2 : (x 2).val < 8 := (x 2).isLt
  refine congrArg Y (funext fun a => Fin.ext ?_)
  match a with
  | 0 => show 4 * k + c + 1 * (x 0).val = (4 * k + c + (x 0).val) % 1024; omega
  | 1 => show 0 + 1 * (x 1).val = 0; omega
  | 2 => show 0 + 1 * (x 2).val = (x 2).val % 8; omega
  | 3 => show 0 + 1 * (x 3).val = (x 3).val; omega

theorem inbC (k : ℕ) (hk : k < 256) : ∀ a, (![4 * k, 0, 0, 0] : Fin 4 → ℕ) a + (![4, 1, 8, 128] : Fin 4 → ℕ) a ≤ S1024x1x8x128.size a := by
  intro a
  match a with
  | 0 => show 4 * k + 4 ≤ 1024; omega
  | 1 => exact Nat.le_refl _
  | 2 => exact Nat.le_refl _
  | 3 => exact Nat.le_refl _

theorem inbN (k : ℕ) (hk : k < 256) : ∀ a, (![16 * k, 0, 0] : Fin 3 → ℕ) a + (![16, 2, 128] : Fin 3 → ℕ) a ≤ S4096x2x128.size a := by
  intro a
  match a with
  | 0 => show 16 * k + 16 ≤ 4096; omega
  | 1 => exact Nat.le_refl _
  | 2 => exact Nat.le_refl _

theorem inbX (k c : ℕ) (hk : 4 * k + c + 1 < 1024) : ∀ a, (![4 * k + c, 0, 0, 0] : Fin 4 → ℕ) a + (![2, 1, 8, 128] : Fin 4 → ℕ) a ≤ S1024x1x8x128.size a := by
  intro a
  match a with
  | 0 => show 4 * k + c + 2 ≤ 1024; omega
  | 1 => exact Nat.le_refl _
  | 2 => exact Nat.le_refl _
  | 3 => exact Nat.le_refl _

/-- The carried words of one trip, with the lane numbers given. -/
def carryL (L : IVec S8x1024 32) (v : BitVec 32) (acc : IVec S8x1024 32) (X0 X2 : Vec Ideal S2x1x8x128 .bf16) : IVec S8x1024 32 :=
  let w := k0_pay34 (k0_pay28 X2) (k0_pay32 (k0_pay28 X2) (k0_pay29 X2) (k0_pay30 X2) k0_pay31) k0_pay33
  select (cmpi .eq L (broadcast S8x1024 (Scalar.addi v 2#32)))
    (concatenate S8x1024 1 [⟨S8x128, w⟩, ⟨S8x128, w⟩, ⟨S8x128, w⟩, ⟨S8x128, w⟩, ⟨S8x128, w⟩, ⟨S8x128, w⟩, ⟨S8x128, w⟩, ⟨S8x128, w⟩] concatenates_S8x128_S8x128_S8x128_S8x128_S8x128_S8x128_S8x128_S8x128_S8x1024_d1)
    (k0_pay24 L acc v (k0_pay19 X0) (k0_pay22 (k0_pay19 X0) (k0_pay20 X0) (k0_pay21 X0)))

theorem carryP_L (v : BitVec 32) (acc : IVec S8x1024 32) (X0 X2 : Vec Ideal S2x1x8x128 .bf16) : carryP v acc X0 X2 = carryL k0_pay100 v acc X0 X2 := rfl

variable (𝒱 : Variants) (c : Dev nD) (bd : Option 𝒱.V) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (p0 : BitVec 32)

theorem qo_t1 : ∀ k : Fin k0_t1_loop.trips, k0_off1 k 0#32 = ![4 * k.val + 0, 0, 0, 0] ∧ k0_off1 k 2#32 = ![4 * k.val + 2, 0, 0, 0] ∧
    k0_off2 k = ![4 * k.val, 0, 0, 0] ∧ k0_off3 k = ![16 * k.val, 0, 0] ∧ trip_k0_t1.sl.v266 k = BitVec.ofNat 32 (4 * k.val) := by decide +kernel

set_option pp.maxSteps 120 in
theorem quantised_t1 (k0_h1 : k0_cond1 i = 1#1) (v91_hi : FVec Ideal S2048x128 .bf16) (v94_lo : FVec Ideal S2048x128 .bf16) (X_arg1 : BufTy.Contents (Elt Ideal) p1.view.ty) (init : IVec S8x1024 32) (hi : init = fun _ => 0#32) (hG : ∀ t h, Good (tokRow (p1.view.read (Elt Ideal) X_arg1) t h)) :
    Quantised (p1.view.read (Elt Ideal) X_arg1) (st_k0_t1 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h1 v91_hi v94_lo X_arg1 init k0_t1_loop.trips) := by
  refine quantised _ hG (st_k0_t1 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h1 v91_hi v94_lo X_arg1 init) (by rw [hi]; rfl) fun k hk => ?_
  obtain ⟨o0, o2, oc, on, ov⟩ := qo_t1 ⟨k, hk⟩
  have e := st_k0_t1_succ (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h1 v91_hi v94_lo X_arg1 init ⟨k, hk⟩
  unfold TripQ
  refine ⟨_, _, _, by rw [oc]; exact inbC k hk, by rw [on]; exact inbN k hk,
    View.readAt (Elt Ideal) p1.view (Rect.unit (s := S1024x1x8x128) (k0_off1 ⟨k, hk⟩ 0#32) ![2, 1, 8, 128] (by rw [o0]; exact inbX k 0 (by omega))).toLoadRect X_arg1,
    View.readAt (Elt Ideal) p1.view (Rect.unit (s := S1024x1x8x128) (k0_off1 ⟨k, hk⟩ 2#32) ![2, 1, 8, 128] (by rw [o2]; exact inbX k 2 (by omega))).toLoadRect X_arg1,
    ov, oc, on, ?_, ?_, e.trans ?_⟩
  · intro x; exact block_row _ k 0 (by omega) _ o0 _ x
  · intro x; exact block_row _ k 2 (by omega) _ o2 _ x
  · unfold tripR_k0_t1 tripL_k0_t1 trip_k0_t1
    rfl

theorem qo_t8 : ∀ k : Fin k0_t8_loop.trips, k0_off36 k 0#32 = ![4 * k.val + 0, 0, 0, 0] ∧ k0_off36 k 2#32 = ![4 * k.val + 2, 0, 0, 0] ∧
    k0_off37 k = ![4 * k.val, 0, 0, 0] ∧ k0_off38 k = ![16 * k.val, 0, 0] ∧ trip_k0_t8.sl.v266 k = BitVec.ofNat 32 (4 * k.val) := by decide +kernel

set_option pp.maxSteps 120 in
theorem quantised_t8 (k0_h1 : k0_cond1 i = 1#1) (v164 : IVec S8x1024 32) (v165 : IVec S8x1024 32) (c4_i32_90 : BitVec 32) (v167 : IVec S8x1024 32) (v170 : IVec S8x1024 32) (v172 : IVec S8x1024 1) (X_arg2 : BufTy.Contents (Elt Ideal) p2.view.ty) (init : IVec S8x1024 32) (hi : init = fun _ => 0#32) (hL : k0_pay125 v164 v165 c4_i32_90 v167 v170 v172 = k0_pay100) (hG : ∀ t h, Good (tokRow (p2.view.read (Elt Ideal) X_arg2) t h)) :
    Quantised (p2.view.read (Elt Ideal) X_arg2) (st_k0_t8 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v164 v165 c4_i32_90 v167 v170 v172 X_arg2 init k0_t8_loop.trips) := by
  refine quantised _ hG (st_k0_t8 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v164 v165 c4_i32_90 v167 v170 v172 X_arg2 init) (by rw [hi]; rfl) fun k hk => ?_
  obtain ⟨o0, o2, oc, on, ov⟩ := qo_t8 ⟨k, hk⟩
  have e := st_k0_t8_succ (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v164 v165 c4_i32_90 v167 v170 v172 X_arg2 init ⟨k, hk⟩
  unfold TripQ
  refine ⟨_, _, _, by rw [oc]; exact inbC k hk, by rw [on]; exact inbN k hk,
    View.readAt (Elt Ideal) p2.view (Rect.unit (s := S1024x1x8x128) (k0_off36 ⟨k, hk⟩ 0#32) ![2, 1, 8, 128] (by rw [o0]; exact inbX k 0 (by omega))).toLoadRect X_arg2,
    View.readAt (Elt Ideal) p2.view (Rect.unit (s := S1024x1x8x128) (k0_off36 ⟨k, hk⟩ 2#32) ![2, 1, 8, 128] (by rw [o2]; exact inbX k 2 (by omega))).toLoadRect X_arg2,
    ov, oc, on, ?_, ?_, e.trans ?_⟩
  · intro x; exact block_row _ k 0 (by omega) _ o0 _ x
  · intro x; exact block_row _ k 2 (by omega) _ o2 _ x
  · unfold tripR_k0_t8 tripL_k0_t8 trip_k0_t8
    rw [carryP_L, ← hL]
    rfl

theorem qo_t15 : ∀ k : Fin k0_t15_loop.trips, k0_off71 k 0#32 = ![4 * k.val + 0, 0, 0, 0] ∧ k0_off71 k 2#32 = ![4 * k.val + 2, 0, 0, 0] ∧
    k0_off72 k = ![4 * k.val, 0, 0, 0] ∧ k0_off73 k = ![16 * k.val, 0, 0] ∧ trip_k0_t15.sl.v255 k = BitVec.ofNat 32 (4 * k.val) := by decide +kernel

set_option pp.maxSteps 120 in
theorem quantised_t15 (k0_h2 : k0_cond2 i = 1#1) (X_arg1 : BufTy.Contents (Elt Ideal) p1.view.ty) (init : IVec S8x1024 32) (hi : init = fun _ => 0#32) (hG : ∀ t h, Good (tokRow (p1.view.read (Elt Ideal) X_arg1) t h)) :
    Quantised (p1.view.read (Elt Ideal) X_arg1) (st_k0_t15 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 X_arg1 init k0_t15_loop.trips) := by
  refine quantised _ hG (st_k0_t15 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 X_arg1 init) (by rw [hi]; rfl) fun k hk => ?_
  obtain ⟨o0, o2, oc, on, ov⟩ := qo_t15 ⟨k, hk⟩
  have e := st_k0_t15_succ (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 X_arg1 init ⟨k, hk⟩
  unfold TripQ
  refine ⟨_, _, _, by rw [oc]; exact inbC k hk, by rw [on]; exact inbN k hk,
    View.readAt (Elt Ideal) p1.view (Rect.unit (s := S1024x1x8x128) (k0_off71 ⟨k, hk⟩ 0#32) ![2, 1, 8, 128] (by rw [o0]; exact inbX k 0 (by omega))).toLoadRect X_arg1,
    View.readAt (Elt Ideal) p1.view (Rect.unit (s := S1024x1x8x128) (k0_off71 ⟨k, hk⟩ 2#32) ![2, 1, 8, 128] (by rw [o2]; exact inbX k 2 (by omega))).toLoadRect X_arg1,
    ov, oc, on, ?_, ?_, e.trans ?_⟩
  · intro x; exact block_row _ k 0 (by omega) _ o0 _ x
  · intro x; exact block_row _ k 2 (by omega) _ o2 _ x
  · unfold tripR_k0_t15 tripL_k0_t15 trip_k0_t15
    rfl

theorem qo_t22 : ∀ k : Fin k0_t22_loop.trips, k0_off106 k 0#32 = ![4 * k.val + 0, 0, 0, 0] ∧ k0_off106 k 2#32 = ![4 * k.val + 2, 0, 0, 0] ∧
    k0_off107 k = ![4 * k.val, 0, 0, 0] ∧ k0_off108 k = ![16 * k.val, 0, 0] ∧ trip_k0_t22.sl.v255 k = BitVec.ofNat 32 (4 * k.val) := by decide +kernel

set_option pp.maxSteps 120 in
theorem quantised_t22 (k0_h2 : k0_cond2 i = 1#1) (v153 : IVec S8x1024 32) (v154 : IVec S8x1024 32) (c4_i32_107 : BitVec 32) (v156 : IVec S8x1024 32) (v163 : IVec S8x1024 32) (X_arg2 : BufTy.Contents (Elt Ideal) p2.view.ty) (init : IVec S8x1024 32) (hi : init = fun _ => 0#32) (hL : k0_pay258 v153 v154 c4_i32_107 v156 v163 = k0_pay100) (hG : ∀ t h, Good (tokRow (p2.view.read (Elt Ideal) X_arg2) t h)) :
    Quantised (p2.view.read (Elt Ideal) X_arg2) (st_k0_t22 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 v153 v154 c4_i32_107 v156 v163 X_arg2 init k0_t22_loop.trips) := by
  refine quantised _ hG (st_k0_t22 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 v153 v154 c4_i32_107 v156 v163 X_arg2 init) (by rw [hi]; rfl) fun k hk => ?_
  obtain ⟨o0, o2, oc, on, ov⟩ := qo_t22 ⟨k, hk⟩
  have e := st_k0_t22_succ (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 v153 v154 c4_i32_107 v156 v163 X_arg2 init ⟨k, hk⟩
  unfold TripQ
  refine ⟨_, _, _, by rw [oc]; exact inbC k hk, by rw [on]; exact inbN k hk,
    View.readAt (Elt Ideal) p2.view (Rect.unit (s := S1024x1x8x128) (k0_off106 ⟨k, hk⟩ 0#32) ![2, 1, 8, 128] (by rw [o0]; exact inbX k 0 (by omega))).toLoadRect X_arg2,
    View.readAt (Elt Ideal) p2.view (Rect.unit (s := S1024x1x8x128) (k0_off106 ⟨k, hk⟩ 2#32) ![2, 1, 8, 128] (by rw [o2]; exact inbX k 2 (by omega))).toLoadRect X_arg2,
    ov, oc, on, ?_, ?_, e.trans ?_⟩
  · intro x; exact block_row _ k 0 (by omega) _ o0 _ x
  · intro x; exact block_row _ k 2 (by omega) _ o2 _ x
  · unfold tripR_k0_t22 tripL_k0_t22 trip_k0_t22
    rw [carryP_L, ← hL]
    rfl

end Cert.KernelIdeal.Gen

end
-- ==== Proof.Ideal.Codes.lean ====
/- What the two full cases leave in the code and scale windows. -/
module

public import proofs.«01_k».proof.Proof.Ideal.Outs
public import proofs.«01_k».proof.Proof.Ideal.Quantise

@[expose] public section
set_option maxRecDepth 16384
noncomputable section

namespace Cert.KernelIdeal.Gen
open Idealize.ShloMosaic Idealize.ShloMosaic.TcCoe Idealize.SL.Sem Idealize.ShloMosaic.Tactic
open Cert.MlaQuant Cert.MlaFill

/-- All the scales of a block. -/
def scalesG (X : S1024x1x8x128.Idx → EReal) : S8x1024.Idx → EReal := fun y => sc (tokRow X (y 1).val (y 0).val)

theorem scales_of {X : S1024x1x8x128.Idx → EReal} {r : IVec S8x1024 32} (h : ∀ (h : Fin 8) (t : Fin 1024), k0_pay106 (F := Ideal) r (ix2 h t) = sc (tokRow X t.val h.val)) :
    k0_pay106 (F := Ideal) r = scalesG X := by
  funext y
  obtain ⟨a, b, rfl⟩ : ∃ (a : Fin 8) (b : Fin 1024), y = ix2 a b := ⟨y 0, y 1, by funext i; match i with | 0 => rfl | 1 => rfl⟩
  exact h a b

theorem fills_scales (w : Vec Ideal S8x1024 .f32) : Fills (Val := Elt Ideal) [⟨Rect.unit (s := S8x1024) ![0, 0] S8x1024.size inb_S8x1024_S8x1024_0_0, w⟩] (fun _ => True) w := by
  refine Fills.unit (s := S8x1024) (off := ![0, 0]) (size := S8x1024.size) _ w (fun x y h => ?_) (fun y _ a => ?_)
  · congr 1
    funext a
    apply Fin.ext
    have := h a
    match a with
    | 0 => simpa using this.symm
    | 1 => simpa using this.symm
  · match a with
    | 0 => exact ⟨Nat.zero_le _, by have : (y 0).val < 8 := (y 0).isLt; show _ < 0 + 8; omega⟩
    | 1 => exact ⟨Nat.zero_le _, by have : (y 1).val < 1024 := (y 1).isLt; show _ < 0 + 1024; omega⟩

theorem hz2 : (![0, 0] : Fin 2 → Nat) = fun _ => 0 := funext fun a => by fin_cases a <;> rfl

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : cond0_0 i) (hc1 : ¬cond0_1 i) (hc2 : ¬cond0_2 i)
    (x0 : Vec Ideal S1024x1x8x128 .bf16) (x1 : Vec Ideal S1024x1x8x128 .bf16) (x2 : Vec Ideal S1024x512 .fp8e4m3) (x3 : Vec Ideal S4x1024 .f32) (x4 : Vec Ideal S512x1x8x128 .fp8e4m3) (x5 : Vec Ideal S4x120 .f32) (x6 : Vec Ideal S512x1x8x128 .fp8e4m3) (x7 : Vec Ideal S4x120 .f32) (x8 : Vec Ideal S1024x512 .bf16) (x9 : Vec Ideal S1x512 .f32)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9

set_option maxHeartbeats 2000000 in
theorem codes_A_14 (hG : ∀ t h, Good (tokRow x0 t h)) : out0_A_14 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 = codesG x0 := by
  have hr := q1.read_unread x0
  have h := quantised_t1 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 k0_pay96 k0_pay97 (q1.unread x0) k0_pay101 rfl (by rw [hr]; exact hG)
  rw [hr] at h
  unfold out0_A_14
  have e := h.2.1.readAll VO0_14 VO0_14.junk []
  rw [List.append_nil] at e
  exact e

set_option maxHeartbeats 2000000 in
theorem scales_A_15 (hG : ∀ t h, Good (tokRow x0 t h)) : out0_A_15 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 = scalesG x0 := by
  have hr := q1.read_unread x0
  have h := quantised_t1 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 k0_pay96 k0_pay97 (q1.unread x0) k0_pay101 rfl (by rw [hr]; exact hG)
  rw [hr] at h
  unfold out0_A_15
  have e := (fills_scales (scalesG x0)).readAll VO0_15 VO0_15.junk []
  rw [List.append_nil] at e
  refine Eq.trans ?_ e
  rw [← scales_of h.1]
  unfold kernelRun0_A kernelRun0_A.sl.H15_1
  dsimp only
  rfl

set_option maxHeartbeats 2000000 in
theorem codes_A_16 (hG : ∀ t h, Good (tokRow x1 t h)) : out0_A_16 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 = codesG x1 := by
  have hr := q2.read_unread x1
  have h := quantised_t8 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc0 kernelRun0_A.sl.v164 kernelRun0_A.sl.v165 (4#32) k0_pay122 k0_pay123 k0_pay124 (q2.unread x1) k0_pay126 rfl rfl (by rw [hr]; exact hG)
  rw [hr] at h
  unfold out0_A_16
  have e := h.2.1.readAll VO0_16 VO0_16.junk []
  rw [List.append_nil] at e
  exact e

set_option maxHeartbeats 2000000 in
theorem scales_A_17 (hG : ∀ t h, Good (tokRow x1 t h)) : out0_A_17 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 = scalesG x1 := by
  have hr := q2.read_unread x1
  have h := quantised_t8 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc0 kernelRun0_A.sl.v164 kernelRun0_A.sl.v165 (4#32) k0_pay122 k0_pay123 k0_pay124 (q2.unread x1) k0_pay126 rfl rfl (by rw [hr]; exact hG)
  rw [hr] at h
  unfold out0_A_17
  have e := (fills_scales (scalesG x1)).readAll VO0_17 VO0_17.junk []
  rw [List.append_nil] at e
  refine Eq.trans ?_ e
  rw [← scales_of h.1]
  unfold kernelRun0_A kernelRun0_A.sl.H17_1
  dsimp only
  rw [show (@k0_pay131 Ideal _) = @k0_pay106 Ideal _ from rfl]

end

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : ¬cond0_0 i) (hc1 : cond0_1 i) (hc2 : ¬cond0_2 i)
    (x0 : Vec Ideal S1024x1x8x128 .bf16) (x1 : Vec Ideal S1024x1x8x128 .bf16) (x2 : Vec Ideal S1024x512 .fp8e4m3) (x3 : Vec Ideal S4x1024 .f32) (x4 : Vec Ideal S512x1x8x128 .fp8e4m3) (x5 : Vec Ideal S4x120 .f32) (x6 : Vec Ideal S512x1x8x128 .fp8e4m3) (x7 : Vec Ideal S4x120 .f32) (x8 : Vec Ideal S1024x512 .bf16) (x9 : Vec Ideal S1x512 .f32) (xs0 : Vec Ideal S1024x512 .f32) (xs1 : Vec Ideal S256x2x1024 .bf16) (xs2 : Vec Ideal S2x120x8 .f32) (xs6 : Vec Ideal S512x2x1024 .bf16) (xs8 : Vec Ideal S256x2x1024 .bf16)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8

set_option maxHeartbeats 2000000 in
theorem codes_B_14 (hG : ∀ t h, Good (tokRow x0 t h)) : out0_B_14 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 = codesG x0 := by
  have hr := q1.read_unread x0
  have h := quantised_t15 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc1 (q1.unread x0) k0_pay222 rfl (by rw [hr]; exact hG)
  rw [hr] at h
  unfold out0_B_14
  have e := h.2.1.readAll VO0_14 VO0_14.junk []
  rw [List.append_nil] at e
  exact e

set_option maxHeartbeats 2000000 in
theorem scales_B_15 (hG : ∀ t h, Good (tokRow x0 t h)) : out0_B_15 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 = scalesG x0 := by
  have hr := q1.read_unread x0
  have h := quantised_t15 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc1 (q1.unread x0) k0_pay222 rfl (by rw [hr]; exact hG)
  rw [hr] at h
  unfold out0_B_15
  have e := (fills_scales (scalesG x0)).readAll VO0_15 VO0_15.junk []
  rw [List.append_nil] at e
  refine Eq.trans ?_ e
  rw [← scales_of h.1]
  unfold kernelRun0_B kernelRun0_B.sl.H15_1
  dsimp only
  rw [show (@k0_pay227 Ideal _) = @k0_pay106 Ideal _ from rfl]

set_option maxHeartbeats 2000000 in
theorem codes_B_16 (hG : ∀ t h, Good (tokRow x1 t h)) : out0_B_16 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 = codesG x1 := by
  have hr := q2.read_unread x1
  have h := quantised_t22 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc1 kernelRun0_B.sl.v153 kernelRun0_B.sl.v154 (4#32) k0_pay256 k0_pay257 (q2.unread x1) k0_pay259 rfl rfl (by rw [hr]; exact hG)
  rw [hr] at h
  unfold out0_B_16
  have e := h.2.1.readAll VO0_16 VO0_16.junk []
  rw [List.append_nil] at e
  exact e

set_option maxHeartbeats 2000000 in
theorem scales_B_17 (hG : ∀ t h, Good (tokRow x1 t h)) : out0_B_17 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 = scalesG x1 := by
  have hr := q2.read_unread x1
  have h := quantised_t22 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc1 kernelRun0_B.sl.v153 kernelRun0_B.sl.v154 (4#32) k0_pay256 k0_pay257 (q2.unread x1) k0_pay259 rfl rfl (by rw [hr]; exact hG)
  rw [hr] at h
  unfold out0_B_17
  have e := (fills_scales (scalesG x1)).readAll VO0_17 VO0_17.junk []
  rw [List.append_nil] at e
  refine Eq.trans ?_ e
  rw [← scales_of h.1]
  unfold kernelRun0_B kernelRun0_B.sl.H17_1
  dsimp only
  rw [show (@k0_pay264 Ideal _) = @k0_pay106 Ideal _ from rfl]

end

end Cert.KernelIdeal.Gen
end
-- ==== Proof.Rows.lean ====
/- The scale of a row: the power of two found by the search is the one the logarithm gives. -/
module

public import proofs.«01_k».proof.Proof.Quant
public import Idealize.ShloMosaic.Lib.Pointwise

@[expose] public section
set_option maxRecDepth 16384
noncomputable section

namespace Cert.MlaQuant
open Idealize.ShloMosaic Idealize.ShloMosaic.TcCoe Idealize.ShloMosaic.Tactic Cert.MlaScale

/-- The exponent of a row's scale, from its largest absolute value. -/
def expo (a : EReal) : EReal :=
  if a = 0 then 0 else Ideal.liftRound Int.floor (Ideal.div (Ideal.log (Ideal.div a (Ideal.ofBits .f32 0x47600000#32))) (Ideal.log (Ideal.ofBits .f32 0x40000000#32))) + Ideal.ofBits .f32 0x3F800000#32

/-- Every entry of the row is zero, or its largest absolute value is within the range of normal scales. -/
def RowOk (f : Fin 128 → EReal) : Prop :=
  am f = 0 ∨ (Ideal.ofBits .bf16 0x0880#16 ≤ am f ∧ am f ≤ Ideal.ofBits .bf16 0x7F7F#16)

theorem V0880 : V 0x0880 = (2 : ℝ) ^ (-110 : ℤ) := by
  have := V_mul 17 (by norm_num)
  norm_num at this ⊢; exact this

theorem b0880 : Ideal.ofBits .bf16 0x0880#16 = (((2 : ℝ) ^ (-110 : ℤ) : ℝ) : EReal) := by
  rw [← V0880]; exact bf16_val 0x0880 (by norm_num)

theorem V7F7F : V 0x7F7F = 2 ^ 128 - 2 ^ 120 := by unfold V; norm_num

theorem b7F7F : Ideal.ofBits .bf16 0x7F7F#16 = ((2 ^ 128 - 2 ^ 120 : ℝ) : EReal) := by
  rw [← V7F7F]; exact bf16_val 0x7F7F (by norm_num)

theorem V4700 : V 0x4700 = 32768 := by unfold V; norm_num

theorem b4700 : Ideal.ofBits .bf16 0x4700#16 = ((32768 : ℝ) : EReal) := by
  rw [← V4700]; exact bf16_val 0x4700 (by norm_num)

theorem f57344 : Ideal.ofBits .f32 0x47600000#32 = ((57344 : ℝ) : EReal) := by
  have h := f32_val 0x4760 (by norm_num)
  have e : V 0x4760 = 57344 := by unfold V; norm_num
  rw [show (BitVec.ofNat 32 0x4760 <<< 16 : BitVec 32) = 0x47600000#32 by decide] at h
  rw [h, Vx, if_neg (by norm_num), e]

theorem f2 : Ideal.ofBits .f32 0x40000000#32 = ((2 : ℝ) : EReal) := by
  have h := f32_val 0x4000 (by norm_num)
  have e : V 0x4000 = 2 := by unfold V; norm_num
  rw [show (BitVec.ofNat 32 0x4000 <<< 16 : BitVec 32) = 0x40000000#32 by decide] at h
  rw [h, Vx, if_neg (by norm_num), e]

theorem f1 : Ideal.ofBits .f32 0x3F800000#32 = ((1 : ℝ) : EReal) := by
  have h := f32_val 0x3F80 (by norm_num)
  have e : V 0x3F80 = 1 := by unfold V; norm_num
  rw [show (BitVec.ofNat 32 0x3F80 <<< 16 : BitVec 32) = 0x3F800000#32 by decide] at h
  rw [h, Vx, if_neg (by norm_num), e]

theorem exp2_int (z : ℤ) : Ideal.exp2 (((z : ℤ) : ℝ) : EReal) = (((2 : ℝ) ^ z : ℝ) : EReal) := by
  show ((Real.rpow 2 (z : ℝ) : ℝ) : EReal) = _
  rw [show Real.rpow 2 (z : ℝ) = (2 : ℝ) ^ (z : ℝ) from rfl, Real.rpow_intCast]

theorem div_real (x y : ℝ) (h : y ≠ 0) : Ideal.div (x : EReal) (y : EReal) = ((x / y : ℝ) : EReal) := by
  unfold Ideal.div
  rw [if_neg (by exact_mod_cast h), div_eq_mul_inv, EReal.coe_mul, EReal.coe_inv]

theorem log_real (x : ℝ) (h : 0 < x) : Ideal.log (x : EReal) = ((Real.log x : ℝ) : EReal) := by
  show (if x ≤ 0 then (⊥ : EReal) else (Real.log x : EReal)) = _
  rw [if_neg (not_le.mpr h)]

theorem expo_real (a : ℝ) (h : 0 < a) : expo (a : EReal) = (((⌊Real.log (a / 57344) / Real.log 2⌋ + 1 : ℤ) : ℝ) : EReal) := by
  unfold expo
  rw [if_neg (by exact_mod_cast h.ne'), f57344, f2, f1, div_real _ _ (by norm_num), log_real _ (by positivity), log_real _ (by norm_num),
    div_real _ _ (Real.log_pos (by norm_num)).ne']
  show ((((⌊Real.log (a / 57344) / Real.log 2⌋ : ℤ) : ℝ)) : EReal) + _ = _
  push_cast
  rfl

/-- A row within the range: its scale is normal, and is the power of two of the exponent. -/
theorem row_ok {f : Fin 128 → EReal} (h : RowOk f) :
    Good f ∧ sc f = Ideal.exp2 (expo (am f)) ∧ kInv (adj (am f)) = Ideal.exp2 (0 - expo (am f)) := by
  obtain ⟨r, n, ea, er, hn1, hn2, hz⟩ : ∃ (r : ℝ) (n : ℕ), adj (am f) = (r : EReal) ∧ search (r : EReal) = BitVec.ofNat 32 n ∧ 0x0880 ≤ n ∧ n < 0x7F80 ∧
      expo (am f) = ((((((n + 32) / 128 : ℕ) : ℤ) - 142 : ℤ) : ℝ) : EReal) := by
    rcases h with h | ⟨h1, h2⟩
    · obtain ⟨n, e, hn1, hn2, hz⟩ := search_log (a := 32768) (by norm_num) (by norm_num)
      refine ⟨32768, n, ?_, e, hn1, hn2, ?_⟩
      · rw [h, adj, if_pos, b4700]
        rw [b0880]; exact_mod_cast (zpow_pos (by norm_num) _ : (0 : ℝ) < 2 ^ (-110 : ℤ))
      · rw [h, expo, if_pos rfl, ← hz]
        have : Real.log (32768 / 57344) / Real.log 2 < 0 :=
          div_neg_of_neg_of_pos (Real.log_neg (by norm_num) (by norm_num)) (Real.log_pos (by norm_num))
        have h1 : -1 ≤ Real.log (32768 / 57344) / Real.log 2 := by
          rw [le_div_iff₀ (Real.log_pos (by norm_num)), neg_one_mul, ← Real.log_inv]
          exact Real.log_le_log (by norm_num) (by norm_num)
        have e0 : ⌊Real.log (32768 / 57344) / Real.log 2⌋ = -1 := by
          rw [Int.floor_eq_iff]; constructor
          · push_cast; exact h1
          · push_cast; linarith
        rw [e0]; norm_num
    · rw [b0880] at h1
      rw [b7F7F] at h2
      obtain ⟨r, hr⟩ : ∃ r : ℝ, am f = (r : EReal) := by
        induction hx : am f using EReal.rec with
        | bot => rw [hx] at h1; exact absurd h1 (by simp)
        | top => rw [hx] at h2; exact absurd h2 (not_le.mpr (EReal.coe_lt_top _))
        | coe x => exact ⟨x, rfl⟩
      rw [hr] at h1 h2
      have h1' : (2 : ℝ) ^ (-110 : ℤ) ≤ r := by exact_mod_cast h1
      have h2' : r ≤ 2 ^ 128 - 2 ^ 120 := EReal.coe_le_coe_iff.mp h2
      obtain ⟨n, e, hn1, hn2, hz⟩ := search_log h1' h2'
      refine ⟨r, n, ?_, e, hn1, hn2, ?_⟩
      · rw [hr, adj, if_neg]
        rw [b0880]; exact not_lt.mpr h1
      · rw [hr, expo_real r (lt_of_lt_of_le (zpow_pos (by norm_num) _) h1'), hz]
  obtain ⟨s1, s2⟩ := scales_at er hn1 hn2
  have hp : pat f = n := by
    unfold pat; rw [ea, er, BitVec.toNat_ofNat]; omega
  refine ⟨⟨hp ▸ hn1, hp ▸ hn2⟩, ?_, ?_⟩
  · unfold sc; rw [ea, s1, hz, exp2_int]
  · rw [ea, s2, hz]
    have : (0 : EReal) - ((((((n + 32) / 128 : ℕ) : ℤ) - 142 : ℤ) : ℝ) : EReal) = (((-((((n + 32) / 128 : ℕ) : ℤ) - 142) : ℤ) : ℝ) : EReal) := by
      rw [← EReal.coe_zero, ← EReal.coe_sub]; push_cast; rw [zero_sub]
    rw [this, exp2_int]

/-- The codes of such a row, as the clipped products with the inverse scale. -/
theorem cd_ok {f : Fin 128 → EReal} (h : RowOk f) (d : Fin 128) :
    cd f d = min (Ideal.ofBits .f32 0x47600000#32) (max (Ideal.ofBits .f32 0xC7600000#32) (f d * Ideal.exp2 (0 - expo (am f)))) := by
  unfold cd; rw [(row_ok h).2.2]; rfl

/-- The row of one token and head of an argument. -/
def argRow (A : (⟨4, ![1, 1024, 120, 128]⟩ : Shape).Idx → EReal) (t : Fin 1024) (H : Fin 120) : Fin 128 → EReal := fun d => A (ix4 0 t H d)

end Cert.MlaQuant
end
-- ==== Proof.RefRun.lean ====
/- The reference's run: its results named, and the codes and scales as functions of the arguments. -/
module

public import proofs.«01_k».proof.Proof.Gen.ReferenceIdeal.Frame
public import proofs.«01_k».proof.Proof.Rows
public import Idealize.ShloMosaic.Lib.Pipeline.Value

@[expose] public section
set_option maxRecDepth 16384
noncomputable section

namespace Cert.ReferenceIdeal.Value
open Cert.ReferenceIdeal Cert.ReferenceIdeal.Gen Idealize.ShloMosaic Idealize.ShloMosaic.TcCoe Idealize.SL.Sem Idealize.ShloMosaic.Tactic
open Idealize.ShloMosaic.Pipeline (Dat)
open Cert.MlaQuant

variable (m : (ℓ : Loc nD τ sig) → Buf (Elt Ideal) ℓ) (ρ : Dev nD → PrngReg)

theorem flushed14 (c : Dev nD) (t : Fin cfg0.N) : (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 14).cut (grid0.coords t) ((dats m 0 c).after 14 t) = _
  rw [after0_14]

theorem flushed15 (c : Dev nD) (t : Fin cfg0.N) : (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 15).cut (grid0.coords t) ((dats m 0 c).after 15 t) = _
  rw [after0_15]

theorem flushed16 (c : Dev nD) (t : Fin cfg0.N) : (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 16).cut (grid0.coords t) ((dats m 0 c).after 16 t) = _
  rw [after0_16]

theorem flushed17 (c : Dev nD) (t : Fin cfg0.N) : (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 17).cut (grid0.coords t) ((dats m 0 c).after 17 t) = _
  rw [after0_17]

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The run, each result array named, the arguments unchanged. -/
theorem run_blocks : θ_run defs (onTc (τ := τ) (main (F := Ideal))) ⟨m, fun _ => 0, ρ⟩ fun r => ∀ c : Dev nD,
      r.2.mem ((c : Thread nD τ).loc main_v10_0) = (dats m 0 c).arrAt 10 cfg0.N
      ∧ r.2.mem ((c : Thread nD τ).loc main_v10_1) = (dats m 0 c).arrAt 11 cfg0.N
      ∧ r.2.mem ((c : Thread nD τ).loc main_v10_2) = (dats m 0 c).arrAt 12 cfg0.N
      ∧ r.2.mem ((c : Thread nD τ).loc main_v10_3) = (dats m 0 c).arrAt 13 cfg0.N
      ∧ r.2.mem ((c : Thread nD τ).loc main_v10_4) = (dats m 0 c).arrAt 14 cfg0.N
      ∧ r.2.mem ((c : Thread nD τ).loc main_v10_5) = (dats m 0 c).arrAt 15 cfg0.N
      ∧ r.2.mem ((c : Thread nD τ).loc main_v10_6) = (dats m 0 c).arrAt 16 cfg0.N
      ∧ r.2.mem ((c : Thread nD τ).loc main_v10_7) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 10, (h c).1 11, (h c).1 12, (h c).1 13, (h c).1 14, (h c).1 15, (h c).1 16, (h c).1 17, kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c⟩)
    (run_main m ρ)

/-! ## The scales and the codes -/

theorem V_main_v0 (c : Dev nD) : V m c main_v0 = shapeCast S1024x120x128 (m ((c : Thread nD τ).loc main_arg0)) shapeCasts_S1x1024x120x128_S1024x120x128 := by
  show StableHlo.after hostOps0 _ (Proc.devRef .tc main_v0) = _
  after_results
  rfl

theorem V_main_v1 (c : Dev nD) : V m c main_v1 = shapeCast S1024x120x128 (m ((c : Thread nD τ).loc main_arg1)) shapeCasts_S1x1024x120x128_S1024x120x128 := by
  show StableHlo.after hostOps0 _ (Proc.devRef .tc main_v1) = _
  after_results
  rfl

/-- The scale of a row. -/
def rsc (f : Fin 128 → EReal) : EReal := Ideal.exp2 (expo (am f))
/-- The codes of a row. -/
def rcd (f : Fin 128 → EReal) (d : Fin 128) : EReal :=
  min (Ideal.ofBits .f32 0x47600000#32) (max (Ideal.ofBits .f32 0xC7600000#32) (f d * Ideal.exp2 (0 - expo (am f))))

/-- A row of the reference's block. -/
def brow (P : Vec Ideal S1024x120x128 .bf16) (t : Fin 1024) (H : Fin 120) : Fin 128 → EReal := fun d => P (ix3 t H d)

/-- The largest absolute values, over a block. -/
theorem pay6_apply (P : Vec Ideal S1024x120x128 .bf16) (t : Fin 1024) (H : Fin 120) : k0_pay6 P (ix3 t H 0) = am (brow P t H) := by
  have e : ∀ Q : FVec Ideal S1024x120x128 .f32, shapeCast S1024x120x1 (multiReduction .maximumf [2] S1024x120 Q 0xFF800000#32 reduces_S1024x120x128_S1024x120 (.inl rfl) rfl) shapeCasts_S1024x120_S1024x120x1 (ix3 t H 0)
      = Finset.univ.fold max (Ideal.ofBits .f32 0xFF800000#32) fun d : Fin 128 => Q (ix3 t H d) := by
    intro Q
    pointwise
  have e5 : ∀ d : Fin 128, k0_pay5 P (ix3 t H d) = P (ix3 t H d) := by
    intro d
    pointwise [k0_pay5]
  refine (e (absf (k0_pay5 P))).trans ?_
  have eb : Ideal.ofBits .f32 0xFF800000#32 = Ideal.ofBits .bf16 0xFF80#16 := by
    have e1 : Ideal.ofBits .f32 0xFF800000#32 = ⊥ := by simp [Ideal.ofBits, Ideal.ieee]
    have e2 : Ideal.ofBits .bf16 0xFF80#16 = ⊥ := by simp [Ideal.ofBits, Ideal.ieee]
    rw [e1, e2]
  rw [eb]
  unfold am
  congr 1
  funext d
  show max (k0_pay5 P (ix3 t H d)) (-(k0_pay5 P (ix3 t H d))) = _
  rw [e5]; rfl

theorem pay8_apply (v w : FVec Ideal S1024x120x1 .f32) (y : S1024x120x1.Idx) :
    k0_pay8 v w y = Scalar.select (Ideal.cmp .oeq (v y) (Ideal.ofBits .f32 0x00000000#32)) (Ideal.ofBits .f32 0x00000000#32) (Ideal.liftRound Int.floor (w y) + Ideal.ofBits .f32 0x3F800000#32) := rfl

theorem pay7_apply (P : Vec Ideal S1024x120x128 .bf16) (y : S1024x120x1.Idx) :
    k0_pay7 P y = Ideal.div (Ideal.log (Ideal.div (k0_pay6 P y) (Ideal.ofBits .f32 0x47600000#32))) (Ideal.log (Ideal.ofBits .f32 0x40000000#32)) := rfl

theorem pay8_eq (P : Vec Ideal S1024x120x128 .bf16) : k0_pay8 (k0_pay6 P) (k0_pay7 P) = k0_pay2 P := rfl
theorem pay10_eq (P : Vec Ideal S1024x120x128 .bf16) : k0_pay10 (k0_pay5 P) (k0_pay6 P) (k0_pay7 P) = k0_pay4 P := rfl

theorem zero32 : Ideal.ofBits .f32 0x00000000#32 = 0 := by
  simp [Ideal.ofBits, Ideal.ieee]

theorem pay2_apply (P : Vec Ideal S1024x120x128 .bf16) (t : Fin 1024) (H : Fin 120) : k0_pay2 P (ix3 t H 0) = expo (am (brow P t H)) := by
  rw [← pay8_eq, pay8_apply, pay7_apply, pay6_apply, zero32]
  unfold expo Scalar.select Ideal.cmp
  by_cases h : am (brow P t H) = 0
  · simp [h]
  · simp [h]

theorem pay4_apply (P : Vec Ideal S1024x120x128 .bf16) (t : Fin 1024) (H : Fin 120) (d : Fin 128) : k0_pay4 P (ix3 t H d) = rcd (brow P t H) d := by
  have e : ∀ (v : FVec Ideal S1024x120x128 .f32) (a b : FVec Ideal S1024x120x1 .f32), k0_pay10 v a b (ix3 t H d) =
      min (Ideal.ofBits .f32 0x47600000#32) (max (Ideal.ofBits .f32 0xC7600000#32) (v (ix3 t H d) * Ideal.exp2 (Ideal.ofBits .f32 0x00000000#32 - k0_pay8 a b (ix3 t H 0)))) := by
    intro v a b
    pointwise [k0_pay10]
    rfl
  have e5 : k0_pay5 P (ix3 t H d) = P (ix3 t H d) := by
    pointwise [k0_pay5]
  rw [← pay10_eq, e, pay8_eq, pay2_apply, e5, zero32]
  rfl

theorem pay27_eq (P : FVec Ideal S1024x120x128 .fp8e5m2) : k0_pay27 P = k0_pay25 P := rfl
theorem pay28_eq (P : FVec Ideal S1024x120x1 .f32) : k0_pay28 P = k0_pay26 P := rfl
theorem pay25_apply (P : FVec Ideal S1024x120x128 .fp8e5m2) (t : Fin 1024) (a : Fin 15) (b : Fin 8) (d : Fin 128) :
    k0_pay25 P (ix4 t a b d) = P (ix3 t ⟨a.val * 8 + b.val, by omega⟩ d) := by
  pointwise [k0_pay25]

theorem pay26_apply (P : FVec Ideal S1024x120x1 .f32) (H : Fin 120) (t : Fin 1024) : k0_pay26 P (ix2 H t) = P (ix3 t H 0) := by
  pointwise [k0_pay26]

theorem exp2_at (v : FVec Ideal S1024x120x1 .f32) (y : S1024x120x1.Idx) : exp2 v y = Ideal.exp2 (v y) := rfl

theorem pay3_eq (P : Vec Ideal S1024x120x128 .bf16) : k0_pay3 P = exp2 (k0_pay2 P) := by
  unfold k0_pay3
  rfl

theorem pay3_apply (P : Vec Ideal S1024x120x128 .bf16) (t : Fin 1024) (H : Fin 120) : k0_pay3 P (ix3 t H 0) = rsc (brow P t H) := by
  rw [pay3_eq, exp2_at, pay2_apply]; rfl

theorem pay9_eq (P : Vec Ideal S1024x120x128 .bf16) : k0_pay9 (k0_pay6 P) (k0_pay7 P) = k0_pay3 P := by
  rw [pay3_eq, ← pay8_eq]; unfold k0_pay9
  rfl

/-- The row of the reshaped argument is the argument's row. -/
theorem brow_arg (A : Vec Ideal S1x1024x120x128 .bf16) (t : Fin 1024) (H : Fin 120) :
    brow (shapeCast S1024x120x128 A shapeCasts_S1x1024x120x128_S1024x120x128) t H = argRow A t H := by
  funext d
  unfold brow argRow
  pointwise

theorem iblk_whole0 (c : Dev nD) (t : Fin cfg0.N) : (iblk m c 0 t : Vec Ideal S1024x120x128 .bf16) = V m c main_v0 := by
  funext y
  show V m c main_v0 _ = V m c main_v0 y
  congr 1
  funext a
  apply Fin.ext
  refine ((cfg0.win 0).rect_emb_val t y a).trans ?_
  have e : win0_0.index t a = 0 := by
    rcases fin_N0 t with rfl; revert a; decide +kernel
  show win0_0.index t a * _ + (y a).val = _
  rw [e, Nat.zero_mul, Nat.zero_add]

theorem iblk_whole1 (c : Dev nD) (t : Fin cfg0.N) : (iblk m c 1 t : Vec Ideal S1024x120x128 .bf16) = V m c main_v1 := by
  funext y
  show V m c main_v1 _ = V m c main_v1 y
  congr 1
  funext a
  apply Fin.ext
  refine ((cfg0.win 1).rect_emb_val t y a).trans ?_
  have e : win0_1.index t a = 0 := by
    rcases fin_N0 t with rfl; revert a; decide +kernel
  show win0_1.index t a * _ + (y a).val = _
  rw [e, Nat.zero_mul, Nat.zero_add]

/-- All the codes of an argument. -/
def codesR (A : Vec Ideal S1x1024x120x128 .bf16) : Vec Ideal S1024x15x8x128 .fp8e5m2 := fun y =>
  rcd (argRow A (y 0) ⟨(y 1).val * 8 + (y 2).val, by have : (y 1).val < 15 := (y 1).isLt; have : (y 2).val < 8 := (y 2).isLt; omega⟩) (y 3)

/-- All the scales of an argument. -/
def scalesR (A : Vec Ideal S1x1024x120x128 .bf16) : Vec Ideal S120x1024 .f32 := fun y => rsc (argRow A (y 1) (y 0))

theorem codes_eq (A : Vec Ideal S1x1024x120x128 .bf16) :
    k0_pay25 (k0_pay4 (shapeCast S1024x120x128 A shapeCasts_S1x1024x120x128_S1024x120x128)) = codesR A := by
  funext y
  obtain ⟨a, b, d, e, rfl⟩ : ∃ (a : Fin 1024) (b : Fin 15) (d : Fin 8) (e : Fin 128), y = ix4 a b d e := ⟨y 0, y 1, y 2, y 3, by funext i; match i with | 0 => rfl | 1 => rfl | 2 => rfl | 3 => rfl⟩
  rw [pay25_apply, pay4_apply, brow_arg]
  rfl

theorem scales_eq (A : Vec Ideal S1x1024x120x128 .bf16) :
    k0_pay26 (k0_pay3 (shapeCast S1024x120x128 A shapeCasts_S1x1024x120x128_S1024x120x128)) = scalesR A := by
  funext y
  obtain ⟨a, b, rfl⟩ : ∃ (a : Fin 120) (b : Fin 1024), y = ix2 a b := ⟨y 0, y 1, by funext i; match i with | 0 => rfl | 1 => rfl⟩
  rw [pay26_apply, pay3_apply, brow_arg]
  rfl

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

theorem out14 (c : Dev nD) (t : Fin cfg0.N) : out0_14 (iblk m c 0 t) (iblk m c 1 t) (iblk m c 2 t) (iblk m c 3 t) (iblk m c 4 t) (iblk m c 5 t) (iblk m c 6 t) (iblk m c 7 t) (iblk m c 8 t) (iblk m c 9 t) = codesR (m ((c : Thread nD τ).loc main_arg0)) := by
  unfold out0_14 k0_pay30
  rw [View.canon_unit_zero hz4]
  rw [View.ld_unit_zero hz3, iblk_whole0, V_main_v0]
  exact codes_eq _

theorem final14 (c : Dev nD) : (dats m 0 c).arrAt 14 cfg0.N = codesR (m ((c : Thread nD τ).loc main_arg0)) := by
  refine (dats m 0 c).arrAt_eq_of_cover 14 (codesR (m ((c : Thread nD τ).loc main_arg0))) (fun t _ => ?_) (fun i => ⟨t0_0, flush0_14 _, ?_⟩)
  · rw [flushed14, out14]
    funext y
    show codesR _ _ = codesR _ _
    congr 1
    funext a
    apply Fin.ext
    refine Eq.trans ?_ ((cfg0.win 14).rect_emb_val t y a).symm
    have e : win0_14.index t a = 0 := by
      rcases fin_N0 t with rfl; revert a; decide +kernel
    show (y a).val = win0_14.index t a * _ + (y a).val
    rw [e, Nat.zero_mul, Nat.zero_add]
  · show i ∈ ((View.whole main_v10_4).slice (win0_14.rect t0_0)).set
    rw [View.set_slice_whole, Rect.mem_set_unit]
    intro a
    have e : win0_14.index t0_0 a = 0 ∧ win0_14.xsize (grid0.coords t0_0) a = S1024x15x8x128.size a := by
      revert a; decide +kernel
    show win0_14.index t0_0 a * win0_14.size a ≤ (i a : Nat) ∧ (i a : Nat) < win0_14.index t0_0 a * win0_14.size a + win0_14.xsize (grid0.coords t0_0) a
    rw [e.1, e.2, Nat.zero_mul, Nat.zero_add]
    exact ⟨Nat.zero_le _, (i a).isLt⟩

theorem out15 (c : Dev nD) (t : Fin cfg0.N) : out0_15 (iblk m c 0 t) (iblk m c 1 t) (iblk m c 2 t) (iblk m c 3 t) (iblk m c 4 t) (iblk m c 5 t) (iblk m c 6 t) (iblk m c 7 t) (iblk m c 8 t) (iblk m c 9 t) = scalesR (m ((c : Thread nD τ).loc main_arg0)) := by
  unfold out0_15 k0_pay29
  rw [View.canon_unit_zero hz2]
  rw [View.ld_unit_zero hz3, iblk_whole0, V_main_v0]
  exact scales_eq _

theorem final15 (c : Dev nD) : (dats m 0 c).arrAt 15 cfg0.N = scalesR (m ((c : Thread nD τ).loc main_arg0)) := by
  refine (dats m 0 c).arrAt_eq_of_cover 15 (scalesR (m ((c : Thread nD τ).loc main_arg0))) (fun t _ => ?_) (fun i => ⟨t0_0, flush0_15 _, ?_⟩)
  · rw [flushed15, out15]
    funext y
    show scalesR _ _ = scalesR _ _
    congr 1
    funext a
    apply Fin.ext
    refine Eq.trans ?_ ((cfg0.win 15).rect_emb_val t y a).symm
    have e : win0_15.index t a = 0 := by
      rcases fin_N0 t with rfl; revert a; decide +kernel
    show (y a).val = win0_15.index t a * _ + (y a).val
    rw [e, Nat.zero_mul, Nat.zero_add]
  · show i ∈ ((View.whole main_v10_5).slice (win0_15.rect t0_0)).set
    rw [View.set_slice_whole, Rect.mem_set_unit]
    intro a
    have e : win0_15.index t0_0 a = 0 ∧ win0_15.xsize (grid0.coords t0_0) a = S120x1024.size a := by
      revert a; decide +kernel
    show win0_15.index t0_0 a * win0_15.size a ≤ (i a : Nat) ∧ (i a : Nat) < win0_15.index t0_0 a * win0_15.size a + win0_15.xsize (grid0.coords t0_0) a
    rw [e.1, e.2, Nat.zero_mul, Nat.zero_add]
    exact ⟨Nat.zero_le _, (i a).isLt⟩

theorem out16 (c : Dev nD) (t : Fin cfg0.N) : out0_16 (iblk m c 0 t) (iblk m c 1 t) (iblk m c 2 t) (iblk m c 3 t) (iblk m c 4 t) (iblk m c 5 t) (iblk m c 6 t) (iblk m c 7 t) (iblk m c 8 t) (iblk m c 9 t) = codesR (m ((c : Thread nD τ).loc main_arg1)) := by
  unfold out0_16 k0_pay31 k0_pay32 k0_pay33
  rw [View.canon_unit_zero hz4]
  rw [View.ld_unit_zero hz3, iblk_whole1, V_main_v1]
  rw [pay10_eq]; rw [pay27_eq]; exact codes_eq _

theorem final16 (c : Dev nD) : (dats m 0 c).arrAt 16 cfg0.N = codesR (m ((c : Thread nD τ).loc main_arg1)) := by
  refine (dats m 0 c).arrAt_eq_of_cover 16 (codesR (m ((c : Thread nD τ).loc main_arg1))) (fun t _ => ?_) (fun i => ⟨t0_0, flush0_16 _, ?_⟩)
  · rw [flushed16, out16]
    funext y
    show codesR _ _ = codesR _ _
    congr 1
    funext a
    apply Fin.ext
    refine Eq.trans ?_ ((cfg0.win 16).rect_emb_val t y a).symm
    have e : win0_16.index t a = 0 := by
      rcases fin_N0 t with rfl; revert a; decide +kernel
    show (y a).val = win0_16.index t a * _ + (y a).val
    rw [e, Nat.zero_mul, Nat.zero_add]
  · show i ∈ ((View.whole main_v10_6).slice (win0_16.rect t0_0)).set
    rw [View.set_slice_whole, Rect.mem_set_unit]
    intro a
    have e : win0_16.index t0_0 a = 0 ∧ win0_16.xsize (grid0.coords t0_0) a = S1024x15x8x128.size a := by
      revert a; decide +kernel
    show win0_16.index t0_0 a * win0_16.size a ≤ (i a : Nat) ∧ (i a : Nat) < win0_16.index t0_0 a * win0_16.size a + win0_16.xsize (grid0.coords t0_0) a
    rw [e.1, e.2, Nat.zero_mul, Nat.zero_add]
    exact ⟨Nat.zero_le _, (i a).isLt⟩

theorem out17 (c : Dev nD) (t : Fin cfg0.N) : out0_17 (iblk m c 0 t) (iblk m c 1 t) (iblk m c 2 t) (iblk m c 3 t) (iblk m c 4 t) (iblk m c 5 t) (iblk m c 6 t) (iblk m c 7 t) (iblk m c 8 t) (iblk m c 9 t) = scalesR (m ((c : Thread nD τ).loc main_arg1)) := by
  unfold out0_17 k0_pay32 k0_pay33
  rw [View.canon_unit_zero hz2]
  rw [View.ld_unit_zero hz3, iblk_whole1, V_main_v1]
  rw [pay9_eq]; rw [pay28_eq]; exact scales_eq _

theorem final17 (c : Dev nD) : (dats m 0 c).arrAt 17 cfg0.N = scalesR (m ((c : Thread nD τ).loc main_arg1)) := by
  refine (dats m 0 c).arrAt_eq_of_cover 17 (scalesR (m ((c : Thread nD τ).loc main_arg1))) (fun t _ => ?_) (fun i => ⟨t0_0, flush0_17 _, ?_⟩)
  · rw [flushed17, out17]
    funext y
    show scalesR _ _ = scalesR _ _
    congr 1
    funext a
    apply Fin.ext
    refine Eq.trans ?_ ((cfg0.win 17).rect_emb_val t y a).symm
    have e : win0_17.index t a = 0 := by
      rcases fin_N0 t with rfl; revert a; decide +kernel
    show (y a).val = win0_17.index t a * _ + (y a).val
    rw [e, Nat.zero_mul, Nat.zero_add]
  · show i ∈ ((View.whole main_v10_7).slice (win0_17.rect t0_0)).set
    rw [View.set_slice_whole, Rect.mem_set_unit]
    intro a
    have e : win0_17.index t0_0 a = 0 ∧ win0_17.xsize (grid0.coords t0_0) a = S120x1024.size a := by
      revert a; decide +kernel
    show win0_17.index t0_0 a * win0_17.size a ≤ (i a : Nat) ∧ (i a : Nat) < win0_17.index t0_0 a * win0_17.size a + win0_17.xsize (grid0.coords t0_0) a
    rw [e.1, e.2, Nat.zero_mul, Nat.zero_add]
    exact ⟨Nat.zero_le _, (i a).isLt⟩

end Cert.ReferenceIdeal.Value
end
-- ==== Proof.Ideal.Results.lean ====
/- The kernel's run, and the codes and scales it returns as functions of the arguments. -/
module

public import proofs.«01_k».proof.Proof.Ideal.Codes
public import proofs.«01_k».proof.Proof.Ideal.Frame
public import proofs.«01_k».proof.Proof.RefRun
public import Idealize.ShloMosaic.Lib.Pipeline.Value

@[expose] public section
set_option maxRecDepth 16384
noncomputable section

namespace Cert.KernelIdeal.Value
open Cert.KernelIdeal Cert.KernelIdeal.Gen Idealize.ShloMosaic Idealize.ShloMosaic.TcCoe Idealize.SL.Sem Idealize.ShloMosaic.Tactic
open Idealize.ShloMosaic.Pipeline (Dat)
open Cert.MlaQuant
open Cert.ReferenceIdeal.Value (codesR scalesR rcd rsc)

variable (m : (ℓ : Loc nD τ sig) → Buf (Elt Ideal) ℓ) (ρ : Dev nD → PrngReg)

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept_main_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem run_blocks : θ_run defs (onTc (τ := τ) (main (F := Ideal))) ⟨m, fun _ => 0, ρ⟩ fun r => ∀ c : Dev nD,
      r.2.mem ((c : Thread nD τ).loc main_v9_0) = (dats m 0 c).arrAt 10 cfg0.N
      ∧ r.2.mem ((c : Thread nD τ).loc main_v9_1) = (dats m 0 c).arrAt 11 cfg0.N
      ∧ r.2.mem ((c : Thread nD τ).loc main_v9_2) = (dats m 0 c).arrAt 12 cfg0.N
      ∧ r.2.mem ((c : Thread nD τ).loc main_v9_3) = (dats m 0 c).arrAt 13 cfg0.N
      ∧ r.2.mem ((c : Thread nD τ).loc main_v9_4) = (dats m 0 c).arrAt 14 cfg0.N
      ∧ r.2.mem ((c : Thread nD τ).loc main_v9_5) = (dats m 0 c).arrAt 15 cfg0.N
      ∧ r.2.mem ((c : Thread nD τ).loc main_v9_6) = (dats m 0 c).arrAt 16 cfg0.N
      ∧ r.2.mem ((c : Thread nD τ).loc main_v9_7) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 10,
      (h c).1 11,
      (h c).1 12,
      (h c).1 13,
      (h c).1 14,
      (h c).1 15,
      (h c).1 16,
      (h c).1 17,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

/-! ## The scales and the codes -/

/-- The rows of an argument are within the range. -/
def RowsOk (A : Vec Ideal S1x1024x120x128 .bf16) : Prop := ∀ (t : Fin 1024) (H : Fin 120), RowOk (argRow A t H)

theorem V_main_v0 (c : Dev nD) : V m c main_v0 = shapeCast S1024x15x8x128 (m ((c : Thread nD τ).loc main_arg0)) shapeCasts_S1x1024x120x128_S1024x15x8x128 := by
  show StableHlo.after hostOps0 _ (Proc.devRef .tc main_v0) = _
  after_results
  rfl

theorem V_main_v1 (c : Dev nD) : V m c main_v1 = shapeCast S1024x15x8x128 (m ((c : Thread nD τ).loc main_arg1)) shapeCasts_S1x1024x120x128_S1024x15x8x128 := by
  show StableHlo.after hostOps0 _ (Proc.devRef .tc main_v1) = _
  after_results
  rfl

theorem cast_at (A : Vec Ideal S1x1024x120x128 .bf16) (t : Fin 1024) (i : Fin 15) (h : Fin 8) (d : Fin 128) :
    shapeCast S1024x15x8x128 A shapeCasts_S1x1024x120x128_S1024x15x8x128 (ix4 t i h d) = A (ix4 0 t ⟨i.val * 8 + h.val, by omega⟩ d) := by
  pointwise

/-- The block of a point. -/
def blkNo (t : Fin cfg0.N) : Fin 15 := ⟨min t.val 14, by omega⟩

theorem index0 : ∀ t : Fin cfg0.N, win0_0.index t 0 = 0 ∧ win0_0.index t 1 = min t.val 14 ∧ win0_0.index t 2 = 0 ∧ win0_0.index t 3 = 0 :=
  (by decide +kernel : ∀ t : Fin grid0.N, win0_0.index t 0 = 0 ∧ win0_0.index t 1 = min t.val 14 ∧ win0_0.index t 2 = 0 ∧ win0_0.index t 3 = 0)

theorem iblk0 (c : Dev nD) (t : Fin cfg0.N) (a : Fin 1024) (h : Fin 8) (d : Fin 128) :
    (iblk m c 0 t : Vec Ideal S1024x1x8x128 .bf16) (ix4 a 0 h d) =
      argRow (m ((c : Thread nD τ).loc main_arg0)) a ⟨(blkNo t).val * 8 + h.val, by have := (blkNo t).isLt; omega⟩ d := by
  unfold argRow
  rw [← cast_at (m ((c : Thread nD τ).loc main_arg0)) a (blkNo t) h d, ← V_main_v0]
  show V m c main_v0 _ = V m c main_v0 _
  congr 1
  funext e
  apply Fin.ext
  refine ((cfg0.win 0).rect_emb_val t _ e).trans ?_
  obtain ⟨e0, e1, e2, e3⟩ := index0 t
  match e with
  | 0 => show win0_0.index t 0 * 1024 + a.val = a.val; rw [e0]; omega
  | 1 => show win0_0.index t 1 * 1 + 0 = min t.val 14; rw [e1]; omega
  | 2 => show win0_0.index t 2 * 8 + h.val = h.val; rw [e2]; omega
  | 3 => show win0_0.index t 3 * 128 + d.val = d.val; rw [e3]; omega

theorem row0 (c : Dev nD) (t : Fin cfg0.N) (a h : ℕ) :
    tokRow (iblk m c 0 t : Vec Ideal S1024x1x8x128 .bf16) a h =
      argRow (m ((c : Thread nD τ).loc main_arg0)) ⟨a % 1024, Nat.mod_lt _ (by norm_num)⟩ ⟨(blkNo t).val * 8 + h % 8, by have := (blkNo t).isLt; omega⟩ := by
  funext d
  exact iblk0 m c t ⟨a % 1024, _⟩ ⟨h % 8, _⟩ d

theorem good0 (c : Dev nD) (t : Fin cfg0.N) (hA : RowsOk (m ((c : Thread nD τ).loc main_arg0))) (a h : ℕ) :
    Good (tokRow (iblk m c 0 t : Vec Ideal S1024x1x8x128 .bf16) a h) := by
  rw [row0]; exact (row_ok (hA _ _)).1

theorem index1 : ∀ t : Fin cfg0.N, win0_1.index t 0 = 0 ∧ win0_1.index t 1 = min t.val 14 ∧ win0_1.index t 2 = 0 ∧ win0_1.index t 3 = 0 :=
  (by decide +kernel : ∀ t : Fin grid0.N, win0_1.index t 0 = 0 ∧ win0_1.index t 1 = min t.val 14 ∧ win0_1.index t 2 = 0 ∧ win0_1.index t 3 = 0)

theorem iblk1 (c : Dev nD) (t : Fin cfg0.N) (a : Fin 1024) (h : Fin 8) (d : Fin 128) :
    (iblk m c 1 t : Vec Ideal S1024x1x8x128 .bf16) (ix4 a 0 h d) =
      argRow (m ((c : Thread nD τ).loc main_arg1)) a ⟨(blkNo t).val * 8 + h.val, by have := (blkNo t).isLt; omega⟩ d := by
  unfold argRow
  rw [← cast_at (m ((c : Thread nD τ).loc main_arg1)) a (blkNo t) h d, ← V_main_v1]
  show V m c main_v1 _ = V m c main_v1 _
  congr 1
  funext e
  apply Fin.ext
  refine ((cfg0.win 1).rect_emb_val t _ e).trans ?_
  obtain ⟨e0, e1, e2, e3⟩ := index1 t
  match e with
  | 0 => show win0_1.index t 0 * 1024 + a.val = a.val; rw [e0]; omega
  | 1 => show win0_1.index t 1 * 1 + 0 = min t.val 14; rw [e1]; omega
  | 2 => show win0_1.index t 2 * 8 + h.val = h.val; rw [e2]; omega
  | 3 => show win0_1.index t 3 * 128 + d.val = d.val; rw [e3]; omega

theorem row1 (c : Dev nD) (t : Fin cfg0.N) (a h : ℕ) :
    tokRow (iblk m c 1 t : Vec Ideal S1024x1x8x128 .bf16) a h =
      argRow (m ((c : Thread nD τ).loc main_arg1)) ⟨a % 1024, Nat.mod_lt _ (by norm_num)⟩ ⟨(blkNo t).val * 8 + h % 8, by have := (blkNo t).isLt; omega⟩ := by
  funext d
  exact iblk1 m c t ⟨a % 1024, _⟩ ⟨h % 8, _⟩ d

theorem good1 (c : Dev nD) (t : Fin cfg0.N) (hA : RowsOk (m ((c : Thread nD τ).loc main_arg1))) (a h : ℕ) :
    Good (tokRow (iblk m c 1 t : Vec Ideal S1024x1x8x128 .bf16) a h) := by
  rw [row1]; exact (row_ok (hA _ _)).1

theorem left14 (c : Dev nD) (hA : RowsOk (m ((c : Thread nD τ).loc main_arg0))) (t : Fin cfg0.N) :
    (outsAt0 m c t.val t.isLt).2.2.2.2.1 = codesG (iblk m c 0 t) := by
  have low : ∀ t : Fin cfg0.N, t.val < 15 → (outsAt0 m c t.val t.isLt).2.2.2.2.1 = codesG (iblk m c 0 t) := by
    intro t ht
    by_cases h0 : t.val % 16 = 0
    · rw [outsAt0_A m c t h0 (by omega) (by omega)]
      unfold outs0_A
      dsimp only
      rw [codes_A_14 (hG := good0 m c t hA)]
    · rw [outsAt0_B m c t h0 (by omega) (by omega)]
      unfold outs0_B
      dsimp only
      rw [codes_B_14 (hG := good0 m c t hA)]
  by_cases ht : t.val < 15
  · exact low t ht
  · have hN : cfg0.N = 16 := N_0
    have h15 : t.val = 15 := by have := t.isLt; omega
    have hc : (outsAt0 m c t.val t.isLt).2.2.2.2.1 = (outsAt0 m c (t.val - 1) (by omega)).2.2.2.2.1 := by
      rw [outsAt0_C m c t (by omega) (by omega) (by omega)]; rfl
    have e := low ⟨t.val - 1, by omega⟩ (by show t.val - 1 < 15; omega)
    refine (hc.trans e).trans (congrArg codesG ?_)
    funext y
    obtain ⟨a, z, h, d, rfl⟩ : ∃ (a : Fin 1024) (z : Fin 1) (h : Fin 8) (d : Fin 128), y = ix4 a z h d := ⟨y 0, y 1, y 2, y 3, by funext i; match i with | 0 => rfl | 1 => rfl | 2 => rfl | 3 => rfl⟩
    obtain rfl : z = 0 := Subsingleton.elim _ _
    refine (iblk0 m c _ a h d).trans (Eq.trans ?_ (iblk0 m c t a h d).symm)
    have eb : blkNo ⟨t.val - 1, by omega⟩ = blkNo t := Fin.ext (by show min (t.val - 1) 14 = min t.val 14; omega)
    simp only [eb]

theorem index14 : ∀ t : Fin cfg0.N, win0_14.index t 0 = 0 ∧ win0_14.index t 1 = min t.val 14 ∧ win0_14.index t 2 = 0 ∧ win0_14.index t 3 = 0 :=
  (by decide +kernel : ∀ t : Fin grid0.N, win0_14.index t 0 = 0 ∧ win0_14.index t 1 = min t.val 14 ∧ win0_14.index t 2 = 0 ∧ win0_14.index t 3 = 0)

theorem flushes14 : ∀ n : Fin 15, ∃ t : Fin cfg0.N, (cfg0.win 14).flush t = true ∧ min t.val 14 = n.val :=
  (by decide +kernel : ∀ n : Fin 15, ∃ t : Fin grid0.N, win0_14.flush t = true ∧ min t.val 14 = n.val)

theorem final14 (c : Dev nD) (hA : RowsOk (m ((c : Thread nD τ).loc main_arg0))) :
    (dats m 0 c).arrAt 14 cfg0.N = codesR (m ((c : Thread nD τ).loc main_arg0)) := by
  refine (dats m 0 c).arrAt_eq_of_cover 14 (codesR (m ((c : Thread nD τ).loc main_arg0))) (fun t _ => ?_) (fun i => ?_)
  · show (cfg0.win 14).cut (grid0.coords t) ((dats m 0 c).after 14 t) = _
    rw [after0_14, left14 m c hA]
    funext y
    obtain ⟨a, z, h, d, rfl⟩ : ∃ (a : Fin 1024) (z : Fin 1) (h : Fin 8) (d : Fin 128), y = ix4 a z h d := ⟨y 0, y 1, y 2, y 3, by funext i; match i with | 0 => rfl | 1 => rfl | 2 => rfl | 3 => rfl⟩
    obtain rfl : z = 0 := Subsingleton.elim _ _
    obtain ⟨e0, e1, e2, e3⟩ := index14 t
    have ey : (win0_14.blk t).view.emb (ix4 a 0 h d) = (ix4 a (blkNo t) h d : S1024x15x8x128.Idx) := by
      funext e
      apply Fin.ext
      refine ((cfg0.win 14).rect_emb_val t _ e).trans ?_
      match e with
      | 0 => show win0_14.index t 0 * 1024 + a.val = a.val; rw [e0]; omega
      | 1 => show win0_14.index t 1 * 1 + 0 = min t.val 14; rw [e1]; omega
      | 2 => show win0_14.index t 2 * 8 + h.val = h.val; rw [e2]; omega
      | 3 => show win0_14.index t 3 * 128 + d.val = d.val; rw [e3]; omega
    show codesG _ (ix4 a 0 h d) = codesR _ ((win0_14.blk t).view.emb (ix4 a 0 h d))
    rw [ey]
    show cd (tokRow _ a.val h.val) d = rcd (argRow _ a ⟨(blkNo t).val * 8 + h.val, _⟩) d
    rw [row0, cd_ok (hA _ _)]
    unfold rcd
    simp only [Nat.mod_eq_of_lt a.isLt, Nat.mod_eq_of_lt h.isLt]
  · obtain ⟨t, hf, ht⟩ := flushes14 ⟨(i 1).val, (i 1).isLt⟩
    refine ⟨t, hf, ?_⟩
    show i ∈ ((View.whole main_v9_4).slice (win0_14.rect t)).set
    rw [View.set_slice_whole, Rect.mem_set_unit]
    obtain ⟨e0, e1, e2, e3⟩ := index14 t
    have i1 : (i 1).val = min t.val 14 := ht.symm
    have b0 : (i 0).val < 1024 := (i 0).isLt
    have b2 : (i 2).val < 8 := (i 2).isLt
    have b3 : (i 3).val < 128 := (i 3).isLt
    intro a
    match a with
    | 0 => show win0_14.index t 0 * 1024 ≤ (i 0).val ∧ (i 0).val < win0_14.index t 0 * 1024 + 1024; rw [e0]; omega
    | 1 => show win0_14.index t 1 * 1 ≤ (i 1).val ∧ (i 1).val < win0_14.index t 1 * 1 + 1; rw [e1]; omega
    | 2 => show win0_14.index t 2 * 8 ≤ (i 2).val ∧ (i 2).val < win0_14.index t 2 * 8 + 8; rw [e2]; omega
    | 3 => show win0_14.index t 3 * 128 ≤ (i 3).val ∧ (i 3).val < win0_14.index t 3 * 128 + 128; rw [e3]; omega

theorem left15 (c : Dev nD) (hA : RowsOk (m ((c : Thread nD τ).loc main_arg0))) (t : Fin cfg0.N) :
    (outsAt0 m c t.val t.isLt).2.2.2.2.2.1 = scalesG (iblk m c 0 t) := by
  have low : ∀ t : Fin cfg0.N, t.val < 15 → (outsAt0 m c t.val t.isLt).2.2.2.2.2.1 = scalesG (iblk m c 0 t) := by
    intro t ht
    by_cases h0 : t.val % 16 = 0
    · rw [outsAt0_A m c t h0 (by omega) (by omega)]
      unfold outs0_A
      dsimp only
      rw [scales_A_15 (hG := good0 m c t hA)]
    · rw [outsAt0_B m c t h0 (by omega) (by omega)]
      unfold outs0_B
      dsimp only
      rw [scales_B_15 (hG := good0 m c t hA)]
  by_cases ht : t.val < 15
  · exact low t ht
  · have hN : cfg0.N = 16 := N_0
    have h15 : t.val = 15 := by have := t.isLt; omega
    have hc : (outsAt0 m c t.val t.isLt).2.2.2.2.2.1 = (outsAt0 m c (t.val - 1) (by omega)).2.2.2.2.2.1 := by
      rw [outsAt0_C m c t (by omega) (by omega) (by omega)]; rfl
    have e := low ⟨t.val - 1, by omega⟩ (by show t.val - 1 < 15; omega)
    refine (hc.trans e).trans (congrArg scalesG ?_)
    funext y
    obtain ⟨a, z, h, d, rfl⟩ : ∃ (a : Fin 1024) (z : Fin 1) (h : Fin 8) (d : Fin 128), y = ix4 a z h d := ⟨y 0, y 1, y 2, y 3, by funext i; match i with | 0 => rfl | 1 => rfl | 2 => rfl | 3 => rfl⟩
    obtain rfl : z = 0 := Subsingleton.elim _ _
    refine (iblk0 m c _ a h d).trans (Eq.trans ?_ (iblk0 m c t a h d).symm)
    have eb : blkNo ⟨t.val - 1, by omega⟩ = blkNo t := Fin.ext (by show min (t.val - 1) 14 = min t.val 14; omega)
    simp only [eb]

theorem index15 : ∀ t : Fin cfg0.N, win0_15.index t 0 = min t.val 14 ∧ win0_15.index t 1 = 0 :=
  (by decide +kernel : ∀ t : Fin grid0.N, win0_15.index t 0 = min t.val 14 ∧ win0_15.index t 1 = 0)

theorem flushes15 : ∀ n : Fin 15, ∃ t : Fin cfg0.N, (cfg0.win 15).flush t = true ∧ min t.val 14 = n.val :=
  (by decide +kernel : ∀ n : Fin 15, ∃ t : Fin grid0.N, win0_15.flush t = true ∧ min t.val 14 = n.val)

theorem final15 (c : Dev nD) (hA : RowsOk (m ((c : Thread nD τ).loc main_arg0))) :
    (dats m 0 c).arrAt 15 cfg0.N = scalesR (m ((c : Thread nD τ).loc main_arg0)) := by
  refine (dats m 0 c).arrAt_eq_of_cover 15 (scalesR (m ((c : Thread nD τ).loc main_arg0))) (fun t _ => ?_) (fun i => ?_)
  · show (cfg0.win 15).cut (grid0.coords t) ((dats m 0 c).after 15 t) = _
    rw [after0_15, left15 m c hA]
    funext y
    obtain ⟨h, a, rfl⟩ : ∃ (h : Fin 8) (a : Fin 1024), y = ix2 h a := ⟨y 0, y 1, by funext i; match i with | 0 => rfl | 1 => rfl⟩
    obtain ⟨e0, e1⟩ := index15 t
    have ey : (win0_15.blk t).view.emb (ix2 h a) = (ix2 ⟨(blkNo t).val * 8 + h.val, by have := (blkNo t).isLt; omega⟩ a : S120x1024.Idx) := by
      funext e
      apply Fin.ext
      refine ((cfg0.win 15).rect_emb_val t _ e).trans ?_
      match e with
      | 0 => show win0_15.index t 0 * 8 + h.val = min t.val 14 * 8 + h.val; rw [e0]
      | 1 => show win0_15.index t 1 * 1024 + a.val = a.val; rw [e1]; omega
    show scalesG _ (ix2 h a) = scalesR _ ((win0_15.blk t).view.emb (ix2 h a))
    rw [ey]
    show sc (tokRow _ a.val h.val) = rsc (argRow _ a ⟨(blkNo t).val * 8 + h.val, _⟩)
    rw [row0, (row_ok (hA _ _)).2.1]
    unfold rsc
    simp only [Nat.mod_eq_of_lt a.isLt, Nat.mod_eq_of_lt h.isLt]
  · have b0 : (i 0).val < 120 := (i 0).isLt
    have b1 : (i 1).val < 1024 := (i 1).isLt
    obtain ⟨t, hf, ht⟩ := flushes15 ⟨(i 0).val / 8, by omega⟩
    refine ⟨t, hf, ?_⟩
    show i ∈ ((View.whole main_v9_5).slice (win0_15.rect t)).set
    rw [View.set_slice_whole, Rect.mem_set_unit]
    obtain ⟨e0, e1⟩ := index15 t
    have i0 : (i 0).val / 8 = min t.val 14 := ht.symm
    intro a
    match a with
    | 0 => show win0_15.index t 0 * 8 ≤ (i 0).val ∧ (i 0).val < win0_15.index t 0 * 8 + 8; rw [e0]; omega
    | 1 => show win0_15.index t 1 * 1024 ≤ (i 1).val ∧ (i 1).val < win0_15.index t 1 * 1024 + 1024; rw [e1]; omega

theorem left16 (c : Dev nD) (hA : RowsOk (m ((c : Thread nD τ).loc main_arg1))) (t : Fin cfg0.N) :
    (outsAt0 m c t.val t.isLt).2.2.2.2.2.2.1 = codesG (iblk m c 1 t) := by
  have low : ∀ t : Fin cfg0.N, t.val < 15 → (outsAt0 m c t.val t.isLt).2.2.2.2.2.2.1 = codesG (iblk m c 1 t) := by
    intro t ht
    by_cases h0 : t.val % 16 = 0
    · rw [outsAt0_A m c t h0 (by omega) (by omega)]
      unfold outs0_A
      dsimp only
      rw [codes_A_16 (hG := good1 m c t hA)]
    · rw [outsAt0_B m c t h0 (by omega) (by omega)]
      unfold outs0_B
      dsimp only
      rw [codes_B_16 (hG := good1 m c t hA)]
  by_cases ht : t.val < 15
  · exact low t ht
  · have hN : cfg0.N = 16 := N_0
    have h15 : t.val = 15 := by have := t.isLt; omega
    have hc : (outsAt0 m c t.val t.isLt).2.2.2.2.2.2.1 = (outsAt0 m c (t.val - 1) (by omega)).2.2.2.2.2.2.1 := by
      rw [outsAt0_C m c t (by omega) (by omega) (by omega)]; rfl
    have e := low ⟨t.val - 1, by omega⟩ (by show t.val - 1 < 15; omega)
    refine (hc.trans e).trans (congrArg codesG ?_)
    funext y
    obtain ⟨a, z, h, d, rfl⟩ : ∃ (a : Fin 1024) (z : Fin 1) (h : Fin 8) (d : Fin 128), y = ix4 a z h d := ⟨y 0, y 1, y 2, y 3, by funext i; match i with | 0 => rfl | 1 => rfl | 2 => rfl | 3 => rfl⟩
    obtain rfl : z = 0 := Subsingleton.elim _ _
    refine (iblk1 m c _ a h d).trans (Eq.trans ?_ (iblk1 m c t a h d).symm)
    have eb : blkNo ⟨t.val - 1, by omega⟩ = blkNo t := Fin.ext (by show min (t.val - 1) 14 = min t.val 14; omega)
    simp only [eb]

theorem index16 : ∀ t : Fin cfg0.N, win0_16.index t 0 = 0 ∧ win0_16.index t 1 = min t.val 14 ∧ win0_16.index t 2 = 0 ∧ win0_16.index t 3 = 0 :=
  (by decide +kernel : ∀ t : Fin grid0.N, win0_16.index t 0 = 0 ∧ win0_16.index t 1 = min t.val 14 ∧ win0_16.index t 2 = 0 ∧ win0_16.index t 3 = 0)

theorem flushes16 : ∀ n : Fin 15, ∃ t : Fin cfg0.N, (cfg0.win 16).flush t = true ∧ min t.val 14 = n.val :=
  (by decide +kernel : ∀ n : Fin 15, ∃ t : Fin grid0.N, win0_16.flush t = true ∧ min t.val 14 = n.val)

theorem final16 (c : Dev nD) (hA : RowsOk (m ((c : Thread nD τ).loc main_arg1))) :
    (dats m 0 c).arrAt 16 cfg0.N = codesR (m ((c : Thread nD τ).loc main_arg1)) := by
  refine (dats m 0 c).arrAt_eq_of_cover 16 (codesR (m ((c : Thread nD τ).loc main_arg1))) (fun t _ => ?_) (fun i => ?_)
  · show (cfg0.win 16).cut (grid0.coords t) ((dats m 0 c).after 16 t) = _
    rw [after0_16, left16 m c hA]
    funext y
    obtain ⟨a, z, h, d, rfl⟩ : ∃ (a : Fin 1024) (z : Fin 1) (h : Fin 8) (d : Fin 128), y = ix4 a z h d := ⟨y 0, y 1, y 2, y 3, by funext i; match i with | 0 => rfl | 1 => rfl | 2 => rfl | 3 => rfl⟩
    obtain rfl : z = 0 := Subsingleton.elim _ _
    obtain ⟨e0, e1, e2, e3⟩ := index16 t
    have ey : (win0_16.blk t).view.emb (ix4 a 0 h d) = (ix4 a (blkNo t) h d : S1024x15x8x128.Idx) := by
      funext e
      apply Fin.ext
      refine ((cfg0.win 16).rect_emb_val t _ e).trans ?_
      match e with
      | 0 => show win0_16.index t 0 * 1024 + a.val = a.val; rw [e0]; omega
      | 1 => show win0_16.index t 1 * 1 + 0 = min t.val 14; rw [e1]; omega
      | 2 => show win0_16.index t 2 * 8 + h.val = h.val; rw [e2]; omega
      | 3 => show win0_16.index t 3 * 128 + d.val = d.val; rw [e3]; omega
    show codesG _ (ix4 a 0 h d) = codesR _ ((win0_16.blk t).view.emb (ix4 a 0 h d))
    rw [ey]
    show cd (tokRow _ a.val h.val) d = rcd (argRow _ a ⟨(blkNo t).val * 8 + h.val, _⟩) d
    rw [row1, cd_ok (hA _ _)]
    unfold rcd
    simp only [Nat.mod_eq_of_lt a.isLt, Nat.mod_eq_of_lt h.isLt]
  · obtain ⟨t, hf, ht⟩ := flushes16 ⟨(i 1).val, (i 1).isLt⟩
    refine ⟨t, hf, ?_⟩
    show i ∈ ((View.whole main_v9_6).slice (win0_16.rect t)).set
    rw [View.set_slice_whole, Rect.mem_set_unit]
    obtain ⟨e0, e1, e2, e3⟩ := index16 t
    have i1 : (i 1).val = min t.val 14 := ht.symm
    have b0 : (i 0).val < 1024 := (i 0).isLt
    have b2 : (i 2).val < 8 := (i 2).isLt
    have b3 : (i 3).val < 128 := (i 3).isLt
    intro a
    match a with
    | 0 => show win0_16.index t 0 * 1024 ≤ (i 0).val ∧ (i 0).val < win0_16.index t 0 * 1024 + 1024; rw [e0]; omega
    | 1 => show win0_16.index t 1 * 1 ≤ (i 1).val ∧ (i 1).val < win0_16.index t 1 * 1 + 1; rw [e1]; omega
    | 2 => show win0_16.index t 2 * 8 ≤ (i 2).val ∧ (i 2).val < win0_16.index t 2 * 8 + 8; rw [e2]; omega
    | 3 => show win0_16.index t 3 * 128 ≤ (i 3).val ∧ (i 3).val < win0_16.index t 3 * 128 + 128; rw [e3]; omega

theorem left17 (c : Dev nD) (hA : RowsOk (m ((c : Thread nD τ).loc main_arg1))) (t : Fin cfg0.N) :
    (outsAt0 m c t.val t.isLt).2.2.2.2.2.2.2.1 = scalesG (iblk m c 1 t) := by
  have low : ∀ t : Fin cfg0.N, t.val < 15 → (outsAt0 m c t.val t.isLt).2.2.2.2.2.2.2.1 = scalesG (iblk m c 1 t) := by
    intro t ht
    by_cases h0 : t.val % 16 = 0
    · rw [outsAt0_A m c t h0 (by omega) (by omega)]
      unfold outs0_A
      dsimp only
      rw [scales_A_17 (hG := good1 m c t hA)]
    · rw [outsAt0_B m c t h0 (by omega) (by omega)]
      unfold outs0_B
      dsimp only
      rw [scales_B_17 (hG := good1 m c t hA)]
  by_cases ht : t.val < 15
  · exact low t ht
  · have hN : cfg0.N = 16 := N_0
    have h15 : t.val = 15 := by have := t.isLt; omega
    have hc : (outsAt0 m c t.val t.isLt).2.2.2.2.2.2.2.1 = (outsAt0 m c (t.val - 1) (by omega)).2.2.2.2.2.2.2.1 := by
      rw [outsAt0_C m c t (by omega) (by omega) (by omega)]; rfl
    have e := low ⟨t.val - 1, by omega⟩ (by show t.val - 1 < 15; omega)
    refine (hc.trans e).trans (congrArg scalesG ?_)
    funext y
    obtain ⟨a, z, h, d, rfl⟩ : ∃ (a : Fin 1024) (z : Fin 1) (h : Fin 8) (d : Fin 128), y = ix4 a z h d := ⟨y 0, y 1, y 2, y 3, by funext i; match i with | 0 => rfl | 1 => rfl | 2 => rfl | 3 => rfl⟩
    obtain rfl : z = 0 := Subsingleton.elim _ _
    refine (iblk1 m c _ a h d).trans (Eq.trans ?_ (iblk1 m c t a h d).symm)
    have eb : blkNo ⟨t.val - 1, by omega⟩ = blkNo t := Fin.ext (by show min (t.val - 1) 14 = min t.val 14; omega)
    simp only [eb]

theorem index17 : ∀ t : Fin cfg0.N, win0_17.index t 0 = min t.val 14 ∧ win0_17.index t 1 = 0 :=
  (by decide +kernel : ∀ t : Fin grid0.N, win0_17.index t 0 = min t.val 14 ∧ win0_17.index t 1 = 0)

theorem flushes17 : ∀ n : Fin 15, ∃ t : Fin cfg0.N, (cfg0.win 17).flush t = true ∧ min t.val 14 = n.val :=
  (by decide +kernel : ∀ n : Fin 15, ∃ t : Fin grid0.N, win0_17.flush t = true ∧ min t.val 14 = n.val)

theorem final17 (c : Dev nD) (hA : RowsOk (m ((c : Thread nD τ).loc main_arg1))) :
    (dats m 0 c).arrAt 17 cfg0.N = scalesR (m ((c : Thread nD τ).loc main_arg1)) := by
  refine (dats m 0 c).arrAt_eq_of_cover 17 (scalesR (m ((c : Thread nD τ).loc main_arg1))) (fun t _ => ?_) (fun i => ?_)
  · show (cfg0.win 17).cut (grid0.coords t) ((dats m 0 c).after 17 t) = _
    rw [after0_17, left17 m c hA]
    funext y
    obtain ⟨h, a, rfl⟩ : ∃ (h : Fin 8) (a : Fin 1024), y = ix2 h a := ⟨y 0, y 1, by funext i; match i with | 0 => rfl | 1 => rfl⟩
    obtain ⟨e0, e1⟩ := index17 t
    have ey : (win0_17.blk t).view.emb (ix2 h a) = (ix2 ⟨(blkNo t).val * 8 + h.val, by have := (blkNo t).isLt; omega⟩ a : S120x1024.Idx) := by
      funext e
      apply Fin.ext
      refine ((cfg0.win 17).rect_emb_val t _ e).trans ?_
      match e with
      | 0 => show win0_17.index t 0 * 8 + h.val = min t.val 14 * 8 + h.val; rw [e0]
      | 1 => show win0_17.index t 1 * 1024 + a.val = a.val; rw [e1]; omega
    show scalesG _ (ix2 h a) = scalesR _ ((win0_17.blk t).view.emb (ix2 h a))
    rw [ey]
    show sc (tokRow _ a.val h.val) = rsc (argRow _ a ⟨(blkNo t).val * 8 + h.val, _⟩)
    rw [row1, (row_ok (hA _ _)).2.1]
    unfold rsc
    simp only [Nat.mod_eq_of_lt a.isLt, Nat.mod_eq_of_lt h.isLt]
  · have b0 : (i 0).val < 120 := (i 0).isLt
    have b1 : (i 1).val < 1024 := (i 1).isLt
    obtain ⟨t, hf, ht⟩ := flushes17 ⟨(i 0).val / 8, by omega⟩
    refine ⟨t, hf, ?_⟩
    show i ∈ ((View.whole main_v9_7).slice (win0_17.rect t)).set
    rw [View.set_slice_whole, Rect.mem_set_unit]
    obtain ⟨e0, e1⟩ := index17 t
    have i0 : (i 0).val / 8 = min t.val 14 := ht.symm
    intro a
    match a with
    | 0 => show win0_17.index t 0 * 8 ≤ (i 0).val ∧ (i 0).val < win0_17.index t 0 * 8 + 8; rw [e0]; omega
    | 1 => show win0_17.index t 1 * 1024 ≤ (i 1).val ∧ (i 1).val < win0_17.index t 1 * 1024 + 1024; rw [e1]; omega

end Cert.KernelIdeal.Value
end
-- ==== Proof.Ideal.Htc.lean ====
/- The re-laying of rows of heads as columns, trip by trip and whole. -/
module

public import proofs.«01_k».proof.Proof.Gen.KernelIdeal.Loops
public import proofs.«01_k».proof.Proof.Fills
public import Idealize.ShloMosaic.Lib.Pointwise

@[expose] public section

set_option maxRecDepth 8192

noncomputable section

namespace Cert.KernelIdeal.Gen

open Idealize.ShloMosaic Idealize.ShloMosaic.TcCoe Idealize.ShloMosaic.Tactic Cert.MlaFill

variable {F : FTy → Type} [FloatOps F]

/-- Rows of heads as columns, at the sizes of the tokens. -/
def htcX {α : Type} (X : S4096x2x128.Idx → α) : S512x2x1024.Idx → α := fun y =>
  X (ix3 ⟨8 * (y 0).val + 4 * (y 1).val + (y 2).val / 256, by
      have h0 : (y 0).val < 512 := (y 0).isLt; have h1 : (y 1).val < 2 := (y 1).isLt; have h2 : (y 2).val < 1024 := (y 2).isLt; omega⟩
    ⟨(y 2).val / 128 % 2, Nat.mod_lt _ (by norm_num)⟩ ⟨(y 2).val % 128, Nat.mod_lt _ (by norm_num)⟩)

theorem htcX_cons {α : EltTy → Type} {off : Fin 3 → ℕ} (inb : ∀ a, off a + (![8, 2, 128] : Fin 3 → ℕ) a ≤ S512x2x1024.size a)
    (w : (⟨3, ![8, 2, 128]⟩ : Shape).Idx → α .bf16) {L : List (View.Piece α S512x2x1024 .bf16)} (Y : S4096x2x128.Idx → α .bf16) (k c : ℕ)
    (ho : off = ![8 * k, 0, 128 * c])
    (hw : ∀ (x : (⟨3, ![8, 2, 128]⟩ : Shape).Idx) (y : S512x2x1024.Idx), (y 0).val = 8 * k + (x 0).val → (y 1).val = (x 1).val →
      (y 2).val = 128 * c + (x 2).val → w x = htcX Y y)
    (h : Fills L (fun y => (y 0).val / 8 = k ∧ (y 2).val / 128 < c) (htcX Y)) :
    Fills (⟨Rect.unit (s := S512x2x1024) off ![8, 2, 128] inb, w⟩ :: L) (fun y => (y 0).val / 8 = k ∧ (y 2).val / 128 < c + 1) (htcX Y) := by
  subst ho
  refine Fills.cons (P := fun y => (y 0).val / 8 = k ∧ (y 2).val / 128 = c) (s := S512x2x1024) inb w ?_ ?_ h ?_
  · intro x y hh
    have h0 : (y 0).val = 8 * k + (x 0).val := hh 0
    have h1 : (y 1).val = 0 + (x 1).val := hh 1
    have h2 : (y 2).val = 128 * c + (x 2).val := hh 2
    exact hw x y h0 (by omega) h2
  · rintro y ⟨p0, p2⟩ a
    have y1 : (y 1).val < 2 := (y 1).isLt
    match a with
    | 0 => show 8 * k ≤ (y 0).val ∧ (y 0).val < 8 * k + 8; omega
    | 1 => show 0 ≤ (y 1).val ∧ (y 1).val < 0 + 2; exact ⟨Nat.zero_le _, by omega⟩
    | 2 => show 128 * c ≤ (y 2).val ∧ (y 2).val < 128 * c + 128; omega
  · rintro y ⟨p0, p2⟩
    by_cases hc : (y 2).val / 128 = c
    · exact .inl ⟨p0, hc⟩
    · exact .inr ⟨p0, by omega⟩

theorem htcX_pay {α : Type} (Y : S4096x2x128.Idx → α) (k c : ℕ) (E O : Fin 3 → ℕ) (s : Fin 2) (hE : E = ![64 * k + 4 + c / 2, 0, 0])
    (hO : O = ![64 * k + c / 2, 0, 0]) (hs : s.val = c % 2) (ie io) (x : (⟨3, ![8, 2, 128]⟩ : Shape).Idx) (y : S512x2x1024.Idx)
    (h0 : (y 0).val = 8 * k + (x 0).val) (h1 : (y 1).val = (x 1).val) (h2 : (y 2).val = 128 * c + (x 2).val) (b1 b2 b3 b4) :
    (if (x 1).val % 2 = 0 then
      if 2 * (x 0).val % 2 = 0 then Y (LoadRect.idx (s := S4096x2x128) ⟨O, ![8, 2, 128], ![8, 1, 1], io⟩ (ix3 ⟨2 * (x 0).val / 2, b1⟩ s (x 2)))
      else Y (LoadRect.idx (s := S4096x2x128) ⟨E, ![8, 2, 128], ![8, 1, 1], ie⟩ (ix3 ⟨2 * (x 0).val / 2, b2⟩ s (x 2)))
    else
      if (2 * (x 0).val + 1) % 2 = 0 then Y (LoadRect.idx (s := S4096x2x128) ⟨O, ![8, 2, 128], ![8, 1, 1], io⟩ (ix3 ⟨(2 * (x 0).val + 1) / 2, b3⟩ s (x 2)))
      else Y (LoadRect.idx (s := S4096x2x128) ⟨E, ![8, 2, 128], ![8, 1, 1], ie⟩ (ix3 ⟨(2 * (x 0).val + 1) / 2, b4⟩ s (x 2)))) = htcX Y y := by
  have x0 : (x 0).val < 8 := (x 0).isLt
  have x1 : (x 1).val < 2 := (x 1).isLt
  have x2 : (x 2).val < 128 := (x 2).isLt
  subst hE hO
  rw [if_pos (by omega : 2 * (x 0).val % 2 = 0), if_neg (by omega : ¬ (2 * (x 0).val + 1) % 2 = 0)]
  unfold htcX
  split
  · refine congrArg Y (funext fun a => Fin.ext ?_)
    match a with
    | 0 => show 64 * k + c / 2 + 8 * (2 * (x 0).val / 2) = 8 * (y 0).val + 4 * (y 1).val + (y 2).val / 256; omega
    | 1 => show 0 + 1 * s.val = (y 2).val / 128 % 2; omega
    | 2 => show 0 + 1 * (x 2).val = (y 2).val % 128; omega
  · refine congrArg Y (funext fun a => Fin.ext ?_)
    match a with
    | 0 => show 64 * k + 4 + c / 2 + 8 * ((2 * (x 0).val + 1) / 2) = 8 * (y 0).val + 4 * (y 1).val + (y 2).val / 256; omega
    | 1 => show 0 + 1 * s.val = (y 2).val / 128 % 2; omega
    | 2 => show 0 + 1 * (x 2).val = (y 2).val % 128; omega

/-- Rows of heads as columns, at the sizes of the weights. -/
def htcW {α : Type} (X : S2048x2x128.Idx → α) : S256x2x1024.Idx → α := fun y =>
  X (ix3 ⟨8 * (y 0).val + 4 * (y 1).val + (y 2).val / 256, by
      have h0 : (y 0).val < 256 := (y 0).isLt; have h1 : (y 1).val < 2 := (y 1).isLt; have h2 : (y 2).val < 1024 := (y 2).isLt; omega⟩
    ⟨(y 2).val / 128 % 2, Nat.mod_lt _ (by norm_num)⟩ ⟨(y 2).val % 128, Nat.mod_lt _ (by norm_num)⟩)

theorem htcW_cons {α : EltTy → Type} {off : Fin 3 → ℕ} (inb : ∀ a, off a + (![8, 2, 128] : Fin 3 → ℕ) a ≤ S256x2x1024.size a)
    (w : (⟨3, ![8, 2, 128]⟩ : Shape).Idx → α .bf16) {L : List (View.Piece α S256x2x1024 .bf16)} (Y : S2048x2x128.Idx → α .bf16) (k c : ℕ)
    (ho : off = ![8 * k, 0, 128 * c])
    (hw : ∀ (x : (⟨3, ![8, 2, 128]⟩ : Shape).Idx) (y : S256x2x1024.Idx), (y 0).val = 8 * k + (x 0).val → (y 1).val = (x 1).val →
      (y 2).val = 128 * c + (x 2).val → w x = htcW Y y)
    (h : Fills L (fun y => (y 0).val / 8 = k ∧ (y 2).val / 128 < c) (htcW Y)) :
    Fills (⟨Rect.unit (s := S256x2x1024) off ![8, 2, 128] inb, w⟩ :: L) (fun y => (y 0).val / 8 = k ∧ (y 2).val / 128 < c + 1) (htcW Y) := by
  subst ho
  refine Fills.cons (P := fun y => (y 0).val / 8 = k ∧ (y 2).val / 128 = c) (s := S256x2x1024) inb w ?_ ?_ h ?_
  · intro x y hh
    have h0 : (y 0).val = 8 * k + (x 0).val := hh 0
    have h1 : (y 1).val = 0 + (x 1).val := hh 1
    have h2 : (y 2).val = 128 * c + (x 2).val := hh 2
    exact hw x y h0 (by omega) h2
  · rintro y ⟨p0, p2⟩ a
    have y1 : (y 1).val < 2 := (y 1).isLt
    match a with
    | 0 => show 8 * k ≤ (y 0).val ∧ (y 0).val < 8 * k + 8; omega
    | 1 => show 0 ≤ (y 1).val ∧ (y 1).val < 0 + 2; exact ⟨Nat.zero_le _, by omega⟩
    | 2 => show 128 * c ≤ (y 2).val ∧ (y 2).val < 128 * c + 128; omega
  · rintro y ⟨p0, p2⟩
    by_cases hc : (y 2).val / 128 = c
    · exact .inl ⟨p0, hc⟩
    · exact .inr ⟨p0, by omega⟩

theorem htcW_pay {α : Type} (Y : S2048x2x128.Idx → α) (k c : ℕ) (E O : Fin 3 → ℕ) (s : Fin 2) (hE : E = ![64 * k + 4 + c / 2, 0, 0])
    (hO : O = ![64 * k + c / 2, 0, 0]) (hs : s.val = c % 2) (ie io) (x : (⟨3, ![8, 2, 128]⟩ : Shape).Idx) (y : S256x2x1024.Idx)
    (h0 : (y 0).val = 8 * k + (x 0).val) (h1 : (y 1).val = (x 1).val) (h2 : (y 2).val = 128 * c + (x 2).val) (b1 b2 b3 b4) :
    (if (x 1).val % 2 = 0 then
      if 2 * (x 0).val % 2 = 0 then Y (LoadRect.idx (s := S2048x2x128) ⟨O, ![8, 2, 128], ![8, 1, 1], io⟩ (ix3 ⟨2 * (x 0).val / 2, b1⟩ s (x 2)))
      else Y (LoadRect.idx (s := S2048x2x128) ⟨E, ![8, 2, 128], ![8, 1, 1], ie⟩ (ix3 ⟨2 * (x 0).val / 2, b2⟩ s (x 2)))
    else
      if (2 * (x 0).val + 1) % 2 = 0 then Y (LoadRect.idx (s := S2048x2x128) ⟨O, ![8, 2, 128], ![8, 1, 1], io⟩ (ix3 ⟨(2 * (x 0).val + 1) / 2, b3⟩ s (x 2)))
      else Y (LoadRect.idx (s := S2048x2x128) ⟨E, ![8, 2, 128], ![8, 1, 1], ie⟩ (ix3 ⟨(2 * (x 0).val + 1) / 2, b4⟩ s (x 2)))) = htcW Y y := by
  have x0 : (x 0).val < 8 := (x 0).isLt
  have x1 : (x 1).val < 2 := (x 1).isLt
  have x2 : (x 2).val < 128 := (x 2).isLt
  subst hE hO
  rw [if_pos (by omega : 2 * (x 0).val % 2 = 0), if_neg (by omega : ¬ (2 * (x 0).val + 1) % 2 = 0)]
  unfold htcW
  split
  · refine congrArg Y (funext fun a => Fin.ext ?_)
    match a with
    | 0 => show 64 * k + c / 2 + 8 * (2 * (x 0).val / 2) = 8 * (y 0).val + 4 * (y 1).val + (y 2).val / 256; omega
    | 1 => show 0 + 1 * s.val = (y 2).val / 128 % 2; omega
    | 2 => show 0 + 1 * (x 2).val = (y 2).val % 128; omega
  · refine congrArg Y (funext fun a => Fin.ext ?_)
    match a with
    | 0 => show 64 * k + 4 + c / 2 + 8 * ((2 * (x 0).val + 1) / 2) = 8 * (y 0).val + 4 * (y 1).val + (y 2).val / 256; omega
    | 1 => show 0 + 1 * s.val = (y 2).val / 128 % 2; omega
    | 2 => show 0 + 1 * (x 2).val = (y 2).val % 128; omega

variable (𝒱 : Variants) (c : Dev nD) (bd : Option 𝒱.V) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (p0 : BitVec 32)

theorem off_t2 : ∀ k : Fin k0_t2_loop.trips, k0_off6 k = ![8 * k.val, 0, 128 * 0] ∧ k0_off7 k = ![8 * k.val, 0, 128 * 1] ∧ k0_off8 k = ![8 * k.val, 0, 128 * 2] ∧ k0_off9 k = ![8 * k.val, 0, 128 * 3] ∧ k0_off10 k = ![8 * k.val, 0, 128 * 4] ∧ k0_off11 k = ![8 * k.val, 0, 128 * 5] ∧ k0_off12 k = ![8 * k.val, 0, 128 * 6] ∧ k0_off13 k = ![8 * k.val, 0, 128 * 7] := by decide +kernel

theorem offe_t2 : ∀ (k : Fin k0_t2_loop.trips), (∀ j : Fin 4, k0_off5 k (BitVec.ofNat 32 j.val) = ![64 * k.val + 4 + j.val, 0, 0]) ∧ ∀ j : Fin 4, k0_off4 k (BitVec.ofNat 32 j.val) = ![64 * k.val + j.val, 0, 0] := by decide +kernel

theorem htc_t2 (k0_h1 : k0_cond1 i = 1#1) (v129 : IVec S8x1024 32) (X_arg22 : BufTy.Contents (Elt F) p22.view.ty) (k : Fin k0_t2_loop.trips) :
    Fills (tripL_k0_t2 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg22 k) (fun y => (y 0).val / 8 = k.val) (htcX (p22.view.read (Elt F) X_arg22)) := by
  obtain ⟨o0, o1, o2, o3, o4, o5, o6, o7⟩ := off_t2 k
  obtain ⟨hE, hO⟩ := offe_t2 k
  unfold tripL_k0_t2 trip_k0_t2
  dsimp only
  generalize hY : p22.view.read (Elt F) X_arg22 = Y
  refine Fills.mono (P := fun y => (y 0).val / 8 = k.val ∧ (y 2).val / 128 < 8) ?_ fun y p0 => ⟨p0, by have y2 : (y 2).val < 1024 := (y 2).isLt; omega⟩
  refine htcX_cons _ _ Y k.val 7 o7 (fun x y h0 h1 h2 => ?_) ?_
  swap
  refine htcX_cons _ _ Y k.val 6 o6 (fun x y h0 h1 h2 => ?_) ?_
  swap
  refine htcX_cons _ _ Y k.val 5 o5 (fun x y h0 h1 h2 => ?_) ?_
  swap
  refine htcX_cons _ _ Y k.val 4 o4 (fun x y h0 h1 h2 => ?_) ?_
  swap
  refine htcX_cons _ _ Y k.val 3 o3 (fun x y h0 h1 h2 => ?_) ?_
  swap
  refine htcX_cons _ _ Y k.val 2 o2 (fun x y h0 h1 h2 => ?_) ?_
  swap
  refine htcX_cons _ _ Y k.val 1 o1 (fun x y h0 h1 h2 => ?_) ?_
  swap
  refine htcX_cons _ _ Y k.val 0 o0 (fun x y h0 h1 h2 => ?_) ?_
  swap
  · exact Fills.nil _ fun y ⟨_, p⟩ => Nat.not_lt_zero _ p
  all_goals
    pointwise [trip_k0_t2.sl.v363_hi, trip_k0_t2.sl.v363_lo, trip_k0_t2.sl.k0_w15, trip_k0_t2.sl.k0_w14, trip_k0_t2.sl.k0_w13, trip_k0_t2.sl.k0_w12, trip_k0_t2.sl.k0_w11, trip_k0_t2.sl.k0_w10, trip_k0_t2.sl.v355_lo, trip_k0_t2.sl.v355_hi, trip_k0_t2.sl.v349_lo, trip_k0_t2.sl.v349_hi, trip_k0_t2.sl.v324_lo, trip_k0_t2.sl.v324_hi, trip_k0_t2.sl.v318_lo, trip_k0_t2.sl.v318_hi, trip_k0_t2.sl.v293_lo, trip_k0_t2.sl.v293_hi, trip_k0_t2.sl.v287_lo, trip_k0_t2.sl.v287_hi, trip_k0_t2.sl.v354, trip_k0_t2.sl.v348, trip_k0_t2.sl.v323, trip_k0_t2.sl.v317, trip_k0_t2.sl.v292, trip_k0_t2.sl.v286, trip_k0_t2.sl.v332_hi, trip_k0_t2.sl.v335_hi, trip_k0_t2.sl.v332_lo, trip_k0_t2.sl.v335_lo, trip_k0_t2.sl.v301_hi, trip_k0_t2.sl.v304_hi, trip_k0_t2.sl.v301_lo, trip_k0_t2.sl.v304_lo, trip_k0_t2.sl.v270_hi, trip_k0_t2.sl.v273_hi, trip_k0_t2.sl.v270_lo, trip_k0_t2.sl.v273_lo, k0_pay107, k0_pay108, trip_k0_t2.sl.r]
    simp only [View.readAt_apply, hY]
  · exact htcX_pay Y k.val 0 _ _ 0 (hE 0) (hO 0) rfl _ _ x y h0 h1 h2 _ _ _ _
  · exact htcX_pay Y k.val 1 _ _ 1 (hE 0) (hO 0) rfl _ _ x y h0 h1 h2 _ _ _ _
  · exact htcX_pay Y k.val 2 _ _ 0 (hE 1) (hO 1) rfl _ _ x y h0 h1 h2 _ _ _ _
  · exact htcX_pay Y k.val 3 _ _ 1 (hE 1) (hO 1) rfl _ _ x y h0 h1 h2 _ _ _ _
  · exact htcX_pay Y k.val 4 _ _ 0 (hE 2) (hO 2) rfl _ _ x y h0 h1 h2 _ _ _ _
  · exact htcX_pay Y k.val 5 _ _ 1 (hE 2) (hO 2) rfl _ _ x y h0 h1 h2 _ _ _ _
  · exact htcX_pay Y k.val 6 _ _ 0 (hE 3) (hO 3) rfl _ _ x y h0 h1 h2 _ _ _ _
  · exact htcX_pay Y k.val 7 _ _ 1 (hE 3) (hO 3) rfl _ _ x y h0 h1 h2 _ _ _ _

theorem htcs_t2 (k0_h1 : k0_cond1 i = 1#1) (v129 : IVec S8x1024 32) (X_arg22 : BufTy.Contents (Elt F) p22.view.ty) : Fills (pb_k0_t2 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg22 k0_t2_loop.trips) (fun _ => True) (htcX (p22.view.read (Elt F) X_arg22)) := by
  refine (Fills.loop (T := k0_t2_loop.trips) (fun k => pb_k0_t2 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg22 k) (fun k => tripL_k0_t2 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg22 k) (fun k y => (y 0).val / 8 = k) rfl (fun k => pb_k0_t2_succ 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg22 k) (fun k => htc_t2 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg22 k) _ le_rfl).mono fun y _ => ⟨(y 0).val / 8, ?_, rfl⟩
  have y0 : (y 0).val < 512 := (y 0).isLt
  show _ < 64
  omega

theorem off_t7 : ∀ k : Fin k0_t7_loop.trips, k0_off28 k = ![8 * k.val, 0, 128 * 0] ∧ k0_off29 k = ![8 * k.val, 0, 128 * 1] ∧ k0_off30 k = ![8 * k.val, 0, 128 * 2] ∧ k0_off31 k = ![8 * k.val, 0, 128 * 3] ∧ k0_off32 k = ![8 * k.val, 0, 128 * 4] ∧ k0_off33 k = ![8 * k.val, 0, 128 * 5] ∧ k0_off34 k = ![8 * k.val, 0, 128 * 6] ∧ k0_off35 k = ![8 * k.val, 0, 128 * 7] := by decide +kernel

theorem offe_t7 : ∀ (k : Fin k0_t7_loop.trips), (∀ j : Fin 4, k0_off27 k (BitVec.ofNat 32 j.val) = ![64 * k.val + 4 + j.val, 0, 0]) ∧ ∀ j : Fin 4, k0_off26 k (BitVec.ofNat 32 j.val) = ![64 * k.val + j.val, 0, 0] := by decide +kernel

theorem htc_t7 (k0_h1 : k0_cond1 i = 1#1) (v129 : IVec S8x1024 32) (X_arg23 : BufTy.Contents (Elt F) p23.view.ty) (k : Fin k0_t7_loop.trips) :
    Fills (tripL_k0_t7 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg23 k) (fun y => (y 0).val / 8 = k.val) (htcW (p23.view.read (Elt F) X_arg23)) := by
  obtain ⟨o0, o1, o2, o3, o4, o5, o6, o7⟩ := off_t7 k
  obtain ⟨hE, hO⟩ := offe_t7 k
  unfold tripL_k0_t7 trip_k0_t7
  dsimp only
  generalize hY : p23.view.read (Elt F) X_arg23 = Y
  refine Fills.mono (P := fun y => (y 0).val / 8 = k.val ∧ (y 2).val / 128 < 8) ?_ fun y p0 => ⟨p0, by have y2 : (y 2).val < 1024 := (y 2).isLt; omega⟩
  refine htcW_cons _ _ Y k.val 7 o7 (fun x y h0 h1 h2 => ?_) ?_
  swap
  refine htcW_cons _ _ Y k.val 6 o6 (fun x y h0 h1 h2 => ?_) ?_
  swap
  refine htcW_cons _ _ Y k.val 5 o5 (fun x y h0 h1 h2 => ?_) ?_
  swap
  refine htcW_cons _ _ Y k.val 4 o4 (fun x y h0 h1 h2 => ?_) ?_
  swap
  refine htcW_cons _ _ Y k.val 3 o3 (fun x y h0 h1 h2 => ?_) ?_
  swap
  refine htcW_cons _ _ Y k.val 2 o2 (fun x y h0 h1 h2 => ?_) ?_
  swap
  refine htcW_cons _ _ Y k.val 1 o1 (fun x y h0 h1 h2 => ?_) ?_
  swap
  refine htcW_cons _ _ Y k.val 0 o0 (fun x y h0 h1 h2 => ?_) ?_
  swap
  · exact Fills.nil _ fun y ⟨_, p⟩ => Nat.not_lt_zero _ p
  all_goals
    pointwise [trip_k0_t7.sl.v363_hi, trip_k0_t7.sl.v363_lo, trip_k0_t7.sl.k0_w27, trip_k0_t7.sl.k0_w26, trip_k0_t7.sl.k0_w25, trip_k0_t7.sl.k0_w24, trip_k0_t7.sl.k0_w23, trip_k0_t7.sl.k0_w22, trip_k0_t7.sl.v355_lo, trip_k0_t7.sl.v355_hi, trip_k0_t7.sl.v349_lo, trip_k0_t7.sl.v349_hi, trip_k0_t7.sl.v324_lo, trip_k0_t7.sl.v324_hi, trip_k0_t7.sl.v318_lo, trip_k0_t7.sl.v318_hi, trip_k0_t7.sl.v293_lo, trip_k0_t7.sl.v293_hi, trip_k0_t7.sl.v287_lo, trip_k0_t7.sl.v287_hi, trip_k0_t7.sl.v354, trip_k0_t7.sl.v348, trip_k0_t7.sl.v323, trip_k0_t7.sl.v317, trip_k0_t7.sl.v292, trip_k0_t7.sl.v286, trip_k0_t7.sl.v332_hi, trip_k0_t7.sl.v335_hi, trip_k0_t7.sl.v332_lo, trip_k0_t7.sl.v335_lo, trip_k0_t7.sl.v301_hi, trip_k0_t7.sl.v304_hi, trip_k0_t7.sl.v301_lo, trip_k0_t7.sl.v304_lo, trip_k0_t7.sl.v270_hi, trip_k0_t7.sl.v273_hi, trip_k0_t7.sl.v270_lo, trip_k0_t7.sl.v273_lo, k0_pay113, k0_pay114, trip_k0_t7.sl.r]
    simp only [View.readAt_apply, hY]
  · exact htcW_pay Y k.val 0 _ _ 0 (hE 0) (hO 0) rfl _ _ x y h0 h1 h2 _ _ _ _
  · exact htcW_pay Y k.val 1 _ _ 1 (hE 0) (hO 0) rfl _ _ x y h0 h1 h2 _ _ _ _
  · exact htcW_pay Y k.val 2 _ _ 0 (hE 1) (hO 1) rfl _ _ x y h0 h1 h2 _ _ _ _
  · exact htcW_pay Y k.val 3 _ _ 1 (hE 1) (hO 1) rfl _ _ x y h0 h1 h2 _ _ _ _
  · exact htcW_pay Y k.val 4 _ _ 0 (hE 2) (hO 2) rfl _ _ x y h0 h1 h2 _ _ _ _
  · exact htcW_pay Y k.val 5 _ _ 1 (hE 2) (hO 2) rfl _ _ x y h0 h1 h2 _ _ _ _
  · exact htcW_pay Y k.val 6 _ _ 0 (hE 3) (hO 3) rfl _ _ x y h0 h1 h2 _ _ _ _
  · exact htcW_pay Y k.val 7 _ _ 1 (hE 3) (hO 3) rfl _ _ x y h0 h1 h2 _ _ _ _

theorem htcs_t7 (k0_h1 : k0_cond1 i = 1#1) (v129 : IVec S8x1024 32) (X_arg23 : BufTy.Contents (Elt F) p23.view.ty) : Fills (pb_k0_t7 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg23 k0_t7_loop.trips) (fun _ => True) (htcW (p23.view.read (Elt F) X_arg23)) := by
  refine (Fills.loop (T := k0_t7_loop.trips) (fun k => pb_k0_t7 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg23 k) (fun k => tripL_k0_t7 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg23 k) (fun k y => (y 0).val / 8 = k) rfl (fun k => pb_k0_t7_succ 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg23 k) (fun k => htc_t7 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v129 X_arg23 k) _ le_rfl).mono fun y _ => ⟨(y 0).val / 8, ?_, rfl⟩
  have y0 : (y 0).val < 256 := (y 0).isLt
  show _ < 32
  omega

theorem off_t9 : ∀ k : Fin k0_t9_loop.trips, k0_off41 k = ![8 * k.val, 0, 128 * 0] ∧ k0_off42 k = ![8 * k.val, 0, 128 * 1] ∧ k0_off43 k = ![8 * k.val, 0, 128 * 2] ∧ k0_off44 k = ![8 * k.val, 0, 128 * 3] ∧ k0_off45 k = ![8 * k.val, 0, 128 * 4] ∧ k0_off46 k = ![8 * k.val, 0, 128 * 5] ∧ k0_off47 k = ![8 * k.val, 0, 128 * 6] ∧ k0_off48 k = ![8 * k.val, 0, 128 * 7] := by decide +kernel

theorem offe_t9 : ∀ (k : Fin k0_t9_loop.trips), (∀ j : Fin 4, k0_off40 k (BitVec.ofNat 32 j.val) = ![64 * k.val + 4 + j.val, 0, 0]) ∧ ∀ j : Fin 4, k0_off39 k (BitVec.ofNat 32 j.val) = ![64 * k.val + j.val, 0, 0] := by decide +kernel

theorem htc_t9 (k0_h1 : k0_cond1 i = 1#1) (v164 : IVec S8x1024 32) (v165 : IVec S8x1024 32) (c4_i32_90 : BitVec 32) (v167 : IVec S8x1024 32) (v170 : IVec S8x1024 32) (v172 : IVec S8x1024 1) (X_arg22 : BufTy.Contents (Elt F) p22.view.ty) (k : Fin k0_t9_loop.trips) :
    Fills (tripL_k0_t9 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v164 v165 c4_i32_90 v167 v170 v172 X_arg22 k) (fun y => (y 0).val / 8 = k.val) (htcX (p22.view.read (Elt F) X_arg22)) := by
  obtain ⟨o0, o1, o2, o3, o4, o5, o6, o7⟩ := off_t9 k
  obtain ⟨hE, hO⟩ := offe_t9 k
  unfold tripL_k0_t9 trip_k0_t9
  dsimp only
  generalize hY : p22.view.read (Elt F) X_arg22 = Y
  refine Fills.mono (P := fun y => (y 0).val / 8 = k.val ∧ (y 2).val / 128 < 8) ?_ fun y p0 => ⟨p0, by have y2 : (y 2).val < 1024 := (y 2).isLt; omega⟩
  refine htcX_cons _ _ Y k.val 7 o7 (fun x y h0 h1 h2 => ?_) ?_
  swap
  refine htcX_cons _ _ Y k.val 6 o6 (fun x y h0 h1 h2 => ?_) ?_
  swap
  refine htcX_cons _ _ Y k.val 5 o5 (fun x y h0 h1 h2 => ?_) ?_
  swap
  refine htcX_cons _ _ Y k.val 4 o4 (fun x y h0 h1 h2 => ?_) ?_
  swap
  refine htcX_cons _ _ Y k.val 3 o3 (fun x y h0 h1 h2 => ?_) ?_
  swap
  refine htcX_cons _ _ Y k.val 2 o2 (fun x y h0 h1 h2 => ?_) ?_
  swap
  refine htcX_cons _ _ Y k.val 1 o1 (fun x y h0 h1 h2 => ?_) ?_
  swap
  refine htcX_cons _ _ Y k.val 0 o0 (fun x y h0 h1 h2 => ?_) ?_
  swap
  · exact Fills.nil _ fun y ⟨_, p⟩ => Nat.not_lt_zero _ p
  all_goals
    pointwise [trip_k0_t9.sl.v363_hi, trip_k0_t9.sl.v363_lo, trip_k0_t9.sl.k0_w40, trip_k0_t9.sl.k0_w39, trip_k0_t9.sl.k0_w38, trip_k0_t9.sl.k0_w37, trip_k0_t9.sl.k0_w36, trip_k0_t9.sl.k0_w35, trip_k0_t9.sl.v355_lo, trip_k0_t9.sl.v355_hi, trip_k0_t9.sl.v349_lo, trip_k0_t9.sl.v349_hi, trip_k0_t9.sl.v324_lo, trip_k0_t9.sl.v324_hi, trip_k0_t9.sl.v318_lo, trip_k0_t9.sl.v318_hi, trip_k0_t9.sl.v293_lo, trip_k0_t9.sl.v293_hi, trip_k0_t9.sl.v287_lo, trip_k0_t9.sl.v287_hi, trip_k0_t9.sl.v354, trip_k0_t9.sl.v348, trip_k0_t9.sl.v323, trip_k0_t9.sl.v317, trip_k0_t9.sl.v292, trip_k0_t9.sl.v286, trip_k0_t9.sl.v332_hi, trip_k0_t9.sl.v335_hi, trip_k0_t9.sl.v332_lo, trip_k0_t9.sl.v335_lo, trip_k0_t9.sl.v301_hi, trip_k0_t9.sl.v304_hi, trip_k0_t9.sl.v301_lo, trip_k0_t9.sl.v304_lo, trip_k0_t9.sl.v270_hi, trip_k0_t9.sl.v273_hi, trip_k0_t9.sl.v270_lo, trip_k0_t9.sl.v273_lo, k0_pay132, k0_pay133, trip_k0_t9.sl.r]
    simp only [View.readAt_apply, hY]
  · exact htcX_pay Y k.val 0 _ _ 0 (hE 0) (hO 0) rfl _ _ x y h0 h1 h2 _ _ _ _
  · exact htcX_pay Y k.val 1 _ _ 1 (hE 0) (hO 0) rfl _ _ x y h0 h1 h2 _ _ _ _
  · exact htcX_pay Y k.val 2 _ _ 0 (hE 1) (hO 1) rfl _ _ x y h0 h1 h2 _ _ _ _
  · exact htcX_pay Y k.val 3 _ _ 1 (hE 1) (hO 1) rfl _ _ x y h0 h1 h2 _ _ _ _
  · exact htcX_pay Y k.val 4 _ _ 0 (hE 2) (hO 2) rfl _ _ x y h0 h1 h2 _ _ _ _
  · exact htcX_pay Y k.val 5 _ _ 1 (hE 2) (hO 2) rfl _ _ x y h0 h1 h2 _ _ _ _
  · exact htcX_pay Y k.val 6 _ _ 0 (hE 3) (hO 3) rfl _ _ x y h0 h1 h2 _ _ _ _
  · exact htcX_pay Y k.val 7 _ _ 1 (hE 3) (hO 3) rfl _ _ x y h0 h1 h2 _ _ _ _

theorem htcs_t9 (k0_h1 : k0_cond1 i = 1#1) (v164 : IVec S8x1024 32) (v165 : IVec S8x1024 32) (c4_i32_90 : BitVec 32) (v167 : IVec S8x1024 32) (v170 : IVec S8x1024 32) (v172 : IVec S8x1024 1) (X_arg22 : BufTy.Contents (Elt F) p22.view.ty) : Fills (pb_k0_t9 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v164 v165 c4_i32_90 v167 v170 v172 X_arg22 k0_t9_loop.trips) (fun _ => True) (htcX (p22.view.read (Elt F) X_arg22)) := by
  refine (Fills.loop (T := k0_t9_loop.trips) (fun k => pb_k0_t9 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v164 v165 c4_i32_90 v167 v170 v172 X_arg22 k) (fun k => tripL_k0_t9 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v164 v165 c4_i32_90 v167 v170 v172 X_arg22 k) (fun k y => (y 0).val / 8 = k) rfl (fun k => pb_k0_t9_succ 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v164 v165 c4_i32_90 v167 v170 v172 X_arg22 k) (fun k => htc_t9 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h1 v164 v165 c4_i32_90 v167 v170 v172 X_arg22 k) _ le_rfl).mono fun y _ => ⟨(y 0).val / 8, ?_, rfl⟩
  have y0 : (y 0).val < 512 := (y 0).isLt
  show _ < 64
  omega

theorem off_t14 : ∀ k : Fin k0_t14_loop.trips, k0_off63 k = ![8 * k.val, 0, 128 * 0] ∧ k0_off64 k = ![8 * k.val, 0, 128 * 1] ∧ k0_off65 k = ![8 * k.val, 0, 128 * 2] ∧ k0_off66 k = ![8 * k.val, 0, 128 * 3] ∧ k0_off67 k = ![8 * k.val, 0, 128 * 4] ∧ k0_off68 k = ![8 * k.val, 0, 128 * 5] ∧ k0_off69 k = ![8 * k.val, 0, 128 * 6] ∧ k0_off70 k = ![8 * k.val, 0, 128 * 7] := by decide +kernel

theorem offe_t14 : ∀ (k : Fin k0_t14_loop.trips), (∀ j : Fin 4, k0_off62 k (BitVec.ofNat 32 j.val) = ![64 * k.val + 4 + j.val, 0, 0]) ∧ ∀ j : Fin 4, k0_off61 k (BitVec.ofNat 32 j.val) = ![64 * k.val + j.val, 0, 0] := by decide +kernel

theorem htc_t14 (k0_h1 : k0_cond1 i = 1#1) (v202 : BitVec 32) (X_arg23 : BufTy.Contents (Elt F) p23.view.ty) (k : Fin k0_t14_loop.trips) :
    Fills (tripL_k0_t14 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h1 v202 X_arg23 k) (fun y => (y 0).val / 8 = k.val) (htcW (p23.view.read (Elt F) X_arg23)) := by
  obtain ⟨o0, o1, o2, o3, o4, o5, o6, o7⟩ := off_t14 k
  obtain ⟨hE, hO⟩ := offe_t14 k
  unfold tripL_k0_t14 trip_k0_t14
  dsimp only
  generalize hY : p23.view.read (Elt F) X_arg23 = Y
  refine Fills.mono (P := fun y => (y 0).val / 8 = k.val ∧ (y 2).val / 128 < 8) ?_ fun y p0 => ⟨p0, by have y2 : (y 2).val < 1024 := (y 2).isLt; omega⟩
  refine htcW_cons _ _ Y k.val 7 o7 (fun x y h0 h1 h2 => ?_) ?_
  swap
  refine htcW_cons _ _ Y k.val 6 o6 (fun x y h0 h1 h2 => ?_) ?_
  swap
  refine htcW_cons _ _ Y k.val 5 o5 (fun x y h0 h1 h2 => ?_) ?_
  swap
  refine htcW_cons _ _ Y k.val 4 o4 (fun x y h0 h1 h2 => ?_) ?_
  swap
  refine htcW_cons _ _ Y k.val 3 o3 (fun x y h0 h1 h2 => ?_) ?_
  swap
  refine htcW_cons _ _ Y k.val 2 o2 (fun x y h0 h1 h2 => ?_) ?_
  swap
  refine htcW_cons _ _ Y k.val 1 o1 (fun x y h0 h1 h2 => ?_) ?_
  swap
  refine htcW_cons _ _ Y k.val 0 o0 (fun x y h0 h1 h2 => ?_) ?_
  swap
  · exact Fills.nil _ fun y ⟨_, p⟩ => Nat.not_lt_zero _ p
  all_goals
    pointwise [trip_k0_t14.sl.v363_hi, trip_k0_t14.sl.v363_lo, trip_k0_t14.sl.k0_w52, trip_k0_t14.sl.k0_w51, trip_k0_t14.sl.k0_w50, trip_k0_t14.sl.k0_w49, trip_k0_t14.sl.k0_w48, trip_k0_t14.sl.k0_w47, trip_k0_t14.sl.v355_lo, trip_k0_t14.sl.v355_hi, trip_k0_t14.sl.v349_lo, trip_k0_t14.sl.v349_hi, trip_k0_t14.sl.v324_lo, trip_k0_t14.sl.v324_hi, trip_k0_t14.sl.v318_lo, trip_k0_t14.sl.v318_hi, trip_k0_t14.sl.v293_lo, trip_k0_t14.sl.v293_hi, trip_k0_t14.sl.v287_lo, trip_k0_t14.sl.v287_hi, trip_k0_t14.sl.v354, trip_k0_t14.sl.v348, trip_k0_t14.sl.v323, trip_k0_t14.sl.v317, trip_k0_t14.sl.v292, trip_k0_t14.sl.v286, trip_k0_t14.sl.v332_hi, trip_k0_t14.sl.v335_hi, trip_k0_t14.sl.v332_lo, trip_k0_t14.sl.v335_lo, trip_k0_t14.sl.v301_hi, trip_k0_t14.sl.v304_hi, trip_k0_t14.sl.v301_lo, trip_k0_t14.sl.v304_lo, trip_k0_t14.sl.v270_hi, trip_k0_t14.sl.v273_hi, trip_k0_t14.sl.v270_lo, trip_k0_t14.sl.v273_lo, k0_pay138, k0_pay139, trip_k0_t14.sl.r]
    simp only [View.readAt_apply, hY]
  · exact htcW_pay Y k.val 0 _ _ 0 (hE 0) (hO 0) rfl _ _ x y h0 h1 h2 _ _ _ _
  · exact htcW_pay Y k.val 1 _ _ 1 (hE 0) (hO 0) rfl _ _ x y h0 h1 h2 _ _ _ _
  · exact htcW_pay Y k.val 2 _ _ 0 (hE 1) (hO 1) rfl _ _ x y h0 h1 h2 _ _ _ _
  · exact htcW_pay Y k.val 3 _ _ 1 (hE 1) (hO 1) rfl _ _ x y h0 h1 h2 _ _ _ _
  · exact htcW_pay Y k.val 4 _ _ 0 (hE 2) (hO 2) rfl _ _ x y h0 h1 h2 _ _ _ _
  · exact htcW_pay Y k.val 5 _ _ 1 (hE 2) (hO 2) rfl _ _ x y h0 h1 h2 _ _ _ _
  · exact htcW_pay Y k.val 6 _ _ 0 (hE 3) (hO 3) rfl _ _ x y h0 h1 h2 _ _ _ _
  · exact htcW_pay Y k.val 7 _ _ 1 (hE 3) (hO 3) rfl _ _ x y h0 h1 h2 _ _ _ _

theorem htcs_t14 (k0_h1 : k0_cond1 i = 1#1) (v202 : BitVec 32) (X_arg23 : BufTy.Contents (Elt F) p23.view.ty) : Fills (pb_k0_t14 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h1 v202 X_arg23 k0_t14_loop.trips) (fun _ => True) (htcW (p23.view.read (Elt F) X_arg23)) := by
  refine (Fills.loop (T := k0_t14_loop.trips) (fun k => pb_k0_t14 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h1 v202 X_arg23 k) (fun k => tripL_k0_t14 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h1 v202 X_arg23 k) (fun k y => (y 0).val / 8 = k) rfl (fun k => pb_k0_t14_succ 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h1 v202 X_arg23 k) (fun k => htc_t14 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h1 v202 X_arg23 k) _ le_rfl).mono fun y _ => ⟨(y 0).val / 8, ?_, rfl⟩
  have y0 : (y 0).val < 256 := (y 0).isLt
  show _ < 32
  omega

theorem off_t16 : ∀ k : Fin k0_t16_loop.trips, k0_off76 k = ![8 * k.val, 0, 128 * 0] ∧ k0_off77 k = ![8 * k.val, 0, 128 * 1] ∧ k0_off78 k = ![8 * k.val, 0, 128 * 2] ∧ k0_off79 k = ![8 * k.val, 0, 128 * 3] ∧ k0_off80 k = ![8 * k.val, 0, 128 * 4] ∧ k0_off81 k = ![8 * k.val, 0, 128 * 5] ∧ k0_off82 k = ![8 * k.val, 0, 128 * 6] ∧ k0_off83 k = ![8 * k.val, 0, 128 * 7] := by decide +kernel

theorem offe_t16 : ∀ (k : Fin k0_t16_loop.trips), (∀ j : Fin 4, k0_off75 k (BitVec.ofNat 32 j.val) = ![64 * k.val + 4 + j.val, 0, 0]) ∧ ∀ j : Fin 4, k0_off74 k (BitVec.ofNat 32 j.val) = ![64 * k.val + j.val, 0, 0] := by decide +kernel

theorem htc_t16 (k0_h2 : k0_cond2 i = 1#1) (X_arg22 : BufTy.Contents (Elt F) p22.view.ty) (k : Fin k0_t16_loop.trips) :
    Fills (tripL_k0_t16 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 X_arg22 k) (fun y => (y 0).val / 8 = k.val) (htcX (p22.view.read (Elt F) X_arg22)) := by
  obtain ⟨o0, o1, o2, o3, o4, o5, o6, o7⟩ := off_t16 k
  obtain ⟨hE, hO⟩ := offe_t16 k
  unfold tripL_k0_t16 trip_k0_t16
  dsimp only
  generalize hY : p22.view.read (Elt F) X_arg22 = Y
  refine Fills.mono (P := fun y => (y 0).val / 8 = k.val ∧ (y 2).val / 128 < 8) ?_ fun y p0 => ⟨p0, by have y2 : (y 2).val < 1024 := (y 2).isLt; omega⟩
  refine htcX_cons _ _ Y k.val 7 o7 (fun x y h0 h1 h2 => ?_) ?_
  swap
  refine htcX_cons _ _ Y k.val 6 o6 (fun x y h0 h1 h2 => ?_) ?_
  swap
  refine htcX_cons _ _ Y k.val 5 o5 (fun x y h0 h1 h2 => ?_) ?_
  swap
  refine htcX_cons _ _ Y k.val 4 o4 (fun x y h0 h1 h2 => ?_) ?_
  swap
  refine htcX_cons _ _ Y k.val 3 o3 (fun x y h0 h1 h2 => ?_) ?_
  swap
  refine htcX_cons _ _ Y k.val 2 o2 (fun x y h0 h1 h2 => ?_) ?_
  swap
  refine htcX_cons _ _ Y k.val 1 o1 (fun x y h0 h1 h2 => ?_) ?_
  swap
  refine htcX_cons _ _ Y k.val 0 o0 (fun x y h0 h1 h2 => ?_) ?_
  swap
  · exact Fills.nil _ fun y ⟨_, p⟩ => Nat.not_lt_zero _ p
  all_goals
    pointwise [trip_k0_t16.sl.v352_hi, trip_k0_t16.sl.v352_lo, trip_k0_t16.sl.k0_w65, trip_k0_t16.sl.k0_w64, trip_k0_t16.sl.k0_w63, trip_k0_t16.sl.k0_w62, trip_k0_t16.sl.k0_w61, trip_k0_t16.sl.k0_w60, trip_k0_t16.sl.v344_lo, trip_k0_t16.sl.v344_hi, trip_k0_t16.sl.v338_lo, trip_k0_t16.sl.v338_hi, trip_k0_t16.sl.v313_lo, trip_k0_t16.sl.v313_hi, trip_k0_t16.sl.v307_lo, trip_k0_t16.sl.v307_hi, trip_k0_t16.sl.v282_lo, trip_k0_t16.sl.v282_hi, trip_k0_t16.sl.v276_lo, trip_k0_t16.sl.v276_hi, trip_k0_t16.sl.v343, trip_k0_t16.sl.v337, trip_k0_t16.sl.v312, trip_k0_t16.sl.v306, trip_k0_t16.sl.v281, trip_k0_t16.sl.v275, trip_k0_t16.sl.v321_hi, trip_k0_t16.sl.v324_hi, trip_k0_t16.sl.v321_lo, trip_k0_t16.sl.v324_lo, trip_k0_t16.sl.v290_hi, trip_k0_t16.sl.v293_hi, trip_k0_t16.sl.v290_lo, trip_k0_t16.sl.v293_lo, trip_k0_t16.sl.v259_hi, trip_k0_t16.sl.v262_hi, trip_k0_t16.sl.v259_lo, trip_k0_t16.sl.v262_lo, k0_pay228, k0_pay229, trip_k0_t16.sl.r]
    simp only [View.readAt_apply, hY]
  · exact htcX_pay Y k.val 0 _ _ 0 (hE 0) (hO 0) rfl _ _ x y h0 h1 h2 _ _ _ _
  · exact htcX_pay Y k.val 1 _ _ 1 (hE 0) (hO 0) rfl _ _ x y h0 h1 h2 _ _ _ _
  · exact htcX_pay Y k.val 2 _ _ 0 (hE 1) (hO 1) rfl _ _ x y h0 h1 h2 _ _ _ _
  · exact htcX_pay Y k.val 3 _ _ 1 (hE 1) (hO 1) rfl _ _ x y h0 h1 h2 _ _ _ _
  · exact htcX_pay Y k.val 4 _ _ 0 (hE 2) (hO 2) rfl _ _ x y h0 h1 h2 _ _ _ _
  · exact htcX_pay Y k.val 5 _ _ 1 (hE 2) (hO 2) rfl _ _ x y h0 h1 h2 _ _ _ _
  · exact htcX_pay Y k.val 6 _ _ 0 (hE 3) (hO 3) rfl _ _ x y h0 h1 h2 _ _ _ _
  · exact htcX_pay Y k.val 7 _ _ 1 (hE 3) (hO 3) rfl _ _ x y h0 h1 h2 _ _ _ _

theorem htcs_t16 (k0_h2 : k0_cond2 i = 1#1) (X_arg22 : BufTy.Contents (Elt F) p22.view.ty) : Fills (pb_k0_t16 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 X_arg22 k0_t16_loop.trips) (fun _ => True) (htcX (p22.view.read (Elt F) X_arg22)) := by
  refine (Fills.loop (T := k0_t16_loop.trips) (fun k => pb_k0_t16 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 X_arg22 k) (fun k => tripL_k0_t16 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 X_arg22 k) (fun k y => (y 0).val / 8 = k) rfl (fun k => pb_k0_t16_succ 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 X_arg22 k) (fun k => htc_t16 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 X_arg22 k) _ le_rfl).mono fun y _ => ⟨(y 0).val / 8, ?_, rfl⟩
  have y0 : (y 0).val < 512 := (y 0).isLt
  show _ < 64
  omega

theorem off_t21 : ∀ k : Fin k0_t21_loop.trips, k0_off98 k = ![8 * k.val, 0, 128 * 0] ∧ k0_off99 k = ![8 * k.val, 0, 128 * 1] ∧ k0_off100 k = ![8 * k.val, 0, 128 * 2] ∧ k0_off101 k = ![8 * k.val, 0, 128 * 3] ∧ k0_off102 k = ![8 * k.val, 0, 128 * 4] ∧ k0_off103 k = ![8 * k.val, 0, 128 * 5] ∧ k0_off104 k = ![8 * k.val, 0, 128 * 6] ∧ k0_off105 k = ![8 * k.val, 0, 128 * 7] := by decide +kernel

theorem offe_t21 : ∀ (k : Fin k0_t21_loop.trips), (∀ j : Fin 4, k0_off97 k (BitVec.ofNat 32 j.val) = ![64 * k.val + 4 + j.val, 0, 0]) ∧ ∀ j : Fin 4, k0_off96 k (BitVec.ofNat 32 j.val) = ![64 * k.val + j.val, 0, 0] := by decide +kernel

theorem htc_t21 (k0_h2 : k0_cond2 i = 1#1) (v69 : BitVec 32) (X_arg23 : BufTy.Contents (Elt F) p23.view.ty) (k : Fin k0_t21_loop.trips) :
    Fills (tripL_k0_t21 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v69 X_arg23 k) (fun y => (y 0).val / 8 = k.val) (htcW (p23.view.read (Elt F) X_arg23)) := by
  obtain ⟨o0, o1, o2, o3, o4, o5, o6, o7⟩ := off_t21 k
  obtain ⟨hE, hO⟩ := offe_t21 k
  unfold tripL_k0_t21 trip_k0_t21
  dsimp only
  generalize hY : p23.view.read (Elt F) X_arg23 = Y
  refine Fills.mono (P := fun y => (y 0).val / 8 = k.val ∧ (y 2).val / 128 < 8) ?_ fun y p0 => ⟨p0, by have y2 : (y 2).val < 1024 := (y 2).isLt; omega⟩
  refine htcW_cons _ _ Y k.val 7 o7 (fun x y h0 h1 h2 => ?_) ?_
  swap
  refine htcW_cons _ _ Y k.val 6 o6 (fun x y h0 h1 h2 => ?_) ?_
  swap
  refine htcW_cons _ _ Y k.val 5 o5 (fun x y h0 h1 h2 => ?_) ?_
  swap
  refine htcW_cons _ _ Y k.val 4 o4 (fun x y h0 h1 h2 => ?_) ?_
  swap
  refine htcW_cons _ _ Y k.val 3 o3 (fun x y h0 h1 h2 => ?_) ?_
  swap
  refine htcW_cons _ _ Y k.val 2 o2 (fun x y h0 h1 h2 => ?_) ?_
  swap
  refine htcW_cons _ _ Y k.val 1 o1 (fun x y h0 h1 h2 => ?_) ?_
  swap
  refine htcW_cons _ _ Y k.val 0 o0 (fun x y h0 h1 h2 => ?_) ?_
  swap
  · exact Fills.nil _ fun y ⟨_, p⟩ => Nat.not_lt_zero _ p
  all_goals
    pointwise [trip_k0_t21.sl.v352_hi, trip_k0_t21.sl.v352_lo, trip_k0_t21.sl.k0_w77, trip_k0_t21.sl.k0_w76, trip_k0_t21.sl.k0_w75, trip_k0_t21.sl.k0_w74, trip_k0_t21.sl.k0_w73, trip_k0_t21.sl.k0_w72, trip_k0_t21.sl.v344_lo, trip_k0_t21.sl.v344_hi, trip_k0_t21.sl.v338_lo, trip_k0_t21.sl.v338_hi, trip_k0_t21.sl.v313_lo, trip_k0_t21.sl.v313_hi, trip_k0_t21.sl.v307_lo, trip_k0_t21.sl.v307_hi, trip_k0_t21.sl.v282_lo, trip_k0_t21.sl.v282_hi, trip_k0_t21.sl.v276_lo, trip_k0_t21.sl.v276_hi, trip_k0_t21.sl.v343, trip_k0_t21.sl.v337, trip_k0_t21.sl.v312, trip_k0_t21.sl.v306, trip_k0_t21.sl.v281, trip_k0_t21.sl.v275, trip_k0_t21.sl.v321_hi, trip_k0_t21.sl.v324_hi, trip_k0_t21.sl.v321_lo, trip_k0_t21.sl.v324_lo, trip_k0_t21.sl.v290_hi, trip_k0_t21.sl.v293_hi, trip_k0_t21.sl.v290_lo, trip_k0_t21.sl.v293_lo, trip_k0_t21.sl.v259_hi, trip_k0_t21.sl.v262_hi, trip_k0_t21.sl.v259_lo, trip_k0_t21.sl.v262_lo, k0_pay234, k0_pay235, trip_k0_t21.sl.r]
    simp only [View.readAt_apply, hY]
  · exact htcW_pay Y k.val 0 _ _ 0 (hE 0) (hO 0) rfl _ _ x y h0 h1 h2 _ _ _ _
  · exact htcW_pay Y k.val 1 _ _ 1 (hE 0) (hO 0) rfl _ _ x y h0 h1 h2 _ _ _ _
  · exact htcW_pay Y k.val 2 _ _ 0 (hE 1) (hO 1) rfl _ _ x y h0 h1 h2 _ _ _ _
  · exact htcW_pay Y k.val 3 _ _ 1 (hE 1) (hO 1) rfl _ _ x y h0 h1 h2 _ _ _ _
  · exact htcW_pay Y k.val 4 _ _ 0 (hE 2) (hO 2) rfl _ _ x y h0 h1 h2 _ _ _ _
  · exact htcW_pay Y k.val 5 _ _ 1 (hE 2) (hO 2) rfl _ _ x y h0 h1 h2 _ _ _ _
  · exact htcW_pay Y k.val 6 _ _ 0 (hE 3) (hO 3) rfl _ _ x y h0 h1 h2 _ _ _ _
  · exact htcW_pay Y k.val 7 _ _ 1 (hE 3) (hO 3) rfl _ _ x y h0 h1 h2 _ _ _ _

theorem htcs_t21 (k0_h2 : k0_cond2 i = 1#1) (v69 : BitVec 32) (X_arg23 : BufTy.Contents (Elt F) p23.view.ty) : Fills (pb_k0_t21 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v69 X_arg23 k0_t21_loop.trips) (fun _ => True) (htcW (p23.view.read (Elt F) X_arg23)) := by
  refine (Fills.loop (T := k0_t21_loop.trips) (fun k => pb_k0_t21 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v69 X_arg23 k) (fun k => tripL_k0_t21 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v69 X_arg23 k) (fun k y => (y 0).val / 8 = k) rfl (fun k => pb_k0_t21_succ 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v69 X_arg23 k) (fun k => htc_t21 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v69 X_arg23 k) _ le_rfl).mono fun y _ => ⟨(y 0).val / 8, ?_, rfl⟩
  have y0 : (y 0).val < 256 := (y 0).isLt
  show _ < 32
  omega

theorem off_t23 : ∀ k : Fin k0_t23_loop.trips, k0_off111 k = ![8 * k.val, 0, 128 * 0] ∧ k0_off112 k = ![8 * k.val, 0, 128 * 1] ∧ k0_off113 k = ![8 * k.val, 0, 128 * 2] ∧ k0_off114 k = ![8 * k.val, 0, 128 * 3] ∧ k0_off115 k = ![8 * k.val, 0, 128 * 4] ∧ k0_off116 k = ![8 * k.val, 0, 128 * 5] ∧ k0_off117 k = ![8 * k.val, 0, 128 * 6] ∧ k0_off118 k = ![8 * k.val, 0, 128 * 7] := by decide +kernel

theorem offe_t23 : ∀ (k : Fin k0_t23_loop.trips), (∀ j : Fin 4, k0_off110 k (BitVec.ofNat 32 j.val) = ![64 * k.val + 4 + j.val, 0, 0]) ∧ ∀ j : Fin 4, k0_off109 k (BitVec.ofNat 32 j.val) = ![64 * k.val + j.val, 0, 0] := by decide +kernel

theorem htc_t23 (k0_h2 : k0_cond2 i = 1#1) (v153 : IVec S8x1024 32) (v154 : IVec S8x1024 32) (c4_i32_107 : BitVec 32) (v156 : IVec S8x1024 32) (v163 : IVec S8x1024 32) (X_arg22 : BufTy.Contents (Elt F) p22.view.ty) (k : Fin k0_t23_loop.trips) :
    Fills (tripL_k0_t23 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 v153 v154 c4_i32_107 v156 v163 X_arg22 k) (fun y => (y 0).val / 8 = k.val) (htcX (p22.view.read (Elt F) X_arg22)) := by
  obtain ⟨o0, o1, o2, o3, o4, o5, o6, o7⟩ := off_t23 k
  obtain ⟨hE, hO⟩ := offe_t23 k
  unfold tripL_k0_t23 trip_k0_t23
  dsimp only
  generalize hY : p22.view.read (Elt F) X_arg22 = Y
  refine Fills.mono (P := fun y => (y 0).val / 8 = k.val ∧ (y 2).val / 128 < 8) ?_ fun y p0 => ⟨p0, by have y2 : (y 2).val < 1024 := (y 2).isLt; omega⟩
  refine htcX_cons _ _ Y k.val 7 o7 (fun x y h0 h1 h2 => ?_) ?_
  swap
  refine htcX_cons _ _ Y k.val 6 o6 (fun x y h0 h1 h2 => ?_) ?_
  swap
  refine htcX_cons _ _ Y k.val 5 o5 (fun x y h0 h1 h2 => ?_) ?_
  swap
  refine htcX_cons _ _ Y k.val 4 o4 (fun x y h0 h1 h2 => ?_) ?_
  swap
  refine htcX_cons _ _ Y k.val 3 o3 (fun x y h0 h1 h2 => ?_) ?_
  swap
  refine htcX_cons _ _ Y k.val 2 o2 (fun x y h0 h1 h2 => ?_) ?_
  swap
  refine htcX_cons _ _ Y k.val 1 o1 (fun x y h0 h1 h2 => ?_) ?_
  swap
  refine htcX_cons _ _ Y k.val 0 o0 (fun x y h0 h1 h2 => ?_) ?_
  swap
  · exact Fills.nil _ fun y ⟨_, p⟩ => Nat.not_lt_zero _ p
  all_goals
    pointwise [trip_k0_t23.sl.v352_hi, trip_k0_t23.sl.v352_lo, trip_k0_t23.sl.k0_w90, trip_k0_t23.sl.k0_w89, trip_k0_t23.sl.k0_w88, trip_k0_t23.sl.k0_w87, trip_k0_t23.sl.k0_w86, trip_k0_t23.sl.k0_w85, trip_k0_t23.sl.v344_lo, trip_k0_t23.sl.v344_hi, trip_k0_t23.sl.v338_lo, trip_k0_t23.sl.v338_hi, trip_k0_t23.sl.v313_lo, trip_k0_t23.sl.v313_hi, trip_k0_t23.sl.v307_lo, trip_k0_t23.sl.v307_hi, trip_k0_t23.sl.v282_lo, trip_k0_t23.sl.v282_hi, trip_k0_t23.sl.v276_lo, trip_k0_t23.sl.v276_hi, trip_k0_t23.sl.v343, trip_k0_t23.sl.v337, trip_k0_t23.sl.v312, trip_k0_t23.sl.v306, trip_k0_t23.sl.v281, trip_k0_t23.sl.v275, trip_k0_t23.sl.v321_hi, trip_k0_t23.sl.v324_hi, trip_k0_t23.sl.v321_lo, trip_k0_t23.sl.v324_lo, trip_k0_t23.sl.v290_hi, trip_k0_t23.sl.v293_hi, trip_k0_t23.sl.v290_lo, trip_k0_t23.sl.v293_lo, trip_k0_t23.sl.v259_hi, trip_k0_t23.sl.v262_hi, trip_k0_t23.sl.v259_lo, trip_k0_t23.sl.v262_lo, k0_pay265, k0_pay266, trip_k0_t23.sl.r]
    simp only [View.readAt_apply, hY]
  · exact htcX_pay Y k.val 0 _ _ 0 (hE 0) (hO 0) rfl _ _ x y h0 h1 h2 _ _ _ _
  · exact htcX_pay Y k.val 1 _ _ 1 (hE 0) (hO 0) rfl _ _ x y h0 h1 h2 _ _ _ _
  · exact htcX_pay Y k.val 2 _ _ 0 (hE 1) (hO 1) rfl _ _ x y h0 h1 h2 _ _ _ _
  · exact htcX_pay Y k.val 3 _ _ 1 (hE 1) (hO 1) rfl _ _ x y h0 h1 h2 _ _ _ _
  · exact htcX_pay Y k.val 4 _ _ 0 (hE 2) (hO 2) rfl _ _ x y h0 h1 h2 _ _ _ _
  · exact htcX_pay Y k.val 5 _ _ 1 (hE 2) (hO 2) rfl _ _ x y h0 h1 h2 _ _ _ _
  · exact htcX_pay Y k.val 6 _ _ 0 (hE 3) (hO 3) rfl _ _ x y h0 h1 h2 _ _ _ _
  · exact htcX_pay Y k.val 7 _ _ 1 (hE 3) (hO 3) rfl _ _ x y h0 h1 h2 _ _ _ _

theorem htcs_t23 (k0_h2 : k0_cond2 i = 1#1) (v153 : IVec S8x1024 32) (v154 : IVec S8x1024 32) (c4_i32_107 : BitVec 32) (v156 : IVec S8x1024 32) (v163 : IVec S8x1024 32) (X_arg22 : BufTy.Contents (Elt F) p22.view.ty) : Fills (pb_k0_t23 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 v153 v154 c4_i32_107 v156 v163 X_arg22 k0_t23_loop.trips) (fun _ => True) (htcX (p22.view.read (Elt F) X_arg22)) := by
  refine (Fills.loop (T := k0_t23_loop.trips) (fun k => pb_k0_t23 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 v153 v154 c4_i32_107 v156 v163 X_arg22 k) (fun k => tripL_k0_t23 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 v153 v154 c4_i32_107 v156 v163 X_arg22 k) (fun k y => (y 0).val / 8 = k) rfl (fun k => pb_k0_t23_succ 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 v153 v154 c4_i32_107 v156 v163 X_arg22 k) (fun k => htc_t23 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 k0_h2 v153 v154 c4_i32_107 v156 v163 X_arg22 k) _ le_rfl).mono fun y _ => ⟨(y 0).val / 8, ?_, rfl⟩
  have y0 : (y 0).val < 512 := (y 0).isLt
  show _ < 64
  omega

theorem off_t28 : ∀ k : Fin k0_t28_loop.trips, k0_off133 k = ![8 * k.val, 0, 128 * 0] ∧ k0_off134 k = ![8 * k.val, 0, 128 * 1] ∧ k0_off135 k = ![8 * k.val, 0, 128 * 2] ∧ k0_off136 k = ![8 * k.val, 0, 128 * 3] ∧ k0_off137 k = ![8 * k.val, 0, 128 * 4] ∧ k0_off138 k = ![8 * k.val, 0, 128 * 5] ∧ k0_off139 k = ![8 * k.val, 0, 128 * 6] ∧ k0_off140 k = ![8 * k.val, 0, 128 * 7] := by decide +kernel

theorem offe_t28 : ∀ (k : Fin k0_t28_loop.trips), (∀ j : Fin 4, k0_off132 k (BitVec.ofNat 32 j.val) = ![64 * k.val + 4 + j.val, 0, 0]) ∧ ∀ j : Fin 4, k0_off131 k (BitVec.ofNat 32 j.val) = ![64 * k.val + j.val, 0, 0] := by decide +kernel

theorem htc_t28 (k0_h2 : k0_cond2 i = 1#1) (v191 : BitVec 32) (c0_i32_134 : BitVec 32) (c32_i32_135 : BitVec 32) (X_arg23 : BufTy.Contents (Elt F) p23.view.ty) (k : Fin k0_t28_loop.trips) :
    Fills (tripL_k0_t28 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v191 c0_i32_134 c32_i32_135 X_arg23 k) (fun y => (y 0).val / 8 = k.val) (htcW (p23.view.read (Elt F) X_arg23)) := by
  obtain ⟨o0, o1, o2, o3, o4, o5, o6, o7⟩ := off_t28 k
  obtain ⟨hE, hO⟩ := offe_t28 k
  unfold tripL_k0_t28 trip_k0_t28
  dsimp only
  generalize hY : p23.view.read (Elt F) X_arg23 = Y
  refine Fills.mono (P := fun y => (y 0).val / 8 = k.val ∧ (y 2).val / 128 < 8) ?_ fun y p0 => ⟨p0, by have y2 : (y 2).val < 1024 := (y 2).isLt; omega⟩
  refine htcW_cons _ _ Y k.val 7 o7 (fun x y h0 h1 h2 => ?_) ?_
  swap
  refine htcW_cons _ _ Y k.val 6 o6 (fun x y h0 h1 h2 => ?_) ?_
  swap
  refine htcW_cons _ _ Y k.val 5 o5 (fun x y h0 h1 h2 => ?_) ?_
  swap
  refine htcW_cons _ _ Y k.val 4 o4 (fun x y h0 h1 h2 => ?_) ?_
  swap
  refine htcW_cons _ _ Y k.val 3 o3 (fun x y h0 h1 h2 => ?_) ?_
  swap
  refine htcW_cons _ _ Y k.val 2 o2 (fun x y h0 h1 h2 => ?_) ?_
  swap
  refine htcW_cons _ _ Y k.val 1 o1 (fun x y h0 h1 h2 => ?_) ?_
  swap
  refine htcW_cons _ _ Y k.val 0 o0 (fun x y h0 h1 h2 => ?_) ?_
  swap
  · exact Fills.nil _ fun y ⟨_, p⟩ => Nat.not_lt_zero _ p
  all_goals
    pointwise [trip_k0_t28.sl.v352_hi, trip_k0_t28.sl.v352_lo, trip_k0_t28.sl.k0_w102, trip_k0_t28.sl.k0_w101, trip_k0_t28.sl.k0_w100, trip_k0_t28.sl.k0_w99, trip_k0_t28.sl.k0_w98, trip_k0_t28.sl.k0_w97, trip_k0_t28.sl.v344_lo, trip_k0_t28.sl.v344_hi, trip_k0_t28.sl.v338_lo, trip_k0_t28.sl.v338_hi, trip_k0_t28.sl.v313_lo, trip_k0_t28.sl.v313_hi, trip_k0_t28.sl.v307_lo, trip_k0_t28.sl.v307_hi, trip_k0_t28.sl.v282_lo, trip_k0_t28.sl.v282_hi, trip_k0_t28.sl.v276_lo, trip_k0_t28.sl.v276_hi, trip_k0_t28.sl.v343, trip_k0_t28.sl.v337, trip_k0_t28.sl.v312, trip_k0_t28.sl.v306, trip_k0_t28.sl.v281, trip_k0_t28.sl.v275, trip_k0_t28.sl.v321_hi, trip_k0_t28.sl.v324_hi, trip_k0_t28.sl.v321_lo, trip_k0_t28.sl.v324_lo, trip_k0_t28.sl.v290_hi, trip_k0_t28.sl.v293_hi, trip_k0_t28.sl.v290_lo, trip_k0_t28.sl.v293_lo, trip_k0_t28.sl.v259_hi, trip_k0_t28.sl.v262_hi, trip_k0_t28.sl.v259_lo, trip_k0_t28.sl.v262_lo, k0_pay271, k0_pay272, trip_k0_t28.sl.r]
    simp only [View.readAt_apply, hY]
  · exact htcW_pay Y k.val 0 _ _ 0 (hE 0) (hO 0) rfl _ _ x y h0 h1 h2 _ _ _ _
  · exact htcW_pay Y k.val 1 _ _ 1 (hE 0) (hO 0) rfl _ _ x y h0 h1 h2 _ _ _ _
  · exact htcW_pay Y k.val 2 _ _ 0 (hE 1) (hO 1) rfl _ _ x y h0 h1 h2 _ _ _ _
  · exact htcW_pay Y k.val 3 _ _ 1 (hE 1) (hO 1) rfl _ _ x y h0 h1 h2 _ _ _ _
  · exact htcW_pay Y k.val 4 _ _ 0 (hE 2) (hO 2) rfl _ _ x y h0 h1 h2 _ _ _ _
  · exact htcW_pay Y k.val 5 _ _ 1 (hE 2) (hO 2) rfl _ _ x y h0 h1 h2 _ _ _ _
  · exact htcW_pay Y k.val 6 _ _ 0 (hE 3) (hO 3) rfl _ _ x y h0 h1 h2 _ _ _ _
  · exact htcW_pay Y k.val 7 _ _ 1 (hE 3) (hO 3) rfl _ _ x y h0 h1 h2 _ _ _ _

theorem htcs_t28 (k0_h2 : k0_cond2 i = 1#1) (v191 : BitVec 32) (c0_i32_134 : BitVec 32) (c32_i32_135 : BitVec 32) (X_arg23 : BufTy.Contents (Elt F) p23.view.ty) : Fills (pb_k0_t28 (F := F) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v191 c0_i32_134 c32_i32_135 X_arg23 k0_t28_loop.trips) (fun _ => True) (htcW (p23.view.read (Elt F) X_arg23)) := by
  refine (Fills.loop (T := k0_t28_loop.trips) (fun k => pb_k0_t28 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v191 c0_i32_134 c32_i32_135 X_arg23 k) (fun k => tripL_k0_t28 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v191 c0_i32_134 c32_i32_135 X_arg23 k) (fun k y => (y 0).val / 8 = k) rfl (fun k => pb_k0_t28_succ 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v191 c0_i32_134 c32_i32_135 X_arg23 k) (fun k => htc_t28 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 k0_h2 v191 c0_i32_134 c32_i32_135 X_arg23 k) _ le_rfl).mono fun y _ => ⟨(y 0).val / 8, ?_, rfl⟩
  have y0 : (y 0).val < 256 := (y 0).isLt
  show _ < 32
  omega

end Cert.KernelIdeal.Gen

end
-- ==== Proof.Ideal.Products.lean ====
/- The weight gradients: the latent factor, the rows in matrix order, and their product. -/
module

public import proofs.«01_k».proof.Proof.Ideal.Codes
public import proofs.«01_k».proof.Proof.Ideal.Htc

@[expose] public section
set_option maxRecDepth 16384
noncomputable section

namespace Cert.KernelIdeal.Gen
open Idealize.ShloMosaic Idealize.ShloMosaic.TcCoe Idealize.SL.Sem Idealize.ShloMosaic.Tactic
open Cert.MlaQuant Cert.MlaFill

theorem two_cases {α : Type} {n : ℕ} {f : Fin 2 → α} (h : n < 2) : (if n % 2 = 0 then f 0 else f 1) = f ⟨n, h⟩ := by
  rcases (by omega : n = 0 ∨ n = 1) with rfl | rfl <;> rfl

/-- The product of the latent factor, a row per latent place, with a matrix of a column per place of four heads. -/
theorem dot_apply (C : Vec Ideal S256x2x1024 .bf16) (V : Vec Ideal S512x2x512 .bf16) (k j : Fin 512) :
    k0_pay144 C V (ix2 k j) = ∑ t : Fin 1024, C (ix3 ⟨k.val / 2, by omega⟩ ⟨k.val % 2, by omega⟩ t) * V (ix3 ⟨t.val / 2, by omega⟩ ⟨t.val % 2, by omega⟩ j) := by
  pointwise [k0_pay144, k0_pay143]
  refine Finset.sum_congr rfl fun t _ => ?_
  have e1 := two_cases (f := fun s => C (ix3 ⟨k.val / 2, by omega⟩ s t)) (n := k.val % 2) (by omega)
  have e2 := two_cases (f := fun s => V (ix3 ⟨t.val / 2, by omega⟩ s j)) (n := t.val % 2) (by omega)
  rw [Nat.mod_mod] at e1 e2
  exact congrArg₂ (· * ·) e1 e2

theorem pay145_apply (C : Vec Ideal S256x2x1024 .bf16) (V : Vec Ideal S512x2x512 .bf16) (k : Fin 512) (d : Fin 128) :
    k0_pay145 C V (ix4 k 0 0 d) = k0_pay144 C V (ix2 k ⟨128 * 0 + d.val, by omega⟩) := by
  have e : ∀ M : FVec Ideal S512x512 .f32, shapeCast S512x1x1x128 (extractStridedSlice S512x128 ![0, 0] M slices_S512x512_o0_0_S512x128) shapeCasts_S512x128_S512x1x1x128 (ix4 k 0 0 d) = M (ix2 k ⟨d.val, by omega⟩) := by
    intro M; pointwise
  refine (e (k0_pay144 C V)).trans (congrArg (fun z => k0_pay144 C V (ix2 k z)) (Fin.ext (by show d.val = 128 * 0 + d.val; omega)))

theorem pay2_apply (M : FVec Ideal S512x512 .f32) (k : Fin 512) (d : Fin 128) : k0_pay2 M (ix4 k 0 0 d) = M (ix2 k ⟨128 + d.val, by omega⟩) := by
  pointwise [k0_pay2]
theorem pay3_apply (M : FVec Ideal S512x512 .f32) (k : Fin 512) (d : Fin 128) : k0_pay3 M (ix4 k 0 0 d) = M (ix2 k ⟨256 + d.val, by omega⟩) := by
  pointwise [k0_pay3]
theorem pay4_apply (M : FVec Ideal S512x512 .f32) (k : Fin 512) (d : Fin 128) : k0_pay4 M (ix4 k 0 0 d) = M (ix2 k ⟨384 + d.val, by omega⟩) := by
  pointwise [k0_pay4]

/-- The product of the latent factor with the rows of a block, as it is stored. -/
def dwG (C : S256x2x1024.Idx → EReal) (Y : S512x2x1024.Idx → EReal) : S512x1x8x128.Idx → EReal := fun y =>
  ∑ t : Fin 1024, C (ix3 ⟨(y 0).val / 2, by have : (y 0).val < 512 := (y 0).isLt; omega⟩ ⟨(y 0).val % 2, by omega⟩ t)
    * Y (ix3 ⟨t.val / 2, by omega⟩ ⟨t.val % 2, by omega⟩ ⟨128 * (y 2).val + (y 3).val, by
      have : (y 2).val < 8 := (y 2).isLt; have : (y 3).val < 128 := (y 3).isLt; omega⟩)

theorem dw_val (C : Vec Ideal S256x2x1024 .bf16) (V : Vec Ideal S512x2x512 .bf16) (Y : S512x2x1024.Idx → EReal) (b : Fin 2)
    (hV : ∀ (p : Fin 512) (s : Fin 2) (j : Fin 512), V (ix3 p s j) = Y (ix3 p s ⟨512 * b.val + j.val, by omega⟩)) (k : Fin 512) (q : Fin 4) (d : Fin 128) :
    k0_pay144 C V (ix2 k ⟨128 * q.val + d.val, by omega⟩) = dwG C Y (ix4 k 0 ⟨4 * b.val + q.val, by omega⟩ d) := by
  rw [dot_apply]
  refine Finset.sum_congr rfl fun t _ => ?_
  rw [hV]
  have e : (⟨512 * b.val + (128 * q.val + d.val), by omega⟩ : Fin 1024) = ⟨128 * (4 * b.val + q.val) + d.val, by omega⟩ := Fin.ext (by show 512 * b.val + (128 * q.val + d.val) = 128 * (4 * b.val + q.val) + d.val; omega)
  dsimp only
  rw [e]
  rfl

theorem dw_cons {off : Fin 4 → ℕ} (inb : ∀ a, off a + (![512, 1, 1, 128] : Fin 4 → ℕ) a ≤ S512x1x8x128.size a) (C : S256x2x1024.Idx → EReal) (Y : S512x2x1024.Idx → EReal) (h : Fin 8) (ho : off = ![0, 0, h.val, 0])
    (w : (⟨4, ![512, 1, 1, 128]⟩ : Shape).Idx → EReal) (hw : ∀ (k : Fin 512) (d : Fin 128), w (ix4 k 0 0 d) = dwG C Y (ix4 k 0 h d))
    {L : List (View.Piece (Elt Ideal) S512x1x8x128 .f32)} (hL : Fills L (fun y => (y 2).val < h.val) (dwG C Y)) :
    Fills (Val := Elt Ideal) (⟨Rect.unit (s := S512x1x8x128) off ![512, 1, 1, 128] inb, w⟩ :: L) (fun y => (y 2).val < h.val + 1) (dwG C Y) := by
  subst ho
  refine Fills.cons (s := S512x1x8x128) (P := fun y => (y 2).val = h.val) inb w (fun x y hh => ?_) (fun y hy a => ?_) hL (fun y hy => ?_)
  · obtain ⟨k, p, q, d, rfl⟩ : ∃ (k : Fin 512) (p : Fin 1) (q : Fin 1) (d : Fin 128), x = ix4 k p q d := ⟨x 0, x 1, x 2, x 3, by funext i; match i with | 0 => rfl | 1 => rfl | 2 => rfl | 3 => rfl⟩
    obtain rfl : p = 0 := Subsingleton.elim _ _
    obtain rfl : q = 0 := Subsingleton.elim _ _
    refine (hw k d).trans (congrArg (dwG C Y) ?_)
    funext a
    apply Fin.ext
    refine Eq.trans ?_ (hh a).symm
    match a with
    | 0 => exact (Nat.zero_add _).symm
    | 1 => rfl
    | 2 => rfl
    | 3 => exact (Nat.zero_add _).symm
  · match a with
    | 0 => exact ⟨Nat.zero_le _, by have : (y 0).val < 512 := (y 0).isLt; show _ < 0 + 512; omega⟩
    | 1 => exact ⟨Nat.zero_le _, by have : (y 1).val < 1 := (y 1).isLt; show _ < 0 + 1; omega⟩
    | 2 => show h.val ≤ (y 2).val ∧ (y 2).val < h.val + 1; exact ⟨hy.ge, by omega⟩
    | 3 => exact ⟨Nat.zero_le _, by have : (y 3).val < 128 := (y 3).isLt; show _ < 0 + 128; omega⟩
  · dsimp only at hy ⊢
    omega

/-- The eight stores of a block's product. -/
theorem dw_fills (C : Vec Ideal S256x2x1024 .bf16) (V1 V2 : Vec Ideal S512x2x512 .bf16) (Y : S512x2x1024.Idx → EReal)
    (h1 : ∀ (p : Fin 512) (s : Fin 2) (j : Fin 512), V1 (ix3 p s j) = Y (ix3 p s ⟨j.val, by omega⟩))
    (h2 : ∀ (p : Fin 512) (s : Fin 2) (j : Fin 512), V2 (ix3 p s j) = Y (ix3 p s ⟨512 + j.val, by omega⟩)) (i7 i6 i5 i4 i3 i2 i1 i0) :
    Fills (Val := Elt Ideal) (s := S512x1x8x128) (e := .f32) [⟨Rect.unit (s := S512x1x8x128) ![0, 0, 7, 0] ![512, 1, 1, 128] i7, k0_pay4 (k0_pay144 C V2)⟩, ⟨Rect.unit (s := S512x1x8x128) ![0, 0, 6, 0] ![512, 1, 1, 128] i6, k0_pay3 (k0_pay144 C V2)⟩,
      ⟨Rect.unit (s := S512x1x8x128) ![0, 0, 5, 0] ![512, 1, 1, 128] i5, k0_pay2 (k0_pay144 C V2)⟩, ⟨Rect.unit (s := S512x1x8x128) ![0, 0, 4, 0] ![512, 1, 1, 128] i4, k0_pay145 C V2⟩,
      ⟨Rect.unit (s := S512x1x8x128) ![0, 0, 3, 0] ![512, 1, 1, 128] i3, k0_pay4 (k0_pay144 C V1)⟩, ⟨Rect.unit (s := S512x1x8x128) ![0, 0, 2, 0] ![512, 1, 1, 128] i2, k0_pay3 (k0_pay144 C V1)⟩,
      ⟨Rect.unit (s := S512x1x8x128) ![0, 0, 1, 0] ![512, 1, 1, 128] i1, k0_pay2 (k0_pay144 C V1)⟩, ⟨Rect.unit (s := S512x1x8x128) ![0, 0, 0, 0] ![512, 1, 1, 128] i0, k0_pay145 C V1⟩]
      (fun _ => True) (dwG C Y) := by
  have h1' : ∀ (p : Fin 512) (s : Fin 2) (j : Fin 512), V1 (ix3 p s j) = Y (ix3 p s ⟨512 * (0 : Fin 2).val + j.val, by show 512 * 0 + _ < _; omega⟩) := fun p s j => (h1 p s j).trans (congrArg (fun z => Y (ix3 p s z)) (Fin.ext (by show j.val = 512 * 0 + j.val; omega)))
  have h2' : ∀ (p : Fin 512) (s : Fin 2) (j : Fin 512), V2 (ix3 p s j) = Y (ix3 p s ⟨512 * (1 : Fin 2).val + j.val, by show 512 * 1 + _ < _; omega⟩) := h2
  refine Fills.mono (P := fun y => (y 2).val < (7 : Fin 8).val + 1) ?_ (fun y _ => (y 2).isLt)
  refine dw_cons _ C Y 7 rfl _ (fun k d => (pay4_apply _ k d).trans (dw_val C V2 Y 1 h2' k 3 d)) ?_
  refine dw_cons _ C Y 6 rfl _ (fun k d => (pay3_apply _ k d).trans (dw_val C V2 Y 1 h2' k 2 d)) ?_
  refine dw_cons _ C Y 5 rfl _ (fun k d => (pay2_apply _ k d).trans (dw_val C V2 Y 1 h2' k 1 d)) ?_
  refine dw_cons _ C Y 4 rfl _ (fun k d => (pay145_apply _ _ k d).trans (dw_val C V2 Y 1 h2' k 0 d)) ?_
  refine dw_cons _ C Y 3 rfl _ (fun k d => (pay4_apply _ k d).trans (dw_val C V1 Y 0 h1' k 3 d)) ?_
  refine dw_cons _ C Y 2 rfl _ (fun k d => (pay3_apply _ k d).trans (dw_val C V1 Y 0 h1' k 2 d)) ?_
  refine dw_cons _ C Y 1 rfl _ (fun k d => (pay2_apply _ k d).trans (dw_val C V1 Y 0 h1' k 1 d)) ?_
  refine dw_cons _ C Y 0 rfl _ (fun k d => (pay145_apply _ _ k d).trans (dw_val C V1 Y 0 h1' k 0 d)) ?_
  exact Fills.nil _ fun y => Nat.not_lt_zero _

theorem dw_read {sp : Space} (v : View sig .tc sp S512x1x8x128 .f32) (C : Vec Ideal S256x2x1024 .bf16) (V1 V2 : Vec Ideal S512x2x512 .bf16) (Y : S512x2x1024.Idx → EReal) (f : v.ty.Contents (Elt Ideal))
    (h1 : ∀ (p : Fin 512) (s : Fin 2) (j : Fin 512), V1 (ix3 p s j) = Y (ix3 p s ⟨j.val, by omega⟩))
    (h2 : ∀ (p : Fin 512) (s : Fin 2) (j : Fin 512), V2 (ix3 p s j) = Y (ix3 p s ⟨512 + j.val, by omega⟩)) (i7 i6 i5 i4 i3 i2 i1 i0) :
    v.read (Elt Ideal) (v.writes (Elt Ideal) f [⟨Rect.unit (s := S512x1x8x128) ![0, 0, 7, 0] ![512, 1, 1, 128] i7, k0_pay4 (k0_pay144 C V2)⟩, ⟨Rect.unit (s := S512x1x8x128) ![0, 0, 6, 0] ![512, 1, 1, 128] i6, k0_pay3 (k0_pay144 C V2)⟩,
      ⟨Rect.unit (s := S512x1x8x128) ![0, 0, 5, 0] ![512, 1, 1, 128] i5, k0_pay2 (k0_pay144 C V2)⟩, ⟨Rect.unit (s := S512x1x8x128) ![0, 0, 4, 0] ![512, 1, 1, 128] i4, k0_pay145 C V2⟩,
      ⟨Rect.unit (s := S512x1x8x128) ![0, 0, 3, 0] ![512, 1, 1, 128] i3, k0_pay4 (k0_pay144 C V1)⟩, ⟨Rect.unit (s := S512x1x8x128) ![0, 0, 2, 0] ![512, 1, 1, 128] i2, k0_pay3 (k0_pay144 C V1)⟩,
      ⟨Rect.unit (s := S512x1x8x128) ![0, 0, 1, 0] ![512, 1, 1, 128] i1, k0_pay2 (k0_pay144 C V1)⟩, ⟨Rect.unit (s := S512x1x8x128) ![0, 0, 0, 0] ![512, 1, 1, 128] i0, k0_pay145 C V1⟩]) = dwG C Y := by
  have e := (dw_fills C V1 V2 Y h1 h2 i7 i6 i5 i4 i3 i2 i1 i0).readAll v f []
  rw [List.append_nil] at e
  exact e

/-- The latent factor: the latent codes times their scales, a row per latent place, in pairs of rows. -/
def ctG (x2 : S1024x512.Idx → EReal) (x3 : S4x1024.Idx → EReal) : S256x2x1024.Idx → EReal := fun y =>
  x2 (ix2 (y 2) ⟨2 * (y 0).val + (y 1).val, by have : (y 0).val < 256 := (y 0).isLt; have : (y 1).val < 2 := (y 1).isLt; omega⟩)
    * x3 (ix2 ⟨(2 * (y 0).val + (y 1).val) / 128, by have : (y 0).val < 256 := (y 0).isLt; have : (y 1).val < 2 := (y 1).isLt; omega⟩ (y 2))

theorem pay84_apply (C : Vec Ideal S1024x128 .fp8e4m3) (Sc : Vec Ideal S1x1024 .f32) (p : Fin 64) (s : Fin 2) (t : Fin 1024) :
    k0_pay84 C Sc (ix3 p s t) = C (ix2 t ⟨2 * p.val + s.val, by omega⟩) * Sc (ix2 0 t) := by
  pointwise [k0_pay84]
  match s with
  | 0 => rfl
  | 1 => rfl

theorem ct_cons {off : Fin 3 → ℕ} (inb : ∀ a, off a + (![64, 2, 1024] : Fin 3 → ℕ) a ≤ S256x2x1024.size a) (x2 : S1024x512.Idx → EReal) (x3 : S4x1024.Idx → EReal) (q : Fin 4) (ho : off = ![64 * q.val, 0, 0])
    (A : Vec Ideal S1024x128 .fp8e4m3) (B : Vec Ideal S1x1024 .f32)
    (hA : ∀ (t : Fin 1024) (j : Fin 128), A (ix2 t j) = x2 (ix2 t ⟨128 * q.val + j.val, by omega⟩)) (hB : ∀ t : Fin 1024, B (ix2 0 t) = x3 (ix2 q t))
    {L : List (View.Piece (Elt Ideal) S256x2x1024 .bf16)} (hL : Fills L (fun y => (y 0).val < 64 * q.val) (ctG x2 x3)) :
    Fills (Val := Elt Ideal) (⟨Rect.unit (s := S256x2x1024) off ![64, 2, 1024] inb, k0_pay84 A B⟩ :: L) (fun y => (y 0).val < 64 * q.val + 64) (ctG x2 x3) := by
  subst ho
  refine Fills.cons (s := S256x2x1024) (P := fun y => 64 * q.val ≤ (y 0).val ∧ (y 0).val < 64 * q.val + 64) inb _ (fun x y hh => ?_) (fun y hy a => ?_) hL (fun y hy => ?_)
  · obtain ⟨p, s, t, rfl⟩ : ∃ (p : Fin 64) (s : Fin 2) (t : Fin 1024), x = ix3 p s t := ⟨x 0, x 1, x 2, by funext i; match i with | 0 => rfl | 1 => rfl | 2 => rfl⟩
    have hy : y = ix3 ⟨64 * q.val + p.val, by omega⟩ s t := by
      funext a
      apply Fin.ext
      refine (hh a).trans ?_
      match a with
      | 0 => rfl
      | 1 => exact Nat.zero_add _
      | 2 => exact Nat.zero_add _
    subst hy
    refine (pay84_apply A B p s t).trans ?_
    rw [hA, hB]
    unfold ctG
    refine congrArg₂ (· * ·) (congrArg x2 (congrArg (ix2 t) (Fin.ext ?_))) (congrArg x3 (congrArg (fun z => ix2 z t) (Fin.ext ?_)))
    · show 128 * q.val + (2 * p.val + s.val) = 2 * (64 * q.val + p.val) + s.val; omega
    · show q.val = (2 * (64 * q.val + p.val) + s.val) / 128; omega
  · match a with
    | 0 => exact hy
    | 1 => exact ⟨Nat.zero_le _, by have : (y 1).val < 2 := (y 1).isLt; show _ < 0 + 2; omega⟩
    | 2 => exact ⟨Nat.zero_le _, by have : (y 2).val < 1024 := (y 2).isLt; show _ < 0 + 1024; omega⟩
  · dsimp only at hy ⊢
    omega

/-- The four stores of the latent factor. -/
theorem ct_fills (x2 : S1024x512.Idx → EReal) (x3 : S4x1024.Idx → EReal) (A : Fin 4 → Vec Ideal S1024x128 .fp8e4m3) (B : Fin 4 → Vec Ideal S1x1024 .f32)
    (hA : ∀ (q : Fin 4) (t : Fin 1024) (j : Fin 128), A q (ix2 t j) = x2 (ix2 t ⟨128 * q.val + j.val, by omega⟩)) (hB : ∀ (q : Fin 4) (t : Fin 1024), B q (ix2 0 t) = x3 (ix2 q t)) (i3 i2 i1 i0) :
    Fills (Val := Elt Ideal) (s := S256x2x1024) (e := .bf16) [⟨Rect.unit (s := S256x2x1024) ![192, 0, 0] ![64, 2, 1024] i3, k0_pay84 (A 3) (B 3)⟩, ⟨Rect.unit (s := S256x2x1024) ![128, 0, 0] ![64, 2, 1024] i2, k0_pay84 (A 2) (B 2)⟩,
      ⟨Rect.unit (s := S256x2x1024) ![64, 0, 0] ![64, 2, 1024] i1, k0_pay84 (A 1) (B 1)⟩, ⟨Rect.unit (s := S256x2x1024) ![0, 0, 0] ![64, 2, 1024] i0, k0_pay84 (A 0) (B 0)⟩]
      (fun _ => True) (ctG x2 x3) := by
  refine Fills.mono (P := fun y => (y 0).val < 64 * (3 : Fin 4).val + 64) ?_ (fun y _ => (y 0).isLt)
  refine ct_cons _ x2 x3 3 rfl _ _ (hA 3) (hB 3) ?_
  refine ct_cons _ x2 x3 2 rfl _ _ (hA 2) (hB 2) ?_
  refine ct_cons _ x2 x3 1 rfl _ _ (hA 1) (hB 1) ?_
  refine ct_cons _ x2 x3 0 rfl _ _ (hA 0) (hB 0) ?_
  exact Fills.nil _ fun y => Nat.not_lt_zero _

end Cert.KernelIdeal.Gen
end
-- ==== Proof.Ideal.BlocksA.lean ====
/- What each case leaves in the windows of the weight gradients and in the scratch they are made of. -/
module

public import proofs.«01_k».proof.Proof.Ideal.Products

@[expose] public section
set_option maxRecDepth 16384
noncomputable section

namespace Cert.KernelIdeal.Gen
open Idealize.ShloMosaic Idealize.ShloMosaic.TcCoe Idealize.SL.Sem Idealize.ShloMosaic.Tactic
open Cert.MlaQuant Cert.MlaFill

theorem at_half {off : ℕ} (Y : S512x2x1024.Idx → EReal) (ib : ∀ a, (![0, 0, off] : Fin 3 → ℕ) a + S512x2x512.size a ≤ S512x2x1024.size a) (p : Fin 512) (s : Fin 2) (j : Fin 512) (hj : off + j.val < 1024) :
    Y ((Rect.unit (s := S512x2x1024) ![0, 0, off] S512x2x512.size ib).toLoadRect.idx (ix3 p s j)) = Y (ix3 p s ⟨off + j.val, hj⟩) := by
  refine congrArg Y (funext fun a => Fin.ext ?_)
  match a with
  | 0 => show 0 + 1 * p.val = p.val; omega
  | 1 => show 0 + 1 * s.val = s.val; omega
  | 2 => show off + 1 * j.val = off + j.val; omega

theorem cov_half {sp : Space} (v : View sig .tc sp S512x2x1024 .bf16) {L : List (View.Piece (Elt Ideal) S512x2x1024 .bf16)} {Y : S512x2x1024.Idx → EReal} (h : Fills (Val := Elt Ideal) L (fun _ => True) Y)
    (L' : List (View.Piece (Elt Ideal) S512x2x1024 .bf16)) {off : ℕ} (ib) (p : Fin 512) (s : Fin 2) (j : Fin 512) (hj : off + j.val < 1024) :
    v.readCov (L ++ L') (Rect.unit (s := S512x2x1024) ![0, 0, off] S512x2x512.size ib).toLoadRect (ix3 p s j) = Y (ix3 p s ⟨off + j.val, hj⟩) := by
  rw [View.readCov_eq_canon', h.canonAll L']
  exact at_half Y ib p s j hj

theorem whole_idx (ib) (y : S256x2x1024.Idx) : (Rect.unit (s := S256x2x1024) ![0, 0, 0] S256x2x1024.size ib).toLoadRect.idx y = y := by
  refine funext fun a => Fin.ext ?_
  match a with
  | 0 => show 0 + 1 * (y 0).val = (y 0).val; omega
  | 1 => show 0 + 1 * (y 1).val = (y 1).val; omega
  | 2 => show 0 + 1 * (y 2).val = (y 2).val; omega

theorem of_rows {sp : Space} {v : View sig .tc sp S4096x2x128 .bf16} {f : v.ty.Contents (Elt Ideal)} {L L' : List (View.Piece (Elt Ideal) S4096x2x128 .bf16)} {M : List (View.Piece (Elt Ideal) S512x2x1024 .bf16)}
    {Y : S4096x2x128.Idx → EReal} (q : Fills (Val := Elt Ideal) L (fun _ => True) Y) (h : Fills (Val := Elt Ideal) M (fun _ => True) (htcX (v.read (Elt Ideal) (v.writes (Elt Ideal) f (L ++ L'))))) :
    Fills (Val := Elt Ideal) M (fun _ => True) (htcX Y) := by
  rw [q.readAll v f L'] at h; exact h

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : cond0_0 i) (hc1 : ¬cond0_1 i) (hc2 : ¬cond0_2 i)
    (x0 : Vec Ideal S1024x1x8x128 .bf16) (x1 : Vec Ideal S1024x1x8x128 .bf16) (x2 : Vec Ideal S1024x512 .fp8e4m3) (x3 : Vec Ideal S4x1024 .f32) (x4 : Vec Ideal S512x1x8x128 .fp8e4m3) (x5 : Vec Ideal S4x120 .f32) (x6 : Vec Ideal S512x1x8x128 .fp8e4m3) (x7 : Vec Ideal S4x120 .f32) (x8 : Vec Ideal S1024x512 .bf16) (x9 : Vec Ideal S1x512 .f32)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9

set_option maxHeartbeats 2000000 in
theorem latent_A : Fills (Val := Elt Ideal) (kernelRun0_A.sl.HS1_4 (F := Ideal) c p3 q3 p4 q4 x2 x3) (fun _ => True) (ctG x2 x3) := by
  refine ct_fills x2 x3 (fun q => View.readAt (Elt Ideal) p3.view (Rect.unit (s := S1024x512) ![0, 128 * q.val] S1024x128.size (by revert q; decide)).toLoadRect (q3.unread x2))
    (fun q => View.readAt (Elt Ideal) p4.view (Rect.unit (s := S4x1024) ![q.val, 0] S1x1024.size (by revert q; decide)).toLoadRect (q4.unread x3)) ?_ ?_ _ _ _ _
  · intro q t j
    dsimp only
    rw [View.readAt_apply, q3.read_unread]
    refine congrArg x2 (funext fun a => Fin.ext ?_)
    match a with
    | 0 => show 0 + 1 * t.val = t.val; omega
    | 1 => show 128 * q.val + 1 * j.val = 128 * q.val + j.val; omega
  · intro q t
    dsimp only
    rw [View.readAt_apply, q4.read_unread]
    refine congrArg x3 (funext fun a => Fin.ext ?_)
    match a with
    | 0 => show q.val + 1 * 0 = q.val; omega
    | 1 => show 0 + 1 * t.val = t.val; omega

theorem latent_A_read : kernelRun0_A.sl.v226_raw (F := Ideal) c p3 q3 p4 q4 p20 x2 x3 = ctG x2 x3 := by
  have e := (latent_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).canonAll []
  rw [List.append_nil] at e
  unfold kernelRun0_A.sl.v226_raw
  rw [View.readCov_eq_canon', e]
  funext y
  exact congrArg (ctG x2 x3) (whole_idx _ y)

set_option maxHeartbeats 2000000 in
theorem latent_A_left : sout0_A_1 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 = ctG x2 x3 := by
  unfold sout0_A_1
  have e := (latent_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).readAll VS0_1 VS0_1.junk []
  rw [List.append_nil] at e
  exact e

set_option maxHeartbeats 4000000 in
theorem rows_A_left (hG : ∀ t h, Good (tokRow x1 t h)) : sout0_A_6 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 = htcX (natG x1) := by
  have hr := q2.read_unread x1
  have h := quantised_t8 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc0 kernelRun0_A.sl.v164 kernelRun0_A.sl.v165 (4#32) k0_pay122 k0_pay123 k0_pay124 (q2.unread x1) k0_pay126 rfl rfl (by rw [hr]; exact hG)
  rw [hr] at h
  unfold sout0_A_6 kernelRun0_A
  dsimp only
  refine Fills.readAll ?_ VS0_6 VS0_6.junk _
  exact of_rows h.2.2 (htcs_t9 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
theorem dw_A_12 (hG : ∀ t h, Good (tokRow x0 t h)) : out0_A_12 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 = dwG (ctG x2 x3) (htcX (natG x0)) := by
  have hr := q1.read_unread x0
  have h := quantised_t1 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 k0_pay96 k0_pay97 (q1.unread x0) k0_pay101 rfl (by rw [hr]; exact hG)
  rw [hr] at h
  rw [← latent_A_read c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9]
  unfold out0_A_12 kernelRun0_A
  dsimp only
  unfold kernelRun0_A.sl.r_3 kernelRun0_A.sl.r_4
  refine dw_read VO0_12 _ _ _ _ _ ?_ ?_ _ _ _ _ _ _ _ _
  · intro p s j
    unfold kernelRun0_A.sl.v228_raw
    refine (cov_half _ (Y := htcX (natG x0)) ?_ _ _ p s j (by omega)).trans (congrArg (fun z => htcX (natG x0) (ix3 p s z)) (Fin.ext (Nat.zero_add _)))
    exact of_rows h.2.2 (htcs_t2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · intro p s j
    unfold kernelRun0_A.sl.v247_raw
    refine cov_half _ (Y := htcX (natG x0)) ?_ _ _ p s j (by omega)
    exact of_rows h.2.2 (htcs_t2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end

end Cert.KernelIdeal.Gen
end
-- ==== Proof.Ideal.BlocksB.lean ====
/- What the middle and last cases leave in the windows of the weight gradients. -/
module

public import proofs.«01_k».proof.Proof.Ideal.BlocksA

@[expose] public section
set_option maxRecDepth 16384
noncomputable section

namespace Cert.KernelIdeal.Gen
open Idealize.ShloMosaic Idealize.ShloMosaic.TcCoe Idealize.SL.Sem Idealize.ShloMosaic.Tactic
open Cert.MlaQuant Cert.MlaFill

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : ¬cond0_0 i) (hc1 : cond0_1 i) (hc2 : ¬cond0_2 i)
    (x0 : Vec Ideal S1024x1x8x128 .bf16) (x1 : Vec Ideal S1024x1x8x128 .bf16) (x2 : Vec Ideal S1024x512 .fp8e4m3) (x3 : Vec Ideal S4x1024 .f32) (x4 : Vec Ideal S512x1x8x128 .fp8e4m3) (x5 : Vec Ideal S4x120 .f32) (x6 : Vec Ideal S512x1x8x128 .fp8e4m3) (x7 : Vec Ideal S4x120 .f32) (x8 : Vec Ideal S1024x512 .bf16) (x9 : Vec Ideal S1x512 .f32) (xs0 : Vec Ideal S1024x512 .f32) (xs1 : Vec Ideal S256x2x1024 .bf16) (xs2 : Vec Ideal S2x120x8 .f32) (xs6 : Vec Ideal S512x2x1024 .bf16) (xs8 : Vec Ideal S256x2x1024 .bf16)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8

set_option maxHeartbeats 4000000 in
theorem rows_B_left (hG : ∀ t h, Good (tokRow x1 t h)) : sout0_B_6 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 = htcX (natG x1) := by
  have hr := q2.read_unread x1
  have h := quantised_t22 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc1 kernelRun0_B.sl.v153 kernelRun0_B.sl.v154 (4#32) k0_pay256 k0_pay257 (q2.unread x1) k0_pay259 rfl rfl (by rw [hr]; exact hG)
  rw [hr] at h
  unfold sout0_B_6 kernelRun0_B
  dsimp only
  refine Fills.readAll ?_ VS0_6 VS0_6.junk _
  exact of_rows h.2.2 (htcs_t23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem latent_B_read (ib) : View.readAt (Elt Ideal) p20.view (Rect.unit (s := S256x2x1024) ![0, 0, 0] S256x2x1024.size ib).toLoadRect (q20.unread xs1) = xs1 := by
  funext y
  rw [View.readAt_apply, q20.read_unread]
  exact congrArg xs1 (whole_idx ib y)

set_option maxHeartbeats 4000000 in
theorem dw_B_12 (hG : ∀ t h, Good (tokRow x0 t h)) : out0_B_12 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 = dwG xs1 (htcX (natG x0)) := by
  have hr := q1.read_unread x0
  have h := quantised_t15 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc1 (q1.unread x0) k0_pay222 rfl (by rw [hr]; exact hG)
  rw [hr] at h
  unfold out0_B_12 kernelRun0_B
  dsimp only
  unfold kernelRun0_B.sl.r_4 kernelRun0_B.sl.r_5
  refine (dw_read VO0_12 (View.readAt (Elt Ideal) p20.view (Rect.unit (s := S256x2x1024) ![0, 0, 0] S256x2x1024.size (by decide)).toLoadRect (q20.unread xs1)) _ _ _ _ ?_ ?_ _ _ _ _ _ _ _ _).trans
    (congrArg (fun C => dwG C (htcX (natG x0))) (latent_B_read c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 _))
  · intro p s j
    unfold kernelRun0_B.sl.v217_raw
    refine (cov_half _ (Y := htcX (natG x0)) ?_ _ _ p s j (by omega)).trans (congrArg (fun z => htcX (natG x0) (ix3 p s z)) (Fin.ext (Nat.zero_add _)))
    exact of_rows h.2.2 (htcs_t16 _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · intro p s j
    unfold kernelRun0_B.sl.v236_raw
    refine cov_half _ (Y := htcX (natG x0)) ?_ _ _ p s j (by omega)
    exact of_rows h.2.2 (htcs_t16 _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
theorem dw_B_13 : out0_B_13 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 = dwG xs1 xs6 := by
  have eC : View.readAt (Elt Ideal) p20.view (Rect.unit (s := S256x2x1024) ![0, 0, 0] S256x2x1024.size (by decide)).toLoadRect (q20.unread xs1) = xs1 := by
    funext y
    rw [View.readAt_apply, q20.read_unread]
    exact congrArg xs1 (whole_idx _ y)
  unfold out0_B_13 kernelRun0_B kernelRun0_B.sl.H13_8
  dsimp only
  unfold kernelRun0_B.sl.r_2 kernelRun0_B.sl.r_3
  refine (dw_read VO0_13 (View.readAt (Elt Ideal) p20.view (Rect.unit (s := S256x2x1024) ![0, 0, 0] S256x2x1024.size (by decide)).toLoadRect (q20.unread xs1))
    (View.readAt (Elt Ideal) p25.view (Rect.unit (s := S512x2x1024) ![0, 0, 0] S512x2x512.size (by decide)).toLoadRect (q25.unread xs6)) (View.readAt (Elt Ideal) p25.view (Rect.unit (s := S512x2x1024) ![0, 0, 512] S512x2x512.size (by decide)).toLoadRect (q25.unread xs6)) xs6 _ ?_ ?_ _ _ _ _ _ _ _ _).trans
    (congrArg (fun C => dwG C xs6) eC)
  · intro p s j
    rw [View.readAt_apply, q25.read_unread]
    exact (at_half xs6 _ p s j (by omega)).trans (congrArg (fun z => xs6 (ix3 p s z)) (Fin.ext (Nat.zero_add _)))
  · intro p s j
    rw [View.readAt_apply, q25.read_unread]
    exact at_half xs6 _ p s j (by omega)

end

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : ¬cond0_0 i) (hc1 : ¬cond0_1 i) (hc2 : cond0_2 i)
    (x0 : Vec Ideal S1024x1x8x128 .bf16) (x1 : Vec Ideal S1024x1x8x128 .bf16) (x2 : Vec Ideal S1024x512 .fp8e4m3) (x3 : Vec Ideal S4x1024 .f32) (x4 : Vec Ideal S512x1x8x128 .fp8e4m3) (x5 : Vec Ideal S4x120 .f32) (x6 : Vec Ideal S512x1x8x128 .fp8e4m3) (x7 : Vec Ideal S4x120 .f32) (x8 : Vec Ideal S1024x512 .bf16) (x9 : Vec Ideal S1x512 .f32) (xo12 : Vec Ideal S512x1x8x128 .f32) (xo14 : Vec Ideal S1024x1x8x128 .fp8e5m2) (xo15 : Vec Ideal S8x1024 .f32) (xo16 : Vec Ideal S1024x1x8x128 .fp8e5m2) (xo17 : Vec Ideal S8x1024 .f32) (xs0 : Vec Ideal S1024x512 .f32) (xs1 : Vec Ideal S256x2x1024 .bf16) (xs2 : Vec Ideal S2x120x8 .f32) (xs6 : Vec Ideal S512x2x1024 .bf16) (xs8 : Vec Ideal S256x2x1024 .bf16)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8

set_option maxHeartbeats 4000000 in
theorem dw_C_13 : out0_C_13 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8 = dwG xs1 xs6 := by
  have eC : View.readAt (Elt Ideal) p20.view (Rect.unit (s := S256x2x1024) ![0, 0, 0] S256x2x1024.size (by decide)).toLoadRect (q20.unread xs1) = xs1 := by
    funext y
    rw [View.readAt_apply, q20.read_unread]
    exact congrArg xs1 (whole_idx _ y)
  unfold out0_C_13 kernelRun0_C kernelRun0_C.sl.H13_8
  dsimp only
  unfold kernelRun0_C.sl.r_1 kernelRun0_C.sl.r_2 kernelRun0_C.sl.r_3 kernelRun0_C.sl.r_4 kernelRun0_C.sl.r
  refine (dw_read VO0_13 (View.readAt (Elt Ideal) p20.view (Rect.unit (s := S256x2x1024) ![0, 0, 0] S256x2x1024.size (by decide)).toLoadRect (q20.unread xs1))
    (View.readAt (Elt Ideal) p25.view (Rect.unit (s := S512x2x1024) ![0, 0, 0] S512x2x512.size (by decide)).toLoadRect (q25.unread xs6)) (View.readAt (Elt Ideal) p25.view (Rect.unit (s := S512x2x1024) ![0, 0, 512] S512x2x512.size (by decide)).toLoadRect (q25.unread xs6)) xs6 _ ?_ ?_ _ _ _ _ _ _ _ _).trans
    (congrArg (fun C => dwG C xs6) eC)
  · intro p s j
    rw [View.readAt_apply, q25.read_unread]
    exact (at_half xs6 _ p s j (by omega)).trans (congrArg (fun z => xs6 (ix3 p s z)) (Fin.ext (Nat.zero_add _)))
  · intro p s j
    rw [View.readAt_apply, q25.read_unread]
    exact at_half xs6 _ p s j (by omega)

end

end Cert.KernelIdeal.Gen
end
-- ==== Proof.RefDw.lean ====
/- The two weight gradients of the reference, as functions of the arguments. -/
module

public import proofs.«01_k».proof.Proof.RefRun

@[expose] public section
set_option maxRecDepth 16384
noncomputable section

namespace Cert.ReferenceIdeal.Value
open Cert.ReferenceIdeal Cert.ReferenceIdeal.Gen Idealize.ShloMosaic Idealize.ShloMosaic.TcCoe Idealize.SL.Sem Idealize.ShloMosaic.Tactic
open Idealize.ShloMosaic.Pipeline (Dat)
open Cert.MlaQuant

variable (m : (ℓ : Loc nD τ sig) → Buf (Elt Ideal) ℓ) (ρ : Dev nD → PrngReg)

theorem pay23_apply (v64 : FVec Ideal S1024x15360 .bf16) (v78 : FVec Ideal S1024x512 .bf16) (k : Fin 512) (a : Fin 15) (b : Fin 8) (d : Fin 128) :
    k0_pay23 v64 v78 (ix4 k a b d) = ∑ t : Fin 1024, v78 (ix2 t k) * v64 (ix2 t ⟨a.val * 1024 + b.val * 128 + d.val, by omega⟩) := by
  pointwise [k0_pay23]

theorem pay24_eq (v64 : FVec Ideal S1024x15360 .bf16) (v78 : FVec Ideal S1024x512 .bf16) : k0_pay24 v64 v78 = k0_pay23 v64 v78 := rfl

theorem pay12_eq (v32 : FVec Ideal S1024x120x128 .f32) (v35 v41 : FVec Ideal S1024x120x1 .f32) : k0_pay12 v32 v35 v41 = k0_pay11 (k0_pay9 v35 v41) (k0_pay10 v32 v35 v41) := rfl

theorem pay13_apply (C : Vec Ideal S1024x4x128 .fp8e4m3) (Sc : Vec Ideal S1024x4x1 .f32) (t : Fin 1024) (k : Fin 512) :
    k0_pay13 C Sc (ix2 t k) = C (ix3 t ⟨k.val / 128, by omega⟩ ⟨k.val % 128, by omega⟩) * Sc (ix3 t ⟨k.val / 128, by omega⟩ 0) := by
  pointwise [k0_pay13]

theorem pay11_apply (u : FVec Ideal S1024x120x1 .f32) (v : FVec Ideal S1024x120x128 .fp8e5m2) (t : Fin 1024) (j : Fin 15360) :
    k0_pay11 u v (ix2 t j) = v (ix3 t ⟨j.val / 128, by omega⟩ ⟨j.val % 128, by omega⟩) * u (ix3 t ⟨j.val / 128, by omega⟩ 0) := by
  pointwise [k0_pay11]

/-- The latent gradient's factor against the dequantised rows of an argument, summed over the tokens. -/
def dwR (A : Vec Ideal S1x1024x120x128 .bf16) (C : Vec Ideal S1x1024x512 .fp8e4m3) (Sc : Vec Ideal S1x1024x4 .f32) : Vec Ideal S512x15x8x128 .f32 := fun y =>
  ∑ t : Fin 1024, C (ix3 0 t (y 0)) * Sc (ix3 0 t ⟨(y 0).val / 128, by have : (y 0).val < 512 := (y 0).isLt; omega⟩)
    * (rcd (argRow A t ⟨(y 1).val * 8 + (y 2).val, by have : (y 1).val < 15 := (y 1).isLt; have : (y 2).val < 8 := (y 2).isLt; omega⟩) (y 3)
      * rsc (argRow A t ⟨(y 1).val * 8 + (y 2).val, by have : (y 1).val < 15 := (y 1).isLt; have : (y 2).val < 8 := (y 2).isLt; omega⟩))

theorem dw_eq (A : Vec Ideal S1x1024x120x128 .bf16) (C : Vec Ideal S1x1024x512 .fp8e4m3) (Sc : Vec Ideal S1x1024x4 .f32) :
    k0_pay23 (k0_pay11 (k0_pay3 (shapeCast S1024x120x128 A shapeCasts_S1x1024x120x128_S1024x120x128)) (k0_pay4 (shapeCast S1024x120x128 A shapeCasts_S1x1024x120x128_S1024x120x128)))
      (k0_pay13 (shapeCast S1024x4x128 C shapeCasts_S1x1024x512_S1024x4x128) (shapeCast S1024x4x1 Sc shapeCasts_S1x1024x4_S1024x4x1)) = dwR A C Sc := by
  have e1 : ∀ (t : Fin 1024) (p : Fin 4) (q : Fin 128), shapeCast S1024x4x128 C shapeCasts_S1x1024x512_S1024x4x128 (ix3 t p q) = C (ix3 0 t ⟨p.val * 128 + q.val, by omega⟩) := by
    intro t p q; pointwise
  have e2 : ∀ (t : Fin 1024) (p : Fin 4), shapeCast S1024x4x1 Sc shapeCasts_S1x1024x4_S1024x4x1 (ix3 t p 0) = Sc (ix3 0 t p) := by
    intro t p; pointwise
  funext y
  obtain ⟨k, b, h, d, rfl⟩ : ∃ (k : Fin 512) (b : Fin 15) (h : Fin 8) (d : Fin 128), y = ix4 k b h d := ⟨y 0, y 1, y 2, y 3, by funext i; match i with | 0 => rfl | 1 => rfl | 2 => rfl | 3 => rfl⟩
  rw [pay23_apply]
  refine Finset.sum_congr rfl fun t _ => ?_
  have eH : (⟨(b.val * 1024 + h.val * 128 + d.val) / 128, by omega⟩ : Fin 120) = ⟨b.val * 8 + h.val, by omega⟩ := Fin.ext (by show (b.val * 1024 + h.val * 128 + d.val) / 128 = b.val * 8 + h.val; omega)
  have eD : (⟨(b.val * 1024 + h.val * 128 + d.val) % 128, by omega⟩ : Fin 128) = d := Fin.ext (by show (b.val * 1024 + h.val * 128 + d.val) % 128 = d.val; omega)
  have eK : (⟨k.val / 128 * 128 + k.val % 128, by omega⟩ : Fin 512) = k := Fin.ext (by show k.val / 128 * 128 + k.val % 128 = k.val; omega)
  rw [pay13_apply, pay11_apply, e1, e2]
  dsimp only
  rw [eH, eD, eK, pay4_apply, pay3_apply, brow_arg]
  rfl

theorem V_main_v2 (c : Dev nD) : V m c main_v2 = shapeCast S1024x4x128 (m ((c : Thread nD τ).loc main_arg2)) shapeCasts_S1x1024x512_S1024x4x128 := by
  show StableHlo.after hostOps0 _ (Proc.devRef .tc main_v2) = _
  after_results
  rfl

theorem iblk_whole2 (c : Dev nD) (t : Fin cfg0.N) : (iblk m c 2 t : Vec Ideal S1024x4x128 .fp8e4m3) = V m c main_v2 := by
  funext y
  show V m c main_v2 _ = V m c main_v2 y
  congr 1
  funext a
  apply Fin.ext
  refine ((cfg0.win 2).rect_emb_val t y a).trans ?_
  have e : win0_2.index t a = 0 := by
    rcases fin_N0 t with rfl; revert a; decide +kernel
  show win0_2.index t a * _ + (y a).val = _
  rw [e, Nat.zero_mul, Nat.zero_add]

theorem V_main_v3 (c : Dev nD) : V m c main_v3 = shapeCast S1024x4x1 (m ((c : Thread nD τ).loc main_arg3)) shapeCasts_S1x1024x4_S1024x4x1 := by
  show StableHlo.after hostOps0 _ (Proc.devRef .tc main_v3) = _
  after_results
  rfl

theorem iblk_whole3 (c : Dev nD) (t : Fin cfg0.N) : (iblk m c 3 t : Vec Ideal S1024x4x1 .f32) = V m c main_v3 := by
  funext y
  show V m c main_v3 _ = V m c main_v3 y
  congr 1
  funext a
  apply Fin.ext
  refine ((cfg0.win 3).rect_emb_val t y a).trans ?_
  have e : win0_3.index t a = 0 := by
    rcases fin_N0 t with rfl; revert a; decide +kernel
  show win0_3.index t a * _ + (y a).val = _
  rw [e, Nat.zero_mul, Nat.zero_add]

theorem flushed12 (c : Dev nD) (t : Fin cfg0.N) : (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 12).cut (grid0.coords t) ((dats m 0 c).after 12 t) = _
  rw [after0_12]

theorem out12 (c : Dev nD) (t : Fin cfg0.N) : out0_12 (iblk m c 0 t) (iblk m c 1 t) (iblk m c 2 t) (iblk m c 3 t) (iblk m c 4 t) (iblk m c 5 t) (iblk m c 6 t) (iblk m c 7 t) (iblk m c 8 t) (iblk m c 9 t) = dwR (m ((c : Thread nD τ).loc main_arg0)) (m ((c : Thread nD τ).loc main_arg2)) (m ((c : Thread nD τ).loc main_arg3)) := by
  unfold out0_12 k0_pay36 k0_pay34 k0_pay30 k0_pay29
  rw [View.canon_unit_zero hz4]
  rw [View.ld_unit_zero hz3, View.ld_unit_zero hz3, View.ld_unit_zero hz3]
  rw [iblk_whole0, iblk_whole2, iblk_whole3, V_main_v0, V_main_v2, V_main_v3]
  exact dw_eq _ _ _

theorem final12 (c : Dev nD) : (dats m 0 c).arrAt 12 cfg0.N = dwR (m ((c : Thread nD τ).loc main_arg0)) (m ((c : Thread nD τ).loc main_arg2)) (m ((c : Thread nD τ).loc main_arg3)) := by
  refine (dats m 0 c).arrAt_eq_of_cover 12 (dwR (m ((c : Thread nD τ).loc main_arg0)) (m ((c : Thread nD τ).loc main_arg2)) (m ((c : Thread nD τ).loc main_arg3))) (fun t _ => ?_) (fun i => ⟨t0_0, flush0_12 _, ?_⟩)
  · rw [flushed12, out12]
    funext y
    show dwR _ _ _ _ = dwR _ _ _ _
    congr 1
    funext a
    apply Fin.ext
    refine Eq.trans ?_ ((cfg0.win 12).rect_emb_val t y a).symm
    have e : win0_12.index t a = 0 := by
      rcases fin_N0 t with rfl; revert a; decide +kernel
    show (y a).val = win0_12.index t a * _ + (y a).val
    rw [e, Nat.zero_mul, Nat.zero_add]
  · show i ∈ ((View.whole main_v10_2).slice (win0_12.rect t0_0)).set
    rw [View.set_slice_whole, Rect.mem_set_unit]
    intro a
    have e : win0_12.index t0_0 a = 0 ∧ win0_12.xsize (grid0.coords t0_0) a = S512x15x8x128.size a := by
      revert a; decide +kernel
    show win0_12.index t0_0 a * win0_12.size a ≤ (i a : Nat) ∧ (i a : Nat) < win0_12.index t0_0 a * win0_12.size a + win0_12.xsize (grid0.coords t0_0) a
    rw [e.1, e.2, Nat.zero_mul, Nat.zero_add]
    exact ⟨Nat.zero_le _, (i a).isLt⟩

theorem flushed13 (c : Dev nD) (t : Fin cfg0.N) : (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 13).cut (grid0.coords t) ((dats m 0 c).after 13 t) = _
  rw [after0_13]

theorem out13 (c : Dev nD) (t : Fin cfg0.N) : out0_13 (iblk m c 0 t) (iblk m c 1 t) (iblk m c 2 t) (iblk m c 3 t) (iblk m c 4 t) (iblk m c 5 t) (iblk m c 6 t) (iblk m c 7 t) (iblk m c 8 t) (iblk m c 9 t) = dwR (m ((c : Thread nD τ).loc main_arg1)) (m ((c : Thread nD τ).loc main_arg2)) (m ((c : Thread nD τ).loc main_arg3)) := by
  unfold out0_13 k0_pay36 k0_pay35 k0_pay33 k0_pay32 k0_pay31
  rw [View.canon_unit_zero hz4]
  rw [View.ld_unit_zero hz3, View.ld_unit_zero hz3, View.ld_unit_zero hz3]
  rw [iblk_whole1, iblk_whole2, iblk_whole3, V_main_v1, V_main_v2, V_main_v3]
  rw [pay24_eq, pay12_eq, pay10_eq, pay9_eq]
  exact dw_eq _ _ _

theorem final13 (c : Dev nD) : (dats m 0 c).arrAt 13 cfg0.N = dwR (m ((c : Thread nD τ).loc main_arg1)) (m ((c : Thread nD τ).loc main_arg2)) (m ((c : Thread nD τ).loc main_arg3)) := by
  refine (dats m 0 c).arrAt_eq_of_cover 13 (dwR (m ((c : Thread nD τ).loc main_arg1)) (m ((c : Thread nD τ).loc main_arg2)) (m ((c : Thread nD τ).loc main_arg3))) (fun t _ => ?_) (fun i => ⟨t0_0, flush0_13 _, ?_⟩)
  · rw [flushed13, out13]
    funext y
    show dwR _ _ _ _ = dwR _ _ _ _
    congr 1
    funext a
    apply Fin.ext
    refine Eq.trans ?_ ((cfg0.win 13).rect_emb_val t y a).symm
    have e : win0_13.index t a = 0 := by
      rcases fin_N0 t with rfl; revert a; decide +kernel
    show (y a).val = win0_13.index t a * _ + (y a).val
    rw [e, Nat.zero_mul, Nat.zero_add]
  · show i ∈ ((View.whole main_v10_3).slice (win0_13.rect t0_0)).set
    rw [View.set_slice_whole, Rect.mem_set_unit]
    intro a
    have e : win0_13.index t0_0 a = 0 ∧ win0_13.xsize (grid0.coords t0_0) a = S512x15x8x128.size a := by
      revert a; decide +kernel
    show win0_13.index t0_0 a * win0_13.size a ≤ (i a : Nat) ∧ (i a : Nat) < win0_13.index t0_0 a * win0_13.size a + win0_13.xsize (grid0.coords t0_0) a
    rw [e.1, e.2, Nat.zero_mul, Nat.zero_add]
    exact ⟨Nat.zero_le _, (i a).isLt⟩

end Cert.ReferenceIdeal.Value
end
-- ==== Proof.Ideal.Gradients.lean ====
/- The weight gradients the kernel returns, as functions of the arguments. -/
module

public import proofs.«01_k».proof.Proof.Ideal.BlocksB
public import proofs.«01_k».proof.Proof.Ideal.Results
public import proofs.«01_k».proof.Proof.RefDw

@[expose] public section
set_option maxRecDepth 16384
noncomputable section

namespace Cert.KernelIdeal.Value
open Cert.KernelIdeal Cert.KernelIdeal.Gen Idealize.ShloMosaic Idealize.ShloMosaic.TcCoe Idealize.SL.Sem Idealize.ShloMosaic.Tactic
open Idealize.ShloMosaic.Pipeline (Dat)
open Cert.MlaQuant
open Cert.ReferenceIdeal.Value (dwR rcd rsc)

variable (m : (ℓ : Loc nD τ sig) → Buf (Elt Ideal) ℓ) (ρ : Dev nD → PrngReg)

theorem V_main_v2 (c : Dev nD) : V m c main_v2 = shapeCast S1024x512 (m ((c : Thread nD τ).loc main_arg2)) shapeCasts_S1x1024x512_S1024x512 := by
  show StableHlo.after hostOps0 _ (Proc.devRef .tc main_v2) = _
  after_results
  rfl

theorem V_main_v4 (c : Dev nD) : V m c main_v4 = transpose S4x1024 [1, 0] (shapeCast S1024x4 (m ((c : Thread nD τ).loc main_arg3)) shapeCasts_S1x1024x4_S1024x4) transposes_S1024x4_S4x1024_1_0 := by
  show StableHlo.after hostOps0 _ (Proc.devRef .tc main_v4) = _
  after_results
  rfl

theorem latent_cast (C : Vec Ideal S1x1024x512 .fp8e4m3) (t : Fin 1024) (k : Fin 512) : shapeCast S1024x512 C shapeCasts_S1x1024x512_S1024x512 (ix2 t k) = C (ix3 0 t k) := by
  pointwise

theorem scale_cast (Sc : Vec Ideal S1x1024x4 .f32) (q : Fin 4) (t : Fin 1024) :
    transpose S4x1024 [1, 0] (shapeCast S1024x4 Sc shapeCasts_S1x1024x4_S1024x4) transposes_S1024x4_S4x1024_1_0 (ix2 q t) = Sc (ix3 0 t q) := by
  pointwise

theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

theorem iblk2 (c : Dev nD) (t : Fin cfg0.N) (a : Fin 1024) (k : Fin 512) :
    (iblk m c 2 t : Vec Ideal S1024x512 .fp8e4m3) (ix2 a k) = m ((c : Thread nD τ).loc main_arg2) (ix3 0 a k) := by
  refine Eq.trans ?_ (latent_cast (m ((c : Thread nD τ).loc main_arg2)) a k)
  rw [← V_main_v2]
  show V m c main_v2 _ = V m c main_v2 _
  congr 1
  funext e
  apply Fin.ext
  refine ((cfg0.win 2).rect_emb_val t _ e).trans ?_
  obtain ⟨e0, e1⟩ := index2 t
  match e with
  | 0 => show win0_2.index t 0 * 1024 + a.val = a.val; rw [e0]; omega
  | 1 => show win0_2.index t 1 * 512 + k.val = k.val; rw [e1]; omega

theorem iblk3 (c : Dev nD) (t : Fin cfg0.N) (q : Fin 4) (a : Fin 1024) :
    (iblk m c 3 t : Vec Ideal S4x1024 .f32) (ix2 q a) = m ((c : Thread nD τ).loc main_arg3) (ix3 0 a q) := by
  refine Eq.trans ?_ (scale_cast (m ((c : Thread nD τ).loc main_arg3)) q a)
  rw [← V_main_v4]
  show V m c main_v4 _ = V m c main_v4 _
  congr 1
  funext e
  apply Fin.ext
  refine ((cfg0.win 3).rect_emb_val t _ e).trans ?_
  obtain ⟨e0, e1⟩ := index3 t
  match e with
  | 0 => show win0_3.index t 0 * 4 + q.val = q.val; rw [e0]; omega
  | 1 => show win0_3.index t 1 * 1024 + a.val = a.val; rw [e1]; omega

/-- The latent factor, from the arguments. -/
def latentR (C : Vec Ideal S1x1024x512 .fp8e4m3) (Sc : Vec Ideal S1x1024x4 .f32) : S256x2x1024.Idx → EReal := fun y =>
  C (ix3 0 (y 2) ⟨2 * (y 0).val + (y 1).val, by have : (y 0).val < 256 := (y 0).isLt; have : (y 1).val < 2 := (y 1).isLt; omega⟩)
    * Sc (ix3 0 (y 2) ⟨(2 * (y 0).val + (y 1).val) / 128, by have : (y 0).val < 256 := (y 0).isLt; have : (y 1).val < 2 := (y 1).isLt; omega⟩)

theorem latent_eq (c : Dev nD) (t : Fin cfg0.N) : ctG (iblk m c 2 t) (iblk m c 3 t) = latentR (m ((c : Thread nD τ).loc main_arg2)) (m ((c : Thread nD τ).loc main_arg3)) := by
  funext y
  exact congrArg₂ (· * ·) (iblk2 m c t (y 2) _) (iblk3 m c t _ (y 2))

/-- Every point leaves the latent factor in its scratch. -/
theorem latent_left (c : Dev nD) : ∀ (n : ℕ) (hn : n < cfg0.N), (outsAt0 m c n hn).2.2.2.2.2.2.2.2.2.1 = latentR (m ((c : Thread nD τ).loc main_arg2)) (m ((c : Thread nD τ).loc main_arg3)) := by
  have hN : cfg0.N = 16 := N_0
  intro n
  induction n with
  | zero =>
    intro hn
    refine (congrArg (fun z => z.2.2.2.2.2.2.2.2.2.1) (outsAt0_A m c ⟨0, hn⟩ (by show 0 % 16 = 0; omega) (by show ¬(1 ≤ 0 % 16 ∧ 0 % 16 ≤ 14); omega) (by show ¬ 0 % 16 = 15; omega))).trans ?_
    unfold outs0_A
    dsimp only
    rw [latent_A_left]
    exact latent_eq m c _
  | succ n ih =>
    intro hn
    by_cases h : n + 1 ≤ 14
    · refine (congrArg (fun z => z.2.2.2.2.2.2.2.2.2.1) (outsAt0_B m c ⟨n + 1, hn⟩ (by show ¬ (n + 1) % 16 = 0; omega) (by show 1 ≤ (n + 1) % 16 ∧ (n + 1) % 16 ≤ 14; omega) (by show ¬ (n + 1) % 16 = 15; omega))).trans ?_
      unfold outs0_B sout0_B_1
      dsimp only
      exact ih _
    · refine (congrArg (fun z => z.2.2.2.2.2.2.2.2.2.1) (outsAt0_C m c ⟨n + 1, hn⟩ (by show ¬ (n + 1) % 16 = 0; omega) (by show ¬(1 ≤ (n + 1) % 16 ∧ (n + 1) % 16 ≤ 14); omega) (by show (n + 1) % 16 = 15; omega))).trans ?_
      unfold outs0_C sout0_C_1
      dsimp only
      exact ih _

/-- The rows a point lays out as columns. -/
theorem rows_left (c : Dev nD) (hA : RowsOk (m ((c : Thread nD τ).loc main_arg1))) (t : Fin cfg0.N) (ht : t.val < 15) :
    (outsAt0 m c t.val t.isLt).2.2.2.2.2.2.2.2.2.2.2.1 = htcX (natG (iblk m c 1 t)) := by
  by_cases h0 : t.val % 16 = 0
  · rw [outsAt0_A m c t h0 (by omega) (by omega)]
    unfold outs0_A
    dsimp only
    rw [rows_A_left (hG := good1 m c t hA)]
  · rw [outsAt0_B m c t h0 (by omega) (by omega)]
    unfold outs0_B
    dsimp only
    rw [rows_B_left (hG := good1 m c t hA)]

theorem left12 (c : Dev nD) (hA : RowsOk (m ((c : Thread nD τ).loc main_arg0))) (t : Fin cfg0.N) :
    (outsAt0 m c t.val t.isLt).2.2.1 = dwG (latentR (m ((c : Thread nD τ).loc main_arg2)) (m ((c : Thread nD τ).loc main_arg3))) (htcX (natG (iblk m c 0 t))) := by
  have low : ∀ t : Fin cfg0.N, t.val < 15 → (outsAt0 m c t.val t.isLt).2.2.1 = dwG (latentR (m ((c : Thread nD τ).loc main_arg2)) (m ((c : Thread nD τ).loc main_arg3))) (htcX (natG (iblk m c 0 t))) := by
    intro t ht
    by_cases h0 : t.val % 16 = 0
    · rw [outsAt0_A m c t h0 (by omega) (by omega)]
      unfold outs0_A
      dsimp only
      rw [dw_A_12 (hG := good0 m c t hA), latent_eq]
    · rw [outsAt0_B m c t h0 (by omega) (by omega)]
      unfold outs0_B
      dsimp only
      rw [dw_B_12 (hG := good0 m c t hA), latent_left]
  by_cases ht : t.val < 15
  · exact low t ht
  · have hN : cfg0.N = 16 := N_0
    have h15 : t.val = 15 := by have := t.isLt; omega
    have hc : (outsAt0 m c t.val t.isLt).2.2.1 = (outsAt0 m c (t.val - 1) (by omega)).2.2.1 := by
      rw [outsAt0_C m c t (by omega) (by omega) (by omega)]; rfl
    have e := low ⟨t.val - 1, by omega⟩ (by show t.val - 1 < 15; omega)
    refine (hc.trans e).trans (congrArg (fun X => dwG _ (htcX (natG X))) ?_)
    funext y
    obtain ⟨a, z, h, d, rfl⟩ : ∃ (a : Fin 1024) (z : Fin 1) (h : Fin 8) (d : Fin 128), y = ix4 a z h d := ⟨y 0, y 1, y 2, y 3, by funext i; match i with | 0 => rfl | 1 => rfl | 2 => rfl | 3 => rfl⟩
    obtain rfl : z = 0 := Subsingleton.elim _ _
    refine (iblk0 m c _ a h d).trans (Eq.trans ?_ (iblk0 m c t a h d).symm)
    have eb : blkNo ⟨t.val - 1, by omega⟩ = blkNo t := Fin.ext (by show min (t.val - 1) 14 = min t.val 14; omega)
    simp only [eb]

theorem left13 (c : Dev nD) (hA : RowsOk (m ((c : Thread nD τ).loc main_arg1))) (t : Fin cfg0.N) (ht : 1 ≤ t.val) :
    (outsAt0 m c t.val t.isLt).2.2.2.1 = dwG (latentR (m ((c : Thread nD τ).loc main_arg2)) (m ((c : Thread nD τ).loc main_arg3))) (htcX (natG (iblk m c 1 ⟨t.val - 1, by omega⟩))) := by
  have hN : cfg0.N = 16 := N_0
  have hl := t.isLt
  have e := rows_left m c hA ⟨t.val - 1, by omega⟩ (by show t.val - 1 < 15; omega)
  by_cases h : t.val ≤ 14
  · rw [outsAt0_B m c t (by omega) (by omega) (by omega)]
    unfold outs0_B
    dsimp only
    rw [dw_B_13, latent_left]
    exact congrArg (dwG _) e
  · rw [outsAt0_C m c t (by omega) (by omega) (by omega)]
    unfold outs0_C
    dsimp only
    rw [dw_C_13, latent_left]
    exact congrArg (dwG _) e

theorem rows_at (X : S1024x1x8x128.Idx → EReal) (t : Fin 1024) (h : Fin 8) (d : Fin 128) :
    htcX (natG X) (ix3 ⟨t.val / 2, by omega⟩ ⟨t.val % 2, by omega⟩ ⟨128 * h.val + d.val, by omega⟩) = cd (tokRow X t.val h.val) d * sc (tokRow X t.val h.val) := by
  have e1 : (8 * (t.val / 2) + 4 * (t.val % 2) + (128 * h.val + d.val) / 256) / 4 = t.val := by omega
  have e2 : 2 * ((8 * (t.val / 2) + 4 * (t.val % 2) + (128 * h.val + d.val) / 256) % 4) + (128 * h.val + d.val) / 128 % 2 = h.val := by omega
  have e3 : (⟨(128 * h.val + d.val) % 128, by omega⟩ : Fin 128) = d := Fin.ext (by show (128 * h.val + d.val) % 128 = d.val; omega)
  show cd (tokRow X ((8 * (t.val / 2) + 4 * (t.val % 2) + (128 * h.val + d.val) / 256) / 4) (2 * ((8 * (t.val / 2) + 4 * (t.val % 2) + (128 * h.val + d.val) / 256) % 4) + (128 * h.val + d.val) / 128 % 2)) ⟨(128 * h.val + d.val) % 128, _⟩
    * sc (tokRow X ((8 * (t.val / 2) + 4 * (t.val % 2) + (128 * h.val + d.val) / 256) / 4) (2 * ((8 * (t.val / 2) + 4 * (t.val % 2) + (128 * h.val + d.val) / 256) % 4) + (128 * h.val + d.val) / 128 % 2)) = _
  rw [e1, e2, e3]

/-- A block's product is the reference's block. -/
theorem dw_at (A : Vec Ideal S1x1024x120x128 .bf16) (C : Vec Ideal S1x1024x512 .fp8e4m3) (Sc : Vec Ideal S1x1024x4 .f32) (hA : RowsOk A) (X : S1024x1x8x128.Idx → EReal) (b : Fin 15)
    (hX : ∀ a h : ℕ, tokRow X a h = argRow A ⟨a % 1024, Nat.mod_lt _ (by norm_num)⟩ ⟨b.val * 8 + h % 8, by omega⟩) (k : Fin 512) (h : Fin 8) (d : Fin 128) :
    dwG (latentR C Sc) (htcX (natG X)) (ix4 k 0 h d) = dwR A C Sc (ix4 k b h d) := by
  refine Finset.sum_congr rfl fun t _ => ?_
  refine congrArg₂ (· * ·) ?_ ((rows_at X t h d).trans ?_)
  · have e1 : (⟨2 * (k.val / 2) + k.val % 2, by omega⟩ : Fin 512) = k := Fin.ext (by show 2 * (k.val / 2) + k.val % 2 = k.val; omega)
    have e2 : (⟨(2 * (k.val / 2) + k.val % 2) / 128, by omega⟩ : Fin 4) = ⟨k.val / 128, by omega⟩ := Fin.ext (by show (2 * (k.val / 2) + k.val % 2) / 128 = k.val / 128; omega)
    exact congrArg₂ (fun p q => C (ix3 0 t p) * Sc (ix3 0 t q)) e1 e2
  · rw [hX, cd_ok (hA _ _), (row_ok (hA _ _)).2.1]
    unfold rcd rsc
    simp only [Nat.mod_eq_of_lt t.isLt, Nat.mod_eq_of_lt h.isLt]
    rfl

theorem index12 : ∀ t : Fin cfg0.N, win0_12.index t 0 = 0 ∧ win0_12.index t 1 = min t.val 14 ∧ win0_12.index t 2 = 0 ∧ win0_12.index t 3 = 0 :=
  (by decide +kernel : ∀ t : Fin grid0.N, win0_12.index t 0 = 0 ∧ win0_12.index t 1 = min t.val 14 ∧ win0_12.index t 2 = 0 ∧ win0_12.index t 3 = 0)

theorem flushes12 : ∀ n : Fin 15, ∃ t : Fin cfg0.N, (cfg0.win 12).flush t = true ∧ min t.val 14 = n.val :=
  (by decide +kernel : ∀ n : Fin 15, ∃ t : Fin grid0.N, win0_12.flush t = true ∧ min t.val 14 = n.val)

theorem final12 (c : Dev nD) (hA : RowsOk (m ((c : Thread nD τ).loc main_arg0))) :
    (dats m 0 c).arrAt 12 cfg0.N = dwR (m ((c : Thread nD τ).loc main_arg0)) (m ((c : Thread nD τ).loc main_arg2)) (m ((c : Thread nD τ).loc main_arg3)) := by
  refine (dats m 0 c).arrAt_eq_of_cover 12 (dwR (m ((c : Thread nD τ).loc main_arg0)) (m ((c : Thread nD τ).loc main_arg2)) (m ((c : Thread nD τ).loc main_arg3))) (fun t hf => ?_) (fun i => ?_)
  · show (cfg0.win 12).cut (grid0.coords t) ((dats m 0 c).after 12 t) = _
    rw [after0_12, left12 m c hA]
    funext y
    obtain ⟨k, z, h, d, rfl⟩ : ∃ (k : Fin 512) (z : Fin 1) (h : Fin 8) (d : Fin 128), y = ix4 k z h d := ⟨y 0, y 1, y 2, y 3, by funext i; match i with | 0 => rfl | 1 => rfl | 2 => rfl | 3 => rfl⟩
    obtain rfl : z = 0 := Subsingleton.elim _ _
    obtain ⟨e0, e1, e2, e3⟩ := index12 t
    have ey : (win0_12.blk t).view.emb (ix4 k 0 h d) = (ix4 k (blkNo t) h d : S512x15x8x128.Idx) := by
      funext e
      apply Fin.ext
      refine ((cfg0.win 12).rect_emb_val t _ e).trans ?_
      match e with
      | 0 => show win0_12.index t 0 * 512 + k.val = k.val; rw [e0]; omega
      | 1 => show win0_12.index t 1 * 1 + 0 = min t.val 14; rw [e1]; omega
      | 2 => show win0_12.index t 2 * 8 + h.val = h.val; rw [e2]; omega
      | 3 => show win0_12.index t 3 * 128 + d.val = d.val; rw [e3]; omega
    show dwG _ _ (ix4 k 0 h d) = dwR _ _ _ ((win0_12.blk t).view.emb (ix4 k 0 h d))
    rw [ey]
    exact dw_at _ _ _ hA _ _ (row0 m c t) k h d
  · obtain ⟨t, hf, ht⟩ := flushes12 ⟨(i 1).val, (i 1).isLt⟩
    refine ⟨t, hf, ?_⟩
    show i ∈ ((View.whole main_v9_2).slice (win0_12.rect t)).set
    rw [View.set_slice_whole, Rect.mem_set_unit]
    obtain ⟨e0, e1, e2, e3⟩ := index12 t
    have i1 : (i 1).val = min t.val 14 := ht.symm
    have b0 : (i 0).val < 512 := (i 0).isLt
    have b2 : (i 2).val < 8 := (i 2).isLt
    have b3 : (i 3).val < 128 := (i 3).isLt
    intro a
    match a with
    | 0 => show win0_12.index t 0 * 512 ≤ (i 0).val ∧ (i 0).val < win0_12.index t 0 * 512 + 512; rw [e0]; omega
    | 1 => show win0_12.index t 1 * 1 ≤ (i 1).val ∧ (i 1).val < win0_12.index t 1 * 1 + 1; rw [e1]; omega
    | 2 => show win0_12.index t 2 * 8 ≤ (i 2).val ∧ (i 2).val < win0_12.index t 2 * 8 + 8; rw [e2]; omega
    | 3 => show win0_12.index t 3 * 128 ≤ (i 3).val ∧ (i 3).val < win0_12.index t 3 * 128 + 128; rw [e3]; omega

theorem index13 : ∀ t : Fin cfg0.N, win0_13.index t 0 = 0 ∧ win0_13.index t 1 = t.val - 1 ∧ win0_13.index t 2 = 0 ∧ win0_13.index t 3 = 0 :=
  (by decide +kernel : ∀ t : Fin grid0.N, win0_13.index t 0 = 0 ∧ win0_13.index t 1 = t.val - 1 ∧ win0_13.index t 2 = 0 ∧ win0_13.index t 3 = 0)

theorem flushes13 : ∀ n : Fin 15, ∃ t : Fin cfg0.N, (cfg0.win 13).flush t = true ∧ t.val - 1 = n.val :=
  (by decide +kernel : ∀ n : Fin 15, ∃ t : Fin grid0.N, win0_13.flush t = true ∧ t.val - 1 = n.val)

theorem late13 : ∀ t : Fin cfg0.N, (cfg0.win 13).flush t = true → 1 ≤ t.val :=
  (by decide +kernel : ∀ t : Fin grid0.N, win0_13.flush t = true → 1 ≤ t.val)

theorem final13 (c : Dev nD) (hA : RowsOk (m ((c : Thread nD τ).loc main_arg1))) :
    (dats m 0 c).arrAt 13 cfg0.N = dwR (m ((c : Thread nD τ).loc main_arg1)) (m ((c : Thread nD τ).loc main_arg2)) (m ((c : Thread nD τ).loc main_arg3)) := by
  refine (dats m 0 c).arrAt_eq_of_cover 13 (dwR (m ((c : Thread nD τ).loc main_arg1)) (m ((c : Thread nD τ).loc main_arg2)) (m ((c : Thread nD τ).loc main_arg3))) (fun t hf => ?_) (fun i => ?_)
  · show (cfg0.win 13).cut (grid0.coords t) ((dats m 0 c).after 13 t) = _
    have h1 := late13 t hf
    have hN : cfg0.N = 16 := N_0
    have hl := t.isLt
    rw [after0_13, left13 m c hA t h1]
    funext y
    obtain ⟨k, z, h, d, rfl⟩ : ∃ (k : Fin 512) (z : Fin 1) (h : Fin 8) (d : Fin 128), y = ix4 k z h d := ⟨y 0, y 1, y 2, y 3, by funext i; match i with | 0 => rfl | 1 => rfl | 2 => rfl | 3 => rfl⟩
    obtain rfl : z = 0 := Subsingleton.elim _ _
    obtain ⟨e0, e1, e2, e3⟩ := index13 t
    have ey : (win0_13.blk t).view.emb (ix4 k 0 h d) = (ix4 k (blkNo ⟨t.val - 1, by omega⟩) h d : S512x15x8x128.Idx) := by
      funext e
      apply Fin.ext
      refine ((cfg0.win 13).rect_emb_val t _ e).trans ?_
      match e with
      | 0 => show win0_13.index t 0 * 512 + k.val = k.val; rw [e0]; omega
      | 1 => show win0_13.index t 1 * 1 + 0 = min (t.val - 1) 14; rw [e1]; omega
      | 2 => show win0_13.index t 2 * 8 + h.val = h.val; rw [e2]; omega
      | 3 => show win0_13.index t 3 * 128 + d.val = d.val; rw [e3]; omega
    show dwG _ _ (ix4 k 0 h d) = dwR _ _ _ ((win0_13.blk t).view.emb (ix4 k 0 h d))
    rw [ey]
    exact dw_at _ _ _ hA _ _ (row1 m c _) k h d
  · obtain ⟨t, hf, ht⟩ := flushes13 ⟨(i 1).val, (i 1).isLt⟩
    refine ⟨t, hf, ?_⟩
    show i ∈ ((View.whole main_v9_3).slice (win0_13.rect t)).set
    rw [View.set_slice_whole, Rect.mem_set_unit]
    obtain ⟨e0, e1, e2, e3⟩ := index13 t
    have i1 : (i 1).val = t.val - 1 := ht.symm
    have b0 : (i 0).val < 512 := (i 0).isLt
    have b2 : (i 2).val < 8 := (i 2).isLt
    have b3 : (i 3).val < 128 := (i 3).isLt
    intro a
    match a with
    | 0 => show win0_13.index t 0 * 512 ≤ (i 0).val ∧ (i 0).val < win0_13.index t 0 * 512 + 512; rw [e0]; omega
    | 1 => show win0_13.index t 1 * 1 ≤ (i 1).val ∧ (i 1).val < win0_13.index t 1 * 1 + 1; rw [e1]; omega
    | 2 => show win0_13.index t 2 * 8 ≤ (i 2).val ∧ (i 2).val < win0_13.index t 2 * 8 + 8; rw [e2]; omega
    | 3 => show win0_13.index t 3 * 128 ≤ (i 3).val ∧ (i 3).val < win0_13.index t 3 * 128 + 128; rw [e3]; omega

end Cert.KernelIdeal.Value
end
-- ==== Proof.Ideal.Widen.lean ====
/- The weights, widened group by group, as rows of heads. -/
module

public import proofs.«01_k».proof.Proof.Ideal.Products

@[expose] public section
set_option maxRecDepth 16384
noncomputable section

namespace Cert.KernelIdeal.Gen
open Idealize.ShloMosaic Idealize.ShloMosaic.TcCoe Idealize.SL.Sem Idealize.ShloMosaic.Tactic
open Cert.MlaFill

/-- The widened weights of a tile, in rows of heads: code times the scale of its head and group. -/
def natW (C : S512x1x8x128.Idx → EReal) (W : S2x120x8.Idx → EReal) (w : Fin 2) (n : ℕ) : S2048x2x128.Idx → EReal := fun y =>
  C (ix4 ⟨(y 0).val / 4, by have : (y 0).val < 2048 := (y 0).isLt; omega⟩ 0 ⟨(2 * (y 0).val + (y 1).val) % 8, Nat.mod_lt _ (by norm_num)⟩ (y 2))
    * W (ix3 w ⟨(8 * n + (2 * (y 0).val + (y 1).val) % 8) % 120, Nat.mod_lt _ (by norm_num)⟩ ⟨(y 0).val / 512, by have : (y 0).val < 2048 := (y 0).isLt; omega⟩)

theorem pay109_apply (A : Vec Ideal S1x8x1 .f32) (B : Vec Ideal S4x1x8x128 .fp8e4m3) (p : Fin 16) (s : Fin 2) (d : Fin 128) :
    k0_pay109 A B (ix3 p s d) = B (ix4 ⟨p.val / 4, by omega⟩ 0 ⟨(2 * p.val + s.val) % 8, Nat.mod_lt _ (by norm_num)⟩ d) * A (ix3 0 ⟨(2 * p.val + s.val) % 8, Nat.mod_lt _ (by norm_num)⟩ 0) := by
  have key : ∀ (n : ℕ) (hn : n < 32), (if h : n < 8 then A (ix3 0 ⟨n, h⟩ 0) else if h : n - 8 < 8 then A (ix3 0 ⟨n - 8, h⟩ 0)
      else if h : n - 8 - 8 < 8 then A (ix3 0 ⟨n - 8 - 8, h⟩ 0) else A (ix3 0 ⟨n - 8 - 8 - 8, by omega⟩ 0)) = A (ix3 0 ⟨n % 8, Nat.mod_lt _ (by norm_num)⟩ 0) := by
    intro n hn
    split_ifs <;> exact congrArg (fun z => A (ix3 0 z 0)) (Fin.ext (by dsimp only; omega))
  pointwise [k0_pay109]
  match s with
  | 0 => exact (if_pos rfl).trans (congrArg₂ (· * ·) (congrArg (fun z => B (ix4 z 0 ⟨2 * p.val % 8, Nat.mod_lt _ (by norm_num)⟩ d)) (Fin.ext (by show 2 * p.val / 8 = p.val / 4; omega))) (key _ (by omega)))
  | 1 => exact (if_neg (by decide)).trans (congrArg₂ (· * ·) (congrArg (fun z => B (ix4 z 0 ⟨(2 * p.val + 1) % 8, Nat.mod_lt _ (by norm_num)⟩ d)) (Fin.ext (by show (2 * p.val + 1) / 8 = p.val / 4; omega))) (key _ (by omega)))

theorem wide_fill {oc ow : Fin 3 → ℕ} {ob : Fin 4 → ℕ} {g k n : ℕ} {w : Fin 2} (hg : g < 4) (hk : k < 32) (hn : n < 15) (hc : oc = ![w.val, 8 * n, g]) (hb : ob = ![128 * g + 4 * k, 0, 0, 0]) (ho : ow = ![16 * (32 * g + k), 0, 0])
    (ic ib) (inb : ∀ a, ow a + (![16, 2, 128] : Fin 3 → ℕ) a ≤ S2048x2x128.size a) {C : S512x1x8x128.Idx → EReal} {W : S2x120x8.Idx → EReal} (A : Vec Ideal S1x8x1 .f32) (B : Vec Ideal S4x1x8x128 .fp8e4m3)
    (hA : A = fun x => W ((Rect.unit (s := S2x120x8) oc S1x8x1.size ic).toLoadRect.idx x)) (hB : B = fun x => C ((Rect.unit (s := S512x1x8x128) ob S4x1x8x128.size ib).toLoadRect.idx x)) :
    Fills (Val := Elt Ideal) [⟨Rect.unit (s := S2048x2x128) ow ![16, 2, 128] inb, k0_pay109 A B⟩] (fun y => (y 0).val / 16 = 32 * g + k) (natW C W w n) := by
  subst hc hb ho hA hB
  refine Fills.unit (s := S2048x2x128) inb _ (fun x y hh => ?_) (fun y hy a => ?_)
  · obtain ⟨p, s, d, rfl⟩ : ∃ (p : Fin 16) (s : Fin 2) (d : Fin 128), x = ix3 p s d := ⟨x 0, x 1, x 2, by funext i; match i with | 0 => rfl | 1 => rfl | 2 => rfl⟩
    have e0 : (y 0).val = 16 * (32 * g + k) + p.val := hh 0
    have e1 : (y 1).val = 0 + s.val := hh 1
    have e2 : (y 2).val = 0 + d.val := hh 2
    refine (pay109_apply _ _ p s d).trans (congrArg₂ (· * ·) (congrArg C (funext fun a => Fin.ext ?_)) (congrArg W (funext fun a => Fin.ext ?_)))
    · match a with
      | 0 => show 128 * g + 4 * k + 1 * (p.val / 4) = (y 0).val / 4; omega
      | 1 => rfl
      | 2 => show 0 + 1 * ((2 * p.val + s.val) % 8) = (2 * (y 0).val + (y 1).val) % 8; omega
      | 3 => show 0 + 1 * d.val = (y 2).val; omega
    · match a with
      | 0 => show w.val + 1 * 0 = w.val; omega
      | 1 => show 8 * n + 1 * ((2 * p.val + s.val) % 8) = (8 * n + (2 * (y 0).val + (y 1).val) % 8) % 120; omega
      | 2 => show g + 1 * 0 = (y 0).val / 512; omega
  · match a with
    | 0 => show 16 * (32 * g + k) ≤ (y 0).val ∧ (y 0).val < 16 * (32 * g + k) + 16; dsimp only at hy; omega
    | 1 => exact ⟨Nat.zero_le _, by have : (y 1).val < 2 := (y 1).isLt; show _ < 0 + 2; omega⟩
    | 2 => exact ⟨Nat.zero_le _, by have : (y 2).val < 128 := (y 2).isLt; show _ < 0 + 128; omega⟩

theorem wide_all {L0 L1 L2 L3 : List (View.Piece (Elt Ideal) S2048x2x128 .bf16)} {G : S2048x2x128.Idx → EReal} (h3 : Fills (Val := Elt Ideal) L3 (fun y => (y 0).val / 512 = 3) G) (h2 : Fills (Val := Elt Ideal) L2 (fun y => (y 0).val / 512 = 2) G)
    (h1 : Fills (Val := Elt Ideal) L1 (fun y => (y 0).val / 512 = 1) G) (h0 : Fills (Val := Elt Ideal) L0 (fun y => (y 0).val / 512 = 0) G)
    {sp : Space} (v : View sig .tc sp S2048x2x128 .bf16) (f : v.ty.Contents (Elt Ideal)) (L : List (View.Piece (Elt Ideal) S2048x2x128 .bf16)) :
    v.read (Elt Ideal) (v.writes (Elt Ideal) f (L3 ++ (L2 ++ (L1 ++ (L0 ++ L))))) = G := by
  have h : Fills (Val := Elt Ideal) (L3 ++ (L2 ++ (L1 ++ L0))) (fun _ => True) G := by
    refine h3.append (h2.append (h1.append h0 (Q := fun y => (y 0).val / 512 ≤ 1) fun y hy => ?_) (Q := fun y => (y 0).val / 512 ≤ 2) fun y hy => ?_) fun y _ => ?_
    · dsimp only at hy ⊢; omega
    · dsimp only at hy ⊢; omega
    · have : (y 0).val < 2048 := (y 0).isLt
      dsimp only; omega
  have e := h.readAll v f L
  simp only [List.append_assoc] at e
  exact e

variable (𝒱 : Variants) (c : Dev nD) (bd : Option 𝒱.V) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (p0 : BitVec 32)

theorem woff_3 : ∀ i : grid0.Coords, k0_off14 i = ![0, 8 * (i 0).val, 0] ∧ k0_off17 i = ![0, 8 * (i 0).val, 1] ∧ k0_off20 i = ![0, 8 * (i 0).val, 2] ∧ k0_off23 i = ![0, 8 * (i 0).val, 3] := by decide +kernel
theorem wofk_3 : ∀ k : Fin k0_t3_loop.trips, k0_off15 k = ![128 * 0 + 4 * k.val, 0, 0, 0] ∧ k0_off16 k = ![16 * (32 * 0 + k.val), 0, 0] := by decide +kernel

theorem wide_t3 (p0 : BitVec 32) (h : k0_cond1 i = 1#1) (v129 : IVec S8x1024 32) (X : BufTy.Contents (Elt Ideal) p5.view.ty) (Z : BufTy.Contents (Elt Ideal) p21.view.ty) {W : S2x120x8.Idx → EReal} (hW : p21.view.read (Elt Ideal) Z = W) (hn : (i 0).val < 15) :
    Fills (Val := Elt Ideal) (pb_k0_t3 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 h v129 X Z k0_t3_loop.trips) (fun y => (y 0).val / 512 = 0) (natW (p5.view.read (Elt Ideal) X) W 0 (i 0).val) := by
  subst hW
  refine Fills.mono (Fills.loop (T := k0_t3_loop.trips) _ _ (fun k y => (y 0).val / 16 = 32 * 0 + k) ?_ (fun k => pb_k0_t3_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 0, ?_, ?_⟩
  · rfl
  · unfold tripL_k0_t3 trip_k0_t3
    exact wide_fill (by norm_num) k.isLt hn (woff_3 i).1 (wofk_3 k).1 (wofk_3 k).2 _ _ _ _ _ (funext fun x => View.readAt_apply ..) (funext fun x => View.readAt_apply ..)
  · show _ < 32; omega
  · dsimp only; omega

theorem wofk_4 : ∀ k : Fin k0_t4_loop.trips, k0_off18 k = ![128 * 1 + 4 * k.val, 0, 0, 0] ∧ k0_off19 k = ![16 * (32 * 1 + k.val), 0, 0] := by decide +kernel

theorem wide_t4 (p0 : BitVec 32) (h : k0_cond1 i = 1#1) (v129 : IVec S8x1024 32) (X : BufTy.Contents (Elt Ideal) p5.view.ty) (Z : BufTy.Contents (Elt Ideal) p21.view.ty) {W : S2x120x8.Idx → EReal} (hW : p21.view.read (Elt Ideal) Z = W) (hn : (i 0).val < 15) :
    Fills (Val := Elt Ideal) (pb_k0_t4 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 h v129 X Z k0_t4_loop.trips) (fun y => (y 0).val / 512 = 1) (natW (p5.view.read (Elt Ideal) X) W 0 (i 0).val) := by
  subst hW
  refine Fills.mono (Fills.loop (T := k0_t4_loop.trips) _ _ (fun k y => (y 0).val / 16 = 32 * 1 + k) ?_ (fun k => pb_k0_t4_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 1, ?_, ?_⟩
  · rfl
  · unfold tripL_k0_t4 trip_k0_t4
    exact wide_fill (by norm_num) k.isLt hn (woff_3 i).2.1 (wofk_4 k).1 (wofk_4 k).2 _ _ _ _ _ (funext fun x => View.readAt_apply ..) (funext fun x => View.readAt_apply ..)
  · show _ < 32; omega
  · dsimp only; omega

theorem wofk_5 : ∀ k : Fin k0_t5_loop.trips, k0_off21 k = ![128 * 2 + 4 * k.val, 0, 0, 0] ∧ k0_off22 k = ![16 * (32 * 2 + k.val), 0, 0] := by decide +kernel

theorem wide_t5 (p0 : BitVec 32) (h : k0_cond1 i = 1#1) (v129 : IVec S8x1024 32) (X : BufTy.Contents (Elt Ideal) p5.view.ty) (Z : BufTy.Contents (Elt Ideal) p21.view.ty) {W : S2x120x8.Idx → EReal} (hW : p21.view.read (Elt Ideal) Z = W) (hn : (i 0).val < 15) :
    Fills (Val := Elt Ideal) (pb_k0_t5 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 h v129 X Z k0_t5_loop.trips) (fun y => (y 0).val / 512 = 2) (natW (p5.view.read (Elt Ideal) X) W 0 (i 0).val) := by
  subst hW
  refine Fills.mono (Fills.loop (T := k0_t5_loop.trips) _ _ (fun k y => (y 0).val / 16 = 32 * 2 + k) ?_ (fun k => pb_k0_t5_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 2, ?_, ?_⟩
  · rfl
  · unfold tripL_k0_t5 trip_k0_t5
    exact wide_fill (by norm_num) k.isLt hn (woff_3 i).2.2.1 (wofk_5 k).1 (wofk_5 k).2 _ _ _ _ _ (funext fun x => View.readAt_apply ..) (funext fun x => View.readAt_apply ..)
  · show _ < 32; omega
  · dsimp only; omega

theorem wofk_6 : ∀ k : Fin k0_t6_loop.trips, k0_off24 k = ![128 * 3 + 4 * k.val, 0, 0, 0] ∧ k0_off25 k = ![16 * (32 * 3 + k.val), 0, 0] := by decide +kernel

theorem wide_t6 (p0 : BitVec 32) (h : k0_cond1 i = 1#1) (v129 : IVec S8x1024 32) (X : BufTy.Contents (Elt Ideal) p5.view.ty) (Z : BufTy.Contents (Elt Ideal) p21.view.ty) {W : S2x120x8.Idx → EReal} (hW : p21.view.read (Elt Ideal) Z = W) (hn : (i 0).val < 15) :
    Fills (Val := Elt Ideal) (pb_k0_t6 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 h v129 X Z k0_t6_loop.trips) (fun y => (y 0).val / 512 = 3) (natW (p5.view.read (Elt Ideal) X) W 0 (i 0).val) := by
  subst hW
  refine Fills.mono (Fills.loop (T := k0_t6_loop.trips) _ _ (fun k y => (y 0).val / 16 = 32 * 3 + k) ?_ (fun k => pb_k0_t6_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 3, ?_, ?_⟩
  · rfl
  · unfold tripL_k0_t6 trip_k0_t6
    exact wide_fill (by norm_num) k.isLt hn (woff_3 i).2.2.2 (wofk_6 k).1 (wofk_6 k).2 _ _ _ _ _ (funext fun x => View.readAt_apply ..) (funext fun x => View.readAt_apply ..)
  · show _ < 32; omega
  · dsimp only; omega

theorem woff_10 : ∀ i : grid0.Coords, k0_off49 i = ![1, 8 * (i 0).val, 0] ∧ k0_off52 i = ![1, 8 * (i 0).val, 1] ∧ k0_off55 i = ![1, 8 * (i 0).val, 2] ∧ k0_off58 i = ![1, 8 * (i 0).val, 3] := by decide +kernel
theorem wofk_10 : ∀ k : Fin k0_t10_loop.trips, k0_off50 k = ![128 * 0 + 4 * k.val, 0, 0, 0] ∧ k0_off51 k = ![16 * (32 * 0 + k.val), 0, 0] := by decide +kernel

theorem wide_t10 (p0 : BitVec 32) (h : k0_cond1 i = 1#1) (v164 v165 : IVec S8x1024 32) (c4 : BitVec 32) (v167 v170 : IVec S8x1024 32) (v172 : IVec S8x1024 1) (X : BufTy.Contents (Elt Ideal) p7.view.ty) (Z : BufTy.Contents (Elt Ideal) p21.view.ty) {W : S2x120x8.Idx → EReal} (hW : p21.view.read (Elt Ideal) Z = W) (hn : (i 0).val < 15) :
    Fills (Val := Elt Ideal) (pb_k0_t10 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 h v164 v165 c4 v167 v170 v172 X Z k0_t10_loop.trips) (fun y => (y 0).val / 512 = 0) (natW (p7.view.read (Elt Ideal) X) W 1 (i 0).val) := by
  subst hW
  refine Fills.mono (Fills.loop (T := k0_t10_loop.trips) _ _ (fun k y => (y 0).val / 16 = 32 * 0 + k) ?_ (fun k => pb_k0_t10_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 0, ?_, ?_⟩
  · rfl
  · unfold tripL_k0_t10 trip_k0_t10
    exact wide_fill (by norm_num) k.isLt hn (woff_10 i).1 (wofk_10 k).1 (wofk_10 k).2 _ _ _ _ _ (funext fun x => View.readAt_apply ..) (funext fun x => View.readAt_apply ..)
  · show _ < 32; omega
  · dsimp only; omega

theorem wofk_11 : ∀ k : Fin k0_t11_loop.trips, k0_off53 k = ![128 * 1 + 4 * k.val, 0, 0, 0] ∧ k0_off54 k = ![16 * (32 * 1 + k.val), 0, 0] := by decide +kernel

theorem wide_t11 (p0 : BitVec 32) (h : k0_cond1 i = 1#1) (v164 v165 : IVec S8x1024 32) (c4 : BitVec 32) (v167 v170 : IVec S8x1024 32) (v172 : IVec S8x1024 1) (X : BufTy.Contents (Elt Ideal) p7.view.ty) (Z : BufTy.Contents (Elt Ideal) p21.view.ty) {W : S2x120x8.Idx → EReal} (hW : p21.view.read (Elt Ideal) Z = W) (hn : (i 0).val < 15) :
    Fills (Val := Elt Ideal) (pb_k0_t11 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 h v164 v165 c4 v167 v170 v172 X Z k0_t11_loop.trips) (fun y => (y 0).val / 512 = 1) (natW (p7.view.read (Elt Ideal) X) W 1 (i 0).val) := by
  subst hW
  refine Fills.mono (Fills.loop (T := k0_t11_loop.trips) _ _ (fun k y => (y 0).val / 16 = 32 * 1 + k) ?_ (fun k => pb_k0_t11_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 1, ?_, ?_⟩
  · rfl
  · unfold tripL_k0_t11 trip_k0_t11
    exact wide_fill (by norm_num) k.isLt hn (woff_10 i).2.1 (wofk_11 k).1 (wofk_11 k).2 _ _ _ _ _ (funext fun x => View.readAt_apply ..) (funext fun x => View.readAt_apply ..)
  · show _ < 32; omega
  · dsimp only; omega

theorem wofk_12 : ∀ k : Fin k0_t12_loop.trips, k0_off56 k = ![128 * 2 + 4 * k.val, 0, 0, 0] ∧ k0_off57 k = ![16 * (32 * 2 + k.val), 0, 0] := by decide +kernel

theorem wide_t12 (h : k0_cond1 i = 1#1) (v202 : BitVec 32) (X : BufTy.Contents (Elt Ideal) p7.view.ty) (Z : BufTy.Contents (Elt Ideal) p21.view.ty) {W : S2x120x8.Idx → EReal} (hW : p21.view.read (Elt Ideal) Z = W) (hn : (i 0).val < 15) :
    Fills (Val := Elt Ideal) (pb_k0_t12 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 h v202 X Z k0_t12_loop.trips) (fun y => (y 0).val / 512 = 2) (natW (p7.view.read (Elt Ideal) X) W 1 (i 0).val) := by
  subst hW
  refine Fills.mono (Fills.loop (T := k0_t12_loop.trips) _ _ (fun k y => (y 0).val / 16 = 32 * 2 + k) ?_ (fun k => pb_k0_t12_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 2, ?_, ?_⟩
  · rfl
  · unfold tripL_k0_t12 trip_k0_t12
    exact wide_fill (by norm_num) k.isLt hn (woff_10 i).2.2.1 (wofk_12 k).1 (wofk_12 k).2 _ _ _ _ _ (funext fun x => View.readAt_apply ..) (funext fun x => View.readAt_apply ..)
  · show _ < 32; omega
  · dsimp only; omega

theorem wofk_13 : ∀ k : Fin k0_t13_loop.trips, k0_off59 k = ![128 * 3 + 4 * k.val, 0, 0, 0] ∧ k0_off60 k = ![16 * (32 * 3 + k.val), 0, 0] := by decide +kernel

theorem wide_t13 (h : k0_cond1 i = 1#1) (v202 : BitVec 32) (X : BufTy.Contents (Elt Ideal) p7.view.ty) (Z : BufTy.Contents (Elt Ideal) p21.view.ty) {W : S2x120x8.Idx → EReal} (hW : p21.view.read (Elt Ideal) Z = W) (hn : (i 0).val < 15) :
    Fills (Val := Elt Ideal) (pb_k0_t13 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 h v202 X Z k0_t13_loop.trips) (fun y => (y 0).val / 512 = 3) (natW (p7.view.read (Elt Ideal) X) W 1 (i 0).val) := by
  subst hW
  refine Fills.mono (Fills.loop (T := k0_t13_loop.trips) _ _ (fun k y => (y 0).val / 16 = 32 * 3 + k) ?_ (fun k => pb_k0_t13_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 3, ?_, ?_⟩
  · rfl
  · unfold tripL_k0_t13 trip_k0_t13
    exact wide_fill (by norm_num) k.isLt hn (woff_10 i).2.2.2 (wofk_13 k).1 (wofk_13 k).2 _ _ _ _ _ (funext fun x => View.readAt_apply ..) (funext fun x => View.readAt_apply ..)
  · show _ < 32; omega
  · dsimp only; omega

theorem woff_17 : ∀ i : grid0.Coords, k0_off84 i = ![0, 8 * (i 0).val, 0] ∧ k0_off87 i = ![0, 8 * (i 0).val, 1] ∧ k0_off90 i = ![0, 8 * (i 0).val, 2] ∧ k0_off93 i = ![0, 8 * (i 0).val, 3] := by decide +kernel
theorem wofk_17 : ∀ k : Fin k0_t17_loop.trips, k0_off85 k = ![128 * 0 + 4 * k.val, 0, 0, 0] ∧ k0_off86 k = ![16 * (32 * 0 + k.val), 0, 0] := by decide +kernel

theorem wide_t17 (h : k0_cond2 i = 1#1) (v69 : BitVec 32) (X : BufTy.Contents (Elt Ideal) p5.view.ty) (Z : BufTy.Contents (Elt Ideal) p21.view.ty) {W : S2x120x8.Idx → EReal} (hW : p21.view.read (Elt Ideal) Z = W) (hn : (i 0).val < 15) :
    Fills (Val := Elt Ideal) (pb_k0_t17 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 h v69 X Z k0_t17_loop.trips) (fun y => (y 0).val / 512 = 0) (natW (p5.view.read (Elt Ideal) X) W 0 (i 0).val) := by
  subst hW
  refine Fills.mono (Fills.loop (T := k0_t17_loop.trips) _ _ (fun k y => (y 0).val / 16 = 32 * 0 + k) ?_ (fun k => pb_k0_t17_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 0, ?_, ?_⟩
  · rfl
  · unfold tripL_k0_t17 trip_k0_t17
    exact wide_fill (by norm_num) k.isLt hn (woff_17 i).1 (wofk_17 k).1 (wofk_17 k).2 _ _ _ _ _ (funext fun x => View.readAt_apply ..) (funext fun x => View.readAt_apply ..)
  · show _ < 32; omega
  · dsimp only; omega

theorem wofk_18 : ∀ k : Fin k0_t18_loop.trips, k0_off88 k = ![128 * 1 + 4 * k.val, 0, 0, 0] ∧ k0_off89 k = ![16 * (32 * 1 + k.val), 0, 0] := by decide +kernel

theorem wide_t18 (h : k0_cond2 i = 1#1) (v69 : BitVec 32) (X : BufTy.Contents (Elt Ideal) p5.view.ty) (Z : BufTy.Contents (Elt Ideal) p21.view.ty) {W : S2x120x8.Idx → EReal} (hW : p21.view.read (Elt Ideal) Z = W) (hn : (i 0).val < 15) :
    Fills (Val := Elt Ideal) (pb_k0_t18 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 h v69 X Z k0_t18_loop.trips) (fun y => (y 0).val / 512 = 1) (natW (p5.view.read (Elt Ideal) X) W 0 (i 0).val) := by
  subst hW
  refine Fills.mono (Fills.loop (T := k0_t18_loop.trips) _ _ (fun k y => (y 0).val / 16 = 32 * 1 + k) ?_ (fun k => pb_k0_t18_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 1, ?_, ?_⟩
  · rfl
  · unfold tripL_k0_t18 trip_k0_t18
    exact wide_fill (by norm_num) k.isLt hn (woff_17 i).2.1 (wofk_18 k).1 (wofk_18 k).2 _ _ _ _ _ (funext fun x => View.readAt_apply ..) (funext fun x => View.readAt_apply ..)
  · show _ < 32; omega
  · dsimp only; omega

theorem wofk_19 : ∀ k : Fin k0_t19_loop.trips, k0_off91 k = ![128 * 2 + 4 * k.val, 0, 0, 0] ∧ k0_off92 k = ![16 * (32 * 2 + k.val), 0, 0] := by decide +kernel

theorem wide_t19 (h : k0_cond2 i = 1#1) (v69 : BitVec 32) (X : BufTy.Contents (Elt Ideal) p5.view.ty) (Z : BufTy.Contents (Elt Ideal) p21.view.ty) {W : S2x120x8.Idx → EReal} (hW : p21.view.read (Elt Ideal) Z = W) (hn : (i 0).val < 15) :
    Fills (Val := Elt Ideal) (pb_k0_t19 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 h v69 X Z k0_t19_loop.trips) (fun y => (y 0).val / 512 = 2) (natW (p5.view.read (Elt Ideal) X) W 0 (i 0).val) := by
  subst hW
  refine Fills.mono (Fills.loop (T := k0_t19_loop.trips) _ _ (fun k y => (y 0).val / 16 = 32 * 2 + k) ?_ (fun k => pb_k0_t19_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 2, ?_, ?_⟩
  · rfl
  · unfold tripL_k0_t19 trip_k0_t19
    exact wide_fill (by norm_num) k.isLt hn (woff_17 i).2.2.1 (wofk_19 k).1 (wofk_19 k).2 _ _ _ _ _ (funext fun x => View.readAt_apply ..) (funext fun x => View.readAt_apply ..)
  · show _ < 32; omega
  · dsimp only; omega

theorem wofk_20 : ∀ k : Fin k0_t20_loop.trips, k0_off94 k = ![128 * 3 + 4 * k.val, 0, 0, 0] ∧ k0_off95 k = ![16 * (32 * 3 + k.val), 0, 0] := by decide +kernel

theorem wide_t20 (h : k0_cond2 i = 1#1) (v69 : BitVec 32) (X : BufTy.Contents (Elt Ideal) p5.view.ty) (Z : BufTy.Contents (Elt Ideal) p21.view.ty) {W : S2x120x8.Idx → EReal} (hW : p21.view.read (Elt Ideal) Z = W) (hn : (i 0).val < 15) :
    Fills (Val := Elt Ideal) (pb_k0_t20 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 h v69 X Z k0_t20_loop.trips) (fun y => (y 0).val / 512 = 3) (natW (p5.view.read (Elt Ideal) X) W 0 (i 0).val) := by
  subst hW
  refine Fills.mono (Fills.loop (T := k0_t20_loop.trips) _ _ (fun k y => (y 0).val / 16 = 32 * 3 + k) ?_ (fun k => pb_k0_t20_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 3, ?_, ?_⟩
  · rfl
  · unfold tripL_k0_t20 trip_k0_t20
    exact wide_fill (by norm_num) k.isLt hn (woff_17 i).2.2.2 (wofk_20 k).1 (wofk_20 k).2 _ _ _ _ _ (funext fun x => View.readAt_apply ..) (funext fun x => View.readAt_apply ..)
  · show _ < 32; omega
  · dsimp only; omega

theorem woff_24 : ∀ i : grid0.Coords, k0_off119 i = ![1, 8 * (i 0).val, 0] ∧ k0_off122 i = ![1, 8 * (i 0).val, 1] ∧ k0_off125 i = ![1, 8 * (i 0).val, 2] ∧ k0_off128 i = ![1, 8 * (i 0).val, 3] := by decide +kernel
theorem wofk_24 : ∀ k : Fin k0_t24_loop.trips, k0_off120 k = ![128 * 0 + 4 * k.val, 0, 0, 0] ∧ k0_off121 k = ![16 * (32 * 0 + k.val), 0, 0] := by decide +kernel

theorem wide_t24 (p0 : BitVec 32) (h : k0_cond2 i = 1#1) (v153 v154 : IVec S8x1024 32) (c4 : BitVec 32) (v156 v163 : IVec S8x1024 32) (X : BufTy.Contents (Elt Ideal) p7.view.ty) (Z : BufTy.Contents (Elt Ideal) p21.view.ty) {W : S2x120x8.Idx → EReal} (hW : p21.view.read (Elt Ideal) Z = W) (hn : (i 0).val < 15) :
    Fills (Val := Elt Ideal) (pb_k0_t24 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 h v153 v154 c4 v156 v163 X Z k0_t24_loop.trips) (fun y => (y 0).val / 512 = 0) (natW (p7.view.read (Elt Ideal) X) W 1 (i 0).val) := by
  subst hW
  refine Fills.mono (Fills.loop (T := k0_t24_loop.trips) _ _ (fun k y => (y 0).val / 16 = 32 * 0 + k) ?_ (fun k => pb_k0_t24_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 0, ?_, ?_⟩
  · rfl
  · unfold tripL_k0_t24 trip_k0_t24
    exact wide_fill (by norm_num) k.isLt hn (woff_24 i).1 (wofk_24 k).1 (wofk_24 k).2 _ _ _ _ _ (funext fun x => View.readAt_apply ..) (funext fun x => View.readAt_apply ..)
  · show _ < 32; omega
  · dsimp only; omega

theorem wofk_25 : ∀ k : Fin k0_t25_loop.trips, k0_off123 k = ![128 * 1 + 4 * k.val, 0, 0, 0] ∧ k0_off124 k = ![16 * (32 * 1 + k.val), 0, 0] := by decide +kernel

theorem wide_t25 (p0 : BitVec 32) (h : k0_cond2 i = 1#1) (v153 v154 : IVec S8x1024 32) (c4 : BitVec 32) (v156 v163 : IVec S8x1024 32) (X : BufTy.Contents (Elt Ideal) p7.view.ty) (Z : BufTy.Contents (Elt Ideal) p21.view.ty) {W : S2x120x8.Idx → EReal} (hW : p21.view.read (Elt Ideal) Z = W) (hn : (i 0).val < 15) :
    Fills (Val := Elt Ideal) (pb_k0_t25 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 p0 h v153 v154 c4 v156 v163 X Z k0_t25_loop.trips) (fun y => (y 0).val / 512 = 1) (natW (p7.view.read (Elt Ideal) X) W 1 (i 0).val) := by
  subst hW
  refine Fills.mono (Fills.loop (T := k0_t25_loop.trips) _ _ (fun k y => (y 0).val / 16 = 32 * 1 + k) ?_ (fun k => pb_k0_t25_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 1, ?_, ?_⟩
  · rfl
  · unfold tripL_k0_t25 trip_k0_t25
    exact wide_fill (by norm_num) k.isLt hn (woff_24 i).2.1 (wofk_25 k).1 (wofk_25 k).2 _ _ _ _ _ (funext fun x => View.readAt_apply ..) (funext fun x => View.readAt_apply ..)
  · show _ < 32; omega
  · dsimp only; omega

theorem wofk_26 : ∀ k : Fin k0_t26_loop.trips, k0_off126 k = ![128 * 2 + 4 * k.val, 0, 0, 0] ∧ k0_off127 k = ![16 * (32 * 2 + k.val), 0, 0] := by decide +kernel

theorem wide_t26 (h : k0_cond2 i = 1#1) (v191 c0 c32 : BitVec 32) (X : BufTy.Contents (Elt Ideal) p7.view.ty) (Z : BufTy.Contents (Elt Ideal) p21.view.ty) {W : S2x120x8.Idx → EReal} (hW : p21.view.read (Elt Ideal) Z = W) (hn : (i 0).val < 15) :
    Fills (Val := Elt Ideal) (pb_k0_t26 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 h v191 c0 c32 X Z k0_t26_loop.trips) (fun y => (y 0).val / 512 = 2) (natW (p7.view.read (Elt Ideal) X) W 1 (i 0).val) := by
  subst hW
  refine Fills.mono (Fills.loop (T := k0_t26_loop.trips) _ _ (fun k y => (y 0).val / 16 = 32 * 2 + k) ?_ (fun k => pb_k0_t26_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 2, ?_, ?_⟩
  · rfl
  · unfold tripL_k0_t26 trip_k0_t26
    exact wide_fill (by norm_num) k.isLt hn (woff_24 i).2.2.1 (wofk_26 k).1 (wofk_26 k).2 _ _ _ _ _ (funext fun x => View.readAt_apply ..) (funext fun x => View.readAt_apply ..)
  · show _ < 32; omega
  · dsimp only; omega

theorem wofk_27 : ∀ k : Fin k0_t27_loop.trips, k0_off129 k = ![128 * 3 + 4 * k.val, 0, 0, 0] ∧ k0_off130 k = ![16 * (32 * 3 + k.val), 0, 0] := by decide +kernel

theorem wide_t27 (h : k0_cond2 i = 1#1) (v191 c0 c32 : BitVec 32) (X : BufTy.Contents (Elt Ideal) p7.view.ty) (Z : BufTy.Contents (Elt Ideal) p21.view.ty) {W : S2x120x8.Idx → EReal} (hW : p21.view.read (Elt Ideal) Z = W) (hn : (i 0).val < 15) :
    Fills (Val := Elt Ideal) (pb_k0_t27 (F := Ideal) 𝒱 c bd i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 h v191 c0 c32 X Z k0_t27_loop.trips) (fun y => (y 0).val / 512 = 3) (natW (p7.view.read (Elt Ideal) X) W 1 (i 0).val) := by
  subst hW
  refine Fills.mono (Fills.loop (T := k0_t27_loop.trips) _ _ (fun k y => (y 0).val / 16 = 32 * 3 + k) ?_ (fun k => pb_k0_t27_succ 𝒱 c bd i _ _ _ _ _ _ _ _ _ _ _ _ _ _ _ _ _ _ _ _ _ _ _ _ _ _ _ _ _ _ _ _ _ _ _ _ _ _ _ _ _ _ _ _ _ _ _ _ _ _ _ _ _ _ _ _ _ _ X Z k) (fun k => ?_) _ le_rfl) fun y hy => ⟨(y 0).val / 16 - 32 * 3, ?_, ?_⟩
  · rfl
  · unfold tripL_k0_t27 trip_k0_t27
    exact wide_fill (by norm_num) k.isLt hn (woff_24 i).2.2.2 (wofk_27 k).1 (wofk_27 k).2 _ _ _ _ _ (funext fun x => View.readAt_apply ..) (funext fun x => View.readAt_apply ..)
  · show _ < 32; omega
  · dsimp only; omega

end Cert.KernelIdeal.Gen
end
-- ==== Proof.Ideal.Weights.lean ====
/- The weights of a tile in two words a row, and the running sum they are multiplied into. -/
module

public import proofs.«01_k».proof.Proof.Ideal.Widen
public import proofs.«01_k».proof.Proof.Ideal.BlocksB

@[expose] public section
set_option maxRecDepth 16384
noncomputable section
namespace Cert.KernelIdeal.Gen
open Idealize.ShloMosaic Idealize.ShloMosaic.TcCoe Idealize.SL.Sem Idealize.ShloMosaic.Tactic
open Cert.MlaQuant Cert.MlaFill

/-- The running sum and one more tile: rows times weights, over the columns of the tile. -/
def accG (S : S1024x512.Idx → EReal) (Y : S512x2x1024.Idx → EReal) (V : S256x2x1024.Idx → EReal) : S1024x512.Idx → EReal := fun y =>
  S y + ∑ j : Fin 1024, Y (ix3 ⟨(y 0).val / 2, by have h : (y 0).val < 1024 := (y 0).isLt; omega⟩ ⟨(y 0).val % 2, Nat.mod_lt _ (by norm_num)⟩ j)
    * V (ix3 ⟨(y 1).val / 2, by have h : (y 1).val < 512 := (y 1).isLt; omega⟩ ⟨(y 1).val % 2, Nat.mod_lt _ (by norm_num)⟩ j)

theorem pay141_apply (w x : Vec Ideal S256x2x1024 .bf16) (a : Vec Ideal S512x512 .f32) (r j : Fin 512) :
    k0_pay141 w x a (ix2 r j) = a (ix2 r j) + ∑ q : Fin 1024, x (ix3 ⟨r.val / 2, by omega⟩ ⟨r.val % 2, Nat.mod_lt _ (by norm_num)⟩ q) * w (ix3 ⟨j.val / 2, by omega⟩ ⟨j.val % 2, Nat.mod_lt _ (by norm_num)⟩ q) := by
  pointwise [k0_pay141, k0_pay140]
  refine congrArg (a (ix2 r j) + ·) (Finset.sum_congr rfl fun q _ => ?_)
  have e1 : (if r.val % 2 = 0 then x (ix3 ⟨r.val / 2, by omega⟩ 0 q) else x (ix3 ⟨r.val / 2, by omega⟩ 1 q)) = x (ix3 ⟨r.val / 2, by omega⟩ ⟨r.val % 2, Nat.mod_lt _ (by norm_num)⟩ q) := by
    rcases Nat.mod_two_eq_zero_or_one r.val with h | h
    · rw [if_pos h]; exact congrArg (fun z => x (ix3 _ z q)) (Fin.ext h.symm)
    · rw [if_neg (by omega)]; exact congrArg (fun z => x (ix3 _ z q)) (Fin.ext h.symm)
  have e2 : (if j.val % 2 = 0 then w (ix3 ⟨j.val / 2, by omega⟩ 0 q) else w (ix3 ⟨j.val / 2, by omega⟩ 1 q)) = w (ix3 ⟨j.val / 2, by omega⟩ ⟨j.val % 2, Nat.mod_lt _ (by norm_num)⟩ q) := by
    rcases Nat.mod_two_eq_zero_or_one j.val with h | h
    · rw [if_pos h]; exact congrArg (fun z => w (ix3 _ z q)) (Fin.ext h.symm)
    · rw [if_neg (by omega)]; exact congrArg (fun z => w (ix3 _ z q)) (Fin.ext h.symm)
  rw [e1, e2]

theorem pay92_apply (y : S1024x512.Idx) : k0_pay92 (F := Ideal) y = (0 : EReal) := by
  obtain ⟨r, j, rfl⟩ : ∃ (r : Fin 1024) (j : Fin 512), y = ix2 r j := ⟨y 0, y 1, by funext i; match i with | 0 => rfl | 1 => rfl⟩
  pointwise [k0_pay92]

theorem acc_fills (S : S1024x512.Idx → EReal) (Y : S512x2x1024.Idx → EReal) (w : Vec Ideal S256x2x1024 .bf16) (x1 x2 : Vec Ideal S256x2x1024 .bf16) (a1 a2 : Vec Ideal S512x512 .f32)
    (hx1 : ∀ (p : Fin 256) (s : Fin 2) (j : Fin 1024), x1 (ix3 p s j) = Y (ix3 ⟨0 + p.val, by omega⟩ s j)) (hx2 : ∀ (p : Fin 256) (s : Fin 2) (j : Fin 1024), x2 (ix3 p s j) = Y (ix3 ⟨256 + p.val, by omega⟩ s j))
    (ha1 : ∀ r j : Fin 512, a1 (ix2 r j) = S (ix2 ⟨0 + r.val, by omega⟩ j)) (ha2 : ∀ r j : Fin 512, a2 (ix2 r j) = S (ix2 ⟨512 + r.val, by omega⟩ j)) (i1 i2) :
    Fills (Val := Elt Ideal) (s := S1024x512) (e := .f32) [⟨Rect.unit ![512, 0] ![512, 512] i2, k0_pay141 w x2 a2⟩, ⟨Rect.unit ![0, 0] S512x512.size i1, k0_pay141 w x1 a1⟩] (fun _ => True) (accG S Y w) := by
  have key : ∀ (o : ℕ) (_ : o % 2 = 0) (ho : o + 512 ≤ 1024) (x : Vec Ideal S256x2x1024 .bf16) (a : Vec Ideal S512x512 .f32) (_ : ∀ (p : Fin 256) (s : Fin 2) (j : Fin 1024), x (ix3 p s j) = Y (ix3 ⟨o / 2 + p.val, by omega⟩ s j))
      (_ : ∀ r j : Fin 512, a (ix2 r j) = S (ix2 ⟨o + r.val, by omega⟩ j)) (z : S512x512.Idx) (y : S1024x512.Idx), (y 0).val = o + (z 0).val → (y 1).val = (z 1).val → k0_pay141 w x a z = accG S Y w y := by
    intro o he ho x a hx ha z y h0 h1
    obtain ⟨r, j, rfl⟩ : ∃ r j : Fin 512, z = ix2 r j := ⟨z 0, z 1, by funext i; match i with | 0 => rfl | 1 => rfl⟩
    change (y 0).val = o + r.val at h0
    change (y 1).val = j.val at h1
    rw [pay141_apply, ha]
    unfold accG
    have ey : y = ix2 ⟨o + r.val, by omega⟩ j := by
      funext i; match i with | 0 => exact Fin.ext h0 | 1 => exact Fin.ext h1
    refine congrArg₂ (· + ·) (congrArg S ey.symm) (Finset.sum_congr rfl fun q _ => ?_)
    rw [hx]
    refine congrArg₂ (· * ·) (congrArg Y ?_) (congrArg w ?_)
    · funext i; match i with | 0 => exact Fin.ext (by show o / 2 + r.val / 2 = (y 0).val / 2; omega) | 1 => exact Fin.ext (by show r.val % 2 = (y 0).val % 2; omega) | 2 => rfl
    · funext i; match i with | 0 => exact Fin.ext (by show j.val / 2 = (y 1).val / 2; omega) | 1 => exact Fin.ext (by show j.val % 2 = (y 1).val % 2; omega) | 2 => rfl
  refine Fills.cons (P := fun y => 512 ≤ (y 0).val) (P' := fun y => (y 0).val < 512) i2 _ (fun z y h => key 512 rfl le_rfl x2 a2 hx2 ha2 z y (h 0) ((h 1).trans (Nat.zero_add _))) (fun y hy a => ?_)
    (Fills.unit i1 _ (fun z y h => key 0 rfl (by norm_num) x1 a1 hx1 ha1 z y (h 0) ((h 1).trans (Nat.zero_add _))) fun y hy a => ?_) fun y _ => (by dsimp only; omega)
  · have h0 : (y 0).val < 1024 := (y 0).isLt
    have h1 : (y 1).val < 512 := (y 1).isLt
    match a with
    | 0 => exact ⟨hy, h0⟩
    | 1 => exact ⟨Nat.zero_le _, by show (y 1).val < 0 + 512; omega⟩
  · have h1 : (y 1).val < 512 := (y 1).isLt
    match a with
    | 0 => exact ⟨Nat.zero_le _, by show (y 0).val < 0 + 512; exact (Nat.zero_add 512).symm ▸ hy⟩
    | 1 => exact ⟨Nat.zero_le _, by show (y 1).val < 0 + 512; omega⟩

/-- A block of the running sum. -/
theorem at_block {off : ℕ} (S : S1024x512.Idx → EReal) (ib : ∀ a, (![off, 0] : Fin 2 → ℕ) a + S512x512.size a ≤ S1024x512.size a) (r j : Fin 512) (hr : off + r.val < 1024) :
    S ((Rect.unit (s := S1024x512) ![off, 0] S512x512.size ib).toLoadRect.idx (ix2 r j)) = S (ix2 ⟨off + r.val, hr⟩ j) := by
  refine congrArg S (funext fun a => Fin.ext ?_)
  match a with
  | 0 => show off + 1 * r.val = off + r.val; omega
  | 1 => show 0 + 1 * j.val = j.val; omega

theorem at_rows {off : ℕ} (Y : S512x2x1024.Idx → EReal) (ib : ∀ a, (![off, 0, 0] : Fin 3 → ℕ) a + S256x2x1024.size a ≤ S512x2x1024.size a) (p : Fin 256) (s : Fin 2) (j : Fin 1024) (hp : off + p.val < 512) :
    Y ((Rect.unit (s := S512x2x1024) ![off, 0, 0] S256x2x1024.size ib).toLoadRect.idx (ix3 p s j)) = Y (ix3 ⟨off + p.val, hp⟩ s j) := by
  refine congrArg Y (funext fun a => Fin.ext ?_)
  match a with
  | 0 => show off + 1 * p.val = off + p.val; omega
  | 1 => show 0 + 1 * s.val = s.val; omega
  | 2 => show 0 + 1 * j.val = j.val; omega

theorem cov_rows {sp : Space} (v : View sig .tc sp S512x2x1024 .bf16) {L : List (View.Piece (Elt Ideal) S512x2x1024 .bf16)} {Y : S512x2x1024.Idx → EReal} (h : Fills (Val := Elt Ideal) L (fun _ => True) Y)
    (L' : List (View.Piece (Elt Ideal) S512x2x1024 .bf16)) {off : ℕ} (ib) (p : Fin 256) (s : Fin 2) (j : Fin 1024) (hp : off + p.val < 512) :
    v.readCov (L ++ L') (Rect.unit (s := S512x2x1024) ![off, 0, 0] S256x2x1024.size ib).toLoadRect (ix3 p s j) = Y (ix3 ⟨off + p.val, hp⟩ s j) := by
  rw [View.readCov_eq_canon', h.canonAll L']
  exact at_rows Y ib p s j hp

theorem cov_block {sp : Space} (v : View sig .tc sp S1024x512 .f32) {L : List (View.Piece (Elt Ideal) S1024x512 .f32)} {S : S1024x512.Idx → EReal} (h : View.canon L = S)
    {off : ℕ} (ib) (r j : Fin 512) (hr : off + r.val < 1024) :
    v.readCov L (Rect.unit (s := S1024x512) ![off, 0] S512x512.size ib).toLoadRect (ix2 r j) = S (ix2 ⟨off + r.val, hr⟩ j) := by
  rw [View.readCov_eq_canon', h]
  exact at_block S ib r j hr

/-- The lower block is read past a piece that fills the upper one. -/
theorem cov_below {sp : Space} (v : View sig .tc sp S1024x512 .f32) {L : List (View.Piece (Elt Ideal) S1024x512 .f32)} {S : S1024x512.Idx → EReal} (h : View.canon L = S) (i0) (w)
    (ib) (r j : Fin 512) :
    v.readCov (⟨Rect.unit ![0, 0] S512x512.size i0, w⟩ :: L) (Rect.unit (s := S1024x512) ![512, 0] S512x512.size ib).toLoadRect (ix2 r j) = S (ix2 ⟨512 + r.val, by omega⟩ j) := by
  rw [View.readCov_eq_canon', ← h]
  refine (at_block _ ib r j (by omega)).trans (View.canon_cons_of_not_mem _ _ fun hm => ?_)
  change _ ∈ (Rect.unit (s := S1024x512) ![0, 0] S512x512.size i0).set at hm
  rw [Rect.mem_set_unit] at hm
  have h0 := (hm 0).2
  change 512 + r.val < 0 + 512 at h0
  omega

theorem natW_of {L : List (View.Piece (Elt Ideal) S2048x2x128 .bf16)} {P : S2048x2x128.Idx → Prop} {C C' : S512x1x8x128.Idx → EReal} {W : S2x120x8.Idx → EReal} {w : Fin 2} {n : ℕ} (e : C = C')
    (h : Fills (Val := Elt Ideal) L P (natW C W w n)) : Fills (Val := Elt Ideal) L P (natW C' W w n) := e ▸ h

theorem of_words {sp sq : Space} {v : View sig .tc sp S2048x2x128 .bf16} {u : View sig .tc sq S256x2x1024 .bf16} {f : v.ty.Contents (Elt Ideal)} {L : List (View.Piece (Elt Ideal) S2048x2x128 .bf16)} {M : List (View.Piece (Elt Ideal) S256x2x1024 .bf16)}
    {Y : S2048x2x128.Idx → EReal} (q : v.read (Elt Ideal) (v.writes (Elt Ideal) f L) = Y) (h : Fills (Val := Elt Ideal) M (fun _ => True) (htcW (v.read (Elt Ideal) (v.writes (Elt Ideal) f L)))) :
    Fills (Val := Elt Ideal) M (fun _ => True) (htcW Y) := by
  rw [q] at h; exact h

theorem words_cov {sq : Space} (u : View sig .tc sq S256x2x1024 .bf16) {M : List (View.Piece (Elt Ideal) S256x2x1024 .bf16)} {Z : S256x2x1024.Idx → EReal} (h : Fills (Val := Elt Ideal) M (fun _ => True) Z) (M' : List (View.Piece (Elt Ideal) S256x2x1024 .bf16)) (ib) :
    u.readCov (M ++ M') (Rect.unit (s := S256x2x1024) ![0, 0, 0] S256x2x1024.size ib).toLoadRect = Z := by
  rw [View.readCov_eq_canon', h.canonAll M']
  exact funext fun y => congrArg Z (whole_idx _ y)

/-- The scales of the two weights, four groups of 120 heads each, laid side by side. -/
def wstG (x5 x7 : S4x120.Idx → EReal) : S2x120x8.Idx → EReal := fun y =>
  if h : (y 2).val < 4 then (if (y 0).val = 0 then x5 else x7) (ix2 ⟨(y 2).val, h⟩ (y 1)) else 0

theorem pay90_apply (w : Vec Ideal S4x120 .f32) (n : Fin 120) (g : Fin 8) : k0_pay90 w (ix3 0 n g) = if h : g.val < 4 then w (ix2 ⟨g.val, h⟩ n) else 0 := by
  pointwise [k0_pay90, k0_pay89]

theorem pay91_apply (w : Vec Ideal S4x120 .f32) (n : Fin 120) (g : Fin 8) : k0_pay91 k0_pay89 w (ix3 0 n g) = if h : g.val < 4 then w (ix2 ⟨g.val, h⟩ n) else 0 := by
  pointwise [k0_pay91, k0_pay89]

theorem wst_fills (x5 x7 : Vec Ideal S4x120 .f32) (i0 i1) :
    Fills (Val := Elt Ideal) (s := S2x120x8) (e := .f32) [⟨Rect.unit ![1, 0, 0] S1x120x8.size i1, k0_pay91 k0_pay89 x7⟩, ⟨Rect.unit ![0, 0, 0] S1x120x8.size i0, k0_pay90 x5⟩] (fun _ => True) (wstG x5 x7) := by
  refine Fills.cons (P := fun y => (y 0).val = 1) (P' := fun y => (y 0).val = 0) i1 _ (fun z y h => ?_) (fun y hy a => ?_)
    (Fills.unit i0 _ (fun z y h => ?_) fun y hy a => ?_) fun y _ => ?_
  · obtain ⟨n, g, rfl⟩ : ∃ (n : Fin 120) (g : Fin 8), z = ix3 0 n g := ⟨z 1, z 2, by funext i; match i with | 0 => exact Subsingleton.elim (α := Fin 1) _ _ | 1 => rfl | 2 => rfl⟩
    have e : y = ix3 1 n g := by
      funext a; match a with | 0 => exact Fin.ext (h 0) | 1 => exact Fin.ext ((h 1).trans (Nat.zero_add _)) | 2 => exact Fin.ext ((h 2).trans (Nat.zero_add _))
    rw [e, pay91_apply]
    rfl
  · have h1 : (y 1).val < 120 := (y 1).isLt
    have h2 : (y 2).val < 8 := (y 2).isLt
    match a with
    | 0 => exact ⟨hy.ge, by show (y 0).val < 1 + 1; omega⟩
    | 1 => exact ⟨Nat.zero_le _, by show (y 1).val < 0 + 120; omega⟩
    | 2 => exact ⟨Nat.zero_le _, by show (y 2).val < 0 + 8; omega⟩
  · obtain ⟨n, g, rfl⟩ : ∃ (n : Fin 120) (g : Fin 8), z = ix3 0 n g := ⟨z 1, z 2, by funext i; match i with | 0 => exact Subsingleton.elim (α := Fin 1) _ _ | 1 => rfl | 2 => rfl⟩
    have e : y = ix3 0 n g := by
      funext a; match a with | 0 => exact Fin.ext (h 0) | 1 => exact Fin.ext ((h 1).trans (Nat.zero_add _)) | 2 => exact Fin.ext ((h 2).trans (Nat.zero_add _))
    rw [e, pay90_apply]
    rfl
  · have h1 : (y 1).val < 120 := (y 1).isLt
    have h2 : (y 2).val < 8 := (y 2).isLt
    match a with
    | 0 => exact ⟨Nat.zero_le _, by show (y 0).val < 0 + 1; omega⟩
    | 1 => exact ⟨Nat.zero_le _, by show (y 1).val < 0 + 120; omega⟩
    | 2 => exact ⟨Nat.zero_le _, by show (y 2).val < 0 + 8; omega⟩
  · have h0 : (y 0).val < 2 := (y 0).isLt
    dsimp only; omega

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : cond0_0 i) (hc1 : ¬cond0_1 i) (hc2 : ¬cond0_2 i)
    (x0 : Vec Ideal S1024x1x8x128 .bf16) (x1 : Vec Ideal S1024x1x8x128 .bf16) (x2 : Vec Ideal S1024x512 .fp8e4m3) (x3 : Vec Ideal S4x1024 .f32) (x4 : Vec Ideal S512x1x8x128 .fp8e4m3) (x5 : Vec Ideal S4x120 .f32) (x6 : Vec Ideal S512x1x8x128 .fp8e4m3) (x7 : Vec Ideal S4x120 .f32) (x8 : Vec Ideal S1024x512 .bf16) (x9 : Vec Ideal S1x512 .f32)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9

theorem wst_A : Fills (Val := Elt Ideal) (kernelRun0_A.sl.HS2_2 (F := Ideal) c p6 q6 p8 q8 x5 x7) (fun _ => True) (wstG x5 x7) := by
  have e5 : View.readAt (Elt Ideal) p6.view (Rect.unit (s := S4x120) ![0, 0] S4x120.size (by decide)).toLoadRect (q6.unread x5) = x5 := by
    funext y
    rw [View.readAt_apply, q6.read_unread]
    refine congrArg x5 (funext fun a => Fin.ext ?_)
    match a with
    | 0 => show 0 + 1 * (y 0).val = (y 0).val; omega
    | 1 => show 0 + 1 * (y 1).val = (y 1).val; omega
  have e7 : View.readAt (Elt Ideal) p8.view (Rect.unit (s := S4x120) ![0, 0] S4x120.size (by decide)).toLoadRect (q8.unread x7) = x7 := by
    funext y
    rw [View.readAt_apply, q8.read_unread]
    refine congrArg x7 (funext fun a => Fin.ext ?_)
    match a with
    | 0 => show 0 + 1 * (y 0).val = (y 0).val; omega
    | 1 => show 0 + 1 * (y 1).val = (y 1).val; omega
  have h := wst_fills x5 x7 (by decide) (by decide)
  rw [← e5, ← e7] at h
  rw [e5, e7] at h
  unfold kernelRun0_A.sl.HS2_2
  rw [e5, e7]
  exact h

theorem wst_A_read : p21.view.read (Elt Ideal) (p21.view.writes (Elt Ideal) p21.view.junk (kernelRun0_A.sl.HS2_2 (F := Ideal) c p6 q6 p8 q8 x5 x7)) = wstG x5 x7 := by
  have e := (wst_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).readAll p21.view p21.view.junk []
  rw [List.append_nil] at e
  exact e

theorem wst_A_left : sout0_A_2 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 = wstG x5 x7 := by
  unfold sout0_A_2
  have e := (wst_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9).readAll VS0_2 VS0_2.junk []
  rw [List.append_nil] at e
  exact e

set_option maxHeartbeats 2000000 in
theorem kwords_A (hn : (i 0).val < 15) : kernelRun0_A.sl.v208_raw (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 x0 x4 x5 x7 = htcW (natW x4 (wstG x5 x7) 0 (i 0).val) := by
  have hr := q5.read_unread x4
  have hW := wst_A_read c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9
  have w3 := wide_t3 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc0 (kernelRun0_A.sl.r_2 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 x0) (q5.unread x4) _ hW hn
  have w4 := wide_t4 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc0 (kernelRun0_A.sl.r_2 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 x0) (q5.unread x4) _ hW hn
  have w5 := wide_t5 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc0 (kernelRun0_A.sl.r_2 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 x0) (q5.unread x4) _ hW hn
  have w6 := wide_t6 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc0 (kernelRun0_A.sl.r_2 c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 x0) (q5.unread x4) _ hW hn
  rw [hr] at w3 w4 w5 w6
  unfold kernelRun0_A.sl.v208_raw
  exact words_cov p26.view (of_words (u := p26.view) (wide_all w6 w5 w4 w3 p23.view p23.view.junk _) (by apply htcs_t7)) _ _

set_option maxHeartbeats 2000000 in
theorem vwords_A_left (hn : (i 0).val < 15) : sout0_A_8 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 = htcW (natW x6 (wstG x5 x7) 1 (i 0).val) := by
  have hr := q7.read_unread x6
  have hW := wst_A_read c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9
  unfold sout0_A_8 kernelRun0_A
  dsimp only
  refine Fills.readAll ?_ VS0_8 VS0_8.junk _
  refine of_words (u := p27.view) (wide_all ?_ ?_ ?_ ?_ p23.view p23.view.junk _) (by apply htcs_t14)
  · refine natW_of hr ?_; apply wide_t13 (hW := hW) (hn := hn)
  · refine natW_of hr ?_; apply wide_t12 (hW := hW) (hn := hn)
  · refine natW_of hr ?_; apply wide_t11 (hW := hW) (hn := hn)
  · refine natW_of hr ?_; apply wide_t10 (hW := hW) (hn := hn)

set_option maxHeartbeats 4000000 in
theorem sum_A_left (hn : (i 0).val < 15) (hG : ∀ t h, Good (tokRow x0 t h)) : sout0_A_0 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 = accG (fun _ => 0) (htcX (natG x0)) (htcW (natW x4 (wstG x5 x7) 0 (i 0).val)) := by
  have hr := q1.read_unread x0
  have h := quantised_t1 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 k0_pay96 k0_pay97 (q1.unread x0) k0_pay101 rfl (by rw [hr]; exact hG)
  rw [hr] at h
  have hz : View.canon (kernelRun0_A.sl.HS0_1 (F := Ideal)) = fun _ : S1024x512.Idx => (0 : EReal) := by
    unfold kernelRun0_A.sl.HS0_1
    rw [View.canon_unit_zero hz2]
    funext y
    exact pay92_apply y
  unfold sout0_A_0 kernelRun0_A
  dsimp only
  unfold kernelRun0_A.sl.v220
  unfold kernelRun0_A.sl.HS0_2
  rw [kwords_A c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 hn]
  refine Fills.readAll (L := [_, _]) ?_ VS0_0 VS0_0.junk _
  refine acc_fills (fun _ => 0) (htcX (natG x0)) (htcW (natW x4 (wstG x5 x7) 0 (i 0).val)) _ _ _ _ ?_ ?_ ?_ ?_ _ _
  · intro p s j
    unfold kernelRun0_A.sl.v210_raw
    exact cov_rows _ (Y := htcX (natG x0)) (of_rows h.2.2 (by apply htcs_t2)) _ _ p s j (by omega)
  · intro p s j
    unfold kernelRun0_A.sl.v218_raw
    exact cov_rows _ (Y := htcX (natG x0)) (of_rows h.2.2 (by apply htcs_t2)) _ _ p s j (by omega)
  · intro r j
    unfold kernelRun0_A.sl.v212
    exact cov_block _ hz _ r j (by omega)
  · intro r j
    exact cov_below _ hz _ _ _ r j
end

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : ¬cond0_0 i) (hc1 : cond0_1 i) (hc2 : ¬cond0_2 i)
    (x0 : Vec Ideal S1024x1x8x128 .bf16) (x1 : Vec Ideal S1024x1x8x128 .bf16) (x2 : Vec Ideal S1024x512 .fp8e4m3) (x3 : Vec Ideal S4x1024 .f32) (x4 : Vec Ideal S512x1x8x128 .fp8e4m3) (x5 : Vec Ideal S4x120 .f32) (x6 : Vec Ideal S512x1x8x128 .fp8e4m3) (x7 : Vec Ideal S4x120 .f32) (x8 : Vec Ideal S1024x512 .bf16) (x9 : Vec Ideal S1x512 .f32) (xs0 : Vec Ideal S1024x512 .f32) (xs1 : Vec Ideal S256x2x1024 .bf16) (xs2 : Vec Ideal S2x120x8 .f32) (xs6 : Vec Ideal S512x2x1024 .bf16) (xs8 : Vec Ideal S256x2x1024 .bf16)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8

set_option maxHeartbeats 2000000 in
theorem kwords_B (hn : (i 0).val < 15) : kernelRun0_B.sl.v197_raw (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc1 x4 xs2 = htcW (natW x4 xs2 0 (i 0).val) := by
  have hr := q5.read_unread x4
  have hW := q21.read_unread xs2
  unfold kernelRun0_B.sl.v197_raw
  refine words_cov p26.view (of_words (u := p26.view) (wide_all ?_ ?_ ?_ ?_ p23.view p23.view.junk _) (by apply htcs_t21)) _ _
  · refine natW_of hr ?_; apply wide_t20 (hW := hW) (hn := hn)
  · refine natW_of hr ?_; apply wide_t19 (hW := hW) (hn := hn)
  · refine natW_of hr ?_; apply wide_t18 (hW := hW) (hn := hn)
  · refine natW_of hr ?_; apply wide_t17 (hW := hW) (hn := hn)

set_option maxHeartbeats 2000000 in
theorem vwords_B_left (hn : (i 0).val < 15) : sout0_B_8 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 = htcW (natW x6 xs2 1 (i 0).val) := by
  have hr := q7.read_unread x6
  have hW := q21.read_unread xs2
  unfold sout0_B_8 kernelRun0_B
  dsimp only
  refine Fills.readAll ?_ VS0_8 VS0_8.junk _
  refine of_words (u := p27.view) (wide_all ?_ ?_ ?_ ?_ p23.view p23.view.junk _) (by apply htcs_t28)
  · refine natW_of hr ?_; apply wide_t27 (hW := hW) (hn := hn)
  · refine natW_of hr ?_; apply wide_t26 (hW := hW) (hn := hn)
  · refine natW_of hr ?_; apply wide_t25 (hW := hW) (hn := hn)
  · refine natW_of hr ?_; apply wide_t24 (hW := hW) (hn := hn)

theorem sumv_B : Fills (Val := Elt Ideal) (kernelRun0_B.sl.HS0_2 (F := Ideal) c p19 q19 p25 q25 p27 q27 xs0 xs6 xs8) (fun _ => True) (accG xs0 xs6 xs8) := by
  have e8 : View.readAt (Elt Ideal) p27.view (Rect.unit (s := S256x2x1024) ![0, 0, 0] S256x2x1024.size (by decide)).toLoadRect (q27.unread xs8) = xs8 := by
    funext y
    rw [View.readAt_apply, q27.read_unread]
    exact congrArg xs8 (whole_idx _ y)
  unfold kernelRun0_B.sl.HS0_2
  unfold kernelRun0_B.sl.r kernelRun0_B.sl.r_1 kernelRun0_B.sl.v87
  refine Eq.mp (congrArg (Fills (Val := Elt Ideal) _ _) (congrArg (accG xs0 xs6) e8)) (acc_fills xs0 xs6 _ _ _ _ _ ?_ ?_ ?_ ?_ _ _)
  · intro p s j
    rw [View.readAt_apply, q25.read_unread]
    exact at_rows xs6 _ p s j (by omega)
  · intro p s j
    rw [View.readAt_apply, q25.read_unread]
    exact at_rows xs6 _ p s j (by omega)
  · intro r j
    rw [View.readAt_apply, q19.read_unread]
    exact at_block xs0 _ r j (by omega)
  · intro r j
    rw [View.readAt_apply, q19.read_unread]
    exact at_block xs0 _ r j (by omega)

set_option maxHeartbeats 4000000 in
theorem sum_B_left (hn : (i 0).val < 15) (hG : ∀ t h, Good (tokRow x0 t h)) : sout0_B_0 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 = accG (accG xs0 xs6 xs8) (htcX (natG x0)) (htcW (natW x4 xs2 0 (i 0).val)) := by
  have hr := q1.read_unread x0
  have h := quantised_t15 Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 (BitVec.ofNat 32 (i 0).val) hc1 (q1.unread x0) k0_pay222 rfl (by rw [hr]; exact hG)
  rw [hr] at h
  have hz : View.canon (kernelRun0_B.sl.HS0_2 (F := Ideal) c p19 q19 p25 q25 p27 q27 xs0 xs6 xs8) = accG xs0 xs6 xs8 := by
    have e := (sumv_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8).canonAll []
    rw [List.append_nil] at e
    exact e
  unfold sout0_B_0 kernelRun0_B
  dsimp only
  unfold kernelRun0_B.sl.v209
  unfold kernelRun0_B.sl.HS0_3
  rw [kwords_B c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xs0 xs1 xs2 xs6 xs8 hn]
  refine Fills.readAll (L := [_, _]) ?_ VS0_0 VS0_0.junk _
  refine acc_fills (accG xs0 xs6 xs8) (htcX (natG x0)) (htcW (natW x4 xs2 0 (i 0).val)) _ _ _ _ ?_ ?_ ?_ ?_ _ _
  · intro p s j
    unfold kernelRun0_B.sl.v199_raw
    exact cov_rows _ (Y := htcX (natG x0)) (of_rows h.2.2 (by apply htcs_t16)) _ _ p s j (by omega)
  · intro p s j
    unfold kernelRun0_B.sl.v207_raw
    exact cov_rows _ (Y := htcX (natG x0)) (of_rows h.2.2 (by apply htcs_t16)) _ _ p s j (by omega)
  · intro r j
    unfold kernelRun0_B.sl.v201
    exact cov_block _ hz _ r j (by omega)
  · intro r j
    exact cov_below _ hz _ _ _ r j
end

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : ¬cond0_0 i) (hc1 : ¬cond0_1 i) (hc2 : cond0_2 i)
    (x0 : Vec Ideal S1024x1x8x128 .bf16) (x1 : Vec Ideal S1024x1x8x128 .bf16) (x2 : Vec Ideal S1024x512 .fp8e4m3) (x3 : Vec Ideal S4x1024 .f32) (x4 : Vec Ideal S512x1x8x128 .fp8e4m3) (x5 : Vec Ideal S4x120 .f32) (x6 : Vec Ideal S512x1x8x128 .fp8e4m3) (x7 : Vec Ideal S4x120 .f32) (x8 : Vec Ideal S1024x512 .bf16) (x9 : Vec Ideal S1x512 .f32) (xo12 : Vec Ideal S512x1x8x128 .f32) (xo14 : Vec Ideal S1024x1x8x128 .fp8e5m2) (xo15 : Vec Ideal S8x1024 .f32) (xo16 : Vec Ideal S1024x1x8x128 .fp8e5m2) (xo17 : Vec Ideal S8x1024 .f32) (xs0 : Vec Ideal S1024x512 .f32) (xs1 : Vec Ideal S256x2x1024 .bf16) (xs2 : Vec Ideal S2x120x8 .f32) (xs6 : Vec Ideal S512x2x1024 .bf16) (xs8 : Vec Ideal S256x2x1024 .bf16)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8

theorem sumv_C : Fills (Val := Elt Ideal) (kernelRun0_C.sl.HS0_2 (F := Ideal) c p19 q19 p25 q25 p27 q27 xs0 xs6 xs8) (fun _ => True) (accG xs0 xs6 xs8) := by
  have e8 : View.readAt (Elt Ideal) p27.view (Rect.unit (s := S256x2x1024) ![0, 0, 0] S256x2x1024.size (by decide)).toLoadRect (q27.unread xs8) = xs8 := by
    funext y
    rw [View.readAt_apply, q27.read_unread]
    exact congrArg xs8 (whole_idx _ y)
  unfold kernelRun0_C.sl.HS0_2
  unfold kernelRun0_C.sl.v23
  refine Eq.mp (congrArg (Fills (Val := Elt Ideal) _ _) (congrArg (accG xs0 xs6) e8)) (acc_fills xs0 xs6 _ _ _ _ _ ?_ ?_ ?_ ?_ _ _)
  · intro p s j
    rw [View.readAt_apply, q25.read_unread]
    exact at_rows xs6 _ p s j (by omega)
  · intro p s j
    rw [View.readAt_apply, q25.read_unread]
    exact at_rows xs6 _ p s j (by omega)
  · intro r j
    rw [View.readAt_apply, q19.read_unread]
    exact at_block xs0 _ r j (by omega)
  · intro r j
    rw [View.readAt_apply, q19.read_unread]
    exact at_block xs0 _ r j (by omega)

end

end Cert.KernelIdeal.Gen
end
-- ==== Proof.Norms.lean ====
/- The root-mean-square normalisation of a row and its gradient. -/
module

public import proofs.«01_k».proof.Proof.RefDw

@[expose] public section
noncomputable section

namespace Cert.MlaQuant
open Idealize.ShloMosaic

/-- The root mean square of a row. -/
def rmsOf (f : Fin 512 → EReal) : EReal :=
  Ideal.sqrt (Ideal.div (∑ j : Fin 512, f j * f j) (Ideal.ofBits FTy.f32 1140850688#32) + Ideal.ofBits FTy.f32 897988541#32)

/-- A row over its root mean square. -/
def normOf (f : Fin 512 → EReal) (j : Fin 512) : EReal := Ideal.div (f j) (rmsOf f)

/-- The gradient of a row through the normalisation, from the gradient `u` of the normalised row. -/
def backOf (f u : Fin 512 → EReal) (j : Fin 512) : EReal :=
  Ideal.div (u j - normOf f j * Ideal.div (∑ q : Fin 512, u q * normOf f q) (Ideal.ofBits FTy.f32 1140850688#32)) (rmsOf f)

end Cert.MlaQuant
end
-- ==== Proof.Ideal.Norm.lean ====
/- The last point: the gradient of the raw latents and of the gain from the running sum, sixteen rows a trip. -/
module

public import proofs.«01_k».proof.Proof.Ideal.Weights
public import proofs.«01_k».proof.Proof.Norms

@[expose] public section
set_option maxRecDepth 16384
noncomputable section
namespace Cert.KernelIdeal.Gen
open Idealize.ShloMosaic Idealize.ShloMosaic.TcCoe Idealize.SL.Sem Idealize.ShloMosaic.Tactic
open Cert.MlaQuant Cert.MlaFill

/-- The gradient of the raw latents from the running sum. -/
def dcG (A : S1024x512.Idx → EReal) (g : S1x512.Idx → EReal) (D : S1024x512.Idx → EReal) : S1024x512.Idx → EReal := fun y =>
  backOf (fun q => A (ix2 (y 0) q)) (fun q => D (ix2 (y 0) q) * g (ix2 0 q)) (y 1)

/-- The gradient of the gain from the running sum. -/
def dgG (A : S1024x512.Idx → EReal) (D : S1024x512.Idx → EReal) : S1x512.Idx → EReal := fun y =>
  ∑ t : Fin 1024, D (ix2 t (y 1)) * normOf (fun q => A (ix2 t q)) (y 1)

theorem pay13_apply (A : Vec Ideal S16x512 .bf16) (r : Fin 16) : k0_pay13 A (ix2 r 0) = rmsOf fun q => A (ix2 r q) := by
  pointwise [k0_pay13, k0_pay12]
  rfl

theorem pay14_apply (A : Vec Ideal S16x512 .bf16) (r : Fin 16) (j : Fin 512) : k0_pay14 A (ix2 r j) = normOf (fun q => A (ix2 r q)) j := by
  pointwise [k0_pay14, k0_pay12]
  rw [pay13_apply]
  rfl

theorem pay15_apply (g : Vec Ideal S1x512 .f32) (D : Vec Ideal S16x512 .f32) (A : Vec Ideal S16x512 .bf16) (r : Fin 16) (j : Fin 512) :
    k0_pay15 g D A (ix2 r j) = backOf (fun q => A (ix2 r q)) (fun q => D (ix2 r q) * g (ix2 0 q)) j := by
  pointwise [k0_pay15]
  simp only [pay13_apply, pay14_apply]
  rfl

theorem pay16_apply (a : FVec Ideal S8x512 .f32) (D : Vec Ideal S16x512 .f32) (A : Vec Ideal S16x512 .bf16) (r : Fin 8) (j : Fin 512) :
    k0_pay16 a D A (ix2 r j) = a (ix2 r j) + D (ix2 ⟨r.val, by omega⟩ j) * normOf (fun q => A (ix2 ⟨r.val, by omega⟩ q)) j
      + D (ix2 ⟨8 + r.val, by omega⟩ j) * normOf (fun q => A (ix2 ⟨8 + r.val, by omega⟩ q)) j := by
  pointwise [k0_pay16]
  simp only [pay14_apply]

theorem pay17_apply (a : FVec Ideal S8x512 .f32) (j : Fin 512) : k0_pay17 a (ix2 0 j) = ∑ r : Fin 8, a (ix2 r j) := by
  pointwise [k0_pay17]

theorem pay11_apply (r : Fin 8) (j : Fin 512) : k0_pay11 (F := Ideal) (ix2 r j) = 0 := by
  pointwise [k0_pay11]

theorem off29 : ∀ k : Fin k0_t29_loop.trips, k0_off141 k = ![16 * k.val, 0] := by decide +kernel

theorem at_sixteen {α : Type} {off : Fin 2 → ℕ} (X : S1024x512.Idx → α) (ib) (n : ℕ) (hn : n < 64) (ho : off = ![16 * n, 0]) (r : Fin 16) (j : Fin 512) :
    X ((Rect.unit (s := S1024x512) off S16x512.size ib).toLoadRect.idx (ix2 r j)) = X (ix2 ⟨16 * n + r.val, by omega⟩ j) := by
  subst ho
  refine congrArg X (funext fun a => Fin.ext ?_)
  match a with
  | 0 => show 16 * n + 1 * r.val = 16 * n + r.val; omega
  | 1 => show 0 + 1 * j.val = j.val; omega

/-- The part of the gain's gradient a row of eight has gathered before trip `n`. -/
def dgPart (A D : S1024x512.Idx → EReal) (n : ℕ) (hn : n ≤ 64) (r : Fin 8) (j : Fin 512) : EReal :=
  ∑ t : Fin n, (D (ix2 ⟨16 * t.val + r.val, by omega⟩ j) * normOf (fun q => A (ix2 ⟨16 * t.val + r.val, by omega⟩ q)) j
    + D (ix2 ⟨16 * t.val + 8 + r.val, by omega⟩ j) * normOf (fun q => A (ix2 ⟨16 * t.val + 8 + r.val, by omega⟩ q)) j)

theorem dgPart_succ (A D : S1024x512.Idx → EReal) (n : ℕ) (hn : n + 1 ≤ 64) (r : Fin 8) (j : Fin 512) :
    dgPart A D (n + 1) hn r j = dgPart A D n (by omega) r j + (D (ix2 ⟨16 * n + r.val, by omega⟩ j) * normOf (fun q => A (ix2 ⟨16 * n + r.val, by omega⟩ q)) j
    + D (ix2 ⟨16 * n + 8 + r.val, by omega⟩ j) * normOf (fun q => A (ix2 ⟨16 * n + 8 + r.val, by omega⟩ q)) j) := by
  unfold dgPart
  rw [Fin.sum_univ_castSucc]
  rfl

theorem sum_sixteens (f : ℕ → EReal) : ∑ r ∈ Finset.range 8, ∑ t ∈ Finset.range 64, (f (16 * t + r) + f (16 * t + 8 + r)) = ∑ t ∈ Finset.range 1024, f t := by
  have h1 : ∀ n : ℕ, ∑ t ∈ Finset.range (16 * n), f t = ∑ t ∈ Finset.range n, ∑ r ∈ Finset.range 8, (f (16 * t + r) + f (16 * t + 8 + r)) := by
    intro n
    induction n with
    | zero => rfl
    | succ n ih =>
      rw [Finset.sum_range_succ _ n, ← ih, show 16 * (n + 1) = 16 * n + 16 from by ring, Finset.sum_range_add]
      congr 1
      rw [show (16 : ℕ) = 8 + 8 from rfl, Finset.sum_range_add, Finset.sum_add_distrib]
      refine congrArg₂ (· + ·) rfl (Finset.sum_congr rfl fun x _ => ?_)
      rw [Nat.add_assoc]
  rw [Finset.sum_comm, ← h1 64]

theorem dg_total (A D : S1024x512.Idx → EReal) (j : Fin 512) : ∑ r : Fin 8, dgPart A D 64 le_rfl r j = ∑ t : Fin 1024, D (ix2 t j) * normOf (fun q => A (ix2 t q)) j := by
  let f : ℕ → EReal := fun n => if h : n < 1024 then D (ix2 ⟨n, h⟩ j) * normOf (fun q => A (ix2 ⟨n, h⟩ q)) j else 0
  have hf : ∀ (n : ℕ) (h : n < 1024), f n = D (ix2 ⟨n, h⟩ j) * normOf (fun q => A (ix2 ⟨n, h⟩ q)) j := fun n h => dif_pos h
  have e1 : ∑ t : Fin 1024, D (ix2 t j) * normOf (fun q => A (ix2 t q)) j = ∑ t ∈ Finset.range 1024, f t := by
    rw [← Fin.sum_univ_eq_sum_range]
    exact Finset.sum_congr rfl fun t _ => (hf t.val t.isLt).symm
  rw [e1, ← sum_sixteens f, ← Fin.sum_univ_eq_sum_range (fun r => ∑ t ∈ Finset.range 64, (f (16 * t + r) + f (16 * t + 8 + r))) 8]
  refine Finset.sum_congr rfl fun r _ => ?_
  rw [← Fin.sum_univ_eq_sum_range (fun t => f (16 * t + r.val) + f (16 * t + 8 + r.val)) 64]
  unfold dgPart
  refine Finset.sum_congr rfl fun t _ => ?_
  rw [hf _ (by omega), hf _ (by omega)]

theorem at_gain (x9 : S1x512.Idx → EReal) (ib) (y : S1x512.Idx) : x9 ((Rect.unit (s := S1x512) ![0, 0] ![1, 512] ib).toLoadRect.idx y) = x9 y := by
  refine congrArg x9 (funext fun a => Fin.ext ?_)
  match a with
  | 0 => show 0 + 1 * (y 0).val = (y 0).val; omega
  | 1 => show 0 + 1 * (y 1).val = (y 1).val; omega

section
variable (c : Dev nD) (i : grid0.Coords) (p1 : Memref sig .tc .vmem S1024x1x8x128 .bf16) (q1 : p1.IsWhole) (p2 : Memref sig .tc .vmem S1024x1x8x128 .bf16) (q2 : p2.IsWhole) (p3 : Memref sig .tc .vmem S1024x512 .fp8e4m3) (q3 : p3.IsWhole) (p4 : Memref sig .tc .vmem S4x1024 .f32) (q4 : p4.IsWhole) (p5 : Memref sig .tc .vmem S512x1x8x128 .fp8e4m3) (q5 : p5.IsWhole) (p6 : Memref sig .tc .vmem S4x120 .f32) (q6 : p6.IsWhole) (p7 : Memref sig .tc .vmem S512x1x8x128 .fp8e4m3) (q7 : p7.IsWhole) (p8 : Memref sig .tc .vmem S4x120 .f32) (q8 : p8.IsWhole) (p9 : Memref sig .tc .vmem S1024x512 .bf16) (q9 : p9.IsWhole) (p10 : Memref sig .tc .vmem S1x512 .f32) (q10 : p10.IsWhole) (p11 : Memref sig .tc .vmem S1024x512 .bf16) (q11 : p11.IsWhole) (p12 : Memref sig .tc .vmem S1x512 .f32) (q12 : p12.IsWhole) (p13 : Memref sig .tc .vmem S512x1x8x128 .f32) (q13 : p13.IsWhole) (p14 : Memref sig .tc .vmem S512x1x8x128 .f32) (q14 : p14.IsWhole) (p15 : Memref sig .tc .vmem S1024x1x8x128 .fp8e5m2) (q15 : p15.IsWhole) (p16 : Memref sig .tc .vmem S8x1024 .f32) (q16 : p16.IsWhole) (p17 : Memref sig .tc .vmem S1024x1x8x128 .fp8e5m2) (q17 : p17.IsWhole) (p18 : Memref sig .tc .vmem S8x1024 .f32) (q18 : p18.IsWhole) (p19 : Memref sig .tc .vmem S1024x512 .f32) (q19 : p19.IsWhole) (p20 : Memref sig .tc .vmem S256x2x1024 .bf16) (q20 : p20.IsWhole) (p21 : Memref sig .tc .vmem S2x120x8 .f32) (q21 : p21.IsWhole) (p22 : Memref sig .tc .vmem S4096x2x128 .bf16) (q22 : p22.IsWhole) (p23 : Memref sig .tc .vmem S2048x2x128 .bf16) (q23 : p23.IsWhole) (p24 : Memref sig .tc .vmem S512x2x1024 .bf16) (q24 : p24.IsWhole) (p25 : Memref sig .tc .vmem S512x2x1024 .bf16) (q25 : p25.IsWhole) (p26 : Memref sig .tc .vmem S256x2x1024 .bf16) (q26 : p26.IsWhole) (p27 : Memref sig .tc .vmem S256x2x1024 .bf16) (q27 : p27.IsWhole) (hc0 : ¬cond0_0 i) (hc1 : ¬cond0_1 i) (hc2 : cond0_2 i)
    (x0 : Vec Ideal S1024x1x8x128 .bf16) (x1 : Vec Ideal S1024x1x8x128 .bf16) (x2 : Vec Ideal S1024x512 .fp8e4m3) (x3 : Vec Ideal S4x1024 .f32) (x4 : Vec Ideal S512x1x8x128 .fp8e4m3) (x5 : Vec Ideal S4x120 .f32) (x6 : Vec Ideal S512x1x8x128 .fp8e4m3) (x7 : Vec Ideal S4x120 .f32) (x8 : Vec Ideal S1024x512 .bf16) (x9 : Vec Ideal S1x512 .f32) (xo12 : Vec Ideal S512x1x8x128 .f32) (xo14 : Vec Ideal S1024x1x8x128 .fp8e5m2) (xo15 : Vec Ideal S8x1024 .f32) (xo16 : Vec Ideal S1024x1x8x128 .fp8e5m2) (xo17 : Vec Ideal S8x1024 .f32) (xs0 : Vec Ideal S1024x512 .f32) (xs1 : Vec Ideal S256x2x1024 .bf16) (xs2 : Vec Ideal S2x120x8 .f32) (xs6 : Vec Ideal S512x2x1024 .bf16) (xs8 : Vec Ideal S256x2x1024 .bf16)
include c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8

set_option maxHeartbeats 2000000 in
theorem norm_trips (v69 : Vec Ideal S1x512 .f32) (X9 : BufTy.Contents (Elt Ideal) p9.view.ty) (X19 : BufTy.Contents (Elt Ideal) p19.view.ty) {A D : S1024x512.Idx → EReal}
    (hA : p9.view.read (Elt Ideal) X9 = A) (hD : p19.view.read (Elt Ideal) X19 = D) : ∀ (n : ℕ) (hn : n ≤ 64),
    (∀ (r : Fin 8) (j : Fin 512), (st_k0_t29 (F := Ideal) Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc2 v69 X9 X19 k0_pay11 n).1 (ix2 r j) = dgPart A D n hn r j)
    ∧ Fills (Val := Elt Ideal) (st_k0_t29 (F := Ideal) Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc2 v69 X9 X19 k0_pay11 n).2 (fun y => (y 0).val < 16 * n) (dcG A v69 D) := by
  subst hA
  subst hD
  intro n
  induction n with
  | zero =>
    intro hn
    refine ⟨fun r j => ?_, ?_⟩
    · show k0_pay11 (F := Ideal) (ix2 r j) = _
      rw [pay11_apply]
      exact (Finset.sum_empty).symm
    · show Fills (Val := Elt Ideal) [] _ _
      exact Fills.nil _ fun y hy => Nat.not_lt_zero _ hy
  | succ n ih =>
    intro hn
    obtain ⟨ih1, ih2⟩ := ih (by omega)
    have hs := st_k0_t29_succ (F := Ideal) Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc2 v69 X9 X19 k0_pay11 ⟨n, show n < 64 by omega⟩
    have ho := off29 ⟨n, show n < 64 by omega⟩
    change st_k0_t29 (F := Ideal) Variants.none c none i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc2 v69 X9 X19 k0_pay11 (n + 1) = _ at hs
    rw [hs]
    unfold tripR_k0_t29 tripL_k0_t29 trip_k0_t29
    dsimp only
    refine ⟨fun r j => ?_, ?_⟩
    · rw [dgPart_succ, pay16_apply, ih1]
      simp only [View.readAt_apply]
      have f9 := fun (ib : ∀ a, k0_off141 ⟨n, show n < 64 by omega⟩ a + S16x512.size a ≤ S1024x512.size a) (r : Fin 16) (j : Fin 512) => at_sixteen (off := k0_off141 ⟨n, show n < 64 by omega⟩) (p9.view.read (Elt Ideal) X9) ib n (by omega) ho r j
      have f19 := fun (ib : ∀ a, k0_off141 ⟨n, show n < 64 by omega⟩ a + S16x512.size a ≤ S1024x512.size a) (r : Fin 16) (j : Fin 512) => at_sixteen (off := k0_off141 ⟨n, show n < 64 by omega⟩) (p19.view.read (Elt Ideal) X19) ib n (by omega) ho r j
      simp only [f9, f19]
      rw [add_assoc]
      simp only [Nat.add_assoc]
    · refine Fills.cons (P := fun y => 16 * n ≤ (y 0).val ∧ (y 0).val < 16 * n + 16) _ _ (fun z y h => ?_) (fun y hy a => ?_) ih2 fun y hy => (by dsimp only at hy ⊢; omega)
      · obtain ⟨r, j, rfl⟩ : ∃ (r : Fin 16) (j : Fin 512), z = ix2 r j := ⟨z 0, z 1, by funext i; match i with | 0 => rfl | 1 => rfl⟩
        have h0 : (y 0).val = 16 * n + r.val := (h 0).trans (by rw [ho]; rfl)
        have h1 : (y 1).val = j.val := (h 1).trans (by rw [ho]; exact Nat.zero_add _)
        have ey : y = ix2 ⟨16 * n + r.val, by omega⟩ j := by
          funext i; match i with | 0 => exact Fin.ext h0 | 1 => exact Fin.ext h1
        rw [ey, pay15_apply]
        simp only [View.readAt_apply]
        have f9 := fun (ib : ∀ a, k0_off141 ⟨n, show n < 64 by omega⟩ a + S16x512.size a ≤ S1024x512.size a) (r : Fin 16) (j : Fin 512) => at_sixteen (off := k0_off141 ⟨n, show n < 64 by omega⟩) (p9.view.read (Elt Ideal) X9) ib n (by omega) ho r j
        have f19 := fun (ib : ∀ a, k0_off141 ⟨n, show n < 64 by omega⟩ a + S16x512.size a ≤ S1024x512.size a) (r : Fin 16) (j : Fin 512) => at_sixteen (off := k0_off141 ⟨n, show n < 64 by omega⟩) (p19.view.read (Elt Ideal) X19) ib n (by omega) ho r j
        simp only [f9, f19]
        rfl
      · have h1 : (y 1).val < 512 := (y 1).isLt
        rw [ho]
        match a with
        | 0 => exact hy
        | 1 => exact ⟨Nat.zero_le _, by show (y 1).val < 0 + 512; omega⟩

theorem sumv_C_read : p19.view.read (Elt Ideal) (p19.view.writes (Elt Ideal) p19.view.junk (kernelRun0_C.sl.HS0_2 (F := Ideal) c p19 q19 p25 q25 p27 q27 xs0 xs6 xs8)) = accG xs0 xs6 xs8 := by
  have e := (sumv_C c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8).readAll p19.view p19.view.junk []
  rw [List.append_nil] at e
  exact e

theorem gain_read (ib) : View.readAt (Elt Ideal) p10.view (Rect.unit (s := S1x512) ![0, 0] ![1, 512] ib).toLoadRect (q10.unread x9) = x9 := by
  funext y
  rw [View.readAt_apply, q10.read_unread]
  exact at_gain x9 ib y

set_option maxHeartbeats 2000000 in
theorem dc_C : out0_C_10 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8 = dcG x8 x9 (accG xs0 xs6 xs8) := by
  have h := (norm_trips c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8 x9 (q9.unread x8) _ (q9.read_unread x8) (sumv_C_read c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8) 64 le_rfl).2
  have e := (h.mono (Q := fun _ => True) fun y _ => (y 0).isLt).readAll VO0_10 VO0_10.junk []
  rw [List.append_nil] at e
  unfold out0_C_10 kernelRun0_C
  dsimp only
  rw [gain_read c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8]
  exact e

set_option maxHeartbeats 2000000 in
theorem dg_C : out0_C_11 (F := Ideal) c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8 = dgG x8 (accG xs0 xs6 xs8) := by
  have h := (norm_trips c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8 x9 (q9.unread x8) _ (q9.read_unread x8) (sumv_C_read c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8) 64 le_rfl).1
  unfold out0_C_11 kernelRun0_C
  dsimp only
  rw [gain_read c i p1 q1 p2 q2 p3 q3 p4 q4 p5 q5 p6 q6 p7 q7 p8 q8 p9 q9 p10 q10 p11 q11 p12 q12 p13 q13 p14 q14 p15 q15 p16 q16 p17 q17 p18 q18 p19 q19 p20 q20 p21 q21 p22 q22 p23 q23 p24 q24 p25 q25 p26 q26 p27 q27 hc0 hc1 hc2 x0 x1 x2 x3 x4 x5 x6 x7 x8 x9 xo12 xo14 xo15 xo16 xo17 xs0 xs1 xs2 xs6 xs8]
  refine (Fills.unit (Val := Elt Ideal) (s := S1x512) (e := .f32) (P := fun _ => True) (G := dgG x8 (accG xs0 xs6 xs8)) _ _ (fun z y e => ?_) fun y _ a => ?_).readAll VO0_11 VO0_11.junk []
  · obtain ⟨j, rfl⟩ : ∃ (j : Fin 512), z = ix2 0 j := ⟨z 1, by funext i; match i with | 0 => exact Subsingleton.elim (α := Fin 1) _ _ | 1 => rfl⟩
    have ey : y = ix2 0 j := by
      funext a; match a with | 0 => exact Fin.ext ((e 0).trans rfl) | 1 => exact Fin.ext ((e 1).trans (Nat.zero_add _))
    rw [ey, pay17_apply]
    refine (Finset.sum_congr rfl fun r _ => h r j).trans (dg_total _ _ j)
  · match a with
    | 0 => exact ⟨Nat.zero_le _, (y 0).isLt⟩
    | 1 => exact ⟨Nat.zero_le _, by show (y 1).val < 0 + 512; exact (Nat.zero_add 512).symm ▸ (y 1).isLt⟩
end

end Cert.KernelIdeal.Gen
end
-- ==== Proof.RefDc.lean ====
/- The gradients of the raw latents and of the gain in the reference, as functions of the arguments. -/
module

public import proofs.«01_k».proof.Proof.Norms

@[expose] public section
set_option maxRecDepth 16384
noncomputable section

namespace Cert.ReferenceIdeal.Value
open Cert.ReferenceIdeal Cert.ReferenceIdeal.Gen Idealize.ShloMosaic Idealize.ShloMosaic.TcCoe Idealize.SL.Sem Idealize.ShloMosaic.Tactic
open Idealize.ShloMosaic.Pipeline (Dat)
open Cert.MlaQuant

variable (m : (ℓ : Loc nD τ sig) → Buf (Elt Ideal) ℓ) (ρ : Dev nD → PrngReg)

/-- A row of an argument, dequantised, times a row of a weight, over every head and column. -/
def partR (A : Vec Ideal S1x1024x120x128 .bf16) (W : Vec Ideal S512x120x128 .fp8e4m3) (Sw : Vec Ideal S4x120 .f32) (t : Fin 1024) (k : Fin 512) : EReal :=
  ∑ j : Fin 15360, (rcd (argRow A t ⟨j.val / 128, by omega⟩) ⟨j.val % 128, by omega⟩ * rsc (argRow A t ⟨j.val / 128, by omega⟩))
    * (W (ix3 k ⟨j.val / 128, by omega⟩ ⟨j.val % 128, by omega⟩) * Sw (ix2 ⟨k.val / 128, by omega⟩ ⟨j.val / 128, by omega⟩))

/-- The gradient of the scaled latents. -/
def sumR (A B : Vec Ideal S1x1024x120x128 .bf16) (W : Vec Ideal S512x120x128 .fp8e4m3) (Sw : Vec Ideal S4x120 .f32) (W' : Vec Ideal S512x120x128 .fp8e4m3) (Sw' : Vec Ideal S4x120 .f32)
    (t : Fin 1024) (k : Fin 512) : EReal := partR A W Sw t k + partR B W' Sw' t k

/-- The gradient of the raw latents. -/
def dcR (raw : Vec Ideal S1x1024x512 .bf16) (gain : Vec Ideal S512 .f32) (D : Fin 1024 → Fin 512 → EReal) : Vec Ideal S1024x512 .bf16 := fun y =>
  backOf (fun q => raw (ix3 0 (y 0) q)) (fun q => D (y 0) q * gain (ix1 q)) (y 1)

/-- The gradient of the gain. -/
def dgR (raw : Vec Ideal S1x1024x512 .bf16) (D : Fin 1024 → Fin 512 → EReal) : Vec Ideal S1x512 .f32 := fun y =>
  ∑ t : Fin 1024, D t (y 1) * normOf (fun q => raw (ix3 0 t q)) (y 1)

theorem pay15_apply (u v : FVec Ideal S1024x15360 .bf16) (C : FVec Ideal S4x128x120x128 .fp8e4m3) (Sc : Vec Ideal S4x1x120x1 .f32) (C' : Vec Ideal S4x128x120x128 .fp8e4m3) (Sc' : Vec Ideal S4x1x120x1 .f32) (t : Fin 1024) (k : Fin 512) :
    k0_pay15 u v C Sc C' Sc' (ix2 t k) =
      (∑ j : Fin 15360, u (ix2 t j) * (C (ix4 ⟨k.val / 128, by omega⟩ ⟨k.val % 128, by omega⟩ ⟨j.val / 128, by omega⟩ ⟨j.val % 128, by omega⟩) * Sc (ix4 ⟨k.val / 128, by omega⟩ 0 ⟨j.val / 128, by omega⟩ 0)))
      + ∑ j : Fin 15360, v (ix2 t j) * (C' (ix4 ⟨k.val / 128, by omega⟩ ⟨k.val % 128, by omega⟩ ⟨j.val / 128, by omega⟩ ⟨j.val % 128, by omega⟩) * Sc' (ix4 ⟨k.val / 128, by omega⟩ 0 ⟨j.val / 128, by omega⟩ 0)) := by
  pointwise [k0_pay15]

theorem pay17_apply (X : Vec Ideal S1024x512 .bf16) (t : Fin 1024) : k0_pay17 X (ix2 t 0) = rmsOf fun q => X (ix2 t q) := by
  pointwise [k0_pay17, k0_pay16]
  rfl

theorem pay18_apply (X : Vec Ideal S1024x512 .bf16) (t : Fin 1024) (j : Fin 512) : k0_pay18 X (ix2 t j) = normOf (fun q => X (ix2 t q)) j := by
  pointwise [k0_pay18, k0_pay16]
  rw [pay17_apply]
  rfl

theorem pay19_apply (u v : FVec Ideal S1024x15360 .bf16) (C : FVec Ideal S4x128x120x128 .fp8e4m3) (Sc : Vec Ideal S4x1x120x1 .f32) (C' : Vec Ideal S4x128x120x128 .fp8e4m3) (Sc' : Vec Ideal S4x1x120x1 .f32) (g : Vec Ideal S1x512 .f32) (t : Fin 1024) (k : Fin 512) :
    k0_pay19 u v C Sc C' Sc' g (ix2 t k) = k0_pay15 u v C Sc C' Sc' (ix2 t k) * g (ix2 0 k) := by
  pointwise [k0_pay19]

theorem pay20_apply (u v : FVec Ideal S1024x15360 .bf16) (C : FVec Ideal S4x128x120x128 .fp8e4m3) (Sc : Vec Ideal S4x1x120x1 .f32) (C' : Vec Ideal S4x128x120x128 .fp8e4m3) (Sc' : Vec Ideal S4x1x120x1 .f32) (X : Vec Ideal S1024x512 .bf16) (g : Vec Ideal S1x512 .f32) (t : Fin 1024) (k : Fin 512) :
    k0_pay20 u v C Sc C' Sc' X g (ix2 t k) = Ideal.div (∑ q : Fin 512, (k0_pay15 u v C Sc C' Sc' (ix2 t q) * g (ix2 0 q)) * normOf (fun q => X (ix2 t q)) q) (Ideal.ofBits FTy.f32 1140850688#32) := by
  pointwise [k0_pay20]
  simp only [pay19_apply, pay18_apply]

theorem pay21_apply (a : FVec Ideal S1024x1 .f32) (b d e : FVec Ideal S1024x512 .f32) (t : Fin 1024) (k : Fin 512) :
    k0_pay21 a b d e (ix2 t k) = Ideal.div (d (ix2 t k) - b (ix2 t k) * e (ix2 t k)) (a (ix2 t 0)) := by
  pointwise [k0_pay21]

theorem pay22_apply (a b : FVec Ideal S1024x512 .f32) (k : Fin 512) : k0_pay22 a b (ix2 0 k) = ∑ t : Fin 1024, a (ix2 t k) * b (ix2 t k) := by
  pointwise [k0_pay22]

theorem weight_cast (W : Vec Ideal S512x120x128 .fp8e4m3) (p : Fin 4) (q : Fin 128) (h : Fin 120) (d : Fin 128) :
    shapeCast S4x128x120x128 W shapeCasts_S512x120x128_S4x128x120x128 (ix4 p q h d) = W (ix3 ⟨p.val * 128 + q.val, by omega⟩ h d) := by
  pointwise

theorem wscale_cast (Sw : Vec Ideal S4x120 .f32) (p : Fin 4) (h : Fin 120) : shapeCast S4x1x120x1 Sw shapeCasts_S4x120_S4x1x120x1 (ix4 p 0 h 0) = Sw (ix2 p h) := by
  pointwise

theorem raw_cast (X : Vec Ideal S1x1024x512 .bf16) (t : Fin 1024) (k : Fin 512) : shapeCast S1024x512 X shapeCasts_S1x1024x512_S1024x512 (ix2 t k) = X (ix3 0 t k) := by
  pointwise

theorem gain_cast (g : Vec Ideal S512 .f32) (k : Fin 512) : shapeCast S1x512 g shapeCasts_S512_S1x512 (ix2 0 k) = g (ix1 k) := by
  pointwise

/-- The gradient of the scaled latents, before it is scaled. -/
theorem sum_eq (A B : Vec Ideal S1x1024x120x128 .bf16) (W : Vec Ideal S512x120x128 .fp8e4m3) (Sw : Vec Ideal S4x120 .f32) (W' : Vec Ideal S512x120x128 .fp8e4m3) (Sw' : Vec Ideal S4x120 .f32) (t : Fin 1024) (k : Fin 512) :
    k0_pay15 (k0_pay11 (k0_pay3 (shapeCast S1024x120x128 A shapeCasts_S1x1024x120x128_S1024x120x128)) (k0_pay4 (shapeCast S1024x120x128 A shapeCasts_S1x1024x120x128_S1024x120x128)))
      (k0_pay11 (k0_pay3 (shapeCast S1024x120x128 B shapeCasts_S1x1024x120x128_S1024x120x128)) (k0_pay4 (shapeCast S1024x120x128 B shapeCasts_S1x1024x120x128_S1024x120x128)))
      (k0_pay14 (shapeCast S4x128x120x128 W shapeCasts_S512x120x128_S4x128x120x128)) (shapeCast S4x1x120x1 Sw shapeCasts_S4x120_S4x1x120x1)
      (shapeCast S4x128x120x128 W' shapeCasts_S512x120x128_S4x128x120x128) (shapeCast S4x1x120x1 Sw' shapeCasts_S4x120_S4x1x120x1) (ix2 t k) = sumR A B W Sw W' Sw' t k := by
  have e14 : k0_pay14 (shapeCast S4x128x120x128 W shapeCasts_S512x120x128_S4x128x120x128) = shapeCast S4x128x120x128 W shapeCasts_S512x120x128_S4x128x120x128 := by
    funext y
    obtain ⟨p, q, h, d, rfl⟩ : ∃ (p : Fin 4) (q : Fin 128) (h : Fin 120) (d : Fin 128), y = ix4 p q h d := ⟨y 0, y 1, y 2, y 3, by funext i; match i with | 0 => rfl | 1 => rfl | 2 => rfl | 3 => rfl⟩
    pointwise [k0_pay14]
  have eK : (⟨k.val / 128 * 128 + k.val % 128, by omega⟩ : Fin 512) = k := Fin.ext (by show k.val / 128 * 128 + k.val % 128 = k.val; omega)
  have key : ∀ (A : Vec Ideal S1x1024x120x128 .bf16) (W : Vec Ideal S512x120x128 .fp8e4m3) (Sw : Vec Ideal S4x120 .f32),
      (∑ j : Fin 15360, k0_pay11 (k0_pay3 (shapeCast S1024x120x128 A shapeCasts_S1x1024x120x128_S1024x120x128)) (k0_pay4 (shapeCast S1024x120x128 A shapeCasts_S1x1024x120x128_S1024x120x128)) (ix2 t j)
        * (shapeCast S4x128x120x128 W shapeCasts_S512x120x128_S4x128x120x128 (ix4 ⟨k.val / 128, by omega⟩ ⟨k.val % 128, by omega⟩ ⟨j.val / 128, by omega⟩ ⟨j.val % 128, by omega⟩)
          * shapeCast S4x1x120x1 Sw shapeCasts_S4x120_S4x1x120x1 (ix4 ⟨k.val / 128, by omega⟩ 0 ⟨j.val / 128, by omega⟩ 0))) = partR A W Sw t k := by
    intro A W Sw
    refine Finset.sum_congr rfl fun j _ => ?_
    rw [pay11_apply, weight_cast, wscale_cast]
    dsimp only
    rw [eK, pay4_apply, pay3_apply, brow_arg]
  rw [e14, pay15_apply]
  exact congrArg₂ (· + ·) (key A W Sw) (key B W' Sw')

theorem V_main_v4 (c : Dev nD) : V m c main_v4 = shapeCast S4x128x120x128 (m ((c : Thread nD τ).loc main_arg4)) shapeCasts_S512x120x128_S4x128x120x128 := by
  show StableHlo.after hostOps0 _ (Proc.devRef .tc main_v4) = _
  after_results
  rfl

theorem iblk_whole4 (c : Dev nD) (t : Fin cfg0.N) : (iblk m c 4 t : Vec Ideal S4x128x120x128 .fp8e4m3) = V m c main_v4 := by
  funext y
  show V m c main_v4 _ = V m c main_v4 y
  congr 1
  funext a
  apply Fin.ext
  refine ((cfg0.win 4).rect_emb_val t y a).trans ?_
  have e : win0_4.index t a = 0 := by
    rcases fin_N0 t with rfl; revert a; decide +kernel
  show win0_4.index t a * _ + (y a).val = _
  rw [e, Nat.zero_mul, Nat.zero_add]

theorem V_main_v5 (c : Dev nD) : V m c main_v5 = shapeCast S4x1x120x1 (m ((c : Thread nD τ).loc main_arg5)) shapeCasts_S4x120_S4x1x120x1 := by
  show StableHlo.after hostOps0 _ (Proc.devRef .tc main_v5) = _
  after_results
  rfl

theorem iblk_whole5 (c : Dev nD) (t : Fin cfg0.N) : (iblk m c 5 t : Vec Ideal S4x1x120x1 .f32) = V m c main_v5 := by
  funext y
  show V m c main_v5 _ = V m c main_v5 y
  congr 1
  funext a
  apply Fin.ext
  refine ((cfg0.win 5).rect_emb_val t y a).trans ?_
  have e : win0_5.index t a = 0 := by
    rcases fin_N0 t with rfl; revert a; decide +kernel
  show win0_5.index t a * _ + (y a).val = _
  rw [e, Nat.zero_mul, Nat.zero_add]

theorem V_main_v6 (c : Dev nD) : V m c main_v6 = shapeCast S4x128x120x128 (m ((c : Thread nD τ).loc main_arg6)) shapeCasts_S512x120x128_S4x128x120x128 := by
  show StableHlo.after hostOps0 _ (Proc.devRef .tc main_v6) = _
  after_results
  rfl

theorem iblk_whole6 (c : Dev nD) (t : Fin cfg0.N) : (iblk m c 6 t : Vec Ideal S4x128x120x128 .fp8e4m3) = V m c main_v6 := by
  funext y
  show V m c main_v6 _ = V m c main_v6 y
  congr 1
  funext a
  apply Fin.ext
  refine ((cfg0.win 6).rect_emb_val t y a).trans ?_
  have e : win0_6.index t a = 0 := by
    rcases fin_N0 t with rfl; revert a; decide +kernel
  show win0_6.index t a * _ + (y a).val = _
  rw [e, Nat.zero_mul, Nat.zero_add]

theorem V_main_v7 (c : Dev nD) : V m c main_v7 = shapeCast S4x1x120x1 (m ((c : Thread nD τ).loc main_arg7)) shapeCasts_S4x120_S4x1x120x1 := by
  show StableHlo.after hostOps0 _ (Proc.devRef .tc main_v7) = _
  after_results
  rfl

theorem iblk_whole7 (c : Dev nD) (t : Fin cfg0.N) : (iblk m c 7 t : Vec Ideal S4x1x120x1 .f32) = V m c main_v7 := by
  funext y
  show V m c main_v7 _ = V m c main_v7 y
  congr 1
  funext a
  apply Fin.ext
  refine ((cfg0.win 7).rect_emb_val t y a).trans ?_
  have e : win0_7.index t a = 0 := by
    rcases fin_N0 t with rfl; revert a; decide +kernel
  show win0_7.index t a * _ + (y a).val = _
  rw [e, Nat.zero_mul, Nat.zero_add]

theorem V_main_v8 (c : Dev nD) : V m c main_v8 = shapeCast S1024x512 (m ((c : Thread nD τ).loc main_arg8)) shapeCasts_S1x1024x512_S1024x512 := by
  show StableHlo.after hostOps0 _ (Proc.devRef .tc main_v8) = _
  after_results
  rfl

theorem iblk_whole8 (c : Dev nD) (t : Fin cfg0.N) : (iblk m c 8 t : Vec Ideal S1024x512 .bf16) = V m c main_v8 := by
  funext y
  show V m c main_v8 _ = V m c main_v8 y
  congr 1
  funext a
  apply Fin.ext
  refine ((cfg0.win 8).rect_emb_val t y a).trans ?_
  have e : win0_8.index t a = 0 := by
    rcases fin_N0 t with rfl; revert a; decide +kernel
  show win0_8.index t a * _ + (y a).val = _
  rw [e, Nat.zero_mul, Nat.zero_add]

theorem V_main_v9 (c : Dev nD) : V m c main_v9 = shapeCast S1x512 (m ((c : Thread nD τ).loc main_arg9)) shapeCasts_S512_S1x512 := by
  show StableHlo.after hostOps0 _ (Proc.devRef .tc main_v9) = _
  after_results
  rfl

theorem iblk_whole9 (c : Dev nD) (t : Fin cfg0.N) : (iblk m c 9 t : Vec Ideal S1x512 .f32) = V m c main_v9 := by
  funext y
  show V m c main_v9 _ = V m c main_v9 y
  congr 1
  funext a
  apply Fin.ext
  refine ((cfg0.win 9).rect_emb_val t y a).trans ?_
  have e : win0_9.index t a = 0 := by
    rcases fin_N0 t with rfl; revert a; decide +kernel
  show win0_9.index t a * _ + (y a).val = _
  rw [e, Nat.zero_mul, Nat.zero_add]

theorem outs10 (c : Dev nD) (t : Fin cfg0.N) : out0_10 (iblk m c 0 t) (iblk m c 1 t) (iblk m c 2 t) (iblk m c 3 t) (iblk m c 4 t) (iblk m c 5 t) (iblk m c 6 t) (iblk m c 7 t) (iblk m c 8 t) (iblk m c 9 t) = dcR (m ((c : Thread nD τ).loc main_arg8)) (m ((c : Thread nD τ).loc main_arg9)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  unfold out0_10 k0_pay38 k0_pay37 k0_pay35 k0_pay34 k0_pay33 k0_pay32 k0_pay31 k0_pay30 k0_pay29
  rw [View.canon_unit_zero hz2]
  rw [View.ld_unit_zero hz2, View.ld_unit_zero hz3, View.ld_unit_zero hz3, View.ld_unit_zero hz4, View.ld_unit_zero hz4, View.ld_unit_zero hz4, View.ld_unit_zero hz4, View.ld_unit_zero hz2]
  rw [iblk_whole0, iblk_whole1, iblk_whole4, iblk_whole5, iblk_whole6, iblk_whole7, iblk_whole8, iblk_whole9, V_main_v0, V_main_v1, V_main_v4, V_main_v5, V_main_v6, V_main_v7, V_main_v8, V_main_v9]
  rw [pay12_eq, pay10_eq, pay9_eq]
  funext y
  obtain ⟨a, k, rfl⟩ : ∃ (a : Fin 1024) (k : Fin 512), y = ix2 a k := ⟨y 0, y 1, by funext i; match i with | 0 => rfl | 1 => rfl⟩
  rw [pay21_apply, pay17_apply, pay18_apply, pay19_apply, pay20_apply]
  generalize hD : k0_pay15 (_ : FVec Ideal S1024x15360 .bf16) _ _ _ _ _ = D
  have eD : ∀ t k, D (ix2 t k) = sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) t k := fun t k => (congrFun hD.symm _).trans (sum_eq _ _ _ _ _ _ t k)
  generalize hX : shapeCast S1024x512 _ _ = X
  have eX : ∀ t k, X (ix2 t k) = m ((c : Thread nD τ).loc main_arg8) (ix3 0 t k) := fun t k => (congrFun hX.symm _).trans (raw_cast _ t k)
  generalize hg : shapeCast S1x512 _ _ = g
  have eg : ∀ k, g (ix2 0 k) = m ((c : Thread nD τ).loc main_arg9) (ix1 k) := fun k => (congrFun hg.symm _).trans (gain_cast _ k)
  simp only [eD, eX, eg]
  rfl

theorem outs11 (c : Dev nD) (t : Fin cfg0.N) : out0_11 (iblk m c 0 t) (iblk m c 1 t) (iblk m c 2 t) (iblk m c 3 t) (iblk m c 4 t) (iblk m c 5 t) (iblk m c 6 t) (iblk m c 7 t) (iblk m c 8 t) (iblk m c 9 t) = dgR (m ((c : Thread nD τ).loc main_arg8)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  unfold out0_11 k0_pay38 k0_pay37 k0_pay35 k0_pay34 k0_pay33 k0_pay32 k0_pay31 k0_pay30 k0_pay29
  rw [View.canon_unit_zero hz2]
  rw [View.ld_unit_zero hz3, View.ld_unit_zero hz3, View.ld_unit_zero hz4, View.ld_unit_zero hz4, View.ld_unit_zero hz4, View.ld_unit_zero hz4, View.ld_unit_zero hz2]
  rw [iblk_whole0, iblk_whole1, iblk_whole4, iblk_whole5, iblk_whole6, iblk_whole7, iblk_whole8, V_main_v0, V_main_v1, V_main_v4, V_main_v5, V_main_v6, V_main_v7, V_main_v8]
  rw [pay12_eq, pay10_eq, pay9_eq]
  funext y
  obtain ⟨k, rfl⟩ : ∃ (k : Fin 512), y = ix2 0 k := ⟨y 1, by funext i; match i with | 0 => exact Subsingleton.elim (α := Fin 1) _ _ | 1 => rfl⟩
  rw [pay22_apply]
  simp only [pay18_apply]
  generalize hD : k0_pay15 (_ : FVec Ideal S1024x15360 .bf16) _ _ _ _ _ = D
  have eD : ∀ t k, D (ix2 t k) = sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) t k := fun t k => (congrFun hD.symm _).trans (sum_eq _ _ _ _ _ _ t k)
  generalize hX : shapeCast S1024x512 _ _ = X
  have eX : ∀ t k, X (ix2 t k) = m ((c : Thread nD τ).loc main_arg8) (ix3 0 t k) := fun t k => (congrFun hX.symm _).trans (raw_cast _ t k)
  simp only [eD, eX]
  rfl

theorem final10 (c : Dev nD) : (dats m 0 c).arrAt 10 cfg0.N = dcR (m ((c : Thread nD τ).loc main_arg8)) (m ((c : Thread nD τ).loc main_arg9)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  refine (dats m 0 c).arrAt_eq_of_cover 10 (dcR (m ((c : Thread nD τ).loc main_arg8)) (m ((c : Thread nD τ).loc main_arg9)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))) (fun t _ => ?_) (fun i => ⟨t0_0, flush0_10 _, ?_⟩)
  · show (cfg0.win 10).cut (grid0.coords t) ((dats m 0 c).after 10 t) = _
    rw [after0_10, outs10]
    funext y
    show dcR _ _ _ _ = dcR _ _ _ _
    congr 1
    funext a
    apply Fin.ext
    refine Eq.trans ?_ ((cfg0.win 10).rect_emb_val t y a).symm
    have e : win0_10.index t a = 0 := by
      rcases fin_N0 t with rfl; revert a; decide +kernel
    show (y a).val = win0_10.index t a * _ + (y a).val
    rw [e, Nat.zero_mul, Nat.zero_add]
  · show i ∈ ((View.whole main_v10_0).slice (win0_10.rect t0_0)).set
    rw [View.set_slice_whole, Rect.mem_set_unit]
    intro a
    have e : win0_10.index t0_0 a = 0 ∧ win0_10.xsize (grid0.coords t0_0) a = S1024x512.size a := by
      revert a; decide +kernel
    show win0_10.index t0_0 a * win0_10.size a ≤ (i a : Nat) ∧ (i a : Nat) < win0_10.index t0_0 a * win0_10.size a + win0_10.xsize (grid0.coords t0_0) a
    rw [e.1, e.2, Nat.zero_mul, Nat.zero_add]
    exact ⟨Nat.zero_le _, (i a).isLt⟩

theorem final11 (c : Dev nD) : (dats m 0 c).arrAt 11 cfg0.N = dgR (m ((c : Thread nD τ).loc main_arg8)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  refine (dats m 0 c).arrAt_eq_of_cover 11 (dgR (m ((c : Thread nD τ).loc main_arg8)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))) (fun t _ => ?_) (fun i => ⟨t0_0, flush0_11 _, ?_⟩)
  · show (cfg0.win 11).cut (grid0.coords t) ((dats m 0 c).after 11 t) = _
    rw [after0_11, outs11]
    funext y
    show dgR _ _ _ = dgR _ _ _
    congr 1
    funext a
    apply Fin.ext
    refine Eq.trans ?_ ((cfg0.win 11).rect_emb_val t y a).symm
    have e : win0_11.index t a = 0 := by
      rcases fin_N0 t with rfl; revert a; decide +kernel
    show (y a).val = win0_11.index t a * _ + (y a).val
    rw [e, Nat.zero_mul, Nat.zero_add]
  · show i ∈ ((View.whole main_v10_1).slice (win0_11.rect t0_0)).set
    rw [View.set_slice_whole, Rect.mem_set_unit]
    intro a
    have e : win0_11.index t0_0 a = 0 ∧ win0_11.xsize (grid0.coords t0_0) a = S1x512.size a := by
      revert a; decide +kernel
    show win0_11.index t0_0 a * win0_11.size a ≤ (i a : Nat) ∧ (i a : Nat) < win0_11.index t0_0 a * win0_11.size a + win0_11.xsize (grid0.coords t0_0) a
    rw [e.1, e.2, Nat.zero_mul, Nat.zero_add]
    exact ⟨Nat.zero_le _, (i a).isLt⟩

end Cert.ReferenceIdeal.Value
end
-- ==== Proof.Ideal.Latents.lean ====
/- The gradients of the raw latents and of the gain are the reference's. -/
module

public import proofs.«01_k».proof.Proof.Ideal.Gradients
public import proofs.«01_k».proof.Proof.Ideal.Norm
public import proofs.«01_k».proof.Proof.RefDc

@[expose] public section
set_option maxRecDepth 16384
noncomputable section

namespace Cert.KernelIdeal.Value
open Cert.KernelIdeal Cert.KernelIdeal.Gen Idealize.ShloMosaic Idealize.ShloMosaic.TcCoe Idealize.SL.Sem Idealize.ShloMosaic.Tactic
open Idealize.ShloMosaic.Pipeline (Dat)
open Cert.MlaQuant
open Cert.ReferenceIdeal.Value (partR sumR dcR dgR rcd rsc)

variable (m : (ℓ : Loc nD τ sig) → Buf (Elt Ideal) ℓ) (ρ : Dev nD → PrngReg)

theorem V_main_v5 (c : Dev nD) : V m c main_v5 = shapeCast S512x15x8x128 (m ((c : Thread nD τ).loc main_arg4)) shapeCasts_S512x120x128_S512x15x8x128 := by
  show StableHlo.after hostOps0 _ (Proc.devRef .tc main_v5) = _
  after_results
  rfl

theorem V_main_v6 (c : Dev nD) : V m c main_v6 = shapeCast S512x15x8x128 (m ((c : Thread nD τ).loc main_arg6)) shapeCasts_S512x120x128_S512x15x8x128 := by
  show StableHlo.after hostOps0 _ (Proc.devRef .tc main_v6) = _
  after_results
  rfl

theorem V_main_v7 (c : Dev nD) : V m c main_v7 = shapeCast S1024x512 (m ((c : Thread nD τ).loc main_arg8)) shapeCasts_S1x1024x512_S1024x512 := by
  show StableHlo.after hostOps0 _ (Proc.devRef .tc main_v7) = _
  after_results
  rfl

theorem V_main_v8 (c : Dev nD) : V m c main_v8 = shapeCast S1x512 (m ((c : Thread nD τ).loc main_arg9)) shapeCasts_S512_S1x512 := by
  show StableHlo.after hostOps0 _ (Proc.devRef .tc main_v8) = _
  after_results
  rfl

theorem weight_cast (W : Vec Ideal S512x120x128 .fp8e4m3) (k : Fin 512) (b : Fin 15) (h : Fin 8) (d : Fin 128) :
    shapeCast S512x15x8x128 W shapeCasts_S512x120x128_S512x15x8x128 (ix4 k b h d) = W (ix3 k ⟨b.val * 8 + h.val, by omega⟩ d) := by
  pointwise

theorem gain_cast (g : Vec Ideal S512 .f32) (k : Fin 512) : shapeCast S1x512 g shapeCasts_S512_S1x512 (ix2 0 k) = g (ix1 k) := by
  pointwise

theorem index4 : ∀ t : Fin cfg0.N, win0_4.index t 0 = 0 ∧ win0_4.index t 1 = min t.val 14 ∧ win0_4.index t 2 = 0 ∧ win0_4.index t 3 = 0 :=
  (by decide +kernel : ∀ t : Fin grid0.N, win0_4.index t 0 = 0 ∧ win0_4.index t 1 = min t.val 14 ∧ win0_4.index t 2 = 0 ∧ win0_4.index t 3 = 0)

theorem iblk4 (c : Dev nD) (t : Fin cfg0.N) (k : Fin 512) (h : Fin 8) (d : Fin 128) :
    (iblk m c 4 t : Vec Ideal S512x1x8x128 .fp8e4m3) (ix4 k 0 h d) = m ((c : Thread nD τ).loc main_arg4) (ix3 k ⟨(blkNo t).val * 8 + h.val, by have := (blkNo t).isLt; omega⟩ d) := by
  rw [← weight_cast (m ((c : Thread nD τ).loc main_arg4)) k (blkNo t) h d, ← V_main_v5]
  show V m c main_v5 _ = V m c main_v5 _
  congr 1
  funext e
  apply Fin.ext
  refine ((cfg0.win 4).rect_emb_val t _ e).trans ?_
  obtain ⟨e0, e1, e2, e3⟩ := index4 t
  match e with
  | 0 => show win0_4.index t 0 * 512 + k.val = k.val; rw [e0]; omega
  | 1 => show win0_4.index t 1 * 1 + 0 = min t.val 14; rw [e1]; omega
  | 2 => show win0_4.index t 2 * 8 + h.val = h.val; rw [e2]; omega
  | 3 => show win0_4.index t 3 * 128 + d.val = d.val; rw [e3]; omega

theorem index6 : ∀ t : Fin cfg0.N, win0_6.index t 0 = 0 ∧ win0_6.index t 1 = min t.val 14 ∧ win0_6.index t 2 = 0 ∧ win0_6.index t 3 = 0 :=
  (by decide +kernel : ∀ t : Fin grid0.N, win0_6.index t 0 = 0 ∧ win0_6.index t 1 = min t.val 14 ∧ win0_6.index t 2 = 0 ∧ win0_6.index t 3 = 0)

theorem iblk6 (c : Dev nD) (t : Fin cfg0.N) (k : Fin 512) (h : Fin 8) (d : Fin 128) :
    (iblk m c 6 t : Vec Ideal S512x1x8x128 .fp8e4m3) (ix4 k 0 h d) = m ((c : Thread nD τ).loc main_arg6) (ix3 k ⟨(blkNo t).val * 8 + h.val, by have := (blkNo t).isLt; omega⟩ d) := by
  rw [← weight_cast (m ((c : Thread nD τ).loc main_arg6)) k (blkNo t) h d, ← V_main_v6]
  show V m c main_v6 _ = V m c main_v6 _
  congr 1
  funext e
  apply Fin.ext
  refine ((cfg0.win 6).rect_emb_val t _ e).trans ?_
  obtain ⟨e0, e1, e2, e3⟩ := index6 t
  match e with
  | 0 => show win0_6.index t 0 * 512 + k.val = k.val; rw [e0]; omega
  | 1 => show win0_6.index t 1 * 1 + 0 = min t.val 14; rw [e1]; omega
  | 2 => show win0_6.index t 2 * 8 + h.val = h.val; rw [e2]; omega
  | 3 => show win0_6.index t 3 * 128 + d.val = d.val; rw [e3]; omega

theorem index5 : ∀ t : Fin cfg0.N, win0_5.index t 0 = 0 ∧ win0_5.index t 1 = 0 :=
  (by decide +kernel : ∀ t : Fin grid0.N, win0_5.index t 0 = 0 ∧ win0_5.index t 1 = 0)

theorem whole_blk5 (c : Dev nD) (t : Fin cfg0.N) : (iblk m c 5 t : Vec Ideal S4x120 .f32) = V m c main_arg5 := by
  funext y
  show V m c main_arg5 _ = V m c main_arg5 y
  congr 1
  funext e
  apply Fin.ext
  refine ((cfg0.win 5).rect_emb_val t _ e).trans ?_
  obtain ⟨e0, e1⟩ := index5 t
  match e with
  | 0 => show win0_5.index t 0 * 4 + (y 0).val = (y 0).val; rw [e0]; omega
  | 1 => show win0_5.index t 1 * 120 + (y 1).val = (y 1).val; rw [e1]; omega

theorem index7 : ∀ t : Fin cfg0.N, win0_7.index t 0 = 0 ∧ win0_7.index t 1 = 0 :=
  (by decide +kernel : ∀ t : Fin grid0.N, win0_7.index t 0 = 0 ∧ win0_7.index t 1 = 0)

theorem whole_blk7 (c : Dev nD) (t : Fin cfg0.N) : (iblk m c 7 t : Vec Ideal S4x120 .f32) = V m c main_arg7 := by
  funext y
  show V m c main_arg7 _ = V m c main_arg7 y
  congr 1
  funext e
  apply Fin.ext
  refine ((cfg0.win 7).rect_emb_val t _ e).trans ?_
  obtain ⟨e0, e1⟩ := index7 t
  match e with
  | 0 => show win0_7.index t 0 * 4 + (y 0).val = (y 0).val; rw [e0]; omega
  | 1 => show win0_7.index t 1 * 120 + (y 1).val = (y 1).val; rw [e1]; omega

theorem index8 : ∀ t : Fin cfg0.N, win0_8.index t 0 = 0 ∧ win0_8.index t 1 = 0 :=
  (by decide +kernel : ∀ t : Fin grid0.N, win0_8.index t 0 = 0 ∧ win0_8.index t 1 = 0)

theorem whole_blk8 (c : Dev nD) (t : Fin cfg0.N) : (iblk m c 8 t : Vec Ideal S1024x512 .bf16) = V m c main_v7 := by
  funext y
  show V m c main_v7 _ = V m c main_v7 y
  congr 1
  funext e
  apply Fin.ext
  refine ((cfg0.win 8).rect_emb_val t _ e).trans ?_
  obtain ⟨e0, e1⟩ := index8 t
  match e with
  | 0 => show win0_8.index t 0 * 1024 + (y 0).val = (y 0).val; rw [e0]; omega
  | 1 => show win0_8.index t 1 * 512 + (y 1).val = (y 1).val; rw [e1]; omega

theorem index9 : ∀ t : Fin cfg0.N, win0_9.index t 0 = 0 ∧ win0_9.index t 1 = 0 :=
  (by decide +kernel : ∀ t : Fin grid0.N, win0_9.index t 0 = 0 ∧ win0_9.index t 1 = 0)

theorem whole_blk9 (c : Dev nD) (t : Fin cfg0.N) : (iblk m c 9 t : Vec Ideal S1x512 .f32) = V m c main_v8 := by
  funext y
  show V m c main_v8 _ = V m c main_v8 y
  congr 1
  funext e
  apply Fin.ext
  refine ((cfg0.win 9).rect_emb_val t _ e).trans ?_
  obtain ⟨e0, e1⟩ := index9 t
  match e with
  | 0 => show win0_9.index t 0 * 1 + (y 0).val = (y 0).val; rw [e0]; omega
  | 1 => show win0_9.index t 1 * 512 + (y 1).val = (y 1).val; rw [e1]; omega

theorem iblk5 (c : Dev nD) (t : Fin cfg0.N) : (iblk m c 5 t : Vec Ideal S4x120 .f32) = m ((c : Thread nD τ).loc main_arg5) :=
  (whole_blk5 m c t).trans (V_main_arg5 m c)

theorem iblk7 (c : Dev nD) (t : Fin cfg0.N) : (iblk m c 7 t : Vec Ideal S4x120 .f32) = m ((c : Thread nD τ).loc main_arg7) :=
  (whole_blk7 m c t).trans (V_main_arg7 m c)

theorem iblk8 (c : Dev nD) (t : Fin cfg0.N) (a : Fin 1024) (k : Fin 512) : (iblk m c 8 t : Vec Ideal S1024x512 .bf16) (ix2 a k) = m ((c : Thread nD τ).loc main_arg8) (ix3 0 a k) := by
  rw [whole_blk8, V_main_v7]
  exact Cert.ReferenceIdeal.Value.raw_cast _ a k

theorem iblk9 (c : Dev nD) (t : Fin cfg0.N) (k : Fin 512) : (iblk m c 9 t : Vec Ideal S1x512 .f32) (ix2 0 k) = m ((c : Thread nD τ).loc main_arg9) (ix1 k) := by
  rw [whole_blk9, V_main_v8]
  exact gain_cast _ k

theorem coord_val : ∀ t : Fin cfg0.N, (grid0.coords t 0).val = t.val :=
  (by decide +kernel : ∀ t : Fin grid0.N, (grid0.coords t 0).val = t.val)

/-- One term of the sum over heads and columns. -/
def termR (A : Vec Ideal S1x1024x120x128 .bf16) (W : Vec Ideal S512x120x128 .fp8e4m3) (Sw : Vec Ideal S4x120 .f32) (t : Fin 1024) (k : Fin 512) (q : ℕ) : EReal :=
  if hq : q < 15360 then (rcd (argRow A t ⟨q / 128, by omega⟩) ⟨q % 128, by omega⟩ * rsc (argRow A t ⟨q / 128, by omega⟩))
    * (W (ix3 k ⟨q / 128, by omega⟩ ⟨q % 128, by omega⟩) * Sw (ix2 ⟨k.val / 128, by omega⟩ ⟨q / 128, by omega⟩)) else 0

/-- The terms of one tile. -/
def tileR (A : Vec Ideal S1x1024x120x128 .bf16) (W : Vec Ideal S512x120x128 .fp8e4m3) (Sw : Vec Ideal S4x120 .f32) (n : ℕ) (t : Fin 1024) (k : Fin 512) : EReal :=
  ∑ j : Fin 1024, termR A W Sw t k (1024 * n + j.val)

theorem part_tiles (A : Vec Ideal S1x1024x120x128 .bf16) (W : Vec Ideal S512x120x128 .fp8e4m3) (Sw : Vec Ideal S4x120 .f32) (t : Fin 1024) (k : Fin 512) :
    ∑ n ∈ Finset.range 15, tileR A W Sw n t k = partR A W Sw t k := by
  have h1 : ∀ n : ℕ, ∑ b ∈ Finset.range n, tileR A W Sw b t k = ∑ q ∈ Finset.range (1024 * n), termR A W Sw t k q := by
    intro n
    induction n with
    | zero => rfl
    | succ n ih =>
      rw [Finset.sum_range_succ, ih, show 1024 * (n + 1) = 1024 * n + 1024 from by ring, Finset.sum_range_add]
      unfold tileR
      rw [← Fin.sum_univ_eq_sum_range (fun j => termR A W Sw t k (1024 * n + j)) 1024]
  rw [h1 15]
  unfold partR
  refine (Fin.sum_univ_eq_sum_range (termR A W Sw t k) 15360).symm.trans (Finset.sum_congr rfl fun j _ => ?_)
  unfold termR
  rw [dif_pos j.isLt]

theorem words_at (C : S512x1x8x128.Idx → EReal) (W : S2x120x8.Idx → EReal) (w : Fin 2) (n : ℕ) (hn : n < 15) (k : Fin 512) (h : Fin 8) (d : Fin 128) :
    htcW (natW C W w n) (ix3 ⟨k.val / 2, by omega⟩ ⟨k.val % 2, by omega⟩ ⟨128 * h.val + d.val, by omega⟩)
      = C (ix4 k 0 h d) * W (ix3 w ⟨n * 8 + h.val, by omega⟩ ⟨k.val / 128, by omega⟩) := by
  unfold htcW natW
  refine congrArg₂ (· * ·) (congrArg C ?_) (congrArg W ?_)
  · funext i
    match i with
    | 0 => exact Fin.ext (by show (8 * (k.val / 2) + 4 * (k.val % 2) + (128 * h.val + d.val) / 256) / 4 = k.val; omega)
    | 1 => rfl
    | 2 => exact Fin.ext (by show (2 * (8 * (k.val / 2) + 4 * (k.val % 2) + (128 * h.val + d.val) / 256) + (128 * h.val + d.val) / 128 % 2) % 8 = h.val; omega)
    | 3 => exact Fin.ext (by show (128 * h.val + d.val) % 128 = d.val; omega)
  · funext i
    match i with
    | 0 => rfl
    | 1 => exact Fin.ext (by show (8 * n + (2 * (8 * (k.val / 2) + 4 * (k.val % 2) + (128 * h.val + d.val) / 256) + (128 * h.val + d.val) / 128 % 2) % 8) % 120 = n * 8 + h.val; omega)
    | 2 => exact Fin.ext (by show (8 * (k.val / 2) + 4 * (k.val % 2) + (128 * h.val + d.val) / 256) / 512 = k.val / 128; omega)

/-- What a tile adds to the running sum. -/
theorem tile_at (A : Vec Ideal S1x1024x120x128 .bf16) (W : Vec Ideal S512x120x128 .fp8e4m3) (Sw : Vec Ideal S4x120 .f32) (hA : RowsOk A) (X : S1024x1x8x128.Idx → EReal) (C : S512x1x8x128.Idx → EReal) (Z : S2x120x8.Idx → EReal) (w : Fin 2) (b : Fin 15)
    (hX : ∀ a h : ℕ, tokRow X a h = argRow A ⟨a % 1024, Nat.mod_lt _ (by norm_num)⟩ ⟨b.val * 8 + h % 8, by omega⟩)
    (hC : ∀ (k : Fin 512) (h : Fin 8) (d : Fin 128), C (ix4 k 0 h d) = W (ix3 k ⟨b.val * 8 + h.val, by omega⟩ d))
    (hZ : ∀ (n : Fin 120) (g : Fin 4), Z (ix3 w n ⟨g.val, by omega⟩) = Sw (ix2 g n)) (S : S1024x512.Idx → EReal) (t : Fin 1024) (k : Fin 512) :
    accG S (htcX (natG X)) (htcW (natW C Z w b.val)) (ix2 t k) = S (ix2 t k) + tileR A W Sw b.val t k := by
  refine congrArg (S (ix2 t k) + ·) (Finset.sum_congr rfl fun j _ => ?_)
  obtain ⟨h, d, rfl⟩ : ∃ (h : Fin 8) (d : Fin 128), j = ⟨128 * h.val + d.val, by omega⟩ := ⟨⟨j.val / 128, by omega⟩, ⟨j.val % 128, by omega⟩, Fin.ext (by show j.val = 128 * (j.val / 128) + j.val % 128; omega)⟩
  refine (congrArg₂ (· * ·) (rows_at X t h d) (words_at C Z w b.val b.isLt k h d)).trans ?_
  have e1 : (1024 * b.val + (128 * h.val + d.val)) / 128 = b.val * 8 + h.val := by omega
  have e2 : (1024 * b.val + (128 * h.val + d.val)) % 128 = d.val := by omega
  unfold termR
  rw [dif_pos (show 1024 * b.val + (128 * h.val + d.val) < 15360 by omega)]
  simp only [e1, e2]
  rw [hC, hX, cd_ok (hA _ _), (row_ok (hA _ _)).2.1, hZ ⟨b.val * 8 + h.val, by omega⟩ ⟨k.val / 128, by omega⟩]
  unfold rcd rsc
  simp only [Nat.mod_eq_of_lt t.isLt, Nat.mod_eq_of_lt h.isLt]

theorem wst_at0 (x5 x7 : S4x120.Idx → EReal) (n : Fin 120) (g : Fin 4) : wstG x5 x7 (ix3 0 n ⟨g.val, by omega⟩) = x5 (ix2 g n) :=
  (dif_pos (c := (⟨g.val, by omega⟩ : Fin 8).val < 4) g.isLt).trans rfl

theorem wst_at1 (x5 x7 : S4x120.Idx → EReal) (n : Fin 120) (g : Fin 4) : wstG x5 x7 (ix3 1 n ⟨g.val, by omega⟩) = x7 (ix2 g n) :=
  (dif_pos (c := (⟨g.val, by omega⟩ : Fin 8).val < 4) g.isLt).trans rfl

/-- Every point but the last leaves the weights' scales in their scratch. -/
theorem wst_left (c : Dev nD) : ∀ (n : ℕ) (hn : n < cfg0.N), n < 15 → (outsAt0 m c n hn).2.2.2.2.2.2.2.2.2.2.1 = wstG (m ((c : Thread nD τ).loc main_arg5)) (m ((c : Thread nD τ).loc main_arg7)) := by
  have hN : cfg0.N = 16 := N_0
  intro n
  induction n with
  | zero =>
    intro hn _
    refine (congrArg (fun z => z.2.2.2.2.2.2.2.2.2.2.1) (outsAt0_A m c ⟨0, hn⟩ (by show 0 % 16 = 0; omega) (by show ¬(1 ≤ 0 % 16 ∧ 0 % 16 ≤ 14); omega) (by show ¬ 0 % 16 = 15; omega))).trans ?_
    unfold outs0_A
    dsimp only
    rw [wst_A_left, iblk5, iblk7]
  | succ n ih =>
    intro hn h
    refine (congrArg (fun z => z.2.2.2.2.2.2.2.2.2.2.1) (outsAt0_B m c ⟨n + 1, hn⟩ (by show ¬ (n + 1) % 16 = 0; omega) (by show 1 ≤ (n + 1) % 16 ∧ (n + 1) % 16 ≤ 14; omega) (by show ¬ (n + 1) % 16 = 15; omega))).trans ?_
    unfold outs0_B sout0_B_2
    dsimp only
    exact ih _ (by omega)

/-- The second weight's words a point leaves. -/
theorem words_left (c : Dev nD) (t : Fin cfg0.N) (ht : t.val < 15) :
    (outsAt0 m c t.val t.isLt).2.2.2.2.2.2.2.2.2.2.2.2 = htcW (natW (iblk m c 6 t) (wstG (m ((c : Thread nD τ).loc main_arg5)) (m ((c : Thread nD τ).loc main_arg7))) 1 t.val) := by
  have hc := coord_val t
  by_cases h0 : t.val % 16 = 0
  · rw [outsAt0_A m c t h0 (by omega) (by omega)]
    unfold outs0_A
    dsimp only
    rw [vwords_A_left (hn := by omega), iblk5, iblk7, hc]
  · rw [outsAt0_B m c t h0 (by omega) (by omega)]
    unfold outs0_B
    dsimp only
    rw [vwords_B_left (hn := by omega), wst_left m c _ _ (by omega), hc]

theorem blk_val (t : Fin cfg0.N) (ht : t.val < 15) : (blkNo t).val = t.val := by
  show min t.val 14 = t.val
  omega

/-- A tile of the first weight. -/
theorem tile0 (c : Dev nD) (hA : RowsOk (m ((c : Thread nD τ).loc main_arg0))) (t : Fin cfg0.N) (ht : t.val < 15) (S : S1024x512.Idx → EReal) (a : Fin 1024) (k : Fin 512) :
    accG S (htcX (natG (iblk m c 0 t))) (htcW (natW (iblk m c 4 t) (wstG (m ((c : Thread nD τ).loc main_arg5)) (m ((c : Thread nD τ).loc main_arg7))) 0 t.val)) (ix2 a k) = S (ix2 a k) + tileR (m ((c : Thread nD τ).loc main_arg0)) (m ((c : Thread nD τ).loc main_arg4)) (m ((c : Thread nD τ).loc main_arg5)) t.val a k := by
  have h := tile_at (m ((c : Thread nD τ).loc main_arg0)) (m ((c : Thread nD τ).loc main_arg4)) (m ((c : Thread nD τ).loc main_arg5)) hA (iblk m c 0 t) (iblk m c 4 t) (wstG (m ((c : Thread nD τ).loc main_arg5)) (m ((c : Thread nD τ).loc main_arg7))) 0 (blkNo t) (row0 m c t) (iblk4 m c t) (wst_at0 (m ((c : Thread nD τ).loc main_arg5)) (m ((c : Thread nD τ).loc main_arg7))) S a k
  rw [blk_val t ht] at h
  exact h

/-- A tile of the second weight. -/
theorem tile1 (c : Dev nD) (hA : RowsOk (m ((c : Thread nD τ).loc main_arg1))) (t : Fin cfg0.N) (ht : t.val < 15) (S : S1024x512.Idx → EReal) (a : Fin 1024) (k : Fin 512) :
    accG S (htcX (natG (iblk m c 1 t))) (htcW (natW (iblk m c 6 t) (wstG (m ((c : Thread nD τ).loc main_arg5)) (m ((c : Thread nD τ).loc main_arg7))) 1 t.val)) (ix2 a k) = S (ix2 a k) + tileR (m ((c : Thread nD τ).loc main_arg1)) (m ((c : Thread nD τ).loc main_arg6)) (m ((c : Thread nD τ).loc main_arg7)) t.val a k := by
  have h := tile_at (m ((c : Thread nD τ).loc main_arg1)) (m ((c : Thread nD τ).loc main_arg6)) (m ((c : Thread nD τ).loc main_arg7)) hA (iblk m c 1 t) (iblk m c 6 t) (wstG (m ((c : Thread nD τ).loc main_arg5)) (m ((c : Thread nD τ).loc main_arg7))) 1 (blkNo t) (row1 m c t) (iblk6 m c t) (wst_at1 (m ((c : Thread nD τ).loc main_arg5)) (m ((c : Thread nD τ).loc main_arg7))) S a k
  rw [blk_val t ht] at h
  exact h

/-- The running sum a point adds the second weight's previous tile to. -/
theorem prev_sum (c : Dev nD) (hB : RowsOk (m ((c : Thread nD τ).loc main_arg1))) (n : ℕ) (hn : n < cfg0.N) (h15 : n < 15) (S : S1024x512.Idx → EReal) (a : Fin 1024) (k : Fin 512) :
    accG S (outsAt0 m c n hn).2.2.2.2.2.2.2.2.2.2.2.1 (outsAt0 m c n hn).2.2.2.2.2.2.2.2.2.2.2.2 (ix2 a k) = S (ix2 a k) + tileR (m ((c : Thread nD τ).loc main_arg1)) (m ((c : Thread nD τ).loc main_arg6)) (m ((c : Thread nD τ).loc main_arg7)) n a k := by
  rw [rows_left m c hB ⟨n, hn⟩ h15, words_left m c ⟨n, hn⟩ h15]
  exact tile1 m c hB ⟨n, hn⟩ h15 S a k

/-- The running sum after every point but the last. -/
theorem sum_left (c : Dev nD) (hA : RowsOk (m ((c : Thread nD τ).loc main_arg0))) (hB : RowsOk (m ((c : Thread nD τ).loc main_arg1))) : ∀ (n : ℕ) (hn : n < cfg0.N), n < 15 → ∀ (a : Fin 1024) (k : Fin 512),
    (outsAt0 m c n hn).2.2.2.2.2.2.2.2.1 (ix2 a k) = (∑ b ∈ Finset.range (n + 1), tileR (m ((c : Thread nD τ).loc main_arg0)) (m ((c : Thread nD τ).loc main_arg4)) (m ((c : Thread nD τ).loc main_arg5)) b a k) + ∑ b ∈ Finset.range n, tileR (m ((c : Thread nD τ).loc main_arg1)) (m ((c : Thread nD τ).loc main_arg6)) (m ((c : Thread nD τ).loc main_arg7)) b a k := by
  have hN : cfg0.N = 16 := N_0
  intro n
  induction n with
  | zero =>
    intro hn _ a k
    have hc := coord_val ⟨0, hn⟩
    refine (congrFun (congrArg (fun z => z.2.2.2.2.2.2.2.2.1) (outsAt0_A m c ⟨0, hn⟩ (by show 0 % 16 = 0; omega) (by show ¬(1 ≤ 0 % 16 ∧ 0 % 16 ≤ 14); omega) (by show ¬ 0 % 16 = 15; omega))) (ix2 a k)).trans ?_
    unfold outs0_A
    dsimp only
    rw [sum_A_left (hn := by rw [hc]; norm_num) (hG := good0 m c ⟨0, hn⟩ hA), iblk5, iblk7, hc]
    rw [tile0 m c hA ⟨0, hn⟩ (by norm_num), Finset.sum_range_one, Finset.sum_range_zero, zero_add, add_zero]
  | succ n ih =>
    intro hn h a k
    have hc := coord_val ⟨n + 1, hn⟩
    refine (congrFun (congrArg (fun z => z.2.2.2.2.2.2.2.2.1) (outsAt0_B m c ⟨n + 1, hn⟩ (by show ¬ (n + 1) % 16 = 0; omega) (by show 1 ≤ (n + 1) % 16 ∧ (n + 1) % 16 ≤ 14; omega) (by show ¬ (n + 1) % 16 = 15; omega))) (ix2 a k)).trans ?_
    unfold outs0_B
    dsimp only
    rw [sum_B_left (hn := by rw [hc]; exact h) (hG := good0 m c ⟨n + 1, hn⟩ hA), wst_left m c _ _ (show n + 1 - 1 < 15 by omega), hc]
    rw [tile0 m c hA ⟨n + 1, hn⟩ h]
    refine (congrArg (· + _) (prev_sum m c hB n (by omega) (by omega) _ a k)).trans ?_
    refine (congrArg (fun z => z + _ + _) (ih (by omega) (by omega) a k)).trans ?_
    rw [Finset.sum_range_succ _ (n + 1), Finset.sum_range_succ (fun b => tileR (m ((c : Thread nD τ).loc main_arg1)) (m ((c : Thread nD τ).loc main_arg6)) (m ((c : Thread nD τ).loc main_arg7)) b a k) n]
    dsimp only
    rw [add_assoc, add_assoc, add_assoc]
    refine congrArg (_ + ·) ?_
    rw [← add_assoc, add_comm]

/-- The whole sum, as the last point sees it. -/
theorem whole_sum (c : Dev nD) (hA : RowsOk (m ((c : Thread nD τ).loc main_arg0))) (hB : RowsOk (m ((c : Thread nD τ).loc main_arg1))) (n : ℕ) (hn : n < cfg0.N) (h14 : n = 14) (a : Fin 1024) (k : Fin 512) :
    accG (outsAt0 m c n hn).2.2.2.2.2.2.2.2.1 (outsAt0 m c n hn).2.2.2.2.2.2.2.2.2.2.2.1 (outsAt0 m c n hn).2.2.2.2.2.2.2.2.2.2.2.2 (ix2 a k) = sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) a k := by
  rw [prev_sum m c hB n hn (by omega), sum_left m c hA hB n hn (by omega), add_assoc, ← Finset.sum_range_succ (fun b => tileR (m ((c : Thread nD τ).loc main_arg1)) (m ((c : Thread nD τ).loc main_arg6)) (m ((c : Thread nD τ).loc main_arg7)) b a k) n]
  subst h14
  exact congrArg₂ (· + ·) (part_tiles (m ((c : Thread nD τ).loc main_arg0)) (m ((c : Thread nD τ).loc main_arg4)) (m ((c : Thread nD τ).loc main_arg5)) a k) (part_tiles (m ((c : Thread nD τ).loc main_arg1)) (m ((c : Thread nD τ).loc main_arg6)) (m ((c : Thread nD τ).loc main_arg7)) a k)

theorem left10 (c : Dev nD) (hA : RowsOk (m ((c : Thread nD τ).loc main_arg0))) (hB : RowsOk (m ((c : Thread nD τ).loc main_arg1))) (t : Fin cfg0.N) (ht : t.val % 16 = 15) :
    (outsAt0 m c t.val t.isLt).1 = dcR (m ((c : Thread nD τ).loc main_arg8)) (m ((c : Thread nD τ).loc main_arg9)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  have hN : cfg0.N = 16 := N_0
  have hl := t.isLt
  rw [outsAt0_C m c t (by omega) (by omega) ht]
  unfold outs0_C
  dsimp only
  rw [dc_C]
  funext y
  obtain ⟨a, k, rfl⟩ : ∃ (a : Fin 1024) (k : Fin 512), y = ix2 a k := ⟨y 0, y 1, by funext i; match i with | 0 => rfl | 1 => rfl⟩
  refine congrArg₂ (fun f u => backOf f u k) (funext fun q => iblk8 m c t a q) (funext fun q => ?_)
  exact congrArg₂ (· * ·) (whole_sum m c hA hB _ _ (by omega) a q) (iblk9 m c t q)

theorem left11 (c : Dev nD) (hA : RowsOk (m ((c : Thread nD τ).loc main_arg0))) (hB : RowsOk (m ((c : Thread nD τ).loc main_arg1))) (t : Fin cfg0.N) (ht : t.val % 16 = 15) :
    (outsAt0 m c t.val t.isLt).2.1 = dgR (m ((c : Thread nD τ).loc main_arg8)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  have hN : cfg0.N = 16 := N_0
  have hl := t.isLt
  rw [outsAt0_C m c t (by omega) (by omega) ht]
  unfold outs0_C
  dsimp only
  rw [dg_C]
  funext y
  obtain ⟨k, rfl⟩ : ∃ (k : Fin 512), y = ix2 0 k := ⟨y 1, by funext i; match i with | 0 => exact Subsingleton.elim (α := Fin 1) _ _ | 1 => rfl⟩
  refine Finset.sum_congr rfl fun a _ => ?_
  exact congrArg₂ (· * ·) (whole_sum m c hA hB _ _ (by omega) a k) (congrArg (fun f => normOf f k) (funext fun q => iblk8 m c t a q))

theorem index10 : ∀ t : Fin cfg0.N, win0_10.index t 0 = 0 ∧ win0_10.index t 1 = 0 :=
  (by decide +kernel : ∀ t : Fin grid0.N, win0_10.index t 0 = 0 ∧ win0_10.index t 1 = 0)

theorem final10 (c : Dev nD) (hA : RowsOk (m ((c : Thread nD τ).loc main_arg0))) (hB : RowsOk (m ((c : Thread nD τ).loc main_arg1))) : (dats m 0 c).arrAt 10 cfg0.N = dcR (m ((c : Thread nD τ).loc main_arg8)) (m ((c : Thread nD τ).loc main_arg9)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  have hN : cfg0.N = 16 := N_0
  refine (dats m 0 c).arrAt_eq_of_cover 10 (dcR (m ((c : Thread nD τ).loc main_arg8)) (m ((c : Thread nD τ).loc main_arg9)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))) (fun t hf => ?_) (fun i => ?_)
  · show (cfg0.win 10).cut (grid0.coords t) ((dats m 0 c).after 10 t) = _
    rw [after0_10, left10 m c hA hB t ((flush0_10 t).mp hf)]
    funext y
    show dcR _ _ _ _ = dcR _ _ _ _
    congr 1
    funext e
    apply Fin.ext
    refine Eq.trans ?_ ((cfg0.win 10).rect_emb_val t y e).symm
    obtain ⟨e0, e1⟩ := index10 t
    match e with
    | 0 => show (y 0).val = win0_10.index t 0 * 1024 + (y 0).val; rw [e0]; omega
    | 1 => show (y 1).val = win0_10.index t 1 * 512 + (y 1).val; rw [e1]; omega
  · obtain ⟨t, ht⟩ : ∃ t : Fin cfg0.N, t.val = 15 := ⟨⟨15, by omega⟩, rfl⟩
    refine ⟨t, (flush0_10 t).mpr (by omega), ?_⟩
    show i ∈ ((View.whole main_v9_0).slice (win0_10.rect t)).set
    rw [View.set_slice_whole, Rect.mem_set_unit]
    obtain ⟨e0, e1⟩ := index10 t
    have b0 : (i 0).val < 1024 := (i 0).isLt
    have b1 : (i 1).val < 512 := (i 1).isLt
    intro a
    match a with
    | 0 => show win0_10.index t 0 * 1024 ≤ (i 0).val ∧ (i 0).val < win0_10.index t 0 * 1024 + 1024; rw [e0]; omega
    | 1 => show win0_10.index t 1 * 512 ≤ (i 1).val ∧ (i 1).val < win0_10.index t 1 * 512 + 512; rw [e1]; omega

theorem index11 : ∀ t : Fin cfg0.N, win0_11.index t 0 = 0 ∧ win0_11.index t 1 = 0 :=
  (by decide +kernel : ∀ t : Fin grid0.N, win0_11.index t 0 = 0 ∧ win0_11.index t 1 = 0)

theorem final11 (c : Dev nD) (hA : RowsOk (m ((c : Thread nD τ).loc main_arg0))) (hB : RowsOk (m ((c : Thread nD τ).loc main_arg1))) : (dats m 0 c).arrAt 11 cfg0.N = dgR (m ((c : Thread nD τ).loc main_arg8)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  have hN : cfg0.N = 16 := N_0
  refine (dats m 0 c).arrAt_eq_of_cover 11 (dgR (m ((c : Thread nD τ).loc main_arg8)) (sumR (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))) (fun t hf => ?_) (fun i => ?_)
  · show (cfg0.win 11).cut (grid0.coords t) ((dats m 0 c).after 11 t) = _
    rw [after0_11, left11 m c hA hB t ((flush0_11 t).mp hf)]
    funext y
    show dgR _ _ _ = dgR _ _ _
    congr 1
    funext e
    apply Fin.ext
    refine Eq.trans ?_ ((cfg0.win 11).rect_emb_val t y e).symm
    obtain ⟨e0, e1⟩ := index11 t
    match e with
    | 0 => show (y 0).val = win0_11.index t 0 * 1 + (y 0).val; rw [e0]; omega
    | 1 => show (y 1).val = win0_11.index t 1 * 512 + (y 1).val; rw [e1]; omega
  · obtain ⟨t, ht⟩ : ∃ t : Fin cfg0.N, t.val = 15 := ⟨⟨15, by omega⟩, rfl⟩
    refine ⟨t, (flush0_11 t).mpr (by omega), ?_⟩
    show i ∈ ((View.whole main_v9_1).slice (win0_11.rect t)).set
    rw [View.set_slice_whole, Rect.mem_set_unit]
    obtain ⟨e0, e1⟩ := index11 t
    have b0 : (i 0).val < 1 := (i 0).isLt
    have b1 : (i 1).val < 512 := (i 1).isLt
    intro a
    match a with
    | 0 => show win0_11.index t 0 * 1 ≤ (i 0).val ∧ (i 0).val < win0_11.index t 0 * 1 + 1; rw [e0]; omega
    | 1 => show win0_11.index t 1 * 512 ≤ (i 1).val ∧ (i 1).val < win0_11.index t 1 * 512 + 512; rw [e1]; omega

end Cert.KernelIdeal.Value
end
-- ==== Proof.Range.lean ====
/- What the precondition says of each row of the two gradients. -/
module

public import proofs.«01_k».proof.Pre_scalable
public import proofs.«01_k».proof.Proof.Rows
public import Idealize.ShloMosaic.Lib.Pointwise

@[expose] public section
noncomputable section

namespace Cert.Pre_scalable
open Idealize.ShloMosaic Cert.MlaQuant
open Facts

variable [Facts]

/-- The largest magnitude of a row, as the precondition computes it. -/
theorem amax_at (A : FVec Ideal S1x1024x120x128 .bf16) (t : Fin 1024) (H : Fin 120) :
    Host.reduce FloatOps.maximumf (Host.absf A) (constant S_ .bf16 0xFF80#16) reducesTo_S1x1024x120x128_S1x1024x120_d3 h_S_ (ix3 0 t H)
      = am (argRow A t H) := by
  pointwise
  rfl

theorem bit_and (a b : BitVec 1) : a &&& b = 1#1 ↔ a = 1#1 ∧ b = 1#1 := by revert a b; decide

theorem bit_or (a b : BitVec 1) : a ||| b = 1#1 ↔ a = 1#1 ∨ b = 1#1 := by revert a b; decide

theorem bit_of (p : Prop) [Decidable p] : BitVec.ofBool (decide p) = 1#1 ↔ p := by
  by_cases h : p <;> simp [h]

/-- The test of one row. -/
def test (a : FVec Ideal S1x1024x120 .bf16) : IVec S1x1024x120 1 :=
  ori (cmpf .oeq a (broadcastInDim S1x1024x120 ![] bcast_S_S1x1024x120 (constant S_ .bf16 0x0000#16)))
    (andi (cmpf .oge a (broadcastInDim S1x1024x120 ![] bcast_S_S1x1024x120 (constant S_ .bf16 0x0880#16)))
      (cmpf .ole a (broadcastInDim S1x1024x120 ![] bcast_S_S1x1024x120 (constant S_ .bf16 0x7F7F#16))))

theorem test_iff (a : FVec Ideal S1x1024x120 .bf16) (i : S1x1024x120.Idx) :
    test a i = 1#1 ↔ a i = 0 ∨ (Ideal.ofBits .bf16 0x0880#16 ≤ a i ∧ a i ≤ Ideal.ofBits .bf16 0x7F7F#16) := by
  have h0 : Ideal.ofBits .bf16 0x0000#16 = 0 := by simp [Ideal.ofBits, Ideal.ieee]
  show (BitVec.ofBool (decide (a i = Ideal.ofBits .bf16 0x0000#16)) |||
    (BitVec.ofBool (decide (Ideal.ofBits .bf16 0x0880#16 ≤ a i)) &&& BitVec.ofBool (decide (a i ≤ Ideal.ofBits .bf16 0x7F7F#16)))) = 1#1 ↔ _
  rw [bit_or, bit_and, bit_of, bit_of, bit_of, h0]

/-- Under the precondition every row of both gradients is in range. -/
theorem rows (A B : FVec Ideal S1x1024x120x128 .bf16) (x2 : FVec Ideal S1x1024x512 .fp8e4m3) (x3 : FVec Ideal S1x1024x4 .f32)
    (x4 : FVec Ideal S512x120x128 .fp8e4m3) (x5 : FVec Ideal S4x120 .f32) (x6 : FVec Ideal S512x120x128 .fp8e4m3) (x7 : FVec Ideal S4x120 .f32)
    (x8 : FVec Ideal S1x1024x512 .bf16) (x9 : FVec Ideal S512 .f32)
    (h : fn (F := Ideal) A B x2 x3 x4 x5 x6 x7 x8 x9 = fun _ => 1#1) (t : Fin 1024) (H : Fin 120) :
    RowOk (argRow A t H) ∧ RowOk (argRow B t H) := by
  have e := congrFun h (ix3 0 t H)
  have e' : test (Host.reduce FloatOps.maximumf (Host.absf A) (constant S_ .bf16 0xFF80#16) reducesTo_S1x1024x120x128_S1x1024x120_d3 h_S_) (ix3 0 t H) &&&
      test (Host.reduce FloatOps.maximumf (Host.absf B) (constant S_ .bf16 0xFF80#16) reducesTo_S1x1024x120x128_S1x1024x120_d3 h_S_) (ix3 0 t H) = 1#1 := e
  rw [bit_and, test_iff, test_iff, amax_at, amax_at] at e'
  exact e'

end Cert.Pre_scalable
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Bits.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal.Frame
public import proofs.«01_k».proof.Proof.Preserves
public import proofs.«01_k».proof.Proof.Ideal.Frame
public import proofs.«01_k».proof.Proof.Gen.Pre_scalable
public import proofs.«01_k».proof.Proof.Ideal.Results
public import proofs.«01_k».proof.Proof.Ideal.Gradients
public import proofs.«01_k».proof.Proof.Ideal.Latents
public import proofs.«01_k».proof.Proof.RefDc
public import proofs.«01_k».proof.Proof.Range
public import Idealize.ShloMosaic.Adequacy
public import Idealize.ShloMosaic.Init

@[expose] public section

noncomputable section

namespace Cert.Proof

open Idealize.ShloMosaic Idealize.SL.Sem Cert.Kernel

open Cert.ReferenceIdeal.Value (dcR dgR sumR) in
theorem dc_congr {A A' B B' : Vec Ideal Cert.ReferenceIdeal.S1x1024x120x128 .bf16} {W W' U U' : Vec Ideal Cert.ReferenceIdeal.S512x120x128 .fp8e4m3} {p p' q q' : Vec Ideal Cert.ReferenceIdeal.S4x120 .f32} {r r' : Vec Ideal Cert.ReferenceIdeal.S1x1024x512 .bf16} {g g' : Vec Ideal Cert.ReferenceIdeal.S512 .f32} (h0 : A' = A) (h1 : B' = B) (h4 : W' = W) (h5 : p' = p) (h6 : U' = U) (h7 : q' = q) (h8 : r' = r) (h9 : g' = g) :
    dcR r' g' (sumR A' B' W' p' U' q') = dcR r g (sumR A B W p U q) := by
  subst h0 h1 h4 h5 h6 h7 h8 h9
  rfl

open Cert.ReferenceIdeal.Value (dgR sumR) in
theorem dg_congr {A A' B B' : Vec Ideal Cert.ReferenceIdeal.S1x1024x120x128 .bf16} {W W' U U' : Vec Ideal Cert.ReferenceIdeal.S512x120x128 .fp8e4m3} {p p' q q' : Vec Ideal Cert.ReferenceIdeal.S4x120 .f32} {r r' : Vec Ideal Cert.ReferenceIdeal.S1x1024x512 .bf16} (h0 : A' = A) (h1 : B' = B) (h4 : W' = W) (h5 : p' = p) (h6 : U' = U) (h7 : q' = q) (h8 : r' = r) : dgR r' (sumR A' B' W' p' U' q') = dgR r (sumR A B W p U q) := by
  subst h0 h1 h4 h5 h6 h7 h8
  rfl

set_option maxHeartbeats 4000000 in
/-- Under the precondition the kernel and the reference return the same eight results. -/
theorem algebraic : algebraic_KernelIdeal_ReferenceIdeal_pre_scalable
    (hKernelIdeal := Cert.KernelIdeal.Gen.facts) (hReferenceIdeal := Cert.ReferenceIdeal.Gen.facts)
    (hPre_scalable := Cert.Pre_scalable.Gen.facts) := by
  intro m g m' g' hp hm
  have rA : ∀ c : Dev Cert.KernelIdeal.nD, Cert.KernelIdeal.Value.RowsOk (m ((c.tc : Thread Cert.KernelIdeal.nD Cert.KernelIdeal.τ).loc Cert.KernelIdeal.main_arg0)) :=
    fun c t H => (Cert.Pre_scalable.rows _ _ _ _ _ _ _ _ _ _ (hp c) t H).1
  have rB : ∀ c : Dev Cert.KernelIdeal.nD, Cert.KernelIdeal.Value.RowsOk (m ((c.tc : Thread Cert.KernelIdeal.nD Cert.KernelIdeal.τ).loc Cert.KernelIdeal.main_arg1)) :=
    fun c t H => (Cert.Pre_scalable.rows _ _ _ _ _ _ _ _ _ _ (hp c) t H).2
  refine ⟨fun c => Cert.ReferenceIdeal.Value.dcR (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (Cert.ReferenceIdeal.Value.sumR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    fun c => Cert.ReferenceIdeal.Value.dgR (m ((c.tc : Thread Cert.KernelIdeal.nD Cert.KernelIdeal.τ).loc Cert.KernelIdeal.main_arg8)) (Cert.ReferenceIdeal.Value.sumR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    fun c => Cert.ReferenceIdeal.Value.dwR (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Value.dwR (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Value.codesR (m ((c.tc : Thread Cert.KernelIdeal.nD Cert.KernelIdeal.τ).loc Cert.KernelIdeal.main_arg0)), fun c => Cert.ReferenceIdeal.Value.scalesR (m ((c.tc : Thread Cert.KernelIdeal.nD Cert.KernelIdeal.τ).loc Cert.KernelIdeal.main_arg0)),
    fun c => Cert.ReferenceIdeal.Value.codesR (m ((c.tc : Thread Cert.KernelIdeal.nD Cert.KernelIdeal.τ).loc Cert.KernelIdeal.main_arg1)), fun c => Cert.ReferenceIdeal.Value.scalesR (m ((c.tc : Thread Cert.KernelIdeal.nD Cert.KernelIdeal.τ).loc Cert.KernelIdeal.main_arg1)), ?_, ?_⟩
  · refine (θ_run _ _ _).mono (fun r h c => ?_) (Cert.KernelIdeal.Value.run_blocks m g)
    obtain ⟨h0, h1, h2, h3, h4, h5, h6, h7, ha⟩ := h c
    exact ⟨h0.trans (Cert.KernelIdeal.Value.final10 m c (rA c) (rB c)), h1.trans (Cert.KernelIdeal.Value.final11 m c (rA c) (rB c)),
      h2.trans (Cert.KernelIdeal.Value.final12 m c (rA c)),
      h3.trans (Cert.KernelIdeal.Value.final13 m c (rB c)),
      h4.trans (Cert.KernelIdeal.Value.final14 m c (rA c)),
      h5.trans (Cert.KernelIdeal.Value.final15 m c (rA c)),
      h6.trans (Cert.KernelIdeal.Value.final16 m c (rB c)),
      h7.trans (Cert.KernelIdeal.Value.final17 m c (rB c)), ha⟩
  · refine (θ_run _ _ _).mono (fun r h c => ?_) (Cert.ReferenceIdeal.Value.run_blocks m' g')
    obtain ⟨h0, h1, h2, h3, h4, h5, h6, h7, ha⟩ := h c
    obtain ⟨e0, e1, e2, e3, e4, e5, e6, e7, e8, e9⟩ := hm c
    exact ⟨h0.trans ((Cert.ReferenceIdeal.Value.final10 m' c).trans (dc_congr e0 e1 e4 e5 e6 e7 e8 e9)),
      h1.trans ((Cert.ReferenceIdeal.Value.final11 m' c).trans (dg_congr e0 e1 e4 e5 e6 e7 e8)),
      h2.trans ((Cert.ReferenceIdeal.Value.final12 m' c).trans (by rw [e0, e2, e3])),
      h3.trans ((Cert.ReferenceIdeal.Value.final13 m' c).trans (by rw [e1, e2, e3])),
      h4.trans ((Cert.ReferenceIdeal.Value.final14 m' c).trans (congrArg Cert.ReferenceIdeal.Value.codesR e0)),
      h5.trans ((Cert.ReferenceIdeal.Value.final15 m' c).trans (congrArg Cert.ReferenceIdeal.Value.scalesR e0)),
      h6.trans ((Cert.ReferenceIdeal.Value.final16 m' c).trans (congrArg Cert.ReferenceIdeal.Value.codesR e1)),
      h7.trans ((Cert.ReferenceIdeal.Value.final17 m' c).trans (congrArg Cert.ReferenceIdeal.Value.scalesR e1)), ha⟩

/-- Every run ends with the arguments unchanged, the idealization keeps the program, and the kernel's
    results are the reference's. -/
theorem claim : Cert.Claim :=
  ⟨Cert.Kernel.Gen.facts, Cert.KernelIdeal.Gen.facts, Cert.ReferenceIdeal.Gen.facts, Cert.Pre_scalable.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, preserves, algebraic⟩

end Cert.Proof

end
